-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix [hPre_finite_mix : Cert.Pre_finite_mix.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12)) (m ((c.tc : Thread Cert.MixBwdRefIdeal.nD Cert.MixBwdRefIdeal.τ).loc Cert.MixBwdRefIdeal.main_arg13)) (m ((c.tc : Thread Cert.MixBwdRefIdeal.nD Cert.MixBwdRefIdeal.τ).loc Cert.MixBwdRefIdeal.main_arg14)) (m ((c.tc : Thread Cert.MixBwdRefIdeal.nD Cert.MixBwdRefIdeal.τ).loc Cert.MixBwdRefIdeal.main_arg15))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mix_fwd [hPre_finite_mix_fwd : Cert.Pre_finite_mix_fwd.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13)) (m ((c.tc : Thread Cert.MixFwdIdeal.nD Cert.MixFwdIdeal.τ).loc Cert.MixFwdIdeal.main_arg14))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mix_fwd [hPre_finite_mix_fwd : Cert.Pre_finite_mix_fwd.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10)) (m ((c.tc : Thread Cert.MixFwdRefIdeal.nD Cert.MixFwdRefIdeal.τ).loc Cert.MixFwdRefIdeal.main_arg11)) (m ((c.tc : Thread Cert.MixFwdRefIdeal.nD Cert.MixFwdRefIdeal.τ).loc Cert.MixFwdRefIdeal.main_arg12)) (m ((c.tc : Thread Cert.MixFwdRefIdeal.nD Cert.MixFwdRefIdeal.τ).loc Cert.MixFwdRefIdeal.main_arg13)) (m ((c.tc : Thread Cert.MixFwdRefIdeal.nD Cert.MixFwdRefIdeal.τ).loc Cert.MixFwdRefIdeal.main_arg14))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12)
      ∧ r.2.mem ((c.tc : Thread Cert.MixBwd.nD Cert.MixBwd.τ).loc Cert.MixBwd.main_arg13) = m ((c.tc : Thread Cert.MixBwd.nD Cert.MixBwd.τ).loc Cert.MixBwd.main_arg13)
      ∧ r.2.mem ((c.tc : Thread Cert.MixBwd.nD Cert.MixBwd.τ).loc Cert.MixBwd.main_arg14) = m ((c.tc : Thread Cert.MixBwd.nD Cert.MixBwd.τ).loc Cert.MixBwd.main_arg14)
      ∧ r.2.mem ((c.tc : Thread Cert.MixBwd.nD Cert.MixBwd.τ).loc Cert.MixBwd.main_arg15) = m ((c.tc : Thread Cert.MixBwd.nD Cert.MixBwd.τ).loc Cert.MixBwd.main_arg15))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
      ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
      ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
      ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
      ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
      ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
      ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12)
      ∧ r.2.mem ((c.tc : Thread Cert.MixBwdRefIdeal.nD Cert.MixBwdRefIdeal.τ).loc Cert.MixBwdRefIdeal.main_arg13) = m ((c.tc : Thread Cert.MixBwdRefIdeal.nD Cert.MixBwdRefIdeal.τ).loc Cert.MixBwdRefIdeal.main_arg13)
      ∧ r.2.mem ((c.tc : Thread Cert.MixBwdRefIdeal.nD Cert.MixBwdRefIdeal.τ).loc Cert.MixBwdRefIdeal.main_arg14) = m ((c.tc : Thread Cert.MixBwdRefIdeal.nD Cert.MixBwdRefIdeal.τ).loc Cert.MixBwdRefIdeal.main_arg14)
      ∧ r.2.mem ((c.tc : Thread Cert.MixBwdRefIdeal.nD Cert.MixBwdRefIdeal.τ).loc Cert.MixBwdRefIdeal.main_arg15) = m ((c.tc : Thread Cert.MixBwdRefIdeal.nD Cert.MixBwdRefIdeal.τ).loc Cert.MixBwdRefIdeal.main_arg15))
      ∧ r.2.sem = fun _ => 0)

def quiescent_MixBwdRefIdeal_pre_finite_mix [hMixBwdRefIdeal : Cert.MixBwdRefIdeal.Facts] [hPre_finite_mix : Cert.Pre_finite_mix.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12)
      ∧ r.2.mem ((c.tc : Thread Cert.MixBwdRefIdeal.nD Cert.MixBwdRefIdeal.τ).loc Cert.MixBwdRefIdeal.main_arg13) = m ((c.tc : Thread Cert.MixBwdRefIdeal.nD Cert.MixBwdRefIdeal.τ).loc Cert.MixBwdRefIdeal.main_arg13)
      ∧ r.2.mem ((c.tc : Thread Cert.MixBwdRefIdeal.nD Cert.MixBwdRefIdeal.τ).loc Cert.MixBwdRefIdeal.main_arg14) = m ((c.tc : Thread Cert.MixBwdRefIdeal.nD Cert.MixBwdRefIdeal.τ).loc Cert.MixBwdRefIdeal.main_arg14)
      ∧ r.2.mem ((c.tc : Thread Cert.MixBwdRefIdeal.nD Cert.MixBwdRefIdeal.τ).loc Cert.MixBwdRefIdeal.main_arg15) = m ((c.tc : Thread Cert.MixBwdRefIdeal.nD Cert.MixBwdRefIdeal.τ).loc Cert.MixBwdRefIdeal.main_arg15))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13)
      ∧ r.2.mem ((c.tc : Thread Cert.MixFwd.nD Cert.MixFwd.τ).loc Cert.MixFwd.main_arg14) = m ((c.tc : Thread Cert.MixFwd.nD Cert.MixFwd.τ).loc Cert.MixFwd.main_arg14))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ r.2.sem = fun _ => 0)

def quiescent_MixFwdIdeal_pre_finite_mix_fwd [hMixFwdIdeal : Cert.MixFwdIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mix_fwd m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14))
      ∧ r.2.sem = fun _ => 0)

def quiescent_MixFwdRefIdeal_pre_finite_mix_fwd [hMixFwdRefIdeal : Cert.MixFwdRefIdeal.Facts] [hPre_finite_mix_fwd : Cert.Pre_finite_mix_fwd.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mix_fwd m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v28_0)) (v1 : (c : Dev Cert.FfnBwdIdeal.nD) → Buf (Elt Ideal) ((c.tc : Thread Cert.FfnBwdIdeal.nD Cert.FfnBwdIdeal.τ).loc Cert.FfnBwdIdeal.main_v28_1)) (v2 : (c : Dev Cert.FfnBwdIdeal.nD) → Buf (Elt Ideal) ((c.tc : Thread Cert.FfnBwdIdeal.nD Cert.FfnBwdIdeal.τ).loc Cert.FfnBwdIdeal.main_v28_2)) (v3 : (c : Dev Cert.FfnBwdIdeal.nD) → Buf (Elt Ideal) ((c.tc : Thread Cert.FfnBwdIdeal.nD Cert.FfnBwdIdeal.τ).loc Cert.FfnBwdIdeal.main_v28_3)) (v4 : (c : Dev Cert.FfnBwdIdeal.nD) → Buf (Elt Ideal) ((c.tc : Thread Cert.FfnBwdIdeal.nD Cert.FfnBwdIdeal.τ).loc Cert.FfnBwdIdeal.main_v28_4)) (v5 : (c : Dev Cert.FfnBwdIdeal.nD) → Buf (Elt Ideal) ((c.tc : Thread Cert.FfnBwdIdeal.nD Cert.FfnBwdIdeal.τ).loc Cert.FfnBwdIdeal.main_v28_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v28_0) = v0 c
          ∧ r.2.mem ((c.tc : Thread Cert.FfnBwdIdeal.nD Cert.FfnBwdIdeal.τ).loc Cert.FfnBwdIdeal.main_v28_1) = v1 c
          ∧ r.2.mem ((c.tc : Thread Cert.FfnBwdIdeal.nD Cert.FfnBwdIdeal.τ).loc Cert.FfnBwdIdeal.main_v28_2) = v2 c
          ∧ r.2.mem ((c.tc : Thread Cert.FfnBwdIdeal.nD Cert.FfnBwdIdeal.τ).loc Cert.FfnBwdIdeal.main_v28_3) = v3 c
          ∧ r.2.mem ((c.tc : Thread Cert.FfnBwdIdeal.nD Cert.FfnBwdIdeal.τ).loc Cert.FfnBwdIdeal.main_v28_4) = v4 c
          ∧ r.2.mem ((c.tc : Thread Cert.FfnBwdIdeal.nD Cert.FfnBwdIdeal.τ).loc Cert.FfnBwdIdeal.main_v28_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v54) = v0 c
          ∧ r.2.mem ((c.tc : Thread Cert.FfnBwdRefIdeal.nD Cert.FfnBwdRefIdeal.τ).loc Cert.FfnBwdRefIdeal.main_v83) = v1 c
          ∧ r.2.mem ((c.tc : Thread Cert.FfnBwdRefIdeal.nD Cert.FfnBwdRefIdeal.τ).loc Cert.FfnBwdRefIdeal.main_v84) = v2 c
          ∧ r.2.mem ((c.tc : Thread Cert.FfnBwdRefIdeal.nD Cert.FfnBwdRefIdeal.τ).loc Cert.FfnBwdRefIdeal.main_v87) = v3 c
          ∧ r.2.mem ((c.tc : Thread Cert.FfnBwdRefIdeal.nD Cert.FfnBwdRefIdeal.τ).loc Cert.FfnBwdRefIdeal.main_v88) = v4 c
          ∧ r.2.mem ((c.tc : Thread Cert.FfnBwdRefIdeal.nD Cert.FfnBwdRefIdeal.τ).loc Cert.FfnBwdRefIdeal.main_v82) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v9_0)) (v1 : (c : Dev Cert.HeadIdeal.nD) → Buf (Elt Ideal) ((c.tc : Thread Cert.HeadIdeal.nD Cert.HeadIdeal.τ).loc Cert.HeadIdeal.main_v9_1)) (v2 : (c : Dev Cert.HeadIdeal.nD) → Buf (Elt Ideal) ((c.tc : Thread Cert.HeadIdeal.nD Cert.HeadIdeal.τ).loc Cert.HeadIdeal.main_v9_2)) (v3 : (c : Dev Cert.HeadIdeal.nD) → Buf (Elt Ideal) ((c.tc : Thread Cert.HeadIdeal.nD Cert.HeadIdeal.τ).loc Cert.HeadIdeal.main_v9_3)) (v4 : (c : Dev Cert.HeadIdeal.nD) → Buf (Elt Ideal) ((c.tc : Thread Cert.HeadIdeal.nD Cert.HeadIdeal.τ).loc Cert.HeadIdeal.main_v9_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v9_0) = v0 c
          ∧ r.2.mem ((c.tc : Thread Cert.HeadIdeal.nD Cert.HeadIdeal.τ).loc Cert.HeadIdeal.main_v9_1) = v1 c
          ∧ r.2.mem ((c.tc : Thread Cert.HeadIdeal.nD Cert.HeadIdeal.τ).loc Cert.HeadIdeal.main_v9_2) = v2 c
          ∧ r.2.mem ((c.tc : Thread Cert.HeadIdeal.nD Cert.HeadIdeal.τ).loc Cert.HeadIdeal.main_v9_3) = v3 c
          ∧ r.2.mem ((c.tc : Thread Cert.HeadIdeal.nD Cert.HeadIdeal.τ).loc Cert.HeadIdeal.main_v9_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v71) = v0 c
          ∧ r.2.mem ((c.tc : Thread Cert.HeadRefIdeal.nD Cert.HeadRefIdeal.τ).loc Cert.HeadRefIdeal.main_v86) = v1 c
          ∧ r.2.mem ((c.tc : Thread Cert.HeadRefIdeal.nD Cert.HeadRefIdeal.τ).loc Cert.HeadRefIdeal.main_v88) = v2 c
          ∧ r.2.mem ((c.tc : Thread Cert.HeadRefIdeal.nD Cert.HeadRefIdeal.τ).loc Cert.HeadRefIdeal.main_v89) = v3 c
          ∧ r.2.mem ((c.tc : Thread Cert.HeadRefIdeal.nD Cert.HeadRefIdeal.τ).loc Cert.HeadRefIdeal.main_v91) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_MixBwd_MixBwdIdeal : Prop :=
  True

def algebraic_MixBwdIdeal_MixBwdRefIdeal_on_own_group_pre_finite_mix [hMixBwdIdeal : Cert.MixBwdIdeal.Facts] [hMixBwdRefIdeal : Cert.MixBwdRefIdeal.Facts] [hPre_finite_mix : Cert.Pre_finite_mix.Facts] [hOn_own_group : Cert.On_own_group.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)
      ∧ m' ((c.tc : Thread Cert.MixBwdRefIdeal.nD Cert.MixBwdRefIdeal.τ).loc Cert.MixBwdRefIdeal.main_arg11) = m ((c.tc : Thread Cert.MixBwdIdeal.nD Cert.MixBwdIdeal.τ).loc Cert.MixBwdIdeal.main_arg11)
      ∧ m' ((c.tc : Thread Cert.MixBwdRefIdeal.nD Cert.MixBwdRefIdeal.τ).loc Cert.MixBwdRefIdeal.main_arg12) = m ((c.tc : Thread Cert.MixBwdIdeal.nD Cert.MixBwdIdeal.τ).loc Cert.MixBwdIdeal.main_arg12)
      ∧ m' ((c.tc : Thread Cert.MixBwdRefIdeal.nD Cert.MixBwdRefIdeal.τ).loc Cert.MixBwdRefIdeal.main_arg13) = m ((c.tc : Thread Cert.MixBwdIdeal.nD Cert.MixBwdIdeal.τ).loc Cert.MixBwdIdeal.main_arg13)
      ∧ m' ((c.tc : Thread Cert.MixBwdRefIdeal.nD Cert.MixBwdRefIdeal.τ).loc Cert.MixBwdRefIdeal.main_arg14) = m ((c.tc : Thread Cert.MixBwdIdeal.nD Cert.MixBwdIdeal.τ).loc Cert.MixBwdIdeal.main_arg14)
      ∧ m' ((c.tc : Thread Cert.MixBwdRefIdeal.nD Cert.MixBwdRefIdeal.τ).loc Cert.MixBwdRefIdeal.main_arg15) = m ((c.tc : Thread Cert.MixBwdIdeal.nD Cert.MixBwdIdeal.τ).loc Cert.MixBwdIdeal.main_arg15)) →
    ∃ (v0 : (c : Dev Cert.MixBwdIdeal.nD) → Buf (Elt Ideal) ((c.tc : Thread Cert.MixBwdIdeal.nD Cert.MixBwdIdeal.τ).loc Cert.MixBwdIdeal.main_v97_0)) (v1 : (c : Dev Cert.MixBwdIdeal.nD) → Buf (Elt Ideal) ((c.tc : Thread Cert.MixBwdIdeal.nD Cert.MixBwdIdeal.τ).loc Cert.MixBwdIdeal.main_v97_1)) (v2 : (c : Dev Cert.MixBwdIdeal.nD) → Buf (Elt Ideal) ((c.tc : Thread Cert.MixBwdIdeal.nD Cert.MixBwdIdeal.τ).loc Cert.MixBwdIdeal.main_v97_2)) (v3 : (c : Dev Cert.MixBwdIdeal.nD) → Buf (Elt Ideal) ((c.tc : Thread Cert.MixBwdIdeal.nD Cert.MixBwdIdeal.τ).loc Cert.MixBwdIdeal.main_v97_3)) (v4 : (c : Dev Cert.MixBwdIdeal.nD) → Buf (Elt Ideal) ((c.tc : Thread Cert.MixBwdIdeal.nD Cert.MixBwdIdeal.τ).loc Cert.MixBwdIdeal.main_v97_4)) (v5 : (c : Dev Cert.MixBwdIdeal.nD) → Buf (Elt Ideal) ((c.tc : Thread Cert.MixBwdIdeal.nD Cert.MixBwdIdeal.τ).loc Cert.MixBwdIdeal.main_v97_5)) (v6 : (c : Dev Cert.MixBwdIdeal.nD) → Buf (Elt Ideal) ((c.tc : Thread Cert.MixBwdIdeal.nD Cert.MixBwdIdeal.τ).loc Cert.MixBwdIdeal.main_v97_6)) (v7 : (c : Dev Cert.MixBwdIdeal.nD) → Buf (Elt Ideal) ((c.tc : Thread Cert.MixBwdIdeal.nD Cert.MixBwdIdeal.τ).loc Cert.MixBwdIdeal.main_v97_7)) (v8 : (c : Dev Cert.MixBwdIdeal.nD) → Buf (Elt Ideal) ((c.tc : Thread Cert.MixBwdIdeal.nD Cert.MixBwdIdeal.τ).loc Cert.MixBwdIdeal.main_v97_8)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          (∀ i : (⟨2, ![8192, 2048]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).1 i = 1#1 → r.2.mem ((c.tc : Thread Cert.MixBwdIdeal.nD Cert.MixBwdIdeal.τ).loc Cert.MixBwdIdeal.main_v97_0) i = v0 c i)
          ∧ (∀ i : (⟨2, ![32, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.1 i = 1#1 → r.2.mem ((c.tc : Thread Cert.MixBwdIdeal.nD Cert.MixBwdIdeal.τ).loc Cert.MixBwdIdeal.main_v97_1) i = v1 c i)
          ∧ (∀ i : (⟨2, ![8, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.1 i = 1#1 → r.2.mem ((c.tc : Thread Cert.MixBwdIdeal.nD Cert.MixBwdIdeal.τ).loc Cert.MixBwdIdeal.main_v97_2) i = v2 c i)
          ∧ (∀ i : (⟨2, ![8, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.1 i = 1#1 → r.2.mem ((c.tc : Thread Cert.MixBwdIdeal.nD Cert.MixBwdIdeal.τ).loc Cert.MixBwdIdeal.main_v97_3) i = v3 c i)
          ∧ (∀ i : (⟨2, ![256, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.1 i = 1#1 → r.2.mem ((c.tc : Thread Cert.MixBwdIdeal.nD Cert.MixBwdIdeal.τ).loc Cert.MixBwdIdeal.main_v97_4) i = v4 c i)
          ∧ (∀ i : (⟨2, ![512, 128]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.1 i = 1#1 → r.2.mem ((c.tc : Thread Cert.MixBwdIdeal.nD Cert.MixBwdIdeal.τ).loc Cert.MixBwdIdeal.main_v97_5) i = v5 c i)
          ∧ (∀ i : (⟨2, ![128, 128]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.1 i = 1#1 → r.2.mem ((c.tc : Thread Cert.MixBwdIdeal.nD Cert.MixBwdIdeal.τ).loc Cert.MixBwdIdeal.main_v97_6) i = v6 c i)
          ∧ (∀ i : (⟨2, ![8192, 1024]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.2.1 i = 1#1 → r.2.mem ((c.tc : Thread Cert.MixBwdIdeal.nD Cert.MixBwdIdeal.τ).loc Cert.MixBwdIdeal.main_v97_7) i = v7 c i)
          ∧ (∀ i : (⟨2, ![8, 1024]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.2.2 i = 1#1 → r.2.mem ((c.tc : Thread Cert.MixBwdIdeal.nD Cert.MixBwdIdeal.τ).loc Cert.MixBwdIdeal.main_v97_8) i = v8 c i)
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
          ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
          ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
          ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
          ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          (∀ i : (⟨2, ![8192, 2048]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).1 i = 1#1 → r.2.mem ((c.tc : Thread Cert.MixBwdRefIdeal.nD Cert.MixBwdRefIdeal.τ).loc Cert.MixBwdRefIdeal.main_v430) i = v0 c i)
          ∧ (∀ i : (⟨2, ![32, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.1 i = 1#1 → r.2.mem ((c.tc : Thread Cert.MixBwdRefIdeal.nD Cert.MixBwdRefIdeal.τ).loc Cert.MixBwdRefIdeal.main_v431) i = v1 c i)
          ∧ (∀ i : (⟨2, ![8, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.1 i = 1#1 → r.2.mem ((c.tc : Thread Cert.MixBwdRefIdeal.nD Cert.MixBwdRefIdeal.τ).loc Cert.MixBwdRefIdeal.main_v427) i = v2 c i)
          ∧ (∀ i : (⟨2, ![8, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.1 i = 1#1 → r.2.mem ((c.tc : Thread Cert.MixBwdRefIdeal.nD Cert.MixBwdRefIdeal.τ).loc Cert.MixBwdRefIdeal.main_v432) i = v3 c i)
          ∧ (∀ i : (⟨2, ![256, 256]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.1 i = 1#1 → r.2.mem ((c.tc : Thread Cert.MixBwdRefIdeal.nD Cert.MixBwdRefIdeal.τ).loc Cert.MixBwdRefIdeal.main_v429) i = v4 c i)
          ∧ (∀ i : (⟨2, ![512, 128]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.1 i = 1#1 → r.2.mem ((c.tc : Thread Cert.MixBwdRefIdeal.nD Cert.MixBwdRefIdeal.τ).loc Cert.MixBwdRefIdeal.main_v433) i = v5 c i)
          ∧ (∀ i : (⟨2, ![128, 128]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.1 i = 1#1 → r.2.mem ((c.tc : Thread Cert.MixBwdRefIdeal.nD Cert.MixBwdRefIdeal.τ).loc Cert.MixBwdRefIdeal.main_v435) i = v6 c i)
          ∧ (∀ i : (⟨2, ![8192, 1024]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.2.1 i = 1#1 → r.2.mem ((c.tc : Thread Cert.MixBwdRefIdeal.nD Cert.MixBwdRefIdeal.τ).loc Cert.MixBwdRefIdeal.main_v419) i = v7 c i)
          ∧ (∀ i : (⟨2, ![8, 1024]⟩ : Shape).Idx, (Cert.On_own_group.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12)) (m ((c.tc : Thread Cert.MixBwdIdeal.nD Cert.MixBwdIdeal.τ).loc Cert.MixBwdIdeal.main_arg13)) (m ((c.tc : Thread Cert.MixBwdIdeal.nD Cert.MixBwdIdeal.τ).loc Cert.MixBwdIdeal.main_arg14)) (m ((c.tc : Thread Cert.MixBwdIdeal.nD Cert.MixBwdIdeal.τ).loc Cert.MixBwdIdeal.main_arg15))).2.2.2.2.2.2.2.2 i = 1#1 → r.2.mem ((c.tc : Thread Cert.MixBwdRefIdeal.nD Cert.MixBwdRefIdeal.τ).loc Cert.MixBwdRefIdeal.main_v437) i = v8 c i)
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10)
          ∧ r.2.mem ((c.tc : Thread Cert.MixBwdRefIdeal.nD Cert.MixBwdRefIdeal.τ).loc Cert.MixBwdRefIdeal.main_arg11) = m' ((c.tc : Thread Cert.MixBwdRefIdeal.nD Cert.MixBwdRefIdeal.τ).loc Cert.MixBwdRefIdeal.main_arg11)
          ∧ r.2.mem ((c.tc : Thread Cert.MixBwdRefIdeal.nD Cert.MixBwdRefIdeal.τ).loc Cert.MixBwdRefIdeal.main_arg12) = m' ((c.tc : Thread Cert.MixBwdRefIdeal.nD Cert.MixBwdRefIdeal.τ).loc Cert.MixBwdRefIdeal.main_arg12)
          ∧ r.2.mem ((c.tc : Thread Cert.MixBwdRefIdeal.nD Cert.MixBwdRefIdeal.τ).loc Cert.MixBwdRefIdeal.main_arg13) = m' ((c.tc : Thread Cert.MixBwdRefIdeal.nD Cert.MixBwdRefIdeal.τ).loc Cert.MixBwdRefIdeal.main_arg13)
          ∧ r.2.mem ((c.tc : Thread Cert.MixBwdRefIdeal.nD Cert.MixBwdRefIdeal.τ).loc Cert.MixBwdRefIdeal.main_arg14) = m' ((c.tc : Thread Cert.MixBwdRefIdeal.nD Cert.MixBwdRefIdeal.τ).loc Cert.MixBwdRefIdeal.main_arg14)
          ∧ r.2.mem ((c.tc : Thread Cert.MixBwdRefIdeal.nD Cert.MixBwdRefIdeal.τ).loc Cert.MixBwdRefIdeal.main_arg15) = m' ((c.tc : Thread Cert.MixBwdRefIdeal.nD Cert.MixBwdRefIdeal.τ).loc Cert.MixBwdRefIdeal.main_arg15))

def preserves_MixFwd_MixFwdIdeal : Prop :=
  True

def algebraic_MixFwdIdeal_MixFwdRefIdeal_pre_finite_mix_fwd [hMixFwdIdeal : Cert.MixFwdIdeal.Facts] [hMixFwdRefIdeal : Cert.MixFwdRefIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mix_fwd m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)
      ∧ m' ((c.tc : Thread Cert.MixFwdRefIdeal.nD Cert.MixFwdRefIdeal.τ).loc Cert.MixFwdRefIdeal.main_arg13) = m ((c.tc : Thread Cert.MixFwdIdeal.nD Cert.MixFwdIdeal.τ).loc Cert.MixFwdIdeal.main_arg13)
      ∧ m' ((c.tc : Thread Cert.MixFwdRefIdeal.nD Cert.MixFwdRefIdeal.τ).loc Cert.MixFwdRefIdeal.main_arg14) = m ((c.tc : Thread Cert.MixFwdIdeal.nD Cert.MixFwdIdeal.τ).loc Cert.MixFwdIdeal.main_arg14)) →
    ∃ (v0 : (c : Dev Cert.MixFwdIdeal.nD) → Buf (Elt Ideal) ((c.tc : Thread Cert.MixFwdIdeal.nD Cert.MixFwdIdeal.τ).loc Cert.MixFwdIdeal.main_v45_0)) (v1 : (c : Dev Cert.MixFwdIdeal.nD) → Buf (Elt Ideal) ((c.tc : Thread Cert.MixFwdIdeal.nD Cert.MixFwdIdeal.τ).loc Cert.MixFwdIdeal.main_v45_1)) (v2 : (c : Dev Cert.MixFwdIdeal.nD) → Buf (Elt Ideal) ((c.tc : Thread Cert.MixFwdIdeal.nD Cert.MixFwdIdeal.τ).loc Cert.MixFwdIdeal.main_v45_2)) (v3 : (c : Dev Cert.MixFwdIdeal.nD) → Buf (Elt Ideal) ((c.tc : Thread Cert.MixFwdIdeal.nD Cert.MixFwdIdeal.τ).loc Cert.MixFwdIdeal.main_v45_3)) (v4 : (c : Dev Cert.MixFwdIdeal.nD) → Buf (Elt Ideal) ((c.tc : Thread Cert.MixFwdIdeal.nD Cert.MixFwdIdeal.τ).loc Cert.MixFwdIdeal.main_v45_4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v45_0) = v0 c
          ∧ r.2.mem ((c.tc : Thread Cert.MixFwdIdeal.nD Cert.MixFwdIdeal.τ).loc Cert.MixFwdIdeal.main_v45_1) = v1 c
          ∧ r.2.mem ((c.tc : Thread Cert.MixFwdIdeal.nD Cert.MixFwdIdeal.τ).loc Cert.MixFwdIdeal.main_v45_2) = v2 c
          ∧ r.2.mem ((c.tc : Thread Cert.MixFwdIdeal.nD Cert.MixFwdIdeal.τ).loc Cert.MixFwdIdeal.main_v45_3) = v3 c
          ∧ r.2.mem ((c.tc : Thread Cert.MixFwdIdeal.nD Cert.MixFwdIdeal.τ).loc Cert.MixFwdIdeal.main_v45_4) = v4 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
          ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v194) = v0 c
          ∧ r.2.mem ((c.tc : Thread Cert.MixFwdRefIdeal.nD Cert.MixFwdRefIdeal.τ).loc Cert.MixFwdRefIdeal.main_v195) = v1 c
          ∧ r.2.mem ((c.tc : Thread Cert.MixFwdRefIdeal.nD Cert.MixFwdRefIdeal.τ).loc Cert.MixFwdRefIdeal.main_v196) = v2 c
          ∧ r.2.mem ((c.tc : Thread Cert.MixFwdRefIdeal.nD Cert.MixFwdRefIdeal.τ).loc Cert.MixFwdRefIdeal.main_v197) = v3 c
          ∧ r.2.mem ((c.tc : Thread Cert.MixFwdRefIdeal.nD Cert.MixFwdRefIdeal.τ).loc Cert.MixFwdRefIdeal.main_v51) = v4 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12)
          ∧ r.2.mem ((c.tc : Thread Cert.MixFwdRefIdeal.nD Cert.MixFwdRefIdeal.τ).loc Cert.MixFwdRefIdeal.main_arg13) = m' ((c.tc : Thread Cert.MixFwdRefIdeal.nD Cert.MixFwdRefIdeal.τ).loc Cert.MixFwdRefIdeal.main_arg13)
          ∧ r.2.mem ((c.tc : Thread Cert.MixFwdRefIdeal.nD Cert.MixFwdRefIdeal.τ).loc Cert.MixFwdRefIdeal.main_arg14) = m' ((c.tc : Thread Cert.MixFwdRefIdeal.nD Cert.MixFwdRefIdeal.τ).loc Cert.MixFwdRefIdeal.main_arg14))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v35) = v1 c
          ∧ r.2.mem ((c.tc : Thread Cert.FfnFwdRefIdeal.nD Cert.FfnFwdRefIdeal.τ).loc Cert.FfnFwdRefIdeal.main_v37) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v12) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def Claim : Prop :=
  ∃ (hFfnBwd : Cert.FfnBwd.Facts) (hFfnBwdIdeal : Cert.FfnBwdIdeal.Facts) (hFfnBwdRefIdeal : Cert.FfnBwdRefIdeal.Facts) (hHead : Cert.Head.Facts) (hHeadIdeal : Cert.HeadIdeal.Facts) (hHeadRefIdeal : Cert.HeadRefIdeal.Facts) (hMixBwd : Cert.MixBwd.Facts) (hMixBwdIdeal : Cert.MixBwdIdeal.Facts) (hMixBwdRefIdeal : Cert.MixBwdRefIdeal.Facts) (hMixFwd : Cert.MixFwd.Facts) (hMixFwdIdeal : Cert.MixFwdIdeal.Facts) (hMixFwdRefIdeal : Cert.MixFwdRefIdeal.Facts) (hFfnFwd : Cert.FfnFwd.Facts) (hFfnFwdIdeal : Cert.FfnFwdIdeal.Facts) (hFfnFwdRefIdeal : Cert.FfnFwdRefIdeal.Facts) (hWgrad : Cert.Wgrad.Facts) (hWgradIdeal : Cert.WgradIdeal.Facts) (hWgradRefIdeal : Cert.WgradRefIdeal.Facts) (hAdam : Cert.Adam.Facts) (hAdamIdeal : Cert.AdamIdeal.Facts) (hAdamRefIdeal : Cert.AdamRefIdeal.Facts) (hSums : Cert.Sums.Facts) (hSumsIdeal : Cert.SumsIdeal.Facts) (hSumsRefIdeal : Cert.SumsRefIdeal.Facts) (hPre_finite_ffn : Cert.Pre_finite_ffn.Facts) (hPre_finite_head : Cert.Pre_finite_head.Facts) (hPre_finite_mix : Cert.Pre_finite_mix.Facts) (hPre_finite_mix_fwd : Cert.Pre_finite_mix_fwd.Facts) (hOn_own_group : Cert.On_own_group.Facts),
    quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixBwdRefIdeal (hMixBwdRefIdeal := hMixBwdRefIdeal)
    ∧ quiescent_MixBwdRefIdeal_pre_finite_mix (hMixBwdRefIdeal := hMixBwdRefIdeal) (hPre_finite_mix := hPre_finite_mix)
    ∧ quiescent_MixFwd (hMixFwd := hMixFwd)
    ∧ quiescent_MixFwdIdeal (hMixFwdIdeal := hMixFwdIdeal)
    ∧ quiescent_MixFwdIdeal_pre_finite_mix_fwd (hMixFwdIdeal := hMixFwdIdeal) (hPre_finite_mix_fwd := hPre_finite_mix_fwd)
    ∧ quiescent_MixFwdRefIdeal (hMixFwdRefIdeal := hMixFwdRefIdeal)
    ∧ quiescent_MixFwdRefIdeal_pre_finite_mix_fwd (hMixFwdRefIdeal := hMixFwdRefIdeal) (hPre_finite_mix_fwd := hPre_finite_mix_fwd)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sums (hSums := hSums)
    ∧ quiescent_SumsIdeal (hSumsIdeal := hSumsIdeal)
    ∧ quiescent_SumsRefIdeal (hSumsRefIdeal := hSumsRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_MixBwd_MixBwdIdeal
    ∧ algebraic_MixBwdIdeal_MixBwdRefIdeal_on_own_group_pre_finite_mix (hMixBwdIdeal := hMixBwdIdeal) (hMixBwdRefIdeal := hMixBwdRefIdeal) (hPre_finite_mix := hPre_finite_mix) (hOn_own_group := hOn_own_group)
    ∧ preserves_MixFwd_MixFwdIdeal
    ∧ algebraic_MixFwdIdeal_MixFwdRefIdeal_pre_finite_mix_fwd (hMixFwdIdeal := hMixFwdIdeal) (hMixFwdRefIdeal := hMixFwdRefIdeal) (hPre_finite_mix_fwd := hPre_finite_mix_fwd)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Wgrad_WgradIdeal
    ∧ algebraic_WgradIdeal_WgradRefIdeal (hWgradIdeal := hWgradIdeal) (hWgradRefIdeal := hWgradRefIdeal)
    ∧ preserves_Adam_AdamIdeal
    ∧ algebraic_AdamIdeal_AdamRefIdeal (hAdamIdeal := hAdamIdeal) (hAdamRefIdeal := hAdamRefIdeal)
    ∧ preserves_Sums_SumsIdeal
    ∧ algebraic_SumsIdeal_SumsRefIdeal (hSumsIdeal := hSumsIdeal) (hSumsRefIdeal := hSumsRefIdeal)
-- ==== On_own_group.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S8192x2048 : Shape := ⟨2, ![8192, 2048]⟩
abbrev S32x256 : Shape := ⟨2, ![32, 256]⟩
abbrev S8x256 : Shape := ⟨2, ![8, 256]⟩
abbrev S256x1 : Shape := ⟨2, ![256, 1]⟩
abbrev S1x256 : Shape := ⟨2, ![1, 256]⟩
abbrev S256x256 : Shape := ⟨2, ![256, 256]⟩
abbrev S512x128 : Shape := ⟨2, ![512, 128]⟩
abbrev S128x128 : Shape := ⟨2, ![128, 128]⟩
abbrev S8x1024 : Shape := ⟨2, ![8, 1024]⟩

class Facts : Prop where
  bcast_S_S256 : S_.BroadcastsInDim S256 (![] : Fin 0 → Fin S256.rank)
  bcast_S_S8192x2048 : S_.BroadcastsInDim S8192x2048 (![] : Fin 0 → Fin S8192x2048.rank)
  bcast_S_S32x256 : S_.BroadcastsInDim S32x256 (![] : Fin 0 → Fin S32x256.rank)
  bcast_S_S8x256 : S_.BroadcastsInDim S8x256 (![] : Fin 0 → Fin S8x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S512x128 : S_.BroadcastsInDim S512x128 (![] : Fin 0 → Fin S512x128.rank)
  bcast_S_S128x128 : S_.BroadcastsInDim S128x128 (![] : Fin 0 → Fin S128x128.rank)
  bcast_S_S8192x1024 : S_.BroadcastsInDim S8192x1024 (![] : Fin 0 → Fin S8192x1024.rank)
  bcast_S_S8x1024 : S_.BroadcastsInDim S8x1024 (![] : Fin 0 → Fin S8x1024.rank)

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn {F : FTy → Type} [FloatOps F] (main_arg0 : FVec F S8192x1024 .f32) (main_arg1 : FVec F S1024 .f32) (main_arg2 : FVec F S1024x2048 .f32) (main_arg3 : FVec F S31x256 .f32) (main_arg4 : FVec F S256 .f32) (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) : IVec S8192x2048 1 × IVec S32x256 1 × IVec S8x256 1 × IVec S8x256 1 × IVec S256x256 1 × IVec S512x128 1 × IVec S128x128 1 × IVec S8192x1024 1 × IVec S8x1024 1 :=
  let main_v0 : IVec S256 32 := iotaInDim S256 32 0
  let main_c : IVec S_ 32 := constantI S_ 32 64#32
  let main_v1 : IVec S256 32 := fn_floor_divide (F := F) main_v0 main_c
  let main_c_0 : IVec S_ 1 := constantI S_ 1 1#1
  let main_v2 : IVec S8192x2048 1 := broadcastInDim S8192x2048 ![] bcast_S_S8192x2048 main_c_0
  let main_c_1 : IVec S_ 1 := constantI S_ 1 1#1
  let main_v3 : IVec S32x256 1 := broadcastInDim S32x256 ![] bcast_S_S32x256 main_c_1
  let main_c_2 : IVec S_ 1 := constantI S_ 1 1#1
  let main_v4 : IVec S8x256 1 := broadcastInDim S8x256 ![] bcast_S_S8x256 main_c_2
  let main_c_3 : IVec S_ 1 := constantI S_ 1 1#1
  let main_v5 : IVec S8x256 1 := broadcastInDim S8x256 ![] bcast_S_S8x256 main_c_3
  let main_v6 : IVec S256x1 32 := broadcastInDim S256x1 ![0] bcast_S256_S256x1_0 main_v1
  let main_v7 : IVec S1x256 32 := broadcastInDim S1x256 ![1] bcast_S256_S1x256_1 main_v1
  let main_v8 : IVec S256x256 32 := broadcastInDim S256x256 ![0, 1] bcast_S256x1_S256x256_0_1 main_v6
  let main_v9 : IVec S256x256 32 := broadcastInDim S256x256 ![0, 1] bcast_S1x256_S256x256_0_1 main_v7
  let main_v10 : IVec S256x256 1 := cmpi .eq main_v8 main_v9
  let main_c_4 : IVec S_ 1 := constantI S_ 1 1#1
  let main_v11 : IVec S512x128 1 := broadcastInDim S512x128 ![] bcast_S_S512x128 main_c_4
  let main_c_5 : IVec S_ 1 := constantI S_ 1 1#1
  let main_v12 : IVec S128x128 1 := broadcastInDim S128x128 ![] bcast_S_S128x128 main_c_5
  let main_c_6 : IVec S_ 1 := constantI S_ 1 1#1
  let main_v13 : IVec S8192x1024 1 := broadcastInDim S8192x1024 ![] bcast_S_S8192x1024 main_c_6
  let main_c_7 : IVec S_ 1 := constantI S_ 1 1#1
  let main_v14 : IVec S8x1024 1 := broadcastInDim S8x1024 ![] bcast_S_S8x1024 main_c_7
  (main_v2, main_v3, main_v4, main_v5, main_v10, main_v11, main_v12, main_v13, main_v14)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S8192x1024 .f32) (main_v27 : IVec S_ 1) (main_v32 : IVec S2816x1024 1) : IVec S_ 1 :=
  let main_c_13 : IVec S_ 1 := constantI S_ 1 1#1
  let main_v33 : IVec S_ 1 := (fun x v => Host.reduce IntOp.andi x v reducesTo_S2816x1024_S_d0_1 h_S_) main_v32 main_c_13
  let main_v34 : IVec S_ 1 := andi main_v27 main_v33
  let main_cst_14 : FVec F S_ .f32 := constant S_ .f32 0xFF800000#32
  let main_v35 : FVec F S8192x1024 .f32 := broadcastInDim S8192x1024 ![] bcast_S_S8192x1024 main_cst_14
  let main_v36 : IVec S8192x1024 1 := cmpf .ogt main_arg5 main_v35
  let main_cst_15 : FVec F S_ .f32 := constant S_ .f32 0x7F800000#32
  let main_v37 : FVec F S8192x1024 .f32 := broadcastInDim S8192x1024 ![] bcast_S_S8192x1024 main_cst_15
  let main_v38 : IVec S8192x1024 1 := cmpf .olt main_arg5 main_v37
  let main_v39 : IVec S8192x1024 1 := andi main_v36 main_v38
  let main_c_16 : IVec S_ 1 := constantI S_ 1 1#1
  let main_v40 : IVec S_ 1 := (fun x v => Host.reduce IntOp.andi x v reducesTo_S8192x1024_S_d0_1 h_S_) main_v39 main_c_16
  let main_v41 : IVec S_ 1 := andi main_v34 main_v40
  main_v41

def fn_part1 {F : FTy → Type} [FloatOps F] (main_arg2 : FVec F S1024x2816 .f32) (main_arg3 : FVec F S1024x2816 .f32) (main_arg4 : FVec F S2816x1024 .f32) (main_arg5 : FVec F S8192x1024 .f32) (main_v13 : IVec S_ 1) (main_v15 : IVec S1024x2816 1) : IVec S_ 1 :=
  let main_cst_6 : FVec F S_ .f32 := constant S_ .f32 0x7F800000#32
  let main_v16 : FVec F S1024x2816 .f32 := broadcastInDim S1024x2816 ![] bcast_S_S1024x2816 main_cst_6
  let main_v17 : IVec S1024x2816 1 := cmpf .olt main_arg2 main_v16
  let main_v18 : IVec S1024x2816 1 := andi main_v15 main_v17
  let main_c_7 : IVec S_ 1 := constantI S_ 1 1#1
  let main_v19 : IVec S_ 1 := (fun x v => Host.reduce IntOp.andi x v reducesTo_S1024x2816_S_d0_1 h_S_) main_v18 main_c_7
  let main_v20 : IVec S_ 1 := andi main_v13 main_v19
  let main_cst_8 : FVec F S_ .f32 := constant S_ .f32 0xFF800000#32
  let main_v21 : FVec F S1024x2816 .f32 := broadcastInDim S1024x2816 ![] bcast_S_S1024x2816 main_cst_8
  let main_v22 : IVec S1024x2816 1 := cmpf .ogt main_arg3 main_v21
  let main_cst_9 : FVec F S_ .f32 := constant S_ .f32 0x7F800000#32
  let main_v23 : FVec F S1024x2816 .f32 := broadcastInDim S1024x2816 ![] bcast_S_S1024x2816 main_cst_9
  let main_v24 : IVec S1024x2816 1 := cmpf .olt main_arg3 main_v23
  let main_v25 : IVec S1024x2816 1 := andi main_v22 main_v24
  let main_c_10 : IVec S_ 1 := constantI S_ 1 1#1
  let main_v26 : IVec S_ 1 := (fun x v => Host.reduce IntOp.andi x v reducesTo_S1024x2816_S_d0_1 h_S_) main_v25 main_c_10
  let main_v27 : IVec S_ 1 := andi main_v20 main_v26
  let main_cst_11 : FVec F S_ .f32 := constant S_ .f32 0xFF800000#32
  let main_v28 : FVec F S2816x1024 .f32 := broadcastInDim S2816x1024 ![] bcast_S_S2816x1024 main_cst_11
  let main_v29 : IVec S2816x1024 1 := cmpf .ogt main_arg4 main_v28
  let main_cst_12 : FVec F S_ .f32 := constant S_ .f32 0x7F800000#32
  let main_v30 : FVec F S2816x1024 .f32 := broadcastInDim S2816x1024 ![] bcast_S_S2816x1024 main_cst_12
  let main_v31 : IVec S2816x1024 1 := cmpf .olt main_arg4 main_v30
  let main_v32 : IVec S2816x1024 1 := andi main_v29 main_v31
  fn_part2 (F := F) main_arg5 main_v27 main_v32

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_cst_3 : FVec F S_ .f32 := constant S_ .f32 0x7F800000#32
  let main_v9 : FVec F S1024 .f32 := broadcastInDim S1024 ![] bcast_S_S1024 main_cst_3
  let main_v10 : IVec S1024 1 := cmpf .olt main_arg1 main_v9
  let main_v11 : IVec S1024 1 := andi main_v8 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v6 main_v12
  let main_cst_5 : FVec F S_ .f32 := constant S_ .f32 0xFF800000#32
  let main_v14 : FVec F S1024x2816 .f32 := broadcastInDim S1024x2816 ![] bcast_S_S1024x2816 main_cst_5
  let main_v15 : IVec S1024x2816 1 := cmpf .ogt main_arg2 main_v14
  fn_part1 (F := F) main_arg2 main_arg3 main_arg4 main_arg5 main_v13 main_v15
-- ==== Pre_finite_head.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S8192x1024 .f32) (main_arg6 : FVec F S1024 .f32) (main_v27 : IVec S_ 1) (main_v32 : IVec S2816x1024 1) : IVec S_ 1 :=
  let main_c_13 : IVec S_ 1 := constantI S_ 1 1#1
  let main_v33 : IVec S_ 1 := (fun x v => Host.reduce IntOp.andi x v reducesTo_S2816x1024_S_d0_1 h_S_) main_v32 main_c_13
  let main_v34 : IVec S_ 1 := andi main_v27 main_v33
  let main_cst_14 : FVec F S_ .f32 := constant S_ .f32 0xFF800000#32
  let main_v35 : FVec F S8192x1024 .f32 := broadcastInDim S8192x1024 ![] bcast_S_S8192x1024 main_cst_14
  let main_v36 : IVec S8192x1024 1 := cmpf .ogt main_arg5 main_v35
  let main_cst_15 : FVec F S_ .f32 := constant S_ .f32 0x7F800000#32
  let main_v37 : FVec F S8192x1024 .f32 := broadcastInDim S8192x1024 ![] bcast_S_S8192x1024 main_cst_15
  let main_v38 : IVec S8192x1024 1 := cmpf .olt main_arg5 main_v37
  let main_v39 : IVec S8192x1024 1 := andi main_v36 main_v38
  let main_c_16 : IVec S_ 1 := constantI S_ 1 1#1
  let main_v40 : IVec S_ 1 := (fun x v => Host.reduce IntOp.andi x v reducesTo_S8192x1024_S_d0_1 h_S_) main_v39 main_c_16
  let main_v41 : IVec S_ 1 := andi main_v34 main_v40
  let main_cst_17 : FVec F S_ .f32 := constant S_ .f32 0xFF800000#32
  let main_v42 : FVec F S1024 .f32 := broadcastInDim S1024 ![] bcast_S_S1024 main_cst_17
  let main_v43 : IVec S1024 1 := cmpf .ogt main_arg6 main_v42
  let main_cst_18 : FVec F S_ .f32 := constant S_ .f32 0x7F800000#32
  let main_v44 : FVec F S1024 .f32 := broadcastInDim S1024 ![] bcast_S_S1024 main_cst_18
  let main_v45 : IVec S1024 1 := cmpf .olt main_arg6 main_v44
  let main_v46 : IVec S1024 1 := andi main_v43 main_v45
  let main_c_19 : IVec S_ 1 := constantI S_ 1 1#1
  let main_v47 : IVec S_ 1 := (fun x v => Host.reduce IntOp.andi x v reducesTo_S1024_S_d0 h_S_) main_v46 main_c_19
  let main_v48 : IVec S_ 1 := andi main_v41 main_v47
  main_v48

def fn_part1 {F : FTy → Type} [FloatOps F] (main_arg2 : FVec F S1024x2816 .f32) (main_arg3 : FVec F S1024x2816 .f32) (main_arg4 : FVec F S2816x1024 .f32) (main_arg5 : FVec F S8192x1024 .f32) (main_arg6 : FVec F S1024 .f32) (main_v13 : IVec S_ 1) (main_v15 : IVec S1024x2816 1) : IVec S_ 1 :=
  let main_cst_6 : FVec F S_ .f32 := constant S_ .f32 0x7F800000#32
  let main_v16 : FVec F S1024x2816 .f32 := broadcastInDim S1024x2816 ![] bcast_S_S1024x2816 main_cst_6
  let main_v17 : IVec S1024x2816 1 := cmpf .olt main_arg2 main_v16
  let main_v18 : IVec S1024x2816 1 := andi main_v15 main_v17
  let main_c_7 : IVec S_ 1 := constantI S_ 1 1#1
  let main_v19 : IVec S_ 1 := (fun x v => Host.reduce IntOp.andi x v reducesTo_S1024x2816_S_d0_1 h_S_) main_v18 main_c_7
  let main_v20 : IVec S_ 1 := andi main_v13 main_v19
  let main_cst_8 : FVec F S_ .f32 := constant S_ .f32 0xFF800000#32
  let main_v21 : FVec F S1024x2816 .f32 := broadcastInDim S1024x2816 ![] bcast_S_S1024x2816 main_cst_8
  let main_v22 : IVec S1024x2816 1 := cmpf .ogt main_arg3 main_v21
  let main_cst_9 : FVec F S_ .f32 := constant S_ .f32 0x7F800000#32
  let main_v23 : FVec F S1024x2816 .f32 := broadcastInDim S1024x2816 ![] bcast_S_S1024x2816 main_cst_9
  let main_v24 : IVec S1024x2816 1 := cmpf .olt main_arg3 main_v23
  let main_v25 : IVec S1024x2816 1 := andi main_v22 main_v24
  let main_c_10 : IVec S_ 1 := constantI S_ 1 1#1
  let main_v26 : IVec S_ 1 := (fun x v => Host.reduce IntOp.andi x v reducesTo_S1024x2816_S_d0_1 h_S_) main_v25 main_c_10
  let main_v27 : IVec S_ 1 := andi main_v20 main_v26
  let main_cst_11 : FVec F S_ .f32 := constant S_ .f32 0xFF800000#32
  let main_v28 : FVec F S2816x1024 .f32 := broadcastInDim S2816x1024 ![] bcast_S_S2816x1024 main_cst_11
  let main_v29 : IVec S2816x1024 1 := cmpf .ogt main_arg4 main_v28
  let main_cst_12 : FVec F S_ .f32 := constant S_ .f32 0x7F800000#32
  let main_v30 : FVec F S2816x1024 .f32 := broadcastInDim S2816x1024 ![] bcast_S_S2816x1024 main_cst_12
  let main_v31 : IVec S2816x1024 1 := cmpf .olt main_arg4 main_v30
  let main_v32 : IVec S2816x1024 1 := andi main_v29 main_v31
  fn_part2 (F := F) main_arg5 main_arg6 main_v27 main_v32

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) (main_arg6 : FVec F S1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_cst_3 : FVec F S_ .f32 := constant S_ .f32 0x7F800000#32
  let main_v9 : FVec F S1024 .f32 := broadcastInDim S1024 ![] bcast_S_S1024 main_cst_3
  let main_v10 : IVec S1024 1 := cmpf .olt main_arg1 main_v9
  let main_v11 : IVec S1024 1 := andi main_v8 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v6 main_v12
  let main_cst_5 : FVec F S_ .f32 := constant S_ .f32 0xFF800000#32
  let main_v14 : FVec F S1024x2816 .f32 := broadcastInDim S1024x2816 ![] bcast_S_S1024x2816 main_cst_5
  let main_v15 : IVec S1024x2816 1 := cmpf .ogt main_arg2 main_v14
  fn_part1 (F := F) main_arg2 main_arg3 main_arg4 main_arg5 main_arg6 main_v13 main_v15
-- ==== Pre_finite_mix.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S31x256 : S_.BroadcastsInDim S31x256 (![] : Fin 0 → Fin S31x256.rank)
  reducesTo_S31x256_S_d0_1 : S31x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_arg14 : FVec F S1024x1024 .f32) (main_arg15 : FVec F S8192x1024 .f32) (main_v97 : IVec S_ 1) (main_v99 : IVec S1024x1024 1) : IVec S_ 1 :=
  let main_cst_42 : FVec F S_ .f32 := constant S_ .f32 0x7F800000#32
  let main_v100 : FVec F S1024x1024 .f32 := broadcastInDim S1024x1024 ![] bcast_S_S1024x1024 main_cst_42
  let main_v101 : IVec S1024x1024 1 := cmpf .olt main_arg14 main_v100
  let main_v102 : IVec S1024x1024 1 := andi main_v99 main_v101
  let main_c_43 : IVec S_ 1 := constantI S_ 1 1#1
  let main_v103 : IVec S_ 1 := (fun x v => Host.reduce IntOp.andi x v reducesTo_S1024x1024_S_d0_1 h_S_) main_v102 main_c_43
  let main_v104 : IVec S_ 1 := andi main_v97 main_v103
  let main_cst_44 : FVec F S_ .f32 := constant S_ .f32 0xFF800000#32
  let main_v105 : FVec F S8192x1024 .f32 := broadcastInDim S8192x1024 ![] bcast_S_S8192x1024 main_cst_44
  let main_v106 : IVec S8192x1024 1 := cmpf .ogt main_arg15 main_v105
  let main_cst_45 : FVec F S_ .f32 := constant S_ .f32 0x7F800000#32
  let main_v107 : FVec F S8192x1024 .f32 := broadcastInDim S8192x1024 ![] bcast_S_S8192x1024 main_cst_45
  let main_v108 : IVec S8192x1024 1 := cmpf .olt main_arg15 main_v107
  let main_v109 : IVec S8192x1024 1 := andi main_v106 main_v108
  let main_c_46 : IVec S_ 1 := constantI S_ 1 1#1
  let main_v110 : IVec S_ 1 := (fun x v => Host.reduce IntOp.andi x v reducesTo_S8192x1024_S_d0_1 h_S_) main_v109 main_c_46
  let main_v111 : IVec S_ 1 := andi main_v104 main_v110
  main_v111

def fn_part5 {F : FTy → Type} [FloatOps F] (main_arg12 : FVec F S4x128x128 .f32) (main_arg13 : FVec F S4x128 .f32) (main_arg14 : FVec F S1024x1024 .f32) (main_arg15 : FVec F S8192x1024 .f32) (main_v76 : IVec S_ 1) (main_v82 : IVec S_ 1) : IVec S_ 1 :=
  let main_v83 : IVec S_ 1 := andi main_v76 main_v82
  let main_cst_35 : FVec F S_ .f32 := constant S_ .f32 0xFF800000#32
  let main_v84 : FVec F S4x128x128 .f32 := broadcastInDim S4x128x128 ![] bcast_S_S4x128x128 main_cst_35
  let main_v85 : IVec S4x128x128 1 := cmpf .ogt main_arg12 main_v84
  let main_cst_36 : FVec F S_ .f32 := constant S_ .f32 0x7F800000#32
  let main_v86 : FVec F S4x128x128 .f32 := broadcastInDim S4x128x128 ![] bcast_S_S4x128x128 main_cst_36
  let main_v87 : IVec S4x128x128 1 := cmpf .olt main_arg12 main_v86
  let main_v88 : IVec S4x128x128 1 := andi main_v85 main_v87
  let main_c_37 : IVec S_ 1 := constantI S_ 1 1#1
  let main_v89 : IVec S_ 1 := (fun x v => Host.reduce IntOp.andi x v reducesTo_S4x128x128_S_d0_1_2 h_S_) main_v88 main_c_37
  let main_v90 : IVec S_ 1 := andi main_v83 main_v89
  let main_cst_38 : FVec F S_ .f32 := constant S_ .f32 0xFF800000#32
  let main_v91 : FVec F S4x128 .f32 := broadcastInDim S4x128 ![] bcast_S_S4x128 main_cst_38
  let main_v92 : IVec S4x128 1 := cmpf .ogt main_arg13 main_v91
  let main_cst_39 : FVec F S_ .f32 := constant S_ .f32 0x7F800000#32
  let main_v93 : FVec F S4x128 .f32 := broadcastInDim S4x128 ![] bcast_S_S4x128 main_cst_39
  let main_v94 : IVec S4x128 1 := cmpf .olt main_arg13 main_v93
  let main_v95 : IVec S4x128 1 := andi main_v92 main_v94
  let main_c_40 : IVec S_ 1 := constantI S_ 1 1#1
  let main_v96 : IVec S_ 1 := (fun x v => Host.reduce IntOp.andi x v reducesTo_S4x128_S_d0_1 h_S_) main_v95 main_c_40
  let main_v97 : IVec S_ 1 := andi main_v90 main_v96
  let main_cst_41 : FVec F S_ .f32 := constant S_ .f32 0xFF800000#32
  let main_v98 : FVec F S1024x1024 .f32 := broadcastInDim S1024x1024 ![] bcast_S_S1024x1024 main_cst_41
  let main_v99 : IVec S1024x1024 1 := cmpf .ogt main_arg14 main_v98
  fn_part6 (F := F) main_arg14 main_arg15 main_v97 main_v99

def fn_part4 {F : FTy → Type} [FloatOps F] (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) (main_v62 : IVec S_ 1) (main_v64 : IVec S256 1) (main_v65 : FVec F S256 .f32) : IVec S_ 1 :=
  let main_v66 : IVec S256 1 := cmpf .olt main_arg9 main_v65
  let main_v67 : IVec S256 1 := andi main_v64 main_v66
  let main_c_28 : IVec S_ 1 := constantI S_ 1 1#1
  let main_v68 : IVec S_ 1 := (fun x v => Host.reduce IntOp.andi x v reducesTo_S256_S_d0 h_S_) main_v67 main_c_28
  let main_v69 : IVec S_ 1 := andi main_v62 main_v68
  let main_cst_29 : FVec F S_ .f32 := constant S_ .f32 0xFF800000#32
  let main_v70 : FVec F S256 .f32 := broadcastInDim S256 ![] bcast_S_S256 main_cst_29
  let main_v71 : IVec S256 1 := cmpf .ogt main_arg10 main_v70
  let main_cst_30 : FVec F S_ .f32 := constant S_ .f32 0x7F800000#32
  let main_v72 : FVec F S256 .f32 := broadcastInDim S256 ![] bcast_S_S256 main_cst_30
  let main_v73 : IVec S256 1 := cmpf .olt main_arg10 main_v72
  let main_v74 : IVec S256 1 := andi main_v71 main_v73
  let main_c_31 : IVec S_ 1 := constantI S_ 1 1#1
  let main_v75 : IVec S_ 1 := (fun x v => Host.reduce IntOp.andi x v reducesTo_S256_S_d0 h_S_) main_v74 main_c_31
  let main_v76 : IVec S_ 1 := andi main_v69 main_v75
  let main_cst_32 : FVec F S_ .f32 := constant S_ .f32 0xFF800000#32
  let main_v77 : FVec F S256 .f32 := broadcastInDim S256 ![] bcast_S_S256 main_cst_32
  let main_v78 : IVec S256 1 := cmpf .ogt main_arg11 main_v77
  let main_cst_33 : FVec F S_ .f32 := constant S_ .f32 0x7F800000#32
  let main_v79 : FVec F S256 .f32 := broadcastInDim S256 ![] bcast_S_S256 main_cst_33
  let main_v80 : IVec S256 1 := cmpf .olt main_arg11 main_v79
  let main_v81 : IVec S256 1 := andi main_v78 main_v80
  let main_c_34 : IVec S_ 1 := constantI S_ 1 1#1
  let main_v82 : IVec S_ 1 := (fun x v => Host.reduce IntOp.andi x v reducesTo_S256_S_d0 h_S_) main_v81 main_c_34
  fn_part5 (F := F) main_arg12 main_arg13 main_arg14 main_arg15 main_v76 main_v82

def fn_part3 {F : FTy → Type} [FloatOps F] (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) (main_v48 : IVec S_ 1) (main_cst_20 : FVec F S_ .f32) : IVec S_ 1 :=
  let main_v49 : FVec F S3x256 .f32 := broadcastInDim S3x256 ![] bcast_S_S3x256 main_cst_20
  let main_v50 : IVec S3x256 1 := cmpf .ogt main_arg7 main_v49
  let main_cst_21 : FVec F S_ .f32 := constant S_ .f32 0x7F800000#32
  let main_v51 : FVec F S3x256 .f32 := broadcastInDim S3x256 ![] bcast_S_S3x256 main_cst_21
  let main_v52 : IVec S3x256 1 := cmpf .olt main_arg7 main_v51
  let main_v53 : IVec S3x256 1 := andi main_v50 main_v52
  let main_c_22 : IVec S_ 1 := constantI S_ 1 1#1
  let main_v54 : IVec S_ 1 := (fun x v => Host.reduce IntOp.andi x v reducesTo_S3x256_S_d0_1 h_S_) main_v53 main_c_22
  let main_v55 : IVec S_ 1 := andi main_v48 main_v54
  let main_cst_23 : FVec F S_ .f32 := constant S_ .f32 0xFF800000#32
  let main_v56 : FVec F S4x64x64 .f32 := broadcastInDim S4x64x64 ![] bcast_S_S4x64x64 main_cst_23
  let main_v57 : IVec S4x64x64 1 := cmpf .ogt main_arg8 main_v56
  let main_cst_24 : FVec F S_ .f32 := constant S_ .f32 0x7F800000#32
  let main_v58 : FVec F S4x64x64 .f32 := broadcastInDim S4x64x64 ![] bcast_S_S4x64x64 main_cst_24
  let main_v59 : IVec S4x64x64 1 := cmpf .olt main_arg8 main_v58
  let main_v60 : IVec S4x64x64 1 := andi main_v57 main_v59
  let main_c_25 : IVec S_ 1 := constantI S_ 1 1#1
  let main_v61 : IVec S_ 1 := (fun x v => Host.reduce IntOp.andi x v reducesTo_S4x64x64_S_d0_1_2 h_S_) main_v60 main_c_25
  let main_v62 : IVec S_ 1 := andi main_v55 main_v61
  let main_cst_26 : FVec F S_ .f32 := constant S_ .f32 0xFF800000#32
  let main_v63 : FVec F S256 .f32 := broadcastInDim S256 ![] bcast_S_S256 main_cst_26
  let main_v64 : IVec S256 1 := cmpf .ogt main_arg9 main_v63
  let main_cst_27 : FVec F S_ .f32 := constant S_ .f32 0x7F800000#32
  let main_v65 : FVec F S256 .f32 := broadcastInDim S256 ![] bcast_S_S256 main_cst_27
  fn_part4 (F := F) main_arg9 main_arg10 main_arg11 main_arg12 main_arg13 main_arg14 main_arg15 main_v62 main_v64 main_v65

def fn_part2 {F : FTy → Type} [FloatOps F] (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) (main_v27 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v27 main_v33
  let main_cst_14 : FVec F S_ .f32 := constant S_ .f32 0xFF800000#32
  let main_v35 : FVec F S256 .f32 := broadcastInDim S256 ![] bcast_S_S256 main_cst_14
  let main_v36 : IVec S256 1 := cmpf .ogt main_arg5 main_v35
  let main_cst_15 : FVec F S_ .f32 := constant S_ .f32 0x7F800000#32
  let main_v37 : FVec F S256 .f32 := broadcastInDim S256 ![] bcast_S_S256 main_cst_15
  let main_v38 : IVec S256 1 := cmpf .olt main_arg5 main_v37
  let main_v39 : IVec S256 1 := andi main_v36 main_v38
  let main_c_16 : IVec S_ 1 := constantI S_ 1 1#1
  let main_v40 : IVec S_ 1 := (fun x v => Host.reduce IntOp.andi x v reducesTo_S256_S_d0 h_S_) main_v39 main_c_16
  let main_v41 : IVec S_ 1 := andi main_v34 main_v40
  let main_cst_17 : FVec F S_ .f32 := constant S_ .f32 0xFF800000#32
  let main_v42 : FVec F S256 .f32 := broadcastInDim S256 ![] bcast_S_S256 main_cst_17
  let main_v43 : IVec S256 1 := cmpf .ogt main_arg6 main_v42
  let main_cst_18 : FVec F S_ .f32 := constant S_ .f32 0x7F800000#32
  let main_v44 : FVec F S256 .f32 := broadcastInDim S256 ![] bcast_S_S256 main_cst_18
  let main_v45 : IVec S256 1 := cmpf .olt main_arg6 main_v44
  let main_v46 : IVec S256 1 := andi main_v43 main_v45
  let main_c_19 : IVec S_ 1 := constantI S_ 1 1#1
  let main_v47 : IVec S_ 1 := (fun x v => Host.reduce IntOp.andi x v reducesTo_S256_S_d0 h_S_) main_v46 main_c_19
  let main_v48 : IVec S_ 1 := andi main_v41 main_v47
  let main_cst_20 : FVec F S_ .f32 := constant S_ .f32 0xFF800000#32
  fn_part3 (F := F) main_arg7 main_arg8 main_arg9 main_arg10 main_arg11 main_arg12 main_arg13 main_arg14 main_arg15 main_v48 main_cst_20

def fn_part1 {F : FTy → Type} [FloatOps F] (main_arg2 : FVec F S1024x2048 .f32) (main_arg3 : FVec F S31x256 .f32) (main_arg4 : FVec F S256 .f32) (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) (main_v13 : IVec S_ 1) (main_v15 : IVec S1024x2048 1) : IVec S_ 1 :=
  let main_cst_6 : FVec F S_ .f32 := constant S_ .f32 0x7F800000#32
  let main_v16 : FVec F S1024x2048 .f32 := broadcastInDim S1024x2048 ![] bcast_S_S1024x2048 main_cst_6
  let main_v17 : IVec S1024x2048 1 := cmpf .olt main_arg2 main_v16
  let main_v18 : IVec S1024x2048 1 := andi main_v15 main_v17
  let main_c_7 : IVec S_ 1 := constantI S_ 1 1#1
  let main_v19 : IVec S_ 1 := (fun x v => Host.reduce IntOp.andi x v reducesTo_S1024x2048_S_d0_1 h_S_) main_v18 main_c_7
  let main_v20 : IVec S_ 1 := andi main_v13 main_v19
  let main_cst_8 : FVec F S_ .f32 := constant S_ .f32 0xFF800000#32
  let main_v21 : FVec F S31x256 .f32 := broadcastInDim S31x256 ![] bcast_S_S31x256 main_cst_8
  let main_v22 : IVec S31x256 1 := cmpf .ogt main_arg3 main_v21
  let main_cst_9 : FVec F S_ .f32 := constant S_ .f32 0x7F800000#32
  let main_v23 : FVec F S31x256 .f32 := broadcastInDim S31x256 ![] bcast_S_S31x256 main_cst_9
  let main_v24 : IVec S31x256 1 := cmpf .olt main_arg3 main_v23
  let main_v25 : IVec S31x256 1 := andi main_v22 main_v24
  let main_c_10 : IVec S_ 1 := constantI S_ 1 1#1
  let main_v26 : IVec S_ 1 := (fun x v => Host.reduce IntOp.andi x v reducesTo_S31x256_S_d0_1 h_S_) main_v25 main_c_10
  let main_v27 : IVec S_ 1 := andi main_v20 main_v26
  let main_cst_11 : FVec F S_ .f32 := constant S_ .f32 0xFF800000#32
  let main_v28 : FVec F S256 .f32 := broadcastInDim S256 ![] bcast_S_S256 main_cst_11
  let main_v29 : IVec S256 1 := cmpf .ogt main_arg4 main_v28
  let main_cst_12 : FVec F S_ .f32 := constant S_ .f32 0x7F800000#32
  let main_v30 : FVec F S256 .f32 := broadcastInDim S256 ![] bcast_S_S256 main_cst_12
  let main_v31 : IVec S256 1 := cmpf .olt main_arg4 main_v30
  let main_v32 : IVec S256 1 := andi main_v29 main_v31
  fn_part2 (F := F) main_arg5 main_arg6 main_arg7 main_arg8 main_arg9 main_arg10 main_arg11 main_arg12 main_arg13 main_arg14 main_arg15 main_v27 main_v32

def fn {F : FTy → Type} [FloatOps F] (main_arg0 : FVec F S8192x1024 .f32) (main_arg1 : FVec F S1024 .f32) (main_arg2 : FVec F S1024x2048 .f32) (main_arg3 : FVec F S31x256 .f32) (main_arg4 : FVec F S256 .f32) (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_arg15 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_cst_3 : FVec F S_ .f32 := constant S_ .f32 0x7F800000#32
  let main_v9 : FVec F S1024 .f32 := broadcastInDim S1024 ![] bcast_S_S1024 main_cst_3
  let main_v10 : IVec S1024 1 := cmpf .olt main_arg1 main_v9
  let main_v11 : IVec S1024 1 := andi main_v8 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v6 main_v12
  let main_cst_5 : FVec F S_ .f32 := constant S_ .f32 0xFF800000#32
  let main_v14 : FVec F S1024x2048 .f32 := broadcastInDim S1024x2048 ![] bcast_S_S1024x2048 main_cst_5
  let main_v15 : IVec S1024x2048 1 := cmpf .ogt main_arg2 main_v14
  fn_part1 (F := F) main_arg2 main_arg3 main_arg4 main_arg5 main_arg6 main_arg7 main_arg8 main_arg9 main_arg10 main_arg11 main_arg12 main_arg13 main_arg14 main_arg15 main_v13 main_v15
-- ==== Pre_finite_mix_fwd.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S31x256 : S_.BroadcastsInDim S31x256 (![] : Fin 0 → Fin S31x256.rank)
  reducesTo_S31x256_S_d0_1 : S31x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_arg14 : FVec F S1024x1024 .f32) (main_v97 : IVec S_ 1) (main_v99 : IVec S1024x1024 1) : IVec S_ 1 :=
  let main_cst_42 : FVec F S_ .f32 := constant S_ .f32 0x7F800000#32
  let main_v100 : FVec F S1024x1024 .f32 := broadcastInDim S1024x1024 ![] bcast_S_S1024x1024 main_cst_42
  let main_v101 : IVec S1024x1024 1 := cmpf .olt main_arg14 main_v100
  let main_v102 : IVec S1024x1024 1 := andi main_v99 main_v101
  let main_c_43 : IVec S_ 1 := constantI S_ 1 1#1
  let main_v103 : IVec S_ 1 := (fun x v => Host.reduce IntOp.andi x v reducesTo_S1024x1024_S_d0_1 h_S_) main_v102 main_c_43
  let main_v104 : IVec S_ 1 := andi main_v97 main_v103
  main_v104

def fn_part5 {F : FTy → Type} [FloatOps F] (main_arg12 : FVec F S4x128x128 .f32) (main_arg13 : FVec F S4x128 .f32) (main_arg14 : FVec F S1024x1024 .f32) (main_v76 : IVec S_ 1) (main_v82 : IVec S_ 1) : IVec S_ 1 :=
  let main_v83 : IVec S_ 1 := andi main_v76 main_v82
  let main_cst_35 : FVec F S_ .f32 := constant S_ .f32 0xFF800000#32
  let main_v84 : FVec F S4x128x128 .f32 := broadcastInDim S4x128x128 ![] bcast_S_S4x128x128 main_cst_35
  let main_v85 : IVec S4x128x128 1 := cmpf .ogt main_arg12 main_v84
  let main_cst_36 : FVec F S_ .f32 := constant S_ .f32 0x7F800000#32
  let main_v86 : FVec F S4x128x128 .f32 := broadcastInDim S4x128x128 ![] bcast_S_S4x128x128 main_cst_36
  let main_v87 : IVec S4x128x128 1 := cmpf .olt main_arg12 main_v86
  let main_v88 : IVec S4x128x128 1 := andi main_v85 main_v87
  let main_c_37 : IVec S_ 1 := constantI S_ 1 1#1
  let main_v89 : IVec S_ 1 := (fun x v => Host.reduce IntOp.andi x v reducesTo_S4x128x128_S_d0_1_2 h_S_) main_v88 main_c_37
  let main_v90 : IVec S_ 1 := andi main_v83 main_v89
  let main_cst_38 : FVec F S_ .f32 := constant S_ .f32 0xFF800000#32
  let main_v91 : FVec F S4x128 .f32 := broadcastInDim S4x128 ![] bcast_S_S4x128 main_cst_38
  let main_v92 : IVec S4x128 1 := cmpf .ogt main_arg13 main_v91
  let main_cst_39 : FVec F S_ .f32 := constant S_ .f32 0x7F800000#32
  let main_v93 : FVec F S4x128 .f32 := broadcastInDim S4x128 ![] bcast_S_S4x128 main_cst_39
  let main_v94 : IVec S4x128 1 := cmpf .olt main_arg13 main_v93
  let main_v95 : IVec S4x128 1 := andi main_v92 main_v94
  let main_c_40 : IVec S_ 1 := constantI S_ 1 1#1
  let main_v96 : IVec S_ 1 := (fun x v => Host.reduce IntOp.andi x v reducesTo_S4x128_S_d0_1 h_S_) main_v95 main_c_40
  let main_v97 : IVec S_ 1 := andi main_v90 main_v96
  let main_cst_41 : FVec F S_ .f32 := constant S_ .f32 0xFF800000#32
  let main_v98 : FVec F S1024x1024 .f32 := broadcastInDim S1024x1024 ![] bcast_S_S1024x1024 main_cst_41
  let main_v99 : IVec S1024x1024 1 := cmpf .ogt main_arg14 main_v98
  fn_part6 (F := F) main_arg14 main_v97 main_v99

def fn_part4 {F : FTy → Type} [FloatOps F] (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_v62 : IVec S_ 1) (main_v64 : IVec S256 1) (main_v65 : FVec F S256 .f32) : IVec S_ 1 :=
  let main_v66 : IVec S256 1 := cmpf .olt main_arg9 main_v65
  let main_v67 : IVec S256 1 := andi main_v64 main_v66
  let main_c_28 : IVec S_ 1 := constantI S_ 1 1#1
  let main_v68 : IVec S_ 1 := (fun x v => Host.reduce IntOp.andi x v reducesTo_S256_S_d0 h_S_) main_v67 main_c_28
  let main_v69 : IVec S_ 1 := andi main_v62 main_v68
  let main_cst_29 : FVec F S_ .f32 := constant S_ .f32 0xFF800000#32
  let main_v70 : FVec F S256 .f32 := broadcastInDim S256 ![] bcast_S_S256 main_cst_29
  let main_v71 : IVec S256 1 := cmpf .ogt main_arg10 main_v70
  let main_cst_30 : FVec F S_ .f32 := constant S_ .f32 0x7F800000#32
  let main_v72 : FVec F S256 .f32 := broadcastInDim S256 ![] bcast_S_S256 main_cst_30
  let main_v73 : IVec S256 1 := cmpf .olt main_arg10 main_v72
  let main_v74 : IVec S256 1 := andi main_v71 main_v73
  let main_c_31 : IVec S_ 1 := constantI S_ 1 1#1
  let main_v75 : IVec S_ 1 := (fun x v => Host.reduce IntOp.andi x v reducesTo_S256_S_d0 h_S_) main_v74 main_c_31
  let main_v76 : IVec S_ 1 := andi main_v69 main_v75
  let main_cst_32 : FVec F S_ .f32 := constant S_ .f32 0xFF800000#32
  let main_v77 : FVec F S256 .f32 := broadcastInDim S256 ![] bcast_S_S256 main_cst_32
  let main_v78 : IVec S256 1 := cmpf .ogt main_arg11 main_v77
  let main_cst_33 : FVec F S_ .f32 := constant S_ .f32 0x7F800000#32
  let main_v79 : FVec F S256 .f32 := broadcastInDim S256 ![] bcast_S_S256 main_cst_33
  let main_v80 : IVec S256 1 := cmpf .olt main_arg11 main_v79
  let main_v81 : IVec S256 1 := andi main_v78 main_v80
  let main_c_34 : IVec S_ 1 := constantI S_ 1 1#1
  let main_v82 : IVec S_ 1 := (fun x v => Host.reduce IntOp.andi x v reducesTo_S256_S_d0 h_S_) main_v81 main_c_34
  fn_part5 (F := F) main_arg12 main_arg13 main_arg14 main_v76 main_v82

def fn_part3 {F : FTy → Type} [FloatOps F] (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_v48 : IVec S_ 1) (main_cst_20 : FVec F S_ .f32) : IVec S_ 1 :=
  let main_v49 : FVec F S3x256 .f32 := broadcastInDim S3x256 ![] bcast_S_S3x256 main_cst_20
  let main_v50 : IVec S3x256 1 := cmpf .ogt main_arg7 main_v49
  let main_cst_21 : FVec F S_ .f32 := constant S_ .f32 0x7F800000#32
  let main_v51 : FVec F S3x256 .f32 := broadcastInDim S3x256 ![] bcast_S_S3x256 main_cst_21
  let main_v52 : IVec S3x256 1 := cmpf .olt main_arg7 main_v51
  let main_v53 : IVec S3x256 1 := andi main_v50 main_v52
  let main_c_22 : IVec S_ 1 := constantI S_ 1 1#1
  let main_v54 : IVec S_ 1 := (fun x v => Host.reduce IntOp.andi x v reducesTo_S3x256_S_d0_1 h_S_) main_v53 main_c_22
  let main_v55 : IVec S_ 1 := andi main_v48 main_v54
  let main_cst_23 : FVec F S_ .f32 := constant S_ .f32 0xFF800000#32
  let main_v56 : FVec F S4x64x64 .f32 := broadcastInDim S4x64x64 ![] bcast_S_S4x64x64 main_cst_23
  let main_v57 : IVec S4x64x64 1 := cmpf .ogt main_arg8 main_v56
  let main_cst_24 : FVec F S_ .f32 := constant S_ .f32 0x7F800000#32
  let main_v58 : FVec F S4x64x64 .f32 := broadcastInDim S4x64x64 ![] bcast_S_S4x64x64 main_cst_24
  let main_v59 : IVec S4x64x64 1 := cmpf .olt main_arg8 main_v58
  let main_v60 : IVec S4x64x64 1 := andi main_v57 main_v59
  let main_c_25 : IVec S_ 1 := constantI S_ 1 1#1
  let main_v61 : IVec S_ 1 := (fun x v => Host.reduce IntOp.andi x v reducesTo_S4x64x64_S_d0_1_2 h_S_) main_v60 main_c_25
  let main_v62 : IVec S_ 1 := andi main_v55 main_v61
  let main_cst_26 : FVec F S_ .f32 := constant S_ .f32 0xFF800000#32
  let main_v63 : FVec F S256 .f32 := broadcastInDim S256 ![] bcast_S_S256 main_cst_26
  let main_v64 : IVec S256 1 := cmpf .ogt main_arg9 main_v63
  let main_cst_27 : FVec F S_ .f32 := constant S_ .f32 0x7F800000#32
  let main_v65 : FVec F S256 .f32 := broadcastInDim S256 ![] bcast_S_S256 main_cst_27
  fn_part4 (F := F) main_arg9 main_arg10 main_arg11 main_arg12 main_arg13 main_arg14 main_v62 main_v64 main_v65

def fn_part2 {F : FTy → Type} [FloatOps F] (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_v27 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v27 main_v33
  let main_cst_14 : FVec F S_ .f32 := constant S_ .f32 0xFF800000#32
  let main_v35 : FVec F S256 .f32 := broadcastInDim S256 ![] bcast_S_S256 main_cst_14
  let main_v36 : IVec S256 1 := cmpf .ogt main_arg5 main_v35
  let main_cst_15 : FVec F S_ .f32 := constant S_ .f32 0x7F800000#32
  let main_v37 : FVec F S256 .f32 := broadcastInDim S256 ![] bcast_S_S256 main_cst_15
  let main_v38 : IVec S256 1 := cmpf .olt main_arg5 main_v37
  let main_v39 : IVec S256 1 := andi main_v36 main_v38
  let main_c_16 : IVec S_ 1 := constantI S_ 1 1#1
  let main_v40 : IVec S_ 1 := (fun x v => Host.reduce IntOp.andi x v reducesTo_S256_S_d0 h_S_) main_v39 main_c_16
  let main_v41 : IVec S_ 1 := andi main_v34 main_v40
  let main_cst_17 : FVec F S_ .f32 := constant S_ .f32 0xFF800000#32
  let main_v42 : FVec F S256 .f32 := broadcastInDim S256 ![] bcast_S_S256 main_cst_17
  let main_v43 : IVec S256 1 := cmpf .ogt main_arg6 main_v42
  let main_cst_18 : FVec F S_ .f32 := constant S_ .f32 0x7F800000#32
  let main_v44 : FVec F S256 .f32 := broadcastInDim S256 ![] bcast_S_S256 main_cst_18
  let main_v45 : IVec S256 1 := cmpf .olt main_arg6 main_v44
  let main_v46 : IVec S256 1 := andi main_v43 main_v45
  let main_c_19 : IVec S_ 1 := constantI S_ 1 1#1
  let main_v47 : IVec S_ 1 := (fun x v => Host.reduce IntOp.andi x v reducesTo_S256_S_d0 h_S_) main_v46 main_c_19
  let main_v48 : IVec S_ 1 := andi main_v41 main_v47
  let main_cst_20 : FVec F S_ .f32 := constant S_ .f32 0xFF800000#32
  fn_part3 (F := F) main_arg7 main_arg8 main_arg9 main_arg10 main_arg11 main_arg12 main_arg13 main_arg14 main_v48 main_cst_20

def fn_part1 {F : FTy → Type} [FloatOps F] (main_arg2 : FVec F S1024x2048 .f32) (main_arg3 : FVec F S31x256 .f32) (main_arg4 : FVec F S256 .f32) (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) (main_v13 : IVec S_ 1) (main_v15 : IVec S1024x2048 1) : IVec S_ 1 :=
  let main_cst_6 : FVec F S_ .f32 := constant S_ .f32 0x7F800000#32
  let main_v16 : FVec F S1024x2048 .f32 := broadcastInDim S1024x2048 ![] bcast_S_S1024x2048 main_cst_6
  let main_v17 : IVec S1024x2048 1 := cmpf .olt main_arg2 main_v16
  let main_v18 : IVec S1024x2048 1 := andi main_v15 main_v17
  let main_c_7 : IVec S_ 1 := constantI S_ 1 1#1
  let main_v19 : IVec S_ 1 := (fun x v => Host.reduce IntOp.andi x v reducesTo_S1024x2048_S_d0_1 h_S_) main_v18 main_c_7
  let main_v20 : IVec S_ 1 := andi main_v13 main_v19
  let main_cst_8 : FVec F S_ .f32 := constant S_ .f32 0xFF800000#32
  let main_v21 : FVec F S31x256 .f32 := broadcastInDim S31x256 ![] bcast_S_S31x256 main_cst_8
  let main_v22 : IVec S31x256 1 := cmpf .ogt main_arg3 main_v21
  let main_cst_9 : FVec F S_ .f32 := constant S_ .f32 0x7F800000#32
  let main_v23 : FVec F S31x256 .f32 := broadcastInDim S31x256 ![] bcast_S_S31x256 main_cst_9
  let main_v24 : IVec S31x256 1 := cmpf .olt main_arg3 main_v23
  let main_v25 : IVec S31x256 1 := andi main_v22 main_v24
  let main_c_10 : IVec S_ 1 := constantI S_ 1 1#1
  let main_v26 : IVec S_ 1 := (fun x v => Host.reduce IntOp.andi x v reducesTo_S31x256_S_d0_1 h_S_) main_v25 main_c_10
  let main_v27 : IVec S_ 1 := andi main_v20 main_v26
  let main_cst_11 : FVec F S_ .f32 := constant S_ .f32 0xFF800000#32
  let main_v28 : FVec F S256 .f32 := broadcastInDim S256 ![] bcast_S_S256 main_cst_11
  let main_v29 : IVec S256 1 := cmpf .ogt main_arg4 main_v28
  let main_cst_12 : FVec F S_ .f32 := constant S_ .f32 0x7F800000#32
  let main_v30 : FVec F S256 .f32 := broadcastInDim S256 ![] bcast_S_S256 main_cst_12
  let main_v31 : IVec S256 1 := cmpf .olt main_arg4 main_v30
  let main_v32 : IVec S256 1 := andi main_v29 main_v31
  fn_part2 (F := F) main_arg5 main_arg6 main_arg7 main_arg8 main_arg9 main_arg10 main_arg11 main_arg12 main_arg13 main_arg14 main_v27 main_v32

def fn {F : FTy → Type} [FloatOps F] (main_arg0 : FVec F S8192x1024 .f32) (main_arg1 : FVec F S1024 .f32) (main_arg2 : FVec F S1024x2048 .f32) (main_arg3 : FVec F S31x256 .f32) (main_arg4 : FVec F S256 .f32) (main_arg5 : FVec F S256 .f32) (main_arg6 : FVec F S256 .f32) (main_arg7 : FVec F S3x256 .f32) (main_arg8 : FVec F S4x64x64 .f32) (main_arg9 : FVec F S256 .f32) (main_arg10 : FVec F S256 .f32) (main_arg11 : FVec F S256 .f32) (main_arg12 : FVec F S4x128x128 .f32) (main_arg13 : FVec F S4x128 .f32) (main_arg14 : FVec F S1024x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_cst_3 : FVec F S_ .f32 := constant S_ .f32 0x7F800000#32
  let main_v9 : FVec F S1024 .f32 := broadcastInDim S1024 ![] bcast_S_S1024 main_cst_3
  let main_v10 : IVec S1024 1 := cmpf .olt main_arg1 main_v9
  let main_v11 : IVec S1024 1 := andi main_v8 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v6 main_v12
  let main_cst_5 : FVec F S_ .f32 := constant S_ .f32 0xFF800000#32
  let main_v14 : FVec F S1024x2048 .f32 := broadcastInDim S1024x2048 ![] bcast_S_S1024x2048 main_cst_5
  let main_v15 : IVec S1024x2048 1 := cmpf .ogt main_arg2 main_v14
  fn_part1 (F := F) main_arg2 main_arg3 main_arg4 main_arg5 main_arg6 main_arg7 main_arg8 main_arg9 main_arg10 main_arg11 main_arg12 main_arg13 main_arg14 main_v13 main_v15
-- ==== FfnBwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x352x1024 : Shape := ⟨3, ![8, 352, 1024]⟩
abbrev S8x1056x1024 : Shape := ⟨3, ![8, 1056, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 43
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x2816, .bf16⟩
  | .hbm, ⟨24, _⟩ => ⟨S8192x2816, .f32⟩
  | .hbm, ⟨25, _⟩ => ⟨S8192x2816, .bf16⟩
  | .hbm, ⟨26, _⟩ => ⟨S1024x2816, .bf16⟩
  | .hbm, ⟨27, _⟩ => ⟨S8192x2816, .f32⟩
  | .hbm, ⟨28, _⟩ => ⟨S8192x2816, .bf16⟩
  | .hbm, ⟨29, _⟩ => ⟨S2816x1024, .f32⟩
  | .hbm, ⟨30, _⟩ => ⟨S8x352x1024, .f32⟩
  | .hbm, ⟨31, _⟩ => ⟨S2816x1024, .f32⟩
  | .hbm, ⟨32, _⟩ => ⟨S8x352x1024, .f32⟩
  | .hbm, ⟨33, _⟩ => ⟨S8x352x1024, .f32⟩
  | .hbm, ⟨34, _⟩ => ⟨S8x1056x1024, .f32⟩
  | .hbm, ⟨35, _⟩ => ⟨S8x1056x1024, .bf16⟩
  | .hbm, ⟨36, _⟩ => ⟨S1x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x2816, .bf16⟩
  | .hbm, ⟨41, _⟩ => ⟨S8192x1024, .bf16⟩
  | .hbm, ⟨42, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S8x352x1024, .bf16⟩
  | .local _ .vmem, ⟨10, _⟩ => ⟨S8x352x1024, .bf16⟩
  | .local _ .vmem, ⟨11, _⟩ => ⟨S8x352x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnBwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x1024, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S1x1024, .f32⟩
  | 6 => ⟨S_, .i32⟩
  | 7 => ⟨S_, .f32⟩
  | 8 => ⟨S8x1024, .f32⟩
  | 9 => ⟨S8192x2816, .bf16⟩
  | 10 => ⟨S8192x2816, .bf16⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S8192x2816, .f32⟩
  | 20 => ⟨S8192x2816, .f32⟩
  | 21 => ⟨S8192x2816, .bf16⟩
  | 22 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_c : Ref sig .tc := ⟨.hbm, 134, rfl⟩
abbrev main_call4_v0 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_call5_v0 : Ref sig .tc := ⟨.hbm, 139, rfl⟩
abbrev main_call5_v1 : Ref sig .tc := ⟨.hbm, 140, rfl⟩
abbrev main_call5_cst : Ref sig .tc := ⟨.hbm, 141, rfl⟩
abbrev main_call5_v2 : Ref sig .tc := ⟨.hbm, 142, rfl⟩
abbrev main_call5_v3 : Ref sig .tc := ⟨.hbm, 143, rfl⟩
abbrev main_call5_cst_0 : Ref sig .tc := ⟨.hbm, 144, rfl⟩
abbrev main_call5_v4 : Ref sig .tc := ⟨.hbm, 145, rfl⟩
abbrev main_call5_v5 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩

abbrev nD : Nat := 1
abbrev τ : Topo := Topo.v7x

variable {F : FTy → Type} [FloatOps F]
-- ==== Head.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S2816x1024, .f32⟩
  | .hbm, ⟨8, _⟩ => ⟨S8x352x1024, .f32⟩
  | .hbm, ⟨9, _⟩ => ⟨S2816x1024, .f32⟩
  | .hbm, ⟨10, _⟩ => ⟨S8x352x1024, .f32⟩
  | .hbm, ⟨11, _⟩ => ⟨S8x352x1024, .f32⟩
  | .hbm, ⟨12, _⟩ => ⟨S8x1056x1024, .f32⟩
  | .hbm, ⟨13, _⟩ => ⟨S8x1056x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8x128, .f32⟩
  | .hbm, ⟨20, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S8x128, .f32⟩
  | .local _ .vmem, ⟨16, _⟩ => ⟨S8x1024, .f32⟩
  | .local _ .vmem, ⟨17, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S_, .f32⟩
  | 65 => ⟨S8192, .f32⟩
  | 66 => ⟨S8192, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S8192, .f32⟩
  | 75 => ⟨S_, .f32⟩
  | 76 => ⟨S8192, .f32⟩
  | 77 => ⟨S8192, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S_, .f32⟩
  | 89 => ⟨S1024, .f32⟩
  | 90 => ⟨S8192x1024, .f32⟩
  | 91 => ⟨S_, .f32⟩
  | 92 => ⟨S8192, .f32⟩
  | 93 => ⟨S8192x1, .f32⟩
  | 94 => ⟨S8192x1024, .f32⟩
  | 95 => ⟨S8192x1024, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S8192x2816, .f32⟩
  | 124 => ⟨S8192x2816, .bf16⟩
  | 125 => ⟨S8192x2816, .f32⟩
  | 126 => ⟨S8192x2816, .bf16⟩
  | 127 => ⟨S8x128, .f32⟩
  | _ => ⟨S8192x1024, .f32⟩

abbrev hbmTy0_1 (i : Nat) : BufTy := match i % 128 with
  | 0 => ⟨S1x1024, .f32⟩
  | 1 => ⟨S_, .i32⟩
  | 2 => ⟨S_, .f32⟩
  | 3 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c : Ref sig .tc := ⟨.hbm, 129, rfl⟩
abbrev main_call1_v0 : Ref sig .tc := ⟨.hbm, 130, rfl⟩
abbrev main_v91 : Ref sig .tc := ⟨.hbm, 131, rfl⟩

abbrev nD : Nat := 1
abbrev τ : Topo := Topo.v7x

variable {F : FTy → Type} [FloatOps F]
-- ==== MixBwd.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S32x256 : Shape := ⟨2, ![32, 256]⟩
abbrev S8x256 : Shape := ⟨2, ![8, 256]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S128x128 : Shape := ⟨2, ![128, 128]⟩
abbrev S1x128x128 : Shape := ⟨3, ![1, 128, 128]⟩
abbrev S128x4x128 : Shape := ⟨3, ![128, 4, 128]⟩
abbrev S128x512 : Shape := ⟨2, ![128, 512]⟩
abbrev S512x128 : Shape := ⟨2, ![512, 128]⟩
abbrev S128x4 : Shape := ⟨2, ![128, 4]⟩
abbrev S128x4x64 : Shape := ⟨3, ![128, 4, 64]⟩
abbrev S128x256 : Shape := ⟨2, ![128, 256]⟩
abbrev S2048x1024 : Shape := ⟨2, ![2048, 1024]⟩
abbrev S8x256x1024 : Shape := ⟨3, ![8, 256, 1024]⟩
abbrev S8x128x1024 : Shape := ⟨3, ![8, 128, 1024]⟩
abbrev S8x384x1024 : Shape := ⟨3, ![8, 384, 1024]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x256 : Shape := ⟨2, ![8192, 256]⟩
abbrev S30x256 : Shape := ⟨2, ![30, 256]⟩
abbrev S8222x256 : Shape := ⟨2, ![8222, 256]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S8192x31x256 : Shape := ⟨3, ![8192, 31, 256]⟩
abbrev S1x31x256 : Shape := ⟨3, ![1, 31, 256]⟩
abbrev S8x1024 : Shape := ⟨2, ![8, 1024]⟩
abbrev S32x2048 : Shape := ⟨2, ![32, 2048]⟩
abbrev S256x2048 : Shape := ⟨2, ![256, 2048]⟩
abbrev S256x1024 : Shape := ⟨2, ![256, 1024]⟩
abbrev S32x1024 : Shape := ⟨2, ![32, 1024]⟩
abbrev S288x256 : Shape := ⟨2, ![288, 256]⟩
abbrev S7x280x256 : Shape := ⟨3, ![7, 280, 256]⟩
abbrev S2x288x256 : Shape := ⟨3, ![2, 288, 256]⟩
abbrev S288x1024 : Shape := ⟨2, ![288, 1024]⟩
abbrev S280x256 : Shape := ⟨2, ![280, 256]⟩
abbrev S1x280x256 : Shape := ⟨3, ![1, 280, 256]⟩
abbrev S288 : Shape := ⟨1, ![288]⟩
abbrev S288x1 : Shape := ⟨2, ![288, 1]⟩
abbrev S1x256x256 : Shape := ⟨3, ![1, 256, 256]⟩
abbrev S1x288x256 : Shape := ⟨3, ![1, 288, 256]⟩
abbrev S272x256 : Shape := ⟨2, ![272, 256]⟩
abbrev S264x256 : Shape := ⟨2, ![264, 256]⟩
abbrev S256x1 : Shape := ⟨2, ![256, 1]⟩
abbrev S512x256 : Shape := ⟨2, ![512, 256]⟩
abbrev S128 : Shape := ⟨1, ![128]⟩
abbrev S128x1 : Shape := ⟨2, ![128, 1]⟩

abbrev nBuf : Space → Nat
  | .hbm => 160
  | .vmem => 46
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S31x256, .f32⟩
  | 4 => ⟨S256, .f32⟩
  | 5 => ⟨S256, .f32⟩
  | 6 => ⟨S256, .f32⟩
  | 7 => ⟨S3x256, .f32⟩
  | 8 => ⟨S4x64x64, .f32⟩
  | 9 => ⟨S256, .f32⟩
  | 10 => ⟨S256, .f32⟩
  | 11 => ⟨S256, .f32⟩
  | 12 => ⟨S4x128x128, .f32⟩
  | 13 => ⟨S4x128, .f32⟩
  | 14 => ⟨S1024x1024, .f32⟩
  | 15 => ⟨S8192x1024, .f32⟩
  | 16 => ⟨S_, .i32⟩
  | 17 => ⟨S_, .f32⟩
  | 18 => ⟨S32x256, .f32⟩
  | 19 => ⟨S_, .i32⟩
  | 20 => ⟨S_, .f32⟩
  | 21 => ⟨S8x256, .f32⟩
  | 22 => ⟨S_, .f32⟩
  | 23 => ⟨S256, .f32⟩
  | 24 => ⟨S_, .f32⟩
  | 25 => ⟨S256, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S8x256, .f32⟩
  | 35 => ⟨S_, .f32⟩
  | 36 => ⟨S256x256, .f32⟩
  | 37 => ⟨S1x64x64, .f32⟩
  | 38 => ⟨S64x64, .f32⟩
  | 39 => ⟨S_, .i32⟩
  | 40 => ⟨S_, .i32⟩
  | 41 => ⟨S256x256, .f32⟩
  | 42 => ⟨S1x64x64, .f32⟩
  | 43 => ⟨S64x64, .f32⟩
  | 44 => ⟨S_, .i32⟩
  | 45 => ⟨S_, .i32⟩
  | 46 => ⟨S256x256, .f32⟩
  | 47 => ⟨S1x64x64, .f32⟩
  | 48 => ⟨S64x64, .f32⟩
  | 49 => ⟨S_, .i32⟩
  | 50 => ⟨S_, .i32⟩
  | 51 => ⟨S256x256, .f32⟩
  | 52 => ⟨S1x64x64, .f32⟩
  | 53 => ⟨S64x64, .f32⟩
  | 54 => ⟨S_, .i32⟩
  | 55 => ⟨S_, .i32⟩
  | 56 => ⟨S256x256, .f32⟩
  | 57 => ⟨S256x256, .bf16⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S4x128x128, .bf16⟩
  | 76 => ⟨S128x4x128, .bf16⟩
  | 77 => ⟨S128x512, .bf16⟩
  | 78 => ⟨S4x128x128, .bf16⟩
  | 79 => ⟨S512x128, .bf16⟩
  | 80 => ⟨S128x4, .f32⟩
  | 81 => ⟨S128x4x64, .f32⟩
  | 82 => ⟨S128x256, .f32⟩
  | 83 => ⟨S2048x1024, .f32⟩
  | 84 => ⟨S8x256x1024, .f32⟩
  | 85 => ⟨S8x128x1024, .f32⟩
  | 86 => ⟨S8x384x1024, .f32⟩
  | 87 => ⟨S8x384x1024, .bf16⟩
  | 88 => ⟨S8192x1024, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .bf16⟩
  | 105 => ⟨S1024x2048, .bf16⟩
  | 106 => ⟨S8192x2048, .f32⟩
  | 107 => ⟨S8192x2048, .bf16⟩
  | 108 => ⟨S8192x256, .bf16⟩
  | 109 => ⟨S8192x256, .f32⟩
  | 110 => ⟨S8192x256, .bf16⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S_, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S_, .f32⟩
  | 124 => ⟨S30x256, .f32⟩
  | 125 => ⟨S8222x256, .f32⟩
  | 126 => ⟨S8192, .i32⟩
  | 127 => ⟨S8192x1, .i32⟩
  | _ => ⟨S8192x1024, .f32⟩

abbrev hbmTy0_1 (i : Nat) : BufTy := match i % 128 with
  | 0 => ⟨S31, .i32⟩
  | 1 => ⟨S1x31, .i32⟩
  | 2 => ⟨S8192x31, .i32⟩
  | 3 => ⟨S8192x31, .i32⟩
  | 4 => ⟨S8192x31, .i32⟩
  | 5 => ⟨S_, .i32⟩
  | 6 => ⟨S8192x31, .i32⟩
  | 7 => ⟨S8192x31, .i1⟩
  | 8 => ⟨S_, .i32⟩
  | 9 => ⟨S8192x31, .i32⟩
  | 10 => ⟨S8192x31, .i32⟩
  | 11 => ⟨S8192x31, .i32⟩
  | 12 => ⟨S8192x31x1, .i32⟩
  | 13 => ⟨S8192x31x256, .f32⟩
  | 14 => ⟨S1x31x256, .f32⟩
  | 15 => ⟨S8192x31x256, .f32⟩
  | 16 => ⟨S8192x31x256, .f32⟩
  | 17 => ⟨S_, .f32⟩
  | 18 => ⟨S8192x256, .f32⟩
  | 19 => ⟨S1x256, .f32⟩
  | 20 => ⟨S8192x256, .f32⟩
  | 21 => ⟨S8192x256, .f32⟩
  | 22 => ⟨S1x1024, .f32⟩
  | 23 => ⟨S8192x2048, .bf16⟩
  | 24 => ⟨S32x256, .f32⟩
  | 25 => ⟨S8x256, .f32⟩
  | 26 => ⟨S8x256, .f32⟩
  | 27 => ⟨S256x256, .f32⟩
  | 28 => ⟨S512x128, .f32⟩
  | 29 => ⟨S128x128, .f32⟩
  | 30 => ⟨S8192x1024, .f32⟩
  | 31 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S32x2048, .bf16⟩
  | .local _ .vmem, ⟨1, _⟩ => ⟨S32x2048, .bf16⟩
  | .local _ .vmem, ⟨2, _⟩ => ⟨S256x2048, .bf16⟩
  | .local _ .vmem, ⟨3, _⟩ => ⟨S256x2048, .bf16⟩
  | .local _ .vmem, ⟨4, _⟩ => ⟨S32x2048, .bf16⟩
  | .local _ .vmem, ⟨5, _⟩ => ⟨S32x2048, .bf16⟩
  | .local _ .vmem, ⟨6, _⟩ => ⟨S256x1024, .f32⟩
  | .local _ .vmem, ⟨7, _⟩ => ⟨S256x1024, .f32⟩
  | .local _ .vmem, ⟨8, _⟩ => ⟨S32x1024, .f32⟩
  | .local _ .vmem, ⟨9, _⟩ => ⟨S32x1024, .f32⟩
  | .local _ .vmem, ⟨10, _⟩ => ⟨S256x256, .f32⟩
  | .local _ .vmem, ⟨11, _⟩ => ⟨S256x256, .f32⟩
  | .local _ .vmem, ⟨12, _⟩ => ⟨S32x256, .f32⟩
  | .local _ .vmem, ⟨13, _⟩ => ⟨S32x256, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S8x256x1024, .bf16⟩
  | .local _ .vmem, ⟨18, _⟩ => ⟨S8x128x1024, .bf16⟩
  | .local _ .vmem, ⟨19, _⟩ => ⟨S32x256, .f32⟩
  | .local _ .vmem, ⟨20, _⟩ => ⟨S8x256, .f32⟩
  | .local _ .vmem, ⟨21, _⟩ => ⟨S8x256, .f32⟩
  | .local _ .vmem, ⟨22, _⟩ => ⟨S256x256, .bf16⟩
  | .local _ .vmem, ⟨23, _⟩ => ⟨S128x512, .bf16⟩
  | .local _ .vmem, ⟨24, _⟩ => ⟨S128x256, .f32⟩
  | .local _ .vmem, ⟨25, _⟩ => ⟨S512x128, .bf16⟩
  | .local _ .vmem, ⟨26, _⟩ => ⟨S256x2048, .bf16⟩
  | .local _ .vmem, ⟨27, _⟩ => ⟨S256x2048, .bf16⟩
  | .local _ .vmem, ⟨28, _⟩ => ⟨S32x256, .f32⟩
  | .local _ .vmem, ⟨29, _⟩ => ⟨S8x256, .f32⟩
  | .local _ .vmem, ⟨30, _⟩ => ⟨S8x256, .f32⟩
  | .local _ .vmem, ⟨31, _⟩ => ⟨S256x256, .f32⟩
  | .local _ .vmem, ⟨32, _⟩ => ⟨S512x128, .f32⟩
  | .local _ .vmem, ⟨33, _⟩ => ⟨S128x128, .f32⟩
  | .local _ .vmem, ⟨34, _⟩ => ⟨S256x1024, .f32⟩
  | .local _ .vmem, ⟨35, _⟩ => ⟨S256x1024, .f32⟩
  | .local _ .vmem, ⟨36, _⟩ => ⟨S8x1024, .f32⟩
  | .local _ .vmem, ⟨37, _⟩ => ⟨S288x256, .f32⟩
  | .local _ .vmem, ⟨38, _⟩ => ⟨S288x256, .f32⟩
  | .local _ .vmem, ⟨39, _⟩ => ⟨S288x256, .f32⟩
  | .local _ .vmem, ⟨40, _⟩ => ⟨S288x256, .f32⟩
  | .local _ .vmem, ⟨41, _⟩ => ⟨S288x256, .f32⟩
  | .local _ .vmem, ⟨42, _⟩ => ⟨S288x256, .f32⟩
  | .local _ .vmem, ⟨43, _⟩ => ⟨S7x280x256, .f32⟩
  | .local _ .vmem, ⟨44, _⟩ => ⟨S7x280x256, .f32⟩
  | .local _ .vmem, ⟨45, _⟩ => ⟨S2x288x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_cst_1 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_5 : Ref sig .tc := ⟨.hbm, 44, rfl⟩
abbrev main_c_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_7 : Ref sig .tc := ⟨.hbm, 49, rfl⟩
abbrev main_c_8 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_9 : Ref sig .tc := ⟨.hbm, 54, rfl⟩
abbrev main_c_10 : Ref sig .tc := ⟨.hbm, 55, rfl⟩
abbrev main_v25 : Ref sig .tc := ⟨.hbm, 56, rfl⟩
abbrev main_v26 : Ref sig .tc := ⟨.hbm, 57, rfl⟩
abbrev main_c_11 : Ref sig .tc := ⟨.hbm, 58, rfl⟩
abbrev main_v27 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v28 : Ref sig .tc := ⟨.hbm, 68, rfl⟩
abbrev main_v29 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_13 : Ref sig .tc := ⟨.hbm, 89, rfl⟩
abbrev main_v45 : Ref sig .tc := ⟨.hbm, 90, rfl⟩
abbrev main_v46 : Ref sig .tc := ⟨.hbm, 91, rfl⟩
abbrev main_cst_14 : Ref sig .tc := ⟨.hbm, 92, rfl⟩
abbrev main_v47 : Ref sig .tc := ⟨.hbm, 93, rfl⟩
abbrev main_v48 : Ref sig .tc := ⟨.hbm, 94, rfl⟩
abbrev main_cst_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_16 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_17 : Ref sig .tc := ⟨.hbm, 116, rfl⟩
abbrev main_v68 : Ref sig .tc := ⟨.hbm, 117, rfl⟩
abbrev main_v69 : Ref sig .tc := ⟨.hbm, 118, rfl⟩
abbrev main_cst_18 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_19 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_20 : Ref sig .tc := ⟨.hbm, 133, rfl⟩
abbrev main_v82 : Ref sig .tc := ⟨.hbm, 134, rfl⟩
abbrev main_v83 : Ref sig .tc := ⟨.hbm, 135, rfl⟩
abbrev main_c_21 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_22 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97_0 : Ref sig .tc := ⟨.hbm, 151, rfl⟩
abbrev main_v97_1 : Ref sig .tc := ⟨.hbm, 152, rfl⟩
abbrev main_v97_2 : Ref sig .tc := ⟨.hbm, 153, rfl⟩
abbrev main_v97_3 : Ref sig .tc := ⟨.hbm, 154, rfl⟩
abbrev main_v97_4 : Ref sig .tc := ⟨.hbm, 155, rfl⟩
abbrev main_v97_5 : Ref sig .tc := ⟨.hbm, 156, rfl⟩
abbrev main_v97_6 : Ref sig .tc := ⟨.hbm, 157, rfl⟩
abbrev main_v97_7 : Ref sig .tc := ⟨.hbm, 158, rfl⟩
abbrev main_v97_8 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_scratch5 : Ref sig .tc := ⟨.vmem, 42, rfl⟩
abbrev cc0_scratch6 : Ref sig .tc := ⟨.vmem, 43, rfl⟩
abbrev cc0_scratch7 : Ref sig .tc := ⟨.vmem, 44, rfl⟩
abbrev cc0_scratch8 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem25_1 : DmaSem sig := 35
abbrev cc0_sem26_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S8x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixBwdRefIdeal.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S30x256 : Shape := ⟨2, ![30, 256]⟩
abbrev S8222x256 : Shape := ⟨2, ![8222, 256]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S8192x31x256 : Shape := ⟨3, ![8192, 31, 256]⟩
abbrev S1x31x256 : Shape := ⟨3, ![1, 31, 256]⟩
abbrev S1x256 : Shape := ⟨2, ![1, 256]⟩
abbrev S2x256 : Shape := ⟨2, ![2, 256]⟩
abbrev S8194x256 : Shape := ⟨2, ![8194, 256]⟩
abbrev S3 : Shape := ⟨1, ![3]⟩
abbrev S1x3 : Shape := ⟨2, ![1, 3]⟩
abbrev S8192x3 : Shape := ⟨2, ![8192, 3]⟩
abbrev S8192x3x1 : Shape := ⟨3, ![8192, 3, 1]⟩
abbrev S8192x3x256 : Shape := ⟨3, ![8192, 3, 256]⟩
abbrev S1x3x256 : Shape := ⟨3, ![1, 3, 256]⟩
abbrev S8192x64 : Shape := ⟨2, ![8192, 64]⟩
abbrev S2x64 : Shape := ⟨2, ![2, 64]⟩
abbrev S8190x64 : Shape := ⟨2, ![8190, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1x64 : Shape := ⟨3, ![8192, 1, 64]⟩
abbrev S8192x4x64 : Shape := ⟨3, ![8192, 4, 64]⟩
abbrev S4x64x8192 : Shape := ⟨3, ![4, 64, 8192]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩
abbrev S4x8192x64 : Shape := ⟨3, ![4, 8192, 64]⟩
abbrev S6x256 : Shape := ⟨2, ![6, 256]⟩
abbrev S8x256 : Shape := ⟨2, ![8, 256]⟩
abbrev S256x64 : Shape := ⟨2, ![256, 64]⟩
abbrev S256x256 : Shape := ⟨2, ![256, 256]⟩
abbrev S32x256 : Shape := ⟨2, ![32, 256]⟩
abbrev S512x128 : Shape := ⟨2, ![512, 128]⟩
abbrev S8x1024 : Shape := ⟨2, ![8, 1024]⟩

abbrev nBuf : Space → Nat
  | .hbm => 592
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S31x256, .f32⟩
  | 4 => ⟨S256, .f32⟩
  | 5 => ⟨S256, .f32⟩
  | 6 => ⟨S256, .f32⟩
  | 7 => ⟨S3x256, .f32⟩
  | 8 => ⟨S4x64x64, .f32⟩
  | 9 => ⟨S256, .f32⟩
  | 10 => ⟨S256, .f32⟩
  | 11 => ⟨S256, .f32⟩
  | 12 => ⟨S4x128x128, .f32⟩
  | 13 => ⟨S4x128, .f32⟩
  | 14 => ⟨S1024x1024, .f32⟩
  | 15 => ⟨S8192x1024, .f32⟩
  | 16 => ⟨S_, .f32⟩
  | 17 => ⟨S8192x2048, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x2048, .f32⟩
  | 39 => ⟨S8192x2048, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S_, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S_, .f32⟩
  | 62 => ⟨S30x256, .f32⟩
  | 63 => ⟨S8222x256, .f32⟩
  | 64 => ⟨S_, .f32⟩
  | 65 => ⟨S30x256, .f32⟩
  | 66 => ⟨S8192, .i32⟩
  | 67 => ⟨S8192x1, .i32⟩
  | 68 => ⟨S31, .i32⟩
  | 69 => ⟨S1x31, .i32⟩
  | 70 => ⟨S8192x31, .i32⟩
  | 71 => ⟨S8192x31, .i32⟩
  | 72 => ⟨S8192x31, .i32⟩
  | 73 => ⟨S_, .i32⟩
  | 74 => ⟨S8192x31, .i32⟩
  | 75 => ⟨S8192x31, .i1⟩
  | 76 => ⟨S_, .i32⟩
  | 77 => ⟨S8192x31, .i32⟩
  | 78 => ⟨S8192x31, .i32⟩
  | 79 => ⟨S8192x31, .i32⟩
  | 80 => ⟨S8192x31x1, .i32⟩
  | 81 => ⟨S8192x31x256, .f32⟩
  | 82 => ⟨S1x31x256, .f32⟩
  | 83 => ⟨S8192x31x256, .f32⟩
  | 84 => ⟨S8192x31x256, .f32⟩
  | 85 => ⟨S_, .f32⟩
  | 86 => ⟨S8192x256, .f32⟩
  | 87 => ⟨S1x256, .f32⟩
  | 88 => ⟨S8192x256, .f32⟩
  | 89 => ⟨S8192x256, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S8192x256, .f32⟩
  | 97 => ⟨S8192x256, .f32⟩
  | 98 => ⟨S8192x256, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S8192x256, .f32⟩
  | 114 => ⟨S8192x256, .f32⟩
  | 115 => ⟨S1x256, .f32⟩
  | 116 => ⟨S8192x256, .f32⟩
  | 117 => ⟨S8192x256, .f32⟩
  | 118 => ⟨S1x256, .f32⟩
  | 119 => ⟨S8192x256, .f32⟩
  | 120 => ⟨S8192x256, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S8192x256, .f32⟩
  | _ => ⟨S8192x1024, .f32⟩

abbrev hbmTy0_1 (i : Nat) : BufTy := match i % 128 with
  | 0 => ⟨S8192x256, .f32⟩
  | 1 => ⟨S_, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S_, .f32⟩
  | 8 => ⟨S2x256, .f32⟩
  | 9 => ⟨S8194x256, .f32⟩
  | 10 => ⟨S_, .f32⟩
  | 11 => ⟨S2x256, .f32⟩
  | 12 => ⟨S8192, .i32⟩
  | 13 => ⟨S8192x1, .i32⟩
  | 14 => ⟨S3, .i32⟩
  | 15 => ⟨S1x3, .i32⟩
  | 16 => ⟨S8192x3, .i32⟩
  | 17 => ⟨S8192x3, .i32⟩
  | 18 => ⟨S8192x3, .i32⟩
  | 19 => ⟨S_, .i32⟩
  | 20 => ⟨S8192x3, .i32⟩
  | 21 => ⟨S8192x3, .i1⟩
  | 22 => ⟨S_, .i32⟩
  | 23 => ⟨S8192x3, .i32⟩
  | 24 => ⟨S8192x3, .i32⟩
  | 25 => ⟨S8192x3, .i32⟩
  | 26 => ⟨S8192x3x1, .i32⟩
  | 27 => ⟨S8192x3x256, .f32⟩
  | 28 => ⟨S1x3x256, .f32⟩
  | 29 => ⟨S8192x3x256, .f32⟩
  | 30 => ⟨S8192x3x256, .f32⟩
  | 31 => ⟨S_, .f32⟩
  | 32 => ⟨S8192x256, .f32⟩
  | 33 => ⟨S8192x256, .f32⟩
  | 34 => ⟨S_, .f32⟩
  | 35 => ⟨S_, .f32⟩
  | 36 => ⟨S8192x256, .f32⟩
  | 37 => ⟨S8192, .f32⟩
  | 38 => ⟨S_, .f32⟩
  | 39 => ⟨S8192, .f32⟩
  | 40 => ⟨S8192, .f32⟩
  | 41 => ⟨S8192x1, .f32⟩
  | 42 => ⟨S8192x64, .f32⟩
  | 43 => ⟨S_, .f32⟩
  | 44 => ⟨S2x64, .f32⟩
  | 45 => ⟨S8190x64, .f32⟩
  | 46 => ⟨S8192x64, .f32⟩
  | 47 => ⟨S_, .f32⟩
  | 48 => ⟨S2x64, .f32⟩
  | 49 => ⟨S8192x64, .f32⟩
  | 50 => ⟨S_, .f32⟩
  | 51 => ⟨S8192x1, .f32⟩
  | 52 => ⟨S8192x1, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S_, .f32⟩
  | 59 => ⟨S4x64, .f32⟩
  | 60 => ⟨S8188x64, .f32⟩
  | 61 => ⟨S8192x64, .f32⟩
  | 62 => ⟨S_, .f32⟩
  | 63 => ⟨S4x64, .f32⟩
  | 64 => ⟨S8192x64, .f32⟩
  | 65 => ⟨S_, .f32⟩
  | 66 => ⟨S8192x1, .f32⟩
  | 67 => ⟨S8192x1, .f32⟩
  | 68 => ⟨S8192x64, .f32⟩
  | 69 => ⟨S8192x64, .f32⟩
  | 70 => ⟨S8192x64, .f32⟩
  | 71 => ⟨S8192x64, .f32⟩
  | 72 => ⟨S8192x64, .f32⟩
  | 73 => ⟨S_, .f32⟩
  | 74 => ⟨S8x64, .f32⟩
  | 75 => ⟨S8184x64, .f32⟩
  | 76 => ⟨S8192x64, .f32⟩
  | 77 => ⟨S_, .f32⟩
  | 78 => ⟨S8x64, .f32⟩
  | 79 => ⟨S8192x64, .f32⟩
  | 80 => ⟨S_, .f32⟩
  | 81 => ⟨S8192x1, .f32⟩
  | 82 => ⟨S8192x1, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S_, .f32⟩
  | 89 => ⟨S16x64, .f32⟩
  | 90 => ⟨S8176x64, .f32⟩
  | 91 => ⟨S8192x64, .f32⟩
  | 92 => ⟨S_, .f32⟩
  | 93 => ⟨S16x64, .f32⟩
  | 94 => ⟨S8192x64, .f32⟩
  | 95 => ⟨S_, .f32⟩
  | 96 => ⟨S8192x1, .f32⟩
  | 97 => ⟨S8192x1, .f32⟩
  | 98 => ⟨S8192x64, .f32⟩
  | 99 => ⟨S8192x64, .f32⟩
  | 100 => ⟨S8192x64, .f32⟩
  | 101 => ⟨S8192x64, .f32⟩
  | 102 => ⟨S8192x1x64, .f32⟩
  | 103 => ⟨S8192x1x64, .f32⟩
  | 104 => ⟨S8192x1x64, .f32⟩
  | 105 => ⟨S8192x1x64, .f32⟩
  | 106 => ⟨S8192x4x64, .f32⟩
  | 107 => ⟨S4x64x8192, .f32⟩
  | 108 => ⟨S8192x4x64, .f32⟩
  | 109 => ⟨S8192x256, .f32⟩
  | 110 => ⟨S1x256, .f32⟩
  | 111 => ⟨S8192x256, .f32⟩
  | 112 => ⟨S8192x256, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x256, .f32⟩
  | 120 => ⟨S8192x256, .f32⟩
  | 121 => ⟨S8192x256, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_2 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x256, .f32⟩
  | 9 => ⟨S8192x256, .f32⟩
  | 10 => ⟨S1x256, .f32⟩
  | 11 => ⟨S8192x256, .f32⟩
  | 12 => ⟨S8192x256, .f32⟩
  | 13 => ⟨S1x256, .f32⟩
  | 14 => ⟨S8192x256, .f32⟩
  | 15 => ⟨S8192x256, .f32⟩
  | 16 => ⟨S64x128x4x64, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S1x128x128, .i1⟩
  | 29 => ⟨S_, .f32⟩
  | 30 => ⟨S_, .f32⟩
  | 31 => ⟨S4x128x128, .i1⟩
  | 32 => ⟨S4x128x128, .f32⟩
  | 33 => ⟨S4x128x128, .f32⟩
  | 34 => ⟨S_, .f32⟩
  | 35 => ⟨S4x128x128, .f32⟩
  | 36 => ⟨S4x64x64x128, .f32⟩
  | 37 => ⟨S64x128x4x64, .f32⟩
  | 38 => ⟨S128x4, .f32⟩
  | 39 => ⟨S1x128x4x1, .f32⟩
  | 40 => ⟨S64x128x4x64, .f32⟩
  | 41 => ⟨S64x128x4x64, .f32⟩
  | 42 => ⟨S8192x256, .f32⟩
  | 43 => ⟨S8192x256, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S64x128x4x64, .f32⟩
  | 56 => ⟨S_, .f32⟩
  | 57 => ⟨S128x4, .f32⟩
  | 58 => ⟨S1x128x4x1, .f32⟩
  | 59 => ⟨S_, .f32⟩
  | 60 => ⟨S128x4, .f32⟩
  | 61 => ⟨S4x128, .f32⟩
  | 62 => ⟨S4x64x64x128, .f32⟩
  | 63 => ⟨S4x128x128, .f32⟩
  | 64 => ⟨S4x64x64x128, .f32⟩
  | 65 => ⟨S64x128x4x64, .f32⟩
  | 66 => ⟨S_, .f32⟩
  | 67 => ⟨S4x128x128, .f32⟩
  | 68 => ⟨S4x128x128, .f32⟩
  | 69 => ⟨S8192x256, .f32⟩
  | 70 => ⟨S_, .f32⟩
  | 71 => ⟨S256, .f32⟩
  | 72 => ⟨S1x256, .f32⟩
  | 73 => ⟨S_, .f32⟩
  | 74 => ⟨S256, .f32⟩
  | 75 => ⟨S8192x256, .f32⟩
  | 76 => ⟨S_, .f32⟩
  | 77 => ⟨S256, .f32⟩
  | 78 => ⟨S1x256, .f32⟩
  | 79 => ⟨S8192x256, .f32⟩
  | 80 => ⟨S8192x256, .f32⟩
  | 81 => ⟨S_, .f32⟩
  | 82 => ⟨S256, .f32⟩
  | 83 => ⟨S8192x256, .f32⟩
  | 84 => ⟨S_, .f32⟩
  | 85 => ⟨S8192, .f32⟩
  | 86 => ⟨S8192x1, .f32⟩
  | 87 => ⟨S8192x256, .f32⟩
  | 88 => ⟨S8192x256, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x256, .f32⟩
  | 110 => ⟨S8192x256, .f32⟩
  | 111 => ⟨S8192x256, .f32⟩
  | 112 => ⟨S_, .f32⟩
  | 113 => ⟨S256, .f32⟩
  | 114 => ⟨S1x256, .f32⟩
  | 115 => ⟨S8192x256, .f32⟩
  | 116 => ⟨S8192x256, .f32⟩
  | 117 => ⟨S_, .f32⟩
  | 118 => ⟨S256, .f32⟩
  | 119 => ⟨S8192x4x64, .f32⟩
  | 120 => ⟨S4x64x8192, .f32⟩
  | 121 => ⟨S4x8192x64, .f32⟩
  | 122 => ⟨S8192x4x64, .f32⟩
  | 123 => ⟨S4x64x64, .f32⟩
  | 124 => ⟨S4x64x64, .f32⟩
  | 125 => ⟨S8192x1x64, .f32⟩
  | 126 => ⟨S8192x64, .f32⟩
  | 127 => ⟨S8192x1x64, .f32⟩
  | _ => ⟨S8192x1024, .f32⟩

abbrev hbmTy0_3 (i : Nat) : BufTy := match i % 128 with
  | 0 => ⟨S8192x64, .f32⟩
  | 1 => ⟨S8192x1x64, .f32⟩
  | 2 => ⟨S8192x64, .f32⟩
  | 3 => ⟨S8192x1x64, .f32⟩
  | 4 => ⟨S8192x64, .f32⟩
  | 5 => ⟨S8192x64, .f32⟩
  | 6 => ⟨S_, .f32⟩
  | 7 => ⟨S8192x256, .f32⟩
  | 8 => ⟨S8192x64, .f32⟩
  | 9 => ⟨S8192x64, .f32⟩
  | 10 => ⟨S8192x64, .f32⟩
  | 11 => ⟨S16x64, .f32⟩
  | 12 => ⟨S8176x64, .f32⟩
  | 13 => ⟨S_, .f32⟩
  | 14 => ⟨S8192x64, .f32⟩
  | 15 => ⟨S8192x64, .f32⟩
  | 16 => ⟨S_, .f32⟩
  | 17 => ⟨S8192x256, .f32⟩
  | 18 => ⟨S8192x64, .f32⟩
  | 19 => ⟨S_, .f32⟩
  | 20 => ⟨S8192x256, .f32⟩
  | 21 => ⟨S8192x256, .f32⟩
  | 22 => ⟨S8192x64, .f32⟩
  | 23 => ⟨S8192x64, .f32⟩
  | 24 => ⟨S8192x64, .f32⟩
  | 25 => ⟨S8x64, .f32⟩
  | 26 => ⟨S8184x64, .f32⟩
  | 27 => ⟨S_, .f32⟩
  | 28 => ⟨S8192x64, .f32⟩
  | 29 => ⟨S8192x64, .f32⟩
  | 30 => ⟨S_, .f32⟩
  | 31 => ⟨S8192x256, .f32⟩
  | 32 => ⟨S8192x256, .f32⟩
  | 33 => ⟨S8192x64, .f32⟩
  | 34 => ⟨S_, .f32⟩
  | 35 => ⟨S8192x256, .f32⟩
  | 36 => ⟨S8192x256, .f32⟩
  | 37 => ⟨S8192x64, .f32⟩
  | 38 => ⟨S8192x64, .f32⟩
  | 39 => ⟨S8192x64, .f32⟩
  | 40 => ⟨S4x64, .f32⟩
  | 41 => ⟨S8188x64, .f32⟩
  | 42 => ⟨S_, .f32⟩
  | 43 => ⟨S8192x64, .f32⟩
  | 44 => ⟨S8192x64, .f32⟩
  | 45 => ⟨S_, .f32⟩
  | 46 => ⟨S8192x256, .f32⟩
  | 47 => ⟨S8192x256, .f32⟩
  | 48 => ⟨S8192x64, .f32⟩
  | 49 => ⟨S_, .f32⟩
  | 50 => ⟨S8192x256, .f32⟩
  | 51 => ⟨S8192x256, .f32⟩
  | 52 => ⟨S8192x64, .f32⟩
  | 53 => ⟨S8192x64, .f32⟩
  | 54 => ⟨S8192x64, .f32⟩
  | 55 => ⟨S2x64, .f32⟩
  | 56 => ⟨S8190x64, .f32⟩
  | 57 => ⟨S_, .f32⟩
  | 58 => ⟨S8192x64, .f32⟩
  | 59 => ⟨S8192x64, .f32⟩
  | 60 => ⟨S_, .f32⟩
  | 61 => ⟨S8192x256, .f32⟩
  | 62 => ⟨S8192x256, .f32⟩
  | 63 => ⟨S_, .f32⟩
  | 64 => ⟨S_, .f32⟩
  | 65 => ⟨S8192x256, .f32⟩
  | 66 => ⟨S8192x256, .f32⟩
  | 67 => ⟨S8192x256, .f32⟩
  | 68 => ⟨S8192x256, .f32⟩
  | 69 => ⟨S8192x3x256, .f32⟩
  | 70 => ⟨S8192x3x256, .f32⟩
  | 71 => ⟨S_, .f32⟩
  | 72 => ⟨S3x256, .f32⟩
  | 73 => ⟨S1x3x256, .f32⟩
  | 74 => ⟨S8192x3x256, .f32⟩
  | 75 => ⟨S8192x3x256, .f32⟩
  | 76 => ⟨S_, .f32⟩
  | 77 => ⟨S3x256, .f32⟩
  | 78 => ⟨S_, .f32⟩
  | 79 => ⟨S8194x256, .f32⟩
  | 80 => ⟨S8194x256, .f32⟩
  | 81 => ⟨S2x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S_, .f32⟩
  | 90 => ⟨S256, .f32⟩
  | 91 => ⟨S1x256, .f32⟩
  | 92 => ⟨S_, .f32⟩
  | 93 => ⟨S256, .f32⟩
  | 94 => ⟨S8192x256, .f32⟩
  | 95 => ⟨S_, .f32⟩
  | 96 => ⟨S256, .f32⟩
  | 97 => ⟨S1x256, .f32⟩
  | 98 => ⟨S8192x256, .f32⟩
  | 99 => ⟨S8192x256, .f32⟩
  | 100 => ⟨S_, .f32⟩
  | 101 => ⟨S256, .f32⟩
  | 102 => ⟨S8192x256, .f32⟩
  | 103 => ⟨S_, .f32⟩
  | 104 => ⟨S8192, .f32⟩
  | 105 => ⟨S8192x1, .f32⟩
  | 106 => ⟨S8192x256, .f32⟩
  | 107 => ⟨S8192x256, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_4 (i : Nat) : BufTy := match i % 128 with
  | 0 => ⟨S8192x256, .f32⟩
  | 1 => ⟨S8192x256, .f32⟩
  | 2 => ⟨S_, .f32⟩
  | 3 => ⟨S256, .f32⟩
  | 4 => ⟨S1x256, .f32⟩
  | 5 => ⟨S_, .f32⟩
  | 6 => ⟨S256, .f32⟩
  | 7 => ⟨S8192x31x256, .f32⟩
  | 8 => ⟨S8192x31x256, .f32⟩
  | 9 => ⟨S_, .f32⟩
  | 10 => ⟨S31x256, .f32⟩
  | 11 => ⟨S1x31x256, .f32⟩
  | 12 => ⟨S8192x31x256, .f32⟩
  | 13 => ⟨S8192x31x256, .f32⟩
  | 14 => ⟨S_, .f32⟩
  | 15 => ⟨S31x256, .f32⟩
  | 16 => ⟨S_, .f32⟩
  | 17 => ⟨S8222x256, .f32⟩
  | 18 => ⟨S8222x256, .f32⟩
  | 19 => ⟨S30x256, .f32⟩
  | 20 => ⟨S8192x256, .f32⟩
  | 21 => ⟨S8192x256, .f32⟩
  | 22 => ⟨S8192x256, .f32⟩
  | 23 => ⟨S8192x256, .f32⟩
  | 24 => ⟨S8192x2048, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S_, .f32⟩
  | 33 => ⟨S1024, .f32⟩
  | 34 => ⟨S8192x1024, .f32⟩
  | 35 => ⟨S_, .f32⟩
  | 36 => ⟨S8192, .f32⟩
  | 37 => ⟨S8192x1, .f32⟩
  | 38 => ⟨S8192x1024, .f32⟩
  | 39 => ⟨S8192x1024, .f32⟩
  | 40 => ⟨S8192x1024, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S6x256, .f32⟩
  | 59 => ⟨S_, .i32⟩
  | 60 => ⟨S_, .f32⟩
  | 61 => ⟨S8x256, .f32⟩
  | 62 => ⟨S256x64, .f32⟩
  | 63 => ⟨S256x256, .f32⟩
  | 64 => ⟨S8192x2048, .bf16⟩
  | 65 => ⟨S_, .i32⟩
  | 66 => ⟨S_, .f32⟩
  | 67 => ⟨S32x256, .f32⟩
  | 68 => ⟨S_, .i32⟩
  | 69 => ⟨S_, .f32⟩
  | 70 => ⟨S8x256, .f32⟩
  | 71 => ⟨S512x128, .f32⟩
  | 72 => ⟨S128x4, .f32⟩
  | 73 => ⟨S_, .i32⟩
  | 74 => ⟨S_, .f32⟩
  | 75 => ⟨S128x128, .f32⟩
  | 76 => ⟨S1x1024, .f32⟩
  | 77 => ⟨S_, .i32⟩
  | 78 => ⟨S_, .f32⟩
  | 79 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_v86_2 : Ref sig .tc := ⟨.hbm, 128, rfl⟩
abbrev main_call0_cst_1 : Ref sig .tc := ⟨.hbm, 129, rfl⟩
abbrev main_call0_v6 : Ref sig .tc := ⟨.hbm, 130, rfl⟩
abbrev main_call0_v7 : Ref sig .tc := ⟨.hbm, 131, rfl⟩
abbrev main_v86_1 : Ref sig .tc := ⟨.hbm, 132, rfl⟩
abbrev main_v86_0 : Ref sig .tc := ⟨.hbm, 133, rfl⟩
abbrev main_v87 : Ref sig .tc := ⟨.hbm, 134, rfl⟩
abbrev main_cst_17 : Ref sig .tc := ⟨.hbm, 135, rfl⟩
abbrev main_v88 : Ref sig .tc := ⟨.hbm, 136, rfl⟩
abbrev main_v89 : Ref sig .tc := ⟨.hbm, 137, rfl⟩
abbrev main_cst_18 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_19 : Ref sig .tc := ⟨.hbm, 147, rfl⟩
abbrev main_v98 : Ref sig .tc := ⟨.hbm, 148, rfl⟩
abbrev main_v99 : Ref sig .tc := ⟨.hbm, 149, rfl⟩
abbrev main_c_20 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_21 : Ref sig .tc := ⟨.hbm, 159, rfl⟩
abbrev main_v108 : Ref sig .tc := ⟨.hbm, 160, rfl⟩
abbrev main_v109 : Ref sig .tc := ⟨.hbm, 161, rfl⟩
abbrev main_call1_call0_cst : Ref sig .tc := ⟨.hbm, 162, rfl⟩
abbrev main_call1_call0_v0 : Ref sig .tc := ⟨.hbm, 163, rfl⟩
abbrev main_v110 : Ref sig .tc := ⟨.hbm, 164, rfl⟩
abbrev main_v111 : Ref sig .tc := ⟨.hbm, 165, rfl⟩
abbrev main_cst_22 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_23 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_24 : Ref sig .tc := ⟨.hbm, 175, rfl⟩
abbrev main_v119 : Ref sig .tc := ⟨.hbm, 176, rfl⟩
abbrev main_v120 : Ref sig .tc := ⟨.hbm, 177, rfl⟩
abbrev main_cst_25 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_26 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_cst_27 : Ref sig .tc := ⟨.hbm, 190, rfl⟩
abbrev main_v131 : Ref sig .tc := ⟨.hbm, 191, rfl⟩
abbrev main_v132 : Ref sig .tc := ⟨.hbm, 192, rfl⟩
abbrev main_cst_28 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_29 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_30 : Ref sig .tc := ⟨.hbm, 205, rfl⟩
abbrev main_v143 : Ref sig .tc := ⟨.hbm, 206, rfl⟩
abbrev main_v144 : Ref sig .tc := ⟨.hbm, 207, rfl⟩
abbrev main_cst_31 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_cst_32 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_33 : Ref sig .tc := ⟨.hbm, 220, rfl⟩
abbrev main_v155 : Ref sig .tc := ⟨.hbm, 221, rfl⟩
abbrev main_v156 : Ref sig .tc := ⟨.hbm, 222, rfl⟩
abbrev main_cst_34 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_cst_35 : Ref sig .tc := ⟨.hbm, 241, rfl⟩
abbrev main_v174 : Ref sig .tc := ⟨.hbm, 242, rfl⟩
abbrev main_v175 : Ref sig .tc := ⟨.hbm, 243, rfl⟩
abbrev main_cst_36 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_37 : Ref sig .tc := ⟨.hbm, 250, rfl⟩
abbrev main_v181 : Ref sig .tc := ⟨.hbm, 251, rfl⟩
abbrev main_v182 : Ref sig .tc := ⟨.hbm, 252, rfl⟩
abbrev main_cst_38 : Ref sig .tc := ⟨.hbm, 253, rfl⟩
abbrev main_v183 : Ref sig .tc := ⟨.hbm, 254, rfl⟩
abbrev main_v184 : Ref sig .tc := ⟨.hbm, 255, rfl⟩
abbrev main_cst_39 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_cst_40 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_c_41 : Ref sig .tc := ⟨.hbm, 273, rfl⟩
abbrev main_v200 : Ref sig .tc := ⟨.hbm, 274, rfl⟩
abbrev main_call2_v0 : Ref sig .tc := ⟨.hbm, 275, rfl⟩
abbrev main_call2_c : Ref sig .tc := ⟨.hbm, 276, rfl⟩
abbrev main_call2_v1 : Ref sig .tc := ⟨.hbm, 277, rfl⟩
abbrev main_call2_v2 : Ref sig .tc := ⟨.hbm, 278, rfl⟩
abbrev main_call2_v3 : Ref sig .tc := ⟨.hbm, 279, rfl⟩
abbrev main_call2_v4 : Ref sig .tc := ⟨.hbm, 280, rfl⟩
abbrev main_call2_c_0 : Ref sig .tc := ⟨.hbm, 281, rfl⟩
abbrev main_call2_v5 : Ref sig .tc := ⟨.hbm, 282, rfl⟩
abbrev main_v201 : Ref sig .tc := ⟨.hbm, 283, rfl⟩
abbrev main_v202 : Ref sig .tc := ⟨.hbm, 284, rfl⟩
abbrev main_cst_42 : Ref sig .tc := ⟨.hbm, 285, rfl⟩
abbrev main_call3_v0 : Ref sig .tc := ⟨.hbm, 286, rfl⟩
abbrev main_v203_1 : Ref sig .tc := ⟨.hbm, 287, rfl⟩
abbrev main_call3_v2 : Ref sig .tc := ⟨.hbm, 288, rfl⟩
abbrev main_v203_0 : Ref sig .tc := ⟨.hbm, 289, rfl⟩
abbrev main_call3_cst : Ref sig .tc := ⟨.hbm, 290, rfl⟩
abbrev main_v203_2 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_cst_43 : Ref sig .tc := ⟨.hbm, 312, rfl⟩
abbrev main_v224 : Ref sig .tc := ⟨.hbm, 313, rfl⟩
abbrev main_v225 : Ref sig .tc := ⟨.hbm, 314, rfl⟩
abbrev main_cst_44 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_call4_cst : Ref sig .tc := ⟨.hbm, 322, rfl⟩
abbrev main_call4_v0 : Ref sig .tc := ⟨.hbm, 323, rfl⟩
abbrev main_v232 : Ref sig .tc := ⟨.hbm, 324, rfl⟩
abbrev main_v233 : Ref sig .tc := ⟨.hbm, 325, rfl⟩
abbrev main_cst_45 : Ref sig .tc := ⟨.hbm, 326, rfl⟩
abbrev main_v234 : Ref sig .tc := ⟨.hbm, 327, rfl⟩
abbrev main_v235 : Ref sig .tc := ⟨.hbm, 328, rfl⟩
abbrev main_cst_46 : Ref sig .tc := ⟨.hbm, 329, rfl⟩
abbrev main_v236 : Ref sig .tc := ⟨.hbm, 330, rfl⟩
abbrev main_v237 : Ref sig .tc := ⟨.hbm, 331, rfl⟩
abbrev main_cst_47 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_cst_48 : Ref sig .tc := ⟨.hbm, 337, rfl⟩
abbrev main_v242 : Ref sig .tc := ⟨.hbm, 338, rfl⟩
abbrev main_v243 : Ref sig .tc := ⟨.hbm, 339, rfl⟩
abbrev main_cst_49 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_cst_50 : Ref sig .tc := ⟨.hbm, 346, rfl⟩
abbrev main_v249 : Ref sig .tc := ⟨.hbm, 347, rfl⟩
abbrev main_v250 : Ref sig .tc := ⟨.hbm, 348, rfl⟩
abbrev main_cst_51 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_cst_52 : Ref sig .tc := ⟨.hbm, 357, rfl⟩
abbrev main_v258 : Ref sig .tc := ⟨.hbm, 358, rfl⟩
abbrev main_v259 : Ref sig .tc := ⟨.hbm, 359, rfl⟩
abbrev main_cst_53 : Ref sig .tc := ⟨.hbm, 360, rfl⟩
abbrev main_v260 : Ref sig .tc := ⟨.hbm, 361, rfl⟩
abbrev main_v261 : Ref sig .tc := ⟨.hbm, 362, rfl⟩
abbrev main_cst_54 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_cst_55 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_cst_56 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_v285 : Ref sig .tc := ⟨.hbm, 389, rfl⟩
abbrev main_cst_57 : Ref sig .tc := ⟨.hbm, 390, rfl⟩
abbrev main_v286 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_v291 : Ref sig .tc := ⟨.hbm, 396, rfl⟩
abbrev main_cst_58 : Ref sig .tc := ⟨.hbm, 397, rfl⟩
abbrev main_v292 : Ref sig .tc := ⟨.hbm, 398, rfl⟩
abbrev main_v293 : Ref sig .tc := ⟨.hbm, 399, rfl⟩
abbrev main_cst_59 : Ref sig .tc := ⟨.hbm, 400, rfl⟩
abbrev main_v294 : Ref sig .tc := ⟨.hbm, 401, rfl⟩
abbrev main_v295 : Ref sig .tc := ⟨.hbm, 402, rfl⟩
abbrev main_cst_60 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_v302 : Ref sig .tc := ⟨.hbm, 410, rfl⟩
abbrev main_cst_61 : Ref sig .tc := ⟨.hbm, 411, rfl⟩
abbrev main_v303 : Ref sig .tc := ⟨.hbm, 412, rfl⟩
abbrev main_v304 : Ref sig .tc := ⟨.hbm, 413, rfl⟩
abbrev main_cst_62 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_cst_63 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_cst_64 : Ref sig .tc := ⟨.hbm, 426, rfl⟩
abbrev main_v315 : Ref sig .tc := ⟨.hbm, 427, rfl⟩
abbrev main_v316 : Ref sig .tc := ⟨.hbm, 428, rfl⟩
abbrev main_cst_65 : Ref sig .tc := ⟨.hbm, 429, rfl⟩
abbrev main_v317 : Ref sig .tc := ⟨.hbm, 430, rfl⟩
abbrev main_v318 : Ref sig .tc := ⟨.hbm, 431, rfl⟩
abbrev main_v319 : Ref sig .tc := ⟨.hbm, 432, rfl⟩
abbrev main_cst_66 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_v326 : Ref sig .tc := ⟨.hbm, 440, rfl⟩
abbrev main_cst_67 : Ref sig .tc := ⟨.hbm, 441, rfl⟩
abbrev main_v327 : Ref sig .tc := ⟨.hbm, 442, rfl⟩
abbrev main_v328 : Ref sig .tc := ⟨.hbm, 443, rfl⟩
abbrev main_cst_68 : Ref sig .tc := ⟨.hbm, 444, rfl⟩
abbrev main_v329 : Ref sig .tc := ⟨.hbm, 445, rfl⟩
abbrev main_v330 : Ref sig .tc := ⟨.hbm, 446, rfl⟩
abbrev main_call5_call0_cst : Ref sig .tc := ⟨.hbm, 447, rfl⟩
abbrev main_call5_call0_v0 : Ref sig .tc := ⟨.hbm, 448, rfl⟩
abbrev main_v331 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_cst_69 : Ref sig .tc := ⟨.hbm, 455, rfl⟩
abbrev main_v337 : Ref sig .tc := ⟨.hbm, 456, rfl⟩
abbrev main_v338 : Ref sig .tc := ⟨.hbm, 457, rfl⟩
abbrev main_v339 : Ref sig .tc := ⟨.hbm, 458, rfl⟩
abbrev main_v340 : Ref sig .tc := ⟨.hbm, 459, rfl⟩
abbrev main_cst_70 : Ref sig .tc := ⟨.hbm, 460, rfl⟩
abbrev main_v341 : Ref sig .tc := ⟨.hbm, 461, rfl⟩
abbrev main_cst_71 : Ref sig .tc := ⟨.hbm, 462, rfl⟩
abbrev main_v342 : Ref sig .tc := ⟨.hbm, 463, rfl⟩
abbrev main_v343 : Ref sig .tc := ⟨.hbm, 464, rfl⟩
abbrev main_v344 : Ref sig .tc := ⟨.hbm, 465, rfl⟩
abbrev main_v345 : Ref sig .tc := ⟨.hbm, 466, rfl⟩
abbrev main_v346 : Ref sig .tc := ⟨.hbm, 467, rfl⟩
abbrev main_v347 : Ref sig .tc := ⟨.hbm, 468, rfl⟩
abbrev main_call6_v0 : Ref sig .tc := ⟨.hbm, 469, rfl⟩
abbrev main_call6_v1 : Ref sig .tc := ⟨.hbm, 470, rfl⟩
abbrev main_call6_v2 : Ref sig .tc := ⟨.hbm, 471, rfl⟩
abbrev main_v348 : Ref sig .tc := ⟨.hbm, 472, rfl⟩
abbrev main_cst_72 : Ref sig .tc := ⟨.hbm, 473, rfl⟩
abbrev main_v349 : Ref sig .tc := ⟨.hbm, 474, rfl⟩
abbrev main_v350 : Ref sig .tc := ⟨.hbm, 475, rfl⟩
abbrev main_cst_73 : Ref sig .tc := ⟨.hbm, 476, rfl⟩
abbrev main_v351 : Ref sig .tc := ⟨.hbm, 477, rfl⟩
abbrev main_v352 : Ref sig .tc := ⟨.hbm, 478, rfl⟩
abbrev main_cst_74 : Ref sig .tc := ⟨.hbm, 479, rfl⟩
abbrev main_v353 : Ref sig .tc := ⟨.hbm, 480, rfl⟩
abbrev main_v354 : Ref sig .tc := ⟨.hbm, 481, rfl⟩
abbrev main_v355 : Ref sig .tc := ⟨.hbm, 482, rfl⟩
abbrev main_v356 : Ref sig .tc := ⟨.hbm, 483, rfl⟩
abbrev main_cst_75 : Ref sig .tc := ⟨.hbm, 484, rfl⟩
abbrev main_v357 : Ref sig .tc := ⟨.hbm, 485, rfl⟩
abbrev main_v358 : Ref sig .tc := ⟨.hbm, 486, rfl⟩
abbrev main_cst_76 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩
abbrev main_v362 : Ref sig .tc := ⟨.hbm, 491, rfl⟩
abbrev main_v363 : Ref sig .tc := ⟨.hbm, 492, rfl⟩
abbrev main_cst_77 : Ref sig .tc := ⟨.hbm, 493, rfl⟩
abbrev main_v364 : Ref sig .tc := ⟨.hbm, 494, rfl⟩
abbrev main_v365 : Ref sig .tc := ⟨.hbm, 495, rfl⟩
abbrev main_cst_78 : Ref sig .tc := ⟨.hbm, 496, rfl⟩
abbrev main_v366 : Ref sig .tc := ⟨.hbm, 497, rfl⟩
abbrev main_v367 : Ref sig .tc := ⟨.hbm, 498, rfl⟩
abbrev main_v368 : Ref sig .tc := ⟨.hbm, 499, rfl⟩
abbrev main_v369 : Ref sig .tc := ⟨.hbm, 500, rfl⟩
abbrev main_v370 : Ref sig .tc := ⟨.hbm, 501, rfl⟩
abbrev main_v371 : Ref sig .tc := ⟨.hbm, 502, rfl⟩
abbrev main_v372 : Ref sig .tc := ⟨.hbm, 503, rfl⟩
abbrev main_cst_79 : Ref sig .tc := ⟨.hbm, 504, rfl⟩
abbrev main_v373 : Ref sig .tc := ⟨.hbm, 505, rfl⟩
abbrev main_v374 : Ref sig .tc := ⟨.hbm, 506, rfl⟩
abbrev main_cst_80 : Ref sig .tc := ⟨.hbm, 507, rfl⟩
abbrev main_v375 : Ref sig .tc := ⟨.hbm, 508, rfl⟩
abbrev main_v376 : Ref sig .tc := ⟨.hbm, 509, rfl⟩
abbrev main_cst_81 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_cst_82 : Ref sig .tc := ⟨.hbm, 514, rfl⟩
abbrev main_v380 : Ref sig .tc := ⟨.hbm, 515, rfl⟩
abbrev main_v381 : Ref sig .tc := ⟨.hbm, 516, rfl⟩
abbrev main_cst_83 : Ref sig .tc := ⟨.hbm, 517, rfl⟩
abbrev main_v382 : Ref sig .tc := ⟨.hbm, 518, rfl⟩
abbrev main_v383 : Ref sig .tc := ⟨.hbm, 519, rfl⟩
abbrev main_v384 : Ref sig .tc := ⟨.hbm, 520, rfl⟩
abbrev main_cst_84 : Ref sig .tc := ⟨.hbm, 521, rfl⟩
abbrev main_v385 : Ref sig .tc := ⟨.hbm, 522, rfl⟩
abbrev main_v386 : Ref sig .tc := ⟨.hbm, 523, rfl⟩
abbrev main_v387 : Ref sig .tc := ⟨.hbm, 524, rfl⟩
abbrev main_v388 : Ref sig .tc := ⟨.hbm, 525, rfl⟩
abbrev main_cst_85 : Ref sig .tc := ⟨.hbm, 526, rfl⟩
abbrev main_v389 : Ref sig .tc := ⟨.hbm, 527, rfl⟩
abbrev main_cst_86 : Ref sig .tc := ⟨.hbm, 528, rfl⟩
abbrev main_v390 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩
abbrev main_v397 : Ref sig .tc := ⟨.hbm, 536, rfl⟩
abbrev main_v398 : Ref sig .tc := ⟨.hbm, 537, rfl⟩
abbrev main_v399 : Ref sig .tc := ⟨.hbm, 538, rfl⟩
abbrev main_cst_87 : Ref sig .tc := ⟨.hbm, 539, rfl⟩
abbrev main_v400 : Ref sig .tc := ⟨.hbm, 540, rfl⟩
abbrev main_v401 : Ref sig .tc := ⟨.hbm, 541, rfl⟩
abbrev main_v402 : Ref sig .tc := ⟨.hbm, 542, rfl⟩
abbrev main_v403 : Ref sig .tc := ⟨.hbm, 543, rfl⟩
abbrev main_cst_88 : Ref sig .tc := ⟨.hbm, 544, rfl⟩
abbrev main_v404 : Ref sig .tc := ⟨.hbm, 545, rfl⟩
abbrev main_v405 : Ref sig .tc := ⟨.hbm, 546, rfl⟩
abbrev main_cst_89 : Ref sig .tc := ⟨.hbm, 547, rfl⟩
abbrev main_v406 : Ref sig .tc := ⟨.hbm, 548, rfl⟩
abbrev main_v407 : Ref sig .tc := ⟨.hbm, 549, rfl⟩
abbrev main_v408 : Ref sig .tc := ⟨.hbm, 550, rfl⟩
abbrev main_v409 : Ref sig .tc := ⟨.hbm, 551, rfl⟩
abbrev main_v410 : Ref sig .tc := ⟨.hbm, 552, rfl⟩
abbrev main_v411 : Ref sig .tc := ⟨.hbm, 553, rfl⟩
abbrev main_cst_90 : Ref sig .tc := ⟨.hbm, 554, rfl⟩
abbrev main_v412 : Ref sig .tc := ⟨.hbm, 555, rfl⟩
abbrev main_v413 : Ref sig .tc := ⟨.hbm, 556, rfl⟩
abbrev main_cst_91 : Ref sig .tc := ⟨.hbm, 557, rfl⟩
abbrev main_v414 : Ref sig .tc := ⟨.hbm, 558, rfl⟩
abbrev main_v415 : Ref sig .tc := ⟨.hbm, 559, rfl⟩
abbrev main_v416 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_v420 : Ref sig .tc := ⟨.hbm, 564, rfl⟩
abbrev main_v421 : Ref sig .tc := ⟨.hbm, 565, rfl⟩
abbrev main_v422 : Ref sig .tc := ⟨.hbm, 566, rfl⟩
abbrev main_v423 : Ref sig .tc := ⟨.hbm, 567, rfl⟩
abbrev main_v424 : Ref sig .tc := ⟨.hbm, 568, rfl⟩
abbrev main_v425 : Ref sig .tc := ⟨.hbm, 569, rfl⟩
abbrev main_v426 : Ref sig .tc := ⟨.hbm, 570, rfl⟩
abbrev main_c_92 : Ref sig .tc := ⟨.hbm, 571, rfl⟩
abbrev main_call7_v0 : Ref sig .tc := ⟨.hbm, 572, rfl⟩
abbrev main_v427 : Ref sig .tc := ⟨.hbm, 573, rfl⟩
abbrev main_v428 : Ref sig .tc := ⟨.hbm, 574, rfl⟩
abbrev main_v429 : Ref sig .tc := ⟨.hbm, 575, rfl⟩
abbrev main_v430 : Ref sig .tc := ⟨.hbm, 576, rfl⟩
abbrev main_c_93 : Ref sig .tc := ⟨.hbm, 577, rfl⟩
abbrev main_call8_v0 : Ref sig .tc := ⟨.hbm, 578, rfl⟩
abbrev main_v431 : Ref sig .tc := ⟨.hbm, 579, rfl⟩
abbrev main_c_94 : Ref sig .tc := ⟨.hbm, 580, rfl⟩
abbrev main_call9_v0 : Ref sig .tc := ⟨.hbm, 581, rfl⟩
abbrev main_v432 : Ref sig .tc := ⟨.hbm, 582, rfl⟩
abbrev main_v433 : Ref sig .tc := ⟨.hbm, 583, rfl⟩
abbrev main_v434 : Ref sig .tc := ⟨.hbm, 584, rfl⟩
abbrev main_c_95 : Ref sig .tc := ⟨.hbm, 585, rfl⟩
abbrev main_call10_v0 : Ref sig .tc := ⟨.hbm, 586, rfl⟩
abbrev main_v435 : Ref sig .tc := ⟨.hbm, 587, rfl⟩
abbrev main_v436 : Ref sig .tc := ⟨.hbm, 588, rfl⟩
abbrev main_c_96 : Ref sig .tc := ⟨.hbm, 589, rfl⟩
abbrev main_call11_v0 : Ref sig .tc := ⟨.hbm, 590, rfl⟩
abbrev main_v437 : Ref sig .tc := ⟨.hbm, 591, rfl⟩

abbrev nD : Nat := 1
abbrev τ : Topo := Topo.v7x

variable {F : FTy → Type} [FloatOps F]
-- ==== MixFwd.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S32x256 : Shape := ⟨2, ![32, 256]⟩
abbrev S8x256 : Shape := ⟨2, ![8, 256]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S128x128 : Shape := ⟨2, ![128, 128]⟩
abbrev S1x128x128 : Shape := ⟨3, ![1, 128, 128]⟩
abbrev S128x4x128 : Shape := ⟨3, ![128, 4, 128]⟩
abbrev S128x512 : Shape := ⟨2, ![128, 512]⟩
abbrev S512x128 : Shape := ⟨2, ![512, 128]⟩
abbrev S128x4 : Shape := ⟨2, ![128, 4]⟩
abbrev S128x4x64 : Shape := ⟨3, ![128, 4, 64]⟩
abbrev S128x256 : Shape := ⟨2, ![128, 256]⟩
abbrev S2048x1024 : Shape := ⟨2, ![2048, 1024]⟩
abbrev S8x256x1024 : Shape := ⟨3, ![8, 256, 1024]⟩
abbrev S8x128x1024 : Shape := ⟨3, ![8, 128, 1024]⟩
abbrev S8x384x1024 : Shape := ⟨3, ![8, 384, 1024]⟩
abbrev S1x1024 : Shape := ⟨2, ![1, 1024]⟩
abbrev S8192x2048 : Shape := ⟨2, ![8192, 2048]⟩
abbrev S8192x256 : Shape := ⟨2, ![8192, 256]⟩
abbrev S256x1024 : Shape := ⟨2, ![256, 1024]⟩
abbrev S256x2048 : Shape := ⟨2, ![256, 2048]⟩
abbrev S32x2048 : Shape := ⟨2, ![32, 2048]⟩
abbrev S288x256 : Shape := ⟨2, ![288, 256]⟩
abbrev S7x280x256 : Shape := ⟨3, ![7, 280, 256]⟩
abbrev S2x288x256 : Shape := ⟨3, ![2, 288, 256]⟩
abbrev S256x1 : Shape := ⟨2, ![256, 1]⟩
abbrev S280x256 : Shape := ⟨2, ![280, 256]⟩
abbrev S1x280x256 : Shape := ⟨3, ![1, 280, 256]⟩
abbrev S1x256x256 : Shape := ⟨3, ![1, 256, 256]⟩
abbrev S1x288x256 : Shape := ⟨3, ![1, 288, 256]⟩
abbrev S272x256 : Shape := ⟨2, ![272, 256]⟩
abbrev S264x256 : Shape := ⟨2, ![264, 256]⟩
abbrev S512x256 : Shape := ⟨2, ![512, 256]⟩

abbrev nBuf : Space → Nat
  | .hbm => 93
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S31x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S3x256, .f32⟩
  | .hbm, ⟨8, _⟩ => ⟨S4x64x64, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4x128x128, .f32⟩
  | .hbm, ⟨13, _⟩ => ⟨S4x128, .f32⟩
  | .hbm, ⟨14, _⟩ => ⟨S1024x1024, .f32⟩
  | .hbm, ⟨15, _⟩ => ⟨S_, .i32⟩
  | .hbm, ⟨16, _⟩ => ⟨S_, .f32⟩
  | .hbm, ⟨17, _⟩ => ⟨S32x256, .f32⟩
  | .hbm, ⟨18, _⟩ => ⟨S_, .i32⟩
  | .hbm, ⟨19, _⟩ => ⟨S_, .f32⟩
  | .hbm, ⟨20, _⟩ => ⟨S8x256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S8x256, .f32⟩
  | .hbm, ⟨34, _⟩ => ⟨S_, .f32⟩
  | .hbm, ⟨35, _⟩ => ⟨S256x256, .f32⟩
  | .hbm, ⟨36, _⟩ => ⟨S1x64x64, .f32⟩
  | .hbm, ⟨37, _⟩ => ⟨S64x64, .f32⟩
  | .hbm, ⟨38, _⟩ => ⟨S_, .i32⟩
  | .hbm, ⟨39, _⟩ => ⟨S_, .i32⟩
  | .hbm, ⟨40, _⟩ => ⟨S256x256, .f32⟩
  | .hbm, ⟨41, _⟩ => ⟨S1x64x64, .f32⟩
  | .hbm, ⟨42, _⟩ => ⟨S64x64, .f32⟩
  | .hbm, ⟨43, _⟩ => ⟨S_, .i32⟩
  | .hbm, ⟨44, _⟩ => ⟨S_, .i32⟩
  | .hbm, ⟨45, _⟩ => ⟨S256x256, .f32⟩
  | .hbm, ⟨46, _⟩ => ⟨S1x64x64, .f32⟩
  | .hbm, ⟨47, _⟩ => ⟨S64x64, .f32⟩
  | .hbm, ⟨48, _⟩ => ⟨S_, .i32⟩
  | .hbm, ⟨49, _⟩ => ⟨S_, .i32⟩
  | .hbm, ⟨50, _⟩ => ⟨S256x256, .f32⟩
  | .hbm, ⟨51, _⟩ => ⟨S1x64x64, .f32⟩
  | .hbm, ⟨52, _⟩ => ⟨S64x64, .f32⟩
  | .hbm, ⟨53, _⟩ => ⟨S_, .i32⟩
  | .hbm, ⟨54, _⟩ => ⟨S_, .i32⟩
  | .hbm, ⟨55, _⟩ => ⟨S256x256, .f32⟩
  | .hbm, ⟨56, _⟩ => ⟨S256x256, .bf16⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S_, .f32⟩
  | .hbm, ⟨71, _⟩ => ⟨S4x128x128, .i1⟩
  | .hbm, ⟨72, _⟩ => ⟨S4x128x128, .f32⟩
  | .hbm, ⟨73, _⟩ => ⟨S4x128x128, .f32⟩
  | .hbm, ⟨74, _⟩ => ⟨S4x128x128, .bf16⟩
  | .hbm, ⟨75, _⟩ => ⟨S128x4x128, .bf16⟩
  | .hbm, ⟨76, _⟩ => ⟨S128x512, .bf16⟩
  | .hbm, ⟨77, _⟩ => ⟨S4x128x128, .bf16⟩
  | .hbm, ⟨78, _⟩ => ⟨S512x128, .bf16⟩
  | .hbm, ⟨79, _⟩ => ⟨S128x4, .f32⟩
  | .hbm, ⟨80, _⟩ => ⟨S128x4x64, .f32⟩
  | .hbm, ⟨81, _⟩ => ⟨S128x256, .f32⟩
  | .hbm, ⟨82, _⟩ => ⟨S2048x1024, .f32⟩
  | .hbm, ⟨83, _⟩ => ⟨S8x256x1024, .f32⟩
  | .hbm, ⟨84, _⟩ => ⟨S8x128x1024, .f32⟩
  | .hbm, ⟨85, _⟩ => ⟨S8x384x1024, .f32⟩
  | .hbm, ⟨86, _⟩ => ⟨S8x384x1024, .bf16⟩
  | .hbm, ⟨87, _⟩ => ⟨S1x1024, .f32⟩
  | .hbm, ⟨88, _⟩ => ⟨S8192x1024, .f32⟩
  | .hbm, ⟨89, _⟩ => ⟨S8192x1024, .bf16⟩
  | .hbm, ⟨90, _⟩ => ⟨S8192x1024, .bf16⟩
  | .hbm, ⟨91, _⟩ => ⟨S8192x2048, .bf16⟩
  | .hbm, ⟨92, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x256x1024, .bf16⟩
  | .local _ .vmem, ⟨4, _⟩ => ⟨S8x128x1024, .bf16⟩
  | .local _ .vmem, ⟨5, _⟩ => ⟨S32x256, .f32⟩
  | .local _ .vmem, ⟨6, _⟩ => ⟨S8x256, .f32⟩
  | .local _ .vmem, ⟨7, _⟩ => ⟨S8x256, .f32⟩
  | .local _ .vmem, ⟨8, _⟩ => ⟨S256x256, .bf16⟩
  | .local _ .vmem, ⟨9, _⟩ => ⟨S128x512, .bf16⟩
  | .local _ .vmem, ⟨10, _⟩ => ⟨S128x256, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S256x256, .f32⟩
  | .local _ .vmem, ⟨20, _⟩ => ⟨S256x256, .f32⟩
  | .local _ .vmem, ⟨21, _⟩ => ⟨S32x2048, .bf16⟩
  | .local _ .vmem, ⟨22, _⟩ => ⟨S288x256, .f32⟩
  | .local _ .vmem, ⟨23, _⟩ => ⟨S288x256, .f32⟩
  | .local _ .vmem, ⟨24, _⟩ => ⟨S288x256, .f32⟩
  | .local _ .vmem, ⟨25, _⟩ => ⟨S7x280x256, .f32⟩
  | .local _ .vmem, ⟨26, _⟩ => ⟨S2x288x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_cst_1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_c_8 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_c_10 : Ref sig .tc := ⟨.hbm, 54, rfl⟩
abbrev main_v25 : Ref sig .tc := ⟨.hbm, 55, rfl⟩
abbrev main_v26 : Ref sig .tc := ⟨.hbm, 56, rfl⟩
abbrev main_c_11 : Ref sig .tc := ⟨.hbm, 57, rfl⟩
abbrev main_v27 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v28 : Ref sig .tc := ⟨.hbm, 67, rfl⟩
abbrev main_v29 : Ref sig .tc := ⟨.hbm, 68, rfl⟩
abbrev main_cst_12 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45_0 : Ref sig .tc := ⟨.hbm, 88, rfl⟩
abbrev main_v45_1 : Ref sig .tc := ⟨.hbm, 89, rfl⟩
abbrev main_v45_2 : Ref sig .tc := ⟨.hbm, 90, rfl⟩
abbrev main_v45_3 : Ref sig .tc := ⟨.hbm, 91, rfl⟩
abbrev main_v45_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixFwdRefIdeal.lean ====
abbrev S8192x1024 : Shape := ⟨2, ![8192, 1024]⟩
abbrev S1024 : Shape := ⟨1, ![1024]⟩
abbrev S1024x2048 : Shape := ⟨2, ![1024, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x256 : Shape := ⟨2, ![8192, 256]⟩
abbrev S30x256 : Shape := ⟨2, ![30, 256]⟩
abbrev S8222x256 : Shape := ⟨2, ![8222, 256]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S8192x31x256 : Shape := ⟨3, ![8192, 31, 256]⟩
abbrev S1x31x256 : Shape := ⟨3, ![1, 31, 256]⟩
abbrev S1x256 : Shape := ⟨2, ![1, 256]⟩
abbrev S2x256 : Shape := ⟨2, ![2, 256]⟩
abbrev S8194x256 : Shape := ⟨2, ![8194, 256]⟩
abbrev S3 : Shape := ⟨1, ![3]⟩
abbrev S1x3 : Shape := ⟨2, ![1, 3]⟩
abbrev S8192x3 : Shape := ⟨2, ![8192, 3]⟩
abbrev S8192x3x1 : Shape := ⟨3, ![8192, 3, 1]⟩
abbrev S8192x3x256 : Shape := ⟨3, ![8192, 3, 256]⟩
abbrev S1x3x256 : Shape := ⟨3, ![1, 3, 256]⟩
abbrev S8192x64 : Shape := ⟨2, ![8192, 64]⟩
abbrev S2x64 : Shape := ⟨2, ![2, 64]⟩
abbrev S8190x64 : Shape := ⟨2, ![8190, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1x64 : Shape := ⟨3, ![8192, 1, 64]⟩
abbrev S8192x4x64 : Shape := ⟨3, ![8192, 4, 64]⟩
abbrev S4x64x8192 : Shape := ⟨3, ![4, 64, 8192]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 268
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S31x256, .f32⟩
  | 4 => ⟨S256, .f32⟩
  | 5 => ⟨S256, .f32⟩
  | 6 => ⟨S256, .f32⟩
  | 7 => ⟨S3x256, .f32⟩
  | 8 => ⟨S4x64x64, .f32⟩
  | 9 => ⟨S256, .f32⟩
  | 10 => ⟨S256, .f32⟩
  | 11 => ⟨S256, .f32⟩
  | 12 => ⟨S4x128x128, .f32⟩
  | 13 => ⟨S4x128, .f32⟩
  | 14 => ⟨S1024x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2048, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S8192x256, .f32⟩
  | 49 => ⟨S_, .f32⟩
  | 50 => ⟨S30x256, .f32⟩
  | 51 => ⟨S8222x256, .f32⟩
  | 52 => ⟨S8192, .i32⟩
  | 53 => ⟨S8192x1, .i32⟩
  | 54 => ⟨S31, .i32⟩
  | 55 => ⟨S1x31, .i32⟩
  | 56 => ⟨S8192x31, .i32⟩
  | 57 => ⟨S8192x31, .i32⟩
  | 58 => ⟨S8192x31, .i32⟩
  | 59 => ⟨S_, .i32⟩
  | 60 => ⟨S8192x31, .i32⟩
  | 61 => ⟨S8192x31, .i1⟩
  | 62 => ⟨S_, .i32⟩
  | 63 => ⟨S8192x31, .i32⟩
  | 64 => ⟨S8192x31, .i32⟩
  | 65 => ⟨S8192x31, .i32⟩
  | 66 => ⟨S8192x31x1, .i32⟩
  | 67 => ⟨S8192x31x256, .f32⟩
  | 68 => ⟨S1x31x256, .f32⟩
  | 69 => ⟨S8192x31x256, .f32⟩
  | 70 => ⟨S8192x31x256, .f32⟩
  | 71 => ⟨S_, .f32⟩
  | 72 => ⟨S8192x256, .f32⟩
  | 73 => ⟨S1x256, .f32⟩
  | 74 => ⟨S8192x256, .f32⟩
  | 75 => ⟨S8192x256, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S8192x256, .f32⟩
  | 83 => ⟨S8192x256, .f32⟩
  | 84 => ⟨S8192x256, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x256, .f32⟩
  | 96 => ⟨S8192x256, .f32⟩
  | 97 => ⟨S1x256, .f32⟩
  | 98 => ⟨S8192x256, .f32⟩
  | 99 => ⟨S8192x256, .f32⟩
  | 100 => ⟨S1x256, .f32⟩
  | 101 => ⟨S8192x256, .f32⟩
  | 102 => ⟨S8192x256, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S8192x256, .f32⟩
  | 112 => ⟨S8192x256, .f32⟩
  | 113 => ⟨S_, .f32⟩
  | 114 => ⟨S2x256, .f32⟩
  | 115 => ⟨S8194x256, .f32⟩
  | 116 => ⟨S8192, .i32⟩
  | 117 => ⟨S8192x1, .i32⟩
  | 118 => ⟨S3, .i32⟩
  | 119 => ⟨S1x3, .i32⟩
  | 120 => ⟨S8192x3, .i32⟩
  | 121 => ⟨S8192x3, .i32⟩
  | 122 => ⟨S8192x3, .i32⟩
  | 123 => ⟨S_, .i32⟩
  | 124 => ⟨S8192x3, .i32⟩
  | 125 => ⟨S8192x3, .i1⟩
  | 126 => ⟨S_, .i32⟩
  | 127 => ⟨S8192x3, .i32⟩
  | _ => ⟨S8192x1024, .f32⟩

abbrev hbmTy0_1 (i : Nat) : BufTy := match i % 128 with
  | 0 => ⟨S8192x3, .i32⟩
  | 1 => ⟨S8192x3, .i32⟩
  | 2 => ⟨S8192x3x1, .i32⟩
  | 3 => ⟨S8192x3x256, .f32⟩
  | 4 => ⟨S1x3x256, .f32⟩
  | 5 => ⟨S8192x3x256, .f32⟩
  | 6 => ⟨S8192x3x256, .f32⟩
  | 7 => ⟨S_, .f32⟩
  | 8 => ⟨S8192x256, .f32⟩
  | 9 => ⟨S8192x256, .f32⟩
  | 10 => ⟨S_, .f32⟩
  | 11 => ⟨S_, .f32⟩
  | 12 => ⟨S8192x256, .f32⟩
  | 13 => ⟨S8192, .f32⟩
  | 14 => ⟨S_, .f32⟩
  | 15 => ⟨S8192, .f32⟩
  | 16 => ⟨S8192, .f32⟩
  | 17 => ⟨S8192x1, .f32⟩
  | 18 => ⟨S8192x64, .f32⟩
  | 19 => ⟨S_, .f32⟩
  | 20 => ⟨S2x64, .f32⟩
  | 21 => ⟨S8190x64, .f32⟩
  | 22 => ⟨S8192x64, .f32⟩
  | 23 => ⟨S8192x64, .f32⟩
  | 24 => ⟨S_, .f32⟩
  | 25 => ⟨S8192x1, .f32⟩
  | 26 => ⟨S8192x1, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S_, .f32⟩
  | 33 => ⟨S4x64, .f32⟩
  | 34 => ⟨S8188x64, .f32⟩
  | 35 => ⟨S8192x64, .f32⟩
  | 36 => ⟨S8192x64, .f32⟩
  | 37 => ⟨S_, .f32⟩
  | 38 => ⟨S8192x1, .f32⟩
  | 39 => ⟨S8192x1, .f32⟩
  | 40 => ⟨S8192x64, .f32⟩
  | 41 => ⟨S8192x64, .f32⟩
  | 42 => ⟨S8192x64, .f32⟩
  | 43 => ⟨S8192x64, .f32⟩
  | 44 => ⟨S8192x64, .f32⟩
  | 45 => ⟨S_, .f32⟩
  | 46 => ⟨S8x64, .f32⟩
  | 47 => ⟨S8184x64, .f32⟩
  | 48 => ⟨S8192x64, .f32⟩
  | 49 => ⟨S8192x64, .f32⟩
  | 50 => ⟨S_, .f32⟩
  | 51 => ⟨S8192x1, .f32⟩
  | 52 => ⟨S8192x1, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S_, .f32⟩
  | 59 => ⟨S16x64, .f32⟩
  | 60 => ⟨S8176x64, .f32⟩
  | 61 => ⟨S8192x64, .f32⟩
  | 62 => ⟨S8192x64, .f32⟩
  | 63 => ⟨S_, .f32⟩
  | 64 => ⟨S8192x1, .f32⟩
  | 65 => ⟨S8192x1, .f32⟩
  | 66 => ⟨S8192x64, .f32⟩
  | 67 => ⟨S8192x64, .f32⟩
  | 68 => ⟨S8192x64, .f32⟩
  | 69 => ⟨S8192x64, .f32⟩
  | 70 => ⟨S8192x1x64, .f32⟩
  | 71 => ⟨S8192x1x64, .f32⟩
  | 72 => ⟨S8192x1x64, .f32⟩
  | 73 => ⟨S8192x1x64, .f32⟩
  | 74 => ⟨S8192x4x64, .f32⟩
  | 75 => ⟨S4x64x8192, .f32⟩
  | 76 => ⟨S8192x4x64, .f32⟩
  | 77 => ⟨S8192x256, .f32⟩
  | 78 => ⟨S1x256, .f32⟩
  | 79 => ⟨S8192x256, .f32⟩
  | 80 => ⟨S8192x256, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S8192x256, .f32⟩
  | 88 => ⟨S8192x256, .f32⟩
  | 89 => ⟨S8192x256, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1, .f32⟩
  | 100 => ⟨S8192x256, .f32⟩
  | 101 => ⟨S8192x256, .f32⟩
  | 102 => ⟨S1x256, .f32⟩
  | 103 => ⟨S8192x256, .f32⟩
  | 104 => ⟨S8192x256, .f32⟩
  | 105 => ⟨S1x256, .f32⟩
  | 106 => ⟨S8192x256, .f32⟩
  | 107 => ⟨S8192x256, .f32⟩
  | 108 => ⟨S64x128x4x64, .f32⟩
  | 109 => ⟨S_, .i1⟩
  | 110 => ⟨S128x128, .i1⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .i1⟩
  | 118 => ⟨S128x128, .i1⟩
  | 119 => ⟨S128x128, .i1⟩
  | 120 => ⟨S1x128x128, .i1⟩
  | 121 => ⟨S_, .f32⟩
  | 122 => ⟨S_, .f32⟩
  | 123 => ⟨S4x128x128, .i1⟩
  | 124 => ⟨S4x128x128, .f32⟩
  | 125 => ⟨S4x128x128, .f32⟩
  | 126 => ⟨S4x64x64x128, .f32⟩
  | 127 => ⟨S64x128x4x64, .f32⟩
  | _ => ⟨S8192x1024, .f32⟩

abbrev hbmTy0_2 (i : Nat) : BufTy := match i % 128 with
  | 0 => ⟨S128x4, .f32⟩
  | 1 => ⟨S1x128x4x1, .f32⟩
  | 2 => ⟨S64x128x4x64, .f32⟩
  | 3 => ⟨S64x128x4x64, .f32⟩
  | 4 => ⟨S8192x256, .f32⟩
  | 5 => ⟨S8192x256, .f32⟩
  | 6 => ⟨S8192x1024, .f32⟩
  | 7 => ⟨S8192x1024, .f32⟩
  | 8 => ⟨S8192x1024, .f32⟩
  | 9 => ⟨S8192x1024, .bf16⟩
  | 10 => ⟨S8192x1024, .bf16⟩
  | 11 => ⟨S8192x2048, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_call0_v5 : Ref sig .tc := ⟨.hbm, 110, rfl⟩
abbrev main_v74 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_13 : Ref sig .tc := ⟨.hbm, 123, rfl⟩
abbrev main_v85 : Ref sig .tc := ⟨.hbm, 124, rfl⟩
abbrev main_v86 : Ref sig .tc := ⟨.hbm, 125, rfl⟩
abbrev main_c_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_15 : Ref sig .tc := ⟨.hbm, 135, rfl⟩
abbrev main_v95 : Ref sig .tc := ⟨.hbm, 136, rfl⟩
abbrev main_v96 : Ref sig .tc := ⟨.hbm, 137, rfl⟩
abbrev main_call1_call0_cst : Ref sig .tc := ⟨.hbm, 138, rfl⟩
abbrev main_call1_call0_v0 : Ref sig .tc := ⟨.hbm, 139, rfl⟩
abbrev main_v97 : Ref sig .tc := ⟨.hbm, 140, rfl⟩
abbrev main_v98 : Ref sig .tc := ⟨.hbm, 141, rfl⟩
abbrev main_cst_16 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_18 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_19 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_20 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_21 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_22 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_23 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_24 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_25 : Ref sig .tc := ⟨.hbm, 209, rfl⟩
abbrev main_v157 : Ref sig .tc := ⟨.hbm, 210, rfl⟩
abbrev main_v158 : Ref sig .tc := ⟨.hbm, 211, rfl⟩
abbrev main_cst_26 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_27 : Ref sig .tc := ⟨.hbm, 218, rfl⟩
abbrev main_v164 : Ref sig .tc := ⟨.hbm, 219, rfl⟩
abbrev main_v165 : Ref sig .tc := ⟨.hbm, 220, rfl⟩
abbrev main_cst_28 : Ref sig .tc := ⟨.hbm, 221, rfl⟩
abbrev main_v166 : Ref sig .tc := ⟨.hbm, 222, rfl⟩
abbrev main_v167 : Ref sig .tc := ⟨.hbm, 223, rfl⟩
abbrev main_cst_29 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_c_30 : Ref sig .tc := ⟨.hbm, 237, rfl⟩
abbrev main_v180 : Ref sig .tc := ⟨.hbm, 238, rfl⟩
abbrev main_call2_v0 : Ref sig .tc := ⟨.hbm, 239, rfl⟩
abbrev main_call2_c : Ref sig .tc := ⟨.hbm, 240, rfl⟩
abbrev main_call2_v1 : Ref sig .tc := ⟨.hbm, 241, rfl⟩
abbrev main_call2_v2 : Ref sig .tc := ⟨.hbm, 242, rfl⟩
abbrev main_call2_v3 : Ref sig .tc := ⟨.hbm, 243, rfl⟩
abbrev main_call2_v4 : Ref sig .tc := ⟨.hbm, 244, rfl⟩
abbrev main_call2_c_0 : Ref sig .tc := ⟨.hbm, 245, rfl⟩
abbrev main_call2_v5 : Ref sig .tc := ⟨.hbm, 246, rfl⟩
abbrev main_v181 : Ref sig .tc := ⟨.hbm, 247, rfl⟩
abbrev main_v182 : Ref sig .tc := ⟨.hbm, 248, rfl⟩
abbrev main_cst_31 : Ref sig .tc := ⟨.hbm, 249, rfl⟩
abbrev main_call3_v0 : Ref sig .tc := ⟨.hbm, 250, rfl⟩
abbrev main_call3_v1 : Ref sig .tc := ⟨.hbm, 251, rfl⟩
abbrev main_call3_v2 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 16
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x1056x1024, .f32⟩
  | .hbm, ⟨11, _⟩ => ⟨S8x1056x1024, .bf16⟩
  | .hbm, ⟨12, _⟩ => ⟨S1x1024, .f32⟩
  | .hbm, ⟨13, _⟩ => ⟨S8192x1024, .f32⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .bf16⟩
  | .hbm, ⟨56, _⟩ => ⟨S8192x2816, .f32⟩
  | .hbm, ⟨57, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Wgrad.lean ====
abbrev S8192x2816 : Shape := ⟨2, ![8192, 2816]⟩
abbrev S8192x1024 : Shape := ⟨2, ![8192, 1024]⟩
abbrev S8x1056x1024 : Shape := ⟨3, ![8, 1056, 1024]⟩
abbrev S1024x2816 : Shape := ⟨2, ![1024, 2816]⟩
abbrev S1024x1024 : Shape := ⟨2, ![1024, 1024]⟩
abbrev S8x352x1024 : Shape := ⟨3, ![8, 352, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x1056x1024, .bf16⟩
  | .hbm, ⟨3, _⟩ => ⟨S8x1056x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradRefIdeal.lean ====
abbrev S8192x2816 : Shape := ⟨2, ![8192, 2816]⟩
abbrev S8192x1024 : Shape := ⟨2, ![8192, 1024]⟩
abbrev S8x1056x1024 : Shape := ⟨3, ![8, 1056, 1024]⟩
abbrev S_ : Shape := ⟨0, ![]⟩
abbrev S2816x1024 : Shape := ⟨2, ![2816, 1024]⟩
abbrev S1024x2816 : Shape := ⟨2, ![1024, 2816]⟩
abbrev S8x704x1024 : Shape := ⟨3, ![8, 704, 1024]⟩
abbrev S8x352x1024 : Shape := ⟨3, ![8, 352, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x1056x1024, .bf16⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S8x704x1024, .bf16⟩
  | .hbm, ⟨16, _⟩ => ⟨S2816x1024, .bf16⟩
  | .hbm, ⟨17, _⟩ => ⟨S8x352x1024, .bf16⟩
  | .hbm, ⟨18, _⟩ => ⟨S8x1056x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Adam.lean ====
abbrev S4x4x128x128 : Shape := ⟨4, ![4, 4, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sums.lean ====
abbrev S8x304x1024 : Shape := ⟨3, ![8, 304, 1024]⟩
abbrev S304x1024 : Shape := ⟨2, ![304, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x304x1024, .f32⟩
  | .hbm, ⟨1, _⟩ => ⟨S304x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsRefIdeal.lean ====
abbrev S8x304x1024 : Shape := ⟨3, ![8, 304, 1024]⟩
abbrev S_ : Shape := ⟨0, ![]⟩
abbrev S304x1024 : Shape := ⟨2, ![304, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x304x1024, .f32⟩
  | .hbm, ⟨1, _⟩ => ⟨S_, .f32⟩
  | .hbm, ⟨2, _⟩ => ⟨S304x1024, .f32⟩
  | _, _ => ⟨S8x304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Base.lean ====
/- Real-valued arrays as arrays of extended reals: an array whose elements are all finite is one, and the float
   operations on such arrays are the operations on the reals. The arrays are functions of plain numbers, so that a
   tile of an array is the same function at an offset. -/
module

public import Idealize.ShloMosaic.Lib.Pointwise
public import Idealize.ShloMosaic.Lib.IdealHost
public import Idealize.ShloMosaic.Lib.ReduceAll
public import Idealize.ShloMosaic.PureOps.Ideal.Laws

@[expose] public section

noncomputable section

namespace Cert.Base

open Idealize.ShloMosaic

/-- A row of reals, as an array of extended reals. -/
def co1 {n : ℕ} (X : ℕ → ℝ) : (⟨1, ![n]⟩ : Shape).Idx → EReal := fun i => ((X (i 0).val : ℝ) : EReal)
/-- A matrix of reals, as an array of extended reals. -/
def co2 {m n : ℕ} (X : ℕ → ℕ → ℝ) : (⟨2, ![m, n]⟩ : Shape).Idx → EReal := fun i => ((X (i 0).val (i 1).val : ℝ) : EReal)
/-- A stack of matrices of reals, as an array of extended reals. -/
def co3 {l m n : ℕ} (X : ℕ → ℕ → ℕ → ℝ) : (⟨3, ![l, m, n]⟩ : Shape).Idx → EReal :=
  fun i => ((X (i 0).val (i 1).val (i 2).val : ℝ) : EReal)
/-- The same with four coordinates. -/
def co4 {k l m n : ℕ} (X : ℕ → ℕ → ℕ → ℕ → ℝ) : (⟨4, ![k, l, m, n]⟩ : Shape).Idx → EReal :=
  fun i => ((X (i 0).val (i 1).val (i 2).val (i 3).val : ℝ) : EReal)

theorem co1_apply {n : ℕ} (X : ℕ → ℝ) (i : (⟨1, ![n]⟩ : Shape).Idx) : co1 X i = ((X (i 0).val : ℝ) : EReal) := rfl
theorem co2_apply {m n : ℕ} (X : ℕ → ℕ → ℝ) (i : (⟨2, ![m, n]⟩ : Shape).Idx) :
    co2 X i = ((X (i 0).val (i 1).val : ℝ) : EReal) := rfl
theorem co3_apply {l m n : ℕ} (X : ℕ → ℕ → ℕ → ℝ) (i : (⟨3, ![l, m, n]⟩ : Shape).Idx) :
    co3 X i = ((X (i 0).val (i 1).val (i 2).val : ℝ) : EReal) := rfl
theorem co4_apply {k l m n : ℕ} (X : ℕ → ℕ → ℕ → ℕ → ℝ) (i : (⟨4, ![k, l, m, n]⟩ : Shape).Idx) :
    co4 X i = ((X (i 0).val (i 1).val (i 2).val (i 3).val : ℝ) : EReal) := rfl

/-- Neither infinity. -/
def Fin' {s : Shape} (A : s.Idx → EReal) : Prop := ∀ i, A i ≠ ⊥ ∧ A i ≠ ⊤

theorem exists_co1 {n : ℕ} (A : (⟨1, ![n]⟩ : Shape).Idx → EReal) (h : Fin' A) : ∃ X, A = co1 X := by
  refine ⟨fun t => if ht : t < n then (A (ValueIdx.ix1 ⟨t, ht⟩)).toReal else 0, funext fun i => ?_⟩
  have ht : (i 0).val < n := (i 0).isLt
  rw [co1_apply, dif_pos ht, show ValueIdx.ix1 ⟨(i 0).val, ht⟩ = i from (ValueIdx.eq_ix1 i).symm,
    EReal.coe_toReal (h i).2 (h i).1]

theorem exists_co2 {m n : ℕ} (A : (⟨2, ![m, n]⟩ : Shape).Idx → EReal) (h : Fin' A) : ∃ X, A = co2 X := by
  refine ⟨fun t j => if hh : t < m ∧ j < n then (A (ValueIdx.ix2 ⟨t, hh.1⟩ ⟨j, hh.2⟩)).toReal else 0, funext fun i => ?_⟩
  have ht : (i 0).val < m ∧ (i 1).val < n := ⟨(i 0).isLt, (i 1).isLt⟩
  rw [co2_apply, dif_pos ht, show ValueIdx.ix2 ⟨(i 0).val, ht.1⟩ ⟨(i 1).val, ht.2⟩ = i from (ValueIdx.eq_ix2 i).symm,
    EReal.coe_toReal (h i).2 (h i).1]

theorem exists_co3 {l m n : ℕ} (A : (⟨3, ![l, m, n]⟩ : Shape).Idx → EReal) (h : Fin' A) : ∃ X, A = co3 X := by
  refine ⟨fun t j k => if hh : t < l ∧ j < m ∧ k < n then (A (ValueIdx.ix3 ⟨t, hh.1⟩ ⟨j, hh.2.1⟩ ⟨k, hh.2.2⟩)).toReal else 0,
    funext fun i => ?_⟩
  have ht : (i 0).val < l ∧ (i 1).val < m ∧ (i 2).val < n := ⟨(i 0).isLt, (i 1).isLt, (i 2).isLt⟩
  rw [co3_apply, dif_pos ht,
    show ValueIdx.ix3 ⟨(i 0).val, ht.1⟩ ⟨(i 1).val, ht.2.1⟩ ⟨(i 2).val, ht.2.2⟩ = i from (ValueIdx.eq_ix3 i).symm,
    EReal.coe_toReal (h i).2 (h i).1]

/-- A sum of reals, summed as extended reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, EReal.coe_add, ih]

/-- The small constant added under the square roots. -/
def eps : ℝ := 8796093 / 8796093022208

theorem eps_pos : 0 < eps := by unfold eps; norm_num

theorem bits_eps : Ideal.ofBits .f32 0x358637BD#32 = ((eps : ℝ) : EReal) := by
  unfold eps; simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_neg_one : Ideal.ofBits .f32 0xBF800000#32 = ((-1 : ℝ) : EReal) := by
  simp [Ideal.ofBits, Ideal.ieee, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

/-- A quotient of reals by a real that is not zero. -/
theorem div_coe_coe (x y : ℝ) (h : y ≠ 0) : Ideal.div (x : EReal) (y : EReal) = ((x / y : ℝ) : EReal) := by
  rw [Ideal.div_coe h, ← EReal.coe_mul, mul_one_div]

/-- The reciprocal square root of a positive real. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The logistic function on the reals. -/
def sg (x : ℝ) : ℝ := (1 + Real.exp (-x))⁻¹

theorem one_add_exp_pos (x : ℝ) : 0 < 1 + Real.exp (-x) := by positivity

/-- Half a hyperbolic tangent of half the argument, plus a half, is the logistic function. -/
theorem sg_tanh (x : ℝ) : 1 / 2 * Real.tanh (1 / 2 * x) + 1 / 2 = sg x := by
  unfold sg
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  set a := Real.exp (1 / 2 * x) with ha
  set b := Real.exp (-(1 / 2 * x)) with hb
  have pa : 0 < a := Real.exp_pos _
  have pb : 0 < b := Real.exp_pos _
  have hs : a + b ≠ 0 := by positivity
  have hq : 1 + b * b ≠ 0 := by positivity
  field_simp
  linear_combination (2 * b) * h2

theorem one_add_exp_ne (x : ℝ) : (1 + Real.exp (-x)) ≠ 0 := (one_add_exp_pos x).ne'

theorem one_div_sg (x : ℝ) : 1 / (1 + Real.exp (-x)) = sg x := one_div _

theorem neg_co (x : ℝ) : -((x : ℝ) : EReal) = ((-x : ℝ) : EReal) := rfl
theorem sub_co (x y : ℝ) : ((x : ℝ) : EReal) - ((y : ℝ) : EReal) = ((x - y : ℝ) : EReal) := rfl

/-- The mean of squares along a row, plus the small constant; its reciprocal root; and the normalized row. -/
def ms (X : ℕ → ℕ → ℝ) (t : ℕ) : ℝ := (∑ k : Fin 1024, X t k * X t k) / 1024 + eps
def rs (X : ℕ → ℕ → ℝ) (t : ℕ) : ℝ := (√(ms X t))⁻¹
def xh (X : ℕ → ℕ → ℝ) (t j : ℕ) : ℝ := X t j * rs X t

theorem ms_pos (X : ℕ → ℕ → ℝ) (t : ℕ) : 0 < ms X t :=
  add_pos_of_nonneg_of_pos (div_nonneg (Finset.sum_nonneg fun _ _ => mul_self_nonneg _) (by norm_num)) eps_pos
theorem ms_ne (X : ℕ → ℕ → ℝ) (t : ℕ) : ms X t ≠ 0 := (ms_pos X t).ne'
theorem rsqrt_ms (X : ℕ → ℕ → ℝ) (t : ℕ) : Ideal.rsqrt ((ms X t : ℝ) : EReal) = ((rs X t : ℝ) : EReal) := rsqrt_pos _ (ms_pos X t)
/-- The cube of the reciprocal root. -/
theorem rs_div (X : ℕ → ℕ → ℝ) (t : ℕ) : rs X t / ms X t = rs X t * (rs X t * rs X t) := by
  have h : rs X t * rs X t = (ms X t)⁻¹ := by unfold rs; rw [← mul_inv, Real.mul_self_sqrt (ms_pos X t).le]
  rw [h, div_eq_mul_inv]

/-- A conjunction over all elements of an array, that each is above minus infinity and below infinity, says that no
    element is an infinity. -/
theorem finite_of_reduce {s : Shape} {axes : List (Fin s.rank)} (A : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (e : Host.reduce IntOp.andi
      (andi (cmpf .ogt A (broadcastInDim s ![] hb (constant (F := Ideal) ⟨0, ![]⟩ .f32 0xFF800000#32)))
        (cmpf .olt A (broadcastInDim s ![] hb (constant (F := Ideal) ⟨0, ![]⟩ .f32 0x7F800000#32))))
      (constantI ⟨0, ![]⟩ 1 1#1) hr hu ValueIdx.ix0 = 1#1) : Fin' A := by
  intro i
  haveI : Subsingleton (⟨0, ![]⟩ : Shape).Idx := ⟨fun a b => funext fun k => k.elim0⟩
  have h := Host.reduce_andi_all _ _ hr hu _ e i
  have h' : IntOp.andi (Ideal.cmp .ogt (A i) (Ideal.ofBits .f32 0xFF800000#32)) (Ideal.cmp .olt (A i) (Ideal.ofBits .f32 0x7F800000#32)) = 1#1 := h
  rw [bits_bot, bits_top] at h'
  have split : ∀ p q : Bool, IntOp.andi (BitVec.ofBool p) (BitVec.ofBool q) = 1#1 → p = true ∧ q = true := by decide
  obtain ⟨p, q⟩ := split _ _ h'
  exact ⟨(of_decide_eq_true p).ne', (of_decide_eq_true q).ne⟩

/-- A conjunction of two bits that is one. -/
theorem and_split {a b : IVec ⟨0, ![]⟩ 1} (h : andi a b = fun _ => 1#1) : a = (fun _ => 1#1) ∧ b = fun _ => 1#1 := by
  have split : ∀ p q : BitVec 1, IntOp.andi p q = 1#1 → p = 1#1 ∧ q = 1#1 := by decide
  exact ⟨funext fun i => (split _ _ (congrFun h i)).1, funext fun i => (split _ _ (congrFun h i)).2⟩

/-- A matrix product of reals, as a sum over `n` terms. -/
def dot (n : ℕ) (f g : ℕ → ℝ) : ℝ := ∑ k : Fin n, f k.val * g k.val

end Cert.Base

end
-- ==== Proof.Blocks.lean ====
/- Reading a tile: what a load takes out of a real array and what a list of stores leaves, as real arrays again. -/
module

public import proofs.«01_k».proof.Proof.Base
public import Idealize.ShloMosaic.Lib.Pipeline.Value
public import Idealize.ShloMosaic.Lib.Pipeline.ValueKit.Tiles

@[expose] public section

noncomputable section

namespace Cert.Base

open Idealize.ShloMosaic

/-- A box of a real matrix. -/
theorem idx_co2 {m n a b m' n' : ℕ} (h) (Y : ℕ → ℕ → ℝ) (x : (Rect.unit (s := ⟨2, ![m, n]⟩) ![a, b] ![m', n'] h).shape.Idx) :
    co2 Y ((Rect.unit (s := ⟨2, ![m, n]⟩) ![a, b] ![m', n'] h).idx x) = co2 (m := m') (n := n') (fun t j => Y (a + t) (b + j)) x := by
  simp only [co2_apply, Rect.idx_unit_val]; rfl

/-- A place of an array, from a place of a block that sits `a` rows down. -/
theorem co2_at {m n m' n' a : ℕ} (Y : ℕ → ℕ → ℝ) (e : (⟨2, ![m, n]⟩ : Shape).Idx) (x : (⟨2, ![m', n']⟩ : Shape).Idx)
    (h0 : (e 0).val = a + (x 0).val) (h1 : (e 1).val = (x 1).val) : co2 Y e = co2 (fun r k => Y (a + r) k) x := by
  rw [co2_apply, co2_apply, h0, h1]

theorem idx_co3 {l m n a b c l' m' n' : ℕ} (h) (Y : ℕ → ℕ → ℕ → ℝ)
    (x : (Rect.unit (s := ⟨3, ![l, m, n]⟩) ![a, b, c] ![l', m', n'] h).shape.Idx) :
    co3 Y ((Rect.unit (s := ⟨3, ![l, m, n]⟩) ![a, b, c] ![l', m', n'] h).idx x)
      = co3 (l := l') (m := m') (n := n') (fun i t j => Y (a + i) (b + t) (c + j)) x := by
  simp only [co3_apply, Rect.idx_unit_val]; rfl

/-- A load of a box of a real matrix, in either float format. -/
theorem ld_f32 {m n a b m' n' : ℕ} (h) (Y : ℕ → ℕ → ℝ) :
    View.ld (Val := Elt Ideal) (e' := .f32) (S := ⟨2, ![m, n]⟩) (co2 Y) (Rect.unit ![a, b] ![m', n'] h)
      = co2 (m := m') (n := n') fun t j => Y (a + t) (b + j) := funext fun x => idx_co2 h Y x
theorem ld_bf16 {m n a b m' n' : ℕ} (h) (Y : ℕ → ℕ → ℝ) :
    View.ld (Val := Elt Ideal) (e' := .bf16) (S := ⟨2, ![m, n]⟩) (co2 Y) (Rect.unit ![a, b] ![m', n'] h)
      = co2 (m := m') (n := n') fun t j => Y (a + t) (b + j) := funext fun x => idx_co2 h Y x
theorem ld3_bf16 {l m n a b c l' m' n' : ℕ} (h) (Y : ℕ → ℕ → ℕ → ℝ) :
    View.ld (Val := Elt Ideal) (e' := .bf16) (S := ⟨3, ![l, m, n]⟩) (co3 Y) (Rect.unit ![a, b, c] ![l', m', n'] h)
      = co3 (l := l') (m := m') (n := n') fun i t j => Y (a + i) (b + t) (c + j) := funext fun x => idx_co3 h Y x

/-- Stores that cover an array and that all agree with one array leave that array. -/
theorem read_writes_eq {Val : EltTy → Type} [∀ e, Nonempty (Val e)] {sig : RefSig} {κ : Kind} {sp : Space} {s : Shape} {e : EltTy}
    (v : View sig κ sp s e) (f : v.ty.Contents Val) (L : List (View.Piece Val s e)) (hc : ∀ y, ∃ p ∈ L, y ∈ p.1.set)
    (G : s.Idx → Val e) (hG : ∀ p ∈ L, ∀ x : p.1.shape.Idx, p.2 x = G (p.1.idx x)) : v.read Val (v.writes Val f L) = G :=
  (View.read_writes_eq_canon v f L hc).trans (funext fun y => View.canon_apply_of_pieces G L hG y (hc y))

/-- An array set to a real matrix as a whole. -/
theorem canon_whole {e : EltTy} [∀ e, Nonempty (Elt Ideal e)] {m n : ℕ} (h) (P : (⟨2, ![m, n]⟩ : Shape).Idx → Elt Ideal e) (L) :
    View.canon (Val := Elt Ideal) (s := ⟨2, ![m, n]⟩) (⟨Rect.unit ![0, 0] ![m, n] h, P⟩ :: L) = P :=
  View.canon_cons_unit_zero (S := ⟨2, ![m, n]⟩) (funext fun a => by fin_cases a <;> rfl) h P L

/-- A box read back from an array set as a whole. -/
theorem readCov_whole [∀ e, Nonempty (Elt Ideal e)] {sig : RefSig} {κ : Kind} {sp : Space} {m n a b m' n' : ℕ}
    (v : View sig κ sp ⟨2, ![m, n]⟩ .f32) (h h') (P : ℕ → ℕ → ℝ) :
    v.readCov (Val := Elt Ideal) [⟨Rect.unit ![0, 0] ![m, n] h, co2 P⟩] (Rect.unit ![a, b] ![m', n'] h').toLoadRect
      = co2 (m := m') (n := n') fun t j => P (a + t) (b + j) := by
  rw [View.readCov_eq_canon_ld _ _ _ fun y => ⟨_, List.mem_singleton.mpr rfl, by
    show y ∈ (Rect.unit ![0, 0] ![m, n] h).set
    rw [Rect.mem_set_unit]; intro a; have := (y a).isLt; fin_cases a <;> exact ⟨Nat.zero_le _, by simpa using this⟩⟩, canon_whole]
  exact ld_f32 h' P

theorem read_whole [∀ e, Nonempty (Elt Ideal e)] {sig : RefSig} {κ : Kind} {sp : Space} {m n : ℕ} (v : View sig κ sp ⟨2, ![m, n]⟩ .f32)
    (f : v.ty.Contents (Elt Ideal)) (h) (P : (⟨2, ![m, n]⟩ : Shape).Idx → Elt Ideal .f32) :
    v.read (Elt Ideal) (v.writes (Elt Ideal) f [⟨Rect.unit ![0, 0] ![m, n] h, P⟩]) = P :=
  (View.read_writes_eq_canon _ _ _ fun y => ⟨_, List.mem_singleton.mpr rfl, by
    show y ∈ (Rect.unit ![0, 0] ![m, n] h).set
    rw [Rect.mem_set_unit]; intro a; have := (y a).isLt; fin_cases a <;> exact ⟨Nat.zero_le _, by simpa using this⟩⟩).trans (canon_whole h P [])

/-- An array read back after its first row was written. -/
theorem read_row {sig : RefSig} {κ : Kind} {sp : Space} {m n : ℕ} (v : View sig κ sp ⟨2, ![m, n]⟩ .f32) (f : v.ty.Contents (Elt Ideal))
    (h) (Q P : ℕ → ℕ → ℝ) (L : List (View.Piece (Elt Ideal) ⟨2, ![m, n]⟩ .f32)) (hf : v.read (Elt Ideal) (v.writes (Elt Ideal) f L) = co2 P) :
    v.read (Elt Ideal) (v.writes (Elt Ideal) f (⟨Rect.unit ![0, 0] ![1, n] h, co2 (m := 1) (n := n) Q⟩ :: L))
      = co2 fun r j => if r = 0 then Q 0 j else P r j := by
  funext y
  by_cases h0 : (y 0).val = 0
  · rw [View.read_writes_cons_hit_of_coords (s := ⟨2, ![m, n]⟩) v f _ _ L (ValueIdx.ix2 (⟨0, Nat.one_pos⟩ : Fin 1) (⟨(y 1).val, (y 1).isLt⟩ : Fin n)) y
      (fun a => by
        match a with
        | ⟨0, _⟩ => exact h0
        | ⟨1, _⟩ => show (y 1).val = 0 + 1 * (y 1).val; omega), co2_apply _ y, if_pos h0]
    rfl
  · rw [View.read_writes_cons_miss_of_axis (s := ⟨2, ![m, n]⟩) v f _ L y (0 : Fin 2) 0 1 rfl rfl rfl (Or.inr (by omega)), hf, co2_apply _ y, co2_apply _ y, if_neg h0]

theorem co2_congr {m n : ℕ} {X Y : ℕ → ℕ → ℝ} (h : ∀ t j, t < m → j < n → X t j = Y t j) : co2 (m := m) (n := n) X = co2 Y :=
  funext fun i => by rw [co2_apply, co2_apply, h _ _ (i 0).isLt (i 1).isLt]

/-- A sum over a range that is cut in three. -/
theorem sum_three (a b c n : ℕ) (h : a + b + c = n) (f : ℕ → ℝ) :
    ∑ k : Fin n, f k = ((∑ k : Fin a, f k) + ∑ k : Fin b, f (a + k)) + ∑ k : Fin c, f (a + b + k) := by
  subst h
  rw [Fin.sum_univ_add, Fin.sum_univ_add]; rfl

end Cert.Base
end
-- ==== Proof.Ops.lean ====
/- The vector operations of a kernel at real matrices, each giving a real matrix again. -/
module

public import proofs.«01_k».proof.Proof.Blocks
public import Idealize.ShloMosaic.Lib.Pipeline.ValueKit
public import Idealize.ShloMosaic.Lib.ValueLayout
public import Idealize.ShloMosaic.Lib.ValueLayoutCasts

@[expose] public section

set_option maxRecDepth 16384

noncomputable section

namespace Cert.Base

open Idealize.ShloMosaic

section
variable {m n : ℕ} {φ ψ : FTy} (X Y : ℕ → ℕ → ℝ)

theorem mulf_co2 : mulf (F := Ideal) (φ := φ) (co2 (m := m) (n := n) X) (co2 Y) = co2 fun t j => X t j * Y t j := rfl
theorem addf_co2 : addf (F := Ideal) (φ := φ) (co2 (m := m) (n := n) X) (co2 Y) = co2 fun t j => X t j + Y t j := rfl
theorem subf_co2 : subf (F := Ideal) (φ := φ) (co2 (m := m) (n := n) X) (co2 Y) = co2 fun t j => X t j - Y t j := rfl
theorem truncf_co2 (h) : truncf (F := Ideal) (φ := φ) ψ (co2 (m := m) (n := n) X) h = co2 X := rfl
theorem extf_co2 (h) : extf (F := Ideal) (φ := φ) ψ (co2 (m := m) (n := n) X) h = co2 X := rfl
theorem tanh_co2 : tanh (F := Ideal) (φ := φ) (co2 (m := m) (n := n) X) = co2 fun t j => Real.tanh (X t j) :=
  funext fun i => Ideal.tanh_coe _
theorem divf_co2 (h : ∀ t j, t < m → j < n → Y t j ≠ 0) :
    divf (F := Ideal) (φ := φ) (co2 (m := m) (n := n) X) (co2 Y) = co2 fun t j => X t j / Y t j :=
  funext fun i => div_coe_coe _ _ (h _ _ (i 0).isLt (i 1).isLt)
theorem divf_const (c : ℝ) (h : c ≠ 0) :
    divf (F := Ideal) (φ := φ) (co2 (m := m) (n := n) X) (co2 fun _ _ => c) = co2 fun t j => X t j / c :=
  divf_co2 X _ fun _ _ _ _ => h
theorem rsqrt_co2 (h : ∀ t j, t < m → j < n → 0 < X t j) :
    rsqrt (F := Ideal) (φ := φ) (co2 (m := m) (n := n) X) = co2 fun t j => (√(X t j))⁻¹ :=
  funext fun i => rsqrt_pos _ (h _ _ (i 0).isLt (i 1).isLt)

theorem shapeCast_same (h) : shapeCast (⟨2, ![m, n]⟩ : Shape) (co2 (m := m) (n := n) X) h = co2 X := shapeCast_self _ _

theorem row_sum (h hk) (h' : (0x00000000#32 : BitVec 32) = 0x00000000#32) (h'') : shapeCast (⟨2, ![m, 1]⟩ : Shape)
      (multiReduction (F := Ideal) (φ := .f32) .add [1] ⟨1, ![m]⟩ (co2 (m := m) (n := n) X) 0x00000000#32 h hk h') h''
    = co2 fun t _ => ∑ k : Fin n, X t k := by
  funext i
  obtain ⟨p, q, rfl⟩ : ∃ (p : Fin m) (q : Fin 1), i = ValueIdx.ix2 p q := ⟨i 0, i 1, ValueIdx.eq_ix2 i⟩
  refine (ValueIdx.shapeCast_a_a1_apply _ h'' p q).trans ?_
  pointwise
  simp only [co2_apply, coe_sum]
  rfl
theorem col_sum (h hk) (h' : (0x00000000#32 : BitVec 32) = 0x00000000#32) (h'') : shapeCast (⟨2, ![1, n]⟩ : Shape)
      (multiReduction (F := Ideal) (φ := .f32) .add [0] ⟨1, ![n]⟩ (co2 (m := m) (n := n) X) 0x00000000#32 h hk h') h''
    = co2 fun _ j => ∑ k : Fin m, X k j := by
  funext i
  obtain ⟨p, q, rfl⟩ : ∃ (p : Fin 1) (q : Fin n), i = ValueIdx.ix2 p q := ⟨i 0, i 1, ValueIdx.eq_ix2 i⟩
  refine (ValueIdx.shapeCast_a_1a_apply _ h'' p q).trans ?_
  pointwise
  simp only [co2_apply, coe_sum]
  rfl
theorem bcast_row (h) : broadcastTo (⟨2, ![m, n]⟩ : Shape) (co2 (m := 1) (n := n) X) h = co2 fun _ j => X 0 j := by
  funext i
  obtain ⟨p, q, rfl⟩ : ∃ (p : Fin m) (q : Fin n), i = ValueIdx.ix2 p q := ⟨i 0, i 1, ValueIdx.eq_ix2 i⟩
  exact (ValueIdx.broadcastTo_1b_ab_apply _ h p q).trans rfl
theorem bcast_col (h) : broadcastTo (⟨2, ![m, n]⟩ : Shape) (co2 (m := m) (n := 1) X) h = co2 fun t _ => X t 0 := by
  funext i
  refine (broadcastTo_apply _ h i (ValueIdx.ix2 (⟨(i 0).val, (i 0).isLt⟩ : Fin m) (0 : Fin 1)) ?_).trans rfl
  intro a
  match a with
  | ⟨0, _⟩ =>
    show (i 0).val = if m = 1 then 0 else (i 0).val
    have := (i 0).isLt
    change (i 0).val < m at this
    split
    · omega
    · rfl
  | ⟨1, _⟩ => rfl
theorem slice_co2 {m' n' a b : ℕ} (h) : extractStridedSlice (⟨2, ![m', n']⟩ : Shape) ![a, b] (co2 (m := m) (n := n) X) h
    = co2 fun t j => X (a + t) (b + j) := rfl
theorem cat_two {a b : ℕ} (h) : concatenate (⟨2, ![m, n]⟩ : Shape) 0 [⟨⟨2, ![a, n]⟩, co2 X⟩, ⟨⟨2, ![b, n]⟩, co2 Y⟩] h
    = co2 fun t j => if t < a then X t j else Y (t - a) j := by
  funext i
  pointwise
  split_ifs with h1
  · exact congrArg (fun r : ℝ => (r : EReal)) (if_pos h1 : (if (i 0).val < a then X (i 0).val (i 1).val else Y ((i 0).val - a) (i 1).val) = _).symm
  · exact congrArg (fun r : ℝ => (r : EReal)) (if_neg h1 : (if (i 0).val < a then X (i 0).val (i 1).val else Y ((i 0).val - a) (i 1).val) = _).symm
theorem bcast_half : broadcast (⟨2, ![m, n]⟩ : Shape) (Scalar.ofBits (F := Ideal) .f32 0x3F000000#32) = co2 fun _ _ => 1 / 2 :=
  funext fun _ => bits_half
theorem bcast_bits {r : ℝ} {b : BitVec 32} (h : Ideal.ofBits .f32 b = (r : EReal)) :
    broadcast (⟨2, ![m, n]⟩ : Shape) (Scalar.ofBits (F := Ideal) .f32 b) = co2 fun _ _ => r := funext fun _ => h
theorem bits_two : Ideal.ofBits .f32 0x40000000#32 = ((2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num
theorem bits16_zero : Ideal.ofBits .bf16 0x0000#16 = ((0 : ℝ) : EReal) := by
  simp [Ideal.ofBits, Ideal.ieee, -EReal.coe_mul]
theorem bcast_one : broadcast (⟨2, ![m, n]⟩ : Shape) (Scalar.ofBits (F := Ideal) .f32 0x3F800000#32) = co2 fun _ _ => 1 := bcast_bits bits_one
theorem bcast_zero : broadcast (⟨2, ![m, n]⟩ : Shape) (Scalar.ofBits (F := Ideal) .f32 0x00000000#32) = co2 fun _ _ => 0 := bcast_bits bits_zero
theorem bcast_256 : broadcast (⟨2, ![m, n]⟩ : Shape) (Scalar.ofBits (F := Ideal) .f32 0x43800000#32) = co2 fun _ _ => 256 := bcast_bits bits_256
theorem bcast_1024 : broadcast (⟨2, ![m, n]⟩ : Shape) (Scalar.ofBits (F := Ideal) .f32 0x44800000#32) = co2 fun _ _ => 1024 := bcast_bits bits_1024
theorem bcast_eps : broadcast (⟨2, ![m, n]⟩ : Shape) (Scalar.ofBits (F := Ideal) .f32 0x358637BD#32) = co2 fun _ _ => eps := bcast_bits bits_eps
theorem bcast_zero16 : broadcast (⟨2, ![m, n]⟩ : Shape) (Scalar.ofBits (F := Ideal) .bf16 0x0000#16) = co2 fun _ _ => 0 := funext fun _ => bits16_zero
theorem bcast_co (r : ℝ) : broadcast (α := EReal) (⟨2, ![m, n]⟩ : Shape) (r : EReal) = co2 fun _ _ => r := rfl
theorem const_zero : constant (F := Ideal) (⟨2, ![m, n]⟩ : Shape) .f32 0x00000000#32 = co2 fun _ _ => 0 := funext fun _ => bits_zero

/-- A matrix as a stack of one, and back. -/
theorem cast_up (h) : shapeCast (⟨3, ![1, m, n]⟩ : Shape) (co2 (m := m) (n := n) X) h = co3 fun _ t j => X t j := by
  funext i
  obtain ⟨u, p, q, rfl⟩ : ∃ (u : Fin 1) (p : Fin m) (q : Fin n), i = ValueIdx.ix3 u p q := ⟨i 0, i 1, i 2, ValueIdx.eq_ix3 i⟩
  exact (ValueIdx.shapeCast_ab_1ab_apply _ h u p q).trans rfl
theorem cast_down (Z : ℕ → ℕ → ℕ → ℝ) (h) : shapeCast (⟨2, ![m, n]⟩ : Shape) (co3 (l := 1) (m := m) (n := n) Z) h = co2 fun t j => Z 0 t j := by
  funext i
  obtain ⟨p, q, rfl⟩ : ∃ (p : Fin m) (q : Fin n), i = ValueIdx.ix2 p q := ⟨i 0, i 1, ValueIdx.eq_ix2 i⟩
  exact (ValueIdx.shapeCast_1ab_ab_apply _ h p q).trans rfl
theorem shapeCast_same3 {l : ℕ} (Z : ℕ → ℕ → ℕ → ℝ) (h) : shapeCast (⟨3, ![l, m, n]⟩ : Shape) (co3 (l := l) (m := m) (n := n) Z) h = co3 Z := shapeCast_self _ _

/-- A choice made place by place. -/
def msk (p : ℕ → ℕ → Bool) : (⟨2, ![m, n]⟩ : Shape).Idx → BitVec 1 := fun y => BitVec.ofBool (p (y 0).val (y 1).val)
theorem select_msk (p : ℕ → ℕ → Bool) : select (msk (m := m) (n := n) p) (co2 X) (co2 Y) = co2 fun t j => if p t j then X t j else Y t j := by
  funext y
  show (if BitVec.ofBool (p (y 0).val (y 1).val) = 1#1 then co2 X y else co2 Y y) = _
  simp only [co2_apply]
  cases p (y 0).val (y 1).val <;> rfl

/-- Four matrices, one under the other. -/
theorem cat_four {a : ℕ} (Z W : ℕ → ℕ → ℝ) (h) : concatenate (⟨2, ![m, n]⟩ : Shape) 0
      [⟨⟨2, ![a, n]⟩, co2 X⟩, ⟨⟨2, ![a, n]⟩, co2 Y⟩, ⟨⟨2, ![a, n]⟩, co2 Z⟩, ⟨⟨2, ![a, n]⟩, co2 W⟩] h
    = co2 fun t j => if t < a then X t j else if t - a < a then Y (t - a) j else if t - a - a < a then Z (t - a - a) j else W (t - a - a - a) j := by
  funext i
  pointwise
  simp only [co2_apply]
  split_ifs <;> rfl

end

end Cert.Base

end
-- ==== Proof.Reads.lean ====
/- What a load reads back out of an array that was written in pieces. -/
module

public import proofs.«01_k».proof.Proof.Ops
public import Idealize.ShloMosaic.Lib.Pipeline.ReadBack

@[expose] public section

set_option maxRecDepth 16384

noncomputable section

namespace Cert.Base

open Idealize.ShloMosaic

/-- Rows of an array that was written in two pieces, one under the other. -/
theorem readCov_two [∀ e, Nonempty (Elt Ideal e)] {sig : RefSig} {κ : Kind} {sp : Space} {m n a b o k : ℕ} (hm : a + b = m)
    (v : View sig κ sp ⟨2, ![m, n]⟩ .f32) (h h' h'') (P Q : ℕ → ℕ → ℝ) :
    v.readCov (Val := Elt Ideal) [⟨Rect.unit ![a, 0] ![b, n] h, co2 P⟩, ⟨Rect.unit ![0, 0] ![a, n] h', co2 Q⟩] (Rect.unit ![o, 0] ![k, n] h'').toLoadRect
      = co2 (m := k) (n := n) fun t j => if o + t < a then Q (o + t) j else P (o + t - a) j := by
  subst hm
  rw [View.readCov_eq_canon']
  have e : View.canon (Val := Elt Ideal) (s := ⟨2, ![a + b, n]⟩) (e := .f32)
      [⟨Rect.unit ![a, 0] ![b, n] h, co2 P⟩, ⟨Rect.unit ![0, 0] ![a, n] h', co2 Q⟩]
      = co2 fun t j => if t < a then Q t j else P (t - a) j := by
    funext y
    refine View.canon_apply_of_pieces (Val := Elt Ideal) (e := .f32) (S := ⟨2, ![a + b, n]⟩) (co2 fun t j => if t < a then Q t j else P (t - a) j) _ ?_ y ?_
    · intro p hp
      simp only [List.mem_cons, List.not_mem_nil, or_false] at hp
      obtain rfl | rfl := hp
      · intro x
        refine Eq.trans ?_ (idx_co2 h _ x).symm
        exact congrArg (fun r : ℝ => (r : EReal)) (by beta_reduce; rw [if_neg (by omega), Nat.add_sub_cancel_left, Nat.zero_add])
      · intro x
        refine Eq.trans ?_ (idx_co2 h' _ x).symm
        have : (x 0).val < a := (x 0).isLt
        exact congrArg (fun r : ℝ => (r : EReal)) (by beta_reduce; rw [if_pos (by omega), Nat.zero_add, Nat.zero_add])
    · by_cases hy : (y 0).val < a
      · refine ⟨_, List.mem_cons_of_mem _ (List.mem_singleton.mpr rfl), ?_⟩
        show y ∈ (Rect.unit ![0, 0] ![a, n] h').set
        rw [Rect.mem_set_unit]; intro i
        have h1 := (y 1).isLt
        fin_cases i
        · exact ⟨Nat.zero_le _, by simpa using hy⟩
        · exact ⟨Nat.zero_le _, by simpa using h1⟩
      · refine ⟨_, List.mem_cons_self, ?_⟩
        show y ∈ (Rect.unit ![a, 0] ![b, n] h).set
        rw [Rect.mem_set_unit]; intro i
        have h0 := (y 0).isLt
        have h1 := (y 1).isLt
        fin_cases i
        · exact ⟨by simpa using hy, by simpa using h0⟩
        · exact ⟨Nat.zero_le _, by simpa using h1⟩
  rw [e]
  funext x
  exact (idx_co2 h'' _ x).trans (by simp only [co2_apply, Nat.zero_add])

/-- Rows of one matrix of a stack, which was written as a whole last. -/
theorem readCov_slot [∀ e, Nonempty (Elt Ideal e)] {sig : RefSig} {κ : Kind} {sp : Space} {l m n s o k : ℕ}
    (v : View sig κ sp ⟨3, ![l, m, n]⟩ .f32) (h h') (P : ℕ → ℕ → ℕ → ℝ) (L) :
    v.readCov (Val := Elt Ideal) (⟨Rect.unit ![s, 0, 0] ![1, m, n] h, co3 P⟩ :: L) (Rect.unit ![s, o, 0] ![1, k, n] h').toLoadRect
      = co3 (l := 1) (m := k) (n := n) fun i t j => P i (o + t) j := by
  rw [View.readCov_eq_canon']
  funext x
  have h2 : o + k ≤ m := by simpa using h' 1
  have hx : (x 1).val < k := (x 1).isLt
  have e : (Rect.unit (s := ⟨3, ![l, m, n]⟩) ![s, o, 0] ![1, k, n] h').idx x
      = (Rect.unit (s := ⟨3, ![l, m, n]⟩) ![s, 0, 0] ![1, m, n] h).emb (ValueIdx.ix3 (⟨(x 0).val, (x 0).isLt⟩ : Fin 1) (⟨o + (x 1).val, by omega⟩ : Fin m) (⟨(x 2).val, (x 2).isLt⟩ : Fin n)) := by
    funext a
    apply Fin.ext
    match a with
    | ⟨0, _⟩ => rfl
    | ⟨1, _⟩ => show o + 1 * (x 1).val = 0 + 1 * (o + (x 1).val); omega
    | ⟨2, _⟩ => rfl
  show View.canon _ ((Rect.unit (s := ⟨3, ![l, m, n]⟩) ![s, o, 0] ![1, k, n] h').idx x) = _
  rw [e, View.canon_cons_emb]
  rfl

/-- The same where the writing and the reading go through a view of that one matrix and touch some of its rows. -/
theorem readCov_within [∀ e, Nonempty (Elt Ideal e)] {sig : RefSig} {κ : Kind} {sp : Space} {l m n s o k o' k' : ℕ}
    (v : View sig κ sp ⟨3, ![l, m, n]⟩ .f32) (h) (hw hr) (h0 hs hh) (h0' hs' hh') (hR hR') (P : ℕ → ℕ → ℝ) (L)
    (ho : o ≤ o') (hk : o' + k' ≤ o + k) :
    LoadRect.valAlong (lr := (Rect.unit (s := ⟨2, ![m, n]⟩) ![o', 0] ![k', n] hr).toLoadRect)
      (LR := LoadRect.consLift (Rect.unit (s := ⟨2, ![m, n]⟩) ![o', 0] ![k', n] hr).toLoadRect ![1, m, n] h0' hs') hR'
      (v.readCov (Val := Elt Ideal)
        (⟨(Rect.unit (s := ⟨3, ![l, m, n]⟩) ![s, 0, 0] ![1, m, n] h).within (Rect.consLift (Rect.unit (s := ⟨2, ![m, n]⟩) ![o, 0] ![k, n] hw) ![1, m, n] h0 hs) hh,
          Rect.payAlong (r := Rect.unit (s := ⟨2, ![m, n]⟩) ![o, 0] ![k, n] hw) (R := Rect.consLift (Rect.unit (s := ⟨2, ![m, n]⟩) ![o, 0] ![k, n] hw) ![1, m, n] h0 hs)
            hR (co2 (m := k) (n := n) P)⟩ :: L)
        ((Rect.unit (s := ⟨3, ![l, m, n]⟩) ![s, 0, 0] ![1, m, n] h).withinL (LoadRect.consLift (Rect.unit (s := ⟨2, ![m, n]⟩) ![o', 0] ![k', n] hr).toLoadRect ![1, m, n] h0' hs') hh'))
      = co2 (m := k') (n := n) fun t j => P (o' - o + t) j := by
  rw [View.readCov_eq_canon']
  funext x
  have hx : (x 0).val < k' := (x 0).isLt
  have e1 : Shape.reshapeEquiv hR' x = Fin.cons ⟨0, Nat.one_pos⟩ x := Shape.reshapeEquiv_cons_one (d := ![k', n]) _ _
  let w : (⟨2, ![k, n]⟩ : Shape).Idx := ValueIdx.ix2 (⟨o' - o + (x 0).val, by omega⟩ : Fin k) (⟨(x 1).val, (x 1).isLt⟩ : Fin n)
  let z : (Rect.consLift (Rect.unit (s := ⟨2, ![m, n]⟩) ![o, 0] ![k, n] hw) ![1, m, n] h0 hs).shape.Idx := Fin.cons ⟨0, Nat.one_pos⟩ w
  show View.canon _ (((Rect.unit (s := ⟨3, ![l, m, n]⟩) ![s, 0, 0] ![1, m, n] h).withinL (LoadRect.consLift (Rect.unit (s := ⟨2, ![m, n]⟩) ![o', 0] ![k', n] hr).toLoadRect ![1, m, n] h0' hs') hh').idx (Shape.reshapeEquiv hR' x)) = _
  rw [Rect.idx_withinL]
  have e2 : (LoadRect.consLift (Rect.unit (s := ⟨2, ![m, n]⟩) ![o', 0] ![k', n] hr).toLoadRect ![1, m, n] h0' hs').idx (Shape.reshapeEquiv hR' x)
      = (Rect.consLift (Rect.unit (s := ⟨2, ![m, n]⟩) ![o, 0] ![k, n] hw) ![1, m, n] h0 hs).emb z := by
    rw [e1]
    funext a
    apply Fin.ext
    match a with
    | ⟨0, _⟩ => rfl
    | ⟨1, _⟩ => show o' + 1 * (x 0).val = o + 1 * (o' - o + (x 0).val); omega
    | ⟨2, _⟩ => rfl
  rw [e2]
  refine (View.canon_cons_within_emb (s := ⟨3, ![l, m, n]⟩) _ _ hh _ L z).trans ?_
  refine (Rect.payAlong_consLift (Rect.unit (s := ⟨2, ![m, n]⟩) ![o, 0] ![k, n] hw) ![1, m, n] h0 hs _ hR z w ?_).trans rfl
  intro i; rfl

/-- An array read back after one row was written. -/
theorem read_row_at {sig : RefSig} {κ : Kind} {sp : Space} {m n k : ℕ} (v : View sig κ sp ⟨2, ![m, n]⟩ .f32) (f : v.ty.Contents (Elt Ideal))
    (h) (Q P : ℕ → ℕ → ℝ) (L : List (View.Piece (Elt Ideal) ⟨2, ![m, n]⟩ .f32)) (hf : v.read (Elt Ideal) (v.writes (Elt Ideal) f L) = co2 P) :
    v.read (Elt Ideal) (v.writes (Elt Ideal) f (⟨Rect.unit ![k, 0] ![1, n] h, co2 (m := 1) (n := n) Q⟩ :: L))
      = co2 fun r j => if r = k then Q 0 j else P r j := by
  funext y
  by_cases h0 : (y 0).val = k
  · rw [View.read_writes_cons_hit_of_coords (s := ⟨2, ![m, n]⟩) v f _ _ L (ValueIdx.ix2 (⟨0, Nat.one_pos⟩ : Fin 1) (⟨(y 1).val, (y 1).isLt⟩ : Fin n)) y
      (fun a => by
        match a with
        | ⟨0, _⟩ => exact h0
        | ⟨1, _⟩ => show (y 1).val = 0 + 1 * (y 1).val; omega), co2_apply _ y, if_pos h0]
    rfl
  · rw [View.read_writes_cons_miss_of_axis (s := ⟨2, ![m, n]⟩) v f _ L y (0 : Fin 2) k 1 rfl rfl rfl (by omega), hf, co2_apply _ y, co2_apply _ y, if_neg h0]

end Cert.Base

end
-- ==== Proof.MixTileReal.lean ====
/- One tile of the mixer's gradient kernel over the reals: what each of its values is, from the tile's own rows, the 32
   rows before it and the 32 rows after it. -/
module

public import proofs.«01_k».proof.Proof.Base

@[expose] public section

noncomputable section

namespace Cert.Mix

open Cert.Base

/-- The inputs of grid point `i`: the pieces of the input product before, in and after the tile, the result's gradient
    and the convolution's result in and after it, the argument's rows, and the parameters. -/
structure In where
  i : ℕ
  pp : ℕ → ℕ → ℝ
  pm : ℕ → ℕ → ℝ
  pn : ℕ → ℕ → ℝ
  dy : ℕ → ℕ → ℝ
  dyn : ℕ → ℕ → ℝ
  c : ℕ → ℕ → ℝ
  cn : ℕ → ℕ → ℝ
  x : ℕ → ℕ → ℝ
  gain : ℕ → ℝ
  wi : ℕ → ℕ → ℕ → ℝ
  wo : ℕ → ℕ → ℕ → ℝ
  cw : ℕ → ℕ → ℝ
  vec : ℕ → ℕ → ℝ
  sw : ℕ → ℕ → ℝ
  pbd : ℕ → ℕ → ℝ
  wcat : ℕ → ℕ → ℝ
  bst : ℕ → ℕ → ℝ
  wcatt : ℕ → ℕ → ℝ

/-! A normalized row of 256: its mean, the row about its mean, the reciprocal root, and the gradient of the row from
    that of the normalized row times its gains. -/

def mu (R : ℕ → ℕ → ℝ) (q : ℕ) : ℝ := (∑ k : Fin 256, R q k) / 256
def cen (R : ℕ → ℕ → ℝ) (q j : ℕ) : ℝ := R q j - mu R q
def va (R : ℕ → ℕ → ℝ) (q : ℕ) : ℝ := (∑ k : Fin 256, cen R q k * cen R q k) / 256 + eps
def rv (R : ℕ → ℕ → ℝ) (q : ℕ) : ℝ := (√(va R q))⁻¹
def hat (R : ℕ → ℕ → ℝ) (q j : ℕ) : ℝ := cen R q j * rv R q
def lnb (g : ℕ → ℝ) (R D : ℕ → ℕ → ℝ) (q j : ℕ) : ℝ :=
  rv R q * (D q j * g j - (∑ k : Fin 256, D q k * g k) / 256 - hat R q j * ((∑ k : Fin 256, D q k * g k * hat R q k) / 256))

theorem va_pos (R : ℕ → ℕ → ℝ) (q : ℕ) : 0 < va R q :=
  add_pos_of_nonneg_of_pos (div_nonneg (Finset.sum_nonneg fun _ _ => mul_self_nonneg _) (by norm_num)) eps_pos

/-- Of four values the one of a lane's quarter. -/
def pick (j : ℕ) (a b c d : ℝ) : ℝ := if j < 64 then a else if j < 128 then b else if j < 192 then c else d
/-- The width of a lane's window, and what a row's window sum is divided by. -/
def wid (j : ℕ) : ℝ := pick j 2 4 8 16
def dvs (i r j : ℕ) : ℝ := min ((256 * i + r + 1 : ℕ) : ℝ) (wid j)

theorem pick_pos {a b c d : ℝ} (j : ℕ) (ha : 0 < a) (hb : 0 < b) (hc : 0 < c) (hd : 0 < d) : 0 < pick j a b c d := by
  unfold pick; split_ifs <;> assumption
theorem dvs_pos (i r j : ℕ) : 0 < dvs i r j :=
  lt_min (by positivity) (pick_pos j (by norm_num) (by norm_num) (by norm_num) (by norm_num))

namespace In

variable (A : In)

/-- One where rows before the tile exist, and where rows after it do. -/
def se : ℝ := if A.i = 0 then 0 else 1
def mo : ℝ := if A.i < 31 then 1 else 0

/-- The gradient of the mixed rows, in the tile and the 32 rows after it. -/
def dm (q j : ℕ) : ℝ :=
  if q < 256 then ∑ k : Fin 1024, A.dy q k * A.wo (j / 128) (j % 128) k
  else ∑ k : Fin 1024, A.dyn (q - 256) k * A.mo * A.wo (j / 128) (j % 128) k

/-- The gated rows before the tile and in it; the convolution's result in the tile and after it. -/
def yp (r j : ℕ) : ℝ := A.pp r j * A.se * sg (A.pp r (256 + j) * A.se)
def ym (r j : ℕ) : ℝ := A.pm r j * sg (A.pm r (256 + j))
def y (q j : ℕ) : ℝ := if q < 32 then A.yp q j else A.ym (q - 32) j
def ca (q j : ℕ) : ℝ := if q < 256 then A.c q j else A.cn (q - 256) j
def ln (q j : ℕ) : ℝ := hat A.ca q j * A.vec 1 j + A.vec 2 j
def dln (q j : ℕ) : ℝ := A.dm q j * (sg (A.ln q j) * (1 + A.ln q j * (1 - sg (A.ln q j))))
def dc (q j : ℕ) : ℝ := lnb (A.vec 1) A.ca A.dln q j
def dy0 (r j : ℕ) : ℝ := ∑ k ∈ Finset.range 31, A.cw k j * A.dc (30 - k + r) j
def dcw (k j : ℕ) : ℝ := ∑ r : Fin 256, A.dc r j * A.y (2 + k + r) j
def dp0 (r j : ℕ) : ℝ := A.dy0 r j * sg (A.pm r (256 + j))
def dp1 (r j : ℕ) : ℝ := A.dy0 r j * A.pm r j * sg (A.pm r (256 + j)) * (1 - sg (A.pm r (256 + j)))

/-- The short convolution. -/
def zp (r j : ℕ) : ℝ := A.pp r (768 + j) * A.se * (A.pp r (1024 + j) * A.se)
def zm (r j : ℕ) : ℝ := A.pm r (768 + j) * A.pm r (1024 + j)
def z (q j : ℕ) : ℝ := if q < 32 then A.zp q j else A.zm (q - 32) j
def cz (r j : ℕ) : ℝ := ∑ k ∈ Finset.range 3, A.sw k j * A.z (30 + k + r) j
def dp2 (r j : ℕ) : ℝ := A.dm r (256 + j) * A.cz r j
def dzm (r j : ℕ) : ℝ := A.dm r (256 + j) * A.pm r (512 + j)
def dzn (r j : ℕ) : ℝ := A.dm (256 + r) (256 + j) * A.pn r (512 + j)
def dz (q j : ℕ) : ℝ := if q < 256 then A.dzm q j else A.dzn (q - 256) j
def dzs (r j : ℕ) : ℝ := ∑ k ∈ Finset.range 3, A.sw k j * A.dz (2 - k + r) j
def dp3 (r j : ℕ) : ℝ := A.dzs r j * A.pm r (1024 + j)
def dp4 (r j : ℕ) : ℝ := A.dzs r j * A.pm r (768 + j)
def dsw (k j : ℕ) : ℝ := ∑ r : Fin 256, A.dzm r j * A.z (30 + k + r) j

/-- The pooling over trailing windows. -/
def ep (r j : ℕ) : ℝ := A.pp r (1280 + j) * A.se
def em (r j : ℕ) : ℝ := A.pm r (1280 + j)
def e (q j : ℕ) : ℝ := if q < 32 then A.ep q j else A.em (q - 32) j
def e2 (q j : ℕ) : ℝ := A.e q j + A.e (q - 1) j
def e4 (q j : ℕ) : ℝ := A.e2 q j + A.e2 (q - 2) j
def e8 (q j : ℕ) : ℝ := A.e4 q j + A.e4 (q - 4) j
def e16 (q j : ℕ) : ℝ := A.e8 q j + A.e8 (q - 8) j
def dpool (r j : ℕ) : ℝ :=
  pick j (A.e2 (32 + r) j) (A.e4 (32 + r) j) (A.e8 (32 + r) j) (A.e16 (32 + r) j) / dvs A.i r j - A.em r j
def yc (r j : ℕ) : ℝ := ∑ k : Fin 256, A.dpool r k * A.pbd k j
def dyc (q j : ℕ) : ℝ := A.dm q (512 + j) * A.vec 3 j
def dpbd (a b : ℕ) : ℝ := ∑ r : Fin 256, A.dpool r a * A.dyc r b
def dd (q j : ℕ) : ℝ := ∑ k : Fin 256, A.dyc q k * A.pbd j k
def f (q j : ℕ) : ℝ := A.dd q j / dvs A.i q j
def f2 (q j : ℕ) : ℝ := A.f q j + A.f (1 + q) j
def f4 (q j : ℕ) : ℝ := A.f2 q j + A.f2 (2 + q) j
def f8 (q j : ℕ) : ℝ := A.f4 q j + A.f4 (4 + q) j
def f16 (q j : ℕ) : ℝ := A.f8 q j + A.f8 (8 + q) j
def dp5 (r j : ℕ) : ℝ := pick j (A.f2 r j) (A.f4 r j) (A.f8 r j) (A.f16 r j) - A.dd r j

/-- The gating over chunks of 128 rows. -/
def gv (r j : ℕ) : ℝ := A.pm r (1792 + j)
def v (r j : ℕ) : ℝ := hat A.gv r j * A.vec 4 j + A.vec 5 j
def gu (r j : ℕ) : ℝ := A.pm r (1536 + j)
def dod (r j : ℕ) : ℝ := A.dm r (768 + j)
def mixed (r j : ℕ) : ℝ :=
  (∑ s : Fin 128, A.wcat (r % 128) (128 * (j / 64) + s) * A.v (128 * (r / 128) + s) j) + A.bst (r % 128) j
def dp6 (r j : ℕ) : ℝ := A.dod r j * A.mixed r j
def dmx (r j : ℕ) : ℝ := A.dod r j * A.gu r j
/-- A head's share of a row's sum. -/
def dbs (q s h : ℕ) : ℝ := ∑ j : Fin 256, if j.val / 64 = h then A.dmx (128 * q + s) j else 0
def dws (q a s' : ℕ) : ℝ :=
  (∑ j : Fin 256, (if j.val / 64 = a / 128 then A.dmx (128 * q + a % 128) j else 0) * A.v (128 * q + s') j) * (if s' ≤ a % 128 then 1 else 0)
def dv (r j : ℕ) : ℝ := ∑ k : Fin 128, A.wcatt (128 * (j / 64) + r % 128) k * A.dmx (128 * (r / 128) + k) j
def dp7 (r j : ℕ) : ℝ := lnb (A.vec 4) A.gv A.dv r j

/-- The gradient of the input product, its eight pieces side by side, and what the normalization makes of it. -/
def dp (r j : ℕ) : ℝ :=
  if j < 256 then A.dp0 r j else if j < 512 then A.dp1 r (j - 256) else if j < 768 then A.dp2 r (j - 512)
  else if j < 1024 then A.dp3 r (j - 768) else if j < 1280 then A.dp4 r (j - 1024) else if j < 1536 then A.dp5 r (j - 1280)
  else if j < 1792 then A.dp6 r (j - 1536) else A.dp7 r (j - 1792)
def dh (r j : ℕ) : ℝ := ∑ k : Fin 2048, A.dp r k * A.wi (k.val / 256) (k.val % 256) j
/-- The rows of the parameters' gradients that are column sums. -/
def dvec (k j : ℕ) : ℝ :=
  if k = 0 then ∑ r : Fin 256, A.dc r j else if k = 1 then ∑ r : Fin 256, A.dln r j * hat A.ca r j
  else if k = 2 then ∑ r : Fin 256, A.dln r j else if k = 3 then ∑ r : Fin 256, A.dm r (512 + j) * A.yc r j
  else if k = 4 then ∑ r : Fin 256, A.dv r j * hat A.gv r j else if k = 5 then ∑ r : Fin 256, A.dv r j else 0

end In

end Cert.Mix

end
-- ==== Proof.MixMask.lean ====
/- The masks, the window widths and the row counts of the mixer's gradient kernel, as choices and real matrices. -/
module

public import proofs.«01_k».proof.Proof.Reads
public import proofs.«01_k».proof.Proof.MixTileReal
public import proofs.«01_k».proof.Proof.Gen.MixBwdIdeal.Value

@[expose] public section

set_option maxRecDepth 16384

noncomputable section

namespace Cert.Mix

open Cert.MixBwdIdeal Cert.MixBwdIdeal.Gen Idealize.ShloMosaic Idealize.ShloMosaic.TcCoe Idealize.SL.Sem Cert.Base

/-- The lanes of a head, and the column of a head. -/
def hm (h : ℕ) : IVec S128x256 1 := msk (m := 128) (n := 256) fun _ j => decide (j / 64 = h)
def cm (h : ℕ) : IVec S128x128 1 := msk (m := 128) (n := 128) fun _ j => decide (j = h)

theorem m0_eq : k0_pay149 = hm 0 := by
  funext y
  pointwise [k0_pay149]
  exact (by decide +kernel : ∀ j : Fin 256, IntOp.andi (IntOp.cmpi .sge (BitVec.ofNat 32 j.val) 0#32) (IntOp.cmpi .slt (BitVec.ofNat 32 j.val) 64#32) = BitVec.ofBool (decide (j.val / 64 = 0))) (y 1)
theorem m1_eq : k0_pay151 (iota .tc S128x256 32 [1] iota_S128x256_d1_w32) k0_pay150 = hm 1 := by
  funext y
  pointwise [k0_pay151, k0_pay150]
  exact (by decide +kernel : ∀ j : Fin 256, IntOp.andi (IntOp.cmpi .sge (BitVec.ofNat 32 j.val) 64#32) (IntOp.cmpi .slt (BitVec.ofNat 32 j.val) 128#32) = BitVec.ofBool (decide (j.val / 64 = 1))) (y 1)
theorem m2_eq : k0_pay152 (iota .tc S128x256 32 [1] iota_S128x256_d1_w32) = hm 2 := by
  funext y
  pointwise [k0_pay152]
  exact (by decide +kernel : ∀ j : Fin 256, IntOp.andi (IntOp.cmpi .sge (BitVec.ofNat 32 j.val) 128#32) (IntOp.cmpi .slt (BitVec.ofNat 32 j.val) 192#32) = BitVec.ofBool (decide (j.val / 64 = 2))) (y 1)
theorem m3_eq : k0_pay153 (iota .tc S128x256 32 [1] iota_S128x256_d1_w32) = hm 3 := by
  funext y
  pointwise [k0_pay153]
  exact (by decide +kernel : ∀ j : Fin 256, IntOp.andi (IntOp.cmpi .sge (BitVec.ofNat 32 j.val) 192#32) (IntOp.cmpi .slt (BitVec.ofNat 32 j.val) 256#32) = BitVec.ofBool (decide (j.val / 64 = 3))) (y 1)

theorem col_eq (k : ℕ) (hk : k < 4) : cmpi .eq (iota .tc S128x128 32 [1] iota_S128x128_d1_w32) (broadcast S128x128 (BitVec.ofNat 32 k)) = cm k := by
  funext y
  pointwise
  exact (by decide +kernel : ∀ (k : Fin 4) (j : Fin 128), IntOp.cmpi .eq (BitVec.ofNat 32 j.val) (BitVec.ofNat 32 k.val) = BitVec.ofBool (decide (j.val = k.val))) ⟨k, hk⟩ (y 1)

theorem bit_real (b : Bool) : (((BitVec.setWidth 32 (BitVec.ofBool b)).toInt : ℝ) : EReal) = (((if b then 1 else 0 : ℝ)) : EReal) := by
  cases b <;> simp

theorem tril_eq : k0_pay154 (F := Ideal) = co2 fun a s => if s ≤ a % 128 then 1 else 0 := by
  funext y
  pointwise [k0_pay154]
  have key : ∀ a : Fin 128, FloatOps.sitofp (F := Ideal) FTy.f32 (BitVec.setWidth 32 (IntOp.cmpi .sle (BitVec.ofNat 32 (y 1).val) (BitVec.ofNat 32 a.val)))
      = (((if (y 1).val ≤ a.val then 1 else 0 : ℝ)) : EReal) := fun a => by
    rw [(by decide +kernel : ∀ a b : Fin 128, IntOp.cmpi .sle (BitVec.ofNat 32 b.val) (BitVec.ofNat 32 a.val) = BitVec.ofBool (decide (b.val ≤ a.val))) a (y 1)]
    refine (bit_real _).trans ?_
    simp only [decide_eq_true_eq]
  have hy : (y 0).val < 512 := (y 0).isLt
  have fin : ∀ a : Fin 128, (y 0).val % 128 = a.val → (((if (y 1).val ≤ a.val then 1 else 0 : ℝ)) : EReal) = co2 (fun a s => if s ≤ a % 128 then 1 else 0) y :=
    fun a h => by rw [co2_apply]; simp only [h]
  by_cases h1 : (y 0).val < 128
  · exact (dif_pos h1).trans ((key ⟨_, h1⟩).trans (fin _ (Nat.mod_eq_of_lt h1)))
  refine (dif_neg h1).trans ?_
  by_cases h2 : (y 0).val - 128 < 128
  · exact (dif_pos h2).trans ((key ⟨_, h2⟩).trans (fin _ (by dsimp only; omega)))
  refine (dif_neg h2).trans ?_
  by_cases h3 : (y 0).val - 128 - 128 < 128
  · exact (dif_pos h3).trans ((key ⟨_, h3⟩).trans (fin _ (by dsimp only; omega)))
  refine (dif_neg h3).trans ?_
  exact (key ⟨(y 0).val - 128 - 128 - 128, by omega⟩).trans (fin _ (by dsimp only; omega))

theorem lane_lt (k : Fin 256) (j : Fin 256) : IntOp.cmpi .slt (BitVec.ofNat 32 j.val) (BitVec.ofNat 32 k.val) = BitVec.ofBool (decide (j.val < k.val)) := by
  show BitVec.ofBool (BitVec.slt _ _) = _
  congr 1
  rw [BitVec.slt_eq_decide, BitVec.toInt_eq_toNat_of_lt (by simp only [BitVec.toNat_ofNat]; omega), BitVec.toInt_eq_toNat_of_lt (by simp only [BitVec.toNat_ofNat]; omega)]
  simp only [BitVec.toNat_ofNat, Nat.mod_eq_of_lt (lt_trans j.isLt (by decide : 256 < 2^32)), Nat.mod_eq_of_lt (lt_trans k.isLt (by decide : 256 < 2^32)), Nat.cast_lt]

theorem sel_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

theorem wid_scalar (j : Fin 256) : Scalar.select (IntOp.cmpi .slt (BitVec.ofNat 32 j.val) 64#32) (Ideal.ofBits .f32 0x40000000#32)
      (Scalar.select (IntOp.cmpi .slt (BitVec.ofNat 32 j.val) 128#32) (Ideal.ofBits .f32 0x40800000#32)
        (Scalar.select (IntOp.cmpi .slt (BitVec.ofNat 32 j.val) 192#32) (Ideal.ofBits .f32 0x41000000#32) (Ideal.ofBits .f32 0x41800000#32)))
    = ((wid j : ℝ) : EReal) := by
  rw [show IntOp.cmpi .slt (BitVec.ofNat 32 j.val) 64#32 = _ from lane_lt 64 j, show IntOp.cmpi .slt (BitVec.ofNat 32 j.val) 128#32 = _ from lane_lt 128 j, show IntOp.cmpi .slt (BitVec.ofNat 32 j.val) 192#32 = _ from lane_lt 192 j, sel_ofBool, sel_ofBool, sel_ofBool, bits_two, bits_four, bits_eight, bits_sixteen]
  unfold wid pick
  simp only [show (64 : Fin 256).val = 64 from rfl, show (128 : Fin 256).val = 128 from rfl, show (192 : Fin 256).val = 192 from rfl]
  split_ifs <;> first | rfl | omega

theorem w_eq : k0_pay124 (F := Ideal) = co2 fun _ j => wid j := by
  funext y
  pointwise [k0_pay124]
  exact wid_scalar (y 1)

/-- The row number of a window, counted from one over the whole array. -/
theorem pos_scalar (i r : ℕ) (hi : i < 32) (hr : r < 288) :
    FloatOps.sitofp (F := Ideal) FTy.f32 (IntOp.addi (IntOp.addi (BitVec.ofNat 32 r) (Scalar.muli (BitVec.ofNat 32 i) 256#32)) 1#32)
      = (((256 * i + r + 1 : ℕ) : ℝ) : EReal) := by
  have h : (IntOp.addi (IntOp.addi (BitVec.ofNat 32 r) (Scalar.muli (BitVec.ofNat 32 i) 256#32)) 1#32 : BitVec 32) = BitVec.ofNat 32 (256 * i + r + 1) := by
    apply BitVec.eq_of_toNat_eq
    show ((BitVec.ofNat 32 r + BitVec.ofNat 32 i * 256#32) + 1#32).toNat = _
    simp only [BitVec.toNat_add, BitVec.toNat_mul, BitVec.toNat_ofNat]
    omega
  rw [h]
  show (((BitVec.ofNat 32 (256 * i + r + 1)).toInt : ℝ) : EReal) = _
  rw [BitVec.toInt_eq_toNat_of_lt (by simp only [BitVec.toNat_ofNat]; omega), BitVec.toNat_ofNat, Nat.mod_eq_of_lt (by omega)]
  simp only [Int.cast_natCast]

theorem wid_ge (j : Fin 256) : ((4 : ℝ) : EReal) ≤ ((wid j : ℝ) : EReal) ↔ ¬ j.val < 64 := by
  rw [EReal.coe_le_coe_iff]; unfold wid pick; split_ifs <;> norm_num <;> omega
theorem wid_ge8 (j : Fin 256) : ((8 : ℝ) : EReal) ≤ ((wid j : ℝ) : EReal) ↔ ¬ j.val < 128 := by
  rw [EReal.coe_le_coe_iff]; unfold wid pick; split_ifs <;> norm_num <;> omega
theorem wid_ge16 (j : Fin 256) : ((16 : ℝ) : EReal) ≤ ((wid j : ℝ) : EReal) ↔ ¬ j.val < 192 := by
  rw [EReal.coe_le_coe_iff]; unfold wid pick; split_ifs <;> norm_num <;> omega

variable (X Y Z W U : ℕ → ℕ → ℝ)

theorem pool3_eq : k0_pay128 (F := Ideal) (co2 fun _ j => wid j) (co2 X) (co2 Y) (co2 Z)
    = co2 fun t j => if j < 64 then X t j else if j < 128 then Y t j else Z t j := by
  funext y
  pointwise [k0_pay128]
  rw [bits_four, bits_eight]
  refine (if_congr (wid_ge8 (y 1)) rfl (if_congr (wid_ge (y 1)) rfl rfl)).trans ?_
  simp only [co2_apply]
  split_ifs <;> first | rfl | omega

theorem pool_eq (i : ℕ) (hi : i < 32) : k0_pay129 (F := Ideal) (BitVec.ofNat 32 i) (co2 X) (co2 fun _ j => wid j)
      (co2 fun t j => if j < 64 then Y t j else if j < 128 then Z t j else U t j) (co2 U) (co2 W)
    = co2 fun t j => pick j (Y t j) (Z t j) (U t j) (U t j + W t j) / dvs i t j - X t j := by
  funext y
  pointwise [k0_pay129]
  rw [wid_scalar (y 1), bits_sixteen, pos_scalar i _ hi (lt_trans (y 0).isLt (by decide : 256 < 288))]
  have e : (if ¬(y 1).val < 192 then ((U (y 0).val (y 1).val : ℝ) : EReal) + ((W (y 0).val (y 1).val : ℝ) : EReal)
      else (((if (y 1).val < 64 then Y (y 0).val (y 1).val else if (y 1).val < 128 then Z (y 0).val (y 1).val else U (y 0).val (y 1).val : ℝ)) : EReal))
      = ((pick (y 1).val (Y (y 0).val (y 1).val) (Z (y 0).val (y 1).val) (U (y 0).val (y 1).val) (U (y 0).val (y 1).val + W (y 0).val (y 1).val) : ℝ) : EReal) := by
    unfold pick
    split_ifs <;> first | rfl | omega
  refine (congrArg₂ (fun a b : EReal => Ideal.div a (min (((256 * i + (y 0).val + 1 : ℕ) : ℝ) : EReal) ((wid (y 1).val : ℝ) : EReal)) - b) ((if_congr (wid_ge16 (y 1)) rfl rfl).trans e) rfl).trans ?_
  rw [← (EReal.coe_strictMono.monotone.map_min : _ = min (((256 * i + (y 0).val + 1 : ℕ) : ℝ) : EReal) _)]
  exact congrArg (fun a => a - ((X (y 0).val (y 1).val : ℝ) : EReal)) (div_coe_coe _ _ (dvs_pos i (y 0).val (y 1).val).ne')

end Cert.Mix

end
-- ==== Proof.MixDots.lean ====
/- The matrix products, casts and concatenations of the mixer's gradient kernel at real matrices. -/
module

public import proofs.«01_k».proof.Proof.MixMask

@[expose] public section

set_option maxRecDepth 16384

noncomputable section

namespace Cert.Mix

open Cert.MixBwdIdeal Cert.MixBwdIdeal.Gen Idealize.ShloMosaic Idealize.ShloMosaic.TcCoe Idealize.SL.Sem Cert.Base

section
variable (X Y : ℕ → ℕ → ℝ)

theorem divf_256 {m n : ℕ} : divf (F := Ideal) (φ := .f32) (co2 (m := m) (n := n) X) (co2 fun _ _ => 256) = co2 fun t j => X t j / 256 :=
  divf_const X 256 (by norm_num)
theorem divf_1024 {m n : ℕ} : divf (F := Ideal) (φ := .f32) (co2 (m := m) (n := n) X) (co2 fun _ _ => 1024) = co2 fun t j => X t j / 1024 :=
  divf_const X 1024 (by norm_num)

theorem mm_nn : matmul (F := Ideal) (φ₁ := .bf16) (φ₂ := .bf16) dot_S256x256_S256x256_S256x256_1_0_0_1_n_n none (co2 X) (co2 Y) (co2 fun _ _ => 0)
    = co2 fun t j => ∑ k : Fin 256, X t k * Y k j := by
  funext i
  pointwise
  simp only [co2_apply, ← EReal.coe_mul, coe_sum, ← EReal.coe_add, zero_add]
  rfl
theorem mm_tn : matmul (F := Ideal) (φ₁ := .bf16) (φ₂ := .bf16) dot_S256x256_S256x256_S256x256_0_0_1_1_n_n none (co2 X) (co2 Y) (co2 fun _ _ => 0)
    = co2 fun t j => ∑ k : Fin 256, X k t * Y k j := by
  funext i
  pointwise
  simp only [co2_apply, ← EReal.coe_mul, coe_sum, ← EReal.coe_add, zero_add]
  rfl
theorem mm_pool : matmul (F := Ideal) (φ₁ := .bf16) (φ₂ := .bf16) dot_S288x256_S256x256_S288x256_1_1_0_0_n_n none (co2 X) (co2 Y) (co2 fun _ _ => 0)
    = co2 fun t j => ∑ k : Fin 256, X t k * Y j k := by
  funext i
  pointwise
  simp only [co2_apply, ← EReal.coe_mul, coe_sum, ← EReal.coe_add, zero_add]
  rfl
theorem mm_mixed : matmul (F := Ideal) (φ₁ := .bf16) (φ₂ := .bf16) dot_S128x512_S512x256_S128x256_1_0_0_1_n_n none (co2 X) (co2 Y) (co2 fun _ _ => 0)
    = co2 fun t j => ∑ k : Fin 512, X t k * Y k j := by
  funext i
  pointwise
  simp only [co2_apply, ← EReal.coe_mul, coe_sum, ← EReal.coe_add, zero_add]
  rfl
theorem mm_ws : matmul (F := Ideal) (φ₁ := .bf16) (φ₂ := .bf16) dot_S512x256_S128x256_S512x128_1_1_0_0_n_n none (co2 X) (co2 Y) (co2 fun _ _ => 0)
    = co2 fun t j => ∑ k : Fin 256, X t k * Y j k := by
  funext i
  pointwise
  simp only [co2_apply, ← EReal.coe_mul, coe_sum, ← EReal.coe_add, zero_add]
  rfl
theorem mm_back : matmul (F := Ideal) (φ₁ := .bf16) (φ₂ := .bf16) dot_S512x128_S128x256_S512x256_1_0_0_1_n_n none (co2 X) (co2 Y) (co2 fun _ _ => 0)
    = co2 fun t j => ∑ k : Fin 128, X t k * Y k j := by
  funext i
  pointwise
  simp only [co2_apply, ← EReal.coe_mul, coe_sum, ← EReal.coe_add, zero_add]
  rfl
theorem mm_dh : matmul (F := Ideal) (φ₁ := .bf16) (φ₂ := .bf16) dot_S256x2048_S2048x1024_S256x1024_1_0_0_1_n_n none (co2 X) (co2 Y) (co2 fun _ _ => 0)
    = co2 fun t j => ∑ k : Fin 2048, X t k * Y k j := by
  funext i
  pointwise
  simp only [co2_apply, ← EReal.coe_mul, coe_sum, ← EReal.coe_add, zero_add]
  rfl
theorem mm_out : matmul (F := Ideal) (φ₁ := .bf16) (φ₂ := .bf16) dot_S256x1024_S1024x1024_S256x1024_1_1_0_0_n_n none (co2 X) (co2 Y) (co2 fun _ _ => 0)
    = co2 fun t j => ∑ k : Fin 1024, X t k * Y j k := by
  funext i
  pointwise
  simp only [co2_apply, ← EReal.coe_mul, coe_sum, ← EReal.coe_add, zero_add]
  rfl
theorem mm_next : matmul (F := Ideal) (φ₁ := .bf16) (φ₂ := .bf16) dot_S32x1024_S1024x1024_S32x1024_1_1_0_0_n_n none (co2 X) (co2 Y) (co2 fun _ _ => 0)
    = co2 fun t j => ∑ k : Fin 1024, X t k * Y j k := by
  funext i
  pointwise
  simp only [co2_apply, ← EReal.coe_mul, coe_sum, ← EReal.coe_add, zero_add]
  rfl

theorem cast_wo (Z : ℕ → ℕ → ℕ → ℝ) (h) : shapeCast S1024x1024 (co3 (l := 8) (m := 128) (n := 1024) Z) h = co2 fun f j => Z (f / 128) (f % 128) j := by
  funext i; pointwise; rfl
theorem cast_wi (Z : ℕ → ℕ → ℕ → ℝ) (h) : shapeCast S2048x1024 (co3 (l := 8) (m := 256) (n := 1024) Z) h = co2 fun f j => Z (f / 256) (f % 256) j := by
  funext i; pointwise; rfl
end

theorem cat_two_of {m n a b : ℕ} {X Y : ℕ → ℕ → ℝ} {x : FVec Ideal ⟨2, ![a, n]⟩ .f32} {y : FVec Ideal ⟨2, ![b, n]⟩ .f32} (hx : x = co2 X) (hy : y = co2 Y) (h) :
    concatenate (⟨2, ![m, n]⟩ : Shape) 0 [⟨⟨2, ![a, n]⟩, x⟩, ⟨⟨2, ![b, n]⟩, y⟩] h = co2 fun t j => if t < a then X t j else Y (t - a) j := by
  subst hx hy
  exact cat_two X Y h
theorem cat_four_of {m n a : ℕ} {φ : FTy} {X Y Z W : ℕ → ℕ → ℝ} {x y z w : FVec Ideal ⟨2, ![a, n]⟩ φ} (hx : x = co2 X) (hy : y = co2 Y) (hz : z = co2 Z) (hw : w = co2 W) (h) :
    concatenate (⟨2, ![m, n]⟩ : Shape) 0 [⟨⟨2, ![a, n]⟩, x⟩, ⟨⟨2, ![a, n]⟩, y⟩, ⟨⟨2, ![a, n]⟩, z⟩, ⟨⟨2, ![a, n]⟩, w⟩] h
      = co2 fun t j => if t < a then X t j else if t - a < a then Y (t - a) j else if t - a - a < a then Z (t - a - a) j else W (t - a - a - a) j := by
  subst hx hy hz hw
  exact cat_four X Y Z W h

/-- One matrix four times under itself, each time with the lanes of another head only. -/
theorem heads_stack (D : ℕ → ℕ → ℝ) (h) :
    concatenate S512x256 0 [⟨S128x256, select (hm 0) (co2 D) (broadcast S128x256 (Scalar.ofBits (F := Ideal) .bf16 0x0000#16))⟩,
      ⟨S128x256, select (hm 1) (co2 D) (broadcast S128x256 (Scalar.ofBits (F := Ideal) .bf16 0x0000#16))⟩,
      ⟨S128x256, select (hm 2) (co2 D) (broadcast S128x256 (Scalar.ofBits (F := Ideal) .bf16 0x0000#16))⟩,
      ⟨S128x256, select (hm 3) (co2 D) (broadcast S128x256 (Scalar.ofBits (F := Ideal) .bf16 0x0000#16))⟩] h
      = co2 fun a j => if j / 64 = a / 128 then D (a % 128) j else 0 := by
  have e : ∀ k, select (hm k) (co2 D) (broadcast S128x256 (Scalar.ofBits (F := Ideal) .bf16 0x0000#16)) = co2 fun t j => if j / 64 = k then D t j else 0 := fun k => by
    rw [bcast_zero16]
    unfold hm
    rw [select_msk]
    simp only [decide_eq_true_eq]
  refine (cat_four_of (φ := .bf16) (e 0) (e 1) (e 2) (e 3) h).trans (co2_congr fun t j ht hj => ?_)
  split_ifs <;> first | omega | rfl | (congr 1; omega)

/-- A sum over four heads' rows of which only one head's count. -/
theorem sum_heads (W V : ℕ → ℝ) (g : ℕ) (hg : g < 4) :
    ∑ k : Fin 512, W k * (if g = k.val / 128 then V (k.val % 128) else 0) = ∑ s : Fin 128, W (128 * g + s) * V s := by
  have e := (finProdFinEquiv (m := 4) (n := 128)).sum_comp (fun k : Fin 512 => W k * (if g = k.val / 128 then V (k.val % 128) else 0))
  rw [← e, Fintype.sum_prod_type, Finset.sum_eq_single (⟨g, hg⟩ : Fin 4)]
  · refine Finset.sum_congr rfl fun s _ => ?_
    have hs := s.isLt
    simp only [finProdFinEquiv_apply_val]
    rw [if_pos (by omega), show (s.val + 128 * g) % 128 = s.val by omega, Nat.add_comm]
  · intro b _ hb
    refine Finset.sum_eq_zero fun s _ => ?_
    have hs := s.isLt
    simp only [finProdFinEquiv_apply_val]
    rw [if_neg (fun h => hb (Fin.ext (by simp only; omega))), mul_zero]
  · intro h
    exact absurd (Finset.mem_univ _) h

end Cert.Mix

end
-- ==== Proof.FfnReal.lean ====
/- The feed-forward block's gradient over the reals: the formulas in which both programs are read. -/
module

public import proofs.«01_k».proof.Proof.Base

@[expose] public section

noncomputable section

namespace Cert.Ffn

open Cert.Base

variable (X Dy : ℕ → ℕ → ℝ) (g : ℕ → ℝ) (w1 w3 w2 : ℕ → ℕ → ℝ)

/-- The normalized rows times the gain. -/
def hh (t j : ℕ) : ℝ := xh X t j * g j
/-- A product of the normalized rows with a weight. -/
def pr (w : ℕ → ℕ → ℝ) (t f : ℕ) : ℝ := ∑ j : Fin 1024, hh X g t j * w j f
/-- The gated hidden activations. -/
def uu (t f : ℕ) : ℝ := pr X g w1 t f * sg (pr X g w1 t f) * pr X g w3 t f
/-- The gradient of the hidden activations, of the gate's argument and of the other factor. -/
def du (t f : ℕ) : ℝ := ∑ k : Fin 1024, 1 / 2 * Dy t k * w2 f k
def da (t f : ℕ) : ℝ := du Dy w2 t f * pr X g w3 t f *
  (sg (pr X g w1 t f) + pr X g w1 t f * sg (pr X g w1 t f) * (1 - sg (pr X g w1 t f)))
def db (t f : ℕ) : ℝ := du Dy w2 t f * (pr X g w1 t f * sg (pr X g w1 t f))
/-- The gradient of the normalized rows times the gain. -/
def dh (t j : ℕ) : ℝ := (∑ f : Fin 2816, da X Dy g w1 w3 w2 t f * w1 j f) + ∑ f : Fin 2816, db X Dy g w1 w2 t f * w3 j f
/-- The gradient of the gain: its share of row `t`. -/
def dgt (t j : ℕ) : ℝ := dh X Dy g w1 w3 w2 t j * xh X t j

end Cert.Ffn

namespace Cert.Base

/-- The gradient of the normalization with respect to its argument, where `d` is the gradient of the normalized row. -/
def dnorm (X d : ℕ → ℕ → ℝ) (t j : ℕ) : ℝ := rs X t * (d t j - xh X t j * ((∑ k : Fin 1024, d t k * xh X t k) / 1024))

/-- The same gradient as the chain rule through the reciprocal root writes it. -/
theorem dnorm_eq (X d : ℕ → ℕ → ℝ) (t j : ℕ) :
    d t j * rs X t + X t j * ((∑ k : Fin 1024, X t k * d t k) * (-(1 / 2) * (rs X t / ms X t)) / 1024)
      + (∑ k : Fin 1024, X t k * d t k) * (-(1 / 2) * (rs X t / ms X t)) / 1024 * X t j = dnorm X d t j := by
  have h : (∑ k : Fin 1024, d t k * xh X t k) = (∑ k : Fin 1024, X t k * d t k) * rs X t := by
    rw [Finset.sum_mul]; exact Finset.sum_congr rfl fun k _ => by unfold xh; ring
  rw [dnorm, h, rs_div, xh]; ring

end Cert.Base

end
-- ==== Proof.MixPay.lean ====
/- What the values of the mixer's gradient kernel are at one tile, each from the tile's own inputs. -/
module

public import proofs.«01_k».proof.Proof.MixDots
public import proofs.«01_k».proof.Proof.FfnReal

@[expose] public section

set_option maxRecDepth 16384

noncomputable section

namespace Cert.Mix

open Cert.MixBwdIdeal Cert.MixBwdIdeal.Gen Idealize.ShloMosaic Idealize.ShloMosaic.TcCoe Idealize.SL.Sem Cert.Base

variable (A : In) (P : ℕ → ℕ → ℝ)

/-! Whether rows before the tile exist, and the mixed rows' gradient. -/

theorem se_eq (i : grid0.Coords) (hi : (i 0).val = A.i) : k0_pay2 (F := Ideal) i = (A.se : EReal) := by
  unfold k0_pay2
  rw [hi]
  have h : (i 0).val < 32 := (i 0).isLt
  rw [hi] at h
  have := (by decide +kernel : ∀ a : Fin 32, Scalar.cmpi .sgt (BitVec.ofNat 32 a.val) 0#32 = BitVec.ofBool (decide (¬ a.val = 0))) ⟨A.i, h⟩
  dsimp only at this ⊢
  rw [this]
  refine (bit_real _).trans ?_
  unfold In.se
  by_cases h0 : A.i = 0 <;> simp [h0]

theorem dm_eq (i : grid0.Coords) (hi : (i 0).val = A.i) : k0_pay11 (F := Ideal) i (co3 A.wo) (co2 A.dy) (co2 A.dyn) = co2 A.dm := by
  unfold k0_pay11
  rw [hi]
  have h : (i 0).val < 32 := (i 0).isLt
  rw [hi] at h
  have := (by decide +kernel : ∀ a : Fin 32, Scalar.cmpi .slt (BitVec.ofNat 32 a.val) 31#32 = BitVec.ofBool (decide (a.val < 31))) ⟨A.i, h⟩
  dsimp only at this ⊢
  have e : (Scalar.sitofp (F := Ideal) .f32 (Scalar.extui (BitVec.ofBool (decide (A.i < 31)))) : EReal) = (A.mo : EReal) := by
    refine (bit_real _).trans ?_
    unfold In.mo
    simp only [decide_eq_true_eq]
  rw [this]
  refine (cat_two_of (X := fun q j => ∑ k : Fin 1024, A.dy q k * A.wo (j / 128) (j % 128) k)
    (Y := fun q j => ∑ k : Fin 1024, A.dyn q k * A.mo * A.wo (j / 128) (j % 128) k) ?_ ?_ _).trans rfl
  all_goals
    simp only [e, bcast_co, shapeCast_same3, cast_wo, truncf_co2, mulf_co2, const_zero, mm_out, mm_next]

theorem rv_of {m n : ℕ} (R : ℕ → ℕ → ℝ) : rsqrt (F := Ideal) (φ := .f32) (co2 (m := m) (n := n) fun t _ => (∑ k : Fin 256, cen R t k * cen R t k) / 256 + eps) = co2 fun t _ => rv R t :=
  rsqrt_co2 _ fun t _ _ _ => va_pos R t

/-! The identities. -/

theorem vec_eq : k0_pay10 (F := Ideal) (co2 P) = co2 P := shapeCast_same P _
theorem val_eq : k0_pay12 (F := Ideal) (co2 P) = co2 P := by
  unfold k0_pay12; simp only [shapeCast_same, extf_co2]
theorem cw_eq : k0_pay23 (F := Ideal) (co2 P) = co2 P := shapeCast_same P _
theorem c_eq : k0_pay24 (F := Ideal) (co2 P) = co2 P := shapeCast_same P _
theorem cn_eq : k0_pay25 (F := Ideal) (co2 P) = co2 P := shapeCast_same P _
theorem p2_eq : k0_pay102 (F := Ideal) (co2 P) = co2 P := by
  unfold k0_pay102; simp only [shapeCast_same, extf_co2]
theorem p3_eq : k0_pay103 (F := Ideal) (co2 P) = co2 P := by
  unfold k0_pay103; simp only [shapeCast_same, extf_co2]
theorem p4_eq : k0_pay104 (F := Ideal) (co2 P) = co2 P := by
  unfold k0_pay104; simp only [shapeCast_same, extf_co2]
theorem sw_eq : k0_pay107 (F := Ideal) (co2 P) = co2 P := shapeCast_same P _
theorem p5_eq : k0_pay121 (F := Ideal) (co2 P) = co2 P := by
  unfold k0_pay121; simp only [shapeCast_same, extf_co2]
theorem p5_eq' : k0_pay123 (F := Ideal) (co2 P) = co2 P := by
  unfold k0_pay123; rw [p5_eq]; simp only [shapeCast_same]
theorem pbd_eq : k0_pay130 (F := Ideal) (co2 P) = co2 P := shapeCast_same P _
theorem p6_eq : k0_pay147 (F := Ideal) (co2 P) = co2 P := by
  unfold k0_pay147; simp only [shapeCast_same, extf_co2]

/-! The gated rows, and the gradient through the normalized convolution. -/

theorem sg_eq : k0_pay13 (F := Ideal) (co2 P) = co2 fun t j => sg (P t j) := by
  unfold k0_pay13
  simp only [shapeCast_same, extf_co2, bcast_half, mulf_co2, tanh_co2, addf_co2, sg_tanh]
theorem yp_eq : k0_pay14 (F := Ideal) (A.se : EReal) (co2 A.pp) (co2 fun t j => A.pp t (256 + j)) = co2 A.yp := by
  unfold k0_pay14
  simp only [shapeCast_same, extf_co2, bcast_half, bcast_co, mulf_co2, tanh_co2, addf_co2, sg_tanh]
  rfl
theorem ym_eq : k0_pay15 (F := Ideal) (co2 A.pm) (co2 fun t j => sg (A.pm t (256 + j))) = co2 A.ym := by
  unfold k0_pay15
  simp only [shapeCast_same, mulf_co2]
  rfl

theorem cen_eq : k0_pay26 (F := Ideal) (co2 A.c) (co2 A.cn) = co2 (cen A.ca) := by
  unfold k0_pay26
  dsimp only
  rw [cat_two]
  simp only [row_sum (m := 288) (n := 256), bcast_256, divf_256, bcast_col, subf_co2]
  rfl
theorem rv_eq : k0_pay27 (F := Ideal) (co2 A.c) (co2 A.cn) = co2 fun t _ => rv A.ca t := by
  unfold k0_pay27
  rw [cen_eq]
  simp only [mulf_co2, row_sum (m := 288) (n := 256), bcast_256, divf_256, bcast_eps, addf_co2, rv_of]
theorem hat_eq : k0_pay28 (F := Ideal) (co2 A.c) (co2 A.cn) = co2 (hat A.ca) := by
  unfold k0_pay28
  rw [cen_eq, rv_eq]
  simp only [bcast_col, mulf_co2]
  rfl
theorem dln_eq : k0_pay29 (F := Ideal) (co2 A.vec) (co2 A.dm) (co2 A.c) (co2 A.cn) = co2 A.dln := by
  unfold k0_pay29
  rw [hat_eq]
  simp only [slice_co2, bcast_row, mulf_co2, addf_co2, bcast_half, tanh_co2, sg_tanh, bcast_one, subf_co2, Nat.zero_add, Nat.add_zero]
  rfl
theorem dc_eq : k0_pay32 (F := Ideal) (co2 A.vec) (co2 fun t _ => rv A.ca t) (co2 (hat A.ca)) (co2 A.dln) = co2 A.dc := by
  unfold k0_pay32
  simp only [slice_co2, bcast_row, bcast_col, mulf_co2, row_sum (m := 288) (n := 256), bcast_256, divf_256, subf_co2, Nat.zero_add, Nat.add_zero]
  rfl
theorem dc_eq' : k0_pay34 (F := Ideal) (co2 A.vec) (co2 fun t _ => rv A.ca t) (co2 (hat A.ca)) (co2 A.dln) = co2 A.dc := by
  unfold k0_pay34
  rw [dc_eq]
  simp only [shapeCast_same]

/-- The rows of the vectors' gradients that the convolution's part adds to. -/
theorem dlg_eq : k0_pay30 (F := Ideal) (co2 A.vec) (co2 A.dm) (co2 A.c) (co2 A.cn) (co2 P)
    = co2 fun t j => P t j + ∑ r : Fin 256, A.dln r j * hat A.ca r j := by
  unfold k0_pay30
  rw [dln_eq, hat_eq]
  simp only [slice_co2, mulf_co2, shapeCast_same, col_sum (m := 256) (n := 256), addf_co2, Nat.zero_add]
theorem dlb_eq : k0_pay31 (F := Ideal) (co2 A.dln) (co2 P) = co2 fun t j => P t j + ∑ r : Fin 256, A.dln r j := by
  unfold k0_pay31
  simp only [slice_co2, shapeCast_same, col_sum (m := 256) (n := 256), addf_co2, Nat.zero_add]
theorem dcb_eq : k0_pay33 (F := Ideal) (co2 A.vec) (co2 fun t _ => rv A.ca t) (co2 (hat A.ca)) (co2 A.dln) (co2 P)
    = co2 fun t j => P t j + ∑ r : Fin 256, A.dc r j := by
  unfold k0_pay33
  rw [dc_eq]
  simp only [slice_co2, shapeCast_same, col_sum (m := 256) (n := 256), addf_co2, Nat.zero_add]

/-! The short convolution. -/

theorem zp_eq : k0_pay105 (F := Ideal) (A.se : EReal) (co2 fun t j => A.pp t (768 + j)) (co2 fun t j => A.pp t (1024 + j)) = co2 A.zp := by
  unfold k0_pay105
  simp only [shapeCast_same, extf_co2, bcast_co, mulf_co2]
  rfl
theorem zm_eq : k0_pay106 (F := Ideal) (co2 fun t j => A.pm t (768 + j)) (co2 fun t j => A.pm t (1024 + j)) = co2 A.zm := by
  unfold k0_pay106
  rw [p3_eq, p4_eq]
  simp only [shapeCast_same, mulf_co2]
  rfl
theorem dp2_eq : k0_pay111 (F := Ideal) (co2 A.dm) (co2 A.sw) (k0_pay108) (k0_pay109 (co2 A.sw)) (co2 fun t j => A.z (30 + t) j)
    (co2 fun t j => A.z (31 + t) j) (co2 fun t j => A.z (32 + t) j) = co2 A.dp2 := by
  unfold k0_pay111 k0_pay109 k0_pay108 k0_pay110
  rw [sw_eq]
  simp only [slice_co2, bcast_row, bcast_zero, mulf_co2, addf_co2, truncf_co2, Nat.zero_add, Nat.add_zero]
  unfold In.dp2 In.cz
  simp only [Finset.sum_range_succ, Finset.sum_range_zero, Nat.reduceAdd]
theorem dzm_eq : k0_pay112 (F := Ideal) (co2 A.dm) (co2 fun t j => A.pm t (512 + j)) = co2 A.dzm := by
  unfold k0_pay112 k0_pay110
  simp only [slice_co2, mulf_co2, shapeCast_same, Nat.zero_add]
  rfl
theorem dzn_eq : k0_pay113 (F := Ideal) (co2 A.dm) (co2 fun t j => A.pn t (512 + j)) = co2 A.dzn := by
  unfold k0_pay113 k0_pay110
  simp only [slice_co2, mulf_co2, shapeCast_same, extf_co2, Nat.zero_add]
  rfl
theorem dzs_eq : k0_pay117 (F := Ideal) (co2 A.sw) (k0_pay114 (co2 A.sw) (co2 fun t j => A.dz (2 + t) j))
    (co2 fun t j => A.dz (1 + t) j) (co2 A.dz) = co2 A.dzs := by
  unfold k0_pay117 k0_pay114
  simp only [slice_co2, bcast_row, bcast_zero, mulf_co2, addf_co2, Nat.zero_add, Nat.add_zero]
  unfold In.dzs
  simp only [Finset.sum_range_succ, Finset.sum_range_zero, Nat.reduceSub, Nat.zero_add]
theorem dp3_eq : k0_pay119 (F := Ideal) (co2 fun t j => A.pm t (1024 + j)) (co2 A.dzs) = co2 A.dp3 := rfl
theorem dp4_eq : k0_pay120 (F := Ideal) (co2 fun t j => A.pm t (768 + j)) (co2 A.dzs) = co2 A.dp4 := rfl

/-! The pooling. -/

theorem ep_eq : k0_pay122 (F := Ideal) (A.se : EReal) (co2 fun t j => A.pp t (1280 + j)) = co2 A.ep := by
  unfold k0_pay122
  simp only [shapeCast_same, extf_co2, bcast_co, mulf_co2]
  rfl
theorem e2_eq : k0_pay125 (F := Ideal) (co2 fun t j => A.e (8 + t) j) (co2 fun t j => A.e (7 + t) j) = co2 fun t j => A.e2 (8 + t) j := by
  unfold k0_pay125
  simp only [addf_co2, shapeCast_same]
  exact co2_congr fun t j _ _ => by unfold In.e2; rw [show 8 + t - 1 = 7 + t by omega]
theorem e4_eq : k0_pay126 (F := Ideal) (co2 fun t j => A.e2 (16 + t) j) (co2 fun t j => A.e2 (14 + t) j) = co2 fun t j => A.e4 (16 + t) j := by
  unfold k0_pay126
  simp only [addf_co2, shapeCast_same]
  exact co2_congr fun t j _ _ => by unfold In.e4; rw [show 16 + t - 2 = 14 + t by omega]
theorem e8_eq : k0_pay127 (F := Ideal) (co2 fun t j => A.e4 (24 + t) j) (co2 fun t j => A.e4 (20 + t) j) = co2 fun t j => A.e8 (24 + t) j := by
  unfold k0_pay127
  simp only [addf_co2, shapeCast_same]
  exact co2_congr fun t j _ _ => by unfold In.e8; rw [show 24 + t - 4 = 20 + t by omega]
theorem dpool_eq (hi : A.i < 32) : k0_pay129 (F := Ideal) (BitVec.ofNat 32 A.i) (co2 fun t j => A.pm t (1280 + j)) (co2 fun _ j => wid j)
      (k0_pay128 (co2 fun _ j => wid j) (co2 fun t j => A.e2 (32 + t) j) (co2 fun t j => A.e4 (32 + t) j) (co2 fun t j => A.e8 (32 + t) j))
      (co2 fun t j => A.e8 (32 + t) j) (co2 fun t j => A.e8 (24 + t) j) = co2 A.dpool := by
  rw [pool3_eq, pool_eq _ _ _ _ _ _ hi]
  exact co2_congr fun t j _ _ => by unfold In.dpool In.e16; rw [show 32 + t - 8 = 24 + t by omega]; rfl
theorem dps_eq (hi : A.i < 32) : k0_pay132 (F := Ideal) (BitVec.ofNat 32 A.i) (co2 A.dm) (co2 fun t j => A.pm t (1280 + j)) (co2 fun _ j => wid j)
      (k0_pay128 (co2 fun _ j => wid j) (co2 fun t j => A.e2 (32 + t) j) (co2 fun t j => A.e4 (32 + t) j) (co2 fun t j => A.e8 (32 + t) j))
      (co2 fun t j => A.e8 (32 + t) j) (co2 fun t j => A.e8 (24 + t) j) (co2 A.pbd) (co2 P)
    = co2 fun t j => P t j + ∑ r : Fin 256, A.dm r (512 + j) * A.yc r j := by
  unfold k0_pay132
  rw [dpool_eq A hi, pbd_eq]
  unfold k0_pay131
  simp only [const_zero, mm_nn, slice_co2, mulf_co2, shapeCast_same, col_sum (m := 256) (n := 256), addf_co2, Nat.zero_add]
  rfl
theorem dyc_eq : k0_pay133 (F := Ideal) (co2 A.vec) (k0_pay131 (co2 A.dm)) = co2 A.dyc := by
  unfold k0_pay133 k0_pay131
  simp only [slice_co2, bcast_row, mulf_co2, truncf_co2, Nat.zero_add, Nat.add_zero]
  rfl
theorem dpbd_eq : k0_pay134 (F := Ideal) (co2 A.vec) (co2 A.dpool) (k0_pay131 (co2 A.dm)) (co2 P) = co2 fun a b => P a b + A.dpbd a b := by
  unfold k0_pay134
  rw [dyc_eq]
  simp only [const_zero, mm_tn, slice_co2, shapeCast_same, addf_co2, Nat.zero_add]
  rfl
theorem dd_eq : k0_pay135 (F := Ideal) (co2 A.vec) (co2 A.pbd) (k0_pay131 (co2 A.dm)) = co2 A.dd := by
  unfold k0_pay135
  rw [dyc_eq]
  simp only [const_zero, mm_pool]
  rfl
theorem f_eq (hi : A.i < 32) : k0_pay136 (F := Ideal) (BitVec.ofNat 32 A.i) (co2 A.vec) (co2 A.pbd) (k0_pay131 (co2 A.dm)) = co2 A.f := by
  unfold k0_pay136
  rw [dd_eq]
  funext y
  pointwise
  refine (congrArg₂ (fun a b : EReal => Ideal.div (co2 A.dd y) (min a b)) (pos_scalar A.i _ hi (y 0).isLt) (wid_scalar (y 1))).trans ?_
  rw [← (EReal.coe_strictMono.monotone.map_min : _ = min (((256 * A.i + (y 0).val + 1 : ℕ) : ℝ) : EReal) _)]
  exact div_coe_coe _ _ (dvs_pos A.i (y 0).val (y 1).val).ne'
theorem f2_eq : k0_pay137 (F := Ideal) (co2 A.f) (co2 fun t j => A.f (1 + t) j) = co2 A.f2 := by
  unfold k0_pay137
  simp only [addf_co2, shapeCast_same]
  rfl
theorem f4_eq : k0_pay138 (F := Ideal) (co2 A.f2) (co2 fun t j => A.f2 (2 + t) j) = co2 A.f4 := by
  unfold k0_pay138
  simp only [addf_co2, shapeCast_same]
  rfl
theorem f8_eq : k0_pay139 (F := Ideal) (co2 A.f4) (co2 fun t j => A.f4 (4 + t) j) = co2 A.f8 := by
  unfold k0_pay139
  simp only [addf_co2, shapeCast_same]
  rfl
theorem dp5_eq : k0_pay142 (F := Ideal) (co2 fun _ j => wid j) (co2 A.dd)
      (k0_pay140 (co2 fun _ j => wid j) (co2 A.f2) (co2 A.f4) (Scalar.ofBits .f32 0x40800000#32) (co2 A.f8))
      (k0_pay141 (co2 A.f8) (co2 fun t j => A.f8 (8 + t) j)) = co2 A.dp5 := by
  funext y
  pointwise [k0_pay142, k0_pay140, k0_pay141]
  rw [bits_four, bits_eight, bits_sixteen]
  refine (congrArg (fun a : EReal => a - co2 A.dd y) ((if_congr (wid_ge16 (y 1)) rfl (if_congr (wid_ge8 (y 1)) rfl (if_congr (wid_ge (y 1)) rfl rfl))).trans ?_)).trans
    (rfl : ((pick (y 1).val (A.f2 (y 0).val (y 1).val) (A.f4 (y 0).val (y 1).val) (A.f8 (y 0).val (y 1).val) (A.f16 (y 0).val (y 1).val) : ℝ) : EReal) - co2 A.dd y = co2 A.dp5 y)
  unfold pick
  split_ifs <;> first | rfl | omega

/-! The gating. -/

theorem gcen_eq : k0_pay143 (F := Ideal) (co2 fun t j => A.pm t (1792 + j)) = co2 (cen A.gv) := by
  unfold k0_pay143
  simp only [shapeCast_same, extf_co2, row_sum (m := 256) (n := 256), bcast_256, divf_256, bcast_col, subf_co2]
  rfl
theorem grv_eq : k0_pay144 (F := Ideal) (co2 fun t j => A.pm t (1792 + j)) = co2 fun t _ => rv A.gv t := by
  unfold k0_pay144
  rw [gcen_eq]
  simp only [mulf_co2, row_sum (m := 256) (n := 256), bcast_256, divf_256, bcast_eps, addf_co2, rv_of]
theorem ghat_eq : k0_pay145 (F := Ideal) (co2 fun t j => A.pm t (1792 + j)) = co2 (hat A.gv) := by
  unfold k0_pay145
  rw [gcen_eq, grv_eq]
  simp only [bcast_col, mulf_co2]
  rfl
theorem v_eq : k0_pay146 (F := Ideal) (co2 A.vec) (co2 fun t j => A.pm t (1792 + j)) = co2 A.v := by
  unfold k0_pay146
  rw [ghat_eq]
  simp only [slice_co2, bcast_row, mulf_co2, addf_co2, truncf_co2, Nat.zero_add, Nat.add_zero]
  rfl
theorem dod_eq : k0_pay148 (F := Ideal) (co2 A.dm) = co2 A.dod := by
  unfold k0_pay148
  simp only [slice_co2, Nat.zero_add]
  rfl

/-- A sum over the heads' stacked lanes is the sum over a lane's own head. -/
theorem mixed_eq (q : ℕ) (t j : ℕ) (ht : t < 128) (hj : j < 256) :
    (∑ k : Fin 512, A.wcat t k * (if j / 64 = k.val / 128 then A.v (128 * q + k.val % 128) j else 0)) + A.bst t j = A.mixed (128 * q + t) j := by
  unfold In.mixed
  rw [sum_heads (A.wcat t) (fun s => A.v (128 * q + s) j) (j / 64) (by omega), show (128 * q + t) % 128 = t by omega, show (128 * q + t) / 128 = q by omega]

theorem dp6_eq : k0_pay156 (F := Ideal) (co2 A.v) (co2 A.dod) (iota .tc S128x256 32 [1] iota_S128x256_d1_w32) (hm 0) k0_pay150 (co2 A.wcat) (co2 A.bst) = co2 A.dp6 := by
  have e : k0_pay155 (F := Ideal) (co2 A.v) = co2 A.v := by unfold k0_pay155; simp only [slice_co2, Nat.zero_add]
  unfold k0_pay156
  rw [e, m1_eq, m2_eq, m3_eq]
  dsimp only
  rw [heads_stack]
  simp only [const_zero, mm_mixed, shapeCast_same, addf_co2, mulf_co2, truncf_co2, slice_co2, Nat.zero_add]
  exact co2_congr fun t j ht hj => congrArg (A.dod t j * ·) (by simpa only [Nat.mul_zero, Nat.zero_add] using mixed_eq A 0 t j ht hj)
theorem dp6_eq' : k0_pay171 (F := Ideal) (co2 A.v) (co2 A.dod) (hm 0) (hm 1) (hm 2) (hm 3) (co2 A.wcat) (co2 A.bst) = co2 fun t j => A.dp6 (128 + t) j := by
  have e : k0_pay170 (F := Ideal) (co2 A.v) = co2 fun t j => A.v (128 + t) j := by unfold k0_pay170; simp only [slice_co2, Nat.zero_add]
  unfold k0_pay171
  rw [e]
  dsimp only
  rw [heads_stack]
  simp only [const_zero, mm_mixed, shapeCast_same, addf_co2, mulf_co2, truncf_co2, slice_co2, Nat.zero_add]
  exact co2_congr fun t j ht hj => congrArg (A.dod (128 + t) j * ·) (by simpa only [Nat.mul_one] using mixed_eq A 1 t j ht hj)

/-! The gradient of the mixed rows, chunk by chunk: its products' shares of the gradients of the gating's weights and of
    its bias, and of the rows the weights mixed. -/

theorem chunk_eq (X : ℕ → ℕ → ℝ) : k0_pay157 (F := Ideal) (co2 X) = co2 X := by
  unfold k0_pay157; simp only [slice_co2, Nat.zero_add]
theorem chunk_eq' (X : ℕ → ℕ → ℝ) : k0_pay158 (F := Ideal) (co2 X) = co2 X := by
  unfold k0_pay158; simp only [slice_co2, Nat.zero_add]
theorem vq_eq : k0_pay155 (F := Ideal) (co2 A.v) = co2 A.v := by
  unfold k0_pay155; simp only [slice_co2, Nat.zero_add]
theorem vq_eq' : k0_pay170 (F := Ideal) (co2 A.v) = co2 fun t j => A.v (128 + t) j := by
  unfold k0_pay170; simp only [slice_co2, Nat.zero_add]
theorem dmx_eq : k0_pay159 (F := Ideal) (co2 A.dod) (co2 fun t j => A.pm t (1536 + j)) = co2 A.dmx := rfl
theorem dmx_eq_t : k0_pay160 (F := Ideal) (co2 A.dod) (co2 fun t j => A.pm t (1536 + j)) = co2 A.dmx := rfl
theorem dmx_eq' : k0_pay172 (F := Ideal) (co2 fun t j => A.pm t (1536 + j)) (co2 A.dod) = co2 fun t j => A.dmx (128 + t) j := by
  unfold k0_pay172
  simp only [slice_co2, mulf_co2, Nat.zero_add]
  rfl
theorem dmx_eq_t' : k0_pay173 (F := Ideal) (co2 fun t j => A.pm t (1536 + j)) (co2 A.dod) = co2 fun t j => A.dmx (128 + t) j := by
  unfold k0_pay173
  rw [dmx_eq', truncf_co2]

/-- A head's row sums, put into the head's column of what was there. -/
theorem head_sum (D : ℕ → ℕ → ℝ) (k : ℕ) (hk : k < 4) (h h') (h'' : (0x00000000#32 : BitVec 32) = 0x00000000#32) (h1 h2 h3) (h5 : S128x128.ShapeCasts S128x128) :
    addf (F := Ideal) (φ := .f32) (shapeCast S128x128 (co2 (m := 128) (n := 128) P) h5) (select (cmpi .eq (iota .tc S128x128 32 [1] iota_S128x128_d1_w32) (broadcast S128x128 (BitVec.ofNat 32 k)))
      (broadcastTo S128x128 (shapeCast S128x1 (shapeCast S128x1 (multiReduction (F := Ideal) (φ := .f32) .add [1] S128
        (select (hm k) (co2 D) (broadcast S128x256 (Scalar.ofBits (F := Ideal) .f32 0x00000000#32))) 0x00000000#32 h h' h'') h1) h2) h3)
      (broadcast S128x128 (Scalar.ofBits (F := Ideal) .f32 0x00000000#32)))
    = co2 fun s c => P s c + if c = k then ∑ j : Fin 256, (if j.val / 64 = c then D s j else 0) else 0 := by
  rw [col_eq k hk]
  unfold hm cm
  simp only [bcast_zero, select_msk, decide_eq_true_eq]
  rw [row_sum (m := 128) (n := 256)]
  simp only [shapeCast_same, bcast_col, select_msk, addf_co2, decide_eq_true_eq]
  exact co2_congr fun s c _ _ => by split_ifs with hc <;> simp only [hc]

/-- The row sums of the two chunks, head by head. -/
theorem dbs_eq : k0_pay161 (F := Ideal) (hm 0) (iota .tc S128x128 32 [1] iota_S128x128_d1_w32) (co2 A.dod) (co2 fun t j => A.pm t (1536 + j)) (co2 P)
    = co2 fun s c => P s c + if c = 0 then A.dbs 0 s c else 0 := by
  unfold k0_pay161
  rw [dmx_eq]
  refine (head_sum P A.dmx 0 (by decide) _ _ _ _ _ _ _).trans (co2_congr fun s c _ _ => ?_)
  simp only [In.dbs, Nat.mul_zero, Nat.zero_add]
theorem dbs_eq1 : k0_pay162 (F := Ideal) (hm 1) (iota .tc S128x128 32 [1] iota_S128x128_d1_w32) (co2 A.dod) (co2 fun t j => A.pm t (1536 + j)) (co2 P)
    = co2 fun s c => P s c + if c = 1 then A.dbs 0 s c else 0 := by
  unfold k0_pay162
  rw [dmx_eq]
  refine (head_sum P A.dmx 1 (by decide) _ _ _ _ _ _ _).trans (co2_congr fun s c _ _ => ?_)
  simp only [In.dbs, Nat.mul_zero, Nat.zero_add]
theorem dbs_eq2 : k0_pay166 (F := Ideal) (iota .tc S128x128 32 [1] iota_S128x128_d1_w32) (k0_pay163 (hm 2) (co2 A.dod) (co2 fun t j => A.pm t (1536 + j)))
      (k0_pay164 (co2 P)) k0_pay165 = co2 fun s c => P s c + if c = 2 then A.dbs 0 s c else 0 := by
  unfold k0_pay166 k0_pay163 k0_pay164 k0_pay165
  rw [dmx_eq]
  refine (head_sum P A.dmx 2 (by decide) _ _ _ _ _ _ _).trans (co2_congr fun s c _ _ => ?_)
  simp only [In.dbs, Nat.mul_zero, Nat.zero_add]
theorem dbs_eq3 : k0_pay167 (F := Ideal) (hm 3) (iota .tc S128x128 32 [1] iota_S128x128_d1_w32) (co2 A.dmx) (co2 P)
    = co2 fun s c => P s c + if c = 3 then A.dbs 0 s c else 0 := by
  unfold k0_pay167
  refine (head_sum P A.dmx 3 (by decide) _ _ _ _ _ _ _).trans (co2_congr fun s c _ _ => ?_)
  simp only [In.dbs, Nat.mul_zero, Nat.zero_add]
theorem dbs_eq4 : k0_pay175 (F := Ideal) (iota .tc S128x128 32 [1] iota_S128x128_d1_w32) (k0_pay174 (co2 fun t j => A.pm t (1536 + j)) (co2 A.dod) (hm 0)) (co2 P)
    = co2 fun s c => P s c + if c = 0 then A.dbs 1 s c else 0 := by
  unfold k0_pay175 k0_pay174
  rw [dmx_eq']
  exact head_sum P (fun t j => A.dmx (128 + t) j) 0 (by decide) _ _ _ _ _ _ _
theorem dbs_eq5 : k0_pay176 (F := Ideal) (hm 1) (iota .tc S128x128 32 [1] iota_S128x128_d1_w32) (co2 fun t j => A.dmx (128 + t) j) (co2 P)
    = co2 fun s c => P s c + if c = 1 then A.dbs 1 s c else 0 := by
  unfold k0_pay176
  exact head_sum P (fun t j => A.dmx (128 + t) j) 1 (by decide) _ _ _ _ _ _ _
theorem dbs_eq6 : k0_pay177 (F := Ideal) (hm 2) (iota .tc S128x128 32 [1] iota_S128x128_d1_w32) (co2 fun t j => A.dmx (128 + t) j) (co2 P)
    = co2 fun s c => P s c + if c = 2 then A.dbs 1 s c else 0 := by
  unfold k0_pay177
  exact head_sum P (fun t j => A.dmx (128 + t) j) 2 (by decide) _ _ _ _ _ _ _
theorem dbs_eq7 : k0_pay178 (F := Ideal) (hm 3) (iota .tc S128x128 32 [1] iota_S128x128_d1_w32) (co2 fun t j => A.dmx (128 + t) j) (co2 P)
    = co2 fun s c => P s c + if c = 3 then A.dbs 1 s c else 0 := by
  unfold k0_pay178
  exact head_sum P (fun t j => A.dmx (128 + t) j) 3 (by decide) _ _ _ _ _ _ _

theorem dws_eq : k0_pay168 (F := Ideal) (hm 0) (hm 1) (hm 2) (hm 3) k0_pay154 (co2 A.v) (co2 A.dmx) (co2 P) = co2 fun a s => P a s + A.dws 0 a s := by
  unfold k0_pay168
  dsimp only
  rw [heads_stack, tril_eq]
  simp only [const_zero, mm_ws, shapeCast_same, mulf_co2, addf_co2]
  exact co2_congr fun a s _ _ => by simp only [In.dws, Nat.mul_zero, Nat.zero_add]
theorem dws_eq' : k0_pay179 (F := Ideal) (hm 0) (hm 1) (hm 2) (hm 3) k0_pay154 (co2 fun t j => A.v (128 + t) j) (co2 fun t j => A.dmx (128 + t) j) (co2 P)
    = co2 fun a s => P a s + A.dws 1 a s := by
  unfold k0_pay179
  dsimp only
  rw [heads_stack, tril_eq]
  simp only [const_zero, mm_ws, shapeCast_same, mulf_co2, addf_co2]
  rfl

/-- Of four matrices under each other, each lane from its own head's. -/
theorem own_head (B : ℕ → ℕ → ℝ) (t j : ℕ) (hj : j < 256) :
    (if j / 64 = 3 then B (384 + t) j else if j / 64 = 2 then B (256 + t) j else if j / 64 = 1 then B (128 + t) j else if j / 64 = 0 then B t j else 0)
      = B (128 * (j / 64) + t) j := by
  have h : j / 64 < 4 := by omega
  generalize j / 64 = h' at h ⊢
  interval_cases h' <;> simp

theorem dv_eq : k0_pay169 (F := Ideal) (hm 0) (hm 1) (hm 2) (hm 3) (co2 A.dmx) (co2 A.wcatt) = co2 A.dv := by
  unfold k0_pay169 hm
  simp only [shapeCast_same, const_zero, mm_back, bcast_zero, slice_co2, select_msk, decide_eq_true_eq, Nat.zero_add]
  refine co2_congr fun t j ht hj => (own_head (fun t j => ∑ k : Fin 128, A.wcatt t k * A.dmx k j) t j hj).trans ?_
  unfold In.dv
  rw [show t % 128 = t by omega, show t / 128 = 0 by omega]
  simp only [Nat.mul_zero, Nat.zero_add]
theorem dv_eq' : k0_pay182 (F := Ideal) (hm 2) (hm 3) (co2 A.dv) (k0_pay180 (co2 fun t j => A.dmx (128 + t) j) (co2 A.wcatt))
    (k0_pay181 (hm 0) (hm 1) (co2 fun t j => A.dmx (128 + t) j) (co2 A.wcatt)) = co2 A.dv := by
  have e : k0_pay180 (F := Ideal) (co2 fun t j => A.dmx (128 + t) j) (co2 A.wcatt) = co2 fun t j => ∑ k : Fin 128, A.wcatt t k * A.dmx (128 + k) j := by
    unfold k0_pay180
    simp only [shapeCast_same, const_zero, mm_back]
  unfold k0_pay182 k0_pay181
  rw [e]
  refine (cat_two_of (X := A.dv) (Y := fun t j => A.dv (128 + t) j) rfl ?_ _).trans (co2_congr fun t j _ _ => ?_)
  · unfold hm
    simp only [bcast_zero, slice_co2, select_msk, decide_eq_true_eq, Nat.zero_add]
    refine co2_congr fun t j ht hj => (own_head (fun t j => ∑ k : Fin 128, A.wcatt t k * A.dmx (128 + k) j) t j hj).trans ?_
    unfold In.dv
    rw [show (128 + t) % 128 = t by omega, show (128 + t) / 128 = 1 by omega]
  · split_ifs
    · rfl
    · rw [show 128 + (t - 128) = t by omega]

section
variable (v9 : FVec Ideal S128x256 .f32) (v7 : FVec Ideal S512x256 .f32) (v2 : FVec Ideal S128x256 .f32) (hv : k0_pay182 (hm 2) (hm 3) v9 v7 v2 = co2 A.dv)
include hv
theorem dgg_eq : k0_pay183 (F := Ideal) (co2 (hat A.gv)) (hm 2) (hm 3) v9 v7 v2 (co2 P) = co2 fun t j => P t j + ∑ r : Fin 256, A.dv r j * hat A.gv r j := by
  unfold k0_pay183
  rw [hv]
  simp only [shapeCast_same, mulf_co2, col_sum (m := 256) (n := 256), addf_co2]
theorem dgb_eq : k0_pay184 (F := Ideal) (hm 2) (hm 3) v9 v7 v2 (co2 P) = co2 fun t j => P t j + ∑ r : Fin 256, A.dv r j := by
  unfold k0_pay184
  rw [hv]
  simp only [shapeCast_same, col_sum (m := 256) (n := 256), addf_co2]
theorem dp7_eq : k0_pay185 (F := Ideal) (co2 A.vec) (co2 fun t _ => rv A.gv t) (co2 (hat A.gv)) (hm 2) (hm 3) v9 v7 v2 = co2 A.dp7 := by
  unfold k0_pay185
  rw [hv]
  simp only [slice_co2, bcast_row, bcast_col, mulf_co2, row_sum (m := 256) (n := 256), bcast_256, divf_256, subf_co2, truncf_co2, Nat.zero_add, Nat.add_zero]
  rfl
end

/-! The gradient through the rows' normalization. -/

theorem rs_eq (X : ℕ → ℕ → ℝ) : k0_pay186 (F := Ideal) (co2 X) = co2 fun t _ => rs X t := by
  unfold k0_pay186
  simp only [mulf_co2, row_sum (m := 256) (n := 1024), bcast_1024, divf_1024, bcast_eps, addf_co2]
  exact rsqrt_co2 _ fun t _ _ _ => ms_pos X t
theorem xh_eq (X : ℕ → ℕ → ℝ) : k0_pay187 (F := Ideal) (co2 X) = co2 (xh X) := by
  unfold k0_pay187
  rw [rs_eq]
  simp only [bcast_col, mulf_co2]
  rfl
theorem dh_eq : k0_pay188 (F := Ideal) (co2 A.dp) (co3 A.wi) = co2 A.dh := by
  unfold k0_pay188
  simp only [shapeCast_same, shapeCast_same3, cast_wi, const_zero, mm_dh]
  rfl
theorem dx_eq : k0_pay189 (F := Ideal) (co2 A.x) (co2 A.dp) (co3 A.wi) (co2 A.dy) (co2 fun _ j => A.gain j)
    = co2 fun t j => A.dy t j + dnorm A.x (fun t j => A.dh t j * A.gain j) t j := by
  unfold k0_pay189
  rw [dh_eq, xh_eq, rs_eq]
  simp only [shapeCast_same, bcast_row, bcast_col, mulf_co2, row_sum (m := 256) (n := 1024), bcast_1024, divf_1024, subf_co2, addf_co2]
  rfl
theorem dg_eq : k0_pay191 (F := Ideal) (co2 A.x) (co2 A.dp) (co3 A.wi) = co2 fun _ j => ∑ r : Fin 256, A.dh r j * xh A.x r j := by
  unfold k0_pay191
  rw [dh_eq, xh_eq]
  simp only [mulf_co2, col_sum (m := 256) (n := 1024)]

end Cert.Mix

end
-- ==== Proof.MixRead.lean ====
/- One grid point of the mixer's gradient kernel: its input blocks as real matrices, and what the loads from its scratch
   arrays read back. -/
module

public import proofs.«01_k».proof.Proof.MixPay

@[expose] public section

set_option maxRecDepth 16384

noncomputable section

namespace Cert.Mix.Blk

open Cert.MixBwdIdeal Cert.MixBwdIdeal.Gen Idealize.ShloMosaic Idealize.ShloMosaic.TcCoe Idealize.SL.Sem Cert.Base Cert.Mix

variable (m : (ℓ : Loc nD τ sig) → Buf (Elt Ideal) ℓ) (c : Dev nD) (t : Fin cfg0.N) (A : In)

/-- The input blocks of a grid point, as real matrices. -/
structure Tile : Prop where
  i : (grid0.coords t 0).val = A.i
  pp : iblk m c 0 t = co2 A.pp
  pm : iblk m c 1 t = co2 A.pm
  pn : iblk m c 2 t = co2 A.pn
  dy : iblk m c 3 t = co2 A.dy
  dyn : iblk m c 4 t = co2 A.dyn
  conv : iblk m c 5 t = co2 A.c
  convn : iblk m c 6 t = co2 A.cn
  x : iblk m c 7 t = co2 A.x
  gain : iblk m c 8 t = co2 fun _ j => A.gain j
  wi : X0_9 m c t = co3 A.wi
  wo : iblk m c 10 t = co3 A.wo
  cw : iblk m c 11 t = co2 A.cw
  vec : iblk m c 12 t = co2 A.vec
  sw : iblk m c 13 t = co2 A.sw
  pbd : iblk m c 14 t = co2 A.pbd
  wcat : iblk m c 15 t = co2 A.wcat
  bst : iblk m c 16 t = co2 A.bst
  wcatt : iblk m c 17 t = co2 A.wcatt

section
variable {m c t A} (T : Tile m c t A)
include T
theorem Tile.lt : A.i < 32 := T.i ▸ (grid0.coords t 0).isLt
theorem Tile.se : k0_pay2 (F := Ideal) (grid0.coords t) = (A.se : EReal) := se_eq A _ T.i
theorem Tile.dm : k0_pay11 (F := Ideal) (grid0.coords t) (co3 A.wo) (co2 A.dy) (co2 A.dyn) = co2 A.dm := dm_eq A _ T.i
end

section
variable {sig : RefSig} {κ : Kind} {sp : Space} {o k : ℕ}

/-! Rows of the arrays that hold the rows before the tile over those in it, or the tile's over the ones after it. -/

theorem y_read (v : View sig κ sp S288x256 .f32) (h h' h'') :
    v.readCov (Val := Elt Ideal) [⟨Rect.unit ![32, 0] ![256, 256] h, co2 (m := 256) (n := 256) A.ym⟩, ⟨Rect.unit ![0, 0] ![32, 256] h', co2 (m := 32) (n := 256) A.yp⟩]
      (Rect.unit ![o, 0] ![k, 256] h'').toLoadRect = co2 (m := k) (n := 256) fun t j => A.y (o + t) j := readCov_two rfl v h h' h'' _ _
theorem z_read (v : View sig κ sp S288x256 .f32) (h h' h'') :
    v.readCov (Val := Elt Ideal) [⟨Rect.unit ![32, 0] ![256, 256] h, co2 (m := 256) (n := 256) A.zm⟩, ⟨Rect.unit ![0, 0] ![32, 256] h', co2 (m := 32) (n := 256) A.zp⟩]
      (Rect.unit ![o, 0] ![k, 256] h'').toLoadRect = co2 (m := k) (n := 256) fun t j => A.z (o + t) j := readCov_two rfl v h h' h'' _ _
theorem e_read (v : View sig κ sp S288x256 .f32) (h h' h'') :
    v.readCov (Val := Elt Ideal) [⟨Rect.unit ![32, 0] ![256, 256] h, co2 (m := 256) (n := 256) fun t j => A.pm t (1280 + j)⟩, ⟨Rect.unit ![0, 0] ![32, 256] h', co2 (m := 32) (n := 256) A.ep⟩]
      (Rect.unit ![o, 0] ![k, 256] h'').toLoadRect = co2 (m := k) (n := 256) fun t j => A.e (o + t) j := readCov_two rfl v h h' h'' _ _
theorem dz_read (v : View sig κ sp S288x256 .f32) (h h' h'') :
    v.readCov (Val := Elt Ideal) [⟨Rect.unit ![256, 0] ![32, 256] h, co2 (m := 32) (n := 256) A.dzn⟩, ⟨Rect.unit ![0, 0] ![256, 256] h', co2 (m := 256) (n := 256) A.dzm⟩]
      (Rect.unit ![o, 0] ![k, 256] h'').toLoadRect = co2 (m := k) (n := 256) fun t j => A.dz (o + t) j := readCov_two rfl v h h' h'' _ _
end

end Cert.Mix.Blk

end
-- ==== Proof.MixReal.lean ====
/- The mixer's gradient over the reals: the formulas in which both programs are read, and what a tile's values are
   of them. -/
module

public import proofs.«01_k».proof.Proof.MixTileReal
public import proofs.«01_k».proof.Proof.FfnReal

@[expose] public section

set_option maxHeartbeats 1000000

noncomputable section

namespace Cert.Mix

open Cert.Base Cert.Ffn

/-- The arguments of the mixer's gradient. -/
structure Par where
  X : ℕ → ℕ → ℝ
  gain : ℕ → ℝ
  win : ℕ → ℕ → ℝ
  cw : ℕ → ℕ → ℝ
  cb : ℕ → ℝ
  lg : ℕ → ℝ
  lb : ℕ → ℝ
  sw : ℕ → ℕ → ℝ
  pw : ℕ → ℕ → ℕ → ℝ
  ps : ℕ → ℝ
  gg : ℕ → ℝ
  gb : ℕ → ℝ
  ws : ℕ → ℕ → ℕ → ℝ
  bs : ℕ → ℕ → ℝ
  wout : ℕ → ℕ → ℝ
  dy : ℕ → ℕ → ℝ

/-- Rows with `n` rows of zeros before them, and rows that end after 8192. -/
def lag (n : ℕ) (F : ℕ → ℕ → ℝ) (s j : ℕ) : ℝ := if s < n then 0 else F (s - n) j
def cut (F : ℕ → ℕ → ℝ) (s j : ℕ) : ℝ := if s < 8192 then F s j else 0

namespace Par

variable (B : Par)

/-- The input product and the gradient of the mixed rows. -/
def P (s j : ℕ) : ℝ := pr B.X B.gain B.win s j
def DM (s j : ℕ) : ℝ := ∑ k : Fin 1024, B.dy s k * B.wout j k

/-- The convolution. -/
def Y (s j : ℕ) : ℝ := B.P s j * sg (B.P s (256 + j))
def C (s j : ℕ) : ℝ := (∑ k ∈ Finset.range 31, lag 30 B.Y (s + k) j * B.cw k j) + B.cb j
def LN (s j : ℕ) : ℝ := hat B.C s j * B.lg j + B.lb j
def DLN (s j : ℕ) : ℝ := B.DM s j * (sg (B.LN s j) * (1 + B.LN s j * (1 - sg (B.LN s j))))
def DC (s j : ℕ) : ℝ := lnb B.lg B.C B.DLN s j
def DY (s j : ℕ) : ℝ := ∑ k ∈ Finset.range 31, B.cw k j * cut B.DC (30 - k + s) j
def DCW (k j : ℕ) : ℝ := ∑ s : Fin 8192, B.DC s j * lag 30 B.Y (s + k) j

/-- The short convolution. -/
def Z (s j : ℕ) : ℝ := B.P s (768 + j) * B.P s (1024 + j)
def CZ (s j : ℕ) : ℝ := ∑ k ∈ Finset.range 3, B.sw k j * lag 2 B.Z (s + k) j
def DZ (s j : ℕ) : ℝ := B.DM s (256 + j) * B.P s (512 + j)
def DZS (s j : ℕ) : ℝ := ∑ k ∈ Finset.range 3, B.sw k j * cut B.DZ (2 - k + s) j
def DSW (k j : ℕ) : ℝ := ∑ s : Fin 8192, B.DZ s j * lag 2 B.Z (s + k) j

/-- The pooling over trailing windows. -/
def E (s j : ℕ) : ℝ := B.P s (1280 + j)
def back (w s j : ℕ) : ℝ := ∑ k ∈ Finset.range w, lag 32 B.E (32 + s - k) j
def DP (s j : ℕ) : ℝ := pick j (B.back 2 s j) (B.back 4 s j) (B.back 8 s j) (B.back 16 s j) / min ((s + 1 : ℕ) : ℝ) (wid j) - B.E s j
def pbd (a b : ℕ) : ℝ := if a / 64 = b / 64 then B.pw (a / 64) (a % 64) (b % 64) else 0
def YC (s j : ℕ) : ℝ := ∑ k : Fin 256, B.DP s k * B.pbd k j
def DYC (s j : ℕ) : ℝ := B.DM s (512 + j) * B.ps j
def DD (s j : ℕ) : ℝ := ∑ k : Fin 256, B.DYC s k * B.pbd j k
def FF (s j : ℕ) : ℝ := B.DD s j / min ((s + 1 : ℕ) : ℝ) (wid j)
def ahead (w s j : ℕ) : ℝ := ∑ k ∈ Finset.range w, cut B.FF (s + k) j
def DE (s j : ℕ) : ℝ := pick j (B.ahead 2 s j) (B.ahead 4 s j) (B.ahead 8 s j) (B.ahead 16 s j) - B.DD s j
def DPW (a b : ℕ) : ℝ := ∑ s : Fin 8192, B.DP s a * B.DYC s b

/-- The gating over chunks of 128 rows. -/
def GV (s j : ℕ) : ℝ := B.P s (1792 + j)
def V (s j : ℕ) : ℝ := hat B.GV s j * B.gg j + B.gb j
def low (h t s : ℕ) : ℝ := if s ≤ t then B.ws h t s else 0
def MX (s j : ℕ) : ℝ := (∑ k : Fin 128, B.low (j / 64) (s % 128) k * B.V (128 * (s / 128) + k) j) + B.bs (j / 64) (s % 128)
def DMX (s j : ℕ) : ℝ := B.DM s (768 + j) * B.P s (1536 + j)
def DV (s j : ℕ) : ℝ := ∑ k : Fin 128, B.low (j / 64) k (s % 128) * B.DMX (128 * (s / 128) + k) j
def DGV (s j : ℕ) : ℝ := lnb B.gg B.GV B.DV s j
def DBS (h t : ℕ) : ℝ := ∑ n : Fin 64, ∑ k : Fin 64, B.DMX (128 * n + t) (64 * h + k)
def DWS (h t s : ℕ) : ℝ := if s ≤ t then ∑ n : Fin 64, ∑ k : Fin 64, B.DMX (128 * n + t) (64 * h + k) * B.V (128 * n + s) (64 * h + k) else 0

/-- The gradient of the input product, and through the normalization. -/
def DPP (s j : ℕ) : ℝ :=
  if j < 256 then B.DY s j * sg (B.P s (256 + j))
  else if j < 512 then B.DY s (j - 256) * B.P s (j - 256) * sg (B.P s (256 + (j - 256))) * (1 - sg (B.P s (256 + (j - 256))))
  else if j < 768 then B.DM s (256 + (j - 512)) * B.CZ s (j - 512)
  else if j < 1024 then B.DZS s (j - 768) * B.P s (1024 + (j - 768))
  else if j < 1280 then B.DZS s (j - 1024) * B.P s (768 + (j - 1024))
  else if j < 1536 then B.DE s (j - 1280)
  else if j < 1792 then B.DM s (768 + (j - 1536)) * B.MX s (j - 1536)
  else B.DGV s (j - 1792)
def DH (s j : ℕ) : ℝ := ∑ k : Fin 2048, B.DPP s k * B.win j k
def DX (s j : ℕ) : ℝ := B.dy s j + dnorm B.X (fun s j => B.DH s j * B.gain j) s j
def DG (j : ℕ) : ℝ := ∑ s : Fin 8192, B.DH s j * xh B.X s j
def DVEC (k j : ℕ) : ℝ :=
  if k = 0 then ∑ s : Fin 8192, B.DC s j else if k = 1 then ∑ s : Fin 8192, B.DLN s j * hat B.C s j
  else if k = 2 then ∑ s : Fin 8192, B.DLN s j else if k = 3 then ∑ s : Fin 8192, B.DM s (512 + j) * B.YC s j
  else if k = 4 then ∑ s : Fin 8192, B.DV s j * hat B.GV s j else if k = 5 then ∑ s : Fin 8192, B.DV s j else 0

/-- What grid point `i` reads. -/
def tile (i : ℕ) : In where
  i := i
  pp r j := B.P (32 * (8 * i - 1) + r) j
  pm r j := B.P (256 * i + r) j
  pn r j := B.P (32 * min (8 * i + 8) 255 + r) j
  dy r j := B.dy (256 * i + r) j
  dyn r j := B.dy (32 * min (8 * i + 8) 255 + r) j
  c r j := B.C (256 * i + r) j
  cn r j := B.C (32 * min (8 * i + 8) 255 + r) j
  x r j := B.X (256 * i + r) j
  gain := B.gain
  wi a b j := B.win j (256 * a + b)
  wo a b j := B.wout (128 * a + b) j
  cw k j := if k < 31 then B.cw k j else 0
  vec k j := if k = 0 then B.cb j else if k = 1 then B.lg j else if k = 2 then B.lb j else if k = 3 then B.ps j else if k = 4 then B.gg j else if k = 5 then B.gb j else 0
  sw k j := if k < 3 then B.sw k j else 0
  pbd := B.pbd
  wcat t s := B.low (s / 128) t (s % 128)
  bst t j := B.bs (j / 64) t
  wcatt s t := B.low (s / 128) t (s % 128)

end Par

/-- A row's normalization is of that row alone. -/
theorem hat_row {R R' : ℕ → ℕ → ℝ} {q s : ℕ} (h : ∀ j, R q j = R' s j) (j : ℕ) : hat R q j = hat R' s j := by
  simp only [hat, rv, va, cen, mu, h]
theorem lnb_row {g g' : ℕ → ℝ} {R R' D D' : ℕ → ℕ → ℝ} {q s : ℕ} (hg : ∀ j, g j = g' j) (h : ∀ j, R q j = R' s j) (h' : ∀ j, j < 256 → D q j = D' s j) (j : ℕ) (hj : j < 256) :
    lnb g R D q j = lnb g' R' D' s j := by
  unfold lnb
  simp only [hat_row h, hg, h' j hj, show rv R q = rv R' s by simp only [rv, va, cen, mu, h]]
  have e (k : Fin 256) : D q k = D' s k := h' k k.isLt
  simp only [e]
theorem lnb_zero {g : ℕ → ℝ} {R D : ℕ → ℕ → ℝ} {q : ℕ} (h' : ∀ j, j < 256 → D q j = 0) (j : ℕ) (hj : j < 256) : lnb g R D q j = 0 := by
  unfold lnb
  rw [h' j hj, Finset.sum_eq_zero fun (k : Fin 256) _ => by rw [h' k k.isLt, zero_mul], Finset.sum_eq_zero fun (k : Fin 256) _ => by rw [h' k k.isLt, zero_mul, zero_mul]]
  simp

namespace Par

variable (B : Par) {i : ℕ} (hi : i < 32)
include hi

omit hi in
theorem t_se : (B.tile i).se = if i = 0 then 0 else 1 := rfl
omit hi in
theorem t_mo : (B.tile i).mo = if i < 31 then 1 else 0 := rfl
theorem t_pn {r : ℕ} (h : i < 31) : 32 * min (8 * i + 8) 255 + r = 256 * i + (256 + r) := by omega
theorem t_dm (q j : ℕ) (hq : q < 288) : (B.tile i).dm q j = cut B.DM (256 * i + q) j := by
  unfold In.dm cut
  by_cases h : q < 256
  · rw [if_pos h, if_pos (by omega)]
    refine Finset.sum_congr rfl fun k _ => ?_
    simp only [tile]; rw [Nat.div_add_mod]
  · rw [if_neg h]
    by_cases h' : i < 31
    · rw [if_pos (by omega)]
      refine Finset.sum_congr rfl fun k _ => ?_
      rw [t_mo, if_pos h', mul_one]; simp only [tile]; rw [Nat.div_add_mod, t_pn hi h', show 256 * i + (256 + (q - 256)) = 256 * i + q by omega]
    · rw [if_neg (by omega)]
      refine Finset.sum_eq_zero fun k _ => ?_
      rw [t_mo, if_neg h', mul_zero, zero_mul]
theorem t_dm' (r j : ℕ) (hr : r < 256) : (B.tile i).dm r j = B.DM (256 * i + r) j := by
  rw [t_dm B hi r j (by omega), cut, if_pos (by omega)]
theorem t_y (q j : ℕ) : (B.tile i).y q j = lag 32 B.Y (256 * i + q) j := by
  unfold In.y lag
  by_cases h : q < 32
  · rw [if_pos h]
    rw [In.yp, t_se]
    simp only [tile]
    by_cases h' : i = 0
    · rw [if_pos h', if_pos (by omega), mul_zero, zero_mul]
    · rw [if_neg h', if_neg (by omega), mul_one, mul_one, Y, show 256 * i + q - 32 = 32 * (8 * i - 1) + q by omega]
  · rw [if_neg h, if_neg (by omega), In.ym, Y, show 256 * i + q - 32 = 256 * i + (q - 32) by omega]; rfl
theorem t_z (q j : ℕ) : (B.tile i).z q j = lag 32 B.Z (256 * i + q) j := by
  unfold In.z lag
  by_cases h : q < 32
  · rw [if_pos h]
    rw [In.zp, t_se]
    simp only [tile]
    by_cases h' : i = 0
    · rw [if_pos h', if_pos (by omega), mul_zero, zero_mul]
    · rw [if_neg h', if_neg (by omega), mul_one, mul_one, Z, show 256 * i + q - 32 = 32 * (8 * i - 1) + q by omega]
  · rw [if_neg h, if_neg (by omega), In.zm, Z, show 256 * i + q - 32 = 256 * i + (q - 32) by omega]; rfl
theorem t_e (q j : ℕ) : (B.tile i).e q j = lag 32 B.E (256 * i + q) j := by
  unfold In.e lag
  by_cases h : q < 32
  · rw [if_pos h]
    rw [In.ep, t_se]
    simp only [tile]
    by_cases h' : i = 0
    · rw [if_pos h', if_pos (by omega), mul_zero]
    · rw [if_neg h', if_neg (by omega), mul_one, E, show 256 * i + q - 32 = 32 * (8 * i - 1) + q by omega]
  · rw [if_neg h, if_neg (by omega), In.em, E, show 256 * i + q - 32 = 256 * i + (q - 32) by omega]; rfl
theorem t_ca (q j : ℕ) (hq : q < 288) (h : 256 * i + q < 8192) : (B.tile i).ca q j = B.C (256 * i + q) j := by
  unfold In.ca
  by_cases h' : q < 256
  · rw [if_pos h']; rfl
  · rw [if_neg h']
    simp only [tile]; rw [t_pn hi (by omega), show 256 * i + (256 + (q - 256)) = 256 * i + q by omega]
theorem t_dln (q j : ℕ) (hq : q < 288) : (B.tile i).dln q j = cut B.DLN (256 * i + q) j := by
  unfold In.dln
  rw [t_dm B hi q j hq]
  unfold cut
  by_cases h : 256 * i + q < 8192
  · rw [if_pos h, if_pos h, DLN]
    have e : (B.tile i).ln q j = B.LN (256 * i + q) j := by
      unfold In.ln LN
      rw [hat_row (t_ca B hi q · hq h)]; rfl
    rw [e]
  · rw [if_neg h, if_neg h, zero_mul]
theorem t_dc (q j : ℕ) (hj : j < 256) (hq : q < 288) : (B.tile i).dc q j = cut B.DC (256 * i + q) j := by
  unfold In.dc cut
  by_cases h : 256 * i + q < 8192
  · rw [if_pos h, DC]
    exact lnb_row (fun _ => rfl) (t_ca B hi q · hq h) (fun j _ => by rw [t_dln B hi q j hq, cut, if_pos h]) j hj
  · rw [if_neg h]
    exact lnb_zero (fun j _ => by rw [t_dln B hi q j hq, cut, if_neg h]) j hj
theorem t_dz (q j : ℕ) (hq : q < 288) : (B.tile i).dz q j = cut B.DZ (256 * i + q) j := by
  unfold In.dz cut
  by_cases h' : q < 256
  · rw [if_pos h', In.dzm, t_dm' B hi q _ h', if_pos (by omega)]; rfl
  · rw [if_neg h', In.dzn, t_dm B hi _ _ (by omega), show 256 * i + (256 + (q - 256)) = 256 * i + q by omega, cut]
    by_cases h : 256 * i + q < 8192
    · rw [if_pos h, if_pos h, DZ]
      simp only [tile]; rw [t_pn hi (by omega), show 256 * i + (256 + (q - 256)) = 256 * i + q by omega]
    · rw [if_neg h, if_neg h, zero_mul]
omit hi in
theorem lag_add {F : ℕ → ℕ → ℝ} (n k s j : ℕ) : lag (n + k) F (s + k) j = lag n F s j := by
  unfold lag
  by_cases h : s < n
  · rw [if_pos h, if_pos (by omega)]
  · rw [if_neg h, if_neg (by omega), show s + k - (n + k) = s - n by omega]
theorem t_y' (r k j : ℕ) : (B.tile i).y (2 + k + r) j = lag 30 B.Y (256 * i + r + k) j := by
  rw [t_y B hi, ← lag_add 30 2, show 256 * i + (2 + k + r) = 256 * i + r + k + 2 by omega]
theorem t_z' (r k j : ℕ) : (B.tile i).z (30 + k + r) j = lag 2 B.Z (256 * i + r + k) j := by
  rw [t_z B hi, ← lag_add 2 30, show 256 * i + (30 + k + r) = 256 * i + r + k + 30 by omega]

/-! The window sums. -/

omit hi in
theorem e16_sum (A : In) (q j : ℕ) : A.e2 q j = ∑ k ∈ Finset.range 2, A.e (q - k) j ∧ A.e4 q j = ∑ k ∈ Finset.range 4, A.e (q - k) j
    ∧ A.e8 q j = ∑ k ∈ Finset.range 8, A.e (q - k) j ∧ A.e16 q j = ∑ k ∈ Finset.range 16, A.e (q - k) j := by
  refine ⟨?_, ?_, ?_, ?_⟩ <;>
  · simp only [In.e16, In.e8, In.e4, In.e2, Nat.sub_sub, Nat.reduceAdd, Finset.sum_range_succ, Finset.sum_range_zero, Nat.sub_zero, zero_add]
    try ring
omit hi in
theorem f16_sum (A : In) (q j : ℕ) : A.f2 q j = ∑ k ∈ Finset.range 2, A.f (q + k) j ∧ A.f4 q j = ∑ k ∈ Finset.range 4, A.f (q + k) j
    ∧ A.f8 q j = ∑ k ∈ Finset.range 8, A.f (q + k) j ∧ A.f16 q j = ∑ k ∈ Finset.range 16, A.f (q + k) j := by
  refine ⟨?_, ?_, ?_, ?_⟩ <;>
  · simp only [In.f16, In.f8, In.f4, In.f2, Nat.add_comm _ q, Nat.add_left_comm _ q, Nat.reduceAdd, Finset.sum_range_succ, Finset.sum_range_zero, Nat.add_zero, zero_add]
    try ring

theorem t_dpool (r j : ℕ) (hr : r < 256) : (B.tile i).dpool r j = B.DP (256 * i + r) j := by
  unfold In.dpool DP
  obtain ⟨h2, h4, h8, h16⟩ := e16_sum (B.tile i) (32 + r) j
  have e (w : ℕ) (hw : w ≤ 16) : (∑ k ∈ Finset.range w, (B.tile i).e (32 + r - k) j) = B.back w (256 * i + r) j :=
    Finset.sum_congr rfl fun k hk => by
      have := Finset.mem_range.mp hk
      rw [t_e B hi, show 256 * i + (32 + r - k) = 32 + (256 * i + r) - k by omega]
  rw [h2, h4, h8, h16, e 2 (by omega), e 4 (by omega), e 8 (by omega), e 16 (by omega)]
  rfl
theorem t_yc (r j : ℕ) (hr : r < 256) : (B.tile i).yc r j = B.YC (256 * i + r) j :=
  Finset.sum_congr rfl fun k _ => by rw [t_dpool B hi r k hr]; rfl
theorem t_dyc (q j : ℕ) (hq : q < 288) : (B.tile i).dyc q j = cut B.DYC (256 * i + q) j := by
  unfold In.dyc
  rw [t_dm B hi _ _ hq]
  unfold cut
  by_cases h : 256 * i + q < 8192
  · rw [if_pos h, if_pos h]; rfl
  · rw [if_neg h, if_neg h, zero_mul]
theorem t_dd (q j : ℕ) (hq : q < 288) : (B.tile i).dd q j = cut B.DD (256 * i + q) j := by
  unfold In.dd
  rw [Finset.sum_congr rfl fun (k : Fin 256) _ => by rw [t_dyc B hi q k hq]]
  unfold cut
  by_cases h : 256 * i + q < 8192
  · simp only [if_pos h]; rfl
  · simp only [if_neg h, zero_mul, Finset.sum_const_zero]
theorem t_f (q j : ℕ) (hq : q < 288) : (B.tile i).f q j = cut B.FF (256 * i + q) j := by
  unfold In.f
  rw [t_dd B hi q j hq]
  unfold cut
  by_cases h : 256 * i + q < 8192
  · rw [if_pos h, if_pos h]; rfl
  · rw [if_neg h, if_neg h, zero_div]
theorem t_dp5 (r j : ℕ) (hr : r < 256) : (B.tile i).dp5 r j = B.DE (256 * i + r) j := by
  unfold In.dp5 DE
  obtain ⟨h2, h4, h8, h16⟩ := f16_sum (B.tile i) r j
  have e (w : ℕ) (hw : w ≤ 16) : (∑ k ∈ Finset.range w, (B.tile i).f (r + k) j) = B.ahead w (256 * i + r) j :=
    Finset.sum_congr rfl fun k hk => by
      have := Finset.mem_range.mp hk
      rw [t_f B hi _ _ (by omega), Nat.add_assoc]
  rw [h2, h4, h8, h16, e 2 (by omega), e 4 (by omega), e 8 (by omega), e 16 (by omega), t_dd B hi r j (by omega), cut, if_pos (by omega)]

/-! The gating. -/

theorem t_hat (r j : ℕ) : hat (B.tile i).gv r j = hat B.GV (256 * i + r) j := hat_row (fun _ => rfl) j
theorem t_v (r j : ℕ) : (B.tile i).v r j = B.V (256 * i + r) j := by
  unfold In.v V
  rw [t_hat B hi]; rfl
theorem t_dmx (r j : ℕ) (hr : r < 256) : (B.tile i).dmx r j = B.DMX (256 * i + r) j := by
  unfold In.dmx DMX In.dod
  rw [t_dm' B hi r _ hr]; rfl
omit hi in
theorem chunk {r k : ℕ} : 256 * i + (128 * (r / 128) + k) = 128 * ((256 * i + r) / 128) + k ∧ (256 * i + r) % 128 = r % 128 := by omega
omit hi in
theorem head {j k : ℕ} (hk : k < 128) : (128 * (j / 64) + k) / 128 = j / 64 ∧ (128 * (j / 64) + k) % 128 = k := by omega
theorem t_mixed (r j : ℕ) : (B.tile i).mixed r j = B.MX (256 * i + r) j := by
  unfold In.mixed MX
  rw [Finset.sum_congr rfl fun (k : Fin 128) _ => by rw [t_v B hi, (chunk (i := i) (r := r) (k := k.val)).1]]
  simp only [tile]
  rw [Finset.sum_congr rfl fun (k : Fin 128) _ => by rw [(head (j := j) k.isLt).1, (head (j := j) k.isLt).2], (chunk (i := i) (r := r) (k := 0)).2]
theorem t_dv (r j : ℕ) (hr : r < 256) : (B.tile i).dv r j = B.DV (256 * i + r) j := by
  unfold In.dv DV
  refine Finset.sum_congr rfl fun k _ => ?_
  have hk := k.isLt
  rw [t_dmx B hi _ _ (by omega), (chunk (i := i) (r := r) (k := k.val)).1, (chunk (i := i) (r := r) (k := 0)).2]
  simp only [tile]
  rw [(head (j := j) (Nat.mod_lt r (by norm_num))).1, (head (j := j) (Nat.mod_lt r (by norm_num))).2]
theorem t_dp7 (r j : ℕ) (hj : j < 256) (hr : r < 256) : (B.tile i).dp7 r j = B.DGV (256 * i + r) j := by
  unfold In.dp7 DGV
  exact lnb_row (D := (B.tile i).dv) (q := r) (D' := B.DV) (s := 256 * i + r) (fun _ => rfl) (fun _ => rfl) (fun j _ => t_dv B hi r j hr) j hj

/-! The tile's results. -/

theorem t_dy0 (r j : ℕ) (hj : j < 256) (hr : r < 256) : (B.tile i).dy0 r j = B.DY (256 * i + r) j :=
  Finset.sum_congr rfl fun k hk => by
    have := Finset.mem_range.mp hk
    rw [t_dc B hi _ _ hj (by omega), show 256 * i + (30 - k + r) = 30 - k + (256 * i + r) by omega]
    simp only [tile, if_pos this]
theorem t_dzs (r j : ℕ) (hr : r < 256) : (B.tile i).dzs r j = B.DZS (256 * i + r) j :=
  Finset.sum_congr rfl fun k hk => by
    have := Finset.mem_range.mp hk
    rw [t_dz B hi _ _ (by omega), show 256 * i + (2 - k + r) = 2 - k + (256 * i + r) by omega]
    simp only [tile, if_pos this]
theorem t_cz (r j : ℕ) : (B.tile i).cz r j = B.CZ (256 * i + r) j :=
  Finset.sum_congr rfl fun k hk => by
    have := Finset.mem_range.mp hk
    rw [t_z' B hi]
    simp only [tile, if_pos this]
theorem t_dp (r j : ℕ) (hj : j < 2048) (hr : r < 256) : (B.tile i).dp r j = B.DPP (256 * i + r) j := by
  unfold In.dp DPP
  by_cases h0 : j < 256
  · rw [if_pos h0, if_pos h0, In.dp0, t_dy0 B hi r j h0 hr]; rfl
  rw [if_neg h0, if_neg h0]
  by_cases h1 : j < 512
  · rw [if_pos h1, if_pos h1, In.dp1, t_dy0 B hi r _ (by omega) hr]; rfl
  rw [if_neg h1, if_neg h1]
  by_cases h2 : j < 768
  · rw [if_pos h2, if_pos h2, In.dp2, t_dm' B hi r _ hr, t_cz B hi]
  rw [if_neg h2, if_neg h2]
  by_cases h3 : j < 1024
  · rw [if_pos h3, if_pos h3, In.dp3, t_dzs B hi r _ hr]; rfl
  rw [if_neg h3, if_neg h3]
  by_cases h4 : j < 1280
  · rw [if_pos h4, if_pos h4, In.dp4, t_dzs B hi r _ hr]; rfl
  rw [if_neg h4, if_neg h4]
  by_cases h5 : j < 1536
  · rw [if_pos h5, if_pos h5, t_dp5 B hi r _ hr]
  rw [if_neg h5, if_neg h5]
  by_cases h6 : j < 1792
  · rw [if_pos h6, if_pos h6, In.dp6, In.dod, t_dm' B hi r _ hr, t_mixed B hi]
  rw [if_neg h6, if_neg h6, t_dp7 B hi r _ (by omega) hr]
theorem t_dh (r j : ℕ) (hr : r < 256) : (B.tile i).dh r j = B.DH (256 * i + r) j :=
  Finset.sum_congr rfl fun k _ => by
    rw [t_dp B hi r k k.isLt hr]
    simp only [tile]; rw [Nat.div_add_mod]
theorem t_dx (r j : ℕ) (hr : r < 256) : (B.tile i).dy r j + dnorm (B.tile i).x (fun t j => (B.tile i).dh t j * (B.tile i).gain j) r j = B.DX (256 * i + r) j := by
  unfold DX dnorm
  simp only [t_dh B hi r _ hr]; rfl

end Par

end Cert.Mix

end
-- ==== Proof.Windows.lean ====
/- Gathers of whole rows of a table, and scatters adding whole rows into a table, at a matrix of row numbers. -/
module

public import proofs.«01_k».proof.Proof.Base
public import Idealize.ShloMosaic.Lib.Routing.OpsPair

@[expose] public section

set_option maxRecDepth 16384

noncomputable section

namespace Cert.Base
open Idealize.ShloMosaic

/-- The dimension numbers of a gather of whole rows of a table at a matrix of row numbers. -/
def rowsDims (N n k C : ℕ) (wf : GatherDims.WF ⟨2, ![N, C]⟩ ⟨3, ![n, k, 1]⟩ ⟨3, ![n, k, C]⟩ [2] [0] [] [0] [] 2 ![1, C]) :
    GatherDims ⟨2, ![N, C]⟩ ⟨3, ![n, k, 1]⟩ ⟨3, ![n, k, C]⟩ where
  offsetDims := [2]
  collapsedSliceDims := [0]
  operandBatchingDims := []
  startIndicesBatchingDims := []
  startIndexMap := [0]
  indexVectorDim := 2
  sliceSizes := ![1, C]
  wf := wf

/-- Such a gather, at row numbers inside the table. -/
theorem gather_rows {α : Type} {N n k C : ℕ} (wf : GatherDims.WF ⟨2, ![N, C]⟩ ⟨3, ![n, k, 1]⟩ ⟨3, ![n, k, C]⟩ [2] [0] [] [0] [] 2 ![1, C])
    (x : (⟨2, ![N, C]⟩ : Shape).Idx → α) (idx : IVec ⟨3, ![n, k, 1]⟩ 32) (a : Fin n) (b : Fin k) (j : Fin C) (r : Fin N)
    (h : (idx (ValueIdx.ix3 a b (0 : Fin 1))).toInt = r.val) :
    Host.gather (rowsDims N n k C wf) x idx (ValueIdx.ix3 a b j) = x (ValueIdx.ix2 r j) := by
  unfold Host.gather
  refine congrArg x (funext fun q => Fin.ext ?_)
  show (rowsDims N n k C wf).start (ValueIdx.ix3 a b j) idx q + (rowsDims N n k C wf).batchCoord (ValueIdx.ix3 a b j) q + (rowsDims N n k C wf).offCoord (ValueIdx.ix3 a b j) q = _
  rw [GatherDims.batchCoord_eq_zero _ _ _ List.not_mem_nil]
  have q01 : q = 0 ∨ q = 1 := by
    match q with
    | ⟨0, _⟩ => exact Or.inl rfl
    | ⟨1, _⟩ => exact Or.inr rfl
  rcases q01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N n k C wf).startIndexMap from List.mem_singleton.mpr rfl)]
    have e : (rowsDims N n k C wf).siIdx (ValueIdx.ix3 a b j) ⟨List.idxOf (0 : Fin 2) (rowsDims N n k C wf).startIndexMap,
        List.idxOf_lt_length_iff.2 (List.mem_singleton.mpr rfl)⟩ = ValueIdx.ix3 a b (0 : Fin 1) := by
      funext p; refine Fin.ext ?_
      match p with
      | ⟨0, _⟩ => rfl
      | ⟨1, _⟩ => rfl
      | ⟨2, _⟩ => rfl
    rw [e, h]
    have := r.isLt
    show min (Int.toNat r.val) (N - 1) + 0 + 0 = r.val
    omega
  · have hn : (1 : Fin 2) ∉ (rowsDims N n k C wf).startIndexMap := show (1 : Fin 2) ∉ ([0] : List (Fin 2)) by decide
    unfold GatherDims.start
    rw [dif_neg hn]
    refine (Nat.zero_add _).trans ?_
    unfold GatherDims.offCoord
    rw [dif_pos (show (1 : Fin 2) ∈ (rowsDims N n k C wf).sKept from by
      rw [GatherDims.mem_sKept]; exact ⟨show (1 : Fin 2) ∉ ([0] : List (Fin 2)) by decide, List.not_mem_nil⟩)]
    rfl

/-- Such a gather of real rows at the row numbers `a + b`. -/
theorem gather_win {N n k C : ℕ} (wf : GatherDims.WF ⟨2, ![N, C]⟩ ⟨3, ![n, k, 1]⟩ ⟨3, ![n, k, C]⟩ [2] [0] [] [0] [] 2 ![1, C]) (hN : n + k ≤ N + 1)
    (X : ℕ → ℕ → ℝ) (idx : IVec ⟨3, ![n, k, 1]⟩ 32)
    (h : ∀ (a : Fin n) (b : Fin k), (idx (ValueIdx.ix3 a b (0 : Fin 1))).toInt = ((a.val + b.val : ℕ) : ℤ)) :
    Host.gather (rowsDims N n k C wf) (co2 X) idx = co3 fun a b j => X (a + b) j := by
  funext i
  obtain ⟨a, b, j, rfl⟩ : ∃ (a : Fin n) (b : Fin k) (j : Fin C), i = ValueIdx.ix3 a b j := ⟨i 0, i 1, i 2, ValueIdx.eq_ix3 i⟩
  exact gather_rows wf _ idx a b j ⟨a.val + b.val, by have := a.isLt; have := b.isLt; omega⟩ (h a b)

/-- The dimension numbers of a scatter of whole rows into a table at a matrix of row numbers. -/
def rowsInto (N n k C : ℕ) (wf : ScatterDims.WF ⟨2, ![N, C]⟩ ⟨3, ![n, k, 1]⟩ ⟨3, ![n, k, C]⟩ [2] [0] [0] 2) :
    ScatterDims ⟨2, ![N, C]⟩ ⟨3, ![n, k, 1]⟩ ⟨3, ![n, k, C]⟩ where
  updateWindowDims := [2]
  insertedWindowDims := [0]
  scatterDimsToOperandDims := [0]
  indexVectorDim := 2
  wf := wf

/-- Where a row of such a scatter lands. -/
theorem lands_rows {N n k C : ℕ} (wf : ScatterDims.WF ⟨2, ![N, C]⟩ ⟨3, ![n, k, 1]⟩ ⟨3, ![n, k, C]⟩ [2] [0] [0] 2)
    (idx : IVec ⟨3, ![n, k, 1]⟩ 32) (a : Fin n) (b : Fin k) (j : Fin C) (r : Fin N) (l : Fin C) :
    (rowsInto N n k C wf).resultIdx? (ValueIdx.ix3 a b j) idx = some (ValueIdx.ix2 r l)
      ↔ (idx (ValueIdx.ix3 a b (0 : Fin 1))).toInt = r.val ∧ j = l := by
  rw [Routing.resultIdx?_eq_some]
  have e : (rowsInto N n k C wf).siIdx (ValueIdx.ix3 a b j) ⟨List.idxOf (0 : Fin 2) (rowsInto N n k C wf).scatterDimsToOperandDims,
      List.idxOf_lt_length_iff.2 (List.mem_singleton.mpr rfl)⟩ = ValueIdx.ix3 a b (0 : Fin 1) := by
    funext p; refine Fin.ext ?_
    match p with
    | ⟨0, _⟩ => rfl
    | ⟨1, _⟩ => rfl
    | ⟨2, _⟩ => rfl
  have h0 : (rowsInto N n k C wf).start (ValueIdx.ix3 a b j) idx 0 + ((rowsInto N n k C wf).window (ValueIdx.ix3 a b j) 0 : ℤ) = (idx (ValueIdx.ix3 a b (0 : Fin 1))).toInt := by
    have hn : (0 : Fin 2) ∉ (rowsInto N n k C wf).sKept := fun h => (of_decide_eq_true (List.mem_filter.1 h).2) (List.mem_singleton.2 rfl)
    unfold ScatterDims.start ScatterDims.window
    rw [dif_pos (show (0 : Fin 2) ∈ (rowsInto N n k C wf).scatterDimsToOperandDims from List.mem_singleton.mpr rfl), e,
      dif_neg hn]
    simp
  have h1 : (rowsInto N n k C wf).start (ValueIdx.ix3 a b j) idx 1 + ((rowsInto N n k C wf).window (ValueIdx.ix3 a b j) 1 : ℤ) = (j.val : ℤ) := by
    have hn : (1 : Fin 2) ∉ (rowsInto N n k C wf).scatterDimsToOperandDims := show (1 : Fin 2) ∉ ([0] : List (Fin 2)) by decide
    unfold ScatterDims.start ScatterDims.window
    rw [dif_neg hn,
      dif_pos (show (1 : Fin 2) ∈ (rowsInto N n k C wf).sKept from List.mem_filter.2 ⟨List.mem_finRange _, decide_eq_true (show (1 : Fin 2) ∉ ([0] : List (Fin 2)) by decide)⟩)]
    rw [Int.zero_add]
    rfl
  constructor
  · intro h
    have a0 := h 0
    have a1 := h 1
    rw [h0] at a0
    rw [h1] at a1
    exact ⟨a0, Fin.ext (by exact_mod_cast a1)⟩
  · rintro ⟨a0, rfl⟩ q
    match q with
    | ⟨0, _⟩ => exact h0.trans a0
    | ⟨1, _⟩ => exact h1

/-- Such a scatter adding real rows to a real table, row `(a, b)` to row `a + b` of the table. -/
theorem scatter_rows {N n k C : ℕ} (wf : ScatterDims.WF ⟨2, ![N, C]⟩ ⟨3, ![n, k, 1]⟩ ⟨3, ![n, k, C]⟩ [2] [0] [0] 2)
    (X : ℕ → ℕ → ℝ) (U : ℕ → ℕ → ℕ → ℝ) (idx : IVec ⟨3, ![n, k, 1]⟩ 32)
    (h : ∀ (a : Fin n) (b : Fin k), (idx (ValueIdx.ix3 a b (0 : Fin 1))).toInt = ((a.val + b.val : ℕ) : ℤ)) :
    Ideal.hostScatterAdd (rowsInto N n k C wf) (co2 X) idx (co3 U)
      = co2 fun r j => X r j + ∑ a : Fin n, ∑ b : Fin k, if a.val + b.val = r then U a b j else 0 := by
  funext i
  obtain ⟨r, l, rfl⟩ : ∃ (r : Fin N) (l : Fin C), i = ValueIdx.ix2 r l := ⟨i 0, i 1, ValueIdx.eq_ix2 i⟩
  unfold Ideal.hostScatterAdd
  rw [Finset.sum_filter, sum_idx3]
  have hx : ∀ (a : Fin n) (b : Fin k) (j : Fin C), Idealize.ShloMosaic.ix3 a b j = ValueIdx.ix3 a b j := fun a b j => ValueIdx.eq_ix3 _
  simp only [hx]
  simp only [lands_rows, h, Nat.cast_inj]
  have e : ∀ (a : Fin n) (b : Fin k), (∑ j : Fin C, if a.val + b.val = r.val ∧ j = l then (co3 U (ValueIdx.ix3 a b j) : EReal) else 0)
      = ((if a.val + b.val = r.val then U a b l else 0 : ℝ) : EReal) := by
    intro a b
    by_cases g : a.val + b.val = r.val
    · simp only [g, true_and, Finset.sum_ite_eq', Finset.mem_univ, if_true]
      rfl
    · simp only [g, false_and, if_false, Finset.sum_const_zero]
      rfl
  simp only [e, coe_sum, co2_apply, ← EReal.coe_add]
  rfl
end Cert.Base

end
-- ==== Proof.MixHost.lean ====
/- What the host lines before the mixer's gradient kernel hand to it, as real matrices. -/
module

public import proofs.«01_k».proof.Proof.MixRead
public import proofs.«01_k».proof.Proof.MixReal
public import proofs.«01_k».proof.Proof.Windows
public import Idealize.ShloMosaic.Lib.StableHlo.ReadAt
public import Idealize.ShloMosaic.Lib.Pipeline.ValueKit

@[expose] public section

set_option maxRecDepth 16384
set_option maxHeartbeats 1000000

noncomputable section

namespace Cert.Base
open Idealize.ShloMosaic
/-- A row number that is a sum, where a negative one would count from the end. -/
theorem word_add (z : BitVec 32) (a b : ℕ) (h : a + b < 2 ^ 31) :
    (Scalar.select (IntOp.cmpi .slt (IntOp.addi (BitVec.ofNat 32 a) (BitVec.ofNat 32 b)) 0#32) z (IntOp.addi (BitVec.ofNat 32 a) (BitVec.ofNat 32 b))).toInt
      = ((a + b : ℕ) : ℤ) := by
  have e : IntOp.addi (BitVec.ofNat 32 a) (BitVec.ofNat 32 b) = BitVec.ofNat 32 (a + b) := (BitVec.ofNat_add _ _).symm
  have n : (BitVec.ofNat 32 (a + b)).toNat = a + b := by rw [BitVec.toNat_ofNat]; omega
  rw [e, Routing.wrap_of_lt _ _ (by rw [n]; exact h), BitVec.toInt_eq_toNat_of_lt (by rw [n]; omega), n]

/-- The lower triangle's mask. -/
theorem tril {t s : ℕ} (ht : t < 128) (hs : s < 128) (x : ℝ) :
    Scalar.select (Scalar.select (IntOp.cmpi .sge (IntOp.addi (BitVec.ofNat 32 t) 0#32) (BitVec.ofNat 32 s)) 1#1 0#1) (x : EReal) (0 : EReal)
      = ((if s ≤ t then x else 0 : ℝ) : EReal) := by
  have e : IntOp.addi (BitVec.ofNat 32 t) 0#32 = BitVec.ofNat 32 t := BitVec.add_zero _
  rw [e, WordCmp.cmpi_sge_ofNat (by omega) (by omega)]
  by_cases h : s ≤ t
  · rw [if_pos h, decide_eq_true h]; rfl
  · rw [if_neg h, decide_eq_false h]; rfl

/-- A square block of 64 rows written into a square of 256 rows, on its diagonal. -/
def put (a : ℕ) (U X : ℕ → ℕ → ℝ) (r j : ℕ) : ℝ := if (a ≤ r ∧ r < a + 64) ∧ a ≤ j ∧ j < a + 64 then U (r - a) (j - a) else X r j
theorem block_into (X U : ℕ → ℕ → ℝ) (a : ℕ) (ha : a + 64 ≤ 256) (x : (⟨2, ![256, 256]⟩ : Shape).Idx → EReal) (hx : x = co2 X)
    (u : (⟨2, ![64, 64]⟩ : Shape).Idx → EReal) (hu : u = co2 U) (start : Fin (⟨2, ![256, 256]⟩ : Shape).rank → ℤ) (h0 : start 0 = a) (h1 : start 1 = a)
    (h : (⟨2, ![256, 256]⟩ : Shape).Slices (fun _ => 0) ⟨2, ![64, 64]⟩) :
    Host.dynamicUpdateSlice x u start h = co2 (put a U X) := by
  subst hx hu
  funext i
  rw [Host.dynamicUpdateSlice_apply]
  have c0 : Host.clampedStart (⟨2, ![256, 256]⟩ : Shape) ⟨2, ![64, 64]⟩ h.1 start 0 = a := by
    show (min (max (start 0) 0) ((256 - 64 : ℕ) : ℤ)).toNat = a
    rw [h0]; omega
  have c1 : Host.clampedStart (⟨2, ![256, 256]⟩ : Shape) ⟨2, ![64, 64]⟩ h.1 start 1 = a := by
    show (min (max (start 1) 0) ((256 - 64 : ℕ) : ℤ)).toNat = a
    rw [h1]; omega
  rw [co2_apply (put a U X)]
  unfold put
  by_cases g : (a ≤ (i 0).val ∧ (i 0).val < a + 64) ∧ a ≤ (i 1).val ∧ (i 1).val < a + 64
  · rw [dif_pos (by
      intro q
      match q with
      | ⟨0, _⟩ => exact (by rw [← c0] at g; exact ⟨g.1.1, g.1.2⟩)
      | ⟨1, _⟩ => exact (by rw [← c1] at g; exact ⟨g.2.1, g.2.2⟩)), if_pos g]
    show ((U ((i 0).val - Host.clampedStart (⟨2, ![256, 256]⟩ : Shape) ⟨2, ![64, 64]⟩ h.1 start 0)
      ((i 1).val - Host.clampedStart (⟨2, ![256, 256]⟩ : Shape) ⟨2, ![64, 64]⟩ h.1 start 1) : ℝ) : EReal) = _
    rw [c0, c1]
  · rw [dif_neg (by
      intro q
      refine g ⟨?_, ?_⟩
      · have := q 0; rw [c0] at this; exact this
      · have := q 1; rw [c1] at this; exact this), co2_apply, if_neg g]
theorem truncf_id {s : Shape} (x : FVec Ideal s .f32) (h) : truncf .bf16 x h = x := rfl
end Cert.Base

namespace Cert.Mix.Blk
open Cert.MixBwdIdeal Cert.MixBwdIdeal.Gen Idealize.ShloMosaic Idealize.ShloMosaic.TcCoe Idealize.SL.Sem Cert.Base Cert.Ffn Cert.Mix
variable (m : (ℓ : Loc nD τ sig) → Buf (Elt Ideal) ℓ) (c : Dev nD) (B : Par)

/-- The host lines before the kernel. -/
abbrev hostOps := [hostOps0 (F := Ideal), hostOps0_1, hostOps0_2, hostOps0_3, hostOps0_4, hostOps0_5, hostOps0_6, hostOps0_7, hostOps0_8].flatten

/-- The arguments, as real arrays. -/
structure Args : Prop where
  x : m ((c : Thread nD τ).loc main_arg0) = co2 B.X
  gain : m ((c : Thread nD τ).loc main_arg1) = co1 B.gain
  win : m ((c : Thread nD τ).loc main_arg2) = co2 B.win
  cw : m ((c : Thread nD τ).loc main_arg3) = co2 B.cw
  cb : m ((c : Thread nD τ).loc main_arg4) = co1 B.cb
  lg : m ((c : Thread nD τ).loc main_arg5) = co1 B.lg
  lb : m ((c : Thread nD τ).loc main_arg6) = co1 B.lb
  sw : m ((c : Thread nD τ).loc main_arg7) = co2 B.sw
  pw : m ((c : Thread nD τ).loc main_arg8) = co3 B.pw
  ps : m ((c : Thread nD τ).loc main_arg9) = co1 B.ps
  gg : m ((c : Thread nD τ).loc main_arg10) = co1 B.gg
  gb : m ((c : Thread nD τ).loc main_arg11) = co1 B.gb
  ws : m ((c : Thread nD τ).loc main_arg12) = co3 B.ws
  bs : m ((c : Thread nD τ).loc main_arg13) = co2 B.bs
  wout : m ((c : Thread nD τ).loc main_arg14) = co2 B.wout
  dy : m ((c : Thread nD τ).loc main_arg15) = co2 B.dy

variable {m c B} (A : Args m c B)
include A
/-- The input product of the normalized rows. -/
theorem V_p : V m c main_v60 = co2 B.P := by
  have ex : m (c, Proc.tc.devRef main_arg0) = co2 B.X := A.x
  have eg : m (c, Proc.tc.devRef main_arg1) = co1 B.gain := A.gain
  have ew : m (c, Proc.tc.devRef main_arg2) = co2 B.win := A.win
  unfold V
  after_reads_simp
  rw [ex, eg, ew]
  funext i
  pointwise
  simp only [co2_apply, co1_apply, bits_zero, bits_eps, bits_1024, ← EReal.coe_mul, coe_sum, ← EReal.coe_add,
    div_coe_coe _ (1024 : ℝ) (by norm_num), zero_add]
  refine (Finset.sum_congr rfl fun x _ => congrArg (· * _) (congrArg (· * _) (congrArg (_ * ·) (rsqrt_ms B.X (i 0).val)))).trans ?_
  simp only [← EReal.coe_mul, coe_sum]
  rfl

/-- The gain, as a row. -/
theorem V_g : V m c main_v96 = co2 fun _ j => B.gain j := by
  have eg : m (c, Proc.tc.devRef main_arg1) = co1 B.gain := A.gain
  unfold V
  after_reads_simp
  rw [eg]
  funext i
  pointwise
  rfl

/-- The taps of the two convolutions, with rows of zeros after them. -/
theorem V_cw : V m c main_v0 = co2 (fun k j => if k < 31 then B.cw k j else 0) ∧ V m c main_v1 = co2 (fun k j => if k < 3 then B.sw k j else 0) := by
  have e3 : m (c, Proc.tc.devRef main_arg3) = co2 B.cw := A.cw
  have e7 : m (c, Proc.tc.devRef main_arg7) = co2 B.sw := A.sw
  unfold V
  constructor
  all_goals
    after_reads_simp
    simp -implicitDefEqProofs only [StableHlo.TRef.toBuf, StableHlo.TRef.ofBuf, cast_cast, cast_eq]
    first | rw [e3] | rw [e7]
    funext i
    pointwise
    rw [co2_apply]
    split
    · rfl
    · exact EReal.coe_eq_coe_iff.2 Int.cast_zero

/-- The six vectors, one row each. -/
theorem V_vec : V m c main_v12 = co2 (fun k j => if k = 0 then B.cb j else if k = 1 then B.lg j else if k = 2 then B.lb j else if k = 3 then B.ps j
    else if k = 4 then B.gg j else if k = 5 then B.gb j else 0) := by
  have e4 : m (c, Proc.tc.devRef main_arg4) = co1 B.cb := A.cb
  have e5 : m (c, Proc.tc.devRef main_arg5) = co1 B.lg := A.lg
  have e6 : m (c, Proc.tc.devRef main_arg6) = co1 B.lb := A.lb
  have e9 : m (c, Proc.tc.devRef main_arg9) = co1 B.ps := A.ps
  have e10 : m (c, Proc.tc.devRef main_arg10) = co1 B.gg := A.gg
  have e11 : m (c, Proc.tc.devRef main_arg11) = co1 B.gb := A.gb
  obtain ⟨U, hU⟩ : ∃ U, U = StableHlo.upto [hostOps0, hostOps0_1, hostOps0_2, hostOps0_3, hostOps0_4, hostOps0_5, hostOps0_6, hostOps0_7, hostOps0_8].flatten
    (fun b => m (c, b)) 18 := ⟨_, rfl⟩
  have h : U (Proc.tc.devRef main_v4) = co2 (fun _ j => B.cb j) ∧ U (Proc.tc.devRef main_v5) = co2 (fun _ j => B.lg j)
      ∧ U (Proc.tc.devRef main_v6) = co2 (fun _ j => B.lb j) ∧ U (Proc.tc.devRef main_v7) = co2 (fun _ j => B.ps j)
      ∧ U (Proc.tc.devRef main_v8) = co2 (fun _ j => B.gg j) ∧ U (Proc.tc.devRef main_v9) = co2 (fun _ j => B.gb j)
      ∧ U (Proc.tc.devRef main_v10) = co2 (fun _ _ => 0) ∧ U (Proc.tc.devRef main_v11) = co2 (fun _ _ => 0) := by
    rw [hU]
    refine ⟨?_, ?_, ?_, ?_, ?_, ?_, ?_, ?_⟩
    all_goals
      after_reads_simp
      try simp only [e4, e5, e6, e9, e10, e11]
      funext i
      pointwise
      first | rfl | exact bits_zero
  obtain ⟨h4, h5, h6, h7, h8, h9, h10, h11⟩ := h
  unfold V
  after_reads_simp
  rw [← hU]
  simp only [Matrix.cons_val]
  rw [h4, h5, h6, h7, h8, h9, h10, h11]
  funext i
  pointwise
  rw [co2_apply (fun _ _ => _)]
  simp only [co2_apply, ix2_0, ix2_1]
  have h8 : (i 0).val < 8 := (i 0).isLt
  generalize (i 0).val = k at h8 ⊢
  interval_cases k <;> rfl

/-- The pooling weights, as the blocks of a diagonal. -/
theorem V_pbd : V m c main_v26 = co2 B.pbd := by
  have e8 : m (c, Proc.tc.devRef main_arg8) = co3 B.pw := A.pw
  unfold V
  after_reads_simp
  rw [e8]
  rw [truncf_id]
  have w : StableHlo.upto hostOps (fun b => m (c, b)) 25 (Proc.tc.devRef main_c_3) = constantI S_ 32 0#32
      ∧ StableHlo.upto hostOps (fun b => m (c, b)) 25 (Proc.tc.devRef main_c_4) = constantI S_ 32 0#32
      ∧ StableHlo.upto hostOps (fun b => m (c, b)) 30 (Proc.tc.devRef main_c_5) = constantI S_ 32 64#32
      ∧ StableHlo.upto hostOps (fun b => m (c, b)) 30 (Proc.tc.devRef main_c_6) = constantI S_ 32 64#32
      ∧ StableHlo.upto hostOps (fun b => m (c, b)) 35 (Proc.tc.devRef main_c_7) = constantI S_ 32 128#32
      ∧ StableHlo.upto hostOps (fun b => m (c, b)) 35 (Proc.tc.devRef main_c_8) = constantI S_ 32 128#32
      ∧ StableHlo.upto hostOps (fun b => m (c, b)) 40 (Proc.tc.devRef main_c_9) = constantI S_ 32 192#32
      ∧ StableHlo.upto hostOps (fun b => m (c, b)) 40 (Proc.tc.devRef main_c_10) = constantI S_ 32 192#32 := by
    unfold hostOps
    refine ⟨?_, ?_, ?_, ?_, ?_, ?_, ?_, ?_⟩
    all_goals
      after_reads_simp
  obtain ⟨w3, w4, w5, w6, w7, w8, w9, w10⟩ := w
  have sl (o : ℕ) (h : S4x64x64.Slices ![o, 0, 0] S1x64x64) (h') : (fun i => shapeCast S64x64 (extractStridedSlice S1x64x64 ![o, 0, 0] (co3 B.pw) h) h' i)
      = (co2 fun r j => B.pw o r j : S64x64.Idx → EReal) := by
    funext i
    pointwise
    rfl
  have z : (broadcastInDim S256x256 ![] bcast_S_S256x256 (constant (F := Ideal) S_ FTy.f32 0#32)) = co2 (fun _ _ => 0) := by
    funext i
    pointwise
    rfl
  refine (block_into _ (B.pw 3) 192 (by norm_num) _ (block_into _ (B.pw 2) 128 (by norm_num) _ (block_into _ (B.pw 1) 64 (by norm_num) _
    (block_into (fun _ _ => 0) (B.pw 0) 0 (by norm_num) _ z _ ?_ _ ?_ ?_ _) _ ?_ _ ?_ ?_ _) _ ?_ _ ?_ ?_ _) _ ?_ _ ?_ ?_ _).trans ?_
  case refine_13 =>
    funext i
    rw [co2_apply, co2_apply]
    have h0 : (i 0).val < 256 := (i 0).isLt
    have h1 : (i 1).val < 256 := (i 1).isLt
    refine congrArg _ ?_
    unfold put Par.pbd
    generalize (i 0).val = r at h0
    generalize (i 1).val = j at h1
    by_cases e : r / 64 = j / 64
    · rw [if_pos e]
      by_cases a3 : 192 ≤ r
      · rw [if_pos (by omega), show r / 64 = 3 by omega, show r % 64 = r - 192 by omega, show j % 64 = j - 192 by omega]
      by_cases a2 : 128 ≤ r
      · rw [if_neg (by omega), if_pos (by omega), show r / 64 = 2 by omega, show r % 64 = r - 128 by omega, show j % 64 = j - 128 by omega]
      by_cases a1 : 64 ≤ r
      · rw [if_neg (by omega), if_neg (by omega), if_pos (by omega), show r / 64 = 1 by omega, show r % 64 = r - 64 by omega, show j % 64 = j - 64 by omega]
      · rw [if_neg (by omega), if_neg (by omega), if_neg (by omega), if_pos (by omega), show r / 64 = 0 by omega, show r % 64 = r - 0 by omega, show j % 64 = j - 0 by omega]
    · rw [if_neg e, if_neg (by omega), if_neg (by omega), if_neg (by omega), if_neg (by omega)]
  case refine_1 | refine_4 | refine_7 | refine_10 => exact sl _ _ _
  · exact congrArg (fun f : S_.Idx → BitVec 32 => (f (Shape.Idx.first h_S_)).toInt) w3
  · exact congrArg (fun f : S_.Idx → BitVec 32 => (f (Shape.Idx.first h_S_)).toInt) w4
  · exact congrArg (fun f : S_.Idx → BitVec 32 => (f (Shape.Idx.first h_S_)).toInt) w5
  · exact congrArg (fun f : S_.Idx → BitVec 32 => (f (Shape.Idx.first h_S_)).toInt) w6
  · exact congrArg (fun f : S_.Idx → BitVec 32 => (f (Shape.Idx.first h_S_)).toInt) w7
  · exact congrArg (fun f : S_.Idx → BitVec 32 => (f (Shape.Idx.first h_S_)).toInt) w8
  · exact congrArg (fun f : S_.Idx → BitVec 32 => (f (Shape.Idx.first h_S_)).toInt) w9
  · exact congrArg (fun f : S_.Idx → BitVec 32 => (f (Shape.Idx.first h_S_)).toInt) w10

/-- The lower triangles of the gating weights side by side, their transposes one below the other, and the gating's added rows. -/
theorem V_wcat : V m c main_v33 = co2 (fun t s => B.low (s / 128) t (s % 128)) ∧ V m c main_v35 = co2 (fun s t => B.low (s / 128) t (s % 128))
   ∧ V m c main_v38 = co2 (fun t j => B.bs (j / 64) t) := by
  have e12 : m (c, Proc.tc.devRef main_arg12) = co3 B.ws := A.ws
  have e13 : m (c, Proc.tc.devRef main_arg13) = co2 B.bs := A.bs
  have low (h t s : ℕ) (ht : t < 128) (hs : s < 128) : Scalar.select (Scalar.select
        (IntOp.cmpi .sge (IntOp.addi (BitVec.ofNat 32 t) 0#32) (BitVec.ofNat 32 s)) 1#1 0#1)
      ((B.ws h t s : ℝ) : EReal) (id (constant (F := Ideal) S_ FTy.f32 0#32) (ix0 : S_.Idx)) = ((B.low h t s : ℝ) : EReal) := by
    rw [show id (constant (F := Ideal) S_ FTy.f32 0#32) (ix0 : S_.Idx) = (0 : EReal) from by rw [id]; pointwise]
    exact tril ht hs _
  unfold V
  refine ⟨?_, ?_, ?_⟩
  · after_reads_simp
    simp -implicitDefEqProofs only [StableHlo.TRef.toBuf, StableHlo.TRef.ofBuf, cast_cast, cast_eq]
    rw [e12]
    funext i
    pointwise
    exact low ((i 1).val / 128) (i 0).val ((i 1).val % 128) (i 0).isLt (Nat.mod_lt _ (by norm_num))
  · after_reads_simp
    simp -implicitDefEqProofs only [StableHlo.TRef.toBuf, StableHlo.TRef.ofBuf, cast_cast, cast_eq]
    rw [e12]
    funext i
    pointwise
    exact low ((i 0).val / 128) (i 1).val ((i 0).val % 128) (i 1).isLt (Nat.mod_lt _ (by norm_num))
  · after_reads_simp
    rw [e13]
    funext i
    pointwise
    rfl

/-- The two large weights in one array. -/
theorem V_w : V m c main_v43 = co3 fun a b j => if b < 256 then B.win j (256 * a + b) else B.wout (128 * a + (b - 256)) j := by
  have e2 : m (c, Proc.tc.devRef main_arg2) = co2 B.win := A.win
  have e14 : m (c, Proc.tc.devRef main_arg14) = co2 B.wout := A.wout
  have h : StableHlo.upto hostOps (fun b => m (c, b)) 70 (Proc.tc.devRef main_v40) = co3 (fun a b j => B.win j (256 * a + b))
      ∧ StableHlo.upto hostOps (fun b => m (c, b)) 70 (Proc.tc.devRef main_v41) = co3 (fun a b j => B.wout (128 * a + b) j) := by
    unfold hostOps
    refine ⟨?_, ?_⟩
    all_goals
      after_reads_simp
      first | rw [e2] | rw [e14]
      funext i
      pointwise
      simp only [co2_apply, co3_apply, Nat.mul_comm 256, Nat.mul_comm 128]
      rfl
  unfold V
  after_reads_simp
  rw [h.1, h.2]
  funext i
  pointwise
  rw [co3_apply]
  by_cases h : (i 1).val < 256
  · rw [dif_pos h, if_pos h]; rfl
  · rw [dif_neg h, if_neg h]; rfl

/-- The convolution. -/
theorem V_conv : V m c main_v95 = co2 B.C := by
  have e0 : m (c, Proc.tc.devRef main_arg0) = co2 B.X := A.x
  have e1 : m (c, Proc.tc.devRef main_arg1) = co1 B.gain := A.gain
  have e2 : m (c, Proc.tc.devRef main_arg2) = co2 B.win := A.win
  have e3 : m (c, Proc.tc.devRef main_arg3) = co2 B.cw := A.cw
  have e4 : m (c, Proc.tc.devRef main_arg4) = co1 B.cb := A.cb
  have h : StableHlo.upto hostOps (fun b => m (c, b)) 109 (Proc.tc.devRef main_v73) = co2 (fun _ _ => 0)
      ∧ StableHlo.upto hostOps (fun b => m (c, b)) 109 (Proc.tc.devRef main_v72) = co2 B.Y := by
    unfold hostOps
    refine ⟨?_, ?_⟩
    · after_reads_simp
      funext i
      pointwise
      rfl
    · after_reads_simp
      rw [e0, e1, e2]
      funext i
      pointwise
      simp only [co2_apply, co1_apply, ix2_0, ix2_1, ix1_0, bits_zero, bits_eps, bits_1024, bits_half, ← EReal.coe_mul, coe_sum, ← EReal.coe_add,
        div_coe_coe _ (1024 : ℝ) (by norm_num), zero_add]
      show (∑ x : Fin 1024, (B.X (i 0).val x.val : EReal) * Ideal.rsqrt ((ms B.X (i 0).val : ℝ) : EReal) * (B.gain x.val : EReal) * (B.win x.val (i 1).val : EReal))
        * (((1 / 2 : ℝ) : EReal) * Ideal.tanh (((1 / 2 : ℝ) : EReal) * ∑ x : Fin 1024, (B.X (i 0).val x.val : EReal) * Ideal.rsqrt ((ms B.X (i 0).val : ℝ) : EReal)
          * (B.gain x.val : EReal) * (B.win x.val (256 + (i 1).val) : EReal)) + ((1 / 2 : ℝ) : EReal)) = _
      rw [rsqrt_ms]
      simp only [← EReal.coe_mul, coe_sum, Ideal.tanh_coe, ← EReal.coe_add, sg_tanh]
      rfl
  unfold V
  after_reads_simp
  rw [h.1, h.2, e3, e4]
  have cat : concatenate S8222x256 0 [⟨S30x256, co2 (fun _ _ => 0)⟩, ⟨S8192x256, co2 B.Y⟩] concatenates_S30x256_S8192x256_S8222x256_d0
      = co2 (lag 30 B.Y) := by
    funext i
    pointwise
    rw [co2_apply, lag]
    by_cases h : (i 0).val < 30
    · rw [dif_pos h, if_pos h]; rfl
    · rw [dif_neg h, if_neg h]; rfl
  rw [cat]
  have g (idx) (h) : Host.gather gather_S8222x256_S8192x31x1_S8192x31x256_2_0_n_n_0_2_1256 (co2 (lag 30 B.Y)) idx
      = co3 fun a b j => lag 30 B.Y (a + b) j := gather_win (N := 8222) (n := 8192) (k := 31) (C := 256) _ (by norm_num) _ idx h
  rw [g]
  · funext i
    pointwise
    simp only [co2_apply, co1_apply, co3_apply, ix2_0, ix2_1, ix1_0, ix3_0, ix3_1, ix3_2, ← EReal.coe_mul, coe_sum, ← EReal.coe_add, zero_add]
    rw [Par.C, Finset.sum_range]
    rfl
  · intro a b
    pointwise
    exact word_add _ _ _ (by have := a.isLt; have := b.isLt; omega)

end Cert.Mix.Blk

end
-- ==== Proof.MixBlock.lean ====
/- The blocks of its arguments that the mixer's gradient kernel reads at each grid point. -/
module

public import proofs.«01_k».proof.Proof.MixHost

@[expose] public section

set_option maxRecDepth 16384
set_option maxHeartbeats 1000000

noncomputable section

namespace Cert.Mix.Blk

open Cert.MixBwdIdeal Cert.MixBwdIdeal.Gen Idealize.ShloMosaic Idealize.ShloMosaic.TcCoe Idealize.SL.Sem Cert.Base Cert.Ffn Cert.Mix

variable {m : (ℓ : Loc nD τ sig) → Buf (Elt Ideal) ℓ} {c : Dev nD} {B : Par} (A : Args m c B)

/-- The blocks that move with the grid, and those that stay. -/
theorem at_rows : ∀ t : Fin cfg0.N, (grid0.coords t 0).val = t.val ∧ win0_0.index t = ![8 * t.val - 1, 0] ∧ win0_1.index t = ![t.val, 0] ∧ win0_2.index t = ![min (8 * t.val + 8) 255, 0]
    ∧ win0_3.index t = ![t.val, 0] ∧ win0_4.index t = ![min (8 * t.val + 8) 255, 0] ∧ win0_5.index t = ![t.val, 0] ∧ win0_6.index t = ![min (8 * t.val + 8) 255, 0]
    ∧ win0_7.index t = ![t.val, 0] ∧ win0_18.index t = ![t.val, 0] ∧ win0_25.index t = ![t.val, 0] :=
  (by decide +kernel : ∀ t : Fin grid0.N, _)
theorem at_whole : ∀ t : Fin cfg0.N, win0_8.index t = ![0, 0] ∧ win0_9.index t = ![0, 0, 0] ∧ win0_10.index t = ![0, 2, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![0, 0]
    ∧ win0_19.index t = ![0, 0] ∧ win0_20.index t = ![0, 0] ∧ win0_21.index t = ![0, 0] ∧ win0_22.index t = ![0, 0] ∧ win0_23.index t = ![0, 0]
    ∧ win0_24.index t = ![0, 0] ∧ win0_26.index t = ![0, 0] :=
  (by decide +kernel : ∀ t : Fin grid0.N, _)

/-- The same entry of an array, read at two shapes. -/
theorem co2_same {m n m' n' : ℕ} (Y : ℕ → ℕ → ℝ) (e : (⟨2, ![m, n]⟩ : Shape).Idx) (x : (⟨2, ![m', n']⟩ : Shape).Idx)
    (h0 : (e 0).val = (x 0).val) (h1 : (e 1).val = (x 1).val) : co2 Y e = co2 Y x := by
  rw [co2_apply, co2_apply, h0, h1]

include A

/-- What a grid point reads. -/
theorem tile (t : Fin cfg0.N) : Tile m c t (B.tile t.val) := by
  obtain ⟨i, i0, i1, i2, i3, i4, i5, i6, i7, -⟩ := at_rows t
  obtain ⟨i8, i9, i10, i11, i12, i13, i14, i15, i16, i17, -⟩ := at_whole t
  constructor
  · exact i
  · funext x; blk_simp [iblk]; rw [V_p A]
    refine co2_at _ _ x ?_ ?_ <;> blk_simp [i0] <;> omega
  · funext x; blk_simp [iblk]; rw [V_p A]
    refine co2_at _ _ x ?_ ?_ <;> blk_simp [i1] <;> omega
  · funext x; blk_simp [iblk]; rw [V_p A]
    refine co2_at _ _ x ?_ ?_ <;> blk_simp [i2] <;> omega
  · funext x; blk_simp [iblk]; rw [V_main_arg15, A.dy]
    refine co2_at _ _ x ?_ ?_ <;> blk_simp [i3] <;> omega
  · funext x; blk_simp [iblk]; rw [V_main_arg15, A.dy]
    refine co2_at _ _ x ?_ ?_ <;> blk_simp [i4] <;> omega
  · funext x; blk_simp [iblk]; rw [V_conv A]
    refine co2_at _ _ x ?_ ?_ <;> blk_simp [i5] <;> omega
  · funext x; blk_simp [iblk]; rw [V_conv A]
    refine co2_at _ _ x ?_ ?_ <;> blk_simp [i6] <;> omega
  · funext x; blk_simp [iblk]; rw [V_main_arg0, A.x]
    refine co2_at _ _ x ?_ ?_ <;> blk_simp [i7] <;> omega
  · funext x; blk_simp [iblk]; rw [V_g A]
    exact co2_at (a := 0) _ _ x (by blk_simp [i8]) (by blk_simp [i8])
  · funext x; idx_bounds x; unfold X0_9 Pipeline.Window.fill
    rw [dif_pos (moved0_9 t x)]
    blk_simp [iblk]; rw [V_w A, co3_apply, co3_apply]; blk_simp [i9]
    exact congrArg _ (if_pos hb1)
  · funext x; idx_bounds x; blk_simp [iblk]; rw [V_w A, co3_apply, co3_apply]; blk_simp [i10]
    refine (congrArg _ (if_neg (by omega))).trans ?_
    show ((B.wout _ _ : ℝ) : EReal) = (B.wout _ _ : ℝ)
    congr 2
    omega
  · funext x; blk_simp [iblk]; rw [(V_cw A).1]
    refine (co2_same _ _ x ?_ ?_).trans rfl <;> blk_simp [i11]
  · funext x; blk_simp [iblk]; rw [V_vec A]
    refine (co2_same _ _ x ?_ ?_).trans rfl <;> blk_simp [i12]
  · funext x; blk_simp [iblk]; rw [(V_cw A).2]
    refine (co2_same _ _ x ?_ ?_).trans rfl <;> blk_simp [i13]
  · funext x; blk_simp [iblk]; rw [V_pbd A]
    refine (co2_same _ _ x ?_ ?_).trans rfl <;> blk_simp [i14]
  · funext x; blk_simp [iblk]; rw [(V_wcat A).1]
    refine (co2_same _ _ x ?_ ?_).trans rfl <;> blk_simp [i15]
  · funext x; blk_simp [iblk]; rw [(V_wcat A).2.2]
    refine (co2_same _ _ x ?_ ?_).trans rfl <;> blk_simp [i16]
  · funext x; blk_simp [iblk]; rw [(V_wcat A).2.1]
    refine (co2_same _ _ x ?_ ?_).trans rfl <;> blk_simp [i17]
end Cert.Mix.Blk

end
-- ==== Proof.MixSums.lean ====
/- Sums over tiles that are sums over all rows, for the mixer's gradient. -/
module

public import proofs.«01_k».proof.Proof.MixReal

@[expose] public section

set_option maxHeartbeats 1000000

noncomputable section

namespace Cert.Base

/-- A sum over tiles of `a` rows is the sum over the rows. -/
theorem sum_tiles (a n : ℕ) (F : ℕ → ℝ) : (∑ i ∈ Finset.range n, ∑ r : Fin a, F (a * i + r)) = ∑ s : Fin (a * n), F s := by
  induction n with
  | zero => simp
  | succ n ih =>
    rw [Finset.sum_range_succ, ih, Nat.mul_add_one, Fin.sum_univ_add]
    rfl

/-- A sum over pairs. -/
theorem sum_pairs (n : ℕ) (F : ℕ → ℝ) : (∑ i ∈ Finset.range n, (F (2 * i) + F (2 * i + 1))) = ∑ s : Fin (2 * n), F s := by
  rw [← sum_tiles]
  exact Finset.sum_congr rfl fun i _ => (Fin.sum_univ_two (fun r : Fin 2 => F (2 * i + r))).symm

/-- A sum over one head's columns. -/
theorem sum_head {h : ℕ} (hh : h < 4) (F : ℕ → ℝ) : (∑ j : Fin 256, if j.val / 64 = h then F j else 0) = ∑ k : Fin 64, F (64 * h + k) := by
  refine ((sum_tiles 64 4 fun j => if j / 64 = h then F j else 0).symm.trans ?_)
  refine (Finset.sum_eq_single h (fun i _ ne => Finset.sum_eq_zero fun (r : Fin 64) _ => ?_) fun n => ?_).trans ?_
  · exact if_neg (by have := r.isLt; omega)
  · exact absurd (Finset.mem_range.mpr hh) n
  · exact Finset.sum_congr rfl fun (r : Fin 64) _ => if_pos (by have := r.isLt; omega)

end Cert.Base

namespace Cert.Mix.Par

open Cert.Base Cert.Ffn

variable (B : Par)

/-- The tiles' shares of a column sum. -/
theorem all_rows {F : ℕ → ℝ} {G : ℕ → ℝ} (h : ∀ i, i < 32 → G i = ∑ r : Fin 256, F (256 * i + r)) : (∑ i ∈ Finset.range 32, G i) = ∑ s : Fin 8192, F s :=
  (Finset.sum_congr rfl fun i hi => h i (Finset.mem_range.mp hi)).trans (sum_tiles 256 32 F)

theorem sum_dcw (k j : ℕ) (hj : j < 256) (hk : k < 31) : (∑ i ∈ Finset.range 32, (B.tile i).dcw k j) = B.DCW k j :=
  all_rows (F := fun s => B.DC s j * lag 30 B.Y (s + k) j) fun i hi => Finset.sum_congr rfl fun r _ => by
    have := r.isLt
    rw [t_dc B hi _ _ hj (by omega), t_y' B hi, cut, if_pos (by omega)]
theorem sum_dsw (k j : ℕ) : (∑ i ∈ Finset.range 32, (B.tile i).dsw k j) = B.DSW k j :=
  all_rows (F := fun s => B.DZ s j * lag 2 B.Z (s + k) j) fun i hi => Finset.sum_congr rfl fun r _ => by
    have := r.isLt
    rw [In.dzm, t_dm' B hi _ _ this, t_z' B hi]; rfl
theorem sum_dpbd (a b : ℕ) : (∑ i ∈ Finset.range 32, (B.tile i).dpbd a b) = B.DPW a b :=
  all_rows (F := fun s => B.DP s a * B.DYC s b) fun i hi => Finset.sum_congr rfl fun r _ => by
    have := r.isLt
    rw [t_dpool B hi _ _ this, t_dyc B hi _ _ (by omega), cut, if_pos (by omega)]
theorem sum_dg (j : ℕ) : (∑ i ∈ Finset.range 32, ∑ r : Fin 256, (B.tile i).dh r j * xh (B.tile i).x r j) = B.DG j :=
  all_rows (F := fun s => B.DH s j * xh B.X s j) fun i hi => Finset.sum_congr rfl fun r _ => by
    rw [t_dh B hi _ _ r.isLt]; rfl
theorem sum_dvec (k j : ℕ) (hj : j < 256) : (∑ i ∈ Finset.range 32, (B.tile i).dvec k j) = B.DVEC k j := by
  unfold In.dvec DVEC
  have b (i : ℕ) (hi : i < 32) (r : Fin 256) : 256 * i + r.val < 8192 := by have := r.isLt; omega
  by_cases h : k = 0
  · simp only [if_pos h]
    exact all_rows (F := fun s => B.DC s j) fun i hi => Finset.sum_congr rfl fun r _ => by
      rw [t_dc B hi _ _ hj (by have := r.isLt; omega), cut, if_pos (b i hi r)]
  simp only [if_neg h]
  by_cases h : k = 1
  · simp only [if_pos h]
    exact all_rows (F := fun s => B.DLN s j * hat B.C s j) fun i hi => Finset.sum_congr rfl fun r _ => by
      rw [t_dln B hi _ _ (by have := r.isLt; omega), cut, if_pos (b i hi r), hat_row (t_ca B hi r.val · (by have := r.isLt; omega) (b i hi r))]
  simp only [if_neg h]
  by_cases h : k = 2
  · simp only [if_pos h]
    exact all_rows (F := fun s => B.DLN s j) fun i hi => Finset.sum_congr rfl fun r _ => by
      rw [t_dln B hi _ _ (by have := r.isLt; omega), cut, if_pos (b i hi r)]
  simp only [if_neg h]
  by_cases h : k = 3
  · simp only [if_pos h]
    exact all_rows (F := fun s => B.DM s (512 + j) * B.YC s j) fun i hi => Finset.sum_congr rfl fun r _ => by
      rw [t_dm' B hi _ _ r.isLt, t_yc B hi _ _ r.isLt]
  simp only [if_neg h]
  by_cases h : k = 4
  · simp only [if_pos h]
    exact all_rows (F := fun s => B.DV s j * hat B.GV s j) fun i hi => Finset.sum_congr rfl fun r _ => by
      rw [t_dv B hi _ _ r.isLt, t_hat B hi]
  simp only [if_neg h]
  by_cases h : k = 5
  · simp only [if_pos h]
    exact all_rows (F := fun s => B.DV s j) fun i hi => Finset.sum_congr rfl fun r _ => by
      rw [t_dv B hi _ _ r.isLt]
  simp only [if_neg h, Finset.sum_const_zero]
/-- Two chunks of 128 rows to a tile. -/
theorem rows_of {i q s : ℕ} : 256 * i + (128 * q + s) = 128 * (2 * i + q) + s := by omega
theorem sum_dbs (s h : ℕ) (hs : s < 128) (hh : h < 4) : (∑ i ∈ Finset.range 32, ((B.tile i).dbs 0 s h + (B.tile i).dbs 1 s h)) = B.DBS h s := by
  refine (Finset.sum_congr rfl fun i hi => ?_).trans (sum_pairs 32 fun n => ∑ k : Fin 64, B.DMX (128 * n + s) (64 * h + k))
  have hi := Finset.mem_range.mp hi
  have e (q : ℕ) (hq : q < 2) : (B.tile i).dbs q s h = ∑ k : Fin 64, B.DMX (128 * (2 * i + q) + s) (64 * h + k) := by
    refine (sum_head hh fun j => (B.tile i).dmx (128 * q + s) j).trans (Finset.sum_congr rfl fun k _ => ?_)
    rw [t_dmx B hi _ _ (by omega), rows_of]
  rw [e 0 (by omega), e 1 (by omega)]; rfl
theorem sum_dws (a s : ℕ) (ha : a < 512) (hs : s < 128) : (∑ i ∈ Finset.range 32, ((B.tile i).dws 0 a s + (B.tile i).dws 1 a s)) = B.DWS (a / 128) (a % 128) s := by
  unfold DWS
  have e (i : ℕ) (hi : i < 32) (q : ℕ) (hq : q < 2) : (B.tile i).dws q a s
      = if s ≤ a % 128 then ∑ k : Fin 64, B.DMX (128 * (2 * i + q) + a % 128) (64 * (a / 128) + k) * B.V (128 * (2 * i + q) + s) (64 * (a / 128) + k) else 0 := by
    unfold In.dws
    by_cases h : s ≤ a % 128
    · rw [if_pos h, if_pos h, mul_one]
      refine Eq.trans (Finset.sum_congr rfl fun j _ => ite_zero_mul _ _ _) ?_
      refine (sum_head (by omega) fun j => (B.tile i).dmx (128 * q + a % 128) j * (B.tile i).v (128 * q + s) j).trans (Finset.sum_congr rfl fun k _ => ?_)
      rw [t_dmx B hi _ _ (by omega), t_v B hi, rows_of, rows_of]
    · rw [if_neg h, if_neg h, mul_zero]
  rw [Finset.sum_congr rfl fun i hi => by rw [e i (Finset.mem_range.mp hi) 0 (by omega), e i (Finset.mem_range.mp hi) 1 (by omega)]]
  by_cases h : s ≤ a % 128
  · simp only [if_pos h]
    exact sum_pairs 32 fun n => ∑ k : Fin 64, B.DMX (128 * n + a % 128) (64 * (a / 128) + k) * B.V (128 * n + s) (64 * (a / 128) + k)
  · simp only [if_neg h, add_zero, Finset.sum_const_zero]

end Cert.Mix.Par

end
-- ==== Proof.MixTile.lean ====
/- What one grid point of the mixer's gradient kernel leaves in the buffers of the parameters' gradients. Its first
   point sets them to zero before it adds its share, the others add to what is there. -/
module

public import proofs.«01_k».proof.Proof.MixRead

@[expose] public section

set_option maxRecDepth 16384
set_option maxHeartbeats 4000000

noncomputable section

namespace Cert.Mix.Blk

open Cert.MixBwdIdeal Cert.MixBwdIdeal.Gen Idealize.ShloMosaic Idealize.ShloMosaic.TcCoe Idealize.SL.Sem Cert.Base Cert.Mix

theorem zm_at (A : In) : (co2 (m := 256) (n := 256) A.zm : S256x256.Idx → EReal) = co2 fun t j => A.z (32 + t) j :=
  co2_congr fun t j _ _ => by unfold In.z; rw [if_neg (by omega), show 32 + t - 32 = t by omega]

/-- The rows of an array written whole last. -/
theorem read_whole_cons [∀ e, Nonempty (Elt Ideal e)] {sig : RefSig} {κ : Kind} {sp : Space} {m n : ℕ} (v : View sig κ sp ⟨2, ![m, n]⟩ .f32)
    (f : v.ty.Contents (Elt Ideal)) (h) (P : (⟨2, ![m, n]⟩ : Shape).Idx → Elt Ideal .f32) (L) :
    v.read (Elt Ideal) (v.writes (Elt Ideal) f (⟨Rect.unit ![0, 0] ![m, n] h, P⟩ :: L)) = P :=
  (View.read_writes_eq_canon _ _ _ fun y => ⟨_, List.mem_cons_self, by
    show y ∈ (Rect.unit ![0, 0] ![m, n] h).set
    rw [Rect.mem_set_unit]; intro a; have := (y a).isLt; fin_cases a <;> exact ⟨Nat.zero_le _, by simpa using this⟩⟩).trans (canon_whole h P L)

/-- Rows of a matrix of a stack that were written last, counted from where the matrix starts: those written from row `o`
    on, and those written from the first row on. -/
theorem within_at [∀ e, Nonempty (Elt Ideal e)] {sig : RefSig} {κ : Kind} {sp : Space} {l m n s o k o' k' : ℕ}
    (v : View sig κ sp ⟨3, ![l, m, n]⟩ .f32) (h) (hw hr) (h0 hs hh) (h0' hs' hh') (hR hR') (F : ℕ → ℕ → ℝ) (L)
    (ho : o ≤ o') (hk : o' + k' ≤ o + k) :
    LoadRect.valAlong (lr := (Rect.unit (s := ⟨2, ![m, n]⟩) ![o', 0] ![k', n] hr).toLoadRect)
      (LR := LoadRect.consLift (Rect.unit (s := ⟨2, ![m, n]⟩) ![o', 0] ![k', n] hr).toLoadRect ![1, m, n] h0' hs') hR'
      (v.readCov (Val := Elt Ideal)
        (⟨(Rect.unit (s := ⟨3, ![l, m, n]⟩) ![s, 0, 0] ![1, m, n] h).within (Rect.consLift (Rect.unit (s := ⟨2, ![m, n]⟩) ![o, 0] ![k, n] hw) ![1, m, n] h0 hs) hh,
          Rect.payAlong (r := Rect.unit (s := ⟨2, ![m, n]⟩) ![o, 0] ![k, n] hw) (R := Rect.consLift (Rect.unit (s := ⟨2, ![m, n]⟩) ![o, 0] ![k, n] hw) ![1, m, n] h0 hs)
            hR (co2 (m := k) (n := n) fun t j => F (o + t) j)⟩ :: L)
        ((Rect.unit (s := ⟨3, ![l, m, n]⟩) ![s, 0, 0] ![1, m, n] h).withinL (LoadRect.consLift (Rect.unit (s := ⟨2, ![m, n]⟩) ![o', 0] ![k', n] hr).toLoadRect ![1, m, n] h0' hs') hh'))
      = co2 (m := k') (n := n) fun t j => F (o' + t) j :=
  (readCov_within v h hw hr h0 hs hh h0' hs' hh' hR hR' _ L ho hk).trans (co2_congr fun t j _ _ => by rw [← Nat.add_assoc, Nat.add_sub_cancel' ho])
theorem within_top [∀ e, Nonempty (Elt Ideal e)] {sig : RefSig} {κ : Kind} {sp : Space} {l m n s k o' k' : ℕ}
    (v : View sig κ sp ⟨3, ![l, m, n]⟩ .f32) (h) (hw hr) (h0 hs hh) (h0' hs' hh') (hR hR') (F : ℕ → ℕ → ℝ) (L) (hk : o' + k' ≤ 0 + k) :
    LoadRect.valAlong (lr := (Rect.unit (s := ⟨2, ![m, n]⟩) ![o', 0] ![k', n] hr).toLoadRect)
      (LR := LoadRect.consLift (Rect.unit (s := ⟨2, ![m, n]⟩) ![o', 0] ![k', n] hr).toLoadRect ![1, m, n] h0' hs') hR'
      (v.readCov (Val := Elt Ideal)
        (⟨(Rect.unit (s := ⟨3, ![l, m, n]⟩) ![s, 0, 0] ![1, m, n] h).within (Rect.consLift (Rect.unit (s := ⟨2, ![m, n]⟩) ![0, 0] ![k, n] hw) ![1, m, n] h0 hs) hh,
          Rect.payAlong (r := Rect.unit (s := ⟨2, ![m, n]⟩) ![0, 0] ![k, n] hw) (R := Rect.consLift (Rect.unit (s := ⟨2, ![m, n]⟩) ![0, 0] ![k, n] hw) ![1, m, n] h0 hs)
            hR (co2 (m := k) (n := n) F)⟩ :: L)
        ((Rect.unit (s := ⟨3, ![l, m, n]⟩) ![s, 0, 0] ![1, m, n] h).withinL (LoadRect.consLift (Rect.unit (s := ⟨2, ![m, n]⟩) ![o', 0] ![k', n] hr).toLoadRect ![1, m, n] h0' hs') hh'))
      = co2 (m := k') (n := n) fun t j => F (o' + t) j :=
  readCov_within v h hw hr h0 hs hh h0' hs' hh' hR hR' F L (Nat.zero_le _) hk

/-- Three rows that were added to. -/
theorem rows_three (A : In) {sig : RefSig} {κ : Kind} {sp : Space} (v : View sig κ sp S8x256 .f32) (f : v.ty.Contents (Elt Ideal))
    (L : List (View.Piece (Elt Ideal) S8x256 .f32)) (P : ℕ → ℕ → ℝ) (hf : v.read (Elt Ideal) (v.writes (Elt Ideal) f L) = co2 P) {h0 h1 h2} :
    v.read (Elt Ideal) (v.writes (Elt Ideal) f (⟨Rect.unit ![2, 0] ![1, 256] h2, co2 (m := 1) (n := 256) fun r j => P (2 + r) j + ∑ k : Fin 256, A.dzm k j * A.z (32 + k) j⟩
      :: ⟨Rect.unit ![1, 0] ![1, 256] h1, co2 (m := 1) (n := 256) fun r j => P (1 + r) j + ∑ k : Fin 256, A.dzm k j * A.z (31 + k) j⟩
      :: ⟨Rect.unit ![0, 0] ![1, 256] h0, co2 (m := 1) (n := 256) fun r j => P r j + ∑ k : Fin 256, A.dzm k j * A.z (30 + k) j⟩ :: L))
    = co2 fun k j => P k j + if k < 3 then A.dsw k j else 0 := by
  refine (read_row_at v f _ _ _ _ (read_row_at v f _ _ _ _ (read_row_at v f _ _ _ _ hf))).trans (co2_congr fun k j _ _ => ?_)
  beta_reduce
  by_cases hk : k < 3
  · interval_cases k <;> simp [In.dsw]
  · simp [hk, show ¬ k = 0 by omega, show ¬ k = 1 by omega, show ¬ k = 2 by omega]

variable {m : (ℓ : Loc nD τ sig) → Buf (Elt Ideal) ℓ} {c : Dev nD} {t : Fin cfg0.N} {A : In} (T : Tile m c t A)
include T

/-- The short convolution's taps: their three rows. -/
theorem dsw_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.2.1 = co2 P) :
    (outsAt0 m c t.val t.isLt).2.2.2.1 = co2 fun k j => P k j + if k < 3 then A.dsw k j else 0 := by
  by_cases h0 : t.val % 32 = 0
  case' pos =>
    have hz : k0_pay5 (F := Ideal) = co2 P := by rw [hA h0]; unfold k0_pay5; simp only [bcast_zero]
    rw [outsAt0_A m c t h0]
    dsimp only
    unfold out0_A_21 kernelRun0_A
    dsimp only
    sl_unfold_words
    simp only [hz]
  case' neg =>
    rw [outsAt0_B m c t h0, hB h0]
    dsimp only
    unfold out0_B_21 kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_2 t).read_unread, (hs0_3 t).read_unread,
      (hs0_4 t).read_unread, (hs0_10 t).read_unread, (hs0_13 t).read_unread, (hs0_21 t).read_unread,
      T.pp, T.pm, T.pn, T.dy, T.dyn, T.wo, T.se, T.dm, T.sw, ld_f32, ld_bf16, ld3_bf16, Nat.zero_add, p2_eq, dzm_eq, zp_eq, zm_eq, z_read,
      readCov_whole]
    simp only [zm_at, k0_pay115, k0_pay116, k0_pay118, shapeCast_same, mulf_co2, col_sum (m := 256) (n := 256), addf_co2]
  · exact rows_three A _ _ [] P ((hs0_21 t).read_unread _)
  · exact rows_three A _ _ [_] P (read_whole _ _ _ _)

/-- The pooled rows' weights. -/
theorem dpbd_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.2.2.1 = co2 P) :
    (outsAt0 m c t.val t.isLt).2.2.2.2.1 = co2 fun a b => P a b + A.dpbd a b := by
  by_cases h0 : t.val % 32 = 0
  case' pos =>
    rw [outsAt0_A m c t h0, hA h0]
    dsimp only
    unfold out0_A_22 kernelRun0_A
  case' neg =>
    rw [outsAt0_B m c t h0, hB h0]
    dsimp only
    unfold out0_B_22 kernelRun0_B
  all_goals
    dsimp only
    sl_unfold_words
    simp (disch := decide) only [↓ View.readCov_skip, ↓ View.readCov_cons_toLoadRect]
    rw [read_whole_cons]
    simp only [View.readAt_eq_ld, (hs0_0 t).read_unread, (hs0_1 t).read_unread, (hs0_3 t).read_unread, (hs0_4 t).read_unread,
      (hs0_10 t).read_unread, (hs0_12 t).read_unread, (hs0_22 t).read_unread, T.pp, T.pm, T.dy, T.dyn, T.wo, T.vec, T.se, T.dm, T.i, ld_f32, ld_bf16, ld3_bf16,
      Nat.zero_add, vec_eq, w_eq, p5_eq, p5_eq', ep_eq, e_read, e2_eq, k0_pay6, bcast_zero]
    iterate 3 rw [within_at (ho := by decide) (hk := by decide)]
    rw [e4_eq]
    iterate 3 rw [within_at (ho := by decide) (hk := by decide)]
    rw [e8_eq]
    iterate 2 rw [within_at (ho := by decide) (hk := by decide)]
    rw [dpool_eq A T.lt, dpbd_eq]

/-- The gating's weights. -/
theorem dws_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.2.2.2.1 = co2 P) :
    (outsAt0 m c t.val t.isLt).2.2.2.2.2.1 = co2 fun a s => P a s + A.dws 0 a s + A.dws 1 a s := by
  by_cases h0 : t.val % 32 = 0
  case' pos =>
    rw [outsAt0_A m c t h0, hA h0]
    dsimp only
    unfold out0_A_23 kernelRun0_A
  case' neg =>
    rw [outsAt0_B m c t h0, hB h0]
    dsimp only
    unfold out0_B_23 kernelRun0_B
  all_goals
    dsimp only
    sl_unfold_words
    simp (disch := decide) only [↓ View.readCov_skip, ↓ View.readCov_cons_toLoadRect]
    rw [read_whole_cons]
    simp only [View.readAt_eq_ld, (hs0_1 t).read_unread, (hs0_3 t).read_unread, (hs0_4 t).read_unread,
      (hs0_10 t).read_unread, (hs0_12 t).read_unread, (hs0_23 t).read_unread, T.pm, T.dy, T.dyn, T.wo, T.vec, T.dm, ld_f32, ld_bf16, ld3_bf16,
      Nat.zero_add, vec_eq, m0_eq, p6_eq, v_eq, dod_eq, vq_eq, vq_eq', chunk_eq, chunk_eq', dmx_eq, dmx_eq_t, dmx_eq', dmx_eq_t', k0_pay7, bcast_zero]
    rw [m1_eq, m2_eq, m3_eq, dws_eq, dws_eq']

/-- The gating's offsets, a column for each head. -/
theorem dbs_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.2.2.2.2.1 = co2 P) :
    (outsAt0 m c t.val t.isLt).2.2.2.2.2.2.1 = co2 fun s c => P s c + if c < 4 then A.dbs 0 s c + A.dbs 1 s c else 0 := by
  by_cases h0 : t.val % 32 = 0
  case' pos =>
    rw [outsAt0_A m c t h0, hA h0]
    dsimp only
    unfold out0_A_24 kernelRun0_A
  case' neg =>
    rw [outsAt0_B m c t h0, hB h0]
    dsimp only
    unfold out0_B_24 kernelRun0_B
  all_goals
    dsimp only
    sl_unfold_words
    simp (disch := decide) only [↓ View.readCov_skip, ↓ View.readCov_cons_toLoadRect]
    rw [read_whole_cons]
    simp only [View.readAt_eq_ld, (hs0_1 t).read_unread, (hs0_3 t).read_unread, (hs0_4 t).read_unread,
      (hs0_10 t).read_unread, (hs0_24 t).read_unread, T.pm, T.dy, T.dyn, T.wo, T.dm, ld_f32, ld_bf16, ld3_bf16,
      Nat.zero_add, m0_eq, p6_eq, dod_eq, chunk_eq, chunk_eq', dmx_eq, dmx_eq_t, dmx_eq', dmx_eq_t', k0_pay8, bcast_zero]
    rw [m1_eq, m2_eq, m3_eq, dbs_eq, dbs_eq1, dbs_eq2, dbs_eq3, dbs_eq4, dbs_eq5, dbs_eq6, dbs_eq7]
    refine co2_congr fun s c _ _ => ?_
    beta_reduce
    by_cases hc : c < 4
    · interval_cases c <;> simp [add_assoc]
    · simp [hc, show ¬ c = 0 by omega, show ¬ c = 1 by omega, show ¬ c = 2 by omega, show ¬ c = 3 by omega]

end Cert.Mix.Blk

end
-- ==== Proof.MixRows.lean ====
/- Rows written one after another, and the gradient of the input product put together from its pieces. -/
module

public import proofs.«01_k».proof.Proof.MixTile

@[expose] public section

set_option maxRecDepth 16384
set_option maxHeartbeats 4000000

noncomputable section

namespace Cert.Mix.Blk

open Cert.MixBwdIdeal Cert.MixBwdIdeal.Gen Idealize.ShloMosaic Idealize.ShloMosaic.TcCoe Idealize.SL.Sem Cert.Base Cert.Mix

/-- The row after those that were added to, added to as well. -/
theorem read_row_add {sig : RefSig} {κ : Kind} {sp : Space} {m n k : ℕ} {v : View sig κ sp ⟨2, ![m, n]⟩ .f32} {f : v.ty.Contents (Elt Ideal)}
    (h) (P G Q : ℕ → ℕ → ℝ) {L : List (View.Piece (Elt Ideal) ⟨2, ![m, n]⟩ .f32)} (hQ : ∀ j, Q 0 j = P k j + G k j)
    (hf : v.read (Elt Ideal) (v.writes (Elt Ideal) f L) = co2 fun r j => P r j + if r < k then G r j else 0) :
    v.read (Elt Ideal) (v.writes (Elt Ideal) f (⟨Rect.unit ![k, 0] ![1, n] h, co2 (m := 1) (n := n) Q⟩ :: L))
      = co2 fun r j => P r j + if r < k + 1 then G r j else 0 :=
  (read_row_at v f h Q _ L hf).trans (co2_congr fun r j _ _ => by
    beta_reduce
    by_cases hr : r = k
    · subst hr; rw [if_pos rfl, if_pos (Nat.lt_succ_self r), hQ]
    · rw [if_neg hr, if_congr (show r < k ↔ r < k + 1 by omega) rfl rfl])
theorem ym_at (A : In) : (co2 (m := 256) (n := 256) A.ym : S256x256.Idx → EReal) = co2 fun t j => A.y (32 + t) j :=
  co2_congr fun t j _ _ => by unfold In.y; rw [if_neg (by omega), show 32 + t - 32 = t by omega]
theorem dzm_at (A : In) : (co2 (m := 256) (n := 256) A.dzm : S256x256.Idx → EReal) = co2 A.dz :=
  co2_congr fun t j ht _ => by unfold In.dz; rw [if_pos ht]
/-- The pieces side by side. -/
theorem dp_at (A : In) (r j : ℕ) (hj : j < 256) : A.dp0 r j = A.dp r j ∧ A.dp1 r j = A.dp r (256 + j) ∧ A.dp2 r j = A.dp r (512 + j) ∧ A.dp3 r j = A.dp r (768 + j)
    ∧ A.dp4 r j = A.dp r (1024 + j) ∧ A.dp5 r j = A.dp r (1280 + j) ∧ A.dp6 r j = A.dp r (1536 + j) ∧ A.dp7 r j = A.dp r (1792 + j) := by
  unfold In.dp
  refine ⟨?_, ?_, ?_, ?_, ?_, ?_, ?_, ?_⟩ <;>
    simp only [hj, show ¬ 256 + j < 256 by omega, show 256 + j < 512 by omega, show ¬ 512 + j < 256 by omega, show ¬ 512 + j < 512 by omega, show 512 + j < 768 by omega,
      show ¬ 768 + j < 256 by omega, show ¬ 768 + j < 512 by omega, show ¬ 768 + j < 768 by omega, show 768 + j < 1024 by omega,
      show ¬ 1024 + j < 256 by omega, show ¬ 1024 + j < 512 by omega, show ¬ 1024 + j < 768 by omega, show ¬ 1024 + j < 1024 by omega, show 1024 + j < 1280 by omega,
      show ¬ 1280 + j < 256 by omega, show ¬ 1280 + j < 512 by omega, show ¬ 1280 + j < 768 by omega, show ¬ 1280 + j < 1024 by omega, show ¬ 1280 + j < 1280 by omega, show 1280 + j < 1536 by omega,
      show ¬ 1536 + j < 256 by omega, show ¬ 1536 + j < 512 by omega, show ¬ 1536 + j < 768 by omega, show ¬ 1536 + j < 1024 by omega, show ¬ 1536 + j < 1280 by omega, show ¬ 1536 + j < 1536 by omega, show 1536 + j < 1792 by omega,
      show ¬ 1792 + j < 256 by omega, show ¬ 1792 + j < 512 by omega, show ¬ 1792 + j < 768 by omega, show ¬ 1792 + j < 1024 by omega, show ¬ 1792 + j < 1280 by omega, show ¬ 1792 + j < 1536 by omega, show ¬ 1792 + j < 1792 by omega,
      if_true, if_false, Nat.add_sub_cancel_left]
/-- The ten pieces of the gradient of the input product. -/
theorem dp_pieces (A : In) {h0 h1 h2 h3 h4 h5 h6 h6' h7} {P0 P1 : S256x256.Idx → EReal} (e0 : P0 = co2 A.dp0) (e1 : P1 = co2 A.dp1) :
    ∀ p ∈ ([⟨Rect.unit ![0, 1792] ![256, 256] h7, co2 (m := 256) (n := 256) A.dp7⟩, ⟨Rect.unit ![128, 1536] ![128, 256] h6', co2 (m := 128) (n := 256) fun t j => A.dp6 (128 + t) j⟩,
        ⟨Rect.unit ![0, 1536] ![128, 256] h6, co2 (m := 128) (n := 256) A.dp6⟩, ⟨Rect.unit ![0, 1280] ![256, 256] h5, co2 (m := 256) (n := 256) A.dp5⟩,
        ⟨Rect.unit ![0, 1024] ![256, 256] h4, co2 (m := 256) (n := 256) A.dp4⟩, ⟨Rect.unit ![0, 768] ![256, 256] h3, co2 (m := 256) (n := 256) A.dp3⟩,
        ⟨Rect.unit ![0, 512] ![256, 256] h2, co2 (m := 256) (n := 256) A.dp2⟩,
        ⟨Rect.unit ![0, 256] ![256, 256] h1, P1⟩, ⟨Rect.unit ![0, 0] ![256, 256] h0, P0⟩] : List (View.Piece (Elt Ideal) S256x2048 .bf16)), ∀ x : p.1.shape.Idx, p.2 x = co2 A.dp (p.1.idx x) := by
  subst e0 e1
  simp only [List.forall_mem_cons, idx_co2, List.not_mem_nil, false_imp_iff, implies_true, and_true, Nat.zero_add]
  exact ⟨fun x => congrFun (co2_congr fun t j _ hj => (dp_at A t j hj).2.2.2.2.2.2.2) x, fun x => congrFun (co2_congr fun t j _ hj => (dp_at A _ j hj).2.2.2.2.2.2.1) x,
    fun x => congrFun (co2_congr fun t j _ hj => (dp_at A t j hj).2.2.2.2.2.2.1) x, fun x => congrFun (co2_congr fun t j _ hj => (dp_at A t j hj).2.2.2.2.2.1) x,
    fun x => congrFun (co2_congr fun t j _ hj => (dp_at A t j hj).2.2.2.2.1) x, fun x => congrFun (co2_congr fun t j _ hj => (dp_at A t j hj).2.2.2.1) x,
    fun x => congrFun (co2_congr fun t j _ hj => (dp_at A t j hj).2.2.1) x, fun x => congrFun (co2_congr fun t j _ hj => (dp_at A t j hj).2.1) x,
    fun x => congrFun (co2_congr fun t j _ hj => (dp_at A t j hj).1) x⟩
theorem mem_box {m n a b m' n' : ℕ} (h) (y : (⟨2, ![m, n]⟩ : Shape).Idx) (h0 : a ≤ (y 0).val) (h0' : (y 0).val < a + m') (h1 : b ≤ (y 1).val) (h1' : (y 1).val < b + n') :
    y ∈ (Rect.unit (s := ⟨2, ![m, n]⟩) ![a, b] ![m', n'] h).set := by
  rw [Rect.mem_set_unit]
  intro i
  match i with
  | ⟨0, _⟩ => exact ⟨h0, h0'⟩
  | ⟨1, _⟩ => exact ⟨h1, h1'⟩
/-- The gradient of the input product read back from its ten pieces. -/
theorem dp_read [∀ e, Nonempty (Elt Ideal e)] {sig : RefSig} {κ : Kind} {sp : Space} (v : View sig κ sp S256x2048 .bf16) (A : In) {h0 h1 h2 h3 h4 h5 h6 h6' h7 h}
    (P0 P1 P2 P3 P4 P5 P7 : S256x256.Idx → EReal) (P6 P6' : (⟨2, ![128, 256]⟩ : Shape).Idx → EReal)
    (hL : ∀ p ∈ ([⟨Rect.unit ![0, 1792] ![256, 256] h7, P7⟩, ⟨Rect.unit ![128, 1536] ![128, 256] h6', P6'⟩, ⟨Rect.unit ![0, 1536] ![128, 256] h6, P6⟩,
        ⟨Rect.unit ![0, 1280] ![256, 256] h5, P5⟩, ⟨Rect.unit ![0, 1024] ![256, 256] h4, P4⟩, ⟨Rect.unit ![0, 768] ![256, 256] h3, P3⟩, ⟨Rect.unit ![0, 512] ![256, 256] h2, P2⟩,
        ⟨Rect.unit ![0, 256] ![256, 256] h1, P1⟩, ⟨Rect.unit ![0, 0] ![256, 256] h0, P0⟩] : List (View.Piece (Elt Ideal) S256x2048 .bf16)), ∀ x : p.1.shape.Idx, p.2 x = co2 A.dp (p.1.idx x)) :
    v.readCov (Val := Elt Ideal) [⟨Rect.unit ![0, 1792] ![256, 256] h7, P7⟩, ⟨Rect.unit ![128, 1536] ![128, 256] h6', P6'⟩, ⟨Rect.unit ![0, 1536] ![128, 256] h6, P6⟩,
        ⟨Rect.unit ![0, 1280] ![256, 256] h5, P5⟩, ⟨Rect.unit ![0, 1024] ![256, 256] h4, P4⟩, ⟨Rect.unit ![0, 768] ![256, 256] h3, P3⟩, ⟨Rect.unit ![0, 512] ![256, 256] h2, P2⟩,
        ⟨Rect.unit ![0, 256] ![256, 256] h1, P1⟩, ⟨Rect.unit ![0, 0] ![256, 256] h0, P0⟩] (Rect.unit ![0, 0] ![256, 2048] h).toLoadRect = co2 (m := 256) (n := 2048) A.dp := by
  rw [View.readCov_eq_canon']
  funext x
  refine (View.canon_apply_of_pieces (Val := Elt Ideal) (e := .bf16) (S := S256x2048) (co2 A.dp) _ hL ((Rect.unit ![0, 0] ![256, 2048] h).idx x) ?_).trans
    ((idx_co2 h A.dp x).trans (congrFun (co2_congr fun t j _ _ => by rw [Nat.zero_add, Nat.zero_add]) x))
  generalize (Rect.unit (s := S256x2048) ![0, 0] ![256, 2048] h).idx x = y
  have y0 : (y 0).val < 256 := (y 0).isLt
  have y1 : (y 1).val < 2048 := (y 1).isLt
  by_cases c0 : (y 1).val < 256
  · exact ⟨_, .tail _ (.tail _ (.tail _ (.tail _ (.tail _ (.tail _ (.tail _ (.tail _ (.head _)))))))), mem_box h0 y (by omega) (by omega) (by omega) (by omega)⟩
  by_cases c1 : (y 1).val < 512
  · exact ⟨_, .tail _ (.tail _ (.tail _ (.tail _ (.tail _ (.tail _ (.tail _ (.head _))))))), mem_box h1 y (by omega) (by omega) (by omega) (by omega)⟩
  by_cases c2 : (y 1).val < 768
  · exact ⟨_, .tail _ (.tail _ (.tail _ (.tail _ (.tail _ (.tail _ (.head _)))))), mem_box h2 y (by omega) (by omega) (by omega) (by omega)⟩
  by_cases c3 : (y 1).val < 1024
  · exact ⟨_, .tail _ (.tail _ (.tail _ (.tail _ (.tail _ (.head _))))), mem_box h3 y (by omega) (by omega) (by omega) (by omega)⟩
  by_cases c4 : (y 1).val < 1280
  · exact ⟨_, .tail _ (.tail _ (.tail _ (.tail _ (.head _)))), mem_box h4 y (by omega) (by omega) (by omega) (by omega)⟩
  by_cases c5 : (y 1).val < 1536
  · exact ⟨_, .tail _ (.tail _ (.tail _ (.head _))), mem_box h5 y (by omega) (by omega) (by omega) (by omega)⟩
  by_cases c6 : (y 1).val < 1792
  · by_cases c : (y 0).val < 128
    · exact ⟨_, .tail _ (.tail _ (.head _)), mem_box h6 y (by omega) (by omega) (by omega) (by omega)⟩
    · exact ⟨_, .tail _ (.head _), mem_box h6' y (by omega) (by omega) (by omega) (by omega)⟩
  · exact ⟨_, .head _, mem_box h7 y (by omega) (by omega) (by omega) (by omega)⟩

theorem within_first [∀ e, Nonempty (Elt Ideal e)] {sig : RefSig} {κ : Kind} {sp : Space} {l m n s k k' : ℕ}
    (v : View sig κ sp ⟨3, ![l, m, n]⟩ .f32) (h) (hw hr) (h0 hs hh) (h0' hs' hh') (hR hR') (F : ℕ → ℕ → ℝ) (L) (hk : 0 + k' ≤ 0 + k) :
    LoadRect.valAlong (lr := (Rect.unit (s := ⟨2, ![m, n]⟩) ![0, 0] ![k', n] hr).toLoadRect)
      (LR := LoadRect.consLift (Rect.unit (s := ⟨2, ![m, n]⟩) ![0, 0] ![k', n] hr).toLoadRect ![1, m, n] h0' hs') hR'
      (v.readCov (Val := Elt Ideal)
        (⟨(Rect.unit (s := ⟨3, ![l, m, n]⟩) ![s, 0, 0] ![1, m, n] h).within (Rect.consLift (Rect.unit (s := ⟨2, ![m, n]⟩) ![0, 0] ![k, n] hw) ![1, m, n] h0 hs) hh,
          Rect.payAlong (r := Rect.unit (s := ⟨2, ![m, n]⟩) ![0, 0] ![k, n] hw) (R := Rect.consLift (Rect.unit (s := ⟨2, ![m, n]⟩) ![0, 0] ![k, n] hw) ![1, m, n] h0 hs)
            hR (co2 (m := k) (n := n) F)⟩ :: L)
        ((Rect.unit (s := ⟨3, ![l, m, n]⟩) ![s, 0, 0] ![1, m, n] h).withinL (LoadRect.consLift (Rect.unit (s := ⟨2, ![m, n]⟩) ![0, 0] ![k', n] hr).toLoadRect ![1, m, n] h0' hs') hh'))
      = co2 (m := k') (n := n) F :=
  (within_top v h hw hr h0 hs hh h0' hs' hh' hR hR' F L hk).trans (co2_congr fun t j _ _ => by rw [Nat.zero_add])

end Cert.Mix.Blk

end
-- ==== Proof.MixTile2.lean ====
/- The gradients of the mixer's input product, of its rows and of the norm's gain at one grid point. -/
module

public import proofs.«01_k».proof.Proof.MixRows

@[expose] public section

set_option maxRecDepth 16384
set_option maxHeartbeats 4000000

noncomputable section

namespace Cert.Mix.Blk

open Cert.MixBwdIdeal Cert.MixBwdIdeal.Gen Idealize.ShloMosaic Idealize.ShloMosaic.TcCoe Idealize.SL.Sem Cert.Base Cert.Mix

variable {m : (ℓ : Loc nD τ sig) → Buf (Elt Ideal) ℓ} {c : Dev nD} {t : Fin cfg0.N} {A : In} (T : Tile m c t A)
include T

theorem dp_tile : (outsAt0 m c t.val t.isLt).1 = co2 A.dp := by
  by_cases h0 : t.val % 32 = 0
  case' pos =>
    rw [outsAt0_A m c t h0]
    dsimp only
    unfold out0_A_18
    refine read_writes_eq _ _ _ (fun y => by apply cover0_A_18) _ ?_
    unfold kernelRun0_A
  case' neg =>
    rw [outsAt0_B m c t h0]
    dsimp only
    unfold out0_B_18
    refine read_writes_eq _ _ _ (fun y => by apply cover0_B_18) _ ?_
    unfold kernelRun0_B
  all_goals
    dsimp only
    sl_unfold_words
    simp (disch := decide) only [↓ View.readCov_skip, ↓ View.readCov_cons_toLoadRect]
    simp only [View.readAt_eq_ld, (hs0_0 t).read_unread, (hs0_1 t).read_unread, (hs0_2 t).read_unread, (hs0_3 t).read_unread, (hs0_4 t).read_unread, (hs0_5 t).read_unread, (hs0_6 t).read_unread,
      (hs0_10 t).read_unread, (hs0_11 t).read_unread, (hs0_12 t).read_unread, (hs0_13 t).read_unread, (hs0_14 t).read_unread, (hs0_15 t).read_unread, (hs0_16 t).read_unread, (hs0_17 t).read_unread, T.pp, T.pm, T.pn, T.dy, T.dyn, T.wo, T.vec, T.se, T.dm, T.i,
      T.conv, T.convn, T.pbd, T.cw, T.sw, T.wcat, T.bst, T.wcatt, ld_f32, ld_bf16, ld3_bf16, readCov_whole,
      Nat.zero_add, vec_eq, c_eq, cn_eq, cw_eq, w_eq, p5_eq, p5_eq', ep_eq, e_read, e2_eq, hat_eq, rv_eq, dln_eq, dc_eq, dc_eq', p6_eq, dod_eq, chunk_eq, chunk_eq', dmx_eq, dmx_eq_t, dmx_eq', dmx_eq_t', ghat_eq, grv_eq, v_eq,
      m0_eq, val_eq, sg_eq, yp_eq, ym_eq, y_read, p2_eq, p3_eq, p4_eq, zp_eq, zm_eq, z_read, dzm_eq, dzn_eq, dz_read, sw_eq, pbd_eq, dd_eq, f_eq A T.lt]
    simp only [zm_at, dzm_at, dp2_eq, dzs_eq, dp3_eq, dp4_eq]
    rw [f2_eq]
    iterate 2 rw [within_first (hk := by decide)]
    rw [within_top (hk := by decide), f4_eq]
    iterate 2 rw [within_first (hk := by decide)]
    rw [within_top (hk := by decide), f8_eq, within_first (hk := by decide), within_top (hk := by decide), dp5_eq,
      m1_eq, m2_eq, m3_eq, dv_eq, dp7_eq A _ _ _ (dv_eq' A), dp6_eq, dp6_eq']
    simp only [k0_pay35, k0_pay36, k0_pay37, k0_pay38, k0_pay39, k0_pay40, k0_pay41, cast_up, readCov_slot,
      k0_pay44, k0_pay49, k0_pay51, k0_pay54, k0_pay57, k0_pay61, k0_pay64, k0_pay66, k0_pay69, k0_pay72, k0_pay77, k0_pay80, k0_pay82, k0_pay85, k0_pay89, k0_pay94, k0_pay97, k0_pay99, k0_pay100, k0_pay101, cast_down, slice_co2, bcast_row, bcast_zero, bcast_one, truncf_co2, shapeCast_same, subf_co2,
      mulf_co2, addf_co2, Nat.zero_add, Nat.add_zero, ← Nat.add_assoc, Nat.reduceAdd]
    refine dp_pieces A ?_ ?_ <;> exact co2_congr fun t j _ _ => by
      simp only [In.dp0, In.dp1, In.dy0, Finset.sum_range_succ, Finset.sum_range_zero, Nat.reduceSub, Nat.zero_add]

theorem dx_tile : (outsAt0 m c t.val t.isLt).2.2.2.2.2.2.2.1 = co2 fun t j => A.dy t j + dnorm A.x (fun t j => A.dh t j * A.gain j) t j := by
  by_cases h0 : t.val % 32 = 0
  case' pos =>
    rw [outsAt0_A m c t h0]
    dsimp only
    unfold out0_A_25
    refine read_writes_eq _ _ _ (fun y => by apply cover0_A_25) _ ?_
    unfold kernelRun0_A
    dsimp only
    sl_unfold_words
  case' neg =>
    rw [outsAt0_B m c t h0]
    dsimp only
    unfold out0_B_25
    refine read_writes_eq _ _ _ (fun y => by apply cover0_B_25) _ ?_
    unfold kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_10 t).read_unread, (hs0_11 t).read_unread, (hs0_12 t).read_unread, (hs0_13 t).read_unread, (hs0_14 t).read_unread, (hs0_15 t).read_unread, (hs0_16 t).read_unread, (hs0_17 t).read_unread, T.pp, T.pm, T.pn, T.dy, T.dyn, T.wo, T.vec, T.se, T.dm, T.i,
      T.conv, T.convn, T.pbd, T.x, T.gain, T.wi, T.cw, T.sw, T.wcat, T.bst, T.wcatt, ld_f32, ld_bf16, ld3_bf16, readCov_whole,
      Nat.zero_add, vec_eq, c_eq, cn_eq, cw_eq, w_eq, p5_eq, p5_eq', ep_eq, e_read, e2_eq, hat_eq, rv_eq, dln_eq, dc_eq, dc_eq', p6_eq, dod_eq, chunk_eq, chunk_eq', dmx_eq, dmx_eq_t, dmx_eq', dmx_eq_t', ghat_eq, grv_eq, v_eq,
      m0_eq, val_eq, sg_eq, yp_eq, ym_eq, y_read, p2_eq, p3_eq, p4_eq, zp_eq, zm_eq, z_read, dzm_eq, dzn_eq, dz_read, sw_eq, pbd_eq, dd_eq, f_eq A T.lt]
    simp only [zm_at, dzm_at, dp2_eq, dzs_eq, dp3_eq, dp4_eq]
    rw [f2_eq]
    iterate 2 rw [within_first (hk := by decide)]
    rw [within_top (hk := by decide), f4_eq]
    iterate 2 rw [within_first (hk := by decide)]
    rw [within_top (hk := by decide), f8_eq, within_first (hk := by decide), within_top (hk := by decide), dp5_eq,
      m1_eq, m2_eq, m3_eq, dv_eq, dp7_eq A _ _ _ (dv_eq' A), dp6_eq, dp6_eq']
    simp only [k0_pay35, k0_pay36, k0_pay37, k0_pay38, k0_pay39, k0_pay40, k0_pay41, cast_up, readCov_slot,
      k0_pay44, k0_pay49, k0_pay51, k0_pay54, k0_pay57, k0_pay61, k0_pay64, k0_pay66, k0_pay69, k0_pay72, k0_pay77, k0_pay80, k0_pay82, k0_pay85, k0_pay89, k0_pay94, k0_pay97, k0_pay99, k0_pay100, k0_pay101, cast_down, slice_co2, bcast_row, bcast_zero, bcast_one, truncf_co2, shapeCast_same, subf_co2,
      mulf_co2, addf_co2, Nat.zero_add, Nat.add_zero, ← Nat.add_assoc, Nat.reduceAdd]
    rw [dp_read (A := A) (hL := dp_pieces A (co2_congr fun t j _ _ => by simp only [In.dp0, In.dy0, Finset.sum_range_succ, Finset.sum_range_zero, Nat.reduceSub, Nat.zero_add])
      (co2_congr fun t j _ _ => by simp only [In.dp1, In.dy0, Finset.sum_range_succ, Finset.sum_range_zero, Nat.reduceSub, Nat.zero_add]))]
    rw [dx_eq]
    simp only [List.forall_mem_cons, idx_co2, List.not_mem_nil, false_imp_iff, implies_true, and_true, Nat.zero_add]

theorem dg_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.2.2.2.2.2.2 = co2 P) :
    (outsAt0 m c t.val t.isLt).2.2.2.2.2.2.2.2 = co2 fun k j => P k j + if k < 1 then ∑ r : Fin 256, A.dh r j * xh A.x r j else 0 := by
  by_cases h0 : t.val % 32 = 0
  case' pos =>
    have hz : k0_pay9 (F := Ideal) = co2 P := by rw [hA h0]; unfold k0_pay9; simp only [bcast_zero]
    rw [outsAt0_A m c t h0]
    dsimp only
    unfold out0_A_26 kernelRun0_A
    dsimp only
    sl_unfold_words
    simp only [hz]
  case' neg =>
    rw [outsAt0_B m c t h0, hB h0]
    dsimp only
    unfold out0_B_26 kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      (hs0_10 t).read_unread, (hs0_11 t).read_unread, (hs0_12 t).read_unread, (hs0_13 t).read_unread, (hs0_14 t).read_unread, (hs0_15 t).read_unread, (hs0_16 t).read_unread, (hs0_17 t).read_unread, (hs0_26 t).read_unread, T.pp, T.pm, T.pn, T.dy, T.dyn, T.wo, T.vec, T.se, T.dm, T.i,
      T.conv, T.convn, T.pbd, T.x, T.gain, T.wi, T.cw, T.sw, T.wcat, T.bst, T.wcatt, ld_f32, ld_bf16, ld3_bf16, readCov_whole,
      Nat.zero_add, vec_eq, c_eq, cn_eq, cw_eq, w_eq, p5_eq, p5_eq', ep_eq, e_read, e2_eq, hat_eq, rv_eq, dln_eq, dc_eq, dc_eq', p6_eq, dod_eq, chunk_eq, chunk_eq', dmx_eq, dmx_eq_t, dmx_eq', dmx_eq_t', ghat_eq, grv_eq, v_eq,
      m0_eq, val_eq, sg_eq, yp_eq, ym_eq, y_read, p2_eq, p3_eq, p4_eq, zp_eq, zm_eq, z_read, dzm_eq, dzn_eq, dz_read, sw_eq, pbd_eq, dd_eq, f_eq A T.lt]
    simp only [zm_at, dzm_at, dp2_eq, dzs_eq, dp3_eq, dp4_eq]
    rw [f2_eq]
    iterate 2 rw [within_first (hk := by decide)]
    rw [within_top (hk := by decide), f4_eq]
    iterate 2 rw [within_first (hk := by decide)]
    rw [within_top (hk := by decide), f8_eq, within_first (hk := by decide), within_top (hk := by decide), dp5_eq,
      m1_eq, m2_eq, m3_eq, dv_eq, dp7_eq A _ _ _ (dv_eq' A), dp6_eq, dp6_eq']
    simp only [k0_pay35, k0_pay36, k0_pay37, k0_pay38, k0_pay39, k0_pay40, k0_pay41, cast_up, readCov_slot,
      k0_pay44, k0_pay49, k0_pay51, k0_pay54, k0_pay57, k0_pay61, k0_pay64, k0_pay66, k0_pay69, k0_pay72, k0_pay77, k0_pay80, k0_pay82, k0_pay85, k0_pay89, k0_pay94, k0_pay97, k0_pay99, k0_pay100, k0_pay101, cast_down, slice_co2, bcast_row, bcast_zero, bcast_one, truncf_co2, shapeCast_same, subf_co2,
      mulf_co2, addf_co2, Nat.zero_add, Nat.add_zero, ← Nat.add_assoc, Nat.reduceAdd]
    rw [dp_read (A := A) (hL := dp_pieces A (co2_congr fun t j _ _ => by simp only [In.dp0, In.dy0, Finset.sum_range_succ, Finset.sum_range_zero, Nat.reduceSub, Nat.zero_add])
      (co2_congr fun t j _ _ => by simp only [In.dp1, In.dy0, Finset.sum_range_succ, Finset.sum_range_zero, Nat.reduceSub, Nat.zero_add]))]
    rw [dg_eq]
    simp only [k0_pay190, k0_pay1, shapeCast_same, addf_co2, Nat.zero_add]
    refine read_row_add _ P _ _ (k := 0) (fun j => rfl) ?_
    refine Eq.trans ?_ (co2_congr (X := P) fun k j _ _ => by simp)
  · exact (hs0_26 t).read_unread _
  · exact read_whole _ _ _ _

end Cert.Mix.Blk

end
-- ==== Proof.MixTile3.lean ====
/- What a grid point adds to the gradients of the convolution's taps and of the parameter rows. -/
module

public import proofs.«01_k».proof.Proof.MixRows

@[expose] public section

set_option maxRecDepth 16384
set_option maxHeartbeats 4000000

noncomputable section

namespace Cert.Mix.Blk

open Cert.MixBwdIdeal Cert.MixBwdIdeal.Gen Idealize.ShloMosaic Idealize.ShloMosaic.TcCoe Idealize.SL.Sem Cert.Base Cert.Mix

variable {m : (ℓ : Loc nD τ sig) → Buf (Elt Ideal) ℓ} {c : Dev nD} {t : Fin cfg0.N} {A : In} (T : Tile m c t A)
include T

theorem dcw_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.1 = co2 P) :
    (outsAt0 m c t.val t.isLt).2.1 = co2 fun k j => P k j + if k < 31 then A.dcw k j else 0 := by
  by_cases h0 : t.val % 32 = 0
  case' pos =>
    have hz : k0_pay3 (F := Ideal) = co2 P := by rw [hA h0]; unfold k0_pay3; simp only [bcast_zero]
    rw [outsAt0_A m c t h0]
    dsimp only
    unfold out0_A_19 kernelRun0_A
    dsimp only
    sl_unfold_words
    simp only [hz]
  case' neg =>
    rw [outsAt0_B m c t h0, hB h0]
    dsimp only
    unfold out0_B_19 kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_3 t).read_unread, (hs0_4 t).read_unread, (hs0_5 t).read_unread, (hs0_6 t).read_unread,
      (hs0_10 t).read_unread, (hs0_12 t).read_unread, (hs0_19 t).read_unread, T.pp, T.pm, T.dy, T.dyn, T.wo, T.vec, T.se, T.dm,
      T.conv, T.convn, ld_f32, ld_bf16, ld3_bf16, readCov_whole,
      Nat.zero_add, vec_eq, c_eq, cn_eq, hat_eq, rv_eq, dln_eq, dc_eq, dc_eq', val_eq, sg_eq, yp_eq, ym_eq, y_read]
    simp only [ym_at, k0_pay16, k0_pay17, k0_pay18, k0_pay19, k0_pay20, k0_pay21, k0_pay22, cast_up, readCov_slot,
      k0_pay42, k0_pay43, k0_pay45, k0_pay46, k0_pay47, k0_pay48, k0_pay50, k0_pay52, k0_pay53, k0_pay55, k0_pay56, k0_pay58, k0_pay59, k0_pay60, k0_pay62, k0_pay63, k0_pay65, k0_pay67, k0_pay68, k0_pay70, k0_pay71, k0_pay73, k0_pay74, k0_pay75, k0_pay76, k0_pay78, k0_pay79, k0_pay81, k0_pay83, k0_pay84, k0_pay86, k0_pay87, k0_pay88, k0_pay90, k0_pay91, k0_pay92, k0_pay93, k0_pay95, k0_pay96, k0_pay98, cast_down, shapeCast_same, slice_co2,
      mulf_co2, col_sum (m := 256) (n := 256), addf_co2, Nat.zero_add, ← Nat.add_assoc, Nat.reduceAdd]
    iterate 31 refine read_row_add _ _ _ _ (fun j => by simp [In.dcw]) ?_
    refine Eq.trans ?_ (co2_congr (X := P) fun k j _ _ => by simp)
  · exact (hs0_19 t).read_unread _
  · exact read_whole _ _ _ _

theorem dvec_tile (P : ℕ → ℕ → ℝ) (hA : t.val % 32 = 0 → P = fun _ _ => 0)
    (hB : ¬ t.val % 32 = 0 → (outsAt0 m c (t.val - 1) (Nat.lt_of_le_of_lt (Nat.sub_le _ _) t.isLt)).2.2.1 = co2 P) :
    (outsAt0 m c t.val t.isLt).2.2.1 = co2 fun k j => P k j + A.dvec k j := by
  by_cases h0 : t.val % 32 = 0
  case' pos =>
    have hz : k0_pay4 (F := Ideal) = co2 P := by rw [hA h0]; unfold k0_pay4; simp only [bcast_zero]
    rw [outsAt0_A m c t h0]
    dsimp only
    unfold out0_A_20 kernelRun0_A
    dsimp only
    sl_unfold_words
    simp only [hz]
  case' neg =>
    rw [outsAt0_B m c t h0, hB h0]
    dsimp only
    unfold out0_B_20 kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_3 t).read_unread, (hs0_4 t).read_unread, (hs0_5 t).read_unread, (hs0_6 t).read_unread,
      (hs0_10 t).read_unread, (hs0_12 t).read_unread, (hs0_14 t).read_unread, (hs0_17 t).read_unread, (hs0_20 t).read_unread, T.pp, T.pm, T.dy, T.dyn, T.wo, T.vec, T.se, T.dm, T.i,
      T.conv, T.convn, T.pbd, T.wcatt, ld_f32, ld_bf16, ld3_bf16, readCov_whole,
      Nat.zero_add, vec_eq, c_eq, cn_eq, w_eq, p5_eq, p5_eq', ep_eq, e_read, e2_eq, hat_eq, rv_eq, dln_eq, dlg_eq, dlb_eq, dcb_eq, p6_eq, dod_eq, chunk_eq, chunk_eq', dmx_eq, dmx_eq_t, dmx_eq', dmx_eq_t', ghat_eq, grv_eq,
      m0_eq]
    iterate 3 rw [within_at (ho := by decide) (hk := by decide)]
    rw [e4_eq]
    iterate 3 rw [within_at (ho := by decide) (hk := by decide)]
    rw [e8_eq]
    iterate 2 rw [within_at (ho := by decide) (hk := by decide)]
    rw [dps_eq A _ T.lt, m1_eq, m2_eq, m3_eq, dv_eq, dgb_eq A _ _ _ _ (dv_eq' A), dgg_eq A _ _ _ _ (dv_eq' A)]
    refine (read_row_at _ _ _ _ _ _ (read_row_at _ _ _ _ _ _ (read_row_at _ _ _ _ _ _ (read_row_at _ _ _ _ _ _ (read_row_at _ _ _ _ _ _
      (read_row_at _ _ _ _ P _ ?_)))))).trans (co2_congr fun k j _ _ => ?_)
    rotate_left
    · beta_reduce
      by_cases hk : k < 6
      · interval_cases k <;> simp [In.dvec]
      · simp [In.dvec, show ¬ k = 0 by omega, show ¬ k = 1 by omega, show ¬ k = 2 by omega, show ¬ k = 3 by omega, show ¬ k = 4 by omega, show ¬ k = 5 by omega]
  · exact (hs0_20 t).read_unread _
  · exact read_whole _ _ _ _

end Cert.Mix.Blk

end
-- ==== Proof.MixArray.lean ====
/- What the mixer's gradient kernel leaves in its nine result arrays. -/
module

public import proofs.«01_k».proof.Proof.MixBlock
public import proofs.«01_k».proof.Proof.MixSums
public import proofs.«01_k».proof.Proof.MixTile2
public import proofs.«01_k».proof.Proof.MixTile3

@[expose] public section

set_option maxRecDepth 16384
set_option maxHeartbeats 1000000

noncomputable section

namespace Cert.Mix.Blk

open Cert.MixBwdIdeal Cert.MixBwdIdeal.Gen Idealize.ShloMosaic Idealize.ShloMosaic.TcCoe Idealize.SL.Sem Cert.Base Cert.Ffn Cert.Mix
open Idealize.ShloMosaic.Pipeline (Dat)

/-- A result that every grid point adds its share to, the first starting from zero. -/
theorem shares {a b N : ℕ} (out : ∀ n, n < N → (⟨2, ![a, b]⟩ : Shape).Idx → EReal) (hN : N = 32) (G : ℕ → ℕ → ℕ → ℝ)
    (step : ∀ (n : ℕ) (hn : n < N) (P : ℕ → ℕ → ℝ), (n % 32 = 0 → P = fun _ _ => 0) → (¬n % 32 = 0 → out (n - 1) (Nat.lt_of_le_of_lt (Nat.sub_le _ _) hn) = co2 P) →
      out n hn = co2 fun k j => P k j + G n k j)
    (n : ℕ) (hn : n < N) : out n hn = co2 fun k j => ∑ i ∈ Finset.range (n + 1), G i k j := by
  induction n with
  | zero =>
    refine (step 0 hn (fun _ _ => 0) (fun _ => rfl) fun h => absurd rfl h).trans (co2_congr fun k j _ _ => ?_)
    rw [zero_add, Finset.sum_range_one]
  | succ n ih =>
    refine (step (n + 1) hn _ (fun h => absurd h (by omega)) fun _ => ih (by omega)).trans (co2_congr fun k j _ _ => ?_)
    rw [Finset.sum_range_succ _ (n + 1)]

variable {m : (ℓ : Loc nD τ sig) → Buf (Elt Ideal) ℓ} {c : Dev nD} {B : Par} (A : Args m c B)
include A

/-- The two arrays of rows. -/
theorem rows_arrays : (dats m 0 c).arrAt 18 cfg0.N = co2 B.DPP ∧ (dats m 0 c).arrAt 25 cfg0.N = co2 B.DX := by
  refine ⟨(dats m 0 c).arrAt_eq_of_covers 18 _ (by decide +kernel) fun t hf y => ?_, (dats m 0 c).arrAt_eq_of_covers 25 _ (by decide +kernel) fun t hf y => ?_⟩
  all_goals
    have hN : t.val < 32 := lt_of_lt_of_eq t.isLt Gen.N_0
    have e18 := (dp_tile (tile A t)).trans (co2_congr fun r j hr hj => Par.t_dp B hN r j hj hr)
    have e25 := (dx_tile (tile A t)).trans (co2_congr fun r j hr hj => Par.t_dx B hN r j hr)
    obtain ⟨-, -, -, -, -, -, -, -, -, i18, i25⟩ := at_rows t
    blk_simp
    first | rw [after0_18, e18] | rw [after0_25, e25]
    symm
    refine (co2_at (a := 256 * t.val) _ _ y ?_ ?_).trans rfl
    · blk_simp [i18, i25]; omega
    · blk_simp [i18, i25]

/-- The taps' gradient. -/
theorem dcw_array : (dats m 0 c).arrAt 19 cfg0.N = co2 fun k j => if k < 31 then B.DCW k j else 0 := by
  refine (dats m 0 c).arrAt_eq_of_covers 19 _ (by decide +kernel) fun t hf y => ?_
  have hN : t.val < 32 := lt_of_lt_of_eq t.isLt Gen.N_0
  have ht : t.val = 31 := by have := (flush0_19 t).mp hf; omega
  have e := (shares (a := 32) (b := 256) (fun n hn => (outsAt0 m c n hn).2.1) Gen.N_0 (fun i k j => if k < 31 then (B.tile i).dcw k j else 0)
    (fun n hn P hA hB => dcw_tile (tile A ⟨n, hn⟩) P hA hB) t.val t.isLt).trans
    (co2_congr fun k j _ hj => show _ = if k < 31 then B.DCW k j else 0 by
      rw [ht]
      by_cases h : k < 31
      · simp only [if_pos h]; exact Par.sum_dcw B k j hj h
      · simp only [if_neg h, Finset.sum_const_zero])
  have i := at_whole t
  blk_simp
  rw [after0_19, e]
  symm
  refine (co2_same _ _ y ?_ ?_).trans rfl <;> blk_simp [i]

/-- The column sums. -/
theorem dvec_array : (dats m 0 c).arrAt 20 cfg0.N = co2 B.DVEC := by
  refine (dats m 0 c).arrAt_eq_of_covers 20 _ (by decide +kernel) fun t hf y => ?_
  have hN : t.val < 32 := lt_of_lt_of_eq t.isLt Gen.N_0
  have ht : t.val = 31 := by have := (flush0_20 t).mp hf; omega
  have e := (shares (a := 8) (b := 256) (fun n hn => (outsAt0 m c n hn).2.2.1) Gen.N_0 (fun i k j => (B.tile i).dvec k j)
    (fun n hn P hA hB => dvec_tile (tile A ⟨n, hn⟩) P hA hB) t.val t.isLt).trans
    (co2_congr fun k j _ hj => show _ = B.DVEC k j by rw [ht]; exact Par.sum_dvec B k j hj)
  have i := at_whole t
  blk_simp
  rw [after0_20, e]
  symm
  refine (co2_same _ _ y ?_ ?_).trans rfl <;> blk_simp [i]

/-- The short taps' gradient. -/
theorem dsw_array : (dats m 0 c).arrAt 21 cfg0.N = co2 fun k j => if k < 3 then B.DSW k j else 0 := by
  refine (dats m 0 c).arrAt_eq_of_covers 21 _ (by decide +kernel) fun t hf y => ?_
  have hN : t.val < 32 := lt_of_lt_of_eq t.isLt Gen.N_0
  have ht : t.val = 31 := by have := (flush0_21 t).mp hf; omega
  have e := (shares (a := 8) (b := 256) (fun n hn => (outsAt0 m c n hn).2.2.2.1) Gen.N_0 (fun i k j => if k < 3 then (B.tile i).dsw k j else 0)
    (fun n hn P hA hB => dsw_tile (tile A ⟨n, hn⟩) P hA hB) t.val t.isLt).trans
    (co2_congr fun k j _ hj => show _ = if k < 3 then B.DSW k j else 0 by
      rw [ht]
      by_cases h : k < 3
      · simp only [if_pos h]; exact Par.sum_dsw B k j
      · simp only [if_neg h, Finset.sum_const_zero])
  have i := at_whole t
  blk_simp
  rw [after0_21, e]
  symm
  refine (co2_same _ _ y ?_ ?_).trans rfl <;> blk_simp [i]

/-- The product of the pooled rows with the gradient after it, over all pairs of columns. -/
theorem dpbd_array : (dats m 0 c).arrAt 22 cfg0.N = co2 B.DPW := by
  refine (dats m 0 c).arrAt_eq_of_covers 22 _ (by decide +kernel) fun t hf y => ?_
  have hN : t.val < 32 := lt_of_lt_of_eq t.isLt Gen.N_0
  have ht : t.val = 31 := by have := (flush0_22 t).mp hf; omega
  have e := (shares (a := 256) (b := 256) (fun n hn => (outsAt0 m c n hn).2.2.2.2.1) Gen.N_0 (fun i a b => (B.tile i).dpbd a b)
    (fun n hn P hA hB => dpbd_tile (tile A ⟨n, hn⟩) P hA hB) t.val t.isLt).trans
    (co2_congr fun a b _ _ => show _ = B.DPW a b by rw [ht]; exact Par.sum_dpbd B a b)
  have i := at_whole t
  blk_simp
  rw [after0_22, e]
  symm
  refine (co2_same _ _ y ?_ ?_).trans rfl <;> blk_simp [i]

/-- The gating's gradients. -/
theorem dws_array : (dats m 0 c).arrAt 23 cfg0.N = co2 fun a s => B.DWS (a / 128) (a % 128) s := by
  refine (dats m 0 c).arrAt_eq_of_covers 23 _ (by decide +kernel) fun t hf y => ?_
  have hN : t.val < 32 := lt_of_lt_of_eq t.isLt Gen.N_0
  have ht : t.val = 31 := by have := (flush0_23 t).mp hf; omega
  have e := (shares (a := 512) (b := 128) (fun n hn => (outsAt0 m c n hn).2.2.2.2.2.1) Gen.N_0 (fun i a s => (B.tile i).dws 0 a s + (B.tile i).dws 1 a s)
    (fun n hn P hA hB => (dws_tile (tile A ⟨n, hn⟩) P hA hB).trans (co2_congr fun _ _ _ _ => add_assoc _ _ _)) t.val t.isLt).trans
    (co2_congr fun a s ha hs => show _ = B.DWS (a / 128) (a % 128) s by rw [ht]; exact Par.sum_dws B a s ha hs)
  have i := at_whole t
  blk_simp
  rw [after0_23, e]
  symm
  refine (co2_same _ _ y ?_ ?_).trans rfl <;> blk_simp [i]
theorem dbs_array : (dats m 0 c).arrAt 24 cfg0.N = co2 fun s h => if h < 4 then B.DBS h s else 0 := by
  refine (dats m 0 c).arrAt_eq_of_covers 24 _ (by decide +kernel) fun t hf y => ?_
  have hN : t.val < 32 := lt_of_lt_of_eq t.isLt Gen.N_0
  have ht : t.val = 31 := by have := (flush0_24 t).mp hf; omega
  have e := (shares (a := 128) (b := 128) (fun n hn => (outsAt0 m c n hn).2.2.2.2.2.2.1) Gen.N_0 (fun i s h => if h < 4 then (B.tile i).dbs 0 s h + (B.tile i).dbs 1 s h else 0)
    (fun n hn P hA hB => dbs_tile (tile A ⟨n, hn⟩) P hA hB) t.val t.isLt).trans
    (co2_congr fun s h hs _ => show _ = if h < 4 then B.DBS h s else 0 by
      rw [ht]
      by_cases hh : h < 4
      · simp only [if_pos hh]; exact Par.sum_dbs B s h hs hh
      · simp only [if_neg hh, Finset.sum_const_zero])
  have i := at_whole t
  blk_simp
  rw [after0_24, e]
  symm
  refine (co2_same _ _ y ?_ ?_).trans rfl <;> blk_simp [i]

/-- The gain's gradient. -/
theorem dg_array : (dats m 0 c).arrAt 26 cfg0.N = co2 fun k j => if k < 1 then B.DG j else 0 := by
  refine (dats m 0 c).arrAt_eq_of_covers 26 _ (by decide +kernel) fun t hf y => ?_
  have hN : t.val < 32 := lt_of_lt_of_eq t.isLt Gen.N_0
  have ht : t.val = 31 := by have := (flush0_26 t).mp hf; omega
  have e := (shares (a := 8) (b := 1024) (fun n hn => (outsAt0 m c n hn).2.2.2.2.2.2.2.2) Gen.N_0 (fun i k j => if k < 1 then ∑ r : Fin 256, (B.tile i).dh r j * xh (B.tile i).x r j else 0)
    (fun n hn P hA hB => dg_tile (tile A ⟨n, hn⟩) P hA hB) t.val t.isLt).trans
    (co2_congr fun k j _ _ => show _ = if k < 1 then B.DG j else 0 by
      rw [ht]
      by_cases h : k < 1
      · simp only [if_pos h]; exact Par.sum_dg B j
      · simp only [if_neg h, Finset.sum_const_zero])
  have i := at_whole t
  blk_simp
  rw [after0_26, e]
  symm
  refine (co2_same _ _ y ?_ ?_).trans rfl <;> blk_simp [i]

end Cert.Mix.Blk

end
-- ==== Proof.Scans.lean ====
/- Running sums of rows and paddings of real matrices, and sums of windows that meet a row. -/
module

public import proofs.«01_k».proof.Proof.MixSums
public import proofs.«01_k».proof.Proof.Windows
public import Idealize.ShloMosaic.Lib.KernelVsHost
public import Idealize.ShloMosaic.Lib.ValueIdx

@[expose] public section

set_option maxRecDepth 16384
set_option maxHeartbeats 1000000

noncomputable section

namespace Cert.Base

open Idealize.ShloMosaic

/-- A padded real matrix. -/
def padded (a b m n : ℕ) (X : ℕ → ℕ → ℝ) (t j : ℕ) : ℝ := if (a ≤ t ∧ t < a + m) ∧ b ≤ j ∧ j < b + n then X (t - a) (j - b) else 0
theorem pad_co2 {m n m' n' a b c d : ℕ} {u : Shape} (X : ℕ → ℕ → ℝ) (v : u.Idx → EReal) (h) (hu : 0 < u.numel) (hv : v (Shape.Idx.first hu) = 0) :
    pad (s := ⟨2, ![m, n]⟩) ⟨2, ![m', n']⟩ ![a, b] ![c, d] ![0, 0] (co2 X) v h hu = co2 (padded a b m n X) := by
  funext i
  rw [co2_apply (padded a b m n X)]
  unfold padded
  by_cases g : (a ≤ (i 0).val ∧ (i 0).val < a + m) ∧ b ≤ (i 1).val ∧ (i 1).val < b + n
  · rw [if_pos g]
    exact pad_apply_of_inside _ _ _ _ _ _ _ i (ValueIdx.ix2 (⟨(i 0).val - a, by omega⟩ : Fin m) (⟨(i 1).val - b, by omega⟩ : Fin n)) fun q => by
      match q with
      | ⟨0, _⟩ => show (i 0).val = a + ((i 0).val - a) * (0 + 1); omega
      | ⟨1, _⟩ => show (i 1).val = b + ((i 1).val - b) * (0 + 1); omega
  · rw [if_neg g]
    by_cases g0 : a ≤ (i 0).val ∧ (i 0).val < a + m
    · refine (pad_apply_of_not_inside _ _ _ _ _ _ _ i (1 : Fin 2) fun q => g ⟨g0, ?_⟩).trans hv
      have h1 : b ≤ (i 1).val := q.1
      have h2 : ((i 1).val - b) / (0 + 1) < n := q.2.2
      rw [Nat.div_one] at h2
      exact ⟨h1, by omega⟩
    · refine (pad_apply_of_not_inside _ _ _ _ _ _ _ i (0 : Fin 2) fun q => g0 ?_).trans hv
      have h1 : a ≤ (i 0).val := q.1
      have h2 : ((i 0).val - a) / (0 + 1) < m := q.2.2
      rw [Nat.div_one] at h2
      exact ⟨h1, by omega⟩

theorem foldl_add {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A sum over windows of `w` rows, at a row. -/
theorem scan_at {n C w lo hi : ℕ} {u : Shape} (X : ℕ → ℕ → ℝ) (v : u.Idx → EReal) (h) (hu : 0 < u.numel) (hv : v (Shape.Idx.first hu) = 0) :
    Host.reduceWindowAdd (F := Ideal) (φ := .f32) (s := ⟨2, ![n, C]⟩) (t := ⟨2, ![n, C]⟩) ![w, 1] ![1, 1] ![lo, 0] ![hi, 0] (co2 X) v h hu
      = co2 fun s j => ∑ k : Fin w, if lo ≤ s + k ∧ s + k - lo < n then X (s + k - lo) j else 0 := by
  funext i
  show Host.reduceWindow (· + ·) ![w, 1] ![1, 1] ![lo, 0] ![hi, 0] (co2 X) (fun _ : (⟨0, ![]⟩ : Shape).Idx => v (Shape.Idx.first hu)) h (by decide) i = _
  unfold Host.reduceWindow
  refine (foldl_add (List.finRange (⟨2, ![w, 1]⟩ : Shape).numel) _ _).trans ?_
  rw [hv, zero_add, ← Fin.sum_univ_def]
  let H (q : (⟨2, ![w, 1]⟩ : Shape).Idx) : EReal :=
    ((if lo ≤ (i 0).val + (q 0).val ∧ (i 0).val + (q 0).val - lo < n then X ((i 0).val + (q 0).val - lo) (i 1).val else 0 : ℝ) : EReal)
  refine (Finset.sum_congr rfl fun p _ => (?_ : _ = H ((⟨2, ![w, 1]⟩ : Shape).rowMajor.symm p))).trans ?_
  · let q := (⟨2, ![w, 1]⟩ : Shape).rowMajor.symm p
    have q1 : (q 1).val = 0 := by have : (q 1).val < 1 := (q 1).isLt; omega
    have i1 : (i 1).val < C := (i 1).isLt
    show _ = (((if lo ≤ (i 0).val + (q 0).val ∧ (i 0).val + (q 0).val - lo < n then X ((i 0).val + (q 0).val - lo) (i 1).val else 0 : ℝ)) : EReal)
    by_cases g : lo ≤ (i 0).val + (q 0).val ∧ (i 0).val + (q 0).val - lo < n
    · rw [if_pos g]
      refine (dif_pos (by
        intro a
        match a with
        | ⟨0, _⟩ => show lo ≤ (i 0).val * 1 + (q 0).val ∧ (i 0).val * 1 + (q 0).val - lo < n; rw [Nat.mul_one]; exact g
        | ⟨1, _⟩ => show 0 ≤ (i 1).val * 1 + (q 1).val ∧ (i 1).val * 1 + (q 1).val - 0 < C; omega)).trans ?_
      show ((X ((i 0).val * 1 + (q 0).val - lo) ((i 1).val * 1 + (q 1).val - 0) : ℝ) : EReal) = _
      rw [Nat.mul_one, Nat.mul_one, q1]; rfl
    · rw [if_neg g]
      exact dif_neg fun r => g (by
        have h0 : lo ≤ (i 0).val * 1 + (q 0).val ∧ (i 0).val * 1 + (q 0).val - lo < n := r 0
        rwa [Nat.mul_one] at h0)
  rw [Equiv.sum_comp (⟨2, ![w, 1]⟩ : Shape).rowMajor.symm H, ValueIdx.sum_idx2, co2_apply _ i, ← coe_sum]
  refine Finset.sum_congr rfl fun k _ => ?_
  rw [Fin.sum_univ_one]; rfl

/-- A running sum from the first row, and one from the last. -/
theorem scan_up {n C : ℕ} (hn : 0 < n) {u : Shape} (X : ℕ → ℕ → ℝ) (v : u.Idx → EReal) (h) (hu : 0 < u.numel) (hv : v (Shape.Idx.first hu) = 0) :
    Host.reduceWindowAdd (F := Ideal) (φ := .f32) (s := ⟨2, ![n, C]⟩) (t := ⟨2, ![n, C]⟩) ![n, 1] ![1, 1] ![n - 1, 0] ![0, 0] (co2 X) v h hu
      = co2 fun s j => ∑ k ∈ Finset.range (s + 1), X k j := by
  rw [scan_at X v h hu hv]
  funext i
  have hs : (i 0).val < n := (i 0).isLt
  rw [co2_apply, co2_apply]
  generalize (i 0).val = s at hs
  congr 1
  rw [← Finset.sum_range (f := fun k => if n - 1 ≤ s + k ∧ s + k - (n - 1) < n then X (s + k - (n - 1)) (i 1).val else 0)]
  rw [show n = (n - 1 - s) + (s + 1) by omega, Finset.sum_range_add]
  rw [Finset.sum_eq_zero fun k hk => if_neg (by have := Finset.mem_range.mp hk; omega), zero_add]
  refine Finset.sum_congr rfl fun k hk => ?_
  have := Finset.mem_range.mp hk
  rw [if_pos (by omega), show s + (n - 1 - s + k) - (n - 1 - s + (s + 1) - 1) = k by omega]
theorem scan_down {n C : ℕ} {u : Shape} (X : ℕ → ℕ → ℝ) (v : u.Idx → EReal) (h) (hu : 0 < u.numel) (hv : v (Shape.Idx.first hu) = 0) :
    Host.reduceWindowAdd (F := Ideal) (φ := .f32) (s := ⟨2, ![n, C]⟩) (t := ⟨2, ![n, C]⟩) ![n, 1] ![1, 1] ![0, 0] ![n - 1, 0] (co2 X) v h hu
      = co2 fun s j => ∑ k ∈ Finset.range n, if s + k < n then X (s + k) j else 0 := by
  rw [scan_at X v h hu hv]
  refine congrArg _ (funext fun s => funext fun j => ?_)
  rw [← Finset.sum_range (f := fun k => if 0 ≤ s + k ∧ s + k - 0 < n then X (s + k - 0) j else 0)]
  exact Finset.sum_congr rfl fun k _ => if_congr (by simp) rfl rfl

/-- The difference of two running sums is the sum of the window between them. -/
theorem up_diff (F : ℕ → ℝ) (w s : ℕ) : (∑ k ∈ Finset.range (s + 1), F k) - (if s < w then 0 else ∑ k ∈ Finset.range (s - w + 1), F k)
    = ∑ k ∈ Finset.range w, if s < k then 0 else F (s - k) := by
  have e (v : ℕ) : (∑ k ∈ Finset.range (v + 1), F k) = ∑ k ∈ Finset.range (v + 1), F (v - k) := by
    rw [← Finset.sum_range_reflect]
    exact Finset.sum_congr rfl fun k _ => congrArg F (by omega)
  by_cases h : s < w
  · rw [if_pos h, sub_zero, e, show w = (s + 1) + (w - (s + 1)) by omega, Finset.sum_range_add _ (s + 1) (w - (s + 1)),
      Finset.sum_eq_zero (s := Finset.range (w - (s + 1))) fun k _ => if_pos (by omega), add_zero]
    exact Finset.sum_congr rfl fun k hk => (if_neg (by have := Finset.mem_range.mp hk; omega)).symm
  · rw [if_neg h, e, e, sub_eq_iff_eq_add, show s + 1 = w + (s - w + 1) by omega, Finset.sum_range_add]
    refine congrArg₂ _ (Finset.sum_congr rfl fun k hk => (if_neg (by have := Finset.mem_range.mp hk; omega)).symm) ?_
    exact Finset.sum_congr rfl fun k _ => congrArg F (by omega)
theorem down_diff (n : ℕ) (F : ℕ → ℝ) (w s : ℕ) : (∑ k ∈ Finset.range n, if s + k < n then F (s + k) + (if s + k + w < n then -F (s + k + w) else 0) else 0)
    = ∑ k ∈ Finset.range w, if s + k < n then F (s + k) else 0 := by
  have e : (∑ k ∈ Finset.range n, if s + k < n then F (s + k) + (if s + k + w < n then -F (s + k + w) else 0) else 0)
      = (∑ k ∈ Finset.range n, if s + k < n then F (s + k) else 0) - ∑ k ∈ Finset.range n, if s + (w + k) < n then F (s + (w + k)) else 0 := by
    rw [← Finset.sum_sub_distrib]
    refine Finset.sum_congr rfl fun k _ => ?_
    rw [show s + (w + k) = s + k + w by omega]
    by_cases h : s + k + w < n
    · rw [if_pos h, if_pos h, if_pos (by omega), if_pos (by omega)]; ring
    · rw [if_neg h, if_neg h, add_zero, sub_zero]
  rw [e, sub_eq_iff_eq_add, ← Finset.sum_range_add (fun k => if s + k < n then F (s + k) else 0), Nat.add_comm w n, Finset.sum_range_add]
  rw [Finset.sum_eq_zero (s := Finset.range w) fun k _ => if_neg (by omega), add_zero]

/-- Of a scatter of windows, what lands in a row. -/
theorem land_sum (n k m r : ℕ) (hm : k ≤ m + 1) (hr : r < n) (G : ℕ → ℕ → ℝ) :
    (∑ a : Fin n, ∑ b : Fin k, if a.val + b.val = r + m then G a b else 0) = ∑ b ∈ Finset.range k, if m - b + r < n then G (m - b + r) b else 0 := by
  rw [Finset.sum_comm, Finset.sum_range]
  refine Finset.sum_congr rfl fun b _ => ?_
  have hb := b.isLt
  by_cases h : m - b.val + r < n
  · rw [if_pos h]
    refine (Finset.sum_eq_single ⟨m - b.val + r, h⟩ (fun a _ ne => if_neg fun q => ne (Fin.ext ?_)) fun q => absurd (Finset.mem_univ _) q).trans (if_pos ?_)
    · show a.val = m - b.val + r; omega
    · show m - b.val + r + b.val = r + m; omega
  · rw [if_neg h]
    exact Finset.sum_eq_zero fun a _ => if_neg (by have := a.isLt; omega)

end Cert.Base

end
-- ==== Proof.MixRefConv.lean ====
/- What the mixer's reference computes at finite arguments, over the reals: the input product and the convolution's
   branch, forward and backward. -/
module

public import proofs.«01_k».proof.Proof.Scans
public import proofs.«01_k».proof.Proof.MixHost
public import proofs.«01_k».proof.Proof.Gen.MixBwdRefIdeal.Read

@[expose] public section

set_option maxRecDepth 16384
set_option maxHeartbeats 1000000

noncomputable section

namespace Cert.Mix

open Cert.Base Cert.Ffn

/-! Normalized rows of 256. -/

theorem va_ne (R : ℕ → ℕ → ℝ) (q : ℕ) : va R q ≠ 0 := (va_pos R q).ne'
theorem rsqrt_va (R : ℕ → ℕ → ℝ) (q : ℕ) : Idealize.ShloMosaic.Ideal.rsqrt ((va R q : ℝ) : EReal) = ((rv R q : ℝ) : EReal) := rsqrt_pos _ (va_pos R q)
theorem cen_sum (R : ℕ → ℕ → ℝ) (q : ℕ) : (∑ k : Fin 256, cen R q k) = 0 := by
  unfold cen mu
  rw [Finset.sum_sub_distrib, Finset.sum_const, Finset.card_univ, Fintype.card_fin, nsmul_eq_mul]
  push_cast; ring
theorem rv_div (R : ℕ → ℕ → ℝ) (q : ℕ) : rv R q / va R q = rv R q * (rv R q * rv R q) := by
  have h : rv R q * rv R q = (va R q)⁻¹ := by unfold rv; rw [← mul_inv, Real.mul_self_sqrt (va_pos R q).le]
  rw [h, div_eq_mul_inv]

/-- The chain rule through the variance and the mean. -/
def viaVar (g : ℕ → ℝ) (R D : ℕ → ℕ → ℝ) (q j : ℕ) : ℝ :=
  D q j * g j * rv R q + cen R q j * ((∑ k : Fin 256, cen R q k * (D q k * g k)) * (-(1 / 2) * (rv R q / va R q)) / 256)
    + (∑ k : Fin 256, cen R q k * (D q k * g k)) * (-(1 / 2) * (rv R q / va R q)) / 256 * cen R q j
theorem viaVar_eq (g : ℕ → ℝ) (R D : ℕ → ℕ → ℝ) (q j : ℕ) : viaVar g R D q j + (∑ k : Fin 256, -viaVar g R D q k) / 256 = lnb g R D q j := by
  have h : (∑ k : Fin 256, viaVar g R D q k) = (∑ k : Fin 256, D q k * g k) * rv R q := by
    unfold viaVar
    rw [Finset.sum_add_distrib, Finset.sum_add_distrib, ← Finset.sum_mul, ← Finset.sum_mul, ← Finset.mul_sum, cen_sum, zero_mul, mul_zero, add_zero,
      add_zero]
  have h' : (∑ k : Fin 256, D q k * g k * hat R q k) = (∑ k : Fin 256, cen R q k * (D q k * g k)) * rv R q := by
    rw [Finset.sum_mul]; exact Finset.sum_congr rfl fun k _ => by unfold hat; ring
  rw [Finset.sum_neg_distrib, h, lnb, h', viaVar, rv_div, hat]; ring

end Cert.Mix

namespace Cert.Mix.Ref

open Cert.Base Cert.Ffn Cert.Mix Cert.Mix.Par Cert.MixBwdRefIdeal Cert.MixBwdRefIdeal.Gen Cert.MixBwdRefIdeal.Read Idealize.ShloMosaic

variable (B : Par)

/-! The input product. -/

theorem e7 : val_main_v7 (F := Ideal) (co2 B.X) = co2 fun t _ => ms B.X t := by
  funext i
  simp only [val_main_v7_apply, val_main_v5_apply, val_main_v3_apply, val_main_v2_apply, val_main_v1_apply, val_main_cst_0_apply, val_main_v4_apply,
    val_main_cst_1_apply, val_main_v6_apply, val_main_cst_2_apply, Ideal.ofBits_def, Ideal.addf_def, Ideal.mulf_def, Ideal.hostDivf_def, bits_zero,
    bits_eps, bits_1024, co2_apply, ← EReal.coe_mul,
    coe_sum, ← EReal.coe_add, div_coe_coe _ (1024 : ℝ) (by norm_num), zero_add]
  rfl
theorem e8 : val_main_v8 (F := Ideal) (co2 B.X) = co2 fun t _ => rs B.X t := by
  funext i
  rw [val_main_v8_apply, e7, Ideal.hostUnary_rsqrt_def, co2_apply, rsqrt_ms]; rfl
theorem e13 : val_main_v13 (F := Ideal) (co2 B.X) = co2 (xh B.X) := by
  funext i
  simp only [val_main_v13_apply, val_main_v12_apply, e8 B, co2_apply, Ideal.mulf_def, ← EReal.coe_mul]
  rfl
theorem e18 : val_main_v18 (F := Ideal) (co2 B.X) (co1 B.gain) (co2 B.win) = co2 B.P := by
  funext i
  simp only [val_main_v18_apply, val_main_v17_apply, val_main_v16_apply, val_main_v15_apply, val_main_v14_apply, val_main_v0_apply,
    val_main_cst_apply, e13 B, co1_apply, co2_apply, Ideal.ofBits_def, bits_zero, Ideal.addf_def, Ideal.mulf_def, ← EReal.coe_mul, coe_sum,
    ← EReal.coe_add, add_zero]
  rfl

/-! The convolution. -/

theorem e32 : val_main_v32 (F := Ideal) (co2 B.X) (co1 B.gain) (co2 B.win) = co2 fun s j => sg (B.P s (256 + j)) := by
  funext i
  simp only [val_main_v32_apply, val_main_v31_apply, val_main_cst_5_apply, val_main_v30_apply, val_main_v29_apply, val_main_cst_4_apply,
    val_main_v28_apply, val_main_v27_apply, val_main_v20_apply, e18 B, co2_apply, Ideal.ofBits_def, bits_one, Ideal.hostNegf_def, Ideal.negf_def,
    Ideal.hostUnary_exp_def, neg_co, Ideal.exp_coe,
    Ideal.addf_def, ← EReal.coe_add, Ideal.hostDivf_def, div_coe_coe _ _ (one_add_exp_ne _), one_div_sg]
theorem e36 : val_main_v36 (F := Ideal) (co2 B.X) (co1 B.gain) (co2 B.win) = co2 B.Y := by
  funext i
  simp only [val_main_v36_apply, val_main_v19_apply, e18 B, e32 B, co2_apply, Ideal.mulf_def, ← EReal.coe_mul]
  rfl
theorem e37 : val_main_v37 (F := Ideal) = co2 fun _ _ => 0 := by
  funext i
  simp only [val_main_v37_apply, val_main_cst_7_apply, Ideal.ofBits_def, bits_zero]
  rfl
/-- Rows of zeros before the rows. -/
theorem cat_lag {a m n : ℕ} (F : ℕ → ℕ → ℝ) (h) : concatenate (⟨2, ![m, n]⟩ : Shape) 0 [⟨⟨2, ![a, n]⟩, co2 fun _ _ => 0⟩, ⟨⟨2, ![8192, n]⟩,
  co2 F⟩] h = co2 (lag a F) := by
  refine (cat_two _ _ h).trans (congrArg _ (funext fun t => funext fun j => ?_))
  rfl
theorem e38 : val_main_v38 (F := Ideal) (co2 B.X) (co1 B.gain) (co2 B.win) = co2 (lag 30 B.Y) := by
  unfold val_main_v38
  rw [e36, e37]
  exact cat_lag B.Y _
/-- The row numbers of the windows. -/
theorem at52 (a : Fin 8192) (b : Fin 31) : (val_main_v52 (F := Ideal) (ValueIdx.ix3 a b (0 : Fin 1))).toInt = ((a.val + b.val : ℕ) : ℤ) := by
  rw [val_main_v52_apply, val_main_v51_apply, val_main_v48_apply, val_main_v46_apply, val_main_v44_apply, val_main_v41_apply, val_main_v40_apply,
    val_main_v45_apply, val_main_v43_apply, val_main_v42_apply, val_main_v47_apply, val_main_c_apply, val_main_v50_apply, val_main_v49_apply,
    val_main_c_9_apply]
  exact word_add _ a.val b.val (by have := a.isLt; have := b.isLt; omega)
theorem e53 : val_main_v53 (F := Ideal) (co2 B.X) (co1 B.gain) (co2 B.win) = co3 fun s k j => lag 30 B.Y (s + k) j := by
  unfold val_main_v53
  rw [e38]
  exact gather_win (N := 8222) (n := 8192) (k := 31) (C := 256) _ (by norm_num) _ _ at52
theorem e60 : val_main_v60 (F := Ideal) (co2 B.X) (co1 B.gain) (co2 B.win) (co2 B.cw) (co1 B.cb) = co2 B.C := by
  funext i
  simp only [val_main_v60_apply, val_main_v57_apply, val_main_v56_apply, val_main_v55_apply, val_main_v54_apply, val_main_cst_10_apply,
    val_main_v59_apply, val_main_v58_apply, e53 B, co1_apply, co2_apply, co3_apply, Ideal.ofBits_def, bits_zero, Ideal.addf_def, Ideal.mulf_def,
    ← EReal.coe_mul, coe_sum,
    ← EReal.coe_add, zero_add]
  rw [C, Finset.sum_range]
theorem e66 : val_main_v66 (F := Ideal) (co2 B.X) (co1 B.gain) (co2 B.win) (co2 B.cw) (co1 B.cb) = co2 (cen B.C) := by
  funext i
  simp only [val_main_v66_apply, val_main_v65_apply, val_main_v64_apply, val_main_v62_apply, val_main_v61_apply, val_main_cst_11_apply,
    val_main_v63_apply, val_main_cst_12_apply, e60 B, co2_apply, Ideal.ofBits_def, bits_zero, bits_256, Ideal.subf_def, Ideal.hostDivf_def, coe_sum,
    ← EReal.coe_add, div_coe_coe _ (256 : ℝ) (by norm_num), sub_co, zero_add]
  rfl
theorem e73 : val_main_v73 (F := Ideal) (co2 B.X) (co1 B.gain) (co2 B.win) (co2 B.cw) (co1 B.cb) = co2 fun s _ => va B.C s := by
  funext i
  simp only [val_main_v73_apply, val_main_v71_apply, val_main_v69_apply, val_main_v68_apply, val_main_v67_apply, val_main_cst_13_apply,
    val_main_v70_apply, val_main_cst_14_apply, val_main_v72_apply, val_main_cst_15_apply, e66 B, co2_apply, Ideal.ofBits_def, bits_zero, bits_256,
    bits_eps, Ideal.addf_def, Ideal.mulf_def, Ideal.hostDivf_def, ← EReal.coe_mul, coe_sum,
    ← EReal.coe_add, div_coe_coe _ (256 : ℝ) (by norm_num), zero_add]
  rfl
theorem e74 : val_main_v74 (F := Ideal) (co2 B.X) (co1 B.gain) (co2 B.win) (co2 B.cw) (co1 B.cb) = co2 fun s _ => rv B.C s := by
  funext i
  rw [val_main_v74_apply, e73, Ideal.hostUnary_rsqrt_def, co2_apply, rsqrt_va]; rfl
theorem e77 : val_main_v77 (F := Ideal) (co2 B.X) (co1 B.gain) (co2 B.win) (co2 B.cw) (co1 B.cb) = co2 fun s _ => -(1 / 2) * (rv B.C s / va B.C s) := by
  funext i
  simp only [val_main_v77_apply, val_main_v76_apply, val_main_cst_16_apply, val_main_v75_apply, e74 B, e73 B, co2_apply, Ideal.ofBits_def,
    bits_neg_half, Ideal.mulf_def, Ideal.hostDivf_def, div_coe_coe _ _ (va_ne _ _), ← EReal.coe_mul]
theorem e79 : val_main_v79 (F := Ideal) (co2 B.X) (co1 B.gain) (co2 B.win) (co2 B.cw) (co1 B.cb) = co2 (hat B.C) := by
  funext i
  simp only [val_main_v79_apply, val_main_v78_apply, e66 B, e74 B, co2_apply, Ideal.mulf_def, ← EReal.coe_mul]
  rfl
theorem e85 : val_main_v85 (F := Ideal) (co2 B.X) (co1 B.gain) (co2 B.win) (co2 B.cw) (co1 B.cb) (co1 B.lg) (co1 B.lb) = co2 B.LN := by
  funext i
  simp only [val_main_v85_apply, val_main_v82_apply, val_main_v81_apply, val_main_v80_apply, val_main_v84_apply, val_main_v83_apply, e79 B,
    co1_apply, co2_apply, Ideal.addf_def, Ideal.mulf_def, ← EReal.coe_mul, ← EReal.coe_add]
  rfl
theorem e86_2 : val_main_v86_2 (F := Ideal) (co2 B.X) (co1 B.gain) (co2 B.win) (co2 B.cw) (co1 B.cb) (co1 B.lg) (co1 B.lb) = co2 fun s j => sg (B.LN s j) := by
  funext i
  simp only [val_main_v86_2_apply, val_main_call0_v4_apply, val_main_call0_cst_0_apply, val_main_call0_v3_apply, val_main_call0_v2_apply,
    val_main_call0_cst_apply, val_main_call0_v1_apply, val_main_call0_v0_apply, e85 B, co2_apply, Ideal.ofBits_def, bits_one, Ideal.hostNegf_def,
    Ideal.negf_def, Ideal.hostUnary_exp_def, neg_co, Ideal.exp_coe,
    Ideal.addf_def, ← EReal.coe_add, Ideal.hostDivf_def, div_coe_coe _ _ (one_add_exp_ne _), one_div_sg]

/-! The gradient. -/

theorem e215 : val_main_v215 (F := Ideal) (co2 B.dy) = co2 B.dy := shapeCast_self _ _
theorem e216 : val_main_v216 (F := Ideal) (co2 B.wout) (co2 B.dy) = co2 B.DM := by
  funext i
  simp only [val_main_v216_apply, e215 B, co2_apply, ← EReal.coe_mul, coe_sum]
  rfl
theorem e348 : val_main_v348 (F := Ideal) (co2 B.X) (co1 B.gain) (co2 B.win) (co2 B.cw) (co1 B.cb) (co1 B.lg) (co1 B.lb) (co2 B.wout) (co2 B.dy) = co2 B.DLN := by
  funext i
  simp only [val_main_v348_apply, val_main_call6_v1_apply, val_main_v217_apply, val_main_call6_v2_apply, val_main_call6_v0_apply,
    val_main_v86_1_apply, val_main_call0_v7_apply, val_main_call0_v6_apply, val_main_call0_cst_1_apply, e216 B, e86_2 B, e85 B, co2_apply,
    Ideal.ofBits_def, bits_one, Ideal.subf_def, sub_co, Ideal.addf_def, Ideal.mulf_def, ← EReal.coe_mul, ← EReal.coe_add, DLN]
  congr 1
  ring
theorem e356 : val_main_v356 (F := Ideal) (co2 B.X) (co1 B.gain) (co2 B.win) (co2 B.cw) (co1 B.cb) (co1 B.lg) (co1 B.lb) (co2 B.wout) (co2 B.dy) = co2 fun s j => B.DLN s j * B.lg j := by
  funext i
  simp only [val_main_v356_apply, val_main_v355_apply, val_main_v80_apply, e348 B, co1_apply, co2_apply, Ideal.mulf_def, ← EReal.coe_mul]
theorem e371 : val_main_v371 (F := Ideal) (co2 B.X) (co1 B.gain) (co2 B.win) (co2 B.cw) (co1 B.cb) (co1 B.lg) (co1 B.lb) (co2 B.wout) (co2 B.dy) = co2 (viaVar B.lg B.C B.DLN) := by
  funext i
  simp only [val_main_v371_apply, val_main_v369_apply, val_main_v362_apply, val_main_v361_apply, val_main_v368_apply, val_main_v367_apply,
    val_main_v366_apply, val_main_v365_apply, val_main_v363_apply, val_main_v360_apply, val_main_v359_apply, val_main_v358_apply,
    val_main_cst_76_apply, val_main_v364_apply, val_main_cst_77_apply, val_main_cst_78_apply, val_main_v370_apply, e356 B, e74 B, e66 B, e77 B,
    co2_apply, Ideal.ofBits_def, bits_zero, bits_256, Ideal.addf_def, Ideal.mulf_def, Ideal.hostDivf_def, ← EReal.coe_mul, coe_sum,
    ← EReal.coe_add, div_coe_coe _ (256 : ℝ) (by norm_num), zero_add, Fin.sum_univ_one, Fin.val_zero, Nat.mul_one, Nat.add_zero]
  rfl
theorem e379 : val_main_v379 (F := Ideal) (co2 B.X) (co1 B.gain) (co2 B.win) (co2 B.cw) (co1 B.cb) (co1 B.lg) (co1 B.lb) (co2 B.wout) (co2 B.dy) = co2 B.DC := by
  funext i
  simp only [val_main_v379_apply, val_main_v378_apply, val_main_v377_apply, val_main_v376_apply, val_main_v374_apply, val_main_v373_apply,
    val_main_v372_apply, val_main_cst_79_apply, val_main_v375_apply, val_main_cst_80_apply, val_main_cst_81_apply, e371 B, co2_apply,
    Ideal.ofBits_def, bits_zero, bits_256, Ideal.hostNegf_def, Ideal.negf_def, neg_co, Ideal.addf_def, Ideal.hostDivf_def, coe_sum,
    ← EReal.coe_add, div_coe_coe _ (256 : ℝ) (by norm_num), zero_add, Fin.sum_univ_one, Fin.val_zero, Nat.mul_one, Nat.add_zero]
  exact congrArg _ (viaVar_eq B.lg B.C B.DLN _ _)
theorem e382 : val_main_v382 (F := Ideal) (co2 B.X) (co1 B.gain) (co2 B.win) (co2 B.cw) (co1 B.cb) (co1 B.lg) (co1 B.lb) (co2 B.wout) (co2 B.dy) = co1 fun j => ∑ s : Fin 8192, B.DC s j := by
  funext i
  simp only [val_main_v382_apply, val_main_v381_apply, val_main_v380_apply, val_main_cst_82_apply, val_main_cst_83_apply, e379 B, co1_apply,
    co2_apply, Ideal.ofBits_def, bits_zero, coe_sum, ← EReal.coe_add, zero_add, Fin.sum_univ_one, Fin.val_zero, Nat.zero_mul]
theorem e351 : val_main_v351 (F := Ideal) (co2 B.X) (co1 B.gain) (co2 B.win) (co2 B.cw) (co1 B.cb) (co1 B.lg) (co1 B.lb) (co2 B.wout) (co2 B.dy) = co1 fun j => ∑ s : Fin 8192, B.DLN s j := by
  funext i
  simp only [val_main_v351_apply, val_main_v350_apply, val_main_v349_apply, val_main_cst_72_apply, val_main_cst_73_apply, e348 B, co1_apply,
    co2_apply, Ideal.ofBits_def, bits_zero, coe_sum, ← EReal.coe_add, zero_add, Fin.sum_univ_one, Fin.val_zero, Nat.zero_mul]
theorem e357 : val_main_v357 (F := Ideal) (co2 B.X) (co1 B.gain) (co2 B.win) (co2 B.cw) (co1 B.cb) (co1 B.lg) (co1 B.lb) (co2 B.wout) (co2 B.dy) = co1 fun j => ∑ s : Fin 8192, B.DLN s j * hat B.C s j := by
  funext i
  simp only [val_main_v357_apply, val_main_v354_apply, val_main_v353_apply, val_main_v352_apply, val_main_cst_74_apply, val_main_cst_75_apply, e79 B,
    e348 B, co1_apply, co2_apply, Ideal.ofBits_def, bits_zero, Ideal.mulf_def, ← EReal.coe_mul, coe_sum, ← EReal.coe_add, zero_add,
    Fin.sum_univ_one, Fin.val_zero, Nat.zero_mul]
  exact congrArg _ (Finset.sum_congr rfl fun s _ => mul_comm _ _)
theorem e389 : val_main_v389 (F := Ideal) (co2 B.X) (co1 B.gain) (co2 B.win) (co2 B.cw) (co1 B.cb) (co1 B.lg) (co1 B.lb) (co2 B.wout) (co2 B.dy) = co2 B.DCW := by
  funext i
  simp only [val_main_v389_apply, val_main_v386_apply, val_main_v385_apply, val_main_v384_apply, val_main_v383_apply, val_main_cst_84_apply,
    val_main_cst_85_apply, e53 B, e379 B, co2_apply, co3_apply, Ideal.ofBits_def, bits_zero, Ideal.mulf_def, ← EReal.coe_mul, coe_sum,
    ← EReal.coe_add, zero_add,
    Fin.sum_univ_one, Fin.val_zero, Nat.zero_mul]
  have hj : (i 1).val < 256 := (i 1).isLt
  have h₁ : ((i 0).val * 256 + (i 1).val) / 256 = (i 0).val := by omega
  have h₂ : ((i 0).val * 256 + (i 1).val) % 256 = (i 1).val := by omega
  simp only [h₁, h₂]
  exact congrArg _ (Finset.sum_congr rfl fun s _ => mul_comm _ _)
theorem e388 : val_main_v388 (F := Ideal) (co2 B.X) (co1 B.gain) (co2 B.win) (co2 B.cw) (co1 B.cb) (co1 B.lg) (co1 B.lb) (co2 B.wout) (co2 B.dy) = co3 fun s k j => B.DC s j * B.cw k j := by
  funext i
  simp only [val_main_v388_apply, val_main_v383_apply, val_main_v387_apply, val_main_v54_apply, e379 B, co2_apply, co3_apply, Ideal.mulf_def,
    ← EReal.coe_mul]
theorem e390 : val_main_v390 (F := Ideal) = co2 fun _ _ => 0 := by
  funext i
  simp only [val_main_v390_apply, val_main_cst_86_apply, Ideal.ofBits_def, bits_zero]
  rfl
theorem e391 : val_main_v391 (F := Ideal) (co2 B.X) (co1 B.gain) (co2 B.win) (co2 B.cw) (co1 B.cb) (co1 B.lg) (co1 B.lb) (co2 B.wout) (co2 B.dy) = co2 fun r j => 0 + ∑ a : Fin 8192, ∑ b : Fin 31, if a.val + b.val = r then B.DC a j * B.cw b j else 0 := by
  unfold val_main_v391
  rw [e388, e390]
  exact scatter_rows (N := 8222) (n := 8192) (k := 31) (C := 256) _ _ _ _ at52
theorem e393 : val_main_v393 (F := Ideal) (co2 B.X) (co1 B.gain) (co2 B.win) (co2 B.cw) (co1 B.cb) (co1 B.lg) (co1 B.lb) (co2 B.wout) (co2 B.dy) = co2 B.DY := by
  funext i
  simp only [val_main_v393_apply, e391 B, co2_apply, zero_add]
  have hs : (i 0).val < 8192 := (i 0).isLt
  refine congrArg _ (Eq.trans ?_ ((land_sum 8192 31 30 (i 0).val (by norm_num) hs fun a b => B.DC a (i 1).val * B.cw b (i 1).val).trans ?_))
  · simp only [Nat.add_comm 30]
  · refine Finset.sum_congr rfl fun k _ => ?_
    unfold cut
    split_ifs
    · exact mul_comm _ _
    · exact (mul_zero _).symm
theorem e395 : val_main_v395 (F := Ideal) (co2 B.X) (co1 B.gain) (co2 B.win) (co2 B.cw) (co1 B.cb) (co1 B.lg) (co1 B.lb) (co2 B.wout) (co2 B.dy) = co2 fun s j => B.DY s j * sg (B.P s (256 + j)) := by
  funext i
  simp only [val_main_v395_apply, e393 B, e32 B, co2_apply, Ideal.mulf_def, ← EReal.coe_mul]
theorem e396 : val_main_v396 (F := Ideal) (co2 B.X) (co1 B.gain) (co2 B.win) (co2 B.cw) (co1 B.cb) (co1 B.lg) (co1 B.lb) (co2 B.wout) (co2 B.dy) = co2 fun s j => B.DY s j * B.P s j * sg (B.P s (256 + j)) * (1 - sg (B.P s (256 + j))) := by
  funext i
  simp only [val_main_v396_apply, val_main_v394_apply, val_main_v19_apply, val_main_v35_apply, val_main_v34_apply, val_main_v33_apply,
    val_main_cst_6_apply, e18 B, e393 B, e32 B, co2_apply, Ideal.ofBits_def, bits_one, Ideal.subf_def, sub_co, Ideal.mulf_def, ← EReal.coe_mul]
  congr 1
  ring

end Cert.Mix.Ref

end
-- ==== Proof.MixRefShort.lean ====
/- What the mixer's reference computes at finite arguments, over the reals: the short convolution's branch, forward and
   backward. -/
module

public import proofs.«01_k».proof.Proof.MixRefConv

@[expose] public section

set_option maxRecDepth 16384
set_option maxHeartbeats 1000000

noncomputable section

namespace Cert.Mix.Ref

open Cert.Base Cert.Ffn Cert.Mix Cert.Mix.Par Cert.MixBwdRefIdeal Cert.MixBwdRefIdeal.Gen Cert.MixBwdRefIdeal.Read Idealize.ShloMosaic

variable (B : Par)

theorem e87 : val_main_v87 (F := Ideal) (co2 B.X) (co1 B.gain) (co2 B.win) = co2 B.Z := by
  funext i
  simp only [val_main_v87_apply, val_main_v22_apply, val_main_v23_apply, e18 B, co2_apply, Ideal.mulf_def, ← EReal.coe_mul]
  rfl
theorem e88 : val_main_v88 (F := Ideal) = co2 fun _ _ => 0 := by
  funext i
  simp only [val_main_v88_apply, val_main_cst_17_apply, Ideal.ofBits_def, bits_zero]
  rfl
theorem e89 : val_main_v89 (F := Ideal) (co2 B.X) (co1 B.gain) (co2 B.win) = co2 (lag 2 B.Z) := by
  unfold val_main_v89
  rw [e87, e88]
  exact cat_lag B.Z _
/-- The row numbers of the windows. -/
theorem at103 (a : Fin 8192) (b : Fin 3) : (val_main_v103 (F := Ideal) (ValueIdx.ix3 a b (0 : Fin 1))).toInt = ((a.val + b.val : ℕ) : ℤ) := by
  rw [val_main_v103_apply, val_main_v102_apply, val_main_v99_apply, val_main_v97_apply, val_main_v95_apply, val_main_v92_apply, val_main_v91_apply,
    val_main_v96_apply, val_main_v94_apply, val_main_v93_apply, val_main_v98_apply, val_main_c_19_apply, val_main_v101_apply, val_main_v100_apply,
    val_main_c_20_apply]
  exact word_add _ a.val b.val (by have := a.isLt; have := b.isLt; omega)
theorem e104 : val_main_v104 (F := Ideal) (co2 B.X) (co1 B.gain) (co2 B.win) = co3 fun s k j => lag 2 B.Z (s + k) j := by
  unfold val_main_v104
  rw [e89]
  exact gather_win (N := 8194) (n := 8192) (k := 3) (C := 256) _ (by norm_num) _ _ at103
theorem e108 : val_main_v108 (F := Ideal) (co2 B.X) (co1 B.gain) (co2 B.win) (co2 B.sw) = co2 B.CZ := by
  funext i
  simp only [val_main_v108_apply, val_main_v107_apply, val_main_v106_apply, val_main_v105_apply, val_main_cst_21_apply, e104 B, co2_apply, co3_apply,
    Ideal.ofBits_def, bits_zero, Ideal.mulf_def, ← EReal.coe_mul, coe_sum,
    ← EReal.coe_add, zero_add]
  rw [CZ, Finset.sum_range]
  exact congrArg _ (Finset.sum_congr rfl fun _ _ => mul_comm _ _)
theorem e334 : val_main_v334 (F := Ideal) (co2 B.X) (co1 B.gain) (co2 B.win) (co2 B.sw) (co2 B.wout) (co2 B.dy) = co2 fun s j => B.DM s (256 + j) * B.CZ s j := by
  funext i
  simp only [val_main_v334_apply, val_main_v218_apply, e216 B, e108 B, co2_apply, Ideal.mulf_def, ← EReal.coe_mul]
theorem e333 : val_main_v333 (F := Ideal) (co2 B.X) (co1 B.gain) (co2 B.win) (co2 B.wout) (co2 B.dy) = co2 B.DZ := by
  funext i
  simp only [val_main_v333_apply, val_main_v21_apply, val_main_v218_apply, e18 B, e216 B, co2_apply, Ideal.mulf_def, ← EReal.coe_mul]
  exact congrArg _ (mul_comm _ _)
theorem e341 : val_main_v341 (F := Ideal) (co2 B.X) (co1 B.gain) (co2 B.win) (co2 B.wout) (co2 B.dy) = co2 B.DSW := by
  funext i
  simp only [val_main_v341_apply, val_main_v338_apply, val_main_v337_apply, val_main_v336_apply, val_main_v335_apply, val_main_cst_69_apply,
    val_main_cst_70_apply, e104 B, e333 B, co2_apply, co3_apply, Ideal.ofBits_def, bits_zero, Ideal.mulf_def, ← EReal.coe_mul, coe_sum,
    ← EReal.coe_add, zero_add,
    Fin.sum_univ_one, Fin.val_zero, Nat.zero_mul]
  have hj : (i 1).val < 256 := (i 1).isLt
  have h₁ : ((i 0).val * 256 + (i 1).val) / 256 = (i 0).val := by omega
  have h₂ : ((i 0).val * 256 + (i 1).val) % 256 = (i 1).val := by omega
  simp only [h₁, h₂]
  exact congrArg _ (Finset.sum_congr rfl fun s _ => mul_comm _ _)
theorem e340 : val_main_v340 (F := Ideal) (co2 B.X) (co1 B.gain) (co2 B.win) (co2 B.sw) (co2 B.wout) (co2 B.dy) = co3 fun s k j => B.DZ s j * B.sw k j := by
  funext i
  simp only [val_main_v340_apply, val_main_v335_apply, val_main_v339_apply, val_main_v105_apply, e333 B, co2_apply, co3_apply, Ideal.mulf_def,
    ← EReal.coe_mul]
theorem e342 : val_main_v342 (F := Ideal) = co2 fun _ _ => 0 := by
  funext i
  simp only [val_main_v342_apply, val_main_cst_71_apply, Ideal.ofBits_def, bits_zero]
  rfl
theorem e343 : val_main_v343 (F := Ideal) (co2 B.X) (co1 B.gain) (co2 B.win) (co2 B.sw) (co2 B.wout) (co2 B.dy) = co2 fun r j => 0 + ∑ a : Fin 8192,
  ∑ b : Fin 3, if a.val + b.val = r then B.DZ a j * B.sw b j else 0 := by
  unfold val_main_v343
  rw [e340, e342]
  exact scatter_rows (N := 8194) (n := 8192) (k := 3) (C := 256) _ _ _ _ at103
theorem e345 : val_main_v345 (F := Ideal) (co2 B.X) (co1 B.gain) (co2 B.win) (co2 B.sw) (co2 B.wout) (co2 B.dy) = co2 B.DZS := by
  funext i
  simp only [val_main_v345_apply, e343 B, co2_apply, zero_add]
  have hs : (i 0).val < 8192 := (i 0).isLt
  refine congrArg _ (Eq.trans ?_ ((land_sum 8192 3 2 (i 0).val (by norm_num) hs fun a b => B.DZ a (i 1).val * B.sw b (i 1).val).trans ?_))
  · simp only [Nat.add_comm 2]
  · refine Finset.sum_congr rfl fun k _ => ?_
    unfold cut
    split_ifs
    · exact mul_comm _ _
    · exact (mul_zero _).symm
theorem e346 : val_main_v346 (F := Ideal) (co2 B.X) (co1 B.gain) (co2 B.win) (co2 B.sw) (co2 B.wout) (co2 B.dy) = co2 fun s j => B.DZS s j * B.P s (768 + j) := by
  funext i
  simp only [val_main_v346_apply, val_main_v22_apply, e18 B, e345 B, co2_apply, Ideal.mulf_def, ← EReal.coe_mul]
  exact congrArg _ (mul_comm _ _)
theorem e347 : val_main_v347 (F := Ideal) (co2 B.X) (co1 B.gain) (co2 B.win) (co2 B.sw) (co2 B.wout) (co2 B.dy) = co2 fun s j => B.DZS s j * B.P s (1024 + j) := by
  funext i
  simp only [val_main_v347_apply, val_main_v23_apply, e345 B, e18 B, co2_apply, Ideal.mulf_def, ← EReal.coe_mul]

end Cert.Mix.Ref

end
-- ==== Proof.MixRefGate.lean ====
/- What the mixer's reference computes at finite arguments, over the reals: the gating over chunks of 128 rows, forward and
   backward. -/
module

public import proofs.«01_k».proof.Proof.MixRefConv
public import Idealize.ShloMosaic.Lib.Pointwise

@[expose] public section

set_option maxRecDepth 16384
set_option maxHeartbeats 1000000

noncomputable section

namespace Cert.Mix.Ref

open Cert.Base Cert.Ffn Cert.Mix Cert.Mix.Par Cert.MixBwdRefIdeal Cert.MixBwdRefIdeal.Gen Cert.MixBwdRefIdeal.Read Idealize.ShloMosaic

variable (B : Par)

theorem e179 : val_main_v179 (F := Ideal) (co2 B.X) (co1 B.gain) (co2 B.win) = co2 (cen B.GV) := by
  funext i
  simp only [val_main_v179_apply, val_main_v26_apply, val_main_v178_apply, val_main_v177_apply, val_main_v175_apply, val_main_v174_apply,
    val_main_cst_35_apply, val_main_v176_apply, val_main_cst_36_apply, e18 B, co2_apply, Ideal.ofBits_def, bits_zero, bits_256, Ideal.subf_def,
    Ideal.hostDivf_def, coe_sum,
    ← EReal.coe_add, div_coe_coe _ (256 : ℝ) (by norm_num), sub_co, zero_add]
  rfl
theorem e186 : val_main_v186 (F := Ideal) (co2 B.X) (co1 B.gain) (co2 B.win) = co2 fun s _ => va B.GV s := by
  funext i
  simp only [val_main_v186_apply, val_main_v184_apply, val_main_v182_apply, val_main_v181_apply, val_main_v180_apply, val_main_cst_37_apply,
    val_main_v183_apply, val_main_cst_38_apply, val_main_v185_apply, val_main_cst_39_apply, e179 B, co2_apply, Ideal.ofBits_def, bits_zero, bits_256,
    bits_eps, Ideal.addf_def, Ideal.mulf_def, Ideal.hostDivf_def, ← EReal.coe_mul, coe_sum,
    ← EReal.coe_add, div_coe_coe _ (256 : ℝ) (by norm_num), zero_add]
  rfl
theorem e187 : val_main_v187 (F := Ideal) (co2 B.X) (co1 B.gain) (co2 B.win) = co2 fun s _ => rv B.GV s := by
  funext i
  rw [val_main_v187_apply, e186, Ideal.hostUnary_rsqrt_def, co2_apply, rsqrt_va]; rfl
theorem e190 : val_main_v190 (F := Ideal) (co2 B.X) (co1 B.gain) (co2 B.win) = co2 fun s _ => -(1 / 2) * (rv B.GV s / va B.GV s) := by
  funext i
  simp only [val_main_v190_apply, val_main_v189_apply, val_main_cst_40_apply, val_main_v188_apply, e187 B, e186 B, co2_apply, Ideal.ofBits_def,
    bits_neg_half, Ideal.mulf_def, Ideal.hostDivf_def, div_coe_coe _ _ (va_ne _ _), ← EReal.coe_mul]
theorem e192 : val_main_v192 (F := Ideal) (co2 B.X) (co1 B.gain) (co2 B.win) = co2 (hat B.GV) := by
  funext i
  simp only [val_main_v192_apply, val_main_v191_apply, e179 B, e187 B, co2_apply, Ideal.mulf_def, ← EReal.coe_mul]
  rfl
theorem e198 : val_main_v198 (F := Ideal) (co2 B.X) (co1 B.gain) (co2 B.win) (co1 B.gg) (co1 B.gb) = co2 B.V := by
  funext i
  simp only [val_main_v198_apply, val_main_v195_apply, val_main_v194_apply, val_main_v193_apply, val_main_v197_apply, val_main_v196_apply, e192 B,
    co1_apply, co2_apply, Ideal.addf_def, Ideal.mulf_def, ← EReal.coe_mul, ← EReal.coe_add]
  rfl

/-- The place of a row and a column among chunks and heads. -/
theorem row4 {n t h k : ℕ} (hh : h < 4) (hk : k < 64) : (((n * 128 + t) * 4 + h) * 64 + k) / 256 = 128 * n + t := by omega
theorem col4 {n t h k : ℕ} (hh : h < 4) (hk : k < 64) : (((n * 128 + t) * 4 + h) * 64 + k) % 256 = 64 * h + k := by omega

theorem place {s j : ℕ} (hs : s < 8192) (hj : j < 256) :
    (s * 256 + j) / 32768 = s / 128 ∧ (s * 256 + j) / 64 % 4 = j / 64 ∧ (s * 256 + j) / 256 % 128 = s % 128
      ∧ 64 * (j / 64) + (s * 256 + j) % 64 = j := by omega

theorem e199 : val_main_v199 (F := Ideal) (co2 B.X) (co1 B.gain) (co2 B.win) (co1 B.gg) (co1 B.gb) = co4 fun n t h k => B.V (128 * n + t) (64 * h + k) := by
  funext i
  simp only [val_main_v199_apply, e198 B, co2_apply, co4_apply]
  have h2 : (i 2).val < 4 := (i 2).isLt
  have h3 : (i 3).val < 64 := (i 3).isLt
  rw [row4 h2 h3, col4 h2 h3]
theorem e203_0 : val_main_v203_0 (F := Ideal) (co3 B.ws) = co3 B.low := by
  funext i
  simp only [val_main_v203_0_apply, val_main_v203_1_apply, val_main_v202_apply, val_main_v201_apply, val_main_call2_v4_apply,
    val_main_call2_v2_apply, val_main_call2_v0_apply, val_main_call2_v1_apply, val_main_call2_c_apply, val_main_call2_v3_apply, val_main_v200_apply,
    val_main_c_41_apply, val_main_call2_v5_apply, val_main_call2_c_0_apply, val_main_call3_v2_apply, val_main_call3_v0_apply, val_main_cst_42_apply,
    co3_apply, Ideal.ofBits_def, bits_zero]
  exact tril (i 1).isLt (i 2).isLt _
theorem e210 : val_main_v210 (F := Ideal) (co2 B.X) (co1 B.gain) (co2 B.win) (co1 B.gg) (co1 B.gb) (co3 B.ws) (co2 B.bs) = co2 B.MX := by
  funext i
  simp only [val_main_v210_apply, val_main_v209_apply, val_main_v205_apply, val_main_v204_apply, val_main_v208_apply, val_main_v207_apply,
    val_main_v206_apply, e199 B, e203_0 B, co2_apply, co3_apply, co4_apply, Ideal.addf_def, ← EReal.coe_mul, coe_sum, ← EReal.coe_add]
  obtain ⟨h₁, h₂, h₃, h₄⟩ := place (i 0).isLt (i 1).isLt
  rw [h₁, h₂, h₃, h₄, MX]
  exact congrArg (fun x : ℝ => ((x + B.bs _ _ : ℝ) : EReal)) (Finset.sum_congr rfl fun _ _ => mul_comm _ _)
theorem e221 : val_main_v221 (F := Ideal) (co2 B.X) (co1 B.gain) (co2 B.win) (co2 B.wout) (co2 B.dy) = co2 B.DMX := by
  funext i
  simp only [val_main_v221_apply, val_main_v25_apply, val_main_v220_apply, e18 B, e216 B, co2_apply, Ideal.mulf_def, ← EReal.coe_mul]
  exact congrArg _ (mul_comm _ _)
theorem e222 : val_main_v222 (F := Ideal) (co2 B.X) (co1 B.gain) (co2 B.win) (co1 B.gg) (co1 B.gb) (co3 B.ws) (co2 B.bs) (co2 B.wout) (co2 B.dy) = co2 fun s j => B.DM s (768 + j) * B.MX s j := by
  funext i
  simp only [val_main_v222_apply, val_main_v220_apply, e216 B, e210 B, co2_apply, Ideal.mulf_def, ← EReal.coe_mul]
theorem e223 : val_main_v223 (F := Ideal) (co2 B.X) (co1 B.gain) (co2 B.win) (co2 B.wout) (co2 B.dy) = co4 fun n t h k => B.DMX (128 * n + t) (64 * h + k) := by
  funext i
  simp only [val_main_v223_apply, e221 B, co2_apply, co4_apply]
  have h2 : (i 2).val < 4 := (i 2).isLt
  have h3 : (i 3).val < 64 := (i 3).isLt
  rw [row4 h2 h3, col4 h2 h3]
/-- The sum over the chunks and the columns of a head. -/
theorem sum_two {n m : ℕ} (h : (⟨4, ![n, 128, 4, m]⟩ : Shape).ReducesTo [0, 3] ⟨2, ![128, 4]⟩) (F : ℕ → ℕ → ℕ → ℕ → ℝ) (z : EReal) (hz : z = 0) :
    Ideal.hostReduceAdd h (co4 F) z = co2 fun t a => ∑ p : Fin n, ∑ k : Fin m, F p t a k := by
  funext i
  unfold Ideal.hostReduceAdd
  rw [hz, zero_add]
  refine (Finset.sum_filter_eq_sum_of_fiber (fun x => h.drop x = i) (fun q : Fin n × Fin m => ValueIdx.ix4 q.1 (i 0) (i 1) q.2) ?_ ?_ (co4 F)).trans ?_
  · intro x y e
    exact Prod.ext (congrFun e 0) (congrFun e 3)
  · intro x
    constructor
    · intro e
      refine ⟨(x 0, x 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · rw [Fintype.sum_prod_type, co2_apply]
    simp only [co4_apply, coe_sum]
    rfl
theorem dot_two (F G : ℕ → ℕ → ℕ → ℕ → ℝ) :
    Host.dotGeneral (F := Ideal) (φ₁ := .f32) (φ₂ := .f32) dot_S4x64x64x128_S64x128x4x64_S4x128x128_12_03_3_1_0_2 none (co4 F) (co4 G)
      = co3 fun h t s => ∑ n : Fin 64, ∑ k : Fin 64, F h n k t * G n s h k := by
  funext i
  pointwise
  simp only [co3_apply, co4_apply, ← EReal.coe_mul, coe_sum]
  rfl
theorem e224 : val_main_v224 (F := Ideal) (co2 B.X) (co1 B.gain) (co2 B.win) (co2 B.wout) (co2 B.dy) = co2 fun t h => B.DBS h t := by
  unfold val_main_v224
  rw [e223]
  exact sum_two reducesTo_S64x128x4x64_S128x4_d0_3 _ _ bits_zero
theorem e225 : val_main_v225 (F := Ideal) (co2 B.X) (co1 B.gain) (co2 B.win) (co2 B.wout) (co2 B.dy) = co4 fun _ t h _ => B.DBS h t := by
  funext i
  simp only [val_main_v225_apply, e224 B, co2_apply, co4_apply]
  have h0 : (i 0).val < 1 := (i 0).isLt
  have h2 : (i 2).val < 4 := (i 2).isLt
  have h3 : (i 3).val < 1 := (i 3).isLt
  have h₁ : ((((i 0).val * 128 + (i 1).val) * 4 + (i 2).val) * 1 + (i 3).val) % 4 = (i 2).val := by omega
  have h₂ : ((((i 0).val * 128 + (i 1).val) * 4 + (i 2).val) * 1 + (i 3).val) / 4 = (i 1).val := by omega
  rw [h₁, h₂]
theorem e226 : val_main_v226 (F := Ideal) (co2 B.X) (co1 B.gain) (co2 B.win) (co2 B.wout) (co2 B.dy) = co2 fun t h => B.DBS h t := by
  unfold val_main_v226
  rw [e225]
  refine (sum_two reducesTo_S1x128x4x1_S128x4_d0_3 _ _ bits_zero).trans ?_
  simp only [Fin.sum_univ_one]
theorem e227 : val_main_v227 (F := Ideal) (co2 B.X) (co1 B.gain) (co2 B.win) (co2 B.wout) (co2 B.dy) = co2 B.DBS := by
  funext i
  simp only [val_main_v227_apply, e226 B, co2_apply]
theorem e228 : val_main_v228 (F := Ideal) (co2 B.X) (co1 B.gain) (co2 B.win) (co2 B.wout) (co2 B.dy) = co4 fun h n k t => B.DMX (128 * n + t) (64 * h + k) := by
  funext i
  simp only [val_main_v228_apply, e223 B, co4_apply]
theorem e229 : val_main_v229 (F := Ideal) (co2 B.X) (co1 B.gain) (co2 B.win) (co1 B.gg) (co1 B.gb) (co2 B.wout) (co2 B.dy) = co3 fun h t s => ∑ n : Fin 64, ∑ k : Fin 64, B.DMX (128 * n + t) (64 * h + k) * B.V (128 * n + s) (64 * h + k) := by
  unfold val_main_v229
  rw [e228, e199]
  exact dot_two _ _
theorem e232 : val_main_v232 (F := Ideal) (co2 B.X) (co1 B.gain) (co2 B.win) (co1 B.gg) (co1 B.gb) (co2 B.wout) (co2 B.dy) = co3 B.DWS := by
  funext i
  simp only [val_main_v232_apply, val_main_v203_1_apply, val_main_v202_apply, val_main_v201_apply, val_main_call2_v4_apply, val_main_call2_v2_apply,
    val_main_call2_v0_apply, val_main_call2_v1_apply, val_main_call2_c_apply, val_main_call2_v3_apply, val_main_v200_apply, val_main_c_41_apply,
    val_main_call2_v5_apply, val_main_call2_c_0_apply, val_main_call4_v0_apply, val_main_call4_cst_apply, e229 B, co3_apply, Ideal.ofBits_def,
    bits_zero]
  exact tril (i 1).isLt (i 2).isLt _
theorem e233 : val_main_v233 (F := Ideal) (co2 B.X) (co1 B.gain) (co2 B.win) (co3 B.ws) (co2 B.wout) (co2 B.dy) = co2 B.DV := by
  funext i
  simp only [val_main_v233_apply, val_main_v231_apply, val_main_v230_apply, e228 B, e203_0 B, co2_apply, co3_apply, co4_apply, ← EReal.coe_mul,
    coe_sum]
  obtain ⟨h₁, h₂, h₃, h₄⟩ := place (i 0).isLt (i 1).isLt
  rw [h₁, h₂, h₃, h₄, DV]
  exact congrArg _ (Finset.sum_congr rfl fun _ _ => mul_comm _ _)
theorem e236 : val_main_v236 (F := Ideal) (co2 B.X) (co1 B.gain) (co2 B.win) (co3 B.ws) (co2 B.wout) (co2 B.dy) = co1 fun j => ∑ s : Fin 8192,
  B.DV s j := by
  funext i
  simp only [val_main_v236_apply, val_main_v235_apply, val_main_v234_apply, val_main_cst_45_apply, val_main_cst_46_apply, e233 B, co1_apply,
    co2_apply, Ideal.ofBits_def, bits_zero, coe_sum, ← EReal.coe_add, zero_add, Fin.sum_univ_one, Fin.val_zero, Nat.zero_mul]
theorem e242 : val_main_v242 (F := Ideal) (co2 B.X) (co1 B.gain) (co2 B.win) (co3 B.ws) (co2 B.wout) (co2 B.dy) = co1 fun j => ∑ s : Fin 8192,
  B.DV s j * hat B.GV s j := by
  funext i
  simp only [val_main_v242_apply, val_main_v239_apply, val_main_v238_apply, val_main_v237_apply, val_main_cst_47_apply, val_main_cst_48_apply,
    e192 B, e233 B, co1_apply, co2_apply, Ideal.ofBits_def, bits_zero, Ideal.mulf_def, ← EReal.coe_mul, coe_sum, ← EReal.coe_add, zero_add,
    Fin.sum_univ_one, Fin.val_zero, Nat.zero_mul]
  exact congrArg _ (Finset.sum_congr rfl fun s _ => mul_comm _ _)
theorem e256 : val_main_v256 (F := Ideal) (co2 B.X) (co1 B.gain) (co2 B.win) (co1 B.gg) (co3 B.ws) (co2 B.wout) (co2 B.dy) = co2 (viaVar B.gg B.GV B.DV) := by
  funext i
  simp only [val_main_v256_apply, val_main_v254_apply, val_main_v247_apply, val_main_v241_apply, val_main_v240_apply, val_main_v193_apply,
    val_main_v246_apply, val_main_v253_apply, val_main_v252_apply, val_main_v251_apply, val_main_v250_apply, val_main_v248_apply,
    val_main_v245_apply, val_main_v244_apply, val_main_v243_apply, val_main_cst_49_apply, val_main_v249_apply, val_main_cst_50_apply,
    val_main_cst_51_apply, val_main_v255_apply, e233 B, e187 B, e179 B, e190 B, co1_apply, co2_apply, Ideal.ofBits_def, bits_zero, bits_256,
    Ideal.addf_def, Ideal.mulf_def, Ideal.hostDivf_def, ← EReal.coe_mul, coe_sum,
    ← EReal.coe_add, div_coe_coe _ (256 : ℝ) (by norm_num), zero_add, Fin.sum_univ_one, Fin.val_zero, Nat.mul_one, Nat.add_zero]
  rfl
theorem e264 : val_main_v264 (F := Ideal) (co2 B.X) (co1 B.gain) (co2 B.win) (co1 B.gg) (co3 B.ws) (co2 B.wout) (co2 B.dy) = co2 B.DGV := by
  funext i
  simp only [val_main_v264_apply, val_main_v263_apply, val_main_v262_apply, val_main_v261_apply, val_main_v259_apply, val_main_v258_apply,
    val_main_v257_apply, val_main_cst_52_apply, val_main_v260_apply, val_main_cst_53_apply, val_main_cst_54_apply, e256 B, co2_apply,
    Ideal.ofBits_def, bits_zero, bits_256, Ideal.hostNegf_def, Ideal.negf_def, neg_co, Ideal.addf_def, Ideal.hostDivf_def, coe_sum,
    ← EReal.coe_add, div_coe_coe _ (256 : ℝ) (by norm_num), zero_add, Fin.sum_univ_one, Fin.val_zero, Nat.mul_one, Nat.add_zero]
  exact congrArg _ (viaVar_eq B.gg B.GV B.DV _ _)

end Cert.Mix.Ref

end
-- ==== Proof.MixRefPool.lean ====
/- What the mixer's reference computes at finite arguments, over the reals: the pooling over trailing windows, forward and
   backward. -/
module

public import proofs.«01_k».proof.Proof.MixRefConv
public import Idealize.ShloMosaic.Lib.Pointwise

@[expose] public section

set_option maxRecDepth 16384
set_option maxHeartbeats 1000000

noncomputable section

namespace Cert.Mix

open Cert.Base Cert.Mix.Par Idealize.ShloMosaic

/-! The windows. -/

/-- The width of a lane's window, as a number of rows. -/
def wdn (j : ℕ) : ℕ := if j < 64 then 2 else if j < 128 then 4 else if j < 192 then 8 else 16
/-- Which lanes have windows of `w` rows. -/
theorem lanes {j : ℕ} (hj : j < 64) : (wdn (0 + j) = 2 ∧ wdn (64 + j) = 4 ∧ wdn (128 + j) = 8 ∧ wdn (192 + j) = 16) := by
  unfold wdn
  refine ⟨?_, ?_, ?_, ?_⟩ <;> (split_ifs <;> omega)
theorem wid_wdn (j : ℕ) : wid j = (wdn j : ℝ) := by unfold wid pick wdn; split_ifs <;> norm_num
theorem wdn_le (j : ℕ) : wdn j ≤ 16 := by unfold wdn; split_ifs <;> omega
theorem pick_wdn (f : ℕ → ℝ) (j : ℕ) : pick j (f 2) (f 4) (f 8) (f 16) = f (wdn j) := by unfold pick wdn; split_ifs <;> rfl

variable (B : Par)

/-- The running sums' difference over the count is the window's mean. -/
theorem pool_mean (s j w : ℕ) (hw : wdn j = w) :
    ((∑ k ∈ Finset.range (s + 1), B.E k j) - lag w (fun s j => ∑ k ∈ Finset.range (s + 1),
      B.E k j) s j) / min ((s + 1 : ℕ) : ℝ) (w : ℝ) - B.E s j = B.DP s j := by
  unfold lag DP
  rw [up_diff (fun k => B.E k j) w s, pick_wdn (fun w => B.back w s j), wid_wdn, hw]
  refine congrArg (fun x : ℝ => x / min ((s + 1 : ℕ) : ℝ) (w : ℝ) - B.E s j) ?_
  refine Finset.sum_congr rfl fun k hk => ?_
  have := Finset.mem_range.mp hk
  have := wdn_le j
  unfold lag
  by_cases h : s < k
  · rw [if_pos h, if_pos (by omega)]
  · rw [if_neg h, if_neg (by omega)]; exact congrArg (fun r => B.E r j) (by omega)

/-- What a row of the pooled gradient gives to the running sums, and back to the rows. -/
def given (s j : ℕ) : ℝ := B.FF s j + if s + wdn j < 8192 then -B.FF (s + wdn j) j else 0
theorem given_sum (s j : ℕ) : -B.DD s j + (∑ k ∈ Finset.range 8192, if s + k < 8192 then given B (s + k) j else 0) = B.DE s j := by
  unfold DE
  rw [pick_wdn (fun w => B.ahead w s j), neg_add_eq_sub]
  refine congrArg (· - B.DD s j) ?_
  unfold given
  exact down_diff 8192 (fun k => B.FF k j) (wdn j) s
theorem given_at (c w : ℕ) {s j : ℕ} (hw : wdn (c + j) = w) (hj : j < 64) (hs : s < 8192) :
    B.FF s (c + j) + padded 0 0 (8192 - w) 64 (fun t j => -B.FF (w + t) (c + j)) s j = given B s (c + j) := by
  have := wdn_le (c + j)
  unfold given padded
  rw [hw]
  refine congrArg (B.FF s (c + j) + ·) (if_congr ?_ ?_ rfl)
  · omega
  · rw [Nat.sub_zero, Nat.sub_zero, Nat.add_comm]
/-- The four groups' columns, each among all columns, add up to all columns. -/
theorem four_parts (G : ℕ → ℕ → ℝ) {s j : ℕ} (hs : s < 8192) (hj : j < 256) :
    padded 0 192 8192 64 (fun s j => G s (192 + j)) s j + padded 0 128 8192 64 (fun s j => G s (128 + j)) s j
      + padded 0 64 8192 64 (fun s j => G s (64 + j)) s j + padded 0 0 8192 64 (fun s j => G s (0 + j)) s j = G s j := by
  have e (c : ℕ) : padded 0 c 8192 64 (fun s j => G s (c + j)) s j = if c ≤ j ∧ j < c + 64 then G s j else 0 := by
    unfold padded
    by_cases h : c ≤ j ∧ j < c + 64
    · rw [if_pos h, if_pos ⟨⟨by omega, by omega⟩, h⟩, Nat.sub_zero]; exact congrArg (G s) (by omega)
    · rw [if_neg h, if_neg fun g => h g.2]
  simp only [e]
  split_ifs <;> first | omega | simp

/-- Four stacks of one matrix, side by side. -/
theorem stack_four {m n : ℕ} (D : ℕ → ℕ → ℕ → ℝ) {x y z w : FVec Ideal ⟨3, ![m, 1, n]⟩ .f32} (hx : x = co3 fun s _ j => D s 0 j)
    (hy : y = co3 fun s _ j => D s 1 j) (hz : z = co3 fun s _ j => D s 2 j) (hw : w = co3 fun s _ j => D s 3 j) (h) :
    concatenate (⟨3, ![m, 4, n]⟩ : Shape) 1 [⟨⟨3, ![m, 1, n]⟩, x⟩, ⟨⟨3, ![m, 1, n]⟩, y⟩, ⟨⟨3, ![m, 1, n]⟩, z⟩, ⟨⟨3, ![m, 1, n]⟩, w⟩] h = co3 D := by
  subst hx hy hz hw
  funext i
  pointwise
  have h1 : (i 1).val < 4 := (i 1).isLt
  split_ifs with h₁ h₂ h₃
  · exact congrArg (fun a => ((D (i 0).val a (i 2).val : ℝ) : EReal)) (by omega : 0 = (i 1).val)
  · exact congrArg (fun a => ((D (i 0).val a (i 2).val : ℝ) : EReal)) (by omega : 1 = (i 1).val)
  · exact congrArg (fun a => ((D (i 0).val a (i 2).val : ℝ) : EReal)) (by omega : 2 = (i 1).val)
  · exact congrArg (fun a => ((D (i 0).val a (i 2).val : ℝ) : EReal)) (by omega : 3 = (i 1).val)

/-- A row or a column of the block matrix. -/
theorem block_row {j : ℕ} (hj : j < 256) (G : ℕ → ℝ) : (∑ k : Fin 256, G k * B.pbd k j) = ∑ k : Fin 64,
  B.pw (j / 64) k (j % 64) * G (64 * (j / 64) + k) := by
  refine Eq.trans (b := ∑ k : Fin 256,
    if k.val / 64 = j / 64 then B.pw (k.val / 64) (k.val % 64) (j % 64) * G k.val else 0) (Finset.sum_congr rfl ?_) ?_
  rotate_left
  · rw [sum_head (h := j / 64) (by omega) fun k => B.pw (k / 64) (k % 64) (j % 64) * G k]
    refine Finset.sum_congr rfl fun k _ => ?_
    have := k.isLt
    rw [show (64 * (j / 64) + k.val) / 64 = j / 64 by omega, show (64 * (j / 64) + k.val) % 64 = k.val by omega]
  · intro k _
    unfold Par.pbd
    split_ifs
    · exact mul_comm _ _
    · exact mul_zero _
theorem block_col {j : ℕ} (hj : j < 256) (G : ℕ → ℝ) : (∑ k : Fin 256, G k * B.pbd j k) = ∑ k : Fin 64,
  G (64 * (j / 64) + k) * B.pw (j / 64) (j % 64) k := by
  refine Eq.trans (b := ∑ k : Fin 256, if k.val / 64 = j / 64 then G k.val * B.pw (j / 64) (j % 64) (k.val % 64) else 0) (Finset.sum_congr rfl ?_) ?_
  rotate_left
  · rw [sum_head (h := j / 64) (by omega) fun k => G k * B.pw (j / 64) (j % 64) (k % 64)]
    refine Finset.sum_congr rfl fun k _ => ?_
    have := k.isLt
    rw [show (64 * (j / 64) + k.val) % 64 = k.val by omega]
  · intro k _
    unfold Par.pbd
    by_cases h : j / 64 = k.val / 64
    · rw [if_pos h, if_pos h.symm]
    · rw [if_neg h, if_neg (Ne.symm h)]; exact mul_zero _

end Cert.Mix

namespace Cert.Mix.Ref

open Cert.Base Cert.Ffn Cert.Mix Cert.Mix.Par Cert.MixBwdRefIdeal Cert.MixBwdRefIdeal.Gen Cert.MixBwdRefIdeal.Read Idealize.ShloMosaic

variable (B : Par)

theorem e24 : val_main_v24 (F := Ideal) (co2 B.X) (co1 B.gain) (co2 B.win) = co2 B.E := by
  funext i
  simp only [val_main_v24_apply, e18 B, co2_apply]
  rfl
theorem e110 : val_main_v110 (F := Ideal) (co2 B.X) (co1 B.gain) (co2 B.win) = co2 fun s j => ∑ k ∈ Finset.range (s + 1), B.E k j := by
  unfold val_main_v110
  rw [e24]
  exact scan_up (n := 8192) (by norm_num) _ _ _ _ bits_zero
theorem e114 : val_main_v114 (F := Ideal) = co2 fun s _ => ((s + 1 : ℕ) : ℝ) := by
  funext i
  have h0 : (i 0).val < 8192 := (i 0).isLt
  have h : val_main_v111 (F := Ideal) (idx_main_v114 i) = (((i 0).val : ℝ) : EReal) := by
    show (((BitVec.ofNat 32 (i 0).val).toInt : ℝ) : EReal) = _
    rw [BitVec.toInt_eq_toNat_of_lt (by simp only [BitVec.toNat_ofNat]; omega), BitVec.toNat_ofNat, Nat.mod_eq_of_lt (by omega), Int.cast_natCast]
  simp only [val_main_v114_apply, val_main_v113_apply, val_main_v112_apply, val_main_cst_22_apply, h, co2_apply, Ideal.ofBits_def, bits_one,
    Ideal.addf_def, ← EReal.coe_add]
  rw [Nat.cast_add, Nat.cast_one, add_comm]

/-- A count of rows, bounded by a window's. -/
theorem count {n : ℕ} (w : ℝ) (s : ℕ) : min (((s + n : ℕ) : ℝ) : EReal) (w : EReal) = ((min ((s + n : ℕ) : ℝ) w : ℝ) : EReal) :=
  (EReal.coe_strictMono.monotone.map_min).symm
theorem count_ne {w : ℝ} (hw : 0 < w) (s : ℕ) : min ((s + 1 : ℕ) : ℝ) w ≠ 0 := (lt_min (by positivity) hw).ne'

theorem e122 : val_main_v122 (F := Ideal) = co2 fun s _ => min ((s + 1 : ℕ) : ℝ) 2 := by
  funext i
  simp only [val_main_v122_apply, val_main_v121_apply, val_main_cst_25_apply, e114, co2_apply, Ideal.ofBits_def, bits_two, Ideal.minimumf_def, count]
theorem e134 : val_main_v134 (F := Ideal) = co2 fun s _ => min ((s + 1 : ℕ) : ℝ) 4 := by
  funext i
  simp only [val_main_v134_apply, val_main_v133_apply, val_main_cst_28_apply, e114, co2_apply, Ideal.ofBits_def, bits_four, Ideal.minimumf_def, count]
theorem e146 : val_main_v146 (F := Ideal) = co2 fun s _ => min ((s + 1 : ℕ) : ℝ) 8 := by
  funext i
  simp only [val_main_v146_apply, val_main_v145_apply, val_main_cst_31_apply, e114, co2_apply, Ideal.ofBits_def, bits_eight, Ideal.minimumf_def,
    count]
theorem e158 : val_main_v158 (F := Ideal) = co2 fun s _ => min ((s + 1 : ℕ) : ℝ) 16 := by
  funext i
  simp only [val_main_v158_apply, val_main_v157_apply, val_main_cst_34_apply, e114, co2_apply, Ideal.ofBits_def, bits_sixteen, Ideal.minimumf_def,
    count]

/-- Rows of zeros before all rows but the last. -/
theorem cat_shift {a m r n : ℕ} (F : ℕ → ℕ → ℝ) {x : FVec Ideal ⟨2, ![a, n]⟩ .f32} {y : FVec Ideal ⟨2, ![r,
  n]⟩ .f32} (hx : x = co2 fun _ _ => 0) (hy : y = co2 F) (h) :
    concatenate (⟨2, ![m, n]⟩ : Shape) 0 [⟨⟨2, ![a, n]⟩, x⟩, ⟨⟨2, ![r, n]⟩, y⟩] h = co2 (lag a F) :=
  cat_two_of hx hy h
theorem e118 : val_main_v118 (F := Ideal) (co2 B.X) (co1 B.gain) (co2 B.win) = co2 (lag 2 fun s j => ∑ k ∈ Finset.range (s + 1), B.E k (0 + j)) := by
  unfold val_main_v118
  exact cat_shift _ (funext fun _ => bits_zero) (by funext i; simp only [val_main_v117_apply, val_main_v115_apply, e110 B, co2_apply, Nat.zero_add]) _
theorem e130 : val_main_v130 (F := Ideal) (co2 B.X) (co1 B.gain) (co2 B.win) = co2 (lag 4 fun s j => ∑ k ∈ Finset.range (s + 1), B.E k (64 + j)) := by
  unfold val_main_v130
  exact cat_shift _ (funext fun _ => bits_zero) (by funext i; simp only [val_main_v129_apply, val_main_v127_apply, e110 B, co2_apply]) _
theorem e142 : val_main_v142 (F := Ideal) (co2 B.X) (co1 B.gain) (co2 B.win) = co2 (lag 8 fun s j => ∑ k ∈ Finset.range (s + 1),
  B.E k (128 + j)) := by
  unfold val_main_v142
  exact cat_shift _ (funext fun _ => bits_zero) (by funext i; simp only [val_main_v141_apply, val_main_v139_apply, e110 B, co2_apply]) _
theorem e154 : val_main_v154 (F := Ideal) (co2 B.X) (co1 B.gain) (co2 B.win) = co2 (lag 16 fun s j => ∑ k ∈ Finset.range (s + 1),
  B.E k (192 + j)) := by
  unfold val_main_v154
  exact cat_shift _ (funext fun _ => bits_zero) (by funext i; simp only [val_main_v153_apply, val_main_v151_apply, e110 B, co2_apply]) _
theorem e126 : val_main_v126 (F := Ideal) (co2 B.X) (co1 B.gain) (co2 B.win) = co2 fun s j => B.DP s (0 + j) := by
  funext i
  simp only [val_main_v126_apply, val_main_v124_apply, val_main_v120_apply, val_main_v115_apply, val_main_v123_apply, val_main_v125_apply, e110 B,
    e118 B, e122, e24 B, co2_apply, Ideal.subf_def, sub_co, Ideal.hostDivf_def, div_coe_coe _ _ (count_ne two_pos _), Nat.zero_add]
  exact congrArg _ (pool_mean B _ _ 2 (by have := (lanes (i 1).isLt).1; rwa [Nat.zero_add] at this))
theorem e138 : val_main_v138 (F := Ideal) (co2 B.X) (co1 B.gain) (co2 B.win) = co2 fun s j => B.DP s (64 + j) := by
  funext i
  simp only [val_main_v138_apply, val_main_v136_apply, val_main_v132_apply, val_main_v127_apply, val_main_v135_apply, val_main_v137_apply, e110 B,
    e130 B, e134, e24 B, co2_apply, Ideal.subf_def, sub_co, Ideal.hostDivf_def, div_coe_coe _ _ (count_ne four_pos _)]
  exact congrArg _ (pool_mean B _ _ 4 (lanes (i 1).isLt).2.1)
theorem e150 : val_main_v150 (F := Ideal) (co2 B.X) (co1 B.gain) (co2 B.win) = co2 fun s j => B.DP s (128 + j) := by
  funext i
  simp only [val_main_v150_apply, val_main_v148_apply, val_main_v144_apply, val_main_v139_apply, val_main_v147_apply, val_main_v149_apply, e110 B,
    e142 B, e146, e24 B, co2_apply, Ideal.subf_def, sub_co, Ideal.hostDivf_def, div_coe_coe _ _ (count_ne (by norm_num : (0 : ℝ) < 8) _)]
  exact congrArg _ (pool_mean B _ _ 8 (lanes (i 1).isLt).2.2.1)
theorem e162 : val_main_v162 (F := Ideal) (co2 B.X) (co1 B.gain) (co2 B.win) = co2 fun s j => B.DP s (192 + j) := by
  funext i
  simp only [val_main_v162_apply, val_main_v160_apply, val_main_v156_apply, val_main_v151_apply, val_main_v159_apply, val_main_v161_apply, e110 B,
    e154 B, e158, e24 B, co2_apply, Ideal.subf_def, sub_co, Ideal.hostDivf_def, div_coe_coe _ _ (count_ne (by norm_num : (0 : ℝ) < 16) _)]
  exact congrArg _ (pool_mean B _ _ 16 (lanes (i 1).isLt).2.2.2)
theorem e167 : val_main_v167 (F := Ideal) (co2 B.X) (co1 B.gain) (co2 B.win) = co3 fun s h j => B.DP s (64 * h + j) := by
  unfold val_main_v167
  refine stack_four (fun s h j => B.DP s (64 * h + j)) ?_ ?_ ?_ ?_ _ <;> funext i
  · simp only [val_main_v163_apply, e126 B, co2_apply, co3_apply]
  · simp only [val_main_v164_apply, e138 B, co2_apply, co3_apply]
  · simp only [val_main_v165_apply, e150 B, co2_apply, co3_apply]
  · simp only [val_main_v166_apply, e162 B, co2_apply, co3_apply]
theorem e170 : val_main_v170 (F := Ideal) (co2 B.X) (co1 B.gain) (co2 B.win) (co3 B.pw) = co2 B.YC := by
  funext i
  simp only [val_main_v170_apply, val_main_v169_apply, val_main_v168_apply, e167 B, co2_apply, co3_apply, ← EReal.coe_mul, coe_sum]
  have h0 : (i 0).val < 8192 := (i 0).isLt
  have h1 : (i 1).val < 256 := (i 1).isLt
  rw [show ((i 0).val * 256 + (i 1).val) / 64 % 4 = (i 1).val / 64 by omega, show ((i 0).val * 256 + (i 1).val) % 64 = (i 1).val % 64 by omega,
    show ((i 0).val * 256 + (i 1).val) / 256 = (i 0).val by omega]
  exact congrArg _ (block_row B h1 fun k => B.DP (i 0).val k).symm
theorem e270 : val_main_v270 (F := Ideal) (co2 B.X) (co1 B.gain) (co2 B.win) (co3 B.pw) (co2 B.wout) (co2 B.dy) = co1 fun j => ∑ s : Fin 8192,
  B.DM s (512 + j) * B.YC s j := by
  funext i
  simp only [val_main_v270_apply, val_main_v267_apply, val_main_v266_apply, val_main_v265_apply, val_main_v219_apply, val_main_cst_55_apply,
    val_main_cst_56_apply, e170 B, e216 B, co1_apply, co2_apply, Ideal.ofBits_def, bits_zero, Ideal.mulf_def, ← EReal.coe_mul, coe_sum,
    ← EReal.coe_add, zero_add,
    Fin.sum_univ_one, Fin.val_zero, Nat.zero_mul]
  exact congrArg _ (Finset.sum_congr rfl fun s _ => mul_comm _ _)
theorem e269 : val_main_v269 (F := Ideal) (co1 B.ps) (co2 B.wout) (co2 B.dy) = co2 B.DYC := by
  funext i
  simp only [val_main_v269_apply, val_main_v219_apply, val_main_v268_apply, val_main_v171_apply, e216 B, co1_apply, co2_apply, Ideal.mulf_def,
    ← EReal.coe_mul]
  rfl
theorem e272 : val_main_v272 (F := Ideal) (co1 B.ps) (co2 B.wout) (co2 B.dy) = co3 fun h j s => B.DYC s (64 * h + j) := by
  funext i
  simp only [val_main_v272_apply, val_main_v271_apply, e269 B, co2_apply, co3_apply]
  have h0 : (i 0).val < 4 := (i 0).isLt
  have h1 : (i 1).val < 64 := (i 1).isLt
  rw [show (((i 2).val * 4 + (i 0).val) * 64 + (i 1).val) / 256 = (i 2).val by omega,
    show (((i 2).val * 4 + (i 0).val) * 64 + (i 1).val) % 256 = 64 * (i 0).val + (i 1).val by omega]
theorem e276 : val_main_v276 (F := Ideal) (co2 B.X) (co1 B.gain) (co2 B.win) (co1 B.ps) (co2 B.wout) (co2 B.dy) = co3 fun h a b => B.DPW (64 * h + a) (64 * h + b) := by
  funext i
  simp only [val_main_v276_apply, val_main_v275_apply, e272 B, e167 B, co3_apply, ← EReal.coe_mul, coe_sum]
  exact congrArg _ (Finset.sum_congr rfl fun s _ => mul_comm _ _)
theorem e274 : val_main_v274 (F := Ideal) (co3 B.pw) (co1 B.ps) (co2 B.wout) (co2 B.dy) = co3 fun s h j => B.DD s (64 * h + j) := by
  funext i
  simp only [val_main_v274_apply, val_main_v273_apply, e272 B, co3_apply, ← EReal.coe_mul, coe_sum]
  have h1 : (i 1).val < 4 := (i 1).isLt
  have h2 : (i 2).val < 64 := (i 2).isLt
  unfold DD
  rw [block_col B (j := 64 * (i 1).val + (i 2).val) (by omega) fun k => B.DYC (i 0).val k,
    show (64 * (i 1).val + (i 2).val) / 64 = (i 1).val by omega,
    show (64 * (i 1).val + (i 2).val) % 64 = (i 2).val by omega]

/-! Each group's gradient, and where it lies among all columns. -/

theorem row64 {s j : ℕ} (hj : j < 64) : (s * 64 + j) / 64 = s := by omega
theorem col64 {s j : ℕ} (hj : j < 64) : (s * 64 + j) % 64 = j := by omega
theorem e278 : val_main_v278 (F := Ideal) (co3 B.pw) (co1 B.ps) (co2 B.wout) (co2 B.dy) = co2 fun s j => B.DD s (0 + j) := by
  funext i
  simp only [val_main_v278_apply, val_main_v277_apply, e274 B, co2_apply, co3_apply]
  rw [row64 (i 1).isLt, col64 (i 1).isLt]
theorem e280 : val_main_v280 (F := Ideal) (co3 B.pw) (co1 B.ps) (co2 B.wout) (co2 B.dy) = co2 fun s j => B.DD s (64 + j) := by
  funext i
  simp only [val_main_v280_apply, val_main_v279_apply, e274 B, co2_apply, co3_apply]
  rw [row64 (i 1).isLt, col64 (i 1).isLt]
theorem e282 : val_main_v282 (F := Ideal) (co3 B.pw) (co1 B.ps) (co2 B.wout) (co2 B.dy) = co2 fun s j => B.DD s (128 + j) := by
  funext i
  simp only [val_main_v282_apply, val_main_v281_apply, e274 B, co2_apply, co3_apply]
  rw [row64 (i 1).isLt, col64 (i 1).isLt]
theorem e284 : val_main_v284 (F := Ideal) (co3 B.pw) (co1 B.ps) (co2 B.wout) (co2 B.dy) = co2 fun s j => B.DD s (192 + j) := by
  funext i
  simp only [val_main_v284_apply, val_main_v283_apply, e274 B, co2_apply, co3_apply]
  rw [row64 (i 1).isLt, col64 (i 1).isLt]
theorem ff_at {s j w : ℕ} (hw : wdn j = w) : B.DD s j / min ((s + 1 : ℕ) : ℝ) (w : ℝ) = B.FF s j := by rw [FF, wid_wdn, hw]
theorem e323 : val_main_v323 (F := Ideal) (co3 B.pw) (co1 B.ps) (co2 B.wout) (co2 B.dy) = co2 fun s j => B.FF s (0 + j) := by
  funext i
  simp only [val_main_v323_apply, val_main_v322_apply, e278 B, e122, co2_apply, Ideal.hostDivf_def, div_coe_coe _ _ (count_ne two_pos _)]
  exact congrArg _ (ff_at B (lanes (i 1).isLt).1)
theorem e311 : val_main_v311 (F := Ideal) (co3 B.pw) (co1 B.ps) (co2 B.wout) (co2 B.dy) = co2 fun s j => B.FF s (64 + j) := by
  funext i
  simp only [val_main_v311_apply, val_main_v310_apply, e280 B, e134, co2_apply, Ideal.hostDivf_def, div_coe_coe _ _ (count_ne four_pos _)]
  exact congrArg _ (ff_at B (lanes (i 1).isLt).2.1)
theorem e299 : val_main_v299 (F := Ideal) (co3 B.pw) (co1 B.ps) (co2 B.wout) (co2 B.dy) = co2 fun s j => B.FF s (128 + j) := by
  funext i
  simp only [val_main_v299_apply, val_main_v298_apply, e282 B, e146, co2_apply, Ideal.hostDivf_def,
    div_coe_coe _ _ (count_ne (by norm_num : (0 : ℝ) < 8) _)]
  exact congrArg _ (ff_at B (lanes (i 1).isLt).2.2.1)
theorem e288 : val_main_v288 (F := Ideal) (co3 B.pw) (co1 B.ps) (co2 B.wout) (co2 B.dy) = co2 fun s j => B.FF s (192 + j) := by
  funext i
  simp only [val_main_v288_apply, val_main_v287_apply, e284 B, e158, co2_apply, Ideal.hostDivf_def,
    div_coe_coe _ _ (count_ne (by norm_num : (0 : ℝ) < 16) _)]
  exact congrArg _ (ff_at B (lanes (i 1).isLt).2.2.2)

/-- A matrix with zeros around it, of what the matrix is. -/
theorem pad_of {m n m' n' a b c d : ℕ} {X : ℕ → ℕ → ℝ} {x : FVec Ideal ⟨2, ![m, n]⟩ .f32} (hx : x = co2 X) (h) :
    pad (s := ⟨2, ![m, n]⟩) ⟨2, ![m', n']⟩ ![a, b] ![c, d] ![0,
      0] x (constant (F := Ideal) S_ .f32 0x00000000#32) h h_S_ = co2 (padded a b m n X) := by
  rw [hx]
  exact pad_co2 X _ h h_S_ bits_zero
theorem neg_rows {m n : ℕ} (X : ℕ → ℕ → ℝ) : Host.negf (F := Ideal) (φ := .f32) (s := ⟨2, ![m, n]⟩) (co2 X) = co2 fun s j => -X s j := rfl
theorem e327 : val_main_v327 (F := Ideal) (co3 B.pw) (co1 B.ps) (co2 B.wout) (co2 B.dy) = co2 (padded 0 0 8190 64 fun t j => -B.FF (2 + t) (0 + j)) :=
  pad_of (by funext i; simp only [val_main_v326_apply, val_main_v324_apply, e323 B, co2_apply, Ideal.hostNegf_def, Ideal.negf_def, neg_co]) _
theorem e328 : val_main_v328 (F := Ideal) (co3 B.pw) (co1 B.ps) (co2 B.wout) (co2 B.dy) = co2 fun s j => given B s (0 + j) := by
  funext i
  simp only [val_main_v328_apply, e323 B, e327 B, co2_apply, Ideal.addf_def, ← EReal.coe_add]
  exact congrArg _ (given_at B 0 2 (lanes (i 1).isLt).1 (i 1).isLt (i 0).isLt)
theorem e329 : val_main_v329 (F := Ideal) (co3 B.pw) (co1 B.ps) (co2 B.wout) (co2 B.dy) = co2 (padded 0 0 8192 64 fun s j => given B s (0 + j)) := pad_of (e328 B) _
theorem e320 : val_main_v320 (F := Ideal) (co3 B.pw) (co1 B.ps) (co2 B.wout) (co2 B.dy) = co2 (padded 0 0 8192 64 fun s j => -B.DD s (0 + j)) :=
  pad_of (by funext i; simp only [val_main_v319_apply, e278 B, co2_apply, Ideal.hostNegf_def, Ideal.negf_def, neg_co]) _
theorem e315 : val_main_v315 (F := Ideal) (co3 B.pw) (co1 B.ps) (co2 B.wout) (co2 B.dy) = co2 (padded 0 0 8188 64 fun t j => -B.FF (4 + t) (64 + j)) :=
  pad_of (by funext i; simp only [val_main_v314_apply, val_main_v312_apply, e311 B, co2_apply, Ideal.hostNegf_def, Ideal.negf_def, neg_co]) _
theorem e316 : val_main_v316 (F := Ideal) (co3 B.pw) (co1 B.ps) (co2 B.wout) (co2 B.dy) = co2 fun s j => given B s (64 + j) := by
  funext i
  simp only [val_main_v316_apply, e311 B, e315 B, co2_apply, Ideal.addf_def, ← EReal.coe_add]
  exact congrArg _ (given_at B 64 4 (lanes (i 1).isLt).2.1 (i 1).isLt (i 0).isLt)
theorem e317 : val_main_v317 (F := Ideal) (co3 B.pw) (co1 B.ps) (co2 B.wout) (co2 B.dy) = co2 (padded 0 64 8192 64 fun s j => given B s (64 + j)) := pad_of (e316 B) _
theorem e308 : val_main_v308 (F := Ideal) (co3 B.pw) (co1 B.ps) (co2 B.wout) (co2 B.dy) = co2 (padded 0 64 8192 64 fun s j => -B.DD s (64 + j)) :=
  pad_of (by funext i; simp only [val_main_v307_apply, e280 B, co2_apply, Ideal.hostNegf_def, Ideal.negf_def, neg_co]) _
theorem e303 : val_main_v303 (F := Ideal) (co3 B.pw) (co1 B.ps) (co2 B.wout) (co2 B.dy) = co2 (padded 0 0 8184 64 fun t j => -B.FF (8 + t) (128 + j)) :=
  pad_of (by funext i; simp only [val_main_v302_apply, val_main_v300_apply, e299 B, co2_apply, Ideal.hostNegf_def, Ideal.negf_def, neg_co]) _
theorem e304 : val_main_v304 (F := Ideal) (co3 B.pw) (co1 B.ps) (co2 B.wout) (co2 B.dy) = co2 fun s j => given B s (128 + j) := by
  funext i
  simp only [val_main_v304_apply, e299 B, e303 B, co2_apply, Ideal.addf_def, ← EReal.coe_add]
  exact congrArg _ (given_at B 128 8 (lanes (i 1).isLt).2.2.1 (i 1).isLt (i 0).isLt)
theorem e305 : val_main_v305 (F := Ideal) (co3 B.pw) (co1 B.ps) (co2 B.wout) (co2 B.dy) = co2 (padded 0 128 8192 64 fun s j => given B s (128 + j)) := pad_of (e304 B) _
theorem e296 : val_main_v296 (F := Ideal) (co3 B.pw) (co1 B.ps) (co2 B.wout) (co2 B.dy) = co2 (padded 0 128 8192 64 fun s j => -B.DD s (128 + j)) :=
  pad_of (by funext i; simp only [val_main_v295_apply, e282 B, co2_apply, Ideal.hostNegf_def, Ideal.negf_def, neg_co]) _
theorem e292 : val_main_v292 (F := Ideal) (co3 B.pw) (co1 B.ps) (co2 B.wout) (co2 B.dy) = co2 (padded 0 0 8176 64 fun t j => -B.FF (16 + t) (192 + j)) :=
  pad_of (by funext i; simp only [val_main_v291_apply, val_main_v289_apply, e288 B, co2_apply, Ideal.hostNegf_def, Ideal.negf_def, neg_co]) _
theorem e293 : val_main_v293 (F := Ideal) (co3 B.pw) (co1 B.ps) (co2 B.wout) (co2 B.dy) = co2 fun s j => given B s (192 + j) := by
  funext i
  simp only [val_main_v293_apply, e288 B, e292 B, co2_apply, Ideal.addf_def, ← EReal.coe_add]
  exact congrArg _ (given_at B 192 16 (lanes (i 1).isLt).2.2.2 (i 1).isLt (i 0).isLt)
theorem e294 : val_main_v294 (F := Ideal) (co3 B.pw) (co1 B.ps) (co2 B.wout) (co2 B.dy) = co2 (padded 0 192 8192 64 fun s j => given B s (192 + j)) := pad_of (e293 B) _
theorem e286 : val_main_v286 (F := Ideal) (co3 B.pw) (co1 B.ps) (co2 B.wout) (co2 B.dy) = co2 (padded 0 192 8192 64 fun s j => -B.DD s (192 + j)) :=
  pad_of (by funext i; simp only [val_main_v285_apply, e284 B, co2_apply, Ideal.hostNegf_def, Ideal.negf_def, neg_co]) _
theorem e330 : val_main_v330 (F := Ideal) (co3 B.pw) (co1 B.ps) (co2 B.wout) (co2 B.dy) = co2 (given B) := by
  funext i
  simp only [val_main_v330_apply, val_main_v318_apply, val_main_v306_apply, e294 B, e305 B, e317 B, e329 B, co2_apply, Ideal.addf_def,
    ← EReal.coe_add]
  exact congrArg _ (four_parts (given B) (i 0).isLt (i 1).isLt)
theorem e321 : val_main_v321 (F := Ideal) (co3 B.pw) (co1 B.ps) (co2 B.wout) (co2 B.dy) = co2 fun s j => -B.DD s j := by
  funext i
  simp only [val_main_v321_apply, val_main_v309_apply, val_main_v297_apply, e286 B, e296 B, e308 B, e320 B, co2_apply, Ideal.addf_def,
    ← EReal.coe_add]
  exact congrArg _ (four_parts (fun s j => -B.DD s j) (i 0).isLt (i 1).isLt)
theorem e331 : val_main_v331 (F := Ideal) (co3 B.pw) (co1 B.ps) (co2 B.wout) (co2 B.dy) = co2 fun s j => ∑ k ∈ Finset.range 8192,
  if s + k < 8192 then given B (s + k) j else 0 := by
  unfold val_main_v331
  rw [e330]
  exact scan_down (n := 8192) _ _ _ _ bits_zero
theorem e332 : val_main_v332 (F := Ideal) (co3 B.pw) (co1 B.ps) (co2 B.wout) (co2 B.dy) = co2 B.DE := by
  funext i
  simp only [val_main_v332_apply, e321 B, e331 B, co2_apply, Ideal.addf_def, ← EReal.coe_add]
  exact congrArg _ (given_sum B _ _)

end Cert.Mix.Ref

end
-- ==== Proof.MixRefOut.lean ====
/- What the mixer's reference returns at finite arguments, over the reals: the gradient of the input product, of the rows, of the
   gain, and the parameters' gradients laid out in the kernel's arrays. -/
module

public import proofs.«01_k».proof.Proof.MixRefShort
public import proofs.«01_k».proof.Proof.MixRefGate
public import proofs.«01_k».proof.Proof.MixRefPool

@[expose] public section

set_option maxRecDepth 16384
set_option maxHeartbeats 1000000

noncomputable section

namespace Cert.Mix.Ref

open Cert.Base Cert.Ffn Cert.Mix Cert.Mix.Par Cert.MixBwdRefIdeal Cert.MixBwdRefIdeal.Gen Cert.MixBwdRefIdeal.Read Idealize.ShloMosaic

variable (B : Par)

theorem at_col (D : ℕ → ℕ → ℝ) {s j k : ℕ} (h : j = k) : ((D s j : ℝ) : EReal) = ((D s k : ℝ) : EReal) := by rw [h]
theorem at_row (D : ℕ → ℕ → ℝ) {s t k : ℕ} (h : s = t) : ((D s k : ℝ) : EReal) = ((D t k : ℝ) : EReal) := by rw [h]

/-- Eight arrays of 256 columns side by side. -/
theorem cat_eight (D : ℕ → ℕ → ℝ) {x0 x1 x2 x3 x4 x5 x6 x7 : FVec Ideal ⟨2, ![8192, 256]⟩ .f32}
    (h0 : x0 = co2 fun s j => D s (0 + j)) (h1 : x1 = co2 fun s j => D s (256 + j)) (h2 : x2 = co2 fun s j => D s (512 + j))
    (h3 : x3 = co2 fun s j => D s (768 + j)) (h4 : x4 = co2 fun s j => D s (1024 + j)) (h5 : x5 = co2 fun s j => D s (1280 + j))
    (h6 : x6 = co2 fun s j => D s (1536 + j)) (h7 : x7 = co2 fun s j => D s (1792 + j)) (h) :
    concatenate (⟨2, ![8192, 2048]⟩ : Shape) 1 [⟨⟨2, ![8192, 256]⟩, x0⟩, ⟨⟨2, ![8192, 256]⟩, x1⟩, ⟨⟨2, ![8192, 256]⟩, x2⟩, ⟨⟨2, ![8192, 256]⟩, x3⟩,
      ⟨⟨2, ![8192, 256]⟩, x4⟩, ⟨⟨2, ![8192, 256]⟩, x5⟩, ⟨⟨2, ![8192, 256]⟩, x6⟩, ⟨⟨2, ![8192, 256]⟩, x7⟩] h = co2 D := by
  subst h0 h1 h2 h3 h4 h5 h6 h7
  funext i
  have hj : (i 1).val < 2048 := (i 1).isLt
  pointwise
  split_ifs <;> try omega
  · rfl
  · exact at_col D (show 256 + ((i 1).val - 256) = (i 1).val by omega)
  · exact at_col D (show 512 + ((i 1).val - 256 - 256) = (i 1).val by omega)
  · exact at_col D (show 768 + ((i 1).val - 256 - 256 - 256) = (i 1).val by omega)
  · exact at_col D (show 1024 + ((i 1).val - 256 - 256 - 256 - 256) = (i 1).val by omega)
  · exact at_col D (show 1280 + ((i 1).val - 256 - 256 - 256 - 256 - 256) = (i 1).val by omega)
  · exact at_col D (show 1536 + ((i 1).val - 256 - 256 - 256 - 256 - 256 - 256) = (i 1).val by omega)
  · exact at_col D (show 1792 + ((i 1).val - 256 - 256 - 256 - 256 - 256 - 256 - 256) = (i 1).val by omega)

theorem e397 : val_main_v397 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 B.DPP := by
  unfold val_main_v397
  refine cat_eight B.DPP ((e395 B).trans (co2_congr fun s j _ hj => ?_)) ((e396 B).trans (co2_congr fun s j _ hj => ?_))
    ((e334 B).trans (co2_congr fun s j _ hj => ?_)) ((e347 B).trans (co2_congr fun s j _ hj => ?_)) ((e346 B).trans (co2_congr fun s j _ hj => ?_))
    ((e332 B).trans (co2_congr fun s j _ hj => ?_)) ((e222 B).trans (co2_congr fun s j _ hj => ?_)) ((e264 B).trans (co2_congr fun s j _ hj => ?_)) _
    <;> unfold DPP
  · rw [Nat.zero_add, if_pos hj]
  · rw [if_neg (by omega), if_pos (by omega), Nat.add_sub_cancel_left]
  · rw [if_neg (by omega), if_neg (by omega), if_pos (by omega), Nat.add_sub_cancel_left]
  · rw [if_neg (by omega), if_neg (by omega), if_neg (by omega), if_pos (by omega), Nat.add_sub_cancel_left]
  · rw [if_neg (by omega), if_neg (by omega), if_neg (by omega), if_neg (by omega), if_pos (by omega), Nat.add_sub_cancel_left]
  · rw [if_neg (by omega), if_neg (by omega), if_neg (by omega), if_neg (by omega), if_neg (by omega), if_pos (by omega), Nat.add_sub_cancel_left]
  · rw [if_neg (by omega), if_neg (by omega), if_neg (by omega), if_neg (by omega), if_neg (by omega), if_neg (by omega), if_pos (by omega),
      Nat.add_sub_cancel_left]
  · rw [if_neg (by omega), if_neg (by omega), if_neg (by omega), if_neg (by omega), if_neg (by omega), if_neg (by omega), if_neg (by omega),
      Nat.add_sub_cancel_left]
theorem e398 : val_main_v398 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 B.DH := by
  funext i
  simp only [val_main_v398_apply, e397 B, co2_apply, ← EReal.coe_mul, coe_sum]
  rfl
theorem e404 : val_main_v404 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co1 B.DG := by
  funext i
  simp only [val_main_v404_apply, val_main_v401_apply, val_main_v400_apply, val_main_v399_apply, val_main_cst_87_apply, val_main_cst_88_apply, e13 B,
    e398 B, co1_apply, co2_apply, Ideal.ofBits_def, bits_zero, Ideal.mulf_def, ← EReal.coe_mul, coe_sum, ← EReal.coe_add, zero_add,
    Fin.sum_univ_one, Fin.val_zero, Nat.zero_mul]
  exact congrArg _ (Finset.sum_congr rfl fun s _ => mul_comm _ _)
theorem e419 : val_main_v419 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 B.DX := by
  funext i
  simp only [val_main_v419_apply, val_main_v417_apply, val_main_v410_apply, val_main_v409_apply, val_main_v403_apply, val_main_v402_apply,
    val_main_v14_apply, val_main_v408_apply, val_main_v416_apply, val_main_v415_apply, val_main_v414_apply, val_main_v413_apply, val_main_v411_apply,
    val_main_v407_apply, val_main_v406_apply, val_main_v405_apply, val_main_cst_89_apply, val_main_v11_apply, val_main_v10_apply,
    val_main_cst_3_apply, val_main_v9_apply, val_main_v412_apply, val_main_cst_90_apply, val_main_cst_91_apply, val_main_v418_apply, e398 B, e8 B,
    e7 B, co2_apply, co1_apply, Ideal.ofBits_def, bits_zero, bits_neg_half, bits_1024,
    Ideal.mulf_def, Ideal.addf_def, Ideal.hostDivf_def, div_coe_coe _ _ (ms_ne B.X _), ← EReal.coe_mul, coe_sum, ← EReal.coe_add, zero_add,
    Fin.sum_univ_one, Fin.val_zero, Nat.mul_one, Nat.add_zero, div_coe_coe _ (1024 : ℝ) (by norm_num)]
  congr 1
  unfold DX
  rw [← dnorm_eq]
  show _ = B.dy _ _ + (_ + _ + _)
  rw [← add_assoc, ← add_assoc]

/-- Six rows, one under another. -/
theorem cat_six {n : ℕ} (D : ℕ → ℕ → ℝ) {x0 x1 x2 x3 x4 x5 : FVec Ideal ⟨2, ![1, n]⟩ .f32}
    (h0 : x0 = co2 fun _ j => D 0 j) (h1 : x1 = co2 fun _ j => D 1 j) (h2 : x2 = co2 fun _ j => D 2 j)
    (h3 : x3 = co2 fun _ j => D 3 j) (h4 : x4 = co2 fun _ j => D 4 j) (h5 : x5 = co2 fun _ j => D 5 j) (h) :
    concatenate (⟨2, ![6, n]⟩ : Shape) 0 [⟨⟨2, ![1, n]⟩, x0⟩, ⟨⟨2, ![1, n]⟩, x1⟩, ⟨⟨2, ![1, n]⟩, x2⟩, ⟨⟨2, ![1, n]⟩, x3⟩,
      ⟨⟨2, ![1, n]⟩, x4⟩, ⟨⟨2, ![1, n]⟩, x5⟩] h = co2 D := by
  subst h0 h1 h2 h3 h4 h5
  funext i
  have hj : (i 0).val < 6 := (i 0).isLt
  pointwise
  split_ifs <;> try omega
  · exact at_row D (show 0 = (i 0).val by omega)
  · exact at_row D (show 1 = (i 0).val by omega)
  · exact at_row D (show 2 = (i 0).val by omega)
  · exact at_row D (show 3 = (i 0).val by omega)
  · exact at_row D (show 4 = (i 0).val by omega)
  · exact at_row D (show 5 = (i 0).val by omega)

theorem e426 : val_main_v426 (F := Ideal) (co2 B.X) (co1 B.gain) (co2 B.win) (co2 B.cw) (co1 B.cb) (co1 B.lg) (co1 B.lb) (co3 B.pw) (co3 B.ws) (co2 B.wout) (co2 B.dy) = co2 B.DVEC := by
  unfold val_main_v426
  refine cat_six B.DVEC ?_ ?_ ?_ ?_ ?_ ?_ _ <;> funext i
  · simp only [val_main_v420_apply, e382 B, co1_apply, co2_apply]; rfl
  · simp only [val_main_v421_apply, e357 B, co1_apply, co2_apply]; rfl
  · simp only [val_main_v422_apply, e351 B, co1_apply, co2_apply]; rfl
  · simp only [val_main_v423_apply, e270 B, co1_apply, co2_apply]; rfl
  · simp only [val_main_v424_apply, e242 B, co1_apply, co2_apply]; rfl
  · simp only [val_main_v425_apply, e236 B, co1_apply, co2_apply]; rfl

/-- An integer zero as a float is zero. -/
theorem zero_pad {u : Shape} (i : u.Idx) : sitofp (F := Ideal) (s := u) .f32 (constantI u 32 0#32) i = 0 := by
  show (((0#32 : BitVec 32).toInt : ℝ) : EReal) = 0
  simp

/-- Rows of zeros under an array, and columns beside it. -/
theorem pad_under {m n m' n' a b : ℕ} {X : ℕ → ℕ → ℝ} {x : FVec Ideal ⟨2, ![m, n]⟩ .f32} (hx : x = co2 X) (h) :
    pad (s := ⟨2, ![m, n]⟩) ⟨2, ![m', n']⟩ ![0, 0] ![a, b] ![0, 0] x (sitofp (F := Ideal) .f32 (constantI S_ 32 0#32)) h h_S_
      = co2 fun t j => if t < m ∧ j < n then X t j else 0 := by
  rw [hx, pad_co2 X _ h h_S_ (zero_pad _)]
  refine co2_congr fun t j _ _ => ?_
  unfold padded
  rw [Nat.zero_add, Nat.zero_add, Nat.sub_zero, Nat.sub_zero]
  exact if_congr ⟨fun q => ⟨q.1.2, q.2.2⟩, fun q => ⟨⟨Nat.zero_le _, q.1⟩, Nat.zero_le _, q.2⟩⟩ rfl rfl

theorem dvec_eq : val_main_v427 (F := Ideal) (co2 B.X) (co1 B.gain) (co2 B.win) (co2 B.cw) (co1 B.cb) (co1 B.lg) (co1 B.lb) (co3 B.pw) (co3 B.ws) (co2 B.wout) (co2 B.dy) = co2 B.DVEC :=
  (pad_under (e426 B) _).trans (co2_congr fun k j _ hj => by
    by_cases hk : k < 6
    · rw [if_pos ⟨hk, hj⟩]
    · rw [if_neg (fun q => hk q.1), DVEC, if_neg (by omega), if_neg (by omega), if_neg (by omega), if_neg (by omega), if_neg (by omega),
        if_neg (by omega)])
theorem dcw_eq : val_main_v431 (F := Ideal) (co2 B.X) (co1 B.gain) (co2 B.win) (co2 B.cw) (co1 B.cb) (co1 B.lg) (co1 B.lb) (co2 B.wout) (co2 B.dy) = co2 fun k j => if k < 31 then B.DCW k j else 0 :=
  (pad_under (e389 B) _).trans (co2_congr fun _ _ _ hj => if_congr (and_iff_left hj) rfl rfl)
theorem dsw_eq : val_main_v432 (F := Ideal) (co2 B.X) (co1 B.gain) (co2 B.win) (co2 B.wout) (co2 B.dy) = co2 fun k j => if k < 3 then B.DSW k j else 0 :=
  (pad_under (e341 B) _).trans (co2_congr fun _ _ _ hj => if_congr (and_iff_left hj) rfl rfl)
theorem e434 : val_main_v434 (F := Ideal) (co2 B.X) (co1 B.gain) (co2 B.win) (co2 B.wout) (co2 B.dy) = co2 fun s h => B.DBS h s := by
  funext i
  simp only [val_main_v434_apply, e227 B, co2_apply]
theorem dbs_eq : val_main_v435 (F := Ideal) (co2 B.X) (co1 B.gain) (co2 B.win) (co2 B.wout) (co2 B.dy) = co2 fun s h => if h < 4 then B.DBS h s else 0 :=
  (pad_under (e434 B) _).trans (co2_congr fun _ _ hs _ => if_congr (and_iff_right hs) rfl rfl)
theorem e436 : val_main_v436 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 fun _ j => B.DG j := by
  funext i
  simp only [val_main_v436_apply, e404 B, co1_apply, co2_apply]
theorem dg_eq : val_main_v437 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 fun k j => if k < 1 then B.DG j else 0 :=
  (pad_under (e436 B) _).trans (co2_congr fun _ _ _ hj => if_congr (and_iff_left hj) rfl rfl)
theorem dp_eq : val_main_v430 (F := Ideal) (co2 B.X) (co1 B.gain) (co2 B.win) (co2 B.cw) (co1 B.cb) (co1 B.lg) (co1 B.lb) (co2 B.sw) (co3 B.pw) (co1 B.ps) (co1 B.gg) (co1 B.gb) (co3 B.ws) (co2 B.bs) (co2 B.wout) (co2 B.dy) = co2 B.DPP := by
  funext i
  simp only [val_main_v430_apply, e397 B, co2_apply, Ideal.truncf_def]
theorem dws_eq : val_main_v433 (F := Ideal) (co2 B.X) (co1 B.gain) (co2 B.win) (co1 B.gg) (co1 B.gb) (co2 B.wout) (co2 B.dy) = co2 fun a s => B.DWS (a / 128) (a % 128) s := by
  funext i
  simp only [val_main_v433_apply, e232 B, co2_apply, co3_apply]
  have h1 : (i 1).val < 128 := (i 1).isLt
  have h0 : (i 0).val < 512 := (i 0).isLt
  rw [show ((i 0).val * 128 + (i 1).val) / 16384 = (i 0).val / 128 by omega,
    show ((i 0).val * 128 + (i 1).val) / 128 % 128 = (i 0).val % 128 by omega,
    show ((i 0).val * 128 + (i 1).val) % 128 = (i 1).val by omega]

/-- One array beside itself four times. -/
theorem cat_four (D : ℕ → ℕ → ℝ) {x : FVec Ideal ⟨2, ![256, 64]⟩ .f32} (hx : x = co2 D) (h) :
    concatenate (⟨2, ![256, 256]⟩ : Shape) 1 [⟨⟨2, ![256, 64]⟩, x⟩, ⟨⟨2, ![256, 64]⟩, x⟩, ⟨⟨2, ![256, 64]⟩, x⟩, ⟨⟨2, ![256, 64]⟩, x⟩] h
      = co2 fun a b => D a (b % 64) := by
  subst hx
  funext i
  have hj : (i 1).val < 256 := (i 1).isLt
  pointwise
  split_ifs <;> try omega
  · exact at_col D (show (i 1).val = (i 1).val % 64 by omega)
  · exact at_col D (show ((i 1).val - 64) = (i 1).val % 64 by omega)
  · exact at_col D (show ((i 1).val - 64 - 64) = (i 1).val % 64 by omega)
  · exact at_col D (show ((i 1).val - 64 - 64 - 64) = (i 1).val % 64 by omega)
theorem e428 : val_main_v428 (F := Ideal) (co2 B.X) (co1 B.gain) (co2 B.win) (co1 B.ps) (co2 B.wout) (co2 B.dy) = co2 fun a b => B.DPW a (64 * (a / 64) + b) := by
  funext i
  simp only [val_main_v428_apply, e276 B, co2_apply, co3_apply]
  have h1 : (i 1).val < 64 := (i 1).isLt
  have h0 : (i 0).val < 256 := (i 0).isLt
  rw [show ((i 0).val * 64 + (i 1).val) / 4096 = (i 0).val / 64 by omega, show ((i 0).val * 64 + (i 1).val) / 64 % 64 = (i 0).val % 64 by omega,
    show ((i 0).val * 64 + (i 1).val) % 64 = (i 1).val by omega, Nat.div_add_mod]
/-- On the four diagonal blocks the reference's product is the whole product. -/
theorem dpbd_eq : val_main_v429 (F := Ideal) (co2 B.X) (co1 B.gain) (co2 B.win) (co1 B.ps) (co2 B.wout) (co2 B.dy) = co2 fun a b => B.DPW a (64 * (a / 64) + b % 64) := cat_four _ (e428 B) _

end Cert.Mix.Ref
end
-- ==== Proof.MixClaim.lean ====
/- The mixer's gradient: the kernel and the reference end at the same real arrays, at finite arguments, the product of the
   pooled rows and their gradient on its four diagonal blocks. -/
module

public import proofs.«01_k».proof.Defs
public import proofs.«01_k».proof.Proof.MixArray
public import proofs.«01_k».proof.Proof.MixRefOut
public import proofs.«01_k».proof.Proof.Gen.MixBwdIdeal.Value
public import proofs.«01_k».proof.Proof.Gen.MixBwdRefIdeal.Run
public import proofs.«01_k».proof.Proof.Gen.MixBwdRefIdeal.Read
public import Idealize.ShloMosaic.Lib.Quiescent

@[expose] public section

set_option maxRecDepth 16384
set_option maxHeartbeats 1000000

noncomputable section

namespace Cert.Mix

open Idealize.ShloMosaic Idealize.ShloMosaic.TcCoe Idealize.SL.Sem Cert.Base

theorem pre_facts : Cert.Pre_finite_mix.Facts := by constructor <;> decide
theorem own_facts : Cert.On_own_group.Facts := by constructor <;> decide

attribute [local instance] pre_facts own_facts

/-- The precondition says that every entry of every argument is finite. -/
theorem pre_finite
    (a0 : FVec Ideal ⟨2, ![8192, 1024]⟩ .f32) (a1 : FVec Ideal ⟨1, ![1024]⟩ .f32) (a2 : FVec Ideal ⟨2, ![1024, 2048]⟩ .f32) (a3 : FVec Ideal
    ⟨2, ![31, 256]⟩ .f32) (a4 : FVec Ideal ⟨1, ![256]⟩ .f32) (a5 : FVec Ideal ⟨1, ![256]⟩ .f32) (a6 : FVec Ideal ⟨1, ![256]⟩ .f32) (a7 :
    FVec Ideal ⟨2, ![3, 256]⟩ .f32) (a8 : FVec Ideal ⟨3, ![4, 64, 64]⟩ .f32) (a9 : FVec Ideal ⟨1, ![256]⟩ .f32) (a10 : FVec Ideal ⟨1,
    ![256]⟩ .f32) (a11 : FVec Ideal ⟨1, ![256]⟩ .f32) (a12 : FVec Ideal ⟨3, ![4, 128, 128]⟩ .f32) (a13 : FVec Ideal ⟨2, ![4, 128]⟩ .f32)
    (a14 : FVec Ideal ⟨2, ![1024, 1024]⟩ .f32) (a15 : FVec Ideal ⟨2, ![8192, 1024]⟩ .f32)
    (h : Cert.Pre_finite_mix.fn (F := Ideal) a0 a1 a2 a3 a4 a5 a6 a7 a8 a9 a10 a11 a12 a13 a14 a15 = fun _ => 1#1) :
    Fin' a0 ∧ Fin' a1 ∧ Fin' a2 ∧ Fin' a3 ∧ Fin' a4 ∧ Fin' a5 ∧ Fin' a6 ∧ Fin' a7 ∧ Fin' a8 ∧ Fin' a9 ∧ Fin' a10 ∧ Fin' a11 ∧ Fin' a12 ∧ Fin' a13 ∧ Fin' a14 ∧ Fin' a15 := by
  unfold Cert.Pre_finite_mix.fn Cert.Pre_finite_mix.fn_part1 Cert.Pre_finite_mix.fn_part2 Cert.Pre_finite_mix.fn_part3
    Cert.Pre_finite_mix.fn_part4 Cert.Pre_finite_mix.fn_part5 Cert.Pre_finite_mix.fn_part6 at h
  dsimp only at h
  obtain ⟨h, e15⟩ := and_split h
  obtain ⟨h, e14⟩ := and_split h
  obtain ⟨h, e13⟩ := and_split h
  obtain ⟨h, e12⟩ := and_split h
  obtain ⟨h, e11⟩ := and_split h
  obtain ⟨h, e10⟩ := and_split h
  obtain ⟨h, e9⟩ := and_split h
  obtain ⟨h, e8⟩ := and_split h
  obtain ⟨h, e7⟩ := and_split h
  obtain ⟨h, e6⟩ := and_split h
  obtain ⟨h, e5⟩ := and_split h
  obtain ⟨h, e4⟩ := and_split h
  obtain ⟨h, e3⟩ := and_split h
  obtain ⟨h, e2⟩ := and_split h
  obtain ⟨h, e1⟩ := and_split h
  obtain ⟨h, e0⟩ := and_split h
  exact ⟨finite_of_reduce _ _ _ _ (congrFun e0 _), finite_of_reduce _ _ _ _ (congrFun e1 _), finite_of_reduce _ _ _ _ (congrFun e2 _), finite_of_reduce _ _ _ _ (congrFun e3 _),
   finite_of_reduce _ _ _ _ (congrFun e4 _), finite_of_reduce _ _ _ _ (congrFun e5 _), finite_of_reduce _ _ _ _ (congrFun e6 _), finite_of_reduce _ _ _ _ (congrFun e7 _),
   finite_of_reduce _ _ _ _ (congrFun e8 _), finite_of_reduce _ _ _ _ (congrFun e9 _), finite_of_reduce _ _ _ _ (congrFun e10 _), finite_of_reduce _ _ _ _ (congrFun e11 _),
   finite_of_reduce _ _ _ _ (congrFun e12 _), finite_of_reduce _ _ _ _ (congrFun e13 _), finite_of_reduce _ _ _ _ (congrFun e14 _), finite_of_reduce _ _ _ _ (congrFun e15 _)⟩

/-- The whole quotient of an index below 256 by 64, as the integer program computes it: the quotient cut towards zero, less one where
    the signs differ and something is left over. -/
theorem word_div : ∀ k : Fin 256,
    (let q := IntOp.divsi .host (BitVec.ofNat 32 k.val) 64#32
     let sgn : BitVec 32 → BitVec 32 := fun x => if x = 0 then 0 else if x.msb then -1 else 1
     Scalar.select (IntOp.andi (IntOp.cmpi .ne (sgn (BitVec.ofNat 32 k.val)) (sgn 64#32)) (IntOp.cmpi .ne (IntOp.remsi .host (BitVec.ofNat 32 k.val) 64#32) 0#32))
       (IntOp.subi q 1#32) q) = BitVec.ofNat 32 (k.val / 64) := by
  decide +kernel

/-- The mask of the fifth result selects the four diagonal blocks. -/
theorem mask_own
    (a0 : FVec Ideal ⟨2, ![8192, 1024]⟩ .f32) (a1 : FVec Ideal ⟨1, ![1024]⟩ .f32) (a2 : FVec Ideal ⟨2, ![1024, 2048]⟩ .f32) (a3 : FVec Ideal
    ⟨2, ![31, 256]⟩ .f32) (a4 : FVec Ideal ⟨1, ![256]⟩ .f32) (a5 : FVec Ideal ⟨1, ![256]⟩ .f32) (a6 : FVec Ideal ⟨1, ![256]⟩ .f32) (a7 :
    FVec Ideal ⟨2, ![3, 256]⟩ .f32) (a8 : FVec Ideal ⟨3, ![4, 64, 64]⟩ .f32) (a9 : FVec Ideal ⟨1, ![256]⟩ .f32) (a10 : FVec Ideal ⟨1,
    ![256]⟩ .f32) (a11 : FVec Ideal ⟨1, ![256]⟩ .f32) (a12 : FVec Ideal ⟨3, ![4, 128, 128]⟩ .f32) (a13 : FVec Ideal ⟨2, ![4, 128]⟩ .f32)
    (a14 : FVec Ideal ⟨2, ![1024, 1024]⟩ .f32) (a15 : FVec Ideal ⟨2, ![8192, 1024]⟩ .f32)
    (i : (⟨2, ![256, 256]⟩ : Shape).Idx) (h : (Cert.On_own_group.fn (F := Ideal) a0 a1 a2 a3 a4 a5 a6 a7 a8 a9 a10 a11 a12 a13 a14 a15).2.2.2.2.1 i = 1#1) :
    (i 0).val / 64 = (i 1).val / 64 := by
  have h0 : (i 0).val < 256 := (i 0).isLt
  have h1 : (i 1).val < 256 := (i 1).isLt
  have e : IntOp.cmpi .eq (BitVec.ofNat 32 ((i 0).val / 64)) (BitVec.ofNat 32 ((i 1).val / 64)) = 1#1 := by
    rw [← word_div ⟨(i 0).val, h0⟩, ← word_div ⟨(i 1).val, h1⟩]
    exact h
  have t : ∀ a b : Fin 4, IntOp.cmpi .eq (BitVec.ofNat 32 a.val) (BitVec.ofNat 32 b.val) = 1#1 → a.val = b.val := by decide
  exact t ⟨(i 0).val / 64, by omega⟩ ⟨(i 1).val / 64, by omega⟩ e

theorem algebraic : Cert.algebraic_MixBwdIdeal_MixBwdRefIdeal_on_own_group_pre_finite_mix := by
  intro m g m' g' hpre hagree
  have real : ∀ c : Dev Cert.MixBwdIdeal.nD, ∃ B : Par, Blk.Args m c B := by
    intro c
    obtain ⟨f0, f1, f2, f3, f4, f5, f6, f7, f8, f9, f10, f11, f12, f13, f14, f15⟩ := pre_finite _ _ _ _ _ _ _ _ _ _ _ _ _ _ _ _ (hpre c)
    obtain ⟨v0, e0⟩ := exists_co2 _ f0
    obtain ⟨v1, e1⟩ := exists_co1 _ f1
    obtain ⟨v2, e2⟩ := exists_co2 _ f2
    obtain ⟨v3, e3⟩ := exists_co2 _ f3
    obtain ⟨v4, e4⟩ := exists_co1 _ f4
    obtain ⟨v5, e5⟩ := exists_co1 _ f5
    obtain ⟨v6, e6⟩ := exists_co1 _ f6
    obtain ⟨v7, e7⟩ := exists_co2 _ f7
    obtain ⟨v8, e8⟩ := exists_co3 _ f8
    obtain ⟨v9, e9⟩ := exists_co1 _ f9
    obtain ⟨v10, e10⟩ := exists_co1 _ f10
    obtain ⟨v11, e11⟩ := exists_co1 _ f11
    obtain ⟨v12, e12⟩ := exists_co3 _ f12
    obtain ⟨v13, e13⟩ := exists_co2 _ f13
    obtain ⟨v14, e14⟩ := exists_co2 _ f14
    obtain ⟨v15, e15⟩ := exists_co2 _ f15
    exact ⟨⟨v0, v1, v2, v3, v4, v5, v6, v7, v8, v9, v10, v11, v12, v13, v14, v15⟩, ⟨e0, e1, e2, e3, e4, e5, e6, e7, e8, e9, e10, e11, e12, e13, e14, e15⟩⟩
  choose B A using real
  refine ⟨fun c => (Cert.MixBwdIdeal.Gen.dats m 0 c).arrAt 18 Cert.MixBwdIdeal.cfg0.N,
    fun c => (Cert.MixBwdIdeal.Gen.dats m 0 c).arrAt 19 Cert.MixBwdIdeal.cfg0.N,
    fun c => (Cert.MixBwdIdeal.Gen.dats m 0 c).arrAt 20 Cert.MixBwdIdeal.cfg0.N,
    fun c => (Cert.MixBwdIdeal.Gen.dats m 0 c).arrAt 21 Cert.MixBwdIdeal.cfg0.N,
    fun c => (Cert.MixBwdIdeal.Gen.dats m 0 c).arrAt 22 Cert.MixBwdIdeal.cfg0.N,
    fun c => (Cert.MixBwdIdeal.Gen.dats m 0 c).arrAt 23 Cert.MixBwdIdeal.cfg0.N,
    fun c => (Cert.MixBwdIdeal.Gen.dats m 0 c).arrAt 24 Cert.MixBwdIdeal.cfg0.N,
    fun c => (Cert.MixBwdIdeal.Gen.dats m 0 c).arrAt 25 Cert.MixBwdIdeal.cfg0.N,
    fun c => (Cert.MixBwdIdeal.Gen.dats m 0 c).arrAt 26 Cert.MixBwdIdeal.cfg0.N, (θ_run Cert.MixBwdIdeal.defs _ _).mono (fun r h c => ?_) (Cert.MixBwdIdeal.Value.run_blocks m g), ?_⟩
  · obtain ⟨h0, h1, h2, h3, h4, h5, h6, h7, h8, h⟩ := h c
    exact ⟨fun i _ => congrFun h0 i, fun i _ => congrFun h1 i, fun i _ => congrFun h2 i, fun i _ => congrFun h3 i, fun i _ => congrFun h4 i, fun i _ => congrFun h5 i, fun i _ => congrFun h6 i, fun i _ => congrFun h7 i, fun i _ => congrFun h8 i, h⟩
  refine (θ_run Cert.MixBwdRefIdeal.defs _ _).mono (fun r h c => ?_) (Cert.MixBwdRefIdeal.Value.run (F := Ideal) m' g')
  obtain ⟨h0, h1, h2, h3, h4, h5, h6, h7, h8, h⟩ := h c
  obtain ⟨a0, a1, a2, a3, a4, a5, a6, a7, a8, a9, a10, a11, a12, a13, a14, a15⟩ := hagree c
  have r0 : StableHlo.launchContents m' c (Proc.tc.devRef Cert.MixBwdRefIdeal.main_arg0) = co2 (B c).X := a0.trans (A c).x
  have r1 : StableHlo.launchContents m' c (Proc.tc.devRef Cert.MixBwdRefIdeal.main_arg1) = co1 (B c).gain := a1.trans (A c).gain
  have r2 : StableHlo.launchContents m' c (Proc.tc.devRef Cert.MixBwdRefIdeal.main_arg2) = co2 (B c).win := a2.trans (A c).win
  have r3 : StableHlo.launchContents m' c (Proc.tc.devRef Cert.MixBwdRefIdeal.main_arg3) = co2 (B c).cw := a3.trans (A c).cw
  have r4 : StableHlo.launchContents m' c (Proc.tc.devRef Cert.MixBwdRefIdeal.main_arg4) = co1 (B c).cb := a4.trans (A c).cb
  have r5 : StableHlo.launchContents m' c (Proc.tc.devRef Cert.MixBwdRefIdeal.main_arg5) = co1 (B c).lg := a5.trans (A c).lg
  have r6 : StableHlo.launchContents m' c (Proc.tc.devRef Cert.MixBwdRefIdeal.main_arg6) = co1 (B c).lb := a6.trans (A c).lb
  have r7 : StableHlo.launchContents m' c (Proc.tc.devRef Cert.MixBwdRefIdeal.main_arg7) = co2 (B c).sw := a7.trans (A c).sw
  have r8 : StableHlo.launchContents m' c (Proc.tc.devRef Cert.MixBwdRefIdeal.main_arg8) = co3 (B c).pw := a8.trans (A c).pw
  have r9 : StableHlo.launchContents m' c (Proc.tc.devRef Cert.MixBwdRefIdeal.main_arg9) = co1 (B c).ps := a9.trans (A c).ps
  have r10 : StableHlo.launchContents m' c (Proc.tc.devRef Cert.MixBwdRefIdeal.main_arg10) = co1 (B c).gg := a10.trans (A c).gg
  have r11 : StableHlo.launchContents m' c (Proc.tc.devRef Cert.MixBwdRefIdeal.main_arg11) = co1 (B c).gb := a11.trans (A c).gb
  have r12 : StableHlo.launchContents m' c (Proc.tc.devRef Cert.MixBwdRefIdeal.main_arg12) = co3 (B c).ws := a12.trans (A c).ws
  have r13 : StableHlo.launchContents m' c (Proc.tc.devRef Cert.MixBwdRefIdeal.main_arg13) = co2 (B c).bs := a13.trans (A c).bs
  have r14 : StableHlo.launchContents m' c (Proc.tc.devRef Cert.MixBwdRefIdeal.main_arg14) = co2 (B c).wout := a14.trans (A c).wout
  have r15 : StableHlo.launchContents m' c (Proc.tc.devRef Cert.MixBwdRefIdeal.main_arg15) = co2 (B c).dy := a15.trans (A c).dy
  obtain ⟨b0, b1⟩ := Blk.rows_arrays (A c)
  have own : ∀ i : (⟨2, ![256, 256]⟩ : Shape).Idx, (i 0).val / 64 = (i 1).val / 64 →
      r.2.mem ((c.tc : Thread Cert.MixBwdRefIdeal.nD Cert.MixBwdRefIdeal.τ).loc Cert.MixBwdRefIdeal.main_v429) i
        = (Cert.MixBwdIdeal.Gen.dats m 0 c).arrAt 22 Cert.MixBwdIdeal.cfg0.N i := by
    intro i hi
    refine (congrFun (h4.trans ?_) i).trans (?_ : (co2 fun a b => (B c).DPW a (64 * (a / 64) + b % 64) : FVec Ideal ⟨2, ![256, 256]⟩ .f32) i = _)
    · rw [Cert.MixBwdRefIdeal.Read.val_main_v429_eq, r0, r1, r2, r9, r14, r15]
      exact Ref.dpbd_eq (B c)
    · rw [Blk.dpbd_array (A c), co2_apply, co2_apply, hi, Nat.div_add_mod]
  refine ⟨fun i _ => congrFun (h0.trans ?_) i, fun i _ => congrFun (h1.trans ?_) i, fun i _ => congrFun (h2.trans ?_) i,
    fun i _ => congrFun (h3.trans ?_) i, fun i hi => own i (mask_own _ _ _ _ _ _ _ _ _ _ _ _ _ _ _ _ i hi), fun i _ => congrFun (h5.trans ?_) i,
    fun i _ => congrFun (h6.trans ?_) i, fun i _ => congrFun (h7.trans ?_) i, fun i _ => congrFun (h8.trans ?_) i, h⟩
  · rw [Cert.MixBwdRefIdeal.Read.val_main_v430_eq, r0, r1, r2, r3, r4, r5, r6, r7, r8, r9, r10, r11, r12, r13, r14, r15]
    exact (Ref.dp_eq (B c)).trans b0.symm
  · rw [Cert.MixBwdRefIdeal.Read.val_main_v431_eq, r0, r1, r2, r3, r4, r5, r6, r14, r15]
    exact (Ref.dcw_eq (B c)).trans (Blk.dcw_array (A c)).symm
  · rw [Cert.MixBwdRefIdeal.Read.val_main_v427_eq, r0, r1, r2, r3, r4, r5, r6, r8, r12, r14, r15]
    exact (Ref.dvec_eq (B c)).trans (Blk.dvec_array (A c)).symm
  · rw [Cert.MixBwdRefIdeal.Read.val_main_v432_eq, r0, r1, r2, r14, r15]
    exact (Ref.dsw_eq (B c)).trans (Blk.dsw_array (A c)).symm
  · rw [Cert.MixBwdRefIdeal.Read.val_main_v433_eq, r0, r1, r2, r10, r11, r14, r15]
    exact (Ref.dws_eq (B c)).trans (Blk.dws_array (A c)).symm
  · rw [Cert.MixBwdRefIdeal.Read.val_main_v435_eq, r0, r1, r2, r14, r15]
    exact (Ref.dbs_eq (B c)).trans (Blk.dbs_array (A c)).symm
  · rw [Cert.MixBwdRefIdeal.Read.val_main_v419_eq, r0, r1, r2, r3, r4, r5, r6, r7, r8, r9, r10, r11, r12, r13, r14, r15]
    exact (Ref.e419 (B c)).trans b1.symm
  · rw [Cert.MixBwdRefIdeal.Read.val_main_v437_eq, r0, r1, r2, r3, r4, r5, r6, r7, r8, r9, r10, r11, r12, r13, r14, r15]
    exact (Ref.dg_eq (B c)).trans (Blk.dg_array (A c)).symm

end Cert.Mix
end
-- ==== Proof.FwdPay.lean ====
/- What the values of the mixer's forward kernel are at one tile, each from the tile's own inputs and the rows carried
   from the tile before. -/
module

public import proofs.«01_k».proof.Proof.MixPay
public import proofs.«01_k».proof.Proof.Gen.MixFwdIdeal.Frame

@[expose] public section

set_option maxRecDepth 16384

noncomputable section

namespace Cert.Mix

open Cert.Base Cert.Ffn

namespace In
variable (A : In)

/-- The rows before the tile, zeros where there are none. -/
def pq (r j : ℕ) : ℝ := A.pp r j * A.se
/-- The normalized rows of the convolution, and the four branches side by side. -/
def lnf (r j : ℕ) : ℝ := hat A.c r j * A.vec 1 j + A.vec 2 j
def mx (r j : ℕ) : ℝ :=
  if j < 256 then A.lnf r j * sg (A.lnf r j)
  else if j < 512 then A.pm r (512 + (j - 256)) * A.cz r (j - 256)
  else if j < 768 then A.yc r (j - 512) * A.vec 3 (j - 512)
  else A.gu r (j - 768) * A.mixed r (j - 768)
def out (r j : ℕ) : ℝ := A.x r j + ∑ k : Fin 1024, A.mx r k * A.wo (k.val / 128) (k.val % 128) j
end In

end Cert.Mix

namespace Cert.MixF

open Cert.MixFwdIdeal Cert.MixFwdIdeal.Gen Idealize.ShloMosaic Idealize.ShloMosaic.TcCoe Idealize.SL.Sem Cert.Base Cert.Ffn Cert.Mix

variable (A : In) (P : ℕ → ℕ → ℝ)

/-! The identities. -/

theorem carry_eq : k0_pay1 (F := Ideal) (k0_pay61 (co2 P)) = co2 P := by
  unfold k0_pay1 k0_pay61; simp only [shapeCast_same]
theorem zeros_eq : k0_pay2 (F := Ideal) = co2 fun _ _ => 0 := by
  unfold k0_pay2; simp only [bcast_zero16, shapeCast_same]
theorem vec_eq : k0_pay5 (F := Ideal) (co2 P) = co2 P := shapeCast_same P _
theorem prev_eq : k0_pay6 (F := Ideal) (co2 P) = co2 P := by
  unfold k0_pay6; simp only [extf_co2]
theorem prev_eq' : k0_pay7 (F := Ideal) (co2 P) = co2 P := by
  unfold k0_pay7; simp only [extf_co2]
theorem cw_eq : k0_pay17 (F := Ideal) (co2 P) = co2 P := shapeCast_same P _
theorem sw_eq : k0_pay34 (F := Ideal) (co2 P) = co2 P := shapeCast_same P _
theorem em_eq : k0_pay39 (F := Ideal) (co2 P) = co2 P := by
  unfold k0_pay39; simp only [shapeCast_same, extf_co2]
theorem em_eq' : k0_pay40 (F := Ideal) (co2 P) = co2 P := by
  unfold k0_pay40; rw [em_eq]; simp only [shapeCast_same]
theorem gu_eq : k0_pay52 (F := Ideal) (co2 P) = co2 P := by
  unfold k0_pay52; simp only [shapeCast_same, extf_co2]

/-! The normalized rows and their product. -/

theorem h_eq : k0_pay3 (F := Ideal) (co2 A.x) (co2 fun _ j => A.gain j) = co2 (hh A.x A.gain) := by
  unfold k0_pay3
  have e : rsqrt (F := Ideal) (φ := .f32) (co2 (m := 256) (n := 1) fun t _ => ms A.x t) = co2 fun t _ => rs A.x t :=
    rsqrt_co2 _ fun t _ _ _ => ms_pos A.x t
  simp only [mulf_co2, row_sum (m := 256) (n := 1024), bcast_1024, divf_1024, bcast_eps, addf_co2]
  refine (congrArg (fun R => truncf .bf16 (mulf (mulf (co2 A.x) (broadcastTo S256x1024 R broadcasts_S256x1_S256x1024))
    (broadcastTo S256x1024 (shapeCast S1x1024 (co2 (m := 1) (n := 1024) fun _ j => A.gain j) shapeCasts_S1x1024_S1x1024)
      broadcasts_S1x1024_S256x1024)) bitsLt_bf16_f32) e).trans ?_
  simp only [bcast_col, bcast_row, shapeCast_same, mulf_co2, truncf_co2]
  rfl
theorem mm_p (X Y : ℕ → ℕ → ℝ) : matmul (F := Ideal) (φ₁ := .bf16) (φ₂ := .bf16) dot_S256x1024_S2048x1024_S256x2048_1_1_0_0_n_n none (co2 X) (co2 Y) (co2 fun _ _ => 0)
    = co2 fun t j => ∑ k : Fin 1024, X t k * Y j k := by
  funext i
  pointwise
  simp only [co2_apply, ← EReal.coe_mul, coe_sum, ← EReal.coe_add, zero_add]
  rfl
theorem mm_y (X Y : ℕ → ℕ → ℝ) : matmul (F := Ideal) (φ₁ := .bf16) (φ₂ := .bf16) dot_S256x1024_S1024x1024_S256x1024_1_0_0_1_n_n none (co2 X) (co2 Y) (co2 fun _ _ => 0)
    = co2 fun t j => ∑ k : Fin 1024, X t k * Y k j := by
  funext i
  pointwise
  simp only [co2_apply, ← EReal.coe_mul, coe_sum, ← EReal.coe_add, zero_add]
  rfl
theorem mm_g (X Y : ℕ → ℕ → ℝ) : matmul (F := Ideal) (φ₁ := .bf16) (φ₂ := .bf16) dot_S128x512_S512x256_S128x256_1_0_0_1_n_n none (co2 X) (co2 Y) (co2 fun _ _ => 0)
    = co2 fun t j => ∑ k : Fin 512, X t k * Y k j := by
  funext i
  pointwise
  simp only [co2_apply, ← EReal.coe_mul, coe_sum, ← EReal.coe_add, zero_add]
  rfl
theorem p_eq (hp : ∀ t j, A.pm t j = ∑ k : Fin 1024, hh A.x A.gain t k * A.wi (j / 256) (j % 256) k) :
    k0_pay4 (F := Ideal) (co2 A.x) (co2 fun _ j => A.gain j) (co3 A.wi) = co2 A.pm := by
  unfold k0_pay4
  rw [h_eq]
  simp only [shapeCast_same3, cast_wi, const_zero, mm_p, truncf_co2]
  exact co2_congr fun t j _ _ => (hp t j).symm
theorem y_eq : k0_pay60 (F := Ideal) (co2 A.x) (co2 A.mx) (co3 A.wo) = co2 A.out := by
  unfold k0_pay60
  simp only [shapeCast_same, shapeCast_same3, cast_wo, const_zero, mm_y, addf_co2]
  rfl

/-! The convolution, its normalization, and the gated rows it runs over. -/

theorem yp_eq : k0_pay8 (F := Ideal) (co2 A.pq) (co2 fun t j => A.pq t (256 + j)) (Scalar.ofBits .f32 0x3F000000#32) = co2 A.yp := by
  unfold k0_pay8
  simp only [shapeCast_same, bcast_half, mulf_co2, tanh_co2, addf_co2, sg_tanh]
  rfl
theorem ym_eq : k0_pay9 (F := Ideal) (co2 A.pm) (co2 fun t j => A.pm t (256 + j)) = co2 A.ym := by
  unfold k0_pay9
  simp only [shapeCast_same, extf_co2, bcast_half, mulf_co2, tanh_co2, addf_co2, sg_tanh]
  rfl
theorem hat_of (X : ℕ → ℕ → ℝ) (v89 v252 v253 v254 v260 v266 v272) (h : k0_pay28 (F := Ideal) v89 v252 v253 v254 v260 v266 v272 = co2 X) :
    k0_pay29 (F := Ideal) v89 v252 v253 v254 v260 v266 v272 = co2 (hat X) := by
  unfold k0_pay29
  rw [h]
  simp only [row_sum (m := 256) (n := 256), bcast_256, divf_256, bcast_col, subf_co2]
  have e := rv_of (m := 256) (n := 1) X
  unfold cen mu at e
  simp only [mulf_co2, row_sum (m := 256) (n := 256), bcast_256, divf_256, bcast_eps, addf_co2, e, bcast_col]
  rfl
theorem g1_eq : k0_pay30 (F := Ideal) (co2 A.vec) = co2 fun _ j => A.vec 1 j := by
  unfold k0_pay30
  simp only [slice_co2, bcast_row, Nat.zero_add, Nat.add_zero]
theorem silu_eq : k0_pay31 (F := Ideal) (co2 A.vec) (co2 (hat A.c)) (co2 fun _ j => A.vec 1 j) = co2 A.mx := by
  unfold k0_pay31
  simp only [slice_co2, bcast_row, bcast_half, mulf_co2, tanh_co2, addf_co2, truncf_co2, sg_tanh, Nat.zero_add, Nat.add_zero]
  exact co2_congr fun t j _ hj => by unfold In.mx; rw [if_pos hj]; rfl

/-! The short convolution. -/

theorem zp_eq : k0_pay32 (F := Ideal) (co2 fun t j => A.pq t (768 + j)) (co2 fun t j => A.pq t (1024 + j)) = co2 A.zp := by
  unfold k0_pay32
  simp only [shapeCast_same, extf_co2, mulf_co2]
  rfl
theorem zm_eq : k0_pay33 (F := Ideal) (co2 fun t j => A.pm t (768 + j)) (co2 fun t j => A.pm t (1024 + j)) = co2 A.zm := by
  unfold k0_pay33
  simp only [shapeCast_same, extf_co2, mulf_co2]
  rfl
theorem cz_eq : k0_pay37 (F := Ideal) (co2 A.sw) k0_pay35 (k0_pay36 (co2 A.sw)) (co2 fun t j => A.z (30 + t) j) (co2 fun t j => A.z (31 + t) j)
    (co2 fun t j => A.z (32 + t) j) (co2 fun t j => A.pm t (512 + j)) = co2 fun t j => A.mx t (256 + j) := by
  unfold k0_pay37 k0_pay36 k0_pay35
  rw [sw_eq]
  simp only [slice_co2, bcast_row, bcast_zero, mulf_co2, addf_co2, truncf_co2, extf_co2, shapeCast_same, Nat.zero_add, Nat.add_zero]
  refine co2_congr fun t j _ hj => ?_
  unfold In.mx In.cz
  rw [if_neg (by omega), if_pos (by omega), Nat.add_sub_cancel_left]
  simp only [Finset.sum_range_succ, Finset.sum_range_zero, Nat.reduceAdd]

/-! The pooling. -/

theorem ep_eq : k0_pay38 (F := Ideal) (co2 fun t j => A.pq t (1280 + j)) = co2 A.ep := by
  unfold k0_pay38
  simp only [shapeCast_same, extf_co2]
  rfl
theorem w_eq : k0_pay42 (F := Ideal) (iota .tc S256x256 32 [1] iota_S256x256_d1_w32) k0_pay41 = co2 fun _ j => wid j := Mix.w_eq
theorem e2_eq : k0_pay43 (F := Ideal) (co2 fun t j => A.e (8 + t) j) (co2 fun t j => A.e (7 + t) j) = co2 fun t j => A.e2 (8 + t) j := Mix.e2_eq A
theorem e4_eq : k0_pay45 (F := Ideal) (k0_pay44 (co2 fun t j => A.e2 (16 + t) j) (co2 fun t j => A.e2 (14 + t) j)) = co2 fun t j => A.e4 (16 + t) j := Mix.e4_eq A
theorem e8_eq : k0_pay46 (F := Ideal) (co2 fun t j => A.e4 (24 + t) j) (co2 fun t j => A.e4 (20 + t) j) = co2 fun t j => A.e8 (24 + t) j := Mix.e8_eq A
theorem yc_eq (hi : A.i < 32) : k0_pay50 (F := Ideal) (k0_pay48 (BitVec.ofNat 32 A.i) (co2 fun t j => A.pm t (1280 + j)) (co2 fun _ j => wid j)
      (k0_pay47 (co2 fun _ j => wid j) (co2 fun t j => A.e2 (32 + t) j) (co2 fun t j => A.e4 (32 + t) j) (co2 fun t j => A.e8 (32 + t) j))
      (co2 fun t j => A.e8 (32 + t) j) (co2 fun t j => A.e8 (24 + t) j) (co2 A.pbd)) (k0_pay49 (co2 A.vec)) = co2 fun t j => A.mx t (512 + j) := by
  have e : k0_pay48 (F := Ideal) (BitVec.ofNat 32 A.i) (co2 fun t j => A.pm t (1280 + j)) (co2 fun _ j => wid j)
      (k0_pay47 (co2 fun _ j => wid j) (co2 fun t j => A.e2 (32 + t) j) (co2 fun t j => A.e4 (32 + t) j) (co2 fun t j => A.e8 (32 + t) j))
      (co2 fun t j => A.e8 (32 + t) j) (co2 fun t j => A.e8 (24 + t) j) (co2 A.pbd) = co2 A.yc := by
    refine Eq.trans ?_ (mm_nn A.dpool A.pbd)
    unfold k0_pay48
    dsimp only
    simp only [shapeCast_same, const_zero]
    exact congrArg (fun R => matmul (F := Ideal) (φ₁ := .bf16) (φ₂ := .bf16) dot_S256x256_S256x256_S256x256_1_0_0_1_n_n none R (co2 A.pbd) (co2 fun _ _ => 0))
      (dpool_eq A hi)
  rw [e]
  unfold k0_pay50 k0_pay49
  simp only [slice_co2, bcast_row, mulf_co2, truncf_co2, Nat.zero_add, Nat.add_zero]
  refine co2_congr fun t j _ hj => ?_
  unfold In.mx
  rw [if_neg (by omega), if_neg (by omega), if_pos (by omega), Nat.add_sub_cancel_left]

/-! The gating. -/

theorem v_eq : k0_pay51 (F := Ideal) (co2 A.vec) (co2 fun t j => A.pm t (1792 + j)) = co2 A.v := Mix.v_eq A
theorem m0_eq : k0_pay53 = hm 0 := Mix.m0_eq
theorem m1_eq : k0_pay54 = hm 1 := Mix.m1_eq
theorem m2_eq : k0_pay55 (iota .tc S128x256 32 [1] iota_S128x256_d1_w32) = hm 2 := Mix.m2_eq
theorem m3_eq : k0_pay56 (iota .tc S128x256 32 [1] iota_S128x256_d1_w32) = hm 3 := Mix.m3_eq
theorem gate_eq : k0_pay57 (F := Ideal) (co2 A.v) (co2 fun t j => A.pm t (1536 + j)) (iota .tc S128x256 32 [1] iota_S128x256_d1_w32) (hm 0) (hm 1)
    (co2 A.wcat) (co2 A.bst) = co2 fun t j => A.mx t (768 + j) := by
  unfold k0_pay57
  rw [m2_eq, m3_eq]
  dsimp only
  simp only [slice_co2, Nat.zero_add]
  rw [heads_stack]
  simp only [const_zero, mm_g, shapeCast_same, addf_co2, mulf_co2, truncf_co2]
  refine co2_congr fun t j ht hj => ?_
  unfold In.mx In.gu
  rw [if_neg (by omega), if_neg (by omega), if_neg (by omega), Nat.add_sub_cancel_left]
  exact congrArg (A.pm t (1536 + j) * ·) (by simpa only [Nat.mul_zero, Nat.zero_add] using mixed_eq A 0 t j ht hj)
theorem gate_eq' : k0_pay59 (F := Ideal) (co2 fun t j => A.pm t (1536 + j)) (k0_pay58 (co2 A.v) (iota .tc S128x256 32 [1] iota_S128x256_d1_w32) (hm 0) (hm 1))
    (co2 A.wcat) (co2 A.bst) = co2 fun t j => A.mx (128 + t) (768 + j) := by
  have e : k0_pay58 (F := Ideal) (co2 A.v) (iota .tc S128x256 32 [1] iota_S128x256_d1_w32) (hm 0) (hm 1)
      = co2 fun a j => if j / 64 = a / 128 then A.v (128 + a % 128) j else 0 := by
    unfold k0_pay58
    rw [m2_eq, m3_eq]
    dsimp only
    simp only [slice_co2, Nat.zero_add]
    rw [heads_stack]
    exact co2_congr fun a j _ _ => by simp only [Nat.zero_add]
  unfold k0_pay59
  rw [e]
  simp only [const_zero, mm_g, shapeCast_same, addf_co2, mulf_co2, truncf_co2, slice_co2, Nat.zero_add]
  refine co2_congr fun t j ht hj => ?_
  unfold In.mx In.gu
  rw [if_neg (by omega), if_neg (by omega), if_neg (by omega), Nat.add_sub_cancel_left]
  exact congrArg (A.pm (128 + t) (1536 + j) * ·) (by simpa only [Nat.mul_one] using mixed_eq A 1 t j ht hj)

end Cert.MixF

end
-- ==== Proof.FwdRead.lean ====
/- One grid point of the mixer's forward kernel: its input blocks as real matrices, what loads read back, and the gated
   branches put side by side. -/
module

public import proofs.«01_k».proof.Proof.FwdPay
public import proofs.«01_k».proof.Proof.MixRows

@[expose] public section

set_option maxRecDepth 16384
set_option maxHeartbeats 4000000

noncomputable section

namespace Cert.MixF

open Cert.MixFwdIdeal Cert.MixFwdIdeal.Gen Idealize.ShloMosaic Idealize.ShloMosaic.TcCoe Idealize.SL.Sem Cert.Base Cert.Ffn Cert.Mix Cert.Mix.Blk

/-- A box read back from an array set as a whole. -/
theorem readCov_whole16 [∀ e, Nonempty (Elt Ideal e)] {sig : RefSig} {κ : Kind} {sp : Space} {m n a b m' n' : ℕ}
    (v : View sig κ sp ⟨2, ![m, n]⟩ .bf16) (h h') (P : ℕ → ℕ → ℝ) :
    v.readCov (Val := Elt Ideal) [⟨Rect.unit ![0, 0] ![m, n] h, co2 P⟩] (Rect.unit ![a, b] ![m', n'] h').toLoadRect
      = co2 (m := m') (n := n') fun t j => P (a + t) (b + j) := by
  rw [View.readCov_eq_canon_ld _ _ _ fun y => ⟨_, List.mem_singleton.mpr rfl, by
    show y ∈ (Rect.unit ![0, 0] ![m, n] h).set
    rw [Rect.mem_set_unit]; intro a; have := (y a).isLt; fin_cases a <;> exact ⟨Nat.zero_le _, by simpa using this⟩⟩, canon_whole]
  exact ld_bf16 h' P
/-- An array written whole last. -/
theorem read_last [∀ e, Nonempty (Elt Ideal e)] {sig : RefSig} {κ : Kind} {sp : Space} {m n : ℕ} {e : EltTy} (v : View sig κ sp ⟨2, ![m, n]⟩ e)
    (f : v.ty.Contents (Elt Ideal)) (h) (P : (⟨2, ![m, n]⟩ : Shape).Idx → Elt Ideal e) (L) :
    v.read (Elt Ideal) (v.writes (Elt Ideal) f (⟨Rect.unit ![0, 0] ![m, n] h, P⟩ :: L)) = P :=
  (View.read_writes_eq_canon _ _ _ fun y => ⟨_, List.mem_cons_self, by
    show y ∈ (Rect.unit ![0, 0] ![m, n] h).set
    rw [Rect.mem_set_unit]; intro a; have := (y a).isLt; fin_cases a <;> exact ⟨Nat.zero_le _, by simpa using this⟩⟩).trans (canon_whole h P L)

section
variable (A : In)
/-- The branches' five pieces. -/
theorem mx_pieces {h0 h1 h2 h3 h3'} : ∀ p ∈ ([⟨Rect.unit ![128, 768] ![128, 256] h3', co2 (m := 128) (n := 256) fun t j => A.mx (128 + t) (768 + j)⟩,
      ⟨Rect.unit ![0, 768] ![128, 256] h3, co2 (m := 128) (n := 256) fun t j => A.mx t (768 + j)⟩, ⟨Rect.unit ![0, 512] ![256, 256] h2, co2 (m := 256) (n := 256) fun t j => A.mx t (512 + j)⟩,
      ⟨Rect.unit ![0, 256] ![256, 256] h1, co2 (m := 256) (n := 256) fun t j => A.mx t (256 + j)⟩, ⟨Rect.unit ![0, 0] ![256, 256] h0, co2 (m := 256) (n := 256) A.mx⟩]
      : List (View.Piece (Elt Ideal) S256x1024 .bf16)), ∀ x : p.1.shape.Idx, p.2 x = co2 A.mx (p.1.idx x) := by
  simp only [List.forall_mem_cons, idx_co2, List.not_mem_nil, false_imp_iff, implies_true, and_true, Nat.zero_add]
/-- The branches read back from their five pieces. -/
theorem mx_read [∀ e, Nonempty (Elt Ideal e)] {sig : RefSig} {κ : Kind} {sp : Space} (v : View sig κ sp S256x1024 .bf16) {h0 h1 h2 h3 h3' h}
    (P0 P1 P2 : S256x256.Idx → EReal) (P3 P3' : (⟨2, ![128, 256]⟩ : Shape).Idx → EReal)
    (hL : ∀ p ∈ ([⟨Rect.unit ![128, 768] ![128, 256] h3', P3'⟩, ⟨Rect.unit ![0, 768] ![128, 256] h3, P3⟩, ⟨Rect.unit ![0, 512] ![256, 256] h2, P2⟩,
      ⟨Rect.unit ![0, 256] ![256, 256] h1, P1⟩, ⟨Rect.unit ![0, 0] ![256, 256] h0, P0⟩] : List (View.Piece (Elt Ideal) S256x1024 .bf16)), ∀ x : p.1.shape.Idx, p.2 x = co2 A.mx (p.1.idx x)) :
    v.readCov (Val := Elt Ideal) [⟨Rect.unit ![128, 768] ![128, 256] h3', P3'⟩, ⟨Rect.unit ![0, 768] ![128, 256] h3, P3⟩, ⟨Rect.unit ![0, 512] ![256, 256] h2, P2⟩,
      ⟨Rect.unit ![0, 256] ![256, 256] h1, P1⟩, ⟨Rect.unit ![0, 0] ![256, 256] h0, P0⟩]
      (Rect.unit ![0, 0] ![256, 1024] h).toLoadRect = co2 (m := 256) (n := 1024) A.mx := by
  rw [View.readCov_eq_canon']
  funext x
  refine (View.canon_apply_of_pieces (Val := Elt Ideal) (e := .bf16) (S := S256x1024) (co2 A.mx) _ hL ((Rect.unit ![0, 0] ![256, 1024] h).idx x) ?_).trans
    ((idx_co2 h A.mx x).trans (congrFun (co2_congr fun t j _ _ => by rw [Nat.zero_add, Nat.zero_add]) x))
  generalize (Rect.unit (s := S256x1024) ![0, 0] ![256, 1024] h).idx x = y
  have y0 : (y 0).val < 256 := (y 0).isLt
  have y1 : (y 1).val < 1024 := (y 1).isLt
  by_cases c0 : (y 1).val < 256
  · exact ⟨_, .tail _ (.tail _ (.tail _ (.tail _ (.head _)))), mem_box h0 y (by omega) (by omega) (by omega) (by omega)⟩
  by_cases c1 : (y 1).val < 512
  · exact ⟨_, .tail _ (.tail _ (.tail _ (.head _))), mem_box h1 y (by omega) (by omega) (by omega) (by omega)⟩
  by_cases c2 : (y 1).val < 768
  · exact ⟨_, .tail _ (.tail _ (.head _)), mem_box h2 y (by omega) (by omega) (by omega) (by omega)⟩
  by_cases c : (y 0).val < 128
  · exact ⟨_, .tail _ (.head _), mem_box h3 y (by omega) (by omega) (by omega) (by omega)⟩
  · exact ⟨_, .head _, mem_box h3' y (by omega) (by omega) (by omega) (by omega)⟩
end

variable (m : (ℓ : Loc nD τ sig) → Buf (Elt Ideal) ℓ) (c : Dev nD) (t : Fin cfg0.N) (A : In)

/-- The input blocks of a grid point, as real matrices, with the rows carried from the point before, and what the
    products and the convolution make of them. -/
structure Tile : Prop where
  i : (grid0.coords t 0).val = A.i
  x : iblk m c 0 t = co2 A.x
  gain : iblk m c 1 t = co2 fun _ j => A.gain j
  wi : X0_2 m c t = co3 A.wi
  wo : iblk m c 3 t = co3 A.wo
  cw : iblk m c 4 t = co2 A.cw
  vec : iblk m c 5 t = co2 A.vec
  sw : iblk m c 6 t = co2 A.sw
  pbd : iblk m c 7 t = co2 A.pbd
  wcat : iblk m c 8 t = co2 A.wcat
  bst : iblk m c 9 t = co2 A.bst
  first : t.val % 32 = 0 → ∀ r j, r < 32 → A.pq r j = 0
  later : ¬ t.val % 32 = 0 → (outsAt0 m c (t.val - 1) (Nat.lt_of_le_of_lt (Nat.sub_le _ _) t.isLt)).2.2.2.2.2 = co2 A.pq
  p : ∀ r j, A.pm r j = ∑ k : Fin 1024, hh A.x A.gain r k * A.wi (j / 256) (j % 256) k
  conv : ∀ r j, A.c r j = (∑ k ∈ Finset.range 31, A.y (2 + k + r) j * A.cw k j) + A.vec 0 j

section
variable {m c t A} (T : Tile m c t A)
include T
theorem Tile.lt : A.i < 32 := T.i ▸ (grid0.coords t 0).isLt
theorem Tile.zero (h0 : t.val % 32 = 0) : k0_pay2 (F := Ideal) = co2 A.pq :=
  (zeros_eq).trans (co2_congr fun r j hr _ => (T.first h0 r j hr).symm)
end

end Cert.MixF

end
-- ==== Proof.FwdHost.lean ====
/- What the host lines before the mixer's forward kernel hand to it. The lines are among those before the gradient's kernel, so
   the values are read off from there, at a memory with the same arguments. -/
module

public import proofs.«01_k».proof.Proof.MixHost
public import proofs.«01_k».proof.Proof.FwdRead

@[expose] public section

set_option maxRecDepth 16384
set_option maxHeartbeats 1000000

noncomputable section

namespace Cert.Mix.Blk
open Cert.MixBwdIdeal Cert.MixBwdIdeal.Gen Idealize.ShloMosaic Idealize.ShloMosaic.TcCoe Idealize.SL.Sem Cert.Base Cert.Ffn Cert.Mix

/-- Lines that store given real arrays where the gradient's program has its arguments. -/
abbrev storeArgs (B : Par) : List (HloOp τ sig (Elt Ideal)) :=
  [StableHlo.nullary main_arg0 (co2 B.X), StableHlo.nullary main_arg1 (co1 B.gain), StableHlo.nullary main_arg2 (co2 B.win),
   StableHlo.nullary main_arg3 (co2 B.cw), StableHlo.nullary main_arg4 (co1 B.cb), StableHlo.nullary main_arg5 (co1 B.lg),
   StableHlo.nullary main_arg6 (co1 B.lb), StableHlo.nullary main_arg7 (co2 B.sw), StableHlo.nullary main_arg8 (co3 B.pw),
   StableHlo.nullary main_arg9 (co1 B.ps), StableHlo.nullary main_arg10 (co1 B.gg), StableHlo.nullary main_arg11 (co1 B.gb),
   StableHlo.nullary main_arg12 (co3 B.ws), StableHlo.nullary main_arg13 (co2 B.bs), StableHlo.nullary main_arg14 (co2 B.wout),
   StableHlo.nullary main_arg15 (co2 B.dy)]

/-- Some memory of the gradient's program holds any given arguments. -/
theorem exists_args (B : Par) (c : Dev nD) : ∃ m, Args m c B := by
  refine ⟨fun ℓ => StableHlo.after (storeArgs B) (fun _ => Classical.ofNonempty) ℓ.2, ?_⟩
  constructor
  · show StableHlo.after _ _ (Proc.tc.devRef main_arg0) = _
    after_reads_simp
  · show StableHlo.after _ _ (Proc.tc.devRef main_arg1) = _
    after_reads_simp
  · show StableHlo.after _ _ (Proc.tc.devRef main_arg2) = _
    after_reads_simp
  · show StableHlo.after _ _ (Proc.tc.devRef main_arg3) = _
    after_reads_simp
  · show StableHlo.after _ _ (Proc.tc.devRef main_arg4) = _
    after_reads_simp
  · show StableHlo.after _ _ (Proc.tc.devRef main_arg5) = _
    after_reads_simp
  · show StableHlo.after _ _ (Proc.tc.devRef main_arg6) = _
    after_reads_simp
  · show StableHlo.after _ _ (Proc.tc.devRef main_arg7) = _
    after_reads_simp
  · show StableHlo.after _ _ (Proc.tc.devRef main_arg8) = _
    after_reads_simp
  · show StableHlo.after _ _ (Proc.tc.devRef main_arg9) = _
    after_reads_simp
  · show StableHlo.after _ _ (Proc.tc.devRef main_arg10) = _
    after_reads_simp
  · show StableHlo.after _ _ (Proc.tc.devRef main_arg11) = _
    after_reads_simp
  · show StableHlo.after _ _ (Proc.tc.devRef main_arg12) = _
    after_reads_simp
  · show StableHlo.after _ _ (Proc.tc.devRef main_arg13) = _
    after_reads_simp
  · show StableHlo.after _ _ (Proc.tc.devRef main_arg14) = _
    after_reads_simp
  · show StableHlo.after _ _ (Proc.tc.devRef main_arg15) = _
    after_reads_simp
end Cert.Mix.Blk

namespace Cert.MixF
open Cert.MixFwdIdeal Cert.MixFwdIdeal.Gen Idealize.ShloMosaic Idealize.ShloMosaic.TcCoe Idealize.SL.Sem Cert.Base Cert.Ffn Cert.Mix
variable (m : (ℓ : Loc nD τ sig) → Buf (Elt Ideal) ℓ) (c : Dev nD) (B : Par)

/-- The arguments, as real arrays. -/
structure Args : Prop where
  x : m ((c : Thread nD τ).loc main_arg0) = co2 B.X
  gain : m ((c : Thread nD τ).loc main_arg1) = co1 B.gain
  win : m ((c : Thread nD τ).loc main_arg2) = co2 B.win
  cw : m ((c : Thread nD τ).loc main_arg3) = co2 B.cw
  cb : m ((c : Thread nD τ).loc main_arg4) = co1 B.cb
  lg : m ((c : Thread nD τ).loc main_arg5) = co1 B.lg
  lb : m ((c : Thread nD τ).loc main_arg6) = co1 B.lb
  sw : m ((c : Thread nD τ).loc main_arg7) = co2 B.sw
  pw : m ((c : Thread nD τ).loc main_arg8) = co3 B.pw
  ps : m ((c : Thread nD τ).loc main_arg9) = co1 B.ps
  gg : m ((c : Thread nD τ).loc main_arg10) = co1 B.gg
  gb : m ((c : Thread nD τ).loc main_arg11) = co1 B.gb
  ws : m ((c : Thread nD τ).loc main_arg12) = co3 B.ws
  bs : m ((c : Thread nD τ).loc main_arg13) = co2 B.bs
  wout : m ((c : Thread nD τ).loc main_arg14) = co2 B.wout

/-- The host lines before the kernel. -/
abbrev hostOps := [hostOps0 (F := Ideal), hostOps0_1, hostOps0_2, hostOps0_3, hostOps0_4, hostOps0_5, hostOps0_6, hostOps0_7, hostOps0_8].flatten

variable {m c B} (A : Args m c B)
include A

/-- The gain, as a row. -/
theorem V_g : V m c main_v44 = co2 fun _ j => B.gain j := by
  have eg : m (c, Proc.tc.devRef main_arg1) = co1 B.gain := A.gain
  unfold V
  after_reads_simp
  rw [eg]
  funext i
  pointwise
  rfl

/-- The taps of the two convolutions, with rows of zeros after them. -/
theorem V_cw : V m c main_v0 = co2 (fun k j => if k < 31 then B.cw k j else 0) ∧ V m c main_v1 = co2 (fun k j => if k < 3 then B.sw k j else 0) := by
  obtain ⟨m', A'⟩ := Blk.exists_args B c
  have e3 : m (c, Proc.tc.devRef main_arg3) = m' (c, Proc.tc.devRef Cert.MixBwdIdeal.main_arg3) := A.cw.trans A'.cw.symm
  have e7 : m (c, Proc.tc.devRef main_arg7) = m' (c, Proc.tc.devRef Cert.MixBwdIdeal.main_arg7) := A.sw.trans A'.sw.symm
  refine ⟨Eq.trans ?_ (Blk.V_cw A').1, Eq.trans ?_ (Blk.V_cw A').2⟩
  all_goals
    unfold V Cert.MixBwdIdeal.Gen.V
    after_reads_simp
    first | rw [e3] | rw [e7]

/-- The six vectors, one row each. -/
theorem V_vec : V m c main_v12 = co2 (fun k j => if k = 0 then B.cb j else if k = 1 then B.lg j else if k = 2 then B.lb j else if k = 3 then B.ps j
    else if k = 4 then B.gg j else if k = 5 then B.gb j else 0) := by
  obtain ⟨m', A'⟩ := Blk.exists_args B c
  have e4 : m (c, Proc.tc.devRef main_arg4) = m' (c, Proc.tc.devRef Cert.MixBwdIdeal.main_arg4) := A.cb.trans A'.cb.symm
  have e5 : m (c, Proc.tc.devRef main_arg5) = m' (c, Proc.tc.devRef Cert.MixBwdIdeal.main_arg5) := A.lg.trans A'.lg.symm
  have e6 : m (c, Proc.tc.devRef main_arg6) = m' (c, Proc.tc.devRef Cert.MixBwdIdeal.main_arg6) := A.lb.trans A'.lb.symm
  have e9 : m (c, Proc.tc.devRef main_arg9) = m' (c, Proc.tc.devRef Cert.MixBwdIdeal.main_arg9) := A.ps.trans A'.ps.symm
  have e10 : m (c, Proc.tc.devRef main_arg10) = m' (c, Proc.tc.devRef Cert.MixBwdIdeal.main_arg10) := A.gg.trans A'.gg.symm
  have e11 : m (c, Proc.tc.devRef main_arg11) = m' (c, Proc.tc.devRef Cert.MixBwdIdeal.main_arg11) := A.gb.trans A'.gb.symm
  obtain ⟨U, hU⟩ : ∃ U, U = StableHlo.upto hostOps (fun b => m (c, b)) 18 := ⟨_, rfl⟩
  obtain ⟨U', hU'⟩ : ∃ U, U = StableHlo.upto Blk.hostOps (fun b => m' (c, b)) 18 := ⟨_, rfl⟩
  have h : U (Proc.tc.devRef main_v4) = U' (Proc.tc.devRef Cert.MixBwdIdeal.main_v4) ∧ U (Proc.tc.devRef main_v5) = U' (Proc.tc.devRef Cert.MixBwdIdeal.main_v5)
      ∧ U (Proc.tc.devRef main_v6) = U' (Proc.tc.devRef Cert.MixBwdIdeal.main_v6) ∧ U (Proc.tc.devRef main_v7) = U' (Proc.tc.devRef Cert.MixBwdIdeal.main_v7)
      ∧ U (Proc.tc.devRef main_v8) = U' (Proc.tc.devRef Cert.MixBwdIdeal.main_v8) ∧ U (Proc.tc.devRef main_v9) = U' (Proc.tc.devRef Cert.MixBwdIdeal.main_v9)
      ∧ U (Proc.tc.devRef main_v10) = U' (Proc.tc.devRef Cert.MixBwdIdeal.main_v10) ∧ U (Proc.tc.devRef main_v11) = U' (Proc.tc.devRef Cert.MixBwdIdeal.main_v11) := by
    rw [hU, hU']
    unfold hostOps Blk.hostOps
    refine ⟨?_, ?_, ?_, ?_, ?_, ?_, ?_, ?_⟩
    all_goals
      after_reads_simp
      try simp only [e4, e5, e6, e9, e10, e11]
      try rfl
  obtain ⟨h4, h5, h6, h7, h8, h9, h10, h11⟩ := h
  unfold hostOps at hU
  unfold Blk.hostOps at hU'
  refine Eq.trans ?_ (Blk.V_vec A')
  unfold V Cert.MixBwdIdeal.Gen.V
  after_reads_simp
  rw [← hU, ← hU']
  simp only [Matrix.cons_val]
  rw [h4, h5, h6, h7, h8, h9, h10, h11]

/-- The pooling weights, as the blocks of a diagonal. -/
theorem V_pbd : V m c main_v26 = co2 B.pbd := by
  obtain ⟨m', A'⟩ := Blk.exists_args B c
  have e8 : m (c, Proc.tc.devRef main_arg8) = m' (c, Proc.tc.devRef Cert.MixBwdIdeal.main_arg8) := A.pw.trans A'.pw.symm
  have w (x u) (h) (x' u') (s s') (ex : x = x') (eu : u = u') (es : ∀ k, s k = s' k) :
      Host.dynamicUpdateSlice (s := S256x256) (u := S64x64) (α := EReal) x u s h = Host.dynamicUpdateSlice x' u' s' h := by
    rw [ex, eu, funext es]
  have words : StableHlo.upto hostOps (fun b => m (c, b)) 25 (Proc.tc.devRef main_c_3) = StableHlo.upto Blk.hostOps (fun b => m' (c, b)) 25 (Proc.tc.devRef Cert.MixBwdIdeal.main_c_3)
      ∧ StableHlo.upto hostOps (fun b => m (c, b)) 25 (Proc.tc.devRef main_c_4) = StableHlo.upto Blk.hostOps (fun b => m' (c, b)) 25 (Proc.tc.devRef Cert.MixBwdIdeal.main_c_4)
      ∧ StableHlo.upto hostOps (fun b => m (c, b)) 30 (Proc.tc.devRef main_c_5) = StableHlo.upto Blk.hostOps (fun b => m' (c, b)) 30 (Proc.tc.devRef Cert.MixBwdIdeal.main_c_5)
      ∧ StableHlo.upto hostOps (fun b => m (c, b)) 30 (Proc.tc.devRef main_c_6) = StableHlo.upto Blk.hostOps (fun b => m' (c, b)) 30 (Proc.tc.devRef Cert.MixBwdIdeal.main_c_6)
      ∧ StableHlo.upto hostOps (fun b => m (c, b)) 35 (Proc.tc.devRef main_c_7) = StableHlo.upto Blk.hostOps (fun b => m' (c, b)) 35 (Proc.tc.devRef Cert.MixBwdIdeal.main_c_7)
      ∧ StableHlo.upto hostOps (fun b => m (c, b)) 35 (Proc.tc.devRef main_c_8) = StableHlo.upto Blk.hostOps (fun b => m' (c, b)) 35 (Proc.tc.devRef Cert.MixBwdIdeal.main_c_8)
      ∧ StableHlo.upto hostOps (fun b => m (c, b)) 40 (Proc.tc.devRef main_c_9) = StableHlo.upto Blk.hostOps (fun b => m' (c, b)) 40 (Proc.tc.devRef Cert.MixBwdIdeal.main_c_9)
      ∧ StableHlo.upto hostOps (fun b => m (c, b)) 40 (Proc.tc.devRef main_c_10) = StableHlo.upto Blk.hostOps (fun b => m' (c, b)) 40 (Proc.tc.devRef Cert.MixBwdIdeal.main_c_10) := by
    unfold hostOps Blk.hostOps
    refine ⟨?_, ?_, ?_, ?_, ?_, ?_, ?_, ?_⟩
    all_goals
      after_reads_simp
  obtain ⟨w3, w4, w5, w6, w7, w8, w9, w10⟩ := words
  have at_first {f f' : S_.Idx → BitVec 32} (h : f = f') : (f (Shape.Idx.first h_S_)).toInt = (f' (Shape.Idx.first h_S_)).toInt := by rw [h]
  refine Eq.trans ?_ (Blk.V_pbd A')
  unfold V Cert.MixBwdIdeal.Gen.V
  after_reads_simp
  rw [e8]
  refine congrArg (fun x : FVec Ideal S256x256 .f32 => truncf .bf16 x bitsLt_bf16_f32) (w _ _ _ _ _ _ _ (w _ _ _ _ _ _ _ (w _ _ _ _ _ _ _ (w _ _ _ _ _ _ _ rfl rfl ?_) rfl ?_) rfl ?_) rfl ?_)
  · exact Fin.forall_fin_two.2 ⟨at_first w3, at_first w4⟩
  · exact Fin.forall_fin_two.2 ⟨at_first w5, at_first w6⟩
  · exact Fin.forall_fin_two.2 ⟨at_first w7, at_first w8⟩
  · exact Fin.forall_fin_two.2 ⟨at_first w9, at_first w10⟩

/-- The lower triangles of the gating weights side by side, and the gating's added rows. -/
theorem V_wcat : V m c main_v33 = co2 (fun t s => B.low (s / 128) t (s % 128)) ∧ V m c main_v38 = co2 (fun t j => B.bs (j / 64) t) := by
  obtain ⟨m', A'⟩ := Blk.exists_args B c
  have e12 : m (c, Proc.tc.devRef main_arg12) = m' (c, Proc.tc.devRef Cert.MixBwdIdeal.main_arg12) := A.ws.trans A'.ws.symm
  have e13 : m (c, Proc.tc.devRef main_arg13) = m' (c, Proc.tc.devRef Cert.MixBwdIdeal.main_arg13) := A.bs.trans A'.bs.symm
  refine ⟨Eq.trans ?_ (Blk.V_wcat A').1, Eq.trans ?_ (Blk.V_wcat A').2.2⟩
  all_goals
    unfold V Cert.MixBwdIdeal.Gen.V
    after_reads_simp
    first | rw [e12] | rw [e13]
    rfl

/-- The two large weights in one array. -/
theorem V_w : V m c main_v43 = co3 fun a b j => if b < 256 then B.win j (256 * a + b) else B.wout (128 * a + (b - 256)) j := by
  obtain ⟨m', A'⟩ := Blk.exists_args B c
  have e2 : m (c, Proc.tc.devRef main_arg2) = m' (c, Proc.tc.devRef Cert.MixBwdIdeal.main_arg2) := A.win.trans A'.win.symm
  have e14 : m (c, Proc.tc.devRef main_arg14) = m' (c, Proc.tc.devRef Cert.MixBwdIdeal.main_arg14) := A.wout.trans A'.wout.symm
  have h : StableHlo.upto hostOps (fun b => m (c, b)) 70 (Proc.tc.devRef main_v40) = StableHlo.upto Blk.hostOps (fun b => m' (c, b)) 70 (Proc.tc.devRef Cert.MixBwdIdeal.main_v40)
      ∧ StableHlo.upto hostOps (fun b => m (c, b)) 70 (Proc.tc.devRef main_v41) = StableHlo.upto Blk.hostOps (fun b => m' (c, b)) 70 (Proc.tc.devRef Cert.MixBwdIdeal.main_v41) := by
    unfold hostOps Blk.hostOps
    refine ⟨?_, ?_⟩
    all_goals
      after_reads_simp
      first | rw [e2] | rw [e14]
      try rfl
  refine Eq.trans ?_ (Blk.V_w A')
  unfold V Cert.MixBwdIdeal.Gen.V
  after_reads_simp
  rw [h.1, h.2]
end Cert.MixF

end
-- ==== Proof.FwdReal.lean ====
/- The mixer's forward formulas over the reals that its gradient has no use for. -/
module

public import proofs.«01_k».proof.Proof.MixReal

@[expose] public section

set_option maxHeartbeats 1000000

noncomputable section

namespace Cert.Mix.Par

open Cert.Base Cert.Ffn

variable (B : Par)

/-- The four branches side by side. -/
def MO (s j : ℕ) : ℝ :=
  if j < 256 then B.LN s j * sg (B.LN s j)
  else if j < 512 then B.P s (512 + (j - 256)) * B.CZ s (j - 256)
  else if j < 768 then B.YC s (j - 512) * B.ps (j - 512)
  else B.P s (1536 + (j - 768)) * B.MX s (j - 768)
/-- The rows that come out. -/
def OUT (s j : ℕ) : ℝ := B.X s j + ∑ k : Fin 1024, B.MO s k * B.wout k j

end Cert.Mix.Par

end
-- ==== Proof.FwdTile.lean ====
/- What one grid point of the mixer's forward kernel leaves in the normalized rows, their product, and the rows carried
   to the next point. -/
module

public import proofs.«01_k».proof.Proof.FwdRead

@[expose] public section

set_option maxRecDepth 16384
set_option maxHeartbeats 4000000

noncomputable section

namespace Cert.MixF

open Cert.MixFwdIdeal Cert.MixFwdIdeal.Gen Idealize.ShloMosaic Idealize.ShloMosaic.TcCoe Idealize.SL.Sem Cert.Base Cert.Ffn Cert.Mix Cert.Mix.Blk

/-- Rows of the shifted copies of the gated rows. -/
abbrev sh (A : In) (o : ℕ) : S1x256x256.Idx → EReal := co3 (l := 1) (m := 256) (n := 256) fun _ t j => A.y (o + t) j
abbrev di (A : In) (o : ℕ) : S256x256.Idx → EReal := co2 (m := 256) (n := 256) fun t j => A.y (o + t) j

/-- The convolution, tap by tap. -/
theorem conv_eq (A : In) (hc : ∀ r j, A.c r j = (∑ k ∈ Finset.range 31, A.y (2 + k + r) j * A.cw k j) + A.vec 0 j) :
    k0_pay28 (F := Ideal) (co2 A.cw) (k0_pay26 (co2 A.cw) (k0_pay24 (co2 A.cw) (k0_pay22 (co2 A.cw) (k0_pay20 (co2 A.cw) k0_pay18 (k0_pay19 (co2 A.vec))
        (sh A 2) (sh A 3) (sh A 4) (sh A 5) (sh A 6) (sh A 7)) (k0_pay21 (co2 A.cw)) (di A 8) (sh A 9) (sh A 10) (sh A 11) (sh A 12) (sh A 13) (sh A 14))
        (k0_pay23 (co2 A.cw)) (sh A 15) (di A 16) (sh A 17) (sh A 18) (sh A 19) (sh A 20) (sh A 21)) (k0_pay25 (co2 A.cw)) (sh A 22) (sh A 23) (di A 24)
        (sh A 25) (sh A 26) (sh A 27) (sh A 28)) (k0_pay27 (co2 A.cw)) (sh A 29) (sh A 30) (sh A 31) (di A 32) = co2 A.c := by
  simp only [k0_pay18, k0_pay19, k0_pay20, k0_pay21, k0_pay22, k0_pay23, k0_pay24, k0_pay25, k0_pay26, k0_pay27, k0_pay28, cast_down, slice_co2, bcast_row, bcast_zero,
    mulf_co2, addf_co2, Nat.zero_add, Nat.add_zero]
  refine co2_congr fun t j _ _ => ?_
  rw [hc]
  simp only [Finset.sum_range_succ, Finset.sum_range_zero, Nat.reduceAdd]
  ring

variable {m : (ℓ : Loc nD τ sig) → Buf (Elt Ideal) ℓ} {c : Dev nD} {t : Fin cfg0.N} {A : In} (T : Tile m c t A)
include T

theorem h_tile : (outsAt0 m c t.val t.isLt).2.2.1 = co2 (hh A.x A.gain) := by
  by_cases h0 : t.val % 32 = 0
  case' pos =>
    rw [outsAt0_A m c t h0]
    dsimp only
    unfold out0_A_12 kernelRun0_A
  case' neg =>
    rw [outsAt0_B m c t h0]
    dsimp only
    unfold out0_B_12 kernelRun0_B
  all_goals
    dsimp only
    sl_unfold_words
    rw [read_last]
    simp only [View.readAt_eq_ld, (hs0_0 t).read_unread, (hs0_1 t).read_unread, T.x, T.gain, ld_f32, Nat.zero_add, h_eq]

theorem p_tile : (outsAt0 m c t.val t.isLt).2.2.2.1 = co2 A.pm := by
  by_cases h0 : t.val % 32 = 0
  case' pos =>
    rw [outsAt0_A m c t h0]
    dsimp only
    unfold out0_A_13 kernelRun0_A
  case' neg =>
    rw [outsAt0_B m c t h0]
    dsimp only
    unfold out0_B_13 kernelRun0_B
  all_goals
    dsimp only
    sl_unfold_words
    rw [read_last]
    simp only [View.readAt_eq_ld, (hs0_0 t).read_unread, (hs0_1 t).read_unread, (hs0_2 t).read_unread, T.x, T.gain, T.wi, ld_f32, ld3_bf16, Nat.zero_add, p_eq A T.p]

theorem carry_tile : (outsAt0 m c t.val t.isLt).2.2.2.2.2 = co2 fun r j => A.pm (224 + r) j := by
  by_cases h0 : t.val % 32 = 0
  case' pos =>
    rw [outsAt0_A m c t h0]
    dsimp only
    unfold sout0_A_0 kernelRun0_A
  case' neg =>
    rw [outsAt0_B m c t h0]
    dsimp only
    unfold sout0_B_0 kernelRun0_B
  all_goals
    dsimp only
    sl_unfold_words
    simp (disch := decide) only [↓ View.readCov_skip, ↓ View.readCov_cons_toLoadRect]
    rw [read_last]
    simp only [View.readAt_eq_ld, (hs0_0 t).read_unread, (hs0_1 t).read_unread, (hs0_2 t).read_unread, T.x, T.gain, T.wi, ld_f32, ld3_bf16, Nat.zero_add, p_eq A T.p,
      readCov_whole16, carry_eq]

theorem conv_tile : (outsAt0 m c t.val t.isLt).2.2.2.2.1 = co2 A.c := by
  by_cases h0 : t.val % 32 = 0
  case' pos =>
    rw [outsAt0_A m c t h0]
    dsimp only
    unfold out0_A_14 kernelRun0_A
    dsimp only
    sl_unfold_words
    rw [T.zero h0]
  case' neg =>
    rw [outsAt0_B m c t h0, T.later h0]
    dsimp only
    unfold out0_B_14 kernelRun0_B
    dsimp only
    sl_unfold_words
  all_goals
    simp (disch := decide) only [↓ View.readCov_skip, ↓ View.readCov_cons_toLoadRect]
    rw [read_last]
    simp only [View.readAt_eq_ld, (hs0_0 t).read_unread, (hs0_1 t).read_unread, (hs0_2 t).read_unread, (hs0_4 t).read_unread, (hs0_5 t).read_unread, (Memref.isWhole_whole _).read_unread,
      T.x, T.gain, T.wi, T.cw, T.vec, ld_f32, ld_bf16, ld3_bf16, Nat.zero_add, p_eq A T.p, readCov_whole16, prev_eq, prev_eq', yp_eq, ym_eq, y_read, vec_eq]
    simp only [k0_pay10, k0_pay11, k0_pay12, k0_pay13, k0_pay14, k0_pay15, k0_pay16, cast_up, readCov_slot, cw_eq, ym_at, ← Nat.add_assoc, Nat.reduceAdd, Nat.add_zero]
    exact conv_eq A T.conv

end Cert.MixF

end
-- ==== Proof.FwdTile2.lean ====
/- What one grid point of the mixer's forward kernel leaves in the gated branches and in the result. -/
module

public import proofs.«01_k».proof.Proof.FwdTile

@[expose] public section

set_option maxRecDepth 16384
set_option maxHeartbeats 4000000

noncomputable section

namespace Cert.MixF

open Cert.MixFwdIdeal Cert.MixFwdIdeal.Gen Idealize.ShloMosaic Idealize.ShloMosaic.TcCoe Idealize.SL.Sem Cert.Base Cert.Ffn Cert.Mix Cert.Mix.Blk

variable {m : (ℓ : Loc nD τ sig) → Buf (Elt Ideal) ℓ} {c : Dev nD} {t : Fin cfg0.N} {A : In} (T : Tile m c t A)
include T

theorem mix_tile : (outsAt0 m c t.val t.isLt).2.1 = co2 A.mx := by
  by_cases h0 : t.val % 32 = 0
  case' pos =>
    rw [outsAt0_A m c t h0]
    dsimp only
    unfold out0_A_11
    refine read_writes_eq _ _ _ (fun y => by apply cover0_A_11) _ ?_
    unfold kernelRun0_A
    dsimp only
    sl_unfold_words
    rw [T.zero h0]
  case' neg =>
    rw [outsAt0_B m c t h0, T.later h0]
    dsimp only
    unfold out0_B_11
    refine read_writes_eq _ _ _ (fun y => by apply cover0_B_11) _ ?_
    unfold kernelRun0_B
    dsimp only
    sl_unfold_words
  all_goals
    simp (disch := decide) only [↓ View.readCov_skip, ↓ View.readCov_cons_toLoadRect]
    simp only [View.readAt_eq_ld, (hs0_0 t).read_unread, (hs0_1 t).read_unread, (hs0_2 t).read_unread, (hs0_4 t).read_unread, (hs0_5 t).read_unread,
      (hs0_6 t).read_unread, (hs0_7 t).read_unread, (hs0_8 t).read_unread, (hs0_9 t).read_unread, (Memref.isWhole_whole _).read_unread,
      T.x, T.gain, T.wi, T.cw, T.vec, T.sw, T.pbd, T.wcat, T.bst, T.i, ld_f32, ld_bf16, ld3_bf16, Nat.zero_add, p_eq A T.p, readCov_whole16, prev_eq, prev_eq', yp_eq, ym_eq, y_read, vec_eq,
      zp_eq, zm_eq, z_read, ep_eq, em_eq, em_eq', e_read, w_eq, e2_eq, v_eq, m0_eq, m1_eq, gu_eq, gate_eq, gate_eq', g1_eq]
    simp only [k0_pay10, k0_pay11, k0_pay12, k0_pay13, k0_pay14, k0_pay15, k0_pay16, cast_up, readCov_slot, cw_eq, ym_at, zm_at, ← Nat.add_assoc, Nat.reduceAdd, Nat.add_zero]
    rw [hat_of A.c _ _ _ _ _ _ _ (conv_eq A T.conv), silu_eq, sw_eq, cz_eq]
    iterate 3 rw [within_at (ho := by decide) (hk := by decide)]
    rw [e4_eq]
    iterate 3 rw [within_at (ho := by decide) (hk := by decide)]
    rw [e8_eq]
    iterate 2 rw [within_at (ho := by decide) (hk := by decide)]
    rw [w_eq, yc_eq A T.lt, gate_eq, gate_eq']
    exact mx_pieces A

theorem y_tile : (outsAt0 m c t.val t.isLt).1 = co2 A.out := by
  by_cases h0 : t.val % 32 = 0
  case' pos =>
    rw [outsAt0_A m c t h0]
    dsimp only
    unfold out0_A_10
    unfold kernelRun0_A
    dsimp only
    sl_unfold_words
    rw [T.zero h0]
  case' neg =>
    rw [outsAt0_B m c t h0, T.later h0]
    dsimp only
    unfold out0_B_10
    unfold kernelRun0_B
    dsimp only
    sl_unfold_words
  all_goals
    simp (disch := decide) only [↓ View.readCov_skip, ↓ View.readCov_cons_toLoadRect]
    rw [read_last]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (Memref.isWhole_whole _).read_unread,
      T.x, T.gain, T.wi, T.wo, T.cw, T.vec, T.sw, T.pbd, T.wcat, T.bst, T.i, ld_f32, ld_bf16, ld3_bf16, Nat.zero_add, p_eq A T.p, readCov_whole16, prev_eq, prev_eq', yp_eq, ym_eq, y_read, vec_eq,
      zp_eq, zm_eq, z_read, ep_eq, em_eq, em_eq', e_read, w_eq, e2_eq, v_eq, m0_eq, m1_eq, gu_eq, gate_eq, gate_eq', g1_eq]
    simp only [k0_pay10, k0_pay11, k0_pay12, k0_pay13, k0_pay14, k0_pay15, k0_pay16, cast_up, readCov_slot, cw_eq, ym_at, zm_at, ← Nat.add_assoc, Nat.reduceAdd, Nat.add_zero]
    rw [hat_of A.c _ _ _ _ _ _ _ (conv_eq A T.conv), silu_eq, sw_eq, cz_eq]
    iterate 3 rw [within_at (ho := by decide) (hk := by decide)]
    rw [e4_eq]
    iterate 3 rw [within_at (ho := by decide) (hk := by decide)]
    rw [e8_eq]
    iterate 2 rw [within_at (ho := by decide) (hk := by decide)]
    rw [w_eq, yc_eq A T.lt, gate_eq, gate_eq']
    rw [mx_read (A := A) (hL := mx_pieces A), y_eq]

end Cert.MixF

end
-- ==== Proof.FwdBlock.lean ====
/- The blocks of its arguments that the mixer's forward kernel reads at each grid point, and what a tile's values are in the
   whole arrays. -/
module

public import proofs.«01_k».proof.Proof.FwdHost
public import proofs.«01_k».proof.Proof.MixBlock
public import proofs.«01_k».proof.Proof.FwdReal
public import proofs.«01_k».proof.Proof.FwdTile2

@[expose] public section

set_option maxRecDepth 16384
set_option maxHeartbeats 1000000

noncomputable section

namespace Cert.Mix.Par
open Cert.Base Cert.Ffn
variable (B : Par) {i : ℕ} (hi : i < 32)
include hi

/-- The convolution's rows. -/
theorem f_conv (r j : ℕ) : (B.tile i).c r j = (∑ k ∈ Finset.range 31, (B.tile i).y (2 + k + r) j * (B.tile i).cw k j) + (B.tile i).vec 0 j := by
  rw [Finset.sum_congr rfl fun k hk => by
    rw [t_y' B hi, show (B.tile i).cw k j = B.cw k j from if_pos (Finset.mem_range.mp hk)]]
  rfl

/-- The branches side by side. -/
theorem f_mx (r j : ℕ) (hr : r < 256) : (B.tile i).mx r j = B.MO (256 * i + r) j := by
  have e : (B.tile i).lnf r j = B.LN (256 * i + r) j := by
    unfold In.lnf LN
    rw [hat_row (R := (B.tile i).c) (R' := B.C) (q := r) (s := 256 * i + r) (fun _ => rfl)]
    rfl
  unfold In.mx MO
  rw [e, t_cz B hi, t_yc B hi _ _ hr, t_mixed B hi]
  rfl

/-- The rows that come out. -/
theorem f_out (r j : ℕ) (hr : r < 256) : (B.tile i).out r j = B.OUT (256 * i + r) j := by
  unfold In.out OUT
  refine congrArg (B.X (256 * i + r) j + ·) (Finset.sum_congr rfl fun k _ => ?_)
  rw [f_mx B hi r k hr, show (B.tile i).wo (k.val / 128) (k.val % 128) j = B.wout (128 * (k.val / 128) + k.val % 128) j from rfl, Nat.div_add_mod]
end Cert.Mix.Par

namespace Cert.MixF

open Cert.MixFwdIdeal Cert.MixFwdIdeal.Gen Idealize.ShloMosaic Idealize.ShloMosaic.TcCoe Idealize.SL.Sem Cert.Base Cert.Ffn Cert.Mix

variable {m : (ℓ : Loc nD τ sig) → Buf (Elt Ideal) ℓ} {c : Dev nD} {B : Par} (A : Args m c B)

/-- The blocks that move with the grid, and those that stay. -/
theorem at_rows : ∀ t : Fin cfg0.N, (grid0.coords t 0).val = t.val ∧ win0_0.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)
theorem at_whole : ∀ t : Fin cfg0.N, win0_1.index t = ![0, 0] ∧ win0_2.index t = ![0, 0, 0] ∧ win0_3.index t = ![0, 2, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

include A

/-- What a grid point reads, the tile before having left its last rows. -/
theorem tile_after (t : Fin cfg0.N) (hp : ∀ _ : ¬ t.val % 32 = 0, (outsAt0 m c (t.val - 1) (Nat.lt_of_le_of_lt (Nat.sub_le _ _) t.isLt)).2.2.2.2.2
      = co2 fun r j => (B.tile (t.val - 1)).pm (224 + r) j) : Tile m c t (B.tile t.val) := by
  obtain ⟨i, i0, -⟩ := at_rows t
  obtain ⟨i1, i2, i3, i4, i5, i6, i7, i8, i9⟩ := at_whole t
  have hN : t.val < 32 := lt_of_lt_of_eq t.isLt Gen.N_0
  constructor
  · exact i
  · funext x; blk_simp [iblk]; rw [V_main_arg0, A.x]
    refine co2_at _ _ x ?_ ?_ <;> blk_simp [i0] <;> omega
  · funext x; blk_simp [iblk]; rw [V_g A]
    exact co2_at (a := 0) _ _ x (by blk_simp [i1]) (by blk_simp [i1])
  · funext x; idx_bounds x; unfold X0_2 Pipeline.Window.fill
    rw [dif_pos (moved0_2 t x)]
    blk_simp [iblk]; rw [V_w A, co3_apply, co3_apply]; blk_simp [i2]
    exact congrArg _ (if_pos hb1)
  · funext x; idx_bounds x; blk_simp [iblk]; rw [V_w A, co3_apply, co3_apply]; blk_simp [i3]
    refine (congrArg _ (if_neg (by omega))).trans ?_
    show ((B.wout _ _ : ℝ) : EReal) = (B.wout _ _ : ℝ)
    congr 2
    omega
  · funext x; blk_simp [iblk]; rw [(V_cw A).1]
    refine (Blk.co2_same _ _ x ?_ ?_).trans rfl <;> blk_simp [i4]
  · funext x; blk_simp [iblk]; rw [V_vec A]
    refine (Blk.co2_same _ _ x ?_ ?_).trans rfl <;> blk_simp [i5]
  · funext x; blk_simp [iblk]; rw [(V_cw A).2]
    refine (Blk.co2_same _ _ x ?_ ?_).trans rfl <;> blk_simp [i6]
  · funext x; blk_simp [iblk]; rw [V_pbd A]
    refine (Blk.co2_same _ _ x ?_ ?_).trans rfl <;> blk_simp [i7]
  · funext x; blk_simp [iblk]; rw [(V_wcat A).1]
    refine (Blk.co2_same _ _ x ?_ ?_).trans rfl <;> blk_simp [i8]
  · funext x; blk_simp [iblk]; rw [(V_wcat A).2]
    refine (Blk.co2_same _ _ x ?_ ?_).trans rfl <;> blk_simp [i9]
  · intro h r j _
    unfold In.pq
    rw [Par.t_se, if_pos (show t.val = 0 by omega), mul_zero]
  · intro h
    refine (hp h).trans (co2_congr fun r j _ _ => ?_)
    unfold In.pq
    rw [Par.t_se, if_neg (show ¬ t.val = 0 by omega), mul_one]
    show B.P (256 * (t.val - 1) + (224 + r)) j = B.P (32 * (8 * t.val - 1) + r) j
    rw [show 256 * (t.val - 1) + (224 + r) = 32 * (8 * t.val - 1) + r by omega]
  · intro r j
    show B.P (256 * t.val + r) j = ∑ k : Fin 1024, hh B.X B.gain (256 * t.val + r) k * B.win k (256 * (j / 256) + j % 256)
    rw [Nat.div_add_mod]
    rfl
  · exact Par.f_conv B hN

/-- What a grid point reads. -/
theorem tile (n : ℕ) (hn : n < cfg0.N) : Tile m c ⟨n, hn⟩ (B.tile n) := by
  induction n with
  | zero => exact tile_after A ⟨0, hn⟩ fun h => absurd rfl h
  | succ n ih => exact tile_after A ⟨n + 1, hn⟩ fun _ => carry_tile (ih (by omega))
end Cert.MixF

end
-- ==== Proof.FwdArray.lean ====
/- What the mixer's forward kernel leaves in its five result arrays. -/
module

public import proofs.«01_k».proof.Proof.FwdBlock

@[expose] public section

set_option maxRecDepth 16384
set_option maxHeartbeats 1000000

noncomputable section

namespace Cert.MixF

open Cert.MixFwdIdeal Cert.MixFwdIdeal.Gen Idealize.ShloMosaic Idealize.ShloMosaic.TcCoe Idealize.SL.Sem Cert.Base Cert.Ffn Cert.Mix
open Idealize.ShloMosaic.Pipeline (Dat)

variable {m : (ℓ : Loc nD τ sig) → Buf (Elt Ideal) ℓ} {c : Dev nD} {B : Par} (A : Args m c B)
include A

/-- The five arrays of rows. -/
theorem arrays : (dats m 0 c).arrAt 10 cfg0.N = co2 B.OUT ∧ (dats m 0 c).arrAt 11 cfg0.N = co2 B.MO ∧ (dats m 0 c).arrAt 12 cfg0.N = co2 (hh B.X B.gain)
    ∧ (dats m 0 c).arrAt 13 cfg0.N = co2 B.P ∧ (dats m 0 c).arrAt 14 cfg0.N = co2 B.C := by
  refine ⟨(dats m 0 c).arrAt_eq_of_covers 10 _ (by decide +kernel) fun t hf y => ?_, (dats m 0 c).arrAt_eq_of_covers 11 _ (by decide +kernel) fun t hf y => ?_,
    (dats m 0 c).arrAt_eq_of_covers 12 _ (by decide +kernel) fun t hf y => ?_, (dats m 0 c).arrAt_eq_of_covers 13 _ (by decide +kernel) fun t hf y => ?_,
    (dats m 0 c).arrAt_eq_of_covers 14 _ (by decide +kernel) fun t hf y => ?_⟩
  all_goals
    have hN : t.val < 32 := lt_of_lt_of_eq t.isLt Gen.N_0
    have T := tile A t.val t.isLt
    have e10 := (y_tile T).trans (co2_congr fun r j hr _ => Par.f_out B hN r j hr)
    have e11 := (mix_tile T).trans (co2_congr fun r j hr _ => Par.f_mx B hN r j hr)
    have e12 := h_tile T
    have e13 := p_tile T
    have e14 := conv_tile T
    obtain ⟨-, -, i10, i11, i12, i13, i14⟩ := at_rows t
    blk_simp
    first | rw [after0_10, e10] | rw [after0_11, e11] | rw [after0_12, e12] | rw [after0_13, e13] | rw [after0_14, e14]
    symm
    refine (co2_at (a := 256 * t.val) _ _ y ?_ ?_).trans rfl
    · blk_simp [i10, i11, i12, i13, i14]; omega
    · blk_simp [i10, i11, i12, i13, i14]

end Cert.MixF

end
-- ==== Proof.FwdRef.lean ====
/- What the mixer's forward reference computes at finite arguments, over the reals. It runs the same operations as the
   forward part of the reference of the mixer's gradient, whose values are known. -/
module

public import proofs.«01_k».proof.Proof.MixRefOut
public import proofs.«01_k».proof.Proof.FwdReal
public import proofs.«01_k».proof.Proof.Gen.MixFwdRefIdeal.Read

@[expose] public section

set_option maxRecDepth 16384
set_option maxHeartbeats 1000000

noncomputable section

namespace Cert.MixFwdRefIdeal.Read

open Cert Cert.Base Cert.Ffn Cert.Mix Cert.Mix.Par Cert.Mix.Ref Idealize.ShloMosaic

variable (B : Par)

/-- The normalized input times its gain. -/
theorem v12 : val_main_v12 (F := Ideal) (co2 B.X) (co1 B.gain) = co2 (hh B.X B.gain) := by
  have e : val_main_v9 (F := Ideal) (co2 B.X) = co2 (xh B.X) := Ref.e13 B
  funext i
  simp only [val_main_v12_apply, val_main_v11_apply, val_main_v10_apply, e, co1_apply, co2_apply, Ideal.mulf_def, ← EReal.coe_mul]
  rfl
/-- The input product. -/
theorem p13 : val_main_v13 (F := Ideal) (co2 B.X) (co1 B.gain) (co2 B.win) = co2 B.P := by
  funext i
  simp only [val_main_v13_apply, v12, co2_apply, ← EReal.coe_mul, coe_sum]
  rfl
/-- The gated input of the convolution. -/
theorem v28 : val_main_v28 (F := Ideal) (co2 B.X) (co1 B.gain) (co2 B.win) = co2 B.Y := by
  refine Eq.trans ?_ (e36 B)
  unfold val_main_v28 val_main_v27 val_main_v25 val_main_v23 val_main_v22 val_main_v15 val_main_v24 val_main_cst_2 val_main_v26 val_main_cst_3 val_main_v14
  unfold MixBwdRefIdeal.Read.val_main_v36 MixBwdRefIdeal.Read.val_main_v32 MixBwdRefIdeal.Read.val_main_v30 MixBwdRefIdeal.Read.val_main_v28 MixBwdRefIdeal.Read.val_main_v27 MixBwdRefIdeal.Read.val_main_v20 MixBwdRefIdeal.Read.val_main_v29 MixBwdRefIdeal.Read.val_main_cst_4 MixBwdRefIdeal.Read.val_main_v31 MixBwdRefIdeal.Read.val_main_cst_5 MixBwdRefIdeal.Read.val_main_v19
  rw [p13, e18]
/-- The convolution. -/
theorem v51 : val_main_v51 (F := Ideal) (co2 B.X) (co1 B.gain) (co2 B.win) (co2 B.cw) (co1 B.cb) = co2 B.C := by
  refine Eq.trans ?_ (e60 B)
  unfold val_main_v51 val_main_v50 val_main_v49 val_main_v48 val_main_cst_6 val_main_v47 val_main_v46 val_main_v45 val_main_v44 val_main_v43 val_main_v42 val_main_v41 val_main_v40 val_main_c_5 val_main_v39 val_main_v38 val_main_c val_main_v37 val_main_v36 val_main_v34 val_main_v33 val_main_v35 val_main_v32 val_main_v31 val_main_v30 val_main_v29 val_main_cst_4
  unfold MixBwdRefIdeal.Read.val_main_v60 MixBwdRefIdeal.Read.val_main_v59 MixBwdRefIdeal.Read.val_main_v58 MixBwdRefIdeal.Read.val_main_v57 MixBwdRefIdeal.Read.val_main_cst_10 MixBwdRefIdeal.Read.val_main_v56 MixBwdRefIdeal.Read.val_main_v55 MixBwdRefIdeal.Read.val_main_v54 MixBwdRefIdeal.Read.val_main_v53 MixBwdRefIdeal.Read.val_main_v52 MixBwdRefIdeal.Read.val_main_v51 MixBwdRefIdeal.Read.val_main_v50 MixBwdRefIdeal.Read.val_main_v49 MixBwdRefIdeal.Read.val_main_c_9 MixBwdRefIdeal.Read.val_main_v48 MixBwdRefIdeal.Read.val_main_v47 MixBwdRefIdeal.Read.val_main_c MixBwdRefIdeal.Read.val_main_v46 MixBwdRefIdeal.Read.val_main_v45 MixBwdRefIdeal.Read.val_main_v43 MixBwdRefIdeal.Read.val_main_v42 MixBwdRefIdeal.Read.val_main_v44 MixBwdRefIdeal.Read.val_main_v41 MixBwdRefIdeal.Read.val_main_v40 MixBwdRefIdeal.Read.val_main_v38 MixBwdRefIdeal.Read.val_main_v37 MixBwdRefIdeal.Read.val_main_cst_7
  rw [v28, e36]
  rfl
/-- Its normalized rows. -/
theorem v73 : val_main_v73 (F := Ideal) (co2 B.X) (co1 B.gain) (co2 B.win) (co2 B.cw) (co1 B.cb) (co1 B.lg) (co1 B.lb) = co2 B.LN := by
  refine Eq.trans ?_ (e85 B)
  unfold val_main_v73 val_main_v72 val_main_v71 val_main_v70 val_main_v69 val_main_v68 val_main_v67 val_main_v66 val_main_v65 val_main_v64 val_main_v63 val_main_cst_11 val_main_v62 val_main_v61 val_main_cst_10 val_main_v60 val_main_v59 val_main_cst_9 val_main_v58 val_main_v57 val_main_v56 val_main_v55 val_main_v54 val_main_cst_8 val_main_v53 val_main_v52 val_main_cst_7
  unfold MixBwdRefIdeal.Read.val_main_v85 MixBwdRefIdeal.Read.val_main_v84 MixBwdRefIdeal.Read.val_main_v83 MixBwdRefIdeal.Read.val_main_v82 MixBwdRefIdeal.Read.val_main_v81 MixBwdRefIdeal.Read.val_main_v80 MixBwdRefIdeal.Read.val_main_v79 MixBwdRefIdeal.Read.val_main_v78 MixBwdRefIdeal.Read.val_main_v74 MixBwdRefIdeal.Read.val_main_v73 MixBwdRefIdeal.Read.val_main_v72 MixBwdRefIdeal.Read.val_main_cst_15 MixBwdRefIdeal.Read.val_main_v71 MixBwdRefIdeal.Read.val_main_v70 MixBwdRefIdeal.Read.val_main_cst_14 MixBwdRefIdeal.Read.val_main_v69 MixBwdRefIdeal.Read.val_main_v68 MixBwdRefIdeal.Read.val_main_cst_13 MixBwdRefIdeal.Read.val_main_v67 MixBwdRefIdeal.Read.val_main_v66 MixBwdRefIdeal.Read.val_main_v65 MixBwdRefIdeal.Read.val_main_v64 MixBwdRefIdeal.Read.val_main_v63 MixBwdRefIdeal.Read.val_main_cst_12 MixBwdRefIdeal.Read.val_main_v62 MixBwdRefIdeal.Read.val_main_v61 MixBwdRefIdeal.Read.val_main_cst_11
  rw [v51, e60]
/-- The short convolution. -/
theorem v95 : val_main_v95 (F := Ideal) (co2 B.X) (co1 B.gain) (co2 B.win) (co2 B.sw) = co2 B.CZ := by
  refine Eq.trans ?_ (e108 B)
  unfold val_main_v95 val_main_cst_15 val_main_v94 val_main_v93 val_main_v92 val_main_v91 val_main_v90 val_main_v89 val_main_v88 val_main_v87 val_main_c_14 val_main_v86 val_main_v85 val_main_c_13 val_main_v84 val_main_v83 val_main_v81 val_main_v80 val_main_v82 val_main_v79 val_main_v78 val_main_v77 val_main_v75 val_main_v18 val_main_v17 val_main_v76 val_main_cst_12
  unfold MixBwdRefIdeal.Read.val_main_v108 MixBwdRefIdeal.Read.val_main_cst_21 MixBwdRefIdeal.Read.val_main_v107 MixBwdRefIdeal.Read.val_main_v106 MixBwdRefIdeal.Read.val_main_v105 MixBwdRefIdeal.Read.val_main_v104 MixBwdRefIdeal.Read.val_main_v103 MixBwdRefIdeal.Read.val_main_v102 MixBwdRefIdeal.Read.val_main_v101 MixBwdRefIdeal.Read.val_main_v100 MixBwdRefIdeal.Read.val_main_c_20 MixBwdRefIdeal.Read.val_main_v99 MixBwdRefIdeal.Read.val_main_v98 MixBwdRefIdeal.Read.val_main_c_19 MixBwdRefIdeal.Read.val_main_v97 MixBwdRefIdeal.Read.val_main_v96 MixBwdRefIdeal.Read.val_main_v94 MixBwdRefIdeal.Read.val_main_v93 MixBwdRefIdeal.Read.val_main_v95 MixBwdRefIdeal.Read.val_main_v92 MixBwdRefIdeal.Read.val_main_v91 MixBwdRefIdeal.Read.val_main_v89 MixBwdRefIdeal.Read.val_main_v87 MixBwdRefIdeal.Read.val_main_v23 MixBwdRefIdeal.Read.val_main_v22 MixBwdRefIdeal.Read.val_main_v88 MixBwdRefIdeal.Read.val_main_cst_17
  rw [p13, e18]
  rfl
/-- The pooled differences through the four pool matrices. -/
theorem v153 : val_main_v153 (F := Ideal) (co2 B.X) (co1 B.gain) (co2 B.win) (co3 B.pw) = co2 B.YC := by
  refine Eq.trans ?_ (e170 B)
  unfold val_main_v153 val_main_v152 val_main_v151 val_main_v150 val_main_v149 val_main_v145 val_main_v144 val_main_v143 val_main_v142 val_main_v141 val_main_v140 val_main_cst_24 val_main_v139 val_main_v138 val_main_v137 val_main_v136 val_main_cst_23 val_main_v135 val_main_v148 val_main_v134 val_main_v133 val_main_v132 val_main_v131 val_main_v130 val_main_v129 val_main_cst_22 val_main_v128 val_main_v127 val_main_v126 val_main_v125 val_main_cst_21 val_main_v124 val_main_v147 val_main_v123 val_main_v122 val_main_v121 val_main_v120 val_main_v119 val_main_v118 val_main_cst_20 val_main_v117 val_main_v116 val_main_v115 val_main_v114 val_main_cst_19 val_main_v113 val_main_v146 val_main_v112 val_main_v111 val_main_v110 val_main_v109 val_main_v108 val_main_v107 val_main_cst_18 val_main_v101 val_main_v100 val_main_v98 val_main_v99 val_main_cst_16 val_main_v106 val_main_v105 val_main_v104 val_main_v103 val_main_cst_17 val_main_v102 val_main_v97 val_main_call1_call0_v0 val_main_call1_call0_cst val_main_v19
  unfold MixBwdRefIdeal.Read.val_main_v170 MixBwdRefIdeal.Read.val_main_v169 MixBwdRefIdeal.Read.val_main_v168 MixBwdRefIdeal.Read.val_main_v167 MixBwdRefIdeal.Read.val_main_v166 MixBwdRefIdeal.Read.val_main_v162 MixBwdRefIdeal.Read.val_main_v161 MixBwdRefIdeal.Read.val_main_v160 MixBwdRefIdeal.Read.val_main_v159 MixBwdRefIdeal.Read.val_main_v158 MixBwdRefIdeal.Read.val_main_v157 MixBwdRefIdeal.Read.val_main_cst_34 MixBwdRefIdeal.Read.val_main_v156 MixBwdRefIdeal.Read.val_main_v154 MixBwdRefIdeal.Read.val_main_v153 MixBwdRefIdeal.Read.val_main_v152 MixBwdRefIdeal.Read.val_main_cst_32 MixBwdRefIdeal.Read.val_main_v151 MixBwdRefIdeal.Read.val_main_v165 MixBwdRefIdeal.Read.val_main_v150 MixBwdRefIdeal.Read.val_main_v149 MixBwdRefIdeal.Read.val_main_v148 MixBwdRefIdeal.Read.val_main_v147 MixBwdRefIdeal.Read.val_main_v146 MixBwdRefIdeal.Read.val_main_v145 MixBwdRefIdeal.Read.val_main_cst_31 MixBwdRefIdeal.Read.val_main_v144 MixBwdRefIdeal.Read.val_main_v142 MixBwdRefIdeal.Read.val_main_v141 MixBwdRefIdeal.Read.val_main_v140 MixBwdRefIdeal.Read.val_main_cst_29 MixBwdRefIdeal.Read.val_main_v139 MixBwdRefIdeal.Read.val_main_v164 MixBwdRefIdeal.Read.val_main_v138 MixBwdRefIdeal.Read.val_main_v137 MixBwdRefIdeal.Read.val_main_v136 MixBwdRefIdeal.Read.val_main_v135 MixBwdRefIdeal.Read.val_main_v134 MixBwdRefIdeal.Read.val_main_v133 MixBwdRefIdeal.Read.val_main_cst_28 MixBwdRefIdeal.Read.val_main_v132 MixBwdRefIdeal.Read.val_main_v130 MixBwdRefIdeal.Read.val_main_v129 MixBwdRefIdeal.Read.val_main_v128 MixBwdRefIdeal.Read.val_main_cst_26 MixBwdRefIdeal.Read.val_main_v127 MixBwdRefIdeal.Read.val_main_v163 MixBwdRefIdeal.Read.val_main_v126 MixBwdRefIdeal.Read.val_main_v125 MixBwdRefIdeal.Read.val_main_v124 MixBwdRefIdeal.Read.val_main_v123 MixBwdRefIdeal.Read.val_main_v122 MixBwdRefIdeal.Read.val_main_v121 MixBwdRefIdeal.Read.val_main_cst_25 MixBwdRefIdeal.Read.val_main_v114 MixBwdRefIdeal.Read.val_main_v113 MixBwdRefIdeal.Read.val_main_v111 MixBwdRefIdeal.Read.val_main_v112 MixBwdRefIdeal.Read.val_main_cst_22 MixBwdRefIdeal.Read.val_main_v120 MixBwdRefIdeal.Read.val_main_v118 MixBwdRefIdeal.Read.val_main_v117 MixBwdRefIdeal.Read.val_main_v116 MixBwdRefIdeal.Read.val_main_cst_23 MixBwdRefIdeal.Read.val_main_v115 MixBwdRefIdeal.Read.val_main_v110 MixBwdRefIdeal.Read.val_main_call1_call0_v0 MixBwdRefIdeal.Read.val_main_call1_call0_cst MixBwdRefIdeal.Read.val_main_v24
  rw [p13, e18]
  rfl
/-- The normalized gate. -/
theorem v178 : val_main_v178 (F := Ideal) (co2 B.X) (co1 B.gain) (co2 B.win) (co1 B.gg) (co1 B.gb) = co2 B.V := by
  refine Eq.trans ?_ (e198 B)
  unfold val_main_v178 val_main_v177 val_main_v176 val_main_v175 val_main_v174 val_main_v173 val_main_v172 val_main_v171 val_main_v170 val_main_v169 val_main_v168 val_main_cst_29 val_main_v167 val_main_v166 val_main_cst_28 val_main_v165 val_main_v164 val_main_cst_27 val_main_v163 val_main_v162 val_main_v161 val_main_v160 val_main_v159 val_main_cst_26 val_main_v158 val_main_v157 val_main_cst_25 val_main_v21
  unfold MixBwdRefIdeal.Read.val_main_v198 MixBwdRefIdeal.Read.val_main_v197 MixBwdRefIdeal.Read.val_main_v196 MixBwdRefIdeal.Read.val_main_v195 MixBwdRefIdeal.Read.val_main_v194 MixBwdRefIdeal.Read.val_main_v193 MixBwdRefIdeal.Read.val_main_v192 MixBwdRefIdeal.Read.val_main_v191 MixBwdRefIdeal.Read.val_main_v187 MixBwdRefIdeal.Read.val_main_v186 MixBwdRefIdeal.Read.val_main_v185 MixBwdRefIdeal.Read.val_main_cst_39 MixBwdRefIdeal.Read.val_main_v184 MixBwdRefIdeal.Read.val_main_v183 MixBwdRefIdeal.Read.val_main_cst_38 MixBwdRefIdeal.Read.val_main_v182 MixBwdRefIdeal.Read.val_main_v181 MixBwdRefIdeal.Read.val_main_cst_37 MixBwdRefIdeal.Read.val_main_v180 MixBwdRefIdeal.Read.val_main_v179 MixBwdRefIdeal.Read.val_main_v178 MixBwdRefIdeal.Read.val_main_v177 MixBwdRefIdeal.Read.val_main_v176 MixBwdRefIdeal.Read.val_main_cst_36 MixBwdRefIdeal.Read.val_main_v175 MixBwdRefIdeal.Read.val_main_v174 MixBwdRefIdeal.Read.val_main_cst_35 MixBwdRefIdeal.Read.val_main_v26
  rw [p13, e18]
/-- The gate mixed along each block of rows. -/
theorem v190 : val_main_v190 (F := Ideal) (co2 B.X) (co1 B.gain) (co2 B.win) (co1 B.gg) (co1 B.gb) (co3 B.ws) (co2 B.bs) = co2 B.MX := by
  refine Eq.trans ?_ (e210 B)
  unfold val_main_v190 val_main_v189 val_main_v188 val_main_v187 val_main_v186 val_main_v185 val_main_v184 val_main_v183 val_main_call3_v2 val_main_call3_v0 val_main_cst_31 val_main_call3_v1 val_main_v182 val_main_v181 val_main_call2_v5 val_main_call2_c_0 val_main_v180 val_main_c_30 val_main_call2_v4 val_main_call2_v3 val_main_call2_v2 val_main_call2_v1 val_main_call2_c val_main_call2_v0 val_main_v179
  unfold MixBwdRefIdeal.Read.val_main_v210 MixBwdRefIdeal.Read.val_main_v209 MixBwdRefIdeal.Read.val_main_v208 MixBwdRefIdeal.Read.val_main_v207 MixBwdRefIdeal.Read.val_main_v206 MixBwdRefIdeal.Read.val_main_v205 MixBwdRefIdeal.Read.val_main_v204 MixBwdRefIdeal.Read.val_main_v203_0 MixBwdRefIdeal.Read.val_main_call3_v2 MixBwdRefIdeal.Read.val_main_call3_v0 MixBwdRefIdeal.Read.val_main_cst_42 MixBwdRefIdeal.Read.val_main_v203_1 MixBwdRefIdeal.Read.val_main_v202 MixBwdRefIdeal.Read.val_main_v201 MixBwdRefIdeal.Read.val_main_call2_v5 MixBwdRefIdeal.Read.val_main_call2_c_0 MixBwdRefIdeal.Read.val_main_v200 MixBwdRefIdeal.Read.val_main_c_41 MixBwdRefIdeal.Read.val_main_call2_v4 MixBwdRefIdeal.Read.val_main_call2_v3 MixBwdRefIdeal.Read.val_main_call2_v2 MixBwdRefIdeal.Read.val_main_call2_v1 MixBwdRefIdeal.Read.val_main_call2_c MixBwdRefIdeal.Read.val_main_call2_v0 MixBwdRefIdeal.Read.val_main_v199
  rw [v178, e198]
  rfl

/-- Four arrays of 256 columns side by side. -/
theorem cat_quarters (D : ℕ → ℕ → ℝ) {x0 x1 x2 x3 : FVec Ideal ⟨2, ![8192, 256]⟩ .f32} (h0 : x0 = co2 fun s j => D s (0 + j))
    (h1 : x1 = co2 fun s j => D s (256 + j)) (h2 : x2 = co2 fun s j => D s (512 + j)) (h3 : x3 = co2 fun s j => D s (768 + j)) (h) :
    concatenate (⟨2, ![8192, 1024]⟩ : Shape) 1 [⟨⟨2, ![8192, 256]⟩, x0⟩, ⟨⟨2, ![8192, 256]⟩, x1⟩, ⟨⟨2, ![8192, 256]⟩, x2⟩,
      ⟨⟨2, ![8192, 256]⟩, x3⟩] h = co2 D := by
  subst h0 h1 h2 h3
  funext i
  have hj : (i 1).val < 1024 := (i 1).isLt
  pointwise
  split_ifs <;> try omega
  · rfl
  · exact at_col D (show 256 + ((i 1).val - 256) = (i 1).val by omega)
  · exact at_col D (show 512 + ((i 1).val - 256 - 256) = (i 1).val by omega)
  · exact at_col D (show 768 + ((i 1).val - 256 - 256 - 256) = (i 1).val by omega)
theorem v74 : val_main_v74 (F := Ideal) (co2 B.X) (co1 B.gain) (co2 B.win) (co2 B.cw) (co1 B.cb) (co1 B.lg) (co1 B.lb)
    = co2 fun s j => B.LN s j * sg (B.LN s j) := by
  have e : val_main_call0_v5 (F := Ideal) (co2 B.X) (co1 B.gain) (co2 B.win) (co2 B.cw) (co1 B.cb) (co1 B.lg) (co1 B.lb)
      = co2 fun s j => sg (B.LN s j) := by
    refine Eq.trans ?_ (e86_2 B)
    unfold val_main_call0_v5 val_main_call0_v3 val_main_call0_v1 val_main_call0_v0 val_main_call0_v2 val_main_call0_cst val_main_call0_v4 val_main_call0_cst_0
    unfold MixBwdRefIdeal.Read.val_main_v86_2 MixBwdRefIdeal.Read.val_main_call0_v3 MixBwdRefIdeal.Read.val_main_call0_v1 MixBwdRefIdeal.Read.val_main_call0_v0 MixBwdRefIdeal.Read.val_main_call0_v2 MixBwdRefIdeal.Read.val_main_call0_cst MixBwdRefIdeal.Read.val_main_call0_v4 MixBwdRefIdeal.Read.val_main_call0_cst_0
    rw [v73, e85]
  funext i
  simp only [val_main_v74_apply, e, v73, co2_apply, Ideal.mulf_def, ← EReal.coe_mul]
theorem v96 : val_main_v96 (F := Ideal) (co2 B.X) (co1 B.gain) (co2 B.win) (co2 B.sw) = co2 fun s j => B.P s (512 + j) * B.CZ s j := by
  funext i
  simp only [val_main_v96_apply, val_main_v16_apply, p13, v95, co2_apply, Ideal.mulf_def, ← EReal.coe_mul]
theorem v156 : val_main_v156 (F := Ideal) (co2 B.X) (co1 B.gain) (co2 B.win) (co3 B.pw) (co1 B.ps) = co2 fun s j => B.YC s j * B.ps j := by
  funext i
  simp only [val_main_v156_apply, val_main_v155_apply, val_main_v154_apply, v153, co1_apply, co2_apply, Ideal.mulf_def, ← EReal.coe_mul]
theorem v191 : val_main_v191 (F := Ideal) (co2 B.X) (co1 B.gain) (co2 B.win) (co1 B.gg) (co1 B.gb) (co3 B.ws) (co2 B.bs)
    = co2 fun s j => B.P s (1536 + j) * B.MX s j := by
  funext i
  simp only [val_main_v191_apply, val_main_v20_apply, p13, v190, co2_apply, Ideal.mulf_def, ← EReal.coe_mul]
/-- The four branches side by side. -/
theorem v192 : val_main_v192 (F := Ideal) (co2 B.X) (co1 B.gain) (co2 B.win) (co2 B.cw) (co1 B.cb) (co1 B.lg) (co1 B.lb) (co2 B.sw)
    (co3 B.pw) (co1 B.ps) (co1 B.gg) (co1 B.gb) (co3 B.ws) (co2 B.bs) = co2 B.MO := by
  unfold val_main_v192
  refine cat_quarters B.MO ((v74 B).trans (co2_congr fun s j _ hj => ?_)) ((v96 B).trans (co2_congr fun s j _ hj => ?_))
    ((v156 B).trans (co2_congr fun s j _ hj => ?_)) ((v191 B).trans (co2_congr fun s j _ hj => ?_)) _ <;> unfold MO
  · rw [Nat.zero_add, if_pos hj]
  · rw [if_neg (by omega), if_pos (by omega), Nat.add_sub_cancel_left]
  · rw [if_neg (by omega), if_neg (by omega), if_pos (by omega), Nat.add_sub_cancel_left]
  · rw [if_neg (by omega), if_neg (by omega), if_neg (by omega), Nat.add_sub_cancel_left]

/-! The five results. -/

theorem y_eq : val_main_v194 (F := Ideal) (co2 B.X) (co1 B.gain) (co2 B.win) (co2 B.cw) (co1 B.cb) (co1 B.lg) (co1 B.lb) (co2 B.sw)
    (co3 B.pw) (co1 B.ps) (co1 B.gg) (co1 B.gb) (co3 B.ws) (co2 B.bs) (co2 B.wout) = co2 B.OUT := by
  funext i
  simp only [val_main_v194_apply, val_main_v193_apply, v192, co2_apply, Ideal.addf_def, ← EReal.coe_mul, coe_sum, ← EReal.coe_add]
  rfl
theorem mix_eq : val_main_v195 (F := Ideal) (co2 B.X) (co1 B.gain) (co2 B.win) (co2 B.cw) (co1 B.cb) (co1 B.lg) (co1 B.lb) (co2 B.sw)
    (co3 B.pw) (co1 B.ps) (co1 B.gg) (co1 B.gb) (co3 B.ws) (co2 B.bs) = co2 B.MO := by
  unfold val_main_v195
  rw [v192]
  rfl
theorem h_eq : val_main_v196 (F := Ideal) (co2 B.X) (co1 B.gain) = co2 (hh B.X B.gain) := by
  unfold val_main_v196
  rw [v12]
  rfl
theorem p_eq : val_main_v197 (F := Ideal) (co2 B.X) (co1 B.gain) (co2 B.win) = co2 B.P := by
  unfold val_main_v197
  rw [p13]
  rfl

end Cert.MixFwdRefIdeal.Read

end
-- ==== Proof.FwdClaim.lean ====
/- The mixer's forward pass: the kernel and the reference end at the same real arrays, at finite arguments. -/
module

public import proofs.«01_k».proof.Defs
public import proofs.«01_k».proof.Proof.FwdArray
public import proofs.«01_k».proof.Proof.FwdRef
public import proofs.«01_k».proof.Proof.Gen.MixFwdIdeal.Value
public import proofs.«01_k».proof.Proof.Gen.MixFwdRefIdeal.Run
public import proofs.«01_k».proof.Proof.Gen.MixFwdRefIdeal.Read

@[expose] public section

set_option maxRecDepth 16384
set_option maxHeartbeats 1000000

noncomputable section

namespace Cert.MixF

open Idealize.ShloMosaic Idealize.ShloMosaic.TcCoe Idealize.SL.Sem Cert.Base Cert.Mix

theorem pre_facts : Cert.Pre_finite_mix_fwd.Facts := by constructor <;> decide

attribute [local instance] pre_facts

/-- The precondition says that every entry of every argument is finite. -/
theorem pre_finite
    (a0 : FVec Ideal ⟨2, ![8192, 1024]⟩ .f32) (a1 : FVec Ideal ⟨1, ![1024]⟩ .f32) (a2 : FVec Ideal ⟨2, ![1024, 2048]⟩ .f32) (a3 : FVec Ideal
    ⟨2, ![31, 256]⟩ .f32) (a4 : FVec Ideal ⟨1, ![256]⟩ .f32) (a5 : FVec Ideal ⟨1, ![256]⟩ .f32) (a6 : FVec Ideal ⟨1, ![256]⟩ .f32) (a7 :
    FVec Ideal ⟨2, ![3, 256]⟩ .f32) (a8 : FVec Ideal ⟨3, ![4, 64, 64]⟩ .f32) (a9 : FVec Ideal ⟨1, ![256]⟩ .f32) (a10 : FVec Ideal ⟨1,
    ![256]⟩ .f32) (a11 : FVec Ideal ⟨1, ![256]⟩ .f32) (a12 : FVec Ideal ⟨3, ![4, 128, 128]⟩ .f32) (a13 : FVec Ideal ⟨2, ![4, 128]⟩ .f32)
    (a14 : FVec Ideal ⟨2, ![1024, 1024]⟩ .f32)
    (h : Cert.Pre_finite_mix_fwd.fn (F := Ideal) a0 a1 a2 a3 a4 a5 a6 a7 a8 a9 a10 a11 a12 a13 a14 = fun _ => 1#1) :
    Fin' a0 ∧ Fin' a1 ∧ Fin' a2 ∧ Fin' a3 ∧ Fin' a4 ∧ Fin' a5 ∧ Fin' a6 ∧ Fin' a7 ∧ Fin' a8 ∧ Fin' a9 ∧ Fin' a10 ∧ Fin' a11 ∧ Fin' a12 ∧ Fin' a13 ∧ Fin' a14 := by
  unfold Cert.Pre_finite_mix_fwd.fn Cert.Pre_finite_mix_fwd.fn_part1 Cert.Pre_finite_mix_fwd.fn_part2 Cert.Pre_finite_mix_fwd.fn_part3
    Cert.Pre_finite_mix_fwd.fn_part4 Cert.Pre_finite_mix_fwd.fn_part5 Cert.Pre_finite_mix_fwd.fn_part6 at h
  dsimp only at h
  obtain ⟨h, e14⟩ := and_split h
  obtain ⟨h, e13⟩ := and_split h
  obtain ⟨h, e12⟩ := and_split h
  obtain ⟨h, e11⟩ := and_split h
  obtain ⟨h, e10⟩ := and_split h
  obtain ⟨h, e9⟩ := and_split h
  obtain ⟨h, e8⟩ := and_split h
  obtain ⟨h, e7⟩ := and_split h
  obtain ⟨h, e6⟩ := and_split h
  obtain ⟨h, e5⟩ := and_split h
  obtain ⟨h, e4⟩ := and_split h
  obtain ⟨h, e3⟩ := and_split h
  obtain ⟨h, e2⟩ := and_split h
  obtain ⟨h, e1⟩ := and_split h
  obtain ⟨h, e0⟩ := and_split h
  exact ⟨finite_of_reduce _ _ _ _ (congrFun e0 _), finite_of_reduce _ _ _ _ (congrFun e1 _), finite_of_reduce _ _ _ _ (congrFun e2 _), finite_of_reduce _ _ _ _ (congrFun e3 _),
   finite_of_reduce _ _ _ _ (congrFun e4 _), finite_of_reduce _ _ _ _ (congrFun e5 _), finite_of_reduce _ _ _ _ (congrFun e6 _), finite_of_reduce _ _ _ _ (congrFun e7 _),
   finite_of_reduce _ _ _ _ (congrFun e8 _), finite_of_reduce _ _ _ _ (congrFun e9 _), finite_of_reduce _ _ _ _ (congrFun e10 _), finite_of_reduce _ _ _ _ (congrFun e11 _),
   finite_of_reduce _ _ _ _ (congrFun e12 _), finite_of_reduce _ _ _ _ (congrFun e13 _), finite_of_reduce _ _ _ _ (congrFun e14 _)⟩

theorem algebraic : Cert.algebraic_MixFwdIdeal_MixFwdRefIdeal_pre_finite_mix_fwd := by
  intro m g m' g' hpre hagree
  have real : ∀ c : Dev Cert.MixFwdIdeal.nD, ∃ B : Par, Args m c B := by
    intro c
    obtain ⟨f0, f1, f2, f3, f4, f5, f6, f7, f8, f9, f10, f11, f12, f13, f14⟩ := pre_finite _ _ _ _ _ _ _ _ _ _ _ _ _ _ _ (hpre c)
    obtain ⟨v0, e0⟩ := exists_co2 _ f0
    obtain ⟨v1, e1⟩ := exists_co1 _ f1
    obtain ⟨v2, e2⟩ := exists_co2 _ f2
    obtain ⟨v3, e3⟩ := exists_co2 _ f3
    obtain ⟨v4, e4⟩ := exists_co1 _ f4
    obtain ⟨v5, e5⟩ := exists_co1 _ f5
    obtain ⟨v6, e6⟩ := exists_co1 _ f6
    obtain ⟨v7, e7⟩ := exists_co2 _ f7
    obtain ⟨v8, e8⟩ := exists_co3 _ f8
    obtain ⟨v9, e9⟩ := exists_co1 _ f9
    obtain ⟨v10, e10⟩ := exists_co1 _ f10
    obtain ⟨v11, e11⟩ := exists_co1 _ f11
    obtain ⟨v12, e12⟩ := exists_co3 _ f12
    obtain ⟨v13, e13⟩ := exists_co2 _ f13
    obtain ⟨v14, e14⟩ := exists_co2 _ f14
    exact ⟨⟨v0, v1, v2, v3, v4, v5, v6, v7, v8, v9, v10, v11, v12, v13, v14, fun _ _ => 0⟩, ⟨e0, e1, e2, e3, e4, e5, e6, e7, e8, e9, e10, e11, e12, e13, e14⟩⟩
  choose B A using real
  refine ⟨fun c => (Cert.MixFwdIdeal.Gen.dats m 0 c).arrAt 10 Cert.MixFwdIdeal.cfg0.N,
    fun c => (Cert.MixFwdIdeal.Gen.dats m 0 c).arrAt 11 Cert.MixFwdIdeal.cfg0.N,
    fun c => (Cert.MixFwdIdeal.Gen.dats m 0 c).arrAt 12 Cert.MixFwdIdeal.cfg0.N,
    fun c => (Cert.MixFwdIdeal.Gen.dats m 0 c).arrAt 13 Cert.MixFwdIdeal.cfg0.N,
    fun c => (Cert.MixFwdIdeal.Gen.dats m 0 c).arrAt 14 Cert.MixFwdIdeal.cfg0.N,
    Cert.MixFwdIdeal.Value.run_blocks m g, ?_⟩
  refine (θ_run Cert.MixFwdRefIdeal.defs _ _).mono (fun r h c => ?_) (Cert.MixFwdRefIdeal.Value.run (F := Ideal) m' g')
  obtain ⟨h0, h1, h2, h3, h4, h⟩ := h c
  obtain ⟨a0, a1, a2, a3, a4, a5, a6, a7, a8, a9, a10, a11, a12, a13, a14⟩ := hagree c
  have r0 : StableHlo.launchContents m' c (Proc.tc.devRef Cert.MixFwdRefIdeal.main_arg0) = co2 (B c).X := a0.trans (A c).x
  have r1 : StableHlo.launchContents m' c (Proc.tc.devRef Cert.MixFwdRefIdeal.main_arg1) = co1 (B c).gain := a1.trans (A c).gain
  have r2 : StableHlo.launchContents m' c (Proc.tc.devRef Cert.MixFwdRefIdeal.main_arg2) = co2 (B c).win := a2.trans (A c).win
  have r3 : StableHlo.launchContents m' c (Proc.tc.devRef Cert.MixFwdRefIdeal.main_arg3) = co2 (B c).cw := a3.trans (A c).cw
  have r4 : StableHlo.launchContents m' c (Proc.tc.devRef Cert.MixFwdRefIdeal.main_arg4) = co1 (B c).cb := a4.trans (A c).cb
  have r5 : StableHlo.launchContents m' c (Proc.tc.devRef Cert.MixFwdRefIdeal.main_arg5) = co1 (B c).lg := a5.trans (A c).lg
  have r6 : StableHlo.launchContents m' c (Proc.tc.devRef Cert.MixFwdRefIdeal.main_arg6) = co1 (B c).lb := a6.trans (A c).lb
  have r7 : StableHlo.launchContents m' c (Proc.tc.devRef Cert.MixFwdRefIdeal.main_arg7) = co2 (B c).sw := a7.trans (A c).sw
  have r8 : StableHlo.launchContents m' c (Proc.tc.devRef Cert.MixFwdRefIdeal.main_arg8) = co3 (B c).pw := a8.trans (A c).pw
  have r9 : StableHlo.launchContents m' c (Proc.tc.devRef Cert.MixFwdRefIdeal.main_arg9) = co1 (B c).ps := a9.trans (A c).ps
  have r10 : StableHlo.launchContents m' c (Proc.tc.devRef Cert.MixFwdRefIdeal.main_arg10) = co1 (B c).gg := a10.trans (A c).gg
  have r11 : StableHlo.launchContents m' c (Proc.tc.devRef Cert.MixFwdRefIdeal.main_arg11) = co1 (B c).gb := a11.trans (A c).gb
  have r12 : StableHlo.launchContents m' c (Proc.tc.devRef Cert.MixFwdRefIdeal.main_arg12) = co3 (B c).ws := a12.trans (A c).ws
  have r13 : StableHlo.launchContents m' c (Proc.tc.devRef Cert.MixFwdRefIdeal.main_arg13) = co2 (B c).bs := a13.trans (A c).bs
  have r14 : StableHlo.launchContents m' c (Proc.tc.devRef Cert.MixFwdRefIdeal.main_arg14) = co2 (B c).wout := a14.trans (A c).wout
  obtain ⟨b0, b1, b2, b3, b4⟩ := arrays (A c)
  refine ⟨h0.trans ?_, h1.trans ?_, h2.trans ?_, h3.trans ?_, h4.trans ?_, h⟩
  · rw [Cert.MixFwdRefIdeal.Read.val_main_v194_eq, r0, r1, r2, r3, r4, r5, r6, r7, r8, r9, r10, r11, r12, r13, r14]
    exact (Cert.MixFwdRefIdeal.Read.y_eq (B c)).trans b0.symm
  · rw [Cert.MixFwdRefIdeal.Read.val_main_v195_eq, r0, r1, r2, r3, r4, r5, r6, r7, r8, r9, r10, r11, r12, r13]
    exact (Cert.MixFwdRefIdeal.Read.mix_eq (B c)).trans b1.symm
  · rw [Cert.MixFwdRefIdeal.Read.val_main_v196_eq, r0, r1]
    exact (Cert.MixFwdRefIdeal.Read.h_eq (B c)).trans b2.symm
  · rw [Cert.MixFwdRefIdeal.Read.val_main_v197_eq, r0, r1, r2]
    exact (Cert.MixFwdRefIdeal.Read.p_eq (B c)).trans b3.symm
  · rw [Cert.MixFwdRefIdeal.Read.val_main_v51_eq, r0, r1, r2, r3, r4]
    exact (Cert.MixFwdRefIdeal.Read.v51 (B c)).trans b4.symm

end Cert.MixF

end
-- ==== Proof.FfnFwdPay.lean ====
/- The feed-forward block's forward kernel at one tile: its values at any extended reals, infinities among them. -/
module

public import proofs.«01_k».proof.Proof.Base
public import proofs.«01_k».proof.Proof.Blocks
public import proofs.«01_k».proof.Proof.Gen.FfnFwdIdeal.Frame

@[expose] public section

set_option maxRecDepth 16384

noncomputable section

namespace Cert.Base
open Idealize.ShloMosaic

/-- Arrays of extended reals, as functions of natural numbers. -/
def ex1 {n : ℕ} (X : ℕ → EReal) : (⟨1, ![n]⟩ : Shape).Idx → EReal := fun i => X (i 0).val
def ex2 {m n : ℕ} (X : ℕ → ℕ → EReal) : (⟨2, ![m, n]⟩ : Shape).Idx → EReal := fun i => X (i 0).val (i 1).val
def ex3 {l m n : ℕ} (X : ℕ → ℕ → ℕ → EReal) : (⟨3, ![l, m, n]⟩ : Shape).Idx → EReal := fun i => X (i 0).val (i 1).val (i 2).val
theorem ex1_apply {n : ℕ} (X : ℕ → EReal) (i : (⟨1, ![n]⟩ : Shape).Idx) : ex1 X i = X (i 0).val := rfl
theorem ex2_apply {m n : ℕ} (X : ℕ → ℕ → EReal) (i : (⟨2, ![m, n]⟩ : Shape).Idx) : ex2 X i = X (i 0).val (i 1).val := rfl
theorem ex3_apply {l m n : ℕ} (X : ℕ → ℕ → ℕ → EReal) (i : (⟨3, ![l, m, n]⟩ : Shape).Idx) : ex3 X i = X (i 0).val (i 1).val (i 2).val := rfl

theorem exists_ex1 {n : ℕ} (A : (⟨1, ![n]⟩ : Shape).Idx → EReal) : ∃ X, A = ex1 X := by
  refine ⟨fun t => if ht : t < n then A (ValueIdx.ix1 ⟨t, ht⟩) else 0, funext fun i => ?_⟩
  have ht : (i 0).val < n := (i 0).isLt
  rw [ex1_apply, dif_pos ht, show ValueIdx.ix1 ⟨(i 0).val, ht⟩ = i from (ValueIdx.eq_ix1 i).symm]
theorem exists_ex2 {m n : ℕ} (A : (⟨2, ![m, n]⟩ : Shape).Idx → EReal) : ∃ X, A = ex2 X := by
  refine ⟨fun t j => if hh : t < m ∧ j < n then A (ValueIdx.ix2 ⟨t, hh.1⟩ ⟨j, hh.2⟩) else 0, funext fun i => ?_⟩
  have ht : (i 0).val < m ∧ (i 1).val < n := ⟨(i 0).isLt, (i 1).isLt⟩
  rw [ex2_apply, dif_pos ht, show ValueIdx.ix2 ⟨(i 0).val, ht.1⟩ ⟨(i 1).val, ht.2⟩ = i from (ValueIdx.eq_ix2 i).symm]

theorem idx_ex2 {m n a b m' n' : ℕ} (h) (Y : ℕ → ℕ → EReal) (x : (Rect.unit (s := ⟨2, ![m, n]⟩) ![a, b] ![m', n'] h).shape.Idx) :
    ex2 Y ((Rect.unit (s := ⟨2, ![m, n]⟩) ![a, b] ![m', n'] h).idx x) = ex2 (m := m') (n := n') (fun t j => Y (a + t) (b + j)) x := by
  simp only [ex2_apply, Rect.idx_unit_val]; rfl
theorem idx_ex3 {l m n a b c l' m' n' : ℕ} (h) (Y : ℕ → ℕ → ℕ → EReal)
    (x : (Rect.unit (s := ⟨3, ![l, m, n]⟩) ![a, b, c] ![l', m', n'] h).shape.Idx) :
    ex3 Y ((Rect.unit (s := ⟨3, ![l, m, n]⟩) ![a, b, c] ![l', m', n'] h).idx x)
      = ex3 (l := l') (m := m') (n := n') (fun i t j => Y (a + i) (b + t) (c + j)) x := by
  simp only [ex3_apply, Rect.idx_unit_val]; rfl
theorem ex2_at {m n m' n' a : ℕ} (Y : ℕ → ℕ → EReal) (e : (⟨2, ![m, n]⟩ : Shape).Idx) (x : (⟨2, ![m', n']⟩ : Shape).Idx)
    (h0 : (e 0).val = a + (x 0).val) (h1 : (e 1).val = (x 1).val) : ex2 Y e = ex2 (fun r k => Y (a + r) k) x := by
  rw [ex2_apply, ex2_apply, h0, h1]
theorem ldx_f32 {m n a b m' n' : ℕ} (h) (Y : ℕ → ℕ → EReal) :
    View.ld (Val := Elt Ideal) (e' := .f32) (S := ⟨2, ![m, n]⟩) (ex2 Y) (Rect.unit ![a, b] ![m', n'] h)
      = ex2 (m := m') (n := n') fun t j => Y (a + t) (b + j) := funext fun x => idx_ex2 h Y x
theorem ldx_bf16 {m n a b m' n' : ℕ} (h) (Y : ℕ → ℕ → EReal) :
    View.ld (Val := Elt Ideal) (e' := .bf16) (S := ⟨2, ![m, n]⟩) (ex2 Y) (Rect.unit ![a, b] ![m', n'] h)
      = ex2 (m := m') (n := n') fun t j => Y (a + t) (b + j) := funext fun x => idx_ex2 h Y x
theorem ldx3_bf16 {l m n a b c l' m' n' : ℕ} (h) (Y : ℕ → ℕ → ℕ → EReal) :
    View.ld (Val := Elt Ideal) (e' := .bf16) (S := ⟨3, ![l, m, n]⟩) (ex3 Y) (Rect.unit ![a, b, c] ![l', m', n'] h)
      = ex3 (l := l') (m := m') (n := n') fun i t j => Y (a + i) (b + t) (c + j) := funext fun x => idx_ex3 h Y x

/-- Half a hyperbolic tangent of half the argument, plus a half; and the logistic function, which it is, also at the infinities. -/
def sge (a : EReal) : EReal := ((1 / 2 : ℝ) : EReal) * Ideal.tanh (((1 / 2 : ℝ) : EReal) * a) + ((1 / 2 : ℝ) : EReal)
theorem logistic_sge (a : EReal) : Ideal.div ((1 : ℝ) : EReal) (((1 : ℝ) : EReal) + Ideal.exp (-a)) = sge a := by
  unfold sge
  have half : (0 : ℝ) < 1 / 2 := by norm_num
  induction a with
  | bot =>
    rw [EReal.coe_mul_bot_of_pos half, Ideal.tanh_bot, EReal.neg_bot]
    show Ideal.div ((1 : ℝ) : EReal) (((1 : ℝ) : EReal) + ⊤) = ((1 / 2 : ℝ) : EReal) * ((-1 : ℝ) : EReal) + _
    rw [EReal.coe_add_top, ← EReal.coe_mul, ← EReal.coe_add]
    norm_num [Ideal.div]
  | top =>
    rw [EReal.coe_mul_top_of_pos half, Ideal.tanh_top, EReal.neg_top]
    show Ideal.div ((1 : ℝ) : EReal) (((1 : ℝ) : EReal) + ((0 : ℝ) : EReal)) = ((1 / 2 : ℝ) : EReal) * ((1 : ℝ) : EReal) + _
    rw [← EReal.coe_add, ← EReal.coe_mul, ← EReal.coe_add, div_coe_coe _ _ (by norm_num)]
    norm_num
  | coe x =>
    rw [← EReal.coe_mul, Ideal.tanh_coe, ← EReal.coe_mul, ← EReal.coe_add, sg_tanh, neg_co, Ideal.exp_coe, ← EReal.coe_add, div_coe_coe _ _ (one_add_exp_ne x), one_div_sg]
end Cert.Base

namespace Cert.FfnF
open Idealize.ShloMosaic Cert.Base

/-- The normalized rows times the gain; their product with a hidden weight; the gated activations; the block's result. -/
def hx (X : ℕ → ℕ → EReal) (g : ℕ → EReal) (t j : ℕ) : EReal :=
  X t j * Ideal.rsqrt (Ideal.div (∑ k : Fin 1024, X t k * X t k) ((1024 : ℝ) : EReal) + ((eps : ℝ) : EReal)) * g j
def px (X : ℕ → ℕ → EReal) (g : ℕ → EReal) (w : ℕ → ℕ → EReal) (t f : ℕ) : EReal := ∑ j : Fin 1024, hx X g t j * w j f
def ux (X : ℕ → ℕ → EReal) (g : ℕ → EReal) (w1 w3 : ℕ → ℕ → EReal) (t f : ℕ) : EReal := px X g w1 t f * sge (px X g w1 t f) * px X g w3 t f
def yx (X : ℕ → ℕ → EReal) (g : ℕ → EReal) (w1 w3 w2 : ℕ → ℕ → EReal) (t j : ℕ) : EReal :=
  X t j + ((1 / 2 : ℝ) : EReal) * ∑ f : Fin 2816, ux X g w1 w3 t f * w2 f j

open Cert.FfnFwdIdeal Cert.FfnFwdIdeal.Gen Idealize.ShloMosaic.TcCoe Idealize.SL.Sem

variable (X A B W H Y : ℕ → ℕ → EReal) (g : ℕ → EReal) (G : ℕ → ℕ → ℕ → EReal)

theorem h_eq : k0_pay3 (F := Ideal) (ex2 X) (ex2 fun _ j => g j) = ex2 (hx X g) := by
  funext i
  pointwise [k0_pay3]
  simp only [ex2_apply, bits_1024, bits_eps, bits_zero, EReal.coe_zero, zero_add]
  rfl

/-- A weight's tile, laid out by device, as one matrix. -/
theorem w_eq : k0_pay4 (F := Ideal) (ex3 G) = ex2 fun f j => G (f / 352) (f % 352) j := by
  funext i
  pointwise [k0_pay4]
  rfl
theorem w_eq' : k0_pay5 (F := Ideal) (ex3 G) = ex2 fun f j => G (f / 352) (f % 352) j := w_eq G

theorem a0_eq : k0_pay6 (F := Ideal) (ex2 X) (ex2 fun _ j => g j) (ex3 G)
    = ex2 fun t f => ∑ j : Fin 1024, hx X g t j * G (f / 352) (f % 352) j := by
  funext i
  unfold k0_pay6
  rw [h_eq, w_eq]
  pointwise
  simp only [ex2_apply]; rfl
theorem b0_eq : k0_pay7 (F := Ideal) (ex2 X) (ex2 fun _ j => g j) (ex3 G)
    = ex2 fun t f => ∑ j : Fin 1024, hx X g t j * G (f / 352) (f % 352) j := a0_eq X g G
theorem a0'_eq : k0_pay8 (F := Ideal) (ex2 X) (ex2 fun _ j => g j) (ex3 G)
    = ex2 fun t f => ∑ j : Fin 1024, hx X g t j * G (f / 352) (f % 352) j := a0_eq X g G
theorem b0'_eq : k0_pay9 (F := Ideal) (ex2 X) (ex2 fun _ j => g j) (ex3 G)
    = ex2 fun t f => ∑ j : Fin 1024, hx X g t j * G (f / 352) (f % 352) j := a0_eq X g G
theorem a1_eq : k0_pay12 (F := Ideal) (ex2 H) (ex2 W) = ex2 fun t f => ∑ j : Fin 1024, H t j * W (1024 + f) j := by
  funext i
  pointwise [k0_pay12]
  simp only [ex2_apply]; rfl
theorem b1_eq : k0_pay13 (F := Ideal) (ex2 H) (ex2 W) = ex2 fun t f => ∑ j : Fin 1024, H t j * W (1024 + f) j := a1_eq W H
theorem a1'_eq : k0_pay14 (F := Ideal) (ex2 H) (ex2 W) = ex2 fun t f => ∑ j : Fin 1024, H t j * W (1024 + f) j := a1_eq W H
theorem b1'_eq : k0_pay15 (F := Ideal) (ex2 H) (ex2 W) = ex2 fun t f => ∑ j : Fin 1024, H t j * W (1024 + f) j := a1_eq W H
theorem a2_eq : k0_pay17 (F := Ideal) (ex2 H) (ex2 W) = ex2 fun t f => ∑ j : Fin 1024, H t j * W (2048 + f) j := by
  funext i
  pointwise [k0_pay17]
  simp only [ex2_apply]; rfl
theorem b2_eq : k0_pay18 (F := Ideal) (ex2 H) (ex2 W) = ex2 fun t f => ∑ j : Fin 1024, H t j * W (2048 + f) j := a2_eq W H
theorem a2'_eq : k0_pay19 (F := Ideal) (ex2 H) (ex2 W) = ex2 fun t f => ∑ j : Fin 1024, H t j * W (2048 + f) j := a2_eq W H
theorem b2'_eq : k0_pay20 (F := Ideal) (ex2 H) (ex2 W) = ex2 fun t f => ∑ j : Fin 1024, H t j * W (2048 + f) j := a2_eq W H

theorem t0_eq : k0_pay10 (F := Ideal) (ex2 X) (ex2 fun _ j => g j) (ex3 G) = ex2 fun t f =>
    ((1 / 2 : ℝ) : EReal) * Ideal.tanh (((1 / 2 : ℝ) : EReal) * ∑ j : Fin 1024, hx X g t j * G (f / 352) (f % 352) j) := by
  funext i
  unfold k0_pay10
  rw [a0_eq]
  pointwise
  simp only [ex2_apply, bits_half]
theorem u0_eq : k0_pay11 (F := Ideal) (ex2 A) (ex2 B) (ex2 fun t f => ((1 / 2 : ℝ) : EReal) * Ideal.tanh (((1 / 2 : ℝ) : EReal) * A t f))
    (Scalar.ofBits .f32 0x3F000000#32) = ex2 fun t f => A t f * sge (A t f) * B t f := by
  funext i
  pointwise [k0_pay11]
  simp only [ex2_apply, bits_half]
  rfl
theorem u1_eq : k0_pay16 (F := Ideal) (ex2 H) (ex2 W) (ex2 Y)
    = ex2 fun t f => (∑ j : Fin 1024, H t j * W (1024 + f) j) * sge (∑ j : Fin 1024, H t j * W (1024 + f) j) * ∑ j : Fin 1024, H t j * Y (1024 + f) j := by
  funext i
  unfold k0_pay16
  rw [a1_eq, b1_eq]
  pointwise
  simp only [ex2_apply, bits_half]
  rfl
theorem u2_eq : k0_pay1 (F := Ideal) (ex2 A) (ex2 B) = ex2 fun t f => A t f * sge (A t f) * B t f := by
  funext i
  pointwise [k0_pay1]
  simp only [ex2_apply, bits_half]
  rfl
theorem y_eq : k0_pay2 (F := Ideal) (ex2 X) (ex2 A) (ex3 G)
    = ex2 fun t j => X t j + ((1 / 2 : ℝ) : EReal) * ∑ f : Fin 2816, A t f * G (f / 352) (f % 352) j := by
  funext i
  pointwise [k0_pay2]
  simp only [ex2_apply, ex3_apply, bits_half]; rfl

end Cert.FfnF
end
-- ==== Proof.FfnFwdTile.lean ====
/- What the feed-forward block's forward kernel leaves in its three results, at any extended reals: one grid point, what the host
   lines hand to it, and the arrays. -/
module

public import proofs.«01_k».proof.Proof.FfnFwdPay
public import Idealize.ShloMosaic.Lib.StableHlo.ReadAt
public import Idealize.ShloMosaic.Lib.Pipeline.ValueKit

@[expose] public section

set_option maxRecDepth 16384
set_option maxHeartbeats 4000000

noncomputable section

namespace Cert.FfnF
open Cert.FfnFwdIdeal Cert.FfnFwdIdeal.Gen Idealize.ShloMosaic Idealize.ShloMosaic.TcCoe Idealize.SL.Sem Cert.Base
open Idealize.ShloMosaic.Pipeline (Dat)

/-- The gated activations, stored in three ranges of the hidden coordinates and loaded as a whole. -/
theorem readCov_three [∀ e, Nonempty (Elt Ideal e)] {sig : RefSig} {κ : Kind} {sp : Space}
    (v : View sig κ sp ⟨2, ![512, 2816]⟩ .bf16) (h2 h1 h0 h) (U : ℕ → ℕ → EReal) :
    v.readCov (Val := Elt Ideal) [⟨Rect.unit ![0, 2048] ![512, 768] h2, ex2 fun t f => U t (2048 + f)⟩,
      ⟨Rect.unit ![0, 1024] ![512, 1024] h1, ex2 fun t f => U t (1024 + f)⟩, ⟨Rect.unit ![0, 0] ![512, 1024] h0, ex2 U⟩]
      (Rect.unit ![0, 0] ![512, 2816] h).toLoadRect = ex2 (m := 512) (n := 2816) U := by
  have hc : ∀ y : (⟨2, ![512, 2816]⟩ : Shape).Idx, ∃ p ∈ ([⟨Rect.unit ![0, 2048] ![512, 768] h2, ex2 fun t f => U t (2048 + f)⟩,
      ⟨Rect.unit ![0, 1024] ![512, 1024] h1, ex2 fun t f => U t (1024 + f)⟩, ⟨Rect.unit ![0, 0] ![512, 1024] h0, ex2 U⟩] :
        List (View.Piece (Elt Ideal) ⟨2, ![512, 2816]⟩ .bf16)), y ∈ p.1.set := by
    intro y
    have y0 : (y 0).val < 512 := (y 0).isLt
    have y1 : (y 1).val < 2816 := (y 1).isLt
    simp only [List.exists_mem_cons_iff, List.not_mem_nil, false_and, exists_false, or_false, Rect.mem_set_unit, Fin.forall_fin_two,
      Matrix.cons_val_zero, Matrix.cons_val_one]
    omega
  rw [View.readCov_eq_canon_ld _ _ _ hc]
  refine (congrArg (fun z => View.ld z _) (funext fun y => View.canon_apply_of_pieces (ex2 U) _ ?_ y (hc y))).trans ?_
  · simp only [List.forall_mem_cons, List.not_mem_nil, false_imp_iff, implies_true, and_true]
    refine ⟨fun x => ?_, fun x => ?_, fun x => ?_⟩
    · exact ((idx_ex2 h2 U x).trans (by simp only [Nat.zero_add])).symm
    · exact ((idx_ex2 h1 U x).trans (by simp only [Nat.zero_add])).symm
    · exact ((idx_ex2 h0 U x).trans (by simp only [Nat.zero_add])).symm
  · exact (ldx_bf16 h U).trans (by simp only [Nat.zero_add])

variable (m : (ℓ : Loc nD τ sig) → Buf (Elt Ideal) ℓ) (c : Dev nD) (X : ℕ → ℕ → EReal) (g : ℕ → EReal) (w1 w3 w2 : ℕ → ℕ → EReal)

/-- The input blocks of a grid point: 512 rows, and the whole of the weights. -/
structure Tile (t : Fin cfg0.N) : Prop where
  x : iblk m c 0 t = ex2 X
  gain : iblk m c 1 t = ex2 fun _ j => g j
  w1 : iblk m c 2 t = ex3 fun i r j => w1 j (352 * i + r)
  w3 : iblk m c 3 t = ex3 fun i r j => w3 j (352 * i + r)
  w2 : iblk m c 4 t = ex3 fun i r j => w2 (352 * i + r) j

/-- The block's result, in the tile's rows. -/
theorem y_tile {u : Vec Ideal S512x2816 .bf16} (hu : u = ex2 (ux X g w1 w3)) :
    k0_pay2 (F := Ideal) (ex2 X) u (ex3 fun i r j => w2 (352 * i + r) j) = ex2 (yx X g w1 w3 w2) := by
  rw [hu, y_eq]
  simp only [Nat.div_add_mod]
  rfl

variable {m c X g w1 w3 w2}

/-- What a grid point leaves in the three results' buffers. -/
theorem rows_tile {t : Fin cfg0.N} (I : Tile m c X g w1 w3 w2 t) : (outsAt0 m c t).1 = ex2 (yx X g w1 w3 w2)
    ∧ (outsAt0 m c t).2.1 = ex2 (px X g w1) ∧ (outsAt0 m c t).2.2 = ex2 (px X g w3) := by
  unfold outsAt0
  dsimp only
  unfold out0_A_5 out0_A_6 out0_A_7
  refine ⟨read_writes_eq _ _ _ (fun y => by apply cover0_A_5) _ ?_, read_writes_eq _ _ _ (fun y => by apply cover0_A_6) _ ?_,
    read_writes_eq _ _ _ (fun y => by apply cover0_A_7) _ ?_⟩
  all_goals
    unfold kernelRun0_A
    dsimp only
    sl_unfold_words
    simp only [View.readAt_eq_ld, (hs0_0 t).read_unread, (hs0_1 t).read_unread, (hs0_2 t).read_unread, (hs0_3 t).read_unread,
      (hs0_4 t).read_unread, I.x, I.gain, I.w1, I.w3, I.w2, ldx_f32, ldx_bf16, ldx3_bf16, Nat.zero_add, Nat.div_add_mod,
      List.forall_mem_cons, idx_ex2, List.not_mem_nil, false_imp_iff, implies_true, and_true, h_eq, w_eq, w_eq', a0_eq, b0_eq, a0'_eq,
      b0'_eq, a1_eq, b1_eq, a1'_eq, b1'_eq, a2_eq, b2_eq, a2'_eq, b2'_eq, t0_eq, u0_eq, u1_eq, u2_eq]
    first
    | exact fun x => congrFun (y_tile X g w1 w3 w2 (readCov_three _ _ _ _ _ (ux X g w1 w3))) x
    | exact ⟨fun _ => rfl, fun _ => rfl, fun _ => rfl⟩

/-- The arguments. -/
structure Args (m : (ℓ : Loc nD τ sig) → Buf (Elt Ideal) ℓ) (c : Dev nD) (X : ℕ → ℕ → EReal) (g : ℕ → EReal) (w1 w3 w2 : ℕ → ℕ → EReal) : Prop where
  x : m ((c : Thread nD τ).loc main_arg0) = ex2 X
  gain : m ((c : Thread nD τ).loc main_arg1) = ex1 g
  w1 : m ((c : Thread nD τ).loc main_arg2) = ex2 w1
  w3 : m ((c : Thread nD τ).loc main_arg3) = ex2 w3
  w2 : m ((c : Thread nD τ).loc main_arg4) = ex2 w2

theorem at_rows : ∀ t : Fin cfg0.N, win0_0.index t = ![t.val, 0] ∧ win0_5.index t = ![t.val, 0] ∧ win0_6.index t = ![t.val, 0]
    ∧ win0_7.index t = ![t.val, 0] := (by decide +kernel : ∀ t : Fin grid0.N, _)
theorem at_whole : ∀ t : Fin cfg0.N, win0_1.index t = ![0, 0] ∧ win0_2.index t = ![0, 0, 0] ∧ win0_3.index t = ![0, 1, 0]
    ∧ win0_4.index t = ![0, 2, 0] := (by decide +kernel : ∀ t : Fin grid0.N, _)

variable (A : Args m c X g w1 w3 w2)
include A

theorem args : m (c, Proc.tc.devRef main_arg1) = ex1 g ∧ m (c, Proc.tc.devRef main_arg2) = ex2 w1
    ∧ m (c, Proc.tc.devRef main_arg3) = ex2 w3 ∧ m (c, Proc.tc.devRef main_arg4) = ex2 w2 := ⟨A.gain, A.w1, A.w3, A.w2⟩

/-- The weights, packed by groups of 352 hidden coordinates. -/
theorem V_w : V m c main_v6 = ex3 fun i r j => if r < 352 then w1 j (352 * i + r) else if r < 704 then w3 j (352 * i + (r - 352))
    else w2 (352 * i + (r - 704)) j := by
  obtain ⟨e1, e2, e3, e4⟩ := args A
  have h : StableHlo.upto hostOps0 (fun b => m (c, b)) 5 (Proc.tc.devRef main_v1) = ex3 (fun i r j => w1 j (352 * i + r))
      ∧ StableHlo.upto hostOps0 (fun b => m (c, b)) 5 (Proc.tc.devRef main_v3) = ex3 (fun i r j => w3 j (352 * i + r))
      ∧ StableHlo.upto hostOps0 (fun b => m (c, b)) 5 (Proc.tc.devRef main_v4) = ex3 (fun i r j => w2 (352 * i + r) j) := by
    refine ⟨?_, ?_, ?_⟩
    all_goals
      after_reads_simp
      first | rw [e2] | rw [e3] | rw [e4]
      funext i
      pointwise
      simp only [ex2_apply, ex3_apply, Nat.mul_comm 352]
      rfl
  unfold V
  after_reads_simp
  simp only [Matrix.cons_val]
  rw [h.1, h.2.1, h.2.2]
  funext i
  pointwise
  rw [ex3_apply]
  by_cases h : (i 1).val < 352
  · rw [dif_pos h, if_pos h]; rfl
  rw [dif_neg h, if_neg h]
  by_cases h' : (i 1).val - 352 < 352
  · rw [dif_pos h', if_pos (show (i 1).val < 704 by omega)]; rfl
  · rw [dif_neg h', if_neg (show ¬(i 1).val < 704 by omega), show (i 1).val - 704 = (i 1).val - 352 - 352 by omega]; rfl

theorem V_gain : V m c main_v7 = ex2 fun _ j => g j := by
  obtain ⟨e1, -⟩ := args A
  unfold V
  after_reads_simp
  rw [e1]
  funext i
  pointwise
  rfl

/-- The blocks of a grid point. -/
theorem tile (t : Fin cfg0.N) : Tile m c (fun r j => X (512 * t.val + r) j) g w1 w3 w2 t := by
  obtain ⟨i0, -⟩ := at_rows t
  obtain ⟨i1, i2, i3, i4⟩ := at_whole t
  refine ⟨?x, ?g, ?w1, ?w3, ?w2⟩
  case x => funext x; blk_simp [iblk]; rw [V_main_arg0, A.x]; refine ex2_at _ _ x ?_ ?_ <;> blk_simp [i0] <;> omega
  case g => funext x; blk_simp [iblk]; rw [V_gain A]; exact ex2_at (a := 0) _ _ x (by blk_simp [i1]) (by blk_simp [i1])
  all_goals
    funext x
    idx_bounds x
    blk_simp [iblk]; rw [V_w A, ex3_apply, ex3_apply]; blk_simp [i2, i3, i4]
  case w1 => rw [if_pos hb1]
  case w3 => rw [if_neg (by omega), if_pos (by omega), Nat.add_sub_cancel_left]
  case w2 => rw [if_neg (by omega), if_neg (by omega), Nat.add_sub_cancel_left]

/-- The three result arrays. -/
theorem arrays : (dats m 0 c).arrAt 5 cfg0.N = ex2 (yx X g w1 w3 w2) ∧ (dats m 0 c).arrAt 6 cfg0.N = ex2 (px X g w1)
    ∧ (dats m 0 c).arrAt 7 cfg0.N = ex2 (px X g w3) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_⟩
  all_goals
    obtain ⟨e5, e6, e7⟩ := rows_tile (tile A t)
    obtain ⟨-, i5, i6, i7⟩ := at_rows t
    blk_simp
    first | rw [after0_5, e5] | rw [after0_6, e6] | rw [after0_7, e7]
    symm
    refine (ex2_at (a := 512 * t.val) _ _ y ?_ ?_).trans rfl
    · blk_simp [i5, i6, i7]; omega
    · blk_simp [i5, i6, i7]

end Cert.FfnF
end
-- ==== Proof.FfnFwdClaim.lean ====
/- The feed-forward block's forward kernel and its reference end at the same arrays, whatever the arguments: no sum is rearranged, and
   half a hyperbolic tangent plus a half is the logistic function at the infinities too. -/
module

public import proofs.«01_k».proof.Defs
public import proofs.«01_k».proof.Proof.FfnFwdTile
public import proofs.«01_k».proof.Proof.Gen.FfnFwdIdeal.Value
public import proofs.«01_k».proof.Proof.Gen.FfnFwdRefIdeal
public import proofs.«01_k».proof.Proof.Gen.FfnFwdRefIdeal.Read
public import Idealize.ShloMosaic.Lib.KernelVsHost
public import Idealize.ShloMosaic.Lib.Quiescent

@[expose] public section

set_option maxRecDepth 16384
set_option maxHeartbeats 1000000

noncomputable section

namespace Cert.FfnF.Ref
open Cert.Base Cert.FfnF Cert.FfnFwdRefIdeal.Read Idealize.ShloMosaic

variable (X : ℕ → ℕ → EReal) (g : ℕ → EReal) (w1 w3 w2 : ℕ → ℕ → EReal)

theorem h_eq : val_main_v12 (F := Ideal) (ex2 X) (ex1 g) = ex2 (hx X g) := by
  funext i
  simp only [val_main_v12_apply, val_main_v11_apply, val_main_v10_apply, val_main_v9_apply, val_main_v8_apply, val_main_v7_apply,
    val_main_v6_apply, val_main_v4_apply, val_main_v2_apply, val_main_v1_apply, val_main_v0_apply, val_main_v3_apply,
    val_main_v5_apply, val_main_cst_apply, val_main_cst_0_apply, val_main_cst_1_apply, Ideal.ofBits_def, Ideal.addf_def,
    Ideal.mulf_def, Ideal.hostDivf_def, Ideal.hostUnary_rsqrt_def, bits_zero, bits_eps, bits_1024, ex2_apply, ex1_apply, EReal.coe_zero, zero_add]
  rfl

/-- The same lines again, where the block's result is computed. -/
theorem h'_eq : val_main_v25 (F := Ideal) (ex2 X) (ex1 g) = ex2 (hx X g) := h_eq X g

theorem a_eq : val_main_v26 (F := Ideal) (ex2 X) (ex1 g) (ex2 w1) = ex2 (px X g w1) := by
  funext i
  simp only [val_main_v26_apply, h'_eq, ex2_apply]
  rfl
theorem b_eq : val_main_v28 (F := Ideal) (ex2 X) (ex1 g) (ex2 w3) = ex2 (px X g w3) := a_eq X g w3
theorem a'_eq : val_main_v35 (F := Ideal) (ex2 X) (ex1 g) (ex2 w1) = ex2 (px X g w1) := a_eq X g w1
theorem b'_eq : val_main_v37 (F := Ideal) (ex2 X) (ex1 g) (ex2 w3) = ex2 (px X g w3) := a_eq X g w3

theorem u_eq : val_main_v29 (F := Ideal) (ex2 X) (ex1 g) (ex2 w1) (ex2 w3) = ex2 (ux X g w1 w3) := by
  funext i
  simp only [val_main_v29_apply, val_main_v27_apply, val_main_call0_v5_apply, val_main_call0_v4_apply, val_main_call0_v3_apply,
    val_main_call0_v2_apply, val_main_call0_v1_apply, val_main_call0_v0_apply, val_main_call0_cst_apply, val_main_call0_cst_0_apply,
    a_eq, b_eq, ex2_apply, Ideal.ofBits_def, bits_one, Ideal.hostNegf_def, Ideal.negf_def, Ideal.hostUnary_exp_def,
    Ideal.addf_def, Ideal.hostDivf_def, logistic_sge, Ideal.mulf_def, ux]

theorem y_eq : val_main_v33 (F := Ideal) (ex2 X) (ex1 g) (ex2 w1) (ex2 w3) (ex2 w2) = ex2 (yx X g w1 w3 w2) := by
  funext i
  simp only [val_main_v33_apply, val_main_v32_apply, val_main_v31_apply, val_main_v30_apply, val_main_cst_5_apply, u_eq, ex2_apply,
    Ideal.ofBits_def, bits_half, Ideal.addf_def, Ideal.mulf_def]
  rfl
end Cert.FfnF.Ref

namespace Cert.FfnF
open Idealize.ShloMosaic Idealize.ShloMosaic.TcCoe Idealize.SL.Sem Cert.Base

theorem algebraic : Cert.algebraic_FfnFwdIdeal_FfnFwdRefIdeal := by
  intro m g m' g' _ hagree
  have real : ∀ c : Dev Cert.FfnFwdIdeal.nD, ∃ (X : ℕ → ℕ → EReal) (g : ℕ → EReal) (w1 w3 w2 : ℕ → ℕ → EReal), Args m c X g w1 w3 w2 := by
    intro c
    obtain ⟨X, e0⟩ := exists_ex2 (m ((c : Thread Cert.FfnFwdIdeal.nD Cert.FfnFwdIdeal.τ).loc Cert.FfnFwdIdeal.main_arg0))
    obtain ⟨k, e1⟩ := exists_ex1 (m ((c : Thread Cert.FfnFwdIdeal.nD Cert.FfnFwdIdeal.τ).loc Cert.FfnFwdIdeal.main_arg1))
    obtain ⟨w1, e2⟩ := exists_ex2 (m ((c : Thread Cert.FfnFwdIdeal.nD Cert.FfnFwdIdeal.τ).loc Cert.FfnFwdIdeal.main_arg2))
    obtain ⟨w3, e3⟩ := exists_ex2 (m ((c : Thread Cert.FfnFwdIdeal.nD Cert.FfnFwdIdeal.τ).loc Cert.FfnFwdIdeal.main_arg3))
    obtain ⟨w2, e4⟩ := exists_ex2 (m ((c : Thread Cert.FfnFwdIdeal.nD Cert.FfnFwdIdeal.τ).loc Cert.FfnFwdIdeal.main_arg4))
    exact ⟨X, k, w1, w3, w2, e0, e1, e2, e3, e4⟩
  choose X k w1 w3 w2 A using real
  refine ⟨_, _, _, Cert.FfnFwdIdeal.Value.run_blocks m g, ?_⟩
  refine (θ_run Cert.FfnFwdRefIdeal.defs _ _).mono (fun r h c => ?_) (Cert.FfnFwdRefIdeal.Value.run (F := Ideal) m' g')
  obtain ⟨h0, h1, h2, h⟩ := h c
  obtain ⟨a0, a1, a2, a3, a4⟩ := hagree c
  have r0 := a0.trans (A c).x
  have r1 := a1.trans (A c).gain
  have r2 := a2.trans (A c).w1
  have r3 := a3.trans (A c).w3
  have r4 := a4.trans (A c).w2
  obtain ⟨b5, b6, b7⟩ := arrays (A c)
  refine ⟨h0.trans ?_, h1.trans ?_, h2.trans ?_, h⟩
  · rw [Cert.FfnFwdRefIdeal.Read.val_main_v33_eq, r0, r1, r2, r3, r4]
    exact (Ref.y_eq _ _ _ _ _).trans b5.symm
  · rw [Cert.FfnFwdRefIdeal.Read.val_main_v35_eq, r0, r1, r2]
    exact (Ref.a'_eq _ _ _).trans b6.symm
  · rw [Cert.FfnFwdRefIdeal.Read.val_main_v37_eq, r0, r1, r3]
    exact (Ref.b'_eq _ _ _).trans b7.symm

end Cert.FfnF
end
-- ==== Proof.FfnBlock.lean ====
/- One tile of the feed-forward block's gradient kernel, over the reals: each of its values at real arguments. -/
module

public import proofs.«01_k».proof.Proof.FfnReal
public import proofs.«01_k».proof.Proof.Blocks
public import proofs.«01_k».proof.Proof.Gen.FfnBwdIdeal.Value

@[expose] public section

set_option maxRecDepth 16384

noncomputable section

namespace Cert.Ffn.Blk

open Cert.FfnBwdIdeal Cert.FfnBwdIdeal.Gen Idealize.ShloMosaic Idealize.ShloMosaic.TcCoe Idealize.SL.Sem Cert.Base Cert.Ffn

/-- The gradients of the gate's two factors from that of their product. -/
def gda (u a b : ℝ) : ℝ := u * b * (sg a + a * sg a * (1 - sg a))
def gdb (u a : ℝ) : ℝ := u * (a * sg a)

variable (X D U W W' A B : ℕ → ℕ → ℝ) (g : ℕ → ℝ) (G : ℕ → ℕ → ℕ → ℝ)

theorem rs_eq : k0_pay5 (F := Ideal) (co2 X) = co2 fun t _ => rs X t := by
  funext i
  pointwise [k0_pay5]
  simp only [co2_apply, bits_1024, bits_eps, ← EReal.coe_mul, coe_sum, div_coe_coe _ (1024 : ℝ) (by norm_num), ← EReal.coe_add]
  exact rsqrt_ms X _

theorem xh_eq : k0_pay6 (F := Ideal) (co2 X) = co2 (xh X) := by
  funext i
  unfold k0_pay6
  rw [rs_eq]
  pointwise
  simp only [co2_apply, ← EReal.coe_mul]; rfl

theorem h_eq : k0_pay7 (F := Ideal) (co2 X) (co2 fun _ j => g j) = co2 (hh X g) := by
  funext i
  unfold k0_pay7
  rw [xh_eq]
  pointwise [k0_pay4]
  simp only [co2_apply, ← EReal.coe_mul]; rfl

theorem half_eq : k0_pay8 (F := Ideal) (co2 D) = co2 fun t k => 1 / 2 * D t k := by
  funext i
  pointwise [k0_pay8]
  simp only [co2_apply, bits_half, ← EReal.coe_mul]

/-- A weight's tile, laid out by device, as one matrix. -/
theorem w_eq : k0_pay9 (F := Ideal) (co3 G) = co2 fun f k => G (f / 352) (f % 352) k := by
  funext i
  pointwise [k0_pay9]
  rfl

theorem w_eq' : k0_pay10 (F := Ideal) (co3 G) = co2 fun f k => G (f / 352) (f % 352) k := w_eq G
theorem w_eq'' : k0_pay11 (F := Ideal) (co3 G) = co2 fun f k => G (f / 352) (f % 352) k := w_eq G

theorem du0_eq : k0_pay12 (F := Ideal) (co2 D) (co2 W) = co2 fun t f => ∑ k : Fin 1024, D t k * W f k := by
  funext i
  pointwise [k0_pay12]
  simp only [co2_apply, ← EReal.coe_mul, coe_sum]; rfl
theorem du1_eq : k0_pay21 (F := Ideal) (co2 D) (co2 W) = co2 fun t f => ∑ k : Fin 1024, D t k * W (1024 + f) k := by
  funext i
  pointwise [k0_pay21]
  simp only [co2_apply, ← EReal.coe_mul, coe_sum]; rfl
theorem du2_eq : k0_pay30 (F := Ideal) (co2 D) (co2 W) = co2 fun t f => ∑ k : Fin 1024, D t k * W (2048 + f) k := by
  funext i
  pointwise [k0_pay30]
  simp only [co2_apply, ← EReal.coe_mul, coe_sum]; rfl

theorem da0_eq : k0_pay18 (F := Ideal) (co2 D) (co2 W) (co2 A) (co2 B)
    = co2 fun t f => gda (∑ k : Fin 1024, D t k * W f k) (A t f) (B t f) := by
  funext i
  unfold k0_pay18
  rw [du0_eq]
  pointwise [k0_pay13, k0_pay14, k0_pay15, k0_pay16]
  simp only [co2_apply, bits_half, ← EReal.coe_mul, Ideal.tanh_coe, ← EReal.coe_add, sg_tanh, ← EReal.coe_one, sub_co, gda]
theorem da1_eq : k0_pay27 (F := Ideal) (co2 U) (co2 A) (co2 B) = co2 fun t f => gda (U t f) (A t f) (B t f) := by
  funext i
  pointwise [k0_pay22, k0_pay23, k0_pay24, k0_pay25, k0_pay27]
  simp only [co2_apply, bits_half, ← EReal.coe_mul, Ideal.tanh_coe, ← EReal.coe_add, sg_tanh, ← EReal.coe_one, sub_co, gda]
theorem da2_eq : k0_pay37 (F := Ideal) (co2 U) (k0_pay31 (F := Ideal) (co2 A)) (co2 B) = co2 fun t f => gda (U t f) (A t f) (B t f) := by
  funext i
  pointwise [k0_pay31, k0_pay32, k0_pay33, k0_pay34, k0_pay35, k0_pay37]
  simp only [co2_apply, bits_half, ← EReal.coe_mul, Ideal.tanh_coe, ← EReal.coe_add, sg_tanh, ← EReal.coe_one, sub_co, gda]

theorem db0_eq : k0_pay19 (F := Ideal) (co2 D) (co2 W) (co2 A) = co2 fun t f => gdb (∑ k : Fin 1024, D t k * W f k) (A t f) := by
  funext i
  unfold k0_pay19
  rw [du0_eq]
  pointwise [k0_pay13, k0_pay15, k0_pay16]
  simp only [co2_apply, bits_half, ← EReal.coe_mul, Ideal.tanh_coe, ← EReal.coe_add, sg_tanh, gdb]
theorem db1_eq : k0_pay28 (F := Ideal) (co2 U) (co2 A) = co2 fun t f => gdb (U t f) (A t f) := by
  funext i
  pointwise [k0_pay22, k0_pay24, k0_pay25, k0_pay28]
  simp only [co2_apply, bits_half, ← EReal.coe_mul, Ideal.tanh_coe, ← EReal.coe_add, sg_tanh, gdb]
theorem db2_eq : k0_pay38 (F := Ideal) (co2 U) (k0_pay31 (F := Ideal) (co2 A)) = co2 fun t f => gdb (U t f) (A t f) := by
  funext i
  pointwise [k0_pay31, k0_pay32, k0_pay34, k0_pay35, k0_pay38]
  simp only [co2_apply, bits_half, ← EReal.coe_mul, Ideal.tanh_coe, ← EReal.coe_add, sg_tanh, gdb]

theorem u0_eq : k0_pay17 (F := Ideal) (co2 A) (co2 B) = co2 fun t f => A t f * sg (A t f) * B t f := by
  funext i
  pointwise [k0_pay13, k0_pay14, k0_pay15, k0_pay16, k0_pay17]
  simp only [co2_apply, bits_half, ← EReal.coe_mul, Ideal.tanh_coe, ← EReal.coe_add, sg_tanh]
theorem u1_eq : k0_pay26 (F := Ideal) (co2 A) (co2 B) = co2 fun t f => A t f * sg (A t f) * B t f := by
  funext i
  pointwise [k0_pay22, k0_pay23, k0_pay24, k0_pay25, k0_pay26]
  simp only [co2_apply, bits_half, ← EReal.coe_mul, Ideal.tanh_coe, ← EReal.coe_add, sg_tanh]
theorem u2_eq : k0_pay36 (F := Ideal) (k0_pay31 (F := Ideal) (co2 A)) (co2 B) = co2 fun t f => A t f * sg (A t f) * B t f := by
  funext i
  pointwise [k0_pay31, k0_pay32, k0_pay33, k0_pay34, k0_pay35, k0_pay36]
  simp only [co2_apply, bits_half, ← EReal.coe_mul, Ideal.tanh_coe, ← EReal.coe_add, sg_tanh]

/-! The gradient of the normalized rows, gathered over three ranges of the hidden coordinates. -/

theorem dh0_eq : k0_pay20 (F := Ideal) (co2 D) (co2 W) (co2 W') (co2 U) (Scalar.ofBits .f32 0x00000000#32) (co2 A) (co2 B)
    = co2 fun t j => (∑ f : Fin 1024, gda (∑ k : Fin 1024, D t k * U f k) (A t f) (B t f) * W f j)
        + ∑ f : Fin 1024, gdb (∑ k : Fin 1024, D t k * U f k) (A t f) * W' f j := by
  funext i
  unfold k0_pay20
  rw [da0_eq, db0_eq]
  pointwise
  simp only [co2_apply, ← EReal.coe_mul, coe_sum, ← EReal.coe_add]; rfl
theorem dh1_eq : k0_pay29 (F := Ideal) (co2 W) (co2 W') (co2 X) (co2 U) (co2 A) (co2 B)
    = co2 fun t j => X t j + (∑ f : Fin 1024, gda (U t f) (A t f) (B t f) * W (1024 + f) j)
        + ∑ f : Fin 1024, gdb (U t f) (A t f) * W' (1024 + f) j := by
  funext i
  unfold k0_pay29
  rw [da1_eq, db1_eq]
  pointwise
  simp only [co2_apply, ← EReal.coe_mul, coe_sum, ← EReal.coe_add]; rfl
theorem dh2_eq : k0_pay39 (F := Ideal) (co2 W) (co2 W') (co2 X) (co2 U) (k0_pay31 (F := Ideal) (co2 A)) (co2 B)
    = co2 fun t j => X t j + (∑ f : Fin 768, gda (U t f) (A t f) (B t f) * W (2048 + f) j)
        + ∑ f : Fin 768, gdb (U t f) (A t f) * W' (2048 + f) j := by
  funext i
  unfold k0_pay39
  rw [da2_eq, db2_eq]
  pointwise
  simp only [co2_apply, ← EReal.coe_mul, coe_sum, ← EReal.coe_add]; rfl

/-- The whole of it: the three ranges together, at the saved products of the forward pass. -/
theorem dh_eq (Dy : ℕ → ℕ → ℝ) (w1 w3 w2 : ℕ → ℕ → ℝ) :
    k0_pay39 (F := Ideal) (co2 fun f k => w1 k f) (co2 fun f k => w3 k f)
      (k0_pay29 (F := Ideal) (co2 fun f k => w1 k f) (co2 fun f k => w3 k f)
        (k0_pay20 (F := Ideal) (co2 fun t k => 1 / 2 * Dy t k) (co2 fun f k => w1 k f) (co2 fun f k => w3 k f) (co2 fun f k => w2 f k)
          (FloatOps.ofBits .f32 0x00000000#32) (co2 fun t j => pr X g w1 t j) (co2 fun t j => pr X g w3 t j))
        (k0_pay21 (F := Ideal) (co2 fun t k => 1 / 2 * Dy t k) (co2 fun f k => w2 f k))
        (co2 fun t j => pr X g w1 t (1024 + j)) (co2 fun t j => pr X g w3 t (1024 + j)))
      (k0_pay30 (F := Ideal) (co2 fun t k => 1 / 2 * Dy t k) (co2 fun f k => w2 f k))
      (k0_pay31 (F := Ideal) (co2 fun t j => pr X g w1 t (2048 + j))) (co2 fun t j => pr X g w3 t (2048 + j))
    = co2 (dh X Dy g w1 w3 w2) := by
  rw [du1_eq, du2_eq]
  refine (congrArg (fun z => k0_pay39 (F := Ideal) _ _ (k0_pay29 (F := Ideal) _ _ z _ _ _) _ _ _) (dh0_eq _ _ _ _ _ _)).trans ?_
  rw [dh1_eq, dh2_eq]
  refine co2_congr fun t j _ _ => ?_
  rw [dh, sum_three 1024 1024 768 2816 rfl fun f => da X Dy g w1 w3 w2 t f * w1 j f, sum_three 1024 1024 768 2816 rfl fun f => db X Dy g w1 w2 t f * w3 j f]
  simp only [gda, gdb, da, db, du, Nat.reduceAdd]
  ring

theorem dx_eq (Dy H : ℕ → ℕ → ℝ) (a1 a2 a3 a4 a5 a6) (h : k0_pay39 (F := Ideal) a1 a2 a3 a4 a5 a6 = co2 H) :
    k0_pay1 (F := Ideal) (co2 Dy) (k0_pay5 (F := Ideal) (co2 X)) (k0_pay40 (F := Ideal) (k0_pay4 (F := Ideal) (co2 fun _ j => g j)) a1 a2 a3 a4 a5 a6)
      (k0_pay41 (F := Ideal) (k0_pay4 (F := Ideal) (co2 fun _ j => g j)) (k0_pay6 (F := Ideal) (co2 X)) a1 a2 a3 a4 a5 a6)
    = co2 fun t j => Dy t j + dnorm X (fun t j => H t j * g j) t j := by
  have h40 : k0_pay40 (F := Ideal) (k0_pay4 (F := Ideal) (co2 fun _ j => g j)) a1 a2 a3 a4 a5 a6 = co2 fun t j => H t j * g j := by
    funext i
    unfold k0_pay40
    rw [h]
    pointwise [k0_pay4]
    simp only [co2_apply, ← EReal.coe_mul]; rfl
  funext i
  unfold k0_pay41
  rw [h40, rs_eq, xh_eq]
  pointwise [k0_pay1]
  simp only [co2_apply, bits_1024, ← EReal.coe_mul, coe_sum, div_coe_coe _ (1024 : ℝ) (by norm_num), sub_co, ← EReal.coe_add]
  rfl

theorem zero_eq : k0_pay3 (F := Ideal) = co2 fun _ _ => 0 := by
  funext i
  pointwise [k0_pay3]
  simp only [co2_apply, bits_zero, EReal.coe_zero]

theorem dg_eq : k0_pay2 (F := Ideal) (co2 X) (co2 D) (co2 U) = co2 fun r j => U r j + ∑ t : Fin 256, D t j * X t j := by
  funext i
  pointwise [k0_pay2]
  simp only [co2_apply, ← EReal.coe_mul, coe_sum, ← EReal.coe_add]; rfl

end Cert.Ffn.Blk

end
-- ==== Proof.FfnTile.lean ====
/- What one grid point of the feed-forward block's gradient kernel leaves in its outputs' buffers. -/
module

public import proofs.«01_k».proof.Proof.FfnBlock

@[expose] public section

set_option maxRecDepth 16384
set_option maxHeartbeats 1000000

noncomputable section

namespace Cert.Ffn.Blk

open Cert.FfnBwdIdeal Cert.FfnBwdIdeal.Gen Idealize.ShloMosaic Idealize.ShloMosaic.TcCoe Idealize.SL.Sem Cert.Base Cert.Ffn

variable (m : (ℓ : Loc nD τ sig) → Buf (Elt Ideal) ℓ) (c : Dev nD) (t : Fin cfg0.N)
  (X Dy : ℕ → ℕ → ℝ) (g : ℕ → ℝ) (w1 w3 w2 : ℕ → ℕ → ℝ)

/-- The input blocks of a grid point, as real matrices: 256 rows, and the whole of the weights. -/
structure Tile : Prop where
  x : iblk m c 0 t = co2 X
  dy : iblk m c 1 t = co2 Dy
  a : iblk m c 2 t = co2 (pr X g w1)
  b : iblk m c 3 t = co2 (pr X g w3)
  gain : iblk m c 4 t = co2 fun _ j => g j
  w1 : iblk m c 5 t = co3 fun i r k => w1 k (352 * i + r)
  w3 : iblk m c 6 t = co3 fun i r k => w3 k (352 * i + r)
  w2 : iblk m c 7 t = co3 fun i r k => w2 (352 * i + r) k

variable {m c t X Dy g w1 w3 w2} (T : Tile m c t X Dy g w1 w3 w2)
include T

/-- The rows of the argument's gradient, the gradients of the two hidden products, the gated activations, and the
    normalized rows times the gain: each tile's own, whichever case the point is in. -/
theorem rows_tile : (outsAt0 m c t.val t.isLt).1 = co2 (fun t j => Dy t j + dnorm X (fun t j => dh X Dy g w1 w3 w2 t j * g j) t j)
    ∧ (outsAt0 m c t.val t.isLt).2.1 = co2 (da X Dy g w1 w3 w2)
    ∧ (outsAt0 m c t.val t.isLt).2.2.1 = co2 (db X Dy g w1 w2)
    ∧ (outsAt0 m c t.val t.isLt).2.2.2.1 = co2 (uu X g w1 w3)
    ∧ (outsAt0 m c t.val t.isLt).2.2.2.2.1 = co2 (hh X g) := by
  by_cases h0 : t.val % 32 = 0
  case' pos =>
    rw [outsAt0_A m c t h0]
    dsimp only
    unfold out0_A_8 out0_A_9 out0_A_10 out0_A_11 out0_A_12
    refine ⟨read_writes_eq _ _ _ (fun y => by apply cover0_A_8) _ ?_, read_writes_eq _ _ _ (fun y => by apply cover0_A_9) _ ?_,
      read_writes_eq _ _ _ (fun y => by apply cover0_A_10) _ ?_, read_writes_eq _ _ _ (fun y => by apply cover0_A_11) _ ?_,
      read_writes_eq _ _ _ (fun y => by apply cover0_A_12) _ ?_⟩
    all_goals
      unfold kernelRun0_A
      dsimp only
      sl_unfold_words
  case' neg =>
    rw [outsAt0_B m c t h0]
    dsimp only
    unfold out0_B_8 out0_B_9 out0_B_10 out0_B_11 out0_B_12
    refine ⟨read_writes_eq _ _ _ (fun y => by apply cover0_B_8) _ ?_, read_writes_eq _ _ _ (fun y => by apply cover0_B_9) _ ?_,
      read_writes_eq _ _ _ (fun y => by apply cover0_B_10) _ ?_, read_writes_eq _ _ _ (fun y => by apply cover0_B_11) _ ?_,
      read_writes_eq _ _ _ (fun y => by apply cover0_B_12) _ ?_⟩
    all_goals
      unfold kernelRun0_B
      dsimp only
      sl_unfold_words
  all_goals
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, T.x, T.dy, T.a, T.b, T.gain, T.w1, T.w3, T.w2,
      ld_f32, ld_bf16, ld3_bf16, w_eq, w_eq', w_eq'', half_eq, Nat.zero_add, Nat.div_add_mod, List.forall_mem_cons, idx_co2,
      List.not_mem_nil, false_imp_iff, implies_true, and_true]
    first
    | exact fun x => congrFun (dx_eq X g Dy _ _ _ _ _ _ _ (dh_eq X g Dy w1 w3 w2)) x
    | exact fun x => congrFun (h_eq X g) x
    | simp only [du1_eq, du2_eq, da0_eq, da1_eq, da2_eq, db0_eq, db1_eq, db2_eq, u0_eq, u1_eq, u2_eq]
      exact ⟨fun _ => rfl, fun _ => rfl, fun _ => rfl⟩

/-- At the first point the gain's gradient is the tile's share, in the first row; the other rows are zero. -/
theorem dg_tile_A (h0 : t.val % 32 = 0) : (outsAt0 m c t.val t.isLt).2.2.2.2.2
    = co2 fun r j => if r = 0 then ∑ s : Fin 256, dgt X Dy g w1 w3 w2 s j else 0 := by
  rw [outsAt0_A m c t h0]
  dsimp only
  unfold out0_A_13 kernelRun0_A
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, T.x, T.dy, T.a, T.b, T.gain, T.w1, T.w3, T.w2,
      ld_f32, ld_bf16, ld3_bf16, w_eq, w_eq', w_eq'', half_eq, Nat.zero_add, Nat.div_add_mod, dh_eq, xh_eq, zero_eq, readCov_whole, dg_eq]
  refine (read_row _ _ _ _ (fun _ _ => 0) _ ?_).trans (co2_congr fun r j _ _ => by simp only [zero_add]; rfl)
  exact read_whole _ _ _ _

/-- At the others it is added to what the point before left. -/
theorem dg_tile_B (h0 : ¬t.val % 32 = 0) (P : ℕ → ℕ → ℝ)
    (hP : (outsAt0 m c (t.val - 1) (Nat.lt_of_le_of_lt (Nat.sub_le _ _) t.isLt)).2.2.2.2.2 = co2 P) :
    (outsAt0 m c t.val t.isLt).2.2.2.2.2
      = co2 fun r j => if r = 0 then P 0 j + ∑ s : Fin 256, dgt X Dy g w1 w3 w2 s j else P r j := by
  rw [outsAt0_B m c t h0, hP]
  dsimp only
  unfold out0_B_13 kernelRun0_B
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_13 t).read_unread, T.x, T.dy, T.a, T.b, T.gain, T.w1, T.w3, T.w2,
      ld_f32, ld_bf16, ld3_bf16, w_eq, w_eq', w_eq'', half_eq, Nat.zero_add, Nat.div_add_mod, dh_eq, xh_eq, dg_eq]
  exact read_row _ _ _ _ P _ ((hs0_13 t).read_unread _)

end Cert.Ffn.Blk

end
-- ==== Proof.FfnHost.lean ====
/- What the host lines hand to the feed-forward block's gradient kernel, as real matrices. -/
module

public import proofs.«01_k».proof.Proof.FfnTile
public import Idealize.ShloMosaic.Lib.StableHlo.ReadAt
public import Idealize.ShloMosaic.Lib.Pipeline.ValueKit

@[expose] public section

set_option maxRecDepth 16384
set_option maxHeartbeats 1000000

noncomputable section

namespace Cert.Ffn.Blk

open Cert.FfnBwdIdeal Cert.FfnBwdIdeal.Gen Idealize.ShloMosaic Idealize.ShloMosaic.TcCoe Idealize.SL.Sem Cert.Base Cert.Ffn

variable (m : (ℓ : Loc nD τ sig) → Buf (Elt Ideal) ℓ) (c : Dev nD) (X Dy : ℕ → ℕ → ℝ) (g : ℕ → ℝ) (w1 w3 w2 : ℕ → ℕ → ℝ)

/-- The arguments, as real arrays. -/
structure Args : Prop where
  x : m ((c : Thread nD τ).loc main_arg0) = co2 X
  gain : m ((c : Thread nD τ).loc main_arg1) = co1 g
  w1 : m ((c : Thread nD τ).loc main_arg2) = co2 w1
  w3 : m ((c : Thread nD τ).loc main_arg3) = co2 w3
  w2 : m ((c : Thread nD τ).loc main_arg4) = co2 w2
  dy : m ((c : Thread nD τ).loc main_arg5) = co2 Dy

variable {m c X Dy g w1 w3 w2} (A : Args m c X Dy g w1 w3 w2)

/-- Where each block sits. -/
theorem at_rows : ∀ t : Fin cfg0.N, win0_0.index t = ![t.val, 0] ∧ win0_1.index t = ![t.val, 0] ∧ win0_2.index t = ![t.val, 0] ∧ win0_3.index t = ![t.val, 0]
    ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)
theorem at_weights : ∀ t : Fin cfg0.N, win0_4.index t = ![0, 0] ∧ win0_5.index t = ![0, 0, 0] ∧ win0_6.index t = ![0, 1, 0] ∧ win0_7.index t = ![0, 2, 0] ∧ win0_13.index t = ![0, 0] :=
  (by decide +kernel : ∀ t : Fin grid0.N, _)

include A

theorem args : m (c, Proc.tc.devRef main_arg0) = co2 X ∧ m (c, Proc.tc.devRef main_arg1) = co1 g ∧ m (c, Proc.tc.devRef main_arg2) = co2 w1
    ∧ m (c, Proc.tc.devRef main_arg3) = co2 w3 ∧ m (c, Proc.tc.devRef main_arg4) = co2 w2 ∧ m (c, Proc.tc.devRef main_arg5) = co2 Dy :=
  ⟨A.x, A.gain, A.w1, A.w3, A.w2, A.dy⟩

/-- The products of the normalized rows with the two weights that the forward pass saves. -/
theorem V_ab : V m c main_v16 = co2 (pr X g w1) ∧ V m c main_v19 = co2 (pr X g w3) := by
  obtain ⟨e0, e1, e2, e3, e4, e5⟩ := args A
  unfold V
  constructor
  all_goals
    after_reads_simp
    rw [e0, e1]
    first | rw [e2] | rw [e3]
    funext i
    pointwise
    simp only [co2_apply, co1_apply, bits_zero, bits_eps, bits_1024, ← EReal.coe_mul, coe_sum, ← EReal.coe_add,
      div_coe_coe _ (1024 : ℝ) (by norm_num), zero_add]
    refine (Finset.sum_congr rfl fun x _ => congrArg (· * _) (congrArg (· * _) (congrArg (_ * ·) (rsqrt_ms X (i 0).val)))).trans ?_
    simp only [← EReal.coe_mul, coe_sum]
    rfl

/-- The three weights in one array: each device's group of rows the transposed hidden weights' and the output weight's. -/
theorem V_w : V m c main_v26 = co3 fun i r k => if r < 352 then w1 k (352 * i + r) else if r < 704 then w3 k (352 * i + (r - 352))
    else w2 (352 * i + (r - 704)) k := by
  obtain ⟨e0, e1, e2, e3, e4, e5⟩ := args A
  have h : StableHlo.upto hostOps0 (fun b => m (c, b)) 28 (Proc.tc.devRef main_v21) = co3 (fun i r k => w1 k (352 * i + r))
      ∧ StableHlo.upto hostOps0 (fun b => m (c, b)) 28 (Proc.tc.devRef main_v23) = co3 (fun i r k => w3 k (352 * i + r))
      ∧ StableHlo.upto hostOps0 (fun b => m (c, b)) 28 (Proc.tc.devRef main_v24) = co3 (fun i r k => w2 (352 * i + r) k) := by
    refine ⟨?_, ?_, ?_⟩
    all_goals
      after_reads_simp
      first | rw [e2] | rw [e3] | rw [e4]
      funext i
      pointwise
      simp only [co2_apply, co3_apply, Nat.mul_comm 352]
      rfl
  unfold V
  after_reads_simp
  simp only [Matrix.cons_val]
  rw [h.1, h.2.1, h.2.2]
  funext i
  pointwise
  rw [co3_apply]
  by_cases h : (i 1).val < 352
  · rw [dif_pos h, if_pos h]; rfl
  rw [dif_neg h, if_neg h]
  by_cases h' : (i 1).val - 352 < 352
  · rw [dif_pos h', if_pos (show (i 1).val < 704 by omega)]; rfl
  · rw [dif_neg h', if_neg (show ¬(i 1).val < 704 by omega), show (i 1).val - 704 = (i 1).val - 352 - 352 by omega]; rfl

theorem V_g : V m c main_v27 = co2 fun _ j => g j := by
  obtain ⟨e0, e1, e2, e3, e4, e5⟩ := args A
  unfold V
  after_reads_simp
  rw [e1]
  funext i
  pointwise
  rfl

/-- The blocks of a grid point: 256 rows of each array of rows. -/
theorem tile (t : Fin cfg0.N) : Tile m c t (fun r k => X (256 * t.val + r) k) (fun r k => Dy (256 * t.val + r) k) g w1 w3 w2 := by
  obtain ⟨i0, i1, i2, i3, -⟩ := at_rows t
  obtain ⟨i4, i5, i6, i7, -⟩ := at_weights t
  obtain ⟨Va, Vb⟩ := V_ab A
  constructor
  · funext x; blk_simp [iblk]; rw [V_main_arg0, A.x]
    refine co2_at _ _ x ?_ ?_ <;> blk_simp [i0] <;> omega
  · funext x; blk_simp [iblk]; rw [V_main_arg5, A.dy]
    refine co2_at _ _ x ?_ ?_ <;> blk_simp [i1] <;> omega
  · funext x; blk_simp [iblk]; rw [Va]
    refine co2_at _ _ x ?_ ?_ <;> blk_simp [i2] <;> omega
  · funext x; blk_simp [iblk]; rw [Vb]
    refine co2_at _ _ x ?_ ?_ <;> blk_simp [i3] <;> omega
  · funext x; blk_simp [iblk]; rw [V_g A]
    exact co2_at (a := 0) _ _ x (by blk_simp [i4]) (by blk_simp [i4])
  all_goals
    funext x
    idx_bounds x
    blk_simp [iblk]; rw [V_w A, co3_apply, co3_apply]; blk_simp [i5, i6, i7]
  · rw [if_pos hb1]
  · rw [if_neg (by omega), if_pos (by omega), Nat.add_sub_cancel_left]
  · rw [if_neg (by omega), if_neg (by omega), Nat.add_sub_cancel_left]

end Cert.Ffn.Blk
end
-- ==== Proof.FfnArray.lean ====
/- What the feed-forward block's gradient kernel leaves in its six result arrays. -/
module

public import proofs.«01_k».proof.Proof.FfnHost

@[expose] public section

set_option maxRecDepth 16384
set_option maxHeartbeats 1000000

noncomputable section

namespace Cert.Ffn.Blk

open Cert.FfnBwdIdeal Cert.FfnBwdIdeal.Gen Idealize.ShloMosaic Idealize.ShloMosaic.TcCoe Idealize.SL.Sem Cert.Base Cert.Ffn
open Idealize.ShloMosaic.Pipeline (Dat)

variable {m : (ℓ : Loc nD τ sig) → Buf (Elt Ideal) ℓ} {c : Dev nD} {X Dy : ℕ → ℕ → ℝ} {g : ℕ → ℝ} {w1 w3 w2 : ℕ → ℕ → ℝ}
  (A : Args m c X Dy g w1 w3 w2)
include A

/-- The five arrays of rows. -/
theorem rows_arrays : (dats m 0 c).arrAt 8 cfg0.N = co2 (fun t j => Dy t j + dnorm X (fun t j => dh X Dy g w1 w3 w2 t j * g j) t j)
    ∧ (dats m 0 c).arrAt 9 cfg0.N = co2 (da X Dy g w1 w3 w2) ∧ (dats m 0 c).arrAt 10 cfg0.N = co2 (db X Dy g w1 w2)
    ∧ (dats m 0 c).arrAt 11 cfg0.N = co2 (uu X g w1 w3) ∧ (dats m 0 c).arrAt 12 cfg0.N = co2 (hh X g) := by
  refine ⟨(dats m 0 c).arrAt_eq_of_covers 8 _ (by decide +kernel) fun t hf y => ?_, (dats m 0 c).arrAt_eq_of_covers 9 _ (by decide +kernel) fun t hf y => ?_,
    (dats m 0 c).arrAt_eq_of_covers 10 _ (by decide +kernel) fun t hf y => ?_, (dats m 0 c).arrAt_eq_of_covers 11 _ (by decide +kernel) fun t hf y => ?_,
    (dats m 0 c).arrAt_eq_of_covers 12 _ (by decide +kernel) fun t hf y => ?_⟩
  all_goals
    obtain ⟨e8, e9, e10, e11, e12⟩ := rows_tile (tile A t)
    obtain ⟨-, -, -, -, i8, i9, i10, i11, i12⟩ := at_rows t
    blk_simp
    first | rw [after0_8, e8] | rw [after0_9, e9] | rw [after0_10, e10] | rw [after0_11, e11] | rw [after0_12, e12]
    symm
    refine (co2_at (a := 256 * t.val) _ _ y ?_ ?_).trans rfl
    · blk_simp [i8, i9, i10, i11, i12]; omega
    · blk_simp [i8, i9, i10, i11, i12]

/-- The gain's gradient after a point: the share of every row so far, in the first row. -/
theorem dg_after (n : ℕ) (hn : n < cfg0.N) : (outsAt0 m c n hn).2.2.2.2.2
    = co2 fun r j => if r = 0 then ∑ s : Fin (256 * (n + 1)), dgt X Dy g w1 w3 w2 s j else 0 := by
  induction n with
  | zero =>
    refine (dg_tile_A (tile A ⟨0, hn⟩) rfl).trans (co2_congr fun r j _ _ => ?_)
    simp only [Nat.mul_zero, zero_add]
  | succ n ih =>
    have hN : n + 1 < 32 := lt_of_lt_of_eq hn Gen.N_0
    refine (dg_tile_B (tile A ⟨n + 1, hn⟩) (show ¬(n + 1) % 32 = 0 by omega) _ (ih (by omega))).trans (co2_congr fun r j _ _ => ?_)
    by_cases hr : r = 0
    · rw [if_pos hr, if_pos hr, if_pos rfl, Nat.mul_add_one 256 (n + 1), Fin.sum_univ_add]
      rfl
    · rw [if_neg hr, if_neg hr, if_neg hr]

/-- The gain's gradient. -/
theorem dg_array : (dats m 0 c).arrAt 13 cfg0.N
    = co2 fun r j => if r = 0 then ∑ t : Fin 8192, dgt X Dy g w1 w3 w2 t j else 0 := by
  refine (dats m 0 c).arrAt_eq_of_covers 13 _ (by decide +kernel) fun t hf y => ?_
  have hN : t.val < 32 := lt_of_lt_of_eq t.isLt Gen.N_0
  have ht : t.val = 31 := by have := (flush0_13 t).mp hf; omega
  have e := dg_after A t.val t.isLt
  obtain ⟨-, -, -, -, i13⟩ := at_weights t
  blk_simp
  rw [after0_13, e, ht]
  symm
  refine (co2_at (a := 0) _ _ y ?_ ?_).trans ?_
  · blk_simp [i13]
  · blk_simp [i13]
  · simp only [zero_add]

end Cert.Ffn.Blk
end
-- ==== Proof.FfnRef.lean ====
/- What the reference of the feed-forward block's gradient computes at finite arguments, over the reals. -/
module

public import proofs.«01_k».proof.Proof.FfnReal
public import proofs.«01_k».proof.Proof.Gen.FfnBwdRefIdeal.Read
public import Idealize.ShloMosaic.Lib.KernelVsHost

@[expose] public section

set_option maxRecDepth 16384

noncomputable section

namespace Cert.Ffn.Ref

open Cert.Base Cert.Ffn Cert.FfnBwdRefIdeal.Read Idealize.ShloMosaic

variable (X Dy : ℕ → ℕ → ℝ) (g : ℕ → ℝ) (w1 w3 w2 : ℕ → ℕ → ℝ)

theorem ms_eq : val_main_v6 (F := Ideal) (co2 X) = co2 fun t _ => ms X t := by
  funext i
  simp only [val_main_v6_apply, val_main_v4_apply, val_main_v2_apply, val_main_v1_apply, val_main_v0_apply, val_main_v3_apply,
    val_main_v5_apply, val_main_cst_apply, val_main_cst_0_apply, val_main_cst_1_apply, Ideal.ofBits_def, Ideal.addf_def,
    Ideal.mulf_def, Ideal.hostDivf_def, bits_zero, bits_eps, bits_1024, co2_apply, ← EReal.coe_mul, coe_sum, ← EReal.coe_add,
    div_coe_coe _ (1024 : ℝ) (by norm_num), zero_add]
  rfl

theorem rs_eq : val_main_v7 (F := Ideal) (co2 X) = co2 fun t _ => rs X t := by
  funext i
  rw [val_main_v7_apply, ms_eq, Ideal.hostUnary_rsqrt_def, co2_apply, rsqrt_ms]; rfl

theorem xh_eq : val_main_v12 (F := Ideal) (co2 X) = co2 (xh X) := by
  funext i
  simp only [val_main_v12_apply, val_main_v11_apply, rs_eq, co2_apply, Ideal.mulf_def, ← EReal.coe_mul]
  rfl

theorem hh_eq : val_main_v15 (F := Ideal) (co2 X) (co1 g) = co2 (hh X g) := by
  funext i
  simp only [val_main_v15_apply, val_main_v14_apply, val_main_v13_apply, xh_eq, co2_apply, co1_apply, Ideal.mulf_def, ← EReal.coe_mul]
  rfl

theorem a_eq : val_main_v16 (F := Ideal) (co2 X) (co1 g) (co2 w1) = co2 (pr X g w1) := by
  funext i
  simp only [val_main_v16_apply, hh_eq, co2_apply, ← EReal.coe_mul, coe_sum]
  rfl

theorem b_eq : val_main_v18 (F := Ideal) (co2 X) (co1 g) (co2 w3) = co2 (pr X g w3) := a_eq X g w3

theorem sg_eq : val_main_v17_2 (F := Ideal) (co2 X) (co1 g) (co2 w1) = co2 fun t f => sg (pr X g w1 t f) := by
  funext i
  simp only [val_main_v17_2_apply, val_main_call0_v4_apply, val_main_call0_v3_apply, val_main_call0_v2_apply,
    val_main_call0_v1_apply, val_main_call0_v0_apply, val_main_call0_cst_apply, val_main_call0_cst_0_apply, a_eq, co2_apply,
    Ideal.ofBits_def, bits_one, Ideal.hostNegf_def, Ideal.negf_def, Ideal.hostUnary_exp_def, neg_co, Ideal.exp_coe,
    Ideal.addf_def, ← EReal.coe_add, Ideal.hostDivf_def, div_coe_coe _ _ (one_add_exp_ne _), one_div_sg]

theorem v24_eq (x : FVec Ideal ⟨2, ![8192, 1024]⟩ .f32) : val_main_v24 (F := Ideal) x = x := shapeCast_self _ _

theorem du_eq : val_main_v27 (F := Ideal) (co2 w2) (co2 Dy) = co2 (du Dy w2) := by
  funext i
  simp only [val_main_v27_apply, val_main_v26_apply, val_main_v25_apply, v24_eq, val_main_cst_4_apply, co2_apply,
    Ideal.ofBits_def, bits_half, Ideal.mulf_def, ← EReal.coe_mul, coe_sum]
  rfl

theorem db_eq : val_main_v28 (F := Ideal) (co2 X) (co1 g) (co2 w1) (co2 w2) (co2 Dy) = co2 (db X Dy g w1 w2) := by
  funext i
  simp only [val_main_v28_apply, val_main_v17_0_apply, a_eq, sg_eq, du_eq, co2_apply, Ideal.mulf_def, ← EReal.coe_mul, db]
  rw [mul_comm]

theorem da_eq : val_main_v31 (F := Ideal) (co2 X) (co1 g) (co2 w1) (co2 w3) (co2 w2) (co2 Dy) = co2 (da X Dy g w1 w3 w2) := by
  funext i
  simp only [val_main_v31_apply, val_main_call1_v2_apply, val_main_call1_v1_apply, val_main_call1_v0_apply, val_main_v29_apply,
    val_main_v17_1_apply, val_main_call0_v7_apply, val_main_call0_v6_apply, val_main_call0_cst_1_apply, a_eq, b_eq, sg_eq, du_eq,
    co2_apply, Ideal.ofBits_def, bits_one, Ideal.subf_def, sub_co, Ideal.addf_def, Ideal.mulf_def, ← EReal.coe_mul, ← EReal.coe_add, da]
  congr 1; ring

theorem dh_eq : val_main_v33 (F := Ideal) (co2 X) (co1 g) (co2 w1) (co2 w3) (co2 w2) (co2 Dy) = co2 (dh X Dy g w1 w3 w2) := by
  funext i
  simp only [val_main_v33_apply, val_main_v32_apply, val_main_v30_apply, da_eq, db_eq, co2_apply, Ideal.addf_def, ← EReal.coe_mul,
    coe_sum, ← EReal.coe_add]
  rw [add_comm]; rfl

theorem dg_eq : val_main_v81 (F := Ideal) (co2 X) (co1 g) (co2 w1) (co2 w3) (co2 w2) (co2 Dy)
    = co2 fun _ j => ∑ t : Fin 8192, dgt X Dy g w1 w3 w2 t j := by
  funext i
  simp only [val_main_v81_apply, val_main_v39_apply, val_main_v36_apply, val_main_v35_apply, val_main_v34_apply, dh_eq, xh_eq,
    val_main_cst_5_apply, val_main_cst_6_apply, co2_apply, Ideal.ofBits_def, bits_zero, Ideal.mulf_def, ← EReal.coe_mul,
    coe_sum, ← EReal.coe_add, zero_add, Fin.sum_univ_one, Fin.val_zero, Nat.zero_mul]
  congr 1
  exact Finset.sum_congr rfl fun t _ => mul_comm _ _

theorem dx_eq : val_main_v54 (F := Ideal) (co2 X) (co1 g) (co2 w1) (co2 w3) (co2 w2) (co2 Dy)
    = co2 fun t j => Dy t j + dnorm X (fun t j => dh X Dy g w1 w3 w2 t j * g j) t j := by
  funext i
  simp only [val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v40_apply, val_main_v38_apply, val_main_v37_apply, val_main_v13_apply,
    val_main_v10_apply, val_main_v9_apply, val_main_v8_apply, val_main_cst_2_apply, val_main_cst_7_apply, val_main_cst_8_apply,
    val_main_cst_9_apply, dh_eq, rs_eq, ms_eq, co2_apply, co1_apply, Ideal.ofBits_def, bits_zero, bits_neg_half, bits_1024,
    Ideal.mulf_def, Ideal.addf_def, Ideal.hostDivf_def, div_coe_coe _ _ (ms_ne X _), ← EReal.coe_mul, coe_sum, ← EReal.coe_add, zero_add,
    Fin.sum_univ_one, Fin.val_zero, Nat.mul_one, Nat.add_zero, div_coe_coe _ (1024 : ℝ) (by norm_num)]
  congr 1
  rw [← dnorm_eq]
  show _ = Dy _ _ + (_ + _ + _)
  rw [← add_assoc, ← add_assoc]

/-! The forward lines are printed twice, once for the derivative and once for the arrays it is taken at. -/

theorem h'_eq : val_main_v88 (F := Ideal) (co2 X) (co1 g) = co2 (hh X g) := hh_eq X g
theorem a'_eq : val_main_v68 (F := Ideal) (co2 X) (co1 g) (co2 w1) = co2 (pr X g w1) := a_eq X g w1
theorem b'_eq : val_main_v69 (F := Ideal) (co2 X) (co1 g) (co2 w3) = co2 (pr X g w3) := a_eq X g w3
theorem sg'_eq : val_main_v70_2 (F := Ideal) (co2 X) (co1 g) (co2 w1) = co2 fun t f => sg (pr X g w1 t f) := sg_eq X g w1
theorem du'_eq : val_main_v77 (F := Ideal) (co2 w2) (co2 Dy) = co2 (du Dy w2) := by
  rw [← du_eq]; unfold val_main_v27 val_main_v26; rw [v24_eq]; rfl
theorem db'_eq : val_main_v84 (F := Ideal) (co2 X) (co1 g) (co2 w1) (co2 w2) (co2 Dy) = co2 (db X Dy g w1 w2) := by
  rw [← db_eq]; unfold val_main_v84 val_main_v78 val_main_v70_0 val_main_v28 val_main_v17_0
  rw [a'_eq, a_eq, sg'_eq, sg_eq, du'_eq, du_eq]; rfl
theorem da'_eq : val_main_v83 (F := Ideal) (co2 X) (co1 g) (co2 w1) (co2 w3) (co2 w2) (co2 Dy) = co2 (da X Dy g w1 w3 w2) := by
  rw [← da_eq]
  unfold val_main_v83 val_main_v80 val_main_call3_v2 val_main_call3_v1 val_main_call3_v0 val_main_v79 val_main_v70_1 val_main_call2_v7
    val_main_v31 val_main_call1_v2 val_main_call1_v1 val_main_call1_v0 val_main_v29 val_main_v17_1 val_main_call0_v7
  rw [a'_eq, b'_eq, a_eq, b_eq, sg'_eq, sg_eq, du'_eq, du_eq]; rfl
theorem u'_eq : val_main_v87 (F := Ideal) (co2 X) (co1 g) (co2 w1) (co2 w3) = co2 (uu X g w1 w3) := by
  show val_main_v19 (F := Ideal) (co2 X) (co1 g) (co2 w1) (co2 w3) = _
  funext i
  simp only [val_main_v19_apply, val_main_v17_0_apply, a_eq, b_eq, sg_eq, co2_apply, Ideal.mulf_def, ← EReal.coe_mul, uu]

theorem dg'_eq : val_main_v82 (F := Ideal) (co2 X) (co1 g) (co2 w1) (co2 w3) (co2 w2) (co2 Dy)
    = co2 fun r j => if r = 0 then ∑ t : Fin 8192, dgt X Dy g w1 w3 w2 t j else 0 := by
  funext i
  unfold val_main_v82
  by_cases h : (i 0).val = 0
  · refine (pad_apply_of_inside _ _ _ _ _ _ _ i (ValueIdx.ix2 (⟨0, by decide⟩ : Fin 1) (i 1)) fun a => by
        match a with
        | ⟨0, _⟩ => exact h
        | ⟨1, _⟩ => show (i 1).val = 0 + (i 1).val * (0 + 1); omega).trans ?_
    rw [dg_eq, co2_apply _ i, if_pos h]; rfl
  · refine (pad_apply_of_not_inside _ _ _ _ _ _ _ i (0 : Fin 2) fun a => h (by
        have h2 : ((i 0).val - 0) / (0 + 1) < 1 := a.2.2
        omega)).trans ?_
    rw [co2_apply, if_neg h]
    show (((0#32 : BitVec 32).toInt : ℝ) : EReal) = _
    simp

end Cert.Ffn.Ref

end
-- ==== Proof.FfnClaim.lean ====
/- The feed-forward block's gradient: the kernel and the reference end at the same real arrays, at finite arguments. -/
module

public import proofs.«01_k».proof.Defs
public import proofs.«01_k».proof.Proof.FfnArray
public import proofs.«01_k».proof.Proof.FfnRef
public import proofs.«01_k».proof.Proof.Gen.FfnBwdIdeal.Value
public import proofs.«01_k».proof.Proof.Gen.FfnBwdRefIdeal
public import Idealize.ShloMosaic.Lib.Quiescent

@[expose] public section

set_option maxRecDepth 16384
set_option maxHeartbeats 1000000

noncomputable section

namespace Cert.Ffn

open Idealize.ShloMosaic Idealize.ShloMosaic.TcCoe Idealize.SL.Sem Cert.Base

theorem pre_facts : Cert.Pre_finite_ffn.Facts := by constructor <;> decide

attribute [local instance] pre_facts

/-- The precondition says that every entry of every argument is finite. -/
theorem pre_finite (a0 : FVec Ideal ⟨2, ![8192, 1024]⟩ .f32) (a1 : FVec Ideal ⟨1, ![1024]⟩ .f32)
    (a2 a3 : FVec Ideal ⟨2, ![1024, 2816]⟩ .f32) (a4 : FVec Ideal ⟨2, ![2816, 1024]⟩ .f32) (a5 : FVec Ideal ⟨2, ![8192, 1024]⟩ .f32)
    (h : Cert.Pre_finite_ffn.fn (F := Ideal) a0 a1 a2 a3 a4 a5 = fun _ => 1#1) :
    Fin' a0 ∧ Fin' a1 ∧ Fin' a2 ∧ Fin' a3 ∧ Fin' a4 ∧ Fin' a5 := by
  unfold Cert.Pre_finite_ffn.fn Cert.Pre_finite_ffn.fn_part1 Cert.Pre_finite_ffn.fn_part2 at h
  dsimp only at h
  obtain ⟨h, e5⟩ := and_split h
  obtain ⟨h, e4⟩ := and_split h
  obtain ⟨h, e3⟩ := and_split h
  obtain ⟨h, e2⟩ := and_split h
  obtain ⟨h, e1⟩ := and_split h
  obtain ⟨h, e0⟩ := and_split h
  exact ⟨finite_of_reduce _ _ _ _ (congrFun e0 _), finite_of_reduce _ _ _ _ (congrFun e1 _), finite_of_reduce _ _ _ _ (congrFun e2 _),
   finite_of_reduce _ _ _ _ (congrFun e3 _), finite_of_reduce _ _ _ _ (congrFun e4 _), finite_of_reduce _ _ _ _ (congrFun e5 _)⟩

/-- The reference leaves its arguments and every counter as they were. -/
theorem frame_ref : Cert.quiescent_FfnBwdRefIdeal := fun m g _ =>
  (θ_run Cert.FfnBwdRefIdeal.defs _ _).mono (fun r h => ⟨fun c => (h c).2.2.2.2.2.2, sem_eq_zero_of_no_sems (by decide) r.2⟩)
    (Cert.FfnBwdRefIdeal.Value.run (F := Ideal) m g)

theorem algebraic : Cert.algebraic_FfnBwdIdeal_FfnBwdRefIdeal_pre_finite_ffn := by
  intro m g m' g' hpre hagree
  have real : ∀ c : Dev Cert.FfnBwdIdeal.nD, ∃ (X Dy : ℕ → ℕ → ℝ) (k : ℕ → ℝ) (w1 w3 w2 : ℕ → ℕ → ℝ), Blk.Args m c X Dy k w1 w3 w2 := by
    intro c
    obtain ⟨f0, f1, f2, f3, f4, f5⟩ := pre_finite _ _ _ _ _ _ (hpre c)
    obtain ⟨X, e0⟩ := exists_co2 _ f0
    obtain ⟨k, e1⟩ := exists_co1 _ f1
    obtain ⟨w1, e2⟩ := exists_co2 _ f2
    obtain ⟨w3, e3⟩ := exists_co2 _ f3
    obtain ⟨w2, e4⟩ := exists_co2 _ f4
    obtain ⟨Dy, e5⟩ := exists_co2 _ f5
    exact ⟨X, Dy, k, w1, w3, w2, e0, e1, e2, e3, e4, e5⟩
  choose X Dy k w1 w3 w2 A using real
  refine ⟨_, _, _, _, _, _, Cert.FfnBwdIdeal.Value.run_blocks m g, ?_⟩
  refine (θ_run Cert.FfnBwdRefIdeal.defs _ _).mono (fun r h c => ?_) (Cert.FfnBwdRefIdeal.Value.run (F := Ideal) m' g')
  obtain ⟨h0, h1, h2, h3, h4, h5, h⟩ := h c
  obtain ⟨a0, a1, a2, a3, a4, a5⟩ := hagree c
  obtain ⟨b8, b9, b10, b11, b12⟩ := Blk.rows_arrays (A c)
  have b13 := Blk.dg_array (A c)
  refine ⟨h0.trans ?_, h1.trans ?_, h2.trans ?_, h3.trans ?_, h4.trans ?_, h5.trans ?_, h⟩
  · rw [Cert.FfnBwdRefIdeal.Read.val_main_v54_eq, a0, a1, a2, a3, a4, a5, (A c).x, (A c).gain, (A c).w1, (A c).w3, (A c).w2, (A c).dy]
    exact (Ref.dx_eq _ _ _ _ _ _).trans b8.symm
  · rw [Cert.FfnBwdRefIdeal.Read.val_main_v83_eq, a0, a1, a2, a3, a4, a5, (A c).x, (A c).gain, (A c).w1, (A c).w3, (A c).w2, (A c).dy]
    exact (Ref.da'_eq _ _ _ _ _ _).trans b9.symm
  · rw [Cert.FfnBwdRefIdeal.Read.val_main_v84_eq, a0, a1, a2, a4, a5, (A c).x, (A c).gain, (A c).w1, (A c).w2, (A c).dy]
    exact (Ref.db'_eq _ _ _ _ _).trans b10.symm
  · rw [Cert.FfnBwdRefIdeal.Read.val_main_v87_eq, a0, a1, a2, a3, (A c).x, (A c).gain, (A c).w1, (A c).w3]
    exact (Ref.u'_eq _ _ _ _).trans b11.symm
  · rw [Cert.FfnBwdRefIdeal.Read.val_main_v88_eq, a0, a1, (A c).x, (A c).gain]
    exact (Ref.h'_eq _ _).trans b12.symm
  · rw [Cert.FfnBwdRefIdeal.Read.val_main_v82_eq, a0, a1, a2, a3, a4, a5, (A c).x, (A c).gain, (A c).w1, (A c).w3, (A c).w2, (A c).dy]
    exact (Ref.dg'_eq _ _ _ _ _ _).trans b13.symm

end Cert.Ffn
end
-- ==== Proof.HeadReal.lean ====
/- The last feed-forward block, the loss and the gradient of the final normalization, over the reals. -/
module

public import proofs.«01_k».proof.Proof.FfnReal

@[expose] public section

noncomputable section

namespace Cert.Head

open Cert.Base Cert.Ffn

theorem bits_inv_1024 : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

variable (X : ℕ → ℕ → ℝ) (g : ℕ → ℝ) (w1 w3 w2 T : ℕ → ℕ → ℝ) (k : ℕ → ℝ)

/-- The block's result: the argument plus half the output product. -/
def yy (t j : ℕ) : ℝ := X t j + 1 / 2 * ∑ f : Fin 2816, uu X g w1 w3 t f * w2 f j
/-- The distance of the normalized result, times the final gain, from the target. -/
def er (t j : ℕ) : ℝ := xh (yy X g w1 w3 w2) t j * k j - T t j
/-- A row's share of the loss, and the loss's gradient at the normalized result times the gain. -/
def ls (t : ℕ) : ℝ := (∑ j : Fin 1024, er X g w1 w3 w2 T k t j * er X g w1 w3 w2 T k t j) / 1024
def dl (t j : ℕ) : ℝ := er X g w1 w3 w2 T k t j * (1 / 1024)
/-- The gradient of the block's result, and a row's share of the final gain's. -/
def dy : ℕ → ℕ → ℝ := dnorm (yy X g w1 w3 w2) fun t j => dl X g w1 w3 w2 T k t j * k j
def dk (t j : ℕ) : ℝ := dl X g w1 w3 w2 T k t j * xh (yy X g w1 w3 w2) t j

end Cert.Head
end
-- ==== Proof.HeadBlock.lean ====
/- One tile of the last feed-forward block, the loss and its gradient, over the reals: each of the kernel's values at
   real arguments. -/
module

public import proofs.«01_k».proof.Proof.HeadReal
public import proofs.«01_k».proof.Proof.Blocks
public import proofs.«01_k».proof.Proof.Gen.HeadIdeal.Value

@[expose] public section

set_option maxRecDepth 16384

noncomputable section

namespace Cert.Head.Blk

open Cert.HeadIdeal Cert.HeadIdeal.Gen Idealize.ShloMosaic Idealize.ShloMosaic.TcCoe Idealize.SL.Sem Cert.Base Cert.Ffn Cert.Head

variable (X A B W H T Y R : ℕ → ℕ → ℝ) (g k : ℕ → ℝ) (G : ℕ → ℕ → ℕ → ℝ)

theorem h_eq : k0_pay3 (F := Ideal) (co2 X) (co2 fun _ j => g j) = co2 (hh X g) := by
  funext i
  pointwise [k0_pay3]
  simp only [co2_apply, bits_1024, bits_eps, ← EReal.coe_mul, coe_sum, div_coe_coe _ (1024 : ℝ) (by norm_num), ← EReal.coe_add]
  refine (congrArg (fun z => _ * z * _) (rsqrt_ms X (i 0).val)).trans ?_
  simp only [← EReal.coe_mul]
  rfl

/-- A weight's tile, laid out by device, as one matrix. -/
theorem w_eq : k0_pay4 (F := Ideal) (co3 G) = co2 fun f j => G (f / 352) (f % 352) j := by
  funext i
  pointwise [k0_pay4]
  rfl
theorem w_eq' : k0_pay5 (F := Ideal) (co3 G) = co2 fun f j => G (f / 352) (f % 352) j := w_eq G

theorem a0_eq : k0_pay6 (F := Ideal) (co2 X) (co2 fun _ j => g j) (co3 G)
    = co2 fun t f => ∑ j : Fin 1024, hh X g t j * G (f / 352) (f % 352) j := by
  funext i
  unfold k0_pay6
  rw [h_eq, w_eq]
  pointwise
  simp only [co2_apply, ← EReal.coe_mul, coe_sum]; rfl
theorem b0_eq : k0_pay7 (F := Ideal) (co2 X) (co2 fun _ j => g j) (co3 G)
    = co2 fun t f => ∑ j : Fin 1024, hh X g t j * G (f / 352) (f % 352) j := a0_eq X g G
theorem a0'_eq : k0_pay8 (F := Ideal) (co2 X) (co2 fun _ j => g j) (co3 G)
    = co2 fun t f => ∑ j : Fin 1024, hh X g t j * G (f / 352) (f % 352) j := a0_eq X g G
theorem b0'_eq : k0_pay9 (F := Ideal) (co2 X) (co2 fun _ j => g j) (co3 G)
    = co2 fun t f => ∑ j : Fin 1024, hh X g t j * G (f / 352) (f % 352) j := a0_eq X g G
theorem a1_eq : k0_pay12 (F := Ideal) (co2 H) (co2 W) = co2 fun t f => ∑ j : Fin 1024, H t j * W (1024 + f) j := by
  funext i
  pointwise [k0_pay12]
  simp only [co2_apply, ← EReal.coe_mul, coe_sum]; rfl
theorem b1_eq : k0_pay13 (F := Ideal) (co2 H) (co2 W) = co2 fun t f => ∑ j : Fin 1024, H t j * W (1024 + f) j := a1_eq W H
theorem a1'_eq : k0_pay14 (F := Ideal) (co2 H) (co2 W) = co2 fun t f => ∑ j : Fin 1024, H t j * W (1024 + f) j := a1_eq W H
theorem b1'_eq : k0_pay15 (F := Ideal) (co2 H) (co2 W) = co2 fun t f => ∑ j : Fin 1024, H t j * W (1024 + f) j := a1_eq W H
theorem a2_eq : k0_pay17 (F := Ideal) (co2 H) (co2 W) = co2 fun t f => ∑ j : Fin 1024, H t j * W (2048 + f) j := by
  funext i
  pointwise [k0_pay17]
  simp only [co2_apply, ← EReal.coe_mul, coe_sum]; rfl
theorem b2_eq : k0_pay18 (F := Ideal) (co2 H) (co2 W) = co2 fun t f => ∑ j : Fin 1024, H t j * W (2048 + f) j := a2_eq W H
theorem a2'_eq : k0_pay19 (F := Ideal) (co2 H) (co2 W) = co2 fun t f => ∑ j : Fin 1024, H t j * W (2048 + f) j := a2_eq W H
theorem b2'_eq : k0_pay20 (F := Ideal) (co2 B) = co2 B := rfl

theorem u0_eq : k0_pay11 (F := Ideal) (co2 A) (co2 B) (k0_pay10 (F := Ideal)) = co2 fun t f => A t f * sg (A t f) * B t f := by
  funext i
  pointwise [k0_pay11, k0_pay10]
  simp only [co2_apply, bits_half, ← EReal.coe_mul, Ideal.tanh_coe, ← EReal.coe_add, sg_tanh]
theorem u1_eq : k0_pay16 (F := Ideal) (co2 H) (co2 W) (co2 Y)
    = co2 fun t f => (∑ j : Fin 1024, H t j * W (1024 + f) j) * sg (∑ j : Fin 1024, H t j * W (1024 + f) j) * ∑ j : Fin 1024, H t j * Y (1024 + f) j := by
  funext i
  unfold k0_pay16
  rw [a1_eq, b1_eq]
  pointwise
  simp only [co2_apply, bits_half, ← EReal.coe_mul, Ideal.tanh_coe, ← EReal.coe_add, sg_tanh]
theorem u2_eq : k0_pay21 (F := Ideal) (co2 A) (co2 B) = co2 fun t f => A t f * sg (A t f) * B t f := by
  funext i
  pointwise [k0_pay21]
  simp only [co2_apply, bits_half, ← EReal.coe_mul, Ideal.tanh_coe, ← EReal.coe_add, sg_tanh]

theorem y_eq : k0_pay22 (F := Ideal) (co2 X) (co2 A) (co3 G)
    = co2 fun t j => X t j + 1 / 2 * ∑ f : Fin 2816, A t f * G (f / 352) (f % 352) j := by
  funext i
  pointwise [k0_pay22]
  simp only [co2_apply, co3_apply, bits_half, ← EReal.coe_mul, coe_sum, ← EReal.coe_add]; rfl

section
variable {Y} {x : Vec Ideal S512x1024 .f32} {u : Vec Ideal S512x2816 .bf16} {w : Vec Ideal S8x352x1024 .bf16} (hy : k0_pay22 (F := Ideal) x u w = co2 Y)
include hy
theorem rs_eq : k0_pay24 (F := Ideal) x u w = co2 fun t _ => rs Y t := by
  funext i
  unfold k0_pay24
  rw [hy]
  pointwise
  simp only [co2_apply, bits_1024, bits_eps, ← EReal.coe_mul, coe_sum, div_coe_coe _ (1024 : ℝ) (by norm_num), ← EReal.coe_add]
  exact rsqrt_ms Y _
theorem xh_eq : k0_pay25 (F := Ideal) x u w = co2 (xh Y) := by
  funext i
  unfold k0_pay25
  rw [hy, rs_eq hy]
  pointwise
  simp only [co2_apply, ← EReal.coe_mul]; rfl
end

theorem k_eq : k0_pay23 (F := Ideal) (co2 fun _ j => k j) = co2 fun _ j => k j := shapeCast_self _ _
theorem k'_eq : k0_pay26 (F := Ideal) (co2 fun _ j => k j) = co2 fun _ j => k j := by
  funext i
  unfold k0_pay26
  rw [k_eq]
  pointwise
  rfl

theorem er_eq : k0_pay27 (F := Ideal) (co2 H) (co2 fun _ j => k j) (co2 T) = co2 fun t j => H t j * k j - T t j := by
  funext i
  pointwise [k0_pay27]
  simp only [co2_apply, ← EReal.coe_mul, sub_co]
theorem dl_eq : k0_pay29 (F := Ideal) (co2 H) (co2 fun _ j => k j) (co2 T) = co2 fun t j => (H t j * k j - T t j) * (1 / 1024) := by
  funext i
  unfold k0_pay29
  rw [er_eq]
  pointwise
  simp only [co2_apply, bits_inv_1024, ← EReal.coe_mul]
theorem loss_eq : k0_pay28 (F := Ideal) (co2 H) (co2 fun _ j => k j) (co2 T) (co2 Y)
    = co2 fun r j => Y r j + 1 / 2 * ∑ t : Fin 512, (∑ j : Fin 1024, (H t j * k j - T t j) * (H t j * k j - T t j)) / 1024 := by
  funext i
  unfold k0_pay28
  rw [er_eq]
  pointwise
  simp only [co2_apply, bits_half, bits_1024, ← EReal.coe_mul, coe_sum, div_coe_coe _ (1024 : ℝ) (by norm_num), ← EReal.coe_add,
    Fin.sum_univ_one]
  rfl
theorem dy_eq : k0_pay30 (F := Ideal) (co2 fun _ j => k j) (co2 fun t _ => rs Y t) (co2 (xh Y)) (co2 fun _ j => k j) (co2 T)
    = co2 (dnorm Y fun t j => (xh Y t j * k j - T t j) * (1 / 1024) * k j) := by
  funext i
  unfold k0_pay30
  rw [dl_eq]
  pointwise
  simp only [co2_apply, bits_1024, ← EReal.coe_mul, coe_sum, div_coe_coe _ (1024 : ℝ) (by norm_num), sub_co]
  rfl
theorem dk_eq : k0_pay31 (F := Ideal) (co2 H) (co2 fun _ j => k j) (co2 T) (co2 R)
    = co2 fun r j => R r j + ∑ t : Fin 512, (H t j * k j - T t j) * (1 / 1024) * H t j := by
  funext i
  unfold k0_pay31
  rw [dl_eq]
  pointwise
  simp only [co2_apply, ← EReal.coe_mul, coe_sum, ← EReal.coe_add]; rfl
theorem zero_eq : k0_pay1 (F := Ideal) = co2 fun _ _ => 0 := by
  funext i
  pointwise [k0_pay1]
  simp only [co2_apply, bits_zero, EReal.coe_zero]
theorem zero_eq' : k0_pay2 (F := Ideal) = co2 fun _ _ => 0 := by
  funext i
  pointwise [k0_pay2]
  simp only [co2_apply, bits_zero, EReal.coe_zero]

end Cert.Head.Blk
end
-- ==== Proof.HeadTile.lean ====
/- What one grid point of the last feed-forward block's kernel leaves in its outputs' buffers. -/
module

public import proofs.«01_k».proof.Proof.HeadBlock

@[expose] public section

set_option maxRecDepth 16384
set_option maxHeartbeats 1000000

noncomputable section

namespace Cert.Head.Blk

open Cert.HeadIdeal Cert.HeadIdeal.Gen Idealize.ShloMosaic Idealize.ShloMosaic.TcCoe Idealize.SL.Sem Cert.Base Cert.Ffn Cert.Head

variable (m : (ℓ : Loc nD τ sig) → Buf (Elt Ideal) ℓ) (c : Dev nD) (t : Fin cfg0.N)
  (X : ℕ → ℕ → ℝ) (g : ℕ → ℝ) (w1 w3 w2 T : ℕ → ℕ → ℝ) (k : ℕ → ℝ)

/-- The input blocks of a grid point, as real matrices: 512 rows, and the whole of the weights. -/
structure Tile : Prop where
  x : iblk m c 0 t = co2 X
  gain : iblk m c 1 t = co2 fun _ j => g j
  w1 : iblk m c 2 t = co3 fun i r j => w1 j (352 * i + r)
  w3 : iblk m c 3 t = co3 fun i r j => w3 j (352 * i + r)
  w2 : iblk m c 4 t = co3 fun i r j => w2 (352 * i + r) j
  target : iblk m c 5 t = co2 T
  last : iblk m c 6 t = co2 fun _ j => k j

/-- The gated activations, stored in three ranges of the hidden coordinates and loaded as a whole. -/
theorem readCov_three [∀ e, Nonempty (Elt Ideal e)] {sig : RefSig} {κ : Kind} {sp : Space}
    (v : View sig κ sp ⟨2, ![512, 2816]⟩ .bf16) (h2 h1 h0 h) (U : ℕ → ℕ → ℝ) :
    v.readCov (Val := Elt Ideal) [⟨Rect.unit ![0, 2048] ![512, 768] h2, co2 fun t f => U t (2048 + f)⟩,
      ⟨Rect.unit ![0, 1024] ![512, 1024] h1, co2 fun t f => U t (1024 + f)⟩, ⟨Rect.unit ![0, 0] ![512, 1024] h0, co2 U⟩]
      (Rect.unit ![0, 0] ![512, 2816] h).toLoadRect = co2 (m := 512) (n := 2816) U := by
  have hc : ∀ y : (⟨2, ![512, 2816]⟩ : Shape).Idx, ∃ p ∈ ([⟨Rect.unit ![0, 2048] ![512, 768] h2, co2 fun t f => U t (2048 + f)⟩,
      ⟨Rect.unit ![0, 1024] ![512, 1024] h1, co2 fun t f => U t (1024 + f)⟩, ⟨Rect.unit ![0, 0] ![512, 1024] h0, co2 U⟩] :
        List (View.Piece (Elt Ideal) ⟨2, ![512, 2816]⟩ .bf16)), y ∈ p.1.set := by
    intro y
    have y0 : (y 0).val < 512 := (y 0).isLt
    have y1 : (y 1).val < 2816 := (y 1).isLt
    have q : y ∈ (Rect.unit ![0, 2048] ![512, 768] h2).set ∨ y ∈ (Rect.unit ![0, 1024] ![512, 1024] h1).set
        ∨ y ∈ (Rect.unit ![0, 0] ![512, 1024] h0).set := by
      simp only [Rect.mem_set_unit, Fin.forall_fin_two, Matrix.cons_val_zero, Matrix.cons_val_one]
      omega
    rcases q with q | q | q
    · exact ⟨_, List.mem_cons_self .., q⟩
    · exact ⟨_, List.mem_cons_of_mem _ (List.mem_cons_self ..), q⟩
    · exact ⟨_, List.mem_cons_of_mem _ (List.mem_cons_of_mem _ (List.mem_cons_self ..)), q⟩
  rw [View.readCov_eq_canon_ld _ _ _ hc]
  refine (congrArg (fun z => View.ld z _) (funext fun y => View.canon_apply_of_pieces (co2 U) _ ?_ y (hc y))).trans ?_
  · simp only [List.forall_mem_cons, List.not_mem_nil, false_imp_iff, implies_true, and_true]
    refine ⟨fun x => ?_, fun x => ?_, fun x => ?_⟩
    · exact ((idx_co2 h2 U x).trans (by simp only [Nat.zero_add])).symm
    · exact ((idx_co2 h1 U x).trans (by simp only [Nat.zero_add])).symm
    · exact ((idx_co2 h0 U x).trans (by simp only [Nat.zero_add])).symm
  · exact (ld_bf16 h U).trans (by simp only [Nat.zero_add])

/-- So the block's result, in the tile's rows. -/
theorem y_tile {u : Vec Ideal S512x2816 .bf16} (hu : u = co2 (uu X g w1 w3)) :
    k0_pay22 (F := Ideal) (co2 X) u (co3 fun i r j => w2 (352 * i + r) j) = co2 (yy X g w1 w3 w2) := by
  rw [hu, y_eq]
  simp only [Nat.div_add_mod]
  rfl

/-- What an array holds after its last store was of the whole of it, or of its first row. -/
theorem read_last {sig : RefSig} {κ : Kind} {sp : Space} {m n : ℕ} (v : View sig κ sp ⟨2, ![m, n]⟩ .f32)
    (f : v.ty.Contents (Elt Ideal)) (h) {P Q : (⟨2, ![m, n]⟩ : Shape).Idx → Elt Ideal .f32} (hP : P = Q) (L) :
    v.read (Elt Ideal) (v.writes (Elt Ideal) f (⟨Rect.unit ![0, 0] ![m, n] h, P⟩ :: L)) = Q :=
  (View.read_writes_eq_canon _ _ _ fun y => ⟨_, List.mem_cons_self .., by
    show y ∈ (Rect.unit ![0, 0] ![m, n] h).set
    rw [Rect.mem_set_unit]; intro a; have := (y a).isLt; fin_cases a <;> exact ⟨Nat.zero_le _, by simpa using this⟩⟩).trans
    ((canon_whole h P L).trans hP)
theorem read_first {sig : RefSig} {κ : Kind} {sp : Space} {m n : ℕ} (v : View sig κ sp ⟨2, ![m, n]⟩ .f32) (f : v.ty.Contents (Elt Ideal))
    (h) (Q P : ℕ → ℕ → ℝ) {p : (⟨2, ![1, n]⟩ : Shape).Idx → Elt Ideal .f32} (hp : p = co2 Q) (L : List (View.Piece (Elt Ideal) ⟨2, ![m, n]⟩ .f32))
    (hf : v.read (Elt Ideal) (v.writes (Elt Ideal) f L) = co2 P) :
    v.read (Elt Ideal) (v.writes (Elt Ideal) f (⟨Rect.unit ![0, 0] ![1, n] h, p⟩ :: L))
      = co2 fun r j => if r = 0 then Q 0 j else P r j := by
  subst hp
  exact read_row v f h Q P L hf

section
variable {X g w1 w3 w2 T k} {x : Vec Ideal S512x1024 .f32} {u : Vec Ideal S512x2816 .bf16} {w : Vec Ideal S8x352x1024 .bf16}
  (hy : k0_pay22 (F := Ideal) x u w = co2 (yy X g w1 w3 w2))
include hy
theorem dy_of : k0_pay30 (F := Ideal) (k0_pay23 (F := Ideal) (co2 fun _ j => k j)) (k0_pay24 (F := Ideal) x u w) (k0_pay25 (F := Ideal) x u w)
    (k0_pay26 (F := Ideal) (co2 fun _ j => k j)) (co2 T) = co2 (dy X g w1 w3 w2 T k) := by
  rw [rs_eq hy, xh_eq hy, k_eq, k'_eq, dy_eq]; rfl
theorem dk_of (R : ℕ → ℕ → ℝ) : k0_pay31 (F := Ideal) (k0_pay25 (F := Ideal) x u w) (k0_pay26 (F := Ideal) (co2 fun _ j => k j)) (co2 T) (co2 R)
    = co2 fun r j => R r j + ∑ t : Fin 512, dk X g w1 w3 w2 T k t j := by
  rw [xh_eq hy, k'_eq, dk_eq]; rfl
theorem loss_of (R : ℕ → ℕ → ℝ) : k0_pay28 (F := Ideal) (k0_pay25 (F := Ideal) x u w) (k0_pay26 (F := Ideal) (co2 fun _ j => k j)) (co2 T) (co2 R)
    = co2 fun r j => R r j + 1 / 2 * ∑ t : Fin 512, ls X g w1 w3 w2 T k t := by
  rw [xh_eq hy, k'_eq, loss_eq]; rfl
end

variable {m c t X g w1 w3 w2 T k} (I : Tile m c t X g w1 w3 w2 T k)
include I

/-- The rows of the gradient, and the two hidden products: each tile's own, whichever case the point is in. -/
theorem rows_tile : (outsAt0 m c t.val t.isLt).1 = co2 (dy X g w1 w3 w2 T k)
    ∧ (outsAt0 m c t.val t.isLt).2.1 = co2 (pr X g w1)
    ∧ (outsAt0 m c t.val t.isLt).2.2.1 = co2 (pr X g w3) := by
  by_cases h0 : t.val % 16 = 0
  case' pos =>
    rw [outsAt0_A m c t h0]
    dsimp only
    unfold out0_A_7 out0_A_8 out0_A_9
    refine ⟨read_writes_eq _ _ _ (fun y => by apply cover0_A_7) _ ?_, read_writes_eq _ _ _ (fun y => by apply cover0_A_8) _ ?_,
      read_writes_eq _ _ _ (fun y => by apply cover0_A_9) _ ?_⟩
    all_goals
      unfold kernelRun0_A
      dsimp only
      sl_unfold_words
  case' neg =>
    rw [outsAt0_B m c t h0]
    dsimp only
    unfold out0_B_7 out0_B_8 out0_B_9
    refine ⟨read_writes_eq _ _ _ (fun y => by apply cover0_B_7) _ ?_, read_writes_eq _ _ _ (fun y => by apply cover0_B_8) _ ?_,
      read_writes_eq _ _ _ (fun y => by apply cover0_B_9) _ ?_⟩
    all_goals
      unfold kernelRun0_B
      dsimp only
      sl_unfold_words
  all_goals
    simp only [View.readAt_eq_ld, (hs0_0 t).read_unread, (hs0_1 t).read_unread, (hs0_2 t).read_unread, (hs0_3 t).read_unread,
      (hs0_4 t).read_unread, (hs0_5 t).read_unread, (hs0_6 t).read_unread, I.x, I.gain, I.w1, I.w3, I.w2, I.target, I.last,
      ld_f32, ld_bf16, ld3_bf16, Nat.zero_add, Nat.div_add_mod, List.forall_mem_cons, idx_co2,
      List.not_mem_nil, false_imp_iff, implies_true, and_true, h_eq, w_eq, w_eq', a0_eq, b0_eq, a0'_eq, b0'_eq, a1_eq, b1_eq, a1'_eq, b1'_eq,
      a2_eq, b2_eq, a2'_eq, b2'_eq, u0_eq, u1_eq, u2_eq]
    first
    | exact fun x => congrFun (dy_of (T := T) (k := k) (y_tile X g w1 w3 w2 (readCov_three _ _ _ _ _ (uu X g w1 w3)))) x
    | exact ⟨fun _ => rfl, fun _ => rfl, fun _ => rfl⟩

/-- At the first point the loss is half the tile's share, everywhere; and the gain's gradient is the tile's share, in the
    first row, the other rows being zero. -/
theorem loss_tile_A (h0 : t.val % 16 = 0) : (outsAt0 m c t.val t.isLt).2.2.2.1
    = co2 fun _ _ => 1 / 2 * ∑ s : Fin 512, ls X g w1 w3 w2 T k s := by
  rw [outsAt0_A m c t h0]
  dsimp only
  unfold out0_A_10 kernelRun0_A
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, I.x, I.gain, I.w1, I.w3, I.w2, I.target, I.last,
      ld_f32, ld_bf16, ld3_bf16, Nat.zero_add, Nat.div_add_mod, h_eq, w_eq, w_eq', a0_eq, b0_eq, a1_eq, b1_eq,
      a2_eq, b2_eq, u0_eq, u1_eq, u2_eq, zero_eq, readCov_whole]
  refine (read_last _ _ _ (loss_of (T := T) (k := k) (y_tile X g w1 w3 w2 (readCov_three _ _ _ _ _ (uu X g w1 w3))) fun _ _ => 0) _).trans (co2_congr fun r j _ _ => ?_)
  rw [zero_add]

theorem dk_tile_A (h0 : t.val % 16 = 0) : (outsAt0 m c t.val t.isLt).2.2.2.2
    = co2 fun r j => if r = 0 then ∑ s : Fin 512, dk X g w1 w3 w2 T k s j else 0 := by
  rw [outsAt0_A m c t h0]
  dsimp only
  unfold out0_A_11 kernelRun0_A
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, I.x, I.gain, I.w1, I.w3, I.w2, I.target, I.last,
      ld_f32, ld_bf16, ld3_bf16, Nat.zero_add, Nat.div_add_mod, h_eq, w_eq, w_eq', a0_eq, b0_eq, a1_eq, b1_eq,
      a2_eq, b2_eq, u0_eq, u1_eq, u2_eq, zero_eq', readCov_whole]
  refine (read_first _ _ _ _ (fun _ _ => 0) (dk_of (T := T) (k := k) (y_tile X g w1 w3 w2 (readCov_three _ _ _ _ _ (uu X g w1 w3))) fun _ _ => 0) _ ?_).trans (co2_congr fun r j _ _ => by simp only [zero_add])
  exact read_last _ _ _ rfl _

/-- At the others they are added to what the point before left. -/
theorem loss_tile_B (h0 : ¬t.val % 16 = 0) (P : ℕ → ℕ → ℝ)
    (hP : (outsAt0 m c (t.val - 1) (Nat.lt_of_le_of_lt (Nat.sub_le _ _) t.isLt)).2.2.2.1 = co2 P) :
    (outsAt0 m c t.val t.isLt).2.2.2.1 = co2 fun r j => P r j + 1 / 2 * ∑ s : Fin 512, ls X g w1 w3 w2 T k s := by
  rw [outsAt0_B m c t h0, hP]
  dsimp only
  unfold out0_B_10 kernelRun0_B
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread, I.x, I.gain, I.w1, I.w3, I.w2, I.target, I.last,
      ld_f32, ld_bf16, ld3_bf16, Nat.zero_add, Nat.div_add_mod, h_eq, w_eq, w_eq', a0_eq, b0_eq, a1_eq, b1_eq,
      a2_eq, b2_eq, u0_eq, u1_eq, u2_eq]
  exact read_last _ _ _ (loss_of (T := T) (k := k) (y_tile X g w1 w3 w2 (readCov_three _ _ _ _ _ (uu X g w1 w3))) P) _

theorem dk_tile_B (h0 : ¬t.val % 16 = 0) (P : ℕ → ℕ → ℝ)
    (hP : (outsAt0 m c (t.val - 1) (Nat.lt_of_le_of_lt (Nat.sub_le _ _) t.isLt)).2.2.2.2 = co2 P) :
    (outsAt0 m c t.val t.isLt).2.2.2.2
      = co2 fun r j => if r = 0 then P 0 j + ∑ s : Fin 512, dk X g w1 w3 w2 T k s j else P r j := by
  rw [outsAt0_B m c t h0, hP]
  dsimp only
  unfold out0_B_11 kernelRun0_B
  dsimp only
  sl_unfold_words
  simp only [View.readAt_eq_ld, (hs0_0 t).read_unread, (hs0_1 t).read_unread, (hs0_2 t).read_unread, (hs0_3 t).read_unread,
      (hs0_4 t).read_unread, (hs0_5 t).read_unread, (hs0_6 t).read_unread, (hs0_11 t).read_unread, I.x, I.gain, I.w1, I.w3, I.w2, I.target, I.last,
      ld_f32, ld_bf16, ld3_bf16, Nat.zero_add, Nat.div_add_mod, h_eq, w_eq, w_eq', a0_eq, b0_eq, a1_eq, b1_eq,
      a2_eq, b2_eq, u0_eq, u1_eq, u2_eq]
  exact read_first _ _ _ _ P (dk_of (T := T) (k := k) (y_tile X g w1 w3 w2 (readCov_three _ _ _ _ _ (uu X g w1 w3))) P) _ ((hs0_11 t).read_unread _)

end Cert.Head.Blk
end
-- ==== Proof.HeadHost.lean ====
/- What the host lines hand to the last feed-forward block's kernel, as real matrices. -/
module

public import proofs.«01_k».proof.Proof.HeadTile
public import Idealize.ShloMosaic.Lib.StableHlo.ReadAt
public import Idealize.ShloMosaic.Lib.Pipeline.ValueKit

@[expose] public section

set_option maxRecDepth 16384
set_option maxHeartbeats 1000000

noncomputable section

namespace Cert.Head.Blk

open Cert.HeadIdeal Cert.HeadIdeal.Gen Idealize.ShloMosaic Idealize.ShloMosaic.TcCoe Idealize.SL.Sem Cert.Base Cert.Ffn Cert.Head

variable (m : (ℓ : Loc nD τ sig) → Buf (Elt Ideal) ℓ) (c : Dev nD) (X : ℕ → ℕ → ℝ) (g : ℕ → ℝ) (w1 w3 w2 T : ℕ → ℕ → ℝ) (k : ℕ → ℝ)

/-- The arguments, as real arrays. -/
structure Args : Prop where
  x : m ((c : Thread nD τ).loc main_arg0) = co2 X
  gain : m ((c : Thread nD τ).loc main_arg1) = co1 g
  w1 : m ((c : Thread nD τ).loc main_arg2) = co2 w1
  w3 : m ((c : Thread nD τ).loc main_arg3) = co2 w3
  w2 : m ((c : Thread nD τ).loc main_arg4) = co2 w2
  target : m ((c : Thread nD τ).loc main_arg5) = co2 T
  last : m ((c : Thread nD τ).loc main_arg6) = co1 k

variable {m c X g w1 w3 w2 T k} (A : Args m c X g w1 w3 w2 T k)

/-- Where each block sits. -/
theorem at_rows : ∀ t : Fin cfg0.N, win0_0.index t = ![t.val, 0] ∧ win0_5.index t = ![t.val, 0] ∧ win0_7.index t = ![t.val, 0]
    ∧ win0_8.index t = ![t.val, 0] ∧ win0_9.index t = ![t.val, 0] :=
  (by decide +kernel : ∀ t : Fin grid0.N, _)
theorem at_whole : ∀ t : Fin cfg0.N, win0_1.index t = ![0, 0] ∧ win0_2.index t = ![0, 0, 0] ∧ win0_3.index t = ![0, 1, 0] ∧ win0_4.index t = ![0, 2, 0]
    ∧ win0_6.index t = ![0, 0] ∧ win0_10.index t = ![0, 0] ∧ win0_11.index t = ![0, 0] :=
  (by decide +kernel : ∀ t : Fin grid0.N, _)

include A

theorem args : m (c, Proc.tc.devRef main_arg1) = co1 g ∧ m (c, Proc.tc.devRef main_arg2) = co2 w1
    ∧ m (c, Proc.tc.devRef main_arg3) = co2 w3 ∧ m (c, Proc.tc.devRef main_arg4) = co2 w2 ∧ m (c, Proc.tc.devRef main_arg6) = co1 k :=
  ⟨A.gain, A.w1, A.w3, A.w2, A.last⟩

/-- The three weights in one array: each device's group of rows the transposed hidden weights' and the output weight's. -/
theorem V_w : V m c main_v6 = co3 fun i r j => if r < 352 then w1 j (352 * i + r) else if r < 704 then w3 j (352 * i + (r - 352))
    else w2 (352 * i + (r - 704)) j := by
  obtain ⟨e1, e2, e3, e4, e6⟩ := args A
  have h : StableHlo.upto hostOps0 (fun b => m (c, b)) 5 (Proc.tc.devRef main_v1) = co3 (fun i r j => w1 j (352 * i + r))
      ∧ StableHlo.upto hostOps0 (fun b => m (c, b)) 5 (Proc.tc.devRef main_v3) = co3 (fun i r j => w3 j (352 * i + r))
      ∧ StableHlo.upto hostOps0 (fun b => m (c, b)) 5 (Proc.tc.devRef main_v4) = co3 (fun i r j => w2 (352 * i + r) j) := by
    refine ⟨?_, ?_, ?_⟩
    all_goals
      after_reads_simp
      first | rw [e2] | rw [e3] | rw [e4]
      funext i
      pointwise
      simp only [co2_apply, co3_apply, Nat.mul_comm 352]
      rfl
  unfold V
  after_reads_simp
  simp only [Matrix.cons_val]
  rw [h.1, h.2.1, h.2.2]
  funext i
  pointwise
  rw [co3_apply]
  by_cases h : (i 1).val < 352
  · rw [dif_pos h, if_pos h]; rfl
  rw [dif_neg h, if_neg h]
  by_cases h' : (i 1).val - 352 < 352
  · rw [dif_pos h', if_pos (show (i 1).val < 704 by omega)]; rfl
  · rw [dif_neg h', if_neg (show ¬(i 1).val < 704 by omega), show (i 1).val - 704 = (i 1).val - 352 - 352 by omega]; rfl

theorem V_gains : V m c main_v7 = (co2 fun _ j => g j) ∧ V m c main_v8 = co2 fun _ j => k j := by
  obtain ⟨e1, e2, e3, e4, e6⟩ := args A
  unfold V
  constructor
  all_goals
    after_reads_simp
    first | rw [e1] | rw [e6]
    funext i
    pointwise
    rfl

/-- The blocks of a grid point: 512 rows of each array of rows. -/
theorem tile (t : Fin cfg0.N) : Tile m c t (fun r j => X (512 * t.val + r) j) g w1 w3 w2 (fun r j => T (512 * t.val + r) j) k := by
  obtain ⟨i0, i5, -⟩ := at_rows t
  obtain ⟨i1, i2, i3, i4, i6, -⟩ := at_whole t
  obtain ⟨Vg, Vk⟩ := V_gains A
  refine ⟨?x, ?g, ?w1, ?w3, ?w2, ?t, ?k⟩
  case x => funext x; blk_simp [iblk]; rw [V_main_arg0, A.x]; refine co2_at _ _ x ?_ ?_ <;> blk_simp [i0] <;> omega
  case t => funext x; blk_simp [iblk]; rw [V_main_arg5, A.target]; refine co2_at _ _ x ?_ ?_ <;> blk_simp [i5] <;> omega
  case g => funext x; blk_simp [iblk]; rw [Vg]; exact co2_at (a := 0) _ _ x (by blk_simp [i1]) (by blk_simp [i1])
  case k => funext x; blk_simp [iblk]; rw [Vk]; exact co2_at (a := 0) _ _ x (by blk_simp [i6]) (by blk_simp [i6])
  all_goals
    funext x
    idx_bounds x
    blk_simp [iblk]; rw [V_w A, co3_apply, co3_apply]; blk_simp [i2, i3, i4]
  case w1 => rw [if_pos hb1]
  case w3 => rw [if_neg (by omega), if_pos (by omega), Nat.add_sub_cancel_left]
  case w2 => rw [if_neg (by omega), if_neg (by omega), Nat.add_sub_cancel_left]

end Cert.Head.Blk
end
-- ==== Proof.HeadArray.lean ====
/- What the last feed-forward block's kernel leaves in its five result arrays. -/
module

public import proofs.«01_k».proof.Proof.HeadHost

@[expose] public section

set_option maxRecDepth 16384
set_option maxHeartbeats 1000000

noncomputable section

namespace Cert.Head.Blk

open Cert.HeadIdeal Cert.HeadIdeal.Gen Idealize.ShloMosaic Idealize.ShloMosaic.TcCoe Idealize.SL.Sem Cert.Base Cert.Ffn Cert.Head
open Idealize.ShloMosaic.Pipeline (Dat)

variable {m : (ℓ : Loc nD τ sig) → Buf (Elt Ideal) ℓ} {c : Dev nD} {X : ℕ → ℕ → ℝ} {g : ℕ → ℝ} {w1 w3 w2 T : ℕ → ℕ → ℝ} {k : ℕ → ℝ}
  (A : Args m c X g w1 w3 w2 T k)
include A

/-- The three arrays of rows. -/
theorem rows_arrays : (dats m 0 c).arrAt 7 cfg0.N = co2 (dy X g w1 w3 w2 T k) ∧ (dats m 0 c).arrAt 8 cfg0.N = co2 (pr X g w1)
    ∧ (dats m 0 c).arrAt 9 cfg0.N = co2 (pr X g w3) := by
  refine ⟨(dats m 0 c).arrAt_eq_of_covers 7 _ (by decide +kernel) fun t hf y => ?_, (dats m 0 c).arrAt_eq_of_covers 8 _ (by decide +kernel) fun t hf y => ?_,
    (dats m 0 c).arrAt_eq_of_covers 9 _ (by decide +kernel) fun t hf y => ?_⟩
  all_goals
    obtain ⟨e7, e8, e9⟩ := rows_tile (tile A t)
    obtain ⟨-, -, i7, i8, i9⟩ := at_rows t
    blk_simp
    first | rw [after0_7, e7] | rw [after0_8, e8] | rw [after0_9, e9]
    symm
    refine (co2_at (a := 512 * t.val) _ _ y ?_ ?_).trans rfl
    · blk_simp [i7, i8, i9]; omega
    · blk_simp [i7, i8, i9]

/-- After a point the loss is half the share of every row so far, and the gain's gradient the share of every row so far, in
    the first row. -/
theorem loss_after (n : ℕ) (hn : n < cfg0.N) : (outsAt0 m c n hn).2.2.2.1
    = co2 fun _ _ => 1 / 2 * ∑ s : Fin (512 * (n + 1)), ls X g w1 w3 w2 T k s := by
  induction n with
  | zero =>
    refine (loss_tile_A (tile A ⟨0, hn⟩) rfl).trans (co2_congr fun r j _ _ => ?_)
    simp only [Nat.mul_zero, zero_add]
  | succ n ih =>
    have hN : n + 1 < 16 := lt_of_lt_of_eq hn Gen.N_0
    refine (loss_tile_B (tile A ⟨n + 1, hn⟩) (show ¬(n + 1) % 16 = 0 by omega) _ (ih (by omega))).trans (co2_congr fun r j _ _ => ?_)
    rw [Nat.mul_add_one 512 (n + 1), Fin.sum_univ_add]
    exact (mul_add (1 / 2 : ℝ) _ _).symm

theorem dk_after (n : ℕ) (hn : n < cfg0.N) : (outsAt0 m c n hn).2.2.2.2
    = co2 fun r j => if r = 0 then ∑ s : Fin (512 * (n + 1)), dk X g w1 w3 w2 T k s j else 0 := by
  induction n with
  | zero =>
    refine (dk_tile_A (tile A ⟨0, hn⟩) rfl).trans (co2_congr fun r j _ _ => ?_)
    simp only [Nat.mul_zero, zero_add]
  | succ n ih =>
    have hN : n + 1 < 16 := lt_of_lt_of_eq hn Gen.N_0
    refine (dk_tile_B (tile A ⟨n + 1, hn⟩) (show ¬(n + 1) % 16 = 0 by omega) _ (ih (by omega))).trans (co2_congr fun r j _ _ => ?_)
    by_cases hr : r = 0
    · rw [if_pos hr, if_pos hr, if_pos rfl, Nat.mul_add_one 512 (n + 1), Fin.sum_univ_add]
      rfl
    · rw [if_neg hr, if_neg hr, if_neg hr]

/-- The loss, in every place of its array. -/
theorem loss_array : (dats m 0 c).arrAt 10 cfg0.N = co2 fun _ _ => 1 / 2 * ∑ t : Fin 8192, ls X g w1 w3 w2 T k t := by
  refine (dats m 0 c).arrAt_eq_of_covers 10 _ (by decide +kernel) fun t hf y => ?_
  have hN : t.val < 16 := lt_of_lt_of_eq t.isLt Gen.N_0
  have ht : t.val = 15 := by have := (flush0_10 t).mp hf; omega
  have e := loss_after A t.val t.isLt
  obtain ⟨-, -, -, -, -, i10, i11⟩ := at_whole t
  blk_simp
  rw [after0_10, e, ht]
  symm
  refine (co2_at (a := 0) _ _ y ?_ ?_).trans rfl
  · blk_simp [i10]
  · blk_simp [i10]

/-- The gain's gradient. -/
theorem dk_array : (dats m 0 c).arrAt 11 cfg0.N = co2 fun r j => if r = 0 then ∑ t : Fin 8192, dk X g w1 w3 w2 T k t j else 0 := by
  refine (dats m 0 c).arrAt_eq_of_covers 11 _ (by decide +kernel) fun t hf y => ?_
  have hN : t.val < 16 := lt_of_lt_of_eq t.isLt Gen.N_0
  have ht : t.val = 15 := by have := (flush0_11 t).mp hf; omega
  have e := dk_after A t.val t.isLt
  obtain ⟨-, -, -, -, -, i10, i11⟩ := at_whole t
  blk_simp
  rw [after0_11, e, ht]
  symm
  refine (co2_at (a := 0) _ _ y ?_ ?_).trans ?_
  · blk_simp [i11]
  · blk_simp [i11]
  · simp only [zero_add]

end Cert.Head.Blk
end
-- ==== Proof.HeadRef.lean ====
/- What the reference of the last feed-forward block, the loss and its gradient computes at finite arguments. -/
module

public import proofs.«01_k».proof.Proof.HeadReal
public import proofs.«01_k».proof.Proof.Gen.HeadRefIdeal.Read
public import Idealize.ShloMosaic.Lib.KernelVsHost

@[expose] public section

set_option maxRecDepth 16384

noncomputable section

namespace Cert.Head.Ref

open Cert.Base Cert.Ffn Cert.Head Cert.HeadRefIdeal.Read Idealize.ShloMosaic

variable (X : ℕ → ℕ → ℝ) (g : ℕ → ℝ) (w1 w3 w2 T : ℕ → ℕ → ℝ) (k : ℕ → ℝ)

theorem ms_eq : val_main_v6 (F := Ideal) (co2 X) = co2 fun t _ => ms X t := by
  funext i
  simp only [val_main_v6_apply, val_main_v4_apply, val_main_v2_apply, val_main_v1_apply, val_main_v0_apply, val_main_v3_apply,
    val_main_v5_apply, val_main_cst_apply, val_main_cst_0_apply, val_main_cst_1_apply, Ideal.ofBits_def, Ideal.addf_def,
    Ideal.mulf_def, Ideal.hostDivf_def, bits_zero, bits_eps, bits_1024, co2_apply, ← EReal.coe_mul, coe_sum, ← EReal.coe_add,
    div_coe_coe _ (1024 : ℝ) (by norm_num), zero_add]
  rfl

theorem hh_eq : val_main_v12 (F := Ideal) (co2 X) (co1 g) = co2 (hh X g) := by
  funext i
  simp only [val_main_v12_apply, val_main_v11_apply, val_main_v10_apply, val_main_v9_apply, val_main_v8_apply, val_main_v7_apply, ms_eq,
    Ideal.hostUnary_rsqrt_def, co2_apply, co1_apply, rsqrt_ms, Ideal.mulf_def, ← EReal.coe_mul]
  rfl

theorem a_eq : val_main_v13 (F := Ideal) (co2 X) (co1 g) (co2 w1) = co2 (pr X g w1) := by
  funext i
  simp only [val_main_v13_apply, hh_eq, co2_apply, ← EReal.coe_mul, coe_sum]
  rfl

theorem b_eq : val_main_v15 (F := Ideal) (co2 X) (co1 g) (co2 w3) = co2 (pr X g w3) := a_eq X g w3

theorem u_eq : val_main_v16 (F := Ideal) (co2 X) (co1 g) (co2 w1) (co2 w3) = co2 (uu X g w1 w3) := by
  funext i
  simp only [val_main_v16_apply, val_main_v14_apply, val_main_call0_v5_apply, val_main_call0_v4_apply, val_main_call0_v3_apply,
    val_main_call0_v2_apply, val_main_call0_v1_apply, val_main_call0_v0_apply, val_main_call0_cst_apply, val_main_call0_cst_0_apply,
    a_eq, b_eq, co2_apply, Ideal.ofBits_def, bits_one, Ideal.hostNegf_def, Ideal.negf_def, Ideal.hostUnary_exp_def, neg_co, Ideal.exp_coe,
    Ideal.addf_def, ← EReal.coe_add, Ideal.hostDivf_def, div_coe_coe _ _ (one_add_exp_ne _), one_div_sg, Ideal.mulf_def, ← EReal.coe_mul, uu]

theorem y_eq : val_main_v20 (F := Ideal) (co2 X) (co1 g) (co2 w1) (co2 w3) (co2 w2) = co2 (yy X g w1 w3 w2) := by
  funext i
  simp only [val_main_v20_apply, val_main_v19_apply, val_main_v18_apply, val_main_v17_apply, val_main_cst_2_apply, u_eq, co2_apply,
    Ideal.ofBits_def, bits_half, Ideal.addf_def, Ideal.mulf_def, ← EReal.coe_mul, coe_sum, ← EReal.coe_add]
  rfl

theorem ms'_eq : val_main_v27 (F := Ideal) (co2 X) (co1 g) (co2 w1) (co2 w3) (co2 w2) = co2 fun t _ => ms (yy X g w1 w3 w2) t := by
  funext i
  simp only [val_main_v27_apply, val_main_v25_apply, val_main_v23_apply, val_main_v22_apply, val_main_v21_apply, val_main_v24_apply,
    val_main_v26_apply, val_main_cst_3_apply, val_main_cst_4_apply, val_main_cst_5_apply, y_eq, Ideal.ofBits_def, Ideal.addf_def,
    Ideal.mulf_def, Ideal.hostDivf_def, bits_zero, bits_eps, bits_1024, co2_apply, ← EReal.coe_mul, coe_sum, ← EReal.coe_add,
    div_coe_coe _ (1024 : ℝ) (by norm_num), zero_add]
  rfl

theorem rs_eq : val_main_v28 (F := Ideal) (co2 X) (co1 g) (co2 w1) (co2 w3) (co2 w2) = co2 fun t _ => rs (yy X g w1 w3 w2) t := by
  funext i
  rw [val_main_v28_apply, ms'_eq, Ideal.hostUnary_rsqrt_def, co2_apply, rsqrt_ms]; rfl

theorem xh_eq : val_main_v33 (F := Ideal) (co2 X) (co1 g) (co2 w1) (co2 w3) (co2 w2) = co2 (xh (yy X g w1 w3 w2)) := by
  funext i
  simp only [val_main_v33_apply, val_main_v32_apply, rs_eq, y_eq, co2_apply, Ideal.mulf_def, ← EReal.coe_mul]
  rfl

theorem er_eq : val_main_v37 (F := Ideal) (co2 X) (co1 g) (co2 w1) (co2 w3) (co2 w2) (co2 T) (co1 k) = co2 (er X g w1 w3 w2 T k) := by
  funext i
  simp only [val_main_v37_apply, val_main_v36_apply, val_main_v35_apply, val_main_v34_apply, xh_eq, co2_apply, co1_apply, Ideal.mulf_def,
    ← EReal.coe_mul, Ideal.subf_def, sub_co]
  rfl

theorem loss_eq : val_main_v89 (F := Ideal) (co2 X) (co1 g) (co2 w1) (co2 w3) (co2 w2) (co2 T) (co1 k)
    = co2 fun _ _ => 1 / 2 * ∑ t : Fin 8192, ls X g w1 w3 w2 T k t := by
  funext i
  simp only [val_main_v89_apply, val_main_v43_apply, val_main_v42_apply, val_main_v41_apply, val_main_v40_apply, val_main_v39_apply,
    val_main_v38_apply, val_main_cst_7_apply, val_main_cst_8_apply, val_main_cst_9_apply, val_main_cst_10_apply, er_eq, co2_apply,
    Ideal.ofBits_def, bits_zero, bits_half, bits_1024, Ideal.mulf_def, ← EReal.coe_mul, coe_sum, ← EReal.coe_add, EReal.coe_zero, zero_add,
    Ideal.hostDivf_def, div_coe_coe _ (1024 : ℝ) (by norm_num)]
  refine congrArg (fun z : ℝ => ((1 / 2 * z : ℝ) : EReal)) ?_
  exact sum_idx1 (n0 := 8192) fun i => ls X g w1 w3 w2 T k (i 0).val

theorem dl_eq : val_main_v51 (F := Ideal) (co2 X) (co1 g) (co2 w1) (co2 w3) (co2 w2) (co2 T) (co1 k) = co2 (dl X g w1 w3 w2 T k) := by
  funext i
  simp only [val_main_v51_apply, val_main_v50_apply, val_main_v49_apply, val_main_v48_apply, val_main_v47_apply, val_main_v46_apply,
    val_main_v45_apply, val_main_v44_apply, val_main_cst_11_apply, val_main_cst_12_apply, val_main_cst_13_apply, er_eq, co2_apply,
    Ideal.ofBits_def, bits_half, bits_one, bits_1024, Ideal.mulf_def, ← EReal.coe_mul, Ideal.hostDivf_def,
    div_coe_coe _ (1024 : ℝ) (by norm_num), Ideal.addf_def, ← EReal.coe_add, dl]
  congr 1; ring

theorem dk_eq : val_main_v57 (F := Ideal) (co2 X) (co1 g) (co2 w1) (co2 w3) (co2 w2) (co2 T) (co1 k)
    = co1 fun j => ∑ t : Fin 8192, dk X g w1 w3 w2 T k t j := by
  funext i
  simp only [val_main_v57_apply, val_main_v54_apply, val_main_v53_apply, val_main_v52_apply, dl_eq, xh_eq,
    val_main_cst_14_apply, val_main_cst_15_apply, co1_apply, co2_apply, Ideal.ofBits_def, bits_zero, Ideal.mulf_def, ← EReal.coe_mul,
    coe_sum, ← EReal.coe_add, zero_add, Fin.sum_univ_one, Fin.val_zero, Nat.zero_mul]
  congr 1
  exact Finset.sum_congr rfl fun t _ => mul_comm _ _

theorem dy_eq : val_main_v71 (F := Ideal) (co2 X) (co1 g) (co2 w1) (co2 w3) (co2 w2) (co2 T) (co1 k) = co2 (dy X g w1 w3 w2 T k) := by
  funext i
  simp only [val_main_v71_apply, val_main_v70_apply, val_main_v69_apply, val_main_v68_apply, val_main_v67_apply, val_main_v66_apply,
    val_main_v65_apply, val_main_v64_apply, val_main_v63_apply, val_main_v62_apply, val_main_v61_apply, val_main_v60_apply,
    val_main_v59_apply, val_main_v58_apply, val_main_v56_apply, val_main_v55_apply, val_main_v34_apply, val_main_v31_apply,
    val_main_v30_apply, val_main_v29_apply, val_main_cst_6_apply, val_main_cst_16_apply, val_main_cst_17_apply,
    val_main_cst_18_apply, dl_eq, rs_eq, ms'_eq, y_eq, co2_apply, co1_apply, Ideal.ofBits_def, bits_zero, bits_neg_half, bits_1024,
    Ideal.mulf_def, Ideal.addf_def, Ideal.hostDivf_def, div_coe_coe _ _ (ms_ne _ _), ← EReal.coe_mul, coe_sum, ← EReal.coe_add, zero_add,
    Fin.sum_univ_one, Fin.val_zero, Nat.mul_one, Nat.add_zero, div_coe_coe _ (1024 : ℝ) (by norm_num)]
  congr 1
  exact dnorm_eq (yy X g w1 w3 w2) (fun t j => dl X g w1 w3 w2 T k t j * k j) (i 0).val (i 1).val

/-! The saved products, printed a second time. -/

theorem a'_eq : val_main_v86 (F := Ideal) (co2 X) (co1 g) (co2 w1) = co2 (pr X g w1) := a_eq X g w1
theorem b'_eq : val_main_v88 (F := Ideal) (co2 X) (co1 g) (co2 w3) = co2 (pr X g w3) := a_eq X g w3

theorem dk'_eq : val_main_v91 (F := Ideal) (co2 X) (co1 g) (co2 w1) (co2 w3) (co2 w2) (co2 T) (co1 k)
    = co2 fun r j => if r = 0 then ∑ t : Fin 8192, dk X g w1 w3 w2 T k t j else 0 := by
  funext i
  unfold val_main_v91
  by_cases h : (i 0).val = 0
  · refine (pad_apply_of_inside _ _ _ _ _ _ _ i (ValueIdx.ix2 (⟨0, by decide⟩ : Fin 1) (i 1)) fun a => by
        match a with
        | ⟨0, _⟩ => exact h
        | ⟨1, _⟩ => show (i 1).val = 0 + (i 1).val * (0 + 1); omega).trans ?_
    refine (val_main_v90_apply _ _ _ _ _ _ _ _).trans ?_
    rw [dk_eq, co2_apply _ i, if_pos h]; rfl
  · refine (pad_apply_of_not_inside _ _ _ _ _ _ _ i (0 : Fin 2) fun a => h (by
        have h2 : ((i 0).val - 0) / (0 + 1) < 1 := a.2.2
        omega)).trans ?_
    rw [co2_apply, if_neg h]
    show (((0#32 : BitVec 32).toInt : ℝ) : EReal) = _
    simp

end Cert.Head.Ref

end
-- ==== Proof.HeadClaim.lean ====
/- The last feed-forward block with the loss and the final normalisation's gradient: the kernel and the reference end at the same real arrays, at finite arguments. -/
module

public import proofs.«01_k».proof.Defs
public import proofs.«01_k».proof.Proof.HeadArray
public import proofs.«01_k».proof.Proof.HeadRef
public import proofs.«01_k».proof.Proof.Gen.HeadIdeal.Value
public import proofs.«01_k».proof.Proof.Gen.HeadRefIdeal
public import Idealize.ShloMosaic.Lib.Quiescent

@[expose] public section

set_option maxRecDepth 16384
set_option maxHeartbeats 1000000

noncomputable section

namespace Cert.Head

open Idealize.ShloMosaic Idealize.ShloMosaic.TcCoe Idealize.SL.Sem Cert.Base

theorem pre_facts : Cert.Pre_finite_head.Facts := by constructor <;> decide

attribute [local instance] pre_facts

/-- The precondition says that every entry of every argument is finite. -/
theorem pre_finite (a0 : FVec Ideal ⟨2, ![8192, 1024]⟩ .f32) (a1 : FVec Ideal ⟨1, ![1024]⟩ .f32)
    (a2 a3 : FVec Ideal ⟨2, ![1024, 2816]⟩ .f32) (a4 : FVec Ideal ⟨2, ![2816, 1024]⟩ .f32) (a5 : FVec Ideal ⟨2, ![8192, 1024]⟩ .f32)
    (a6 : FVec Ideal ⟨1, ![1024]⟩ .f32) (h : Cert.Pre_finite_head.fn (F := Ideal) a0 a1 a2 a3 a4 a5 a6 = fun _ => 1#1) :
    (Fin' a0 ∧ Fin' a1 ∧ Fin' a2 ∧ Fin' a3) ∧ Fin' a4 ∧ Fin' a5 ∧ Fin' a6 := by
  unfold Cert.Pre_finite_head.fn Cert.Pre_finite_head.fn_part1 Cert.Pre_finite_head.fn_part2 at h
  dsimp only at h
  iterate 7 (obtain ⟨h, e⟩ := and_split h; revert e)
  intro e0 e1 e2 e3 e4 e5 e6
  exact ⟨⟨finite_of_reduce _ _ _ _ (congrFun e0 _), finite_of_reduce _ _ _ _ (congrFun e1 _), finite_of_reduce _ _ _ _ (congrFun e2 _),
   finite_of_reduce _ _ _ _ (congrFun e3 _)⟩, finite_of_reduce _ _ _ _ (congrFun e4 _), finite_of_reduce _ _ _ _ (congrFun e5 _),
   finite_of_reduce _ _ _ _ (congrFun e6 _)⟩

theorem algebraic : Cert.algebraic_HeadIdeal_HeadRefIdeal_pre_finite_head := by
  intro m g m' g' hpre hagree
  have real : ∀ c : Dev Cert.HeadIdeal.nD, ∃ (X : ℕ → ℕ → ℝ) (g : ℕ → ℝ) (w1 w3 w2 T : ℕ → ℕ → ℝ) (k : ℕ → ℝ), Blk.Args m c X g w1 w3 w2 T k := by
    intro c
    obtain ⟨⟨f0, f1, f2, f3⟩, f4, f5, f6⟩ := pre_finite _ _ _ _ _ _ _ (hpre c)
    obtain ⟨X, e0⟩ := exists_co2 _ f0
    obtain ⟨k, e1⟩ := exists_co1 _ f1
    obtain ⟨w1, e2⟩ := exists_co2 _ f2
    obtain ⟨w3, e3⟩ := exists_co2 _ f3
    obtain ⟨w2, e4⟩ := exists_co2 _ f4
    obtain ⟨T, e5⟩ := exists_co2 _ f5
    obtain ⟨l, e6⟩ := exists_co1 _ f6
    exact ⟨X, k, w1, w3, w2, T, l, e0, e1, e2, e3, e4, e5, e6⟩
  choose X k w1 w3 w2 T l A using real
  refine ⟨_, _, _, _, _, Cert.HeadIdeal.Value.run_blocks m g, ?_⟩
  refine (θ_run Cert.HeadRefIdeal.defs _ _).mono (fun r h c => ?_) (Cert.HeadRefIdeal.Value.run (F := Ideal) m' g')
  obtain ⟨h0, h1, h2, h3, h4, h⟩ := h c
  obtain ⟨a0, a1, a2, a3, a4, a5, a6⟩ := hagree c
  have r0 : StableHlo.launchContents m' c (Proc.tc.devRef Cert.HeadRefIdeal.main_arg0) = co2 (X c) := a0.trans (A c).x
  have r1 : StableHlo.launchContents m' c (Proc.tc.devRef Cert.HeadRefIdeal.main_arg1) = co1 (k c) := a1.trans (A c).gain
  have r2 : StableHlo.launchContents m' c (Proc.tc.devRef Cert.HeadRefIdeal.main_arg2) = co2 (w1 c) := a2.trans (A c).w1
  have r3 : StableHlo.launchContents m' c (Proc.tc.devRef Cert.HeadRefIdeal.main_arg3) = co2 (w3 c) := a3.trans (A c).w3
  have r4 : StableHlo.launchContents m' c (Proc.tc.devRef Cert.HeadRefIdeal.main_arg4) = co2 (w2 c) := a4.trans (A c).w2
  have r5 : StableHlo.launchContents m' c (Proc.tc.devRef Cert.HeadRefIdeal.main_arg5) = co2 (T c) := a5.trans (A c).target
  have r6 : StableHlo.launchContents m' c (Proc.tc.devRef Cert.HeadRefIdeal.main_arg6) = co1 (l c) := a6.trans (A c).last
  obtain ⟨b7, b8, b9⟩ := Blk.rows_arrays (A c)
  refine ⟨h0.trans ?_, h1.trans ?_, h2.trans ?_, h3.trans ?_, h4.trans ?_, h⟩
  · rw [Cert.HeadRefIdeal.Read.val_main_v71_eq, r0, r1, r2, r3, r4, r5, r6]
    exact (Ref.dy_eq _ _ _ _ _ _ _).trans b7.symm
  · rw [Cert.HeadRefIdeal.Read.val_main_v86_eq, r0, r1, r2]
    exact (Ref.a'_eq _ _ _).trans b8.symm
  · rw [Cert.HeadRefIdeal.Read.val_main_v88_eq, r0, r1, r3]
    exact (Ref.b'_eq _ _ _).trans b9.symm
  · rw [Cert.HeadRefIdeal.Read.val_main_v89_eq, r0, r1, r2, r3, r4, r5, r6]
    exact (Ref.loss_eq _ _ _ _ _ _ _).trans (Blk.loss_array (A c)).symm
  · rw [Cert.HeadRefIdeal.Read.val_main_v91_eq, r0, r1, r2, r3, r4, r5, r6]
    exact (Ref.dk'_eq _ _ _ _ _ _ _).trans (Blk.dk_array (A c)).symm

end Cert.Head
end
-- ==== Proof.Stacks.lean ====
/- Stacks of matrices of extended reals. -/
module

public import proofs.«01_k».proof.Proof.FfnFwdPay

@[expose] public section

noncomputable section

namespace Cert.Base
open Idealize.ShloMosaic

theorem exists_ex3 {l m n : ℕ} (A : (⟨3, ![l, m, n]⟩ : Shape).Idx → EReal) : ∃ X, A = ex3 X := by
  refine ⟨fun t j k => if hh : t < l ∧ j < m ∧ k < n then A (ValueIdx.ix3 ⟨t, hh.1⟩ ⟨j, hh.2.1⟩ ⟨k, hh.2.2⟩) else 0, funext fun i => ?_⟩
  have ht : (i 0).val < l ∧ (i 1).val < m ∧ (i 2).val < n := ⟨(i 0).isLt, (i 1).isLt, (i 2).isLt⟩
  rw [ex3_apply, dif_pos ht,
    show ValueIdx.ix3 ⟨(i 0).val, ht.1⟩ ⟨(i 1).val, ht.2.1⟩ ⟨(i 2).val, ht.2.2⟩ = i from (ValueIdx.eq_ix3 i).symm]

theorem ldx3_f32 {l m n a b c l' m' n' : ℕ} (h) (Y : ℕ → ℕ → ℕ → EReal) :
    View.ld (Val := Elt Ideal) (e' := .f32) (S := ⟨3, ![l, m, n]⟩) (ex3 Y) (Rect.unit ![a, b, c] ![l', m', n'] h)
      = ex3 (l := l') (m := m') (n := n') fun i t j => Y (a + i) (b + t) (c + j) := funext fun x => idx_ex3 h Y x

theorem ex3_at {l m n l' m' n' a b : ℕ} (Y : ℕ → ℕ → ℕ → EReal) (e : (⟨3, ![l, m, n]⟩ : Shape).Idx) (x : (⟨3, ![l', m', n']⟩ : Shape).Idx)
    (h0 : (e 0).val = a + (x 0).val) (h1 : (e 1).val = b + (x 1).val) (h2 : (e 2).val = (x 2).val) :
    ex3 Y e = ex3 (fun i r k => Y (a + i) (b + r) k) x := by
  rw [ex3_apply, ex3_apply, h0, h1, h2]

theorem ex3_congr {l m n : ℕ} {X Y : ℕ → ℕ → ℕ → EReal} (h : ∀ i t j, i < l → t < m → j < n → X i t j = Y i t j) :
    ex3 (l := l) (m := m) (n := n) X = ex3 Y :=
  funext fun i => by rw [ex3_apply, ex3_apply, h _ _ _ (i 0).isLt (i 1).isLt (i 2).isLt]

end Cert.Base
end
-- ==== Proof.WgradTile.lean ====
/- The gradient of the feed-forward block's last weight: the product accumulated over the tiles of tokens, and the array it is written
   into. -/
module

public import proofs.«01_k».proof.Proof.Stacks
public import proofs.«01_k».proof.Proof.Gen.WgradIdeal.Value
public import Idealize.ShloMosaic.Lib.Pipeline.ValueKit

@[expose] public section

set_option maxRecDepth 16384
set_option maxHeartbeats 1000000

noncomputable section

namespace Cert.Wg
open Cert.WgradIdeal Cert.WgradIdeal.Gen Idealize.ShloMosaic Idealize.ShloMosaic.TcCoe Idealize.SL.Sem Cert.Base
open Idealize.ShloMosaic.Pipeline (Dat)

/-- The product over the first tokens. -/
def part (U D : ℕ → ℕ → EReal) (n f j : ℕ) : EReal := ∑ s ∈ Finset.range n, U s f * D s j

theorem part_add (U D : ℕ → ℕ → EReal) (n f j : ℕ) :
    part U D (1024 * (n + 1)) f j = part U D (1024 * n) f j + ∑ s : Fin 1024, U (1024 * n + s) f * D (1024 * n + s) j := by
  rw [part, Nat.mul_succ, Finset.sum_range_add, part, Finset.sum_range fun s => U (1024 * n + s) f * D (1024 * n + s) j]

variable (P U D : ℕ → ℕ → EReal)

theorem zero_eq : k0_pay1 (F := Ideal) = ex2 fun _ _ => 0 := by
  funext i
  pointwise [k0_pay1]
  simp only [bits_zero, EReal.coe_zero, ex2_apply]

theorem add_eq : k0_pay2 (F := Ideal) (ex2 P) (ex2 U) (ex2 D) = ex2 fun f j => P f j + ∑ s : Fin 1024, U s f * D s j := by
  funext i
  pointwise [k0_pay2]
  simp only [ex2_apply]
  rfl

theorem out_eq : k0_pay3 (F := Ideal) (ex2 P) = ex3 fun i r j => ((1 / 2 : ℝ) : EReal) * P (352 * i + r) j := by
  funext i
  pointwise [k0_pay3]
  simp only [ex2_apply, ex3_apply, bits_half, Nat.mul_comm 352]
  rfl

/-- An array read back after it was set as a whole. -/
theorem readCov_all [∀ e, Nonempty (Elt Ideal e)] {sig : RefSig} {κ : Kind} {sp : Space} {m n : ℕ}
    (v : View sig κ sp ⟨2, ![m, n]⟩ .f32) (h h') (Q : ℕ → ℕ → EReal) (L) :
    v.readCov (Val := Elt Ideal) (⟨Rect.unit ![0, 0] ![m, n] h, ex2 Q⟩ :: L) (Rect.unit ![0, 0] ![m, n] h').toLoadRect = ex2 (m := m) (n := n) Q := by
  rw [View.readCov_eq_canon_ld _ _ _ fun y => ⟨_, List.mem_cons_self, by
    show y ∈ (Rect.unit ![0, 0] ![m, n] h).set
    rw [Rect.mem_set_unit]; intro a; have := (y a).isLt; fin_cases a <;> exact ⟨Nat.zero_le _, by simpa using this⟩⟩, canon_whole]
  refine (ldx_f32 h' Q).trans ?_
  simp only [Nat.zero_add]

/-- An array read after it was set as a whole. -/
theorem read_all [∀ e, Nonempty (Elt Ideal e)] {sig : RefSig} {κ : Kind} {sp : Space} {m n : ℕ} {e : EltTy} (v : View sig κ sp ⟨2, ![m, n]⟩ e)
    (f : v.ty.Contents (Elt Ideal)) (h) (Q : (⟨2, ![m, n]⟩ : Shape).Idx → Elt Ideal e) (L) :
    v.read (Elt Ideal) (v.writes (Elt Ideal) f (⟨Rect.unit ![0, 0] ![m, n] h, Q⟩ :: L)) = Q :=
  (View.read_writes_eq_canon _ _ _ fun y => ⟨_, List.mem_cons_self, by
    show y ∈ (Rect.unit ![0, 0] ![m, n] h).set
    rw [Rect.mem_set_unit]; intro a; have := (y a).isLt; fin_cases a <;> exact ⟨Nat.zero_le _, by simpa using this⟩⟩).trans (canon_whole h Q L)

theorem at_rows : ∀ t : Fin cfg0.N, win0_0.index t = ![t.val, 0] ∧ win0_1.index t = ![t.val, 0] ∧ win0_2.index t = ![0, 2, 0] :=
  (by decide +kernel : ∀ t : Fin grid0.N, _)

variable {m : (ℓ : Loc nD τ sig) → Buf (Elt Ideal) ℓ} {c : Dev nD} {U D : ℕ → ℕ → EReal} {G : ℕ → ℕ → ℕ → EReal}

/-- The arguments. -/
structure Args (m : (ℓ : Loc nD τ sig) → Buf (Elt Ideal) ℓ) (c : Dev nD) (U D : ℕ → ℕ → EReal) (G : ℕ → ℕ → ℕ → EReal) : Prop where
  u : m ((c : Thread nD τ).loc main_arg0) = ex2 U
  d : m ((c : Thread nD τ).loc main_arg1) = ex2 D
  g : m ((c : Thread nD τ).loc main_arg2) = ex3 G

variable (A : Args m c U D G)
include A

theorem tiles (t : Fin cfg0.N) : iblk m c 0 t = ex2 (fun s f => U (1024 * t.val + s) f) ∧ iblk m c 1 t = ex2 fun s j => D (1024 * t.val + s) j := by
  obtain ⟨i0, i1, -⟩ := at_rows t
  constructor
  · funext x; blk_simp [iblk]; rw [V_main_arg0, A.u]; refine ex2_at _ _ x ?_ ?_ <;> blk_simp [i0] <;> omega
  · funext x; blk_simp [iblk]; rw [V_main_arg1, A.d]; refine ex2_at _ _ x ?_ ?_ <;> blk_simp [i1] <;> omega

/-- What the accumulator holds after each tile. -/
theorem acc (t : Fin cfg0.N) : (outsAt0 m c t.val t.isLt).2 = ex2 (part U D (1024 * (t.val + 1))) := by
  obtain ⟨n, hn⟩ := t
  induction n with
  | zero =>
    obtain ⟨e0, e1⟩ := tiles A ⟨0, hn⟩
    rw [outsAt0_A m c ⟨0, hn⟩ rfl (by dsimp only; omega)]
    dsimp only
    unfold sout0_A_0 kernelRun0_A
    dsimp only
    sl_unfold_words
    simp only [View.readAt_eq_ld, (hs0_0 _).read_unread, (hs0_1 _).read_unread, e0, e1, ldx_f32, ldx_bf16, Nat.zero_add, zero_eq,
      readCov_all, add_eq, read_all]
    funext i
    rw [ex2_apply, ex2_apply, part_add, part, Nat.mul_zero, Finset.sum_range_zero]
  | succ n ih =>
    have hN : n + 1 < 8 := lt_of_lt_of_eq hn (show cfg0.N = 8 from N_0)
    obtain ⟨e0, e1⟩ := tiles A ⟨n + 1, hn⟩
    have i := ih (Nat.lt_of_succ_lt hn)
    dsimp only at i
    by_cases h7 : (n + 1) % 8 = 7
    case' pos =>
      rw [outsAt0_C m c ⟨n + 1, hn⟩ (by dsimp only; omega) h7]
      dsimp only
      unfold sout0_C_0 kernelRun0_C
    case' neg =>
      rw [outsAt0_B m c ⟨n + 1, hn⟩ (by dsimp only; omega) h7]
      dsimp only
      unfold sout0_B_0 kernelRun0_B
    all_goals
      dsimp only
      sl_unfold_words
      simp only [View.readAt_eq_ld, (hs0_0 _).read_unread, (hs0_1 _).read_unread, (Memref.isWhole_whole _).read_unread, e0, e1, Nat.add_sub_cancel, i, ldx_f32, ldx_bf16, Nat.zero_add,
        add_eq, read_all]
      funext x
      rw [ex2_apply, ex2_apply, part_add _ _ (n + 1)]

/-- The last tile's result. -/
theorem out_tile (t : Fin cfg0.N) (h : t.val % 8 = 7) :
    (outsAt0 m c t.val t.isLt).1 = ex3 fun i r j => ((1 / 2 : ℝ) : EReal) * part U D 8192 (352 * i + r) j := by
  have hN : t.val < 8 := lt_of_lt_of_eq t.isLt (show cfg0.N = 8 from N_0)
  have h7 : t.val = 7 := by omega
  obtain ⟨e0, e1⟩ := tiles A t
  have i := acc A ⟨t.val - 1, Nat.lt_of_le_of_lt (Nat.sub_le _ _) t.isLt⟩
  dsimp only at i
  rw [show t.val - 1 + 1 = 7 by omega] at i
  rw [outsAt0_C m c t (by omega) h]
  dsimp only
  unfold out0_C_2
  refine read_writes_eq _ _ _ (fun y => by apply cover0_C_2) _ ?_
  unfold kernelRun0_C
  dsimp only
  sl_unfold_words
  simp only [View.readAt_eq_ld, (hs0_0 _).read_unread, (hs0_1 _).read_unread, (Memref.isWhole_whole _).read_unread, e0, e1, i, ldx_f32, ldx_bf16, Nat.zero_add,
    add_eq, readCov_all, out_eq, List.forall_mem_cons, idx_ex3, List.not_mem_nil, false_imp_iff, implies_true, and_true]
  refine fun x => congrFun (ex3_congr fun i r j _ _ _ => ?_) x
  rw [show (8192 : ℕ) = 1024 * (7 + 1) from rfl, part_add U D 7, h7]

/-- The result: the rows written before, and the gradient's. -/
def dw (U D : ℕ → ℕ → EReal) (G : ℕ → ℕ → ℕ → EReal) (i r j : ℕ) : EReal :=
  if r < 704 then G i r j else ((1 / 2 : ℝ) : EReal) * part U D 8192 (352 * i + (r - 704)) j

theorem array : (dats m 0 c).arrAt 2 cfg0.N = ex3 (dw U D G) := by
  refine ((dats m 0 c).arrAt_eq_of_coversWhere 2 (ex3 (dw U D G)) (P := fun i => 704 ≤ (i 1).val) (fun β => β (1 : Fin _) = 2) (by decide +kernel)
    (fun t hf y => ?_) (fun j => ?_)).trans ?_
  · obtain ⟨-, -, i2⟩ := at_rows t
    blk_simp
    rw [after0_2, out_tile A t ((by decide +kernel : ∀ t : Fin grid0.N, (cfg0.win 2).flush t = true → t.val % 8 = 7) t hf), ex3_apply, ex3_apply, dw, if_neg]
    all_goals have := (y 1).isLt
    · have e0 : ((win0_2.blk t).view.emb y 0).val = (y 0).val := by blk_simp [i2]
      have e1 : ((win0_2.blk t).view.emb y 1).val - 704 = (y 1).val := by blk_simp [i2]; omega
      have e2 : ((win0_2.blk t).view.emb y 2).val = (y 2).val := by blk_simp [i2]
      rw [e0, e1, e2]
    · blk_simp [i2]; omega
  · blk_simp [Pipeline.Window.cell_apply]
    have : (j 1).val < 1056 := (j 1).isLt
    omega
  · funext i
    by_cases h : 704 ≤ (i 1).val
    · rw [if_pos h]
    · rw [if_neg h, A_eq, ex3_apply, dw, if_pos (Nat.lt_of_not_le h)]
      show V m c main_v0 i = _
      entry_read
      exact congrFun A.g i

omit A in
/-- A nonnegative real factor of a sum. -/
theorem mul_sum_of {ι : Type} (s : Finset ι) (F : ι → EReal) {k : ℝ} (hk : 0 ≤ k) : (k : EReal) * ∑ i ∈ s, F i = ∑ i ∈ s, (k : EReal) * F i := by
  classical
  induction s using Finset.induction_on with
  | empty => rw [Finset.sum_empty, Finset.sum_empty, mul_zero]
  | insert a s h ih =>
    rw [Finset.sum_insert h, Finset.sum_insert h, EReal.left_distrib_of_nonneg_of_ne_top (EReal.coe_nonneg.mpr hk) (EReal.coe_ne_top k), ih]

end Cert.Wg
end
-- ==== Proof.WgradClaim.lean ====
/- The gradient of the feed-forward block's last weight: the reference ends at the array the kernel ends at, whatever the arguments. A half
   goes into the sum over the tokens, since a nonnegative real factor distributes over the infinities too. -/
module

public import proofs.«01_k».proof.Defs
public import proofs.«01_k».proof.Proof.WgradTile
public import proofs.«01_k».proof.Proof.Gen.WgradRefIdeal.Read
public import proofs.«01_k».proof.Proof.Gen.WgradRefIdeal
public import Idealize.ShloMosaic.Lib.KernelVsHost
public import Idealize.ShloMosaic.Lib.Quiescent

@[expose] public section

set_option maxRecDepth 16384
set_option maxHeartbeats 1000000

noncomputable section

namespace Cert.Wg.Ref
open Cert.Base Cert.Wg Cert.WgradRefIdeal Cert.WgradRefIdeal.Gen Cert.WgradRefIdeal.Read Idealize.ShloMosaic

variable (U D : ℕ → ℕ → EReal) (G : ℕ → ℕ → ℕ → EReal)

theorem grad_eq : val_main_v11 (F := Ideal) (ex2 U) (ex2 D) = ex3 fun i r j => ((1 / 2 : ℝ) : EReal) * part U D 8192 (352 * i + r) j := by
  funext i
  have h2 : (i 2).val < 1024 := (i 2).isLt
  have e0 : (((i 0).val * 352 + (i 1).val) * 1024 + (i 2).val) / 1024 = 352 * (i 0).val + (i 1).val := by omega
  have e1 : (((i 0).val * 352 + (i 1).val) * 1024 + (i 2).val) % 1024 = (i 2).val := by omega
  simp only [val_main_v11_apply, val_main_v10_apply, val_main_v8_apply, val_main_v7_apply, val_main_v6_apply, val_main_v5_apply, val_main_cst_1_apply,
    val_main_v1_apply, ex2_apply, ex3_apply, e0, e1, Ideal.ofBits_def, bits_half, Ideal.mulf_def]
  rw [part, mul_sum_of _ _ (by norm_num), Finset.sum_range]
  refine Finset.sum_congr rfl fun k _ => ?_
  rw [mul_comm (U _ _), ← mul_assoc]
  rfl

theorem ref_eq : val_main_v12 (F := Ideal) (ex2 U) (ex2 D) (ex3 G) = ex3 (dw U D G) := by
  funext i
  unfold val_main_v12
  rw [grad_eq, ex3_apply, dw]
  by_cases h : (i 1).val < 704
  · rw [if_pos h]
    refine (concatenate_pair_apply_left (s₁ := S8x704x1024) (s₂ := S8x352x1024) (1 : Fin 3) _ _ _ i rfl (ValueIdx.ix3 ⟨(i 0).val, (i 0).isLt⟩ ⟨(i 1).val, h⟩ ⟨(i 2).val, (i 2).isLt⟩)
      (fun b => by fin_cases b <;> rfl)).trans ?_
    rw [val_main_v9_apply]
    rfl
  · rw [if_neg h]
    have h1 : (i 1).val < 1056 := (i 1).isLt
    refine (concatenate_pair_apply_right (s₁ := S8x704x1024) (s₂ := S8x352x1024) (1 : Fin 3) _ _ _ i rfl rfl
      (ValueIdx.ix3 ⟨(i 0).val, (i 0).isLt⟩ ⟨(i 1).val - 704, by omega⟩ ⟨(i 2).val, (i 2).isLt⟩)
      (fun b hb => by fin_cases b <;> first | rfl | exact absurd rfl hb) (Nat.sub_add_cancel (Nat.le_of_not_lt h))).trans ?_
    rfl

end Cert.Wg.Ref

namespace Cert.Wg
open Idealize.ShloMosaic Idealize.ShloMosaic.TcCoe Idealize.SL.Sem Cert.Base

theorem frame_ref : Cert.quiescent_WgradRefIdeal := fun m g _ =>
  (θ_run Cert.WgradRefIdeal.defs _ _).mono (fun r h => ⟨fun c => (h c).2, sem_eq_zero_of_no_sems (by decide) r.2⟩)
    (Cert.WgradRefIdeal.Value.run (F := Ideal) m g)

theorem algebraic : Cert.algebraic_WgradIdeal_WgradRefIdeal := by
  intro m g m' g' _ hagree
  have real : ∀ c : Dev Cert.WgradIdeal.nD, ∃ (U D : ℕ → ℕ → EReal) (G : ℕ → ℕ → ℕ → EReal), Args m c U D G := by
    intro c
    obtain ⟨U, e0⟩ := exists_ex2 (m ((c : Thread Cert.WgradIdeal.nD Cert.WgradIdeal.τ).loc Cert.WgradIdeal.main_arg0))
    obtain ⟨D, e1⟩ := exists_ex2 (m ((c : Thread Cert.WgradIdeal.nD Cert.WgradIdeal.τ).loc Cert.WgradIdeal.main_arg1))
    obtain ⟨G, e2⟩ := exists_ex3 (m ((c : Thread Cert.WgradIdeal.nD Cert.WgradIdeal.τ).loc Cert.WgradIdeal.main_arg2))
    exact ⟨U, D, G, e0, e1, e2⟩
  choose U D G A using real
  refine ⟨_, Cert.WgradIdeal.Value.run_blocks m g, ?_⟩
  refine (θ_run Cert.WgradRefIdeal.defs _ _).mono (fun r h c => ?_) (Cert.WgradRefIdeal.Value.run (F := Ideal) m' g')
  obtain ⟨h0, h⟩ := h c
  obtain ⟨a0, a1, a2⟩ := hagree c
  have r0 := a0.trans (A c).u
  have r1 := a1.trans (A c).d
  have r2 := a2.trans (A c).g
  refine ⟨h0.trans ?_, h⟩
  rw [Cert.WgradRefIdeal.Read.val_main_v12_eq, r0, r1, r2]
  exact (Ref.ref_eq _ _ _).trans (array (A c)).symm

end Cert.Wg

end
-- ==== Proof.AdamTile.lean ====
/- The optimiser's step: what the kernel leaves in its three results, over the arrays laid out as rows. -/
module

public import proofs.«01_k».proof.Proof.Stacks
public import proofs.«01_k».proof.Proof.Gen.AdamIdeal.Value
public import Idealize.ShloMosaic.Lib.Pipeline.ValueKit

@[expose] public section

set_option maxRecDepth 16384
set_option maxHeartbeats 1000000

noncomputable section

namespace Cert.Ad
open Cert.AdamIdeal Cert.AdamIdeal.Gen Idealize.ShloMosaic Idealize.ShloMosaic.TcCoe Idealize.SL.Sem Cert.Base
open Idealize.ShloMosaic.Pipeline (Dat)

/-- The moments after a step, of a gradient `g`. -/
def mom (g p : EReal) : EReal := Ideal.ofBits .f32 0x3F666666#32 * p + Ideal.ofBits .f32 0x3DCCCCCD#32 * g
def var (g q : EReal) : EReal := Ideal.ofBits .f32 0x3F7FBE77#32 * q + Ideal.ofBits .f32 0x3A83126F#32 * (g * g)
/-- The step itself, of a weight `w`. -/
def stp (w g p q : EReal) : EReal :=
  Ideal.ofBits .f32 0xBA83126F#32 * (Ideal.div (Ideal.div (mom g p) (Ideal.ofBits .f32 0x3F26BD02#32))
    (Ideal.sqrt (Ideal.div (var g q) (Ideal.ofBits .f32 0x3C231ACC#32)) + Ideal.ofBits .f32 0x322BCC77#32) + Ideal.ofBits .f32 0x3C23D70A#32 * w)

variable (W G P Q : ℕ → ℕ → EReal)

theorem mom_eq : k0_pay2 (F := Ideal) (ex2 G) (ex2 P) = ex2 fun r j => mom (G r j) (P r j) := by
  funext i
  pointwise [k0_pay2, k0_pay1]
  simp only [ex2_apply]
  rfl

theorem var_eq : k0_pay3 (F := Ideal) (ex2 G) (ex2 Q) = ex2 fun r j => var (G r j) (Q r j) := by
  funext i
  pointwise [k0_pay3, k0_pay1]
  simp only [ex2_apply]
  rfl

theorem stp_eq : k0_pay4 (F := Ideal) (ex2 W) (ex2 G) (ex2 P) (ex2 Q) = ex2 fun r j => stp (W r j) (G r j) (P r j) (Q r j) := by
  funext i
  pointwise [k0_pay4]
  simp only [mom_eq, var_eq, ex2_apply]
  rfl

/-- A block of 512 rows. -/
theorem tile : out0_4 (F := Ideal) (ex2 W) (ex2 G) (ex2 P) (ex2 Q) = ex2 (fun r j => stp (W r j) (G r j) (P r j) (Q r j))
    ∧ out0_5 (F := Ideal) (ex2 W) (ex2 G) (ex2 P) (ex2 Q) = ex2 (fun r j => mom (G r j) (P r j))
    ∧ out0_6 (F := Ideal) (ex2 W) (ex2 G) (ex2 P) (ex2 Q) = ex2 (fun r j => var (G r j) (Q r j)) := by
  unfold out0_4 out0_5 out0_6
  simp only [r0_0, ldx_f32, Nat.zero_add, canon_whole, stp_eq, mom_eq, var_eq, and_self]

theorem at_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable {m : (ℓ : Loc nD τ sig) → Buf (Elt Ideal) ℓ} {c : Dev nD} {W G P Q}

/-- The arguments as rows. -/
structure Args (m : (ℓ : Loc nD τ sig) → Buf (Elt Ideal) ℓ) (c : Dev nD) (W G P Q : ℕ → ℕ → EReal) : Prop where
  w : shapeCast S2048x128 (m ((c : Thread nD τ).loc main_arg0)) shapeCasts_S4x4x128x128_S2048x128 = ex2 W
  g : shapeCast S2048x128 (m ((c : Thread nD τ).loc main_arg1)) shapeCasts_S4x4x128x128_S2048x128 = ex2 G
  p : shapeCast S2048x128 (m ((c : Thread nD τ).loc main_arg2)) shapeCasts_S4x4x128x128_S2048x128 = ex2 P
  q : shapeCast S2048x128 (m ((c : Thread nD τ).loc main_arg3)) shapeCasts_S4x4x128x128_S2048x128 = ex2 Q

variable (A : Args m c W G P Q)
include A

theorem entry : V m c main_v0 = ex2 W ∧ V m c main_v1 = ex2 G ∧ V m c main_v2 = ex2 P ∧ V m c main_v3 = ex2 Q := by
  refine ⟨?_, ?_, ?_, ?_⟩
  · entry_read; exact A.w
  · entry_read; exact A.g
  · entry_read; exact A.p
  · entry_read; exact A.q

theorem blocks (t : Fin cfg0.N) : iblk m c 0 t = ex2 (fun r j => W (512 * t.val + r) j) ∧ iblk m c 1 t = ex2 (fun r j => G (512 * t.val + r) j)
    ∧ iblk m c 2 t = ex2 (fun r j => P (512 * t.val + r) j) ∧ iblk m c 3 t = ex2 fun r j => Q (512 * t.val + r) j := by
  obtain ⟨i0, i1, i2, i3, -⟩ := at_rows t
  obtain ⟨e0, e1, e2, e3⟩ := entry A
  refine ⟨funext fun x => ?_, funext fun x => ?_, funext fun x => ?_, funext fun x => ?_⟩ <;> blk_simp [iblk]
  · rw [e0]; refine ex2_at _ _ x ?_ ?_ <;> blk_simp [i0] <;> omega
  · rw [e1]; refine ex2_at _ _ x ?_ ?_ <;> blk_simp [i1] <;> omega
  · rw [e2]; refine ex2_at _ _ x ?_ ?_ <;> blk_simp [i2] <;> omega
  · rw [e3]; refine ex2_at _ _ x ?_ ?_ <;> blk_simp [i3] <;> omega

theorem arrays : (dats m 0 c).arrAt 4 cfg0.N = ex2 (fun r j => stp (W r j) (G r j) (P r j) (Q r j))
    ∧ (dats m 0 c).arrAt 5 cfg0.N = ex2 (fun r j => mom (G r j) (P r j)) ∧ (dats m 0 c).arrAt 6 cfg0.N = ex2 (fun r j => var (G r j) (Q r j)) := by
  refine ⟨(dats m 0 c).arrAt_eq_of_covers 4 _ (by decide +kernel) fun t hf y => ?_,
    (dats m 0 c).arrAt_eq_of_covers 5 _ (by decide +kernel) fun t hf y => ?_, (dats m 0 c).arrAt_eq_of_covers 6 _ (by decide +kernel) fun t hf y => ?_⟩
  all_goals
    obtain ⟨-, -, -, -, i4, i5, i6⟩ := at_rows t
    obtain ⟨b0, b1, b2, b3⟩ := blocks A t
    blk_simp
  · rw [after0_4, b0, b1, b2, b3, (tile _ _ _ _).1]
    symm
    refine (ex2_at (a := 512 * t.val) _ _ y ?_ ?_).trans rfl <;> blk_simp [i4] <;> omega
  · rw [after0_5, b0, b1, b2, b3, (tile _ _ _ _).2.1]
    symm
    refine (ex2_at (a := 512 * t.val) _ _ y ?_ ?_).trans rfl <;> blk_simp [i5] <;> omega
  · rw [after0_6, b0, b1, b2, b3, (tile _ _ _ _).2.2]
    symm
    refine (ex2_at (a := 512 * t.val) _ _ y ?_ ?_).trans rfl <;> blk_simp [i6] <;> omega

end Cert.Ad
end
-- ==== Proof.AdamClaim.lean ====
/- The optimiser's step: kernel and reference end at the same three arrays, whatever the arguments. -/
module

public import proofs.«01_k».proof.Defs
public import proofs.«01_k».proof.Proof.AdamTile
public import proofs.«01_k».proof.Proof.Gen.AdamRefIdeal
public import proofs.«01_k».proof.Proof.Gen.AdamRefIdeal.Read
public import Idealize.ShloMosaic.Lib.KernelVsHost
public import Idealize.ShloMosaic.Lib.Quiescent

@[expose] public section

set_option maxRecDepth 16384
set_option maxHeartbeats 1000000

noncomputable section

namespace Cert.Ad.Ref
open Cert.AdamRefIdeal Cert.AdamRefIdeal.Gen Cert.AdamRefIdeal.Read Idealize.ShloMosaic Cert.Base

variable {x w g p q : S4x4x128x128.Idx → EReal} {X W G P Q : ℕ → ℕ → EReal}

/-- An entry of an argument, by the row it lies in. -/
theorem at_row (h : shapeCast S2048x128 x shapeCasts_S4x4x128x128_S2048x128 = ex2 X) (i : S2048x128.Idx) :
    x (idx_main_v24 i) = X (i 0).val (i 1).val := by
  refine Eq.trans (Eq.symm ?_) (congrFun h i)
  exact shapeCast_apply x shapeCasts_S4x4x128x128_S2048x128 i (idx_main_v24 i) (by
    rewrite [Shape.rowMajor_val_four, Shape.rowMajor_val_two]
    have h0 : (i 0).val < 2048 := (i 0).isLt
    have h1 : (i 1).val < 128 := (i 1).isLt
    show ((((i 0).val * 128 + (i 1).val) / 65536 * 4 + ((i 0).val * 128 + (i 1).val) / 16384 % 4) * 128 + ((i 0).val * 128 + (i 1).val) / 128 % 128) * 128
      + ((i 0).val * 128 + (i 1).val) % 128 = (i 0).val * 128 + (i 1).val
    omega)

variable (hw : shapeCast S2048x128 w shapeCasts_S4x4x128x128_S2048x128 = ex2 W) (hg : shapeCast S2048x128 g shapeCasts_S4x4x128x128_S2048x128 = ex2 G)
  (hp : shapeCast S2048x128 p shapeCasts_S4x4x128x128_S2048x128 = ex2 P) (hq : shapeCast S2048x128 q shapeCasts_S4x4x128x128_S2048x128 = ex2 Q)

include hg hp in
theorem mom_at (i : S2048x128.Idx) : val_main_v4 (F := Ideal) g p (idx_main_v24 i) = mom (G (i 0).val (i 1).val) (P (i 0).val (i 1).val) := by
  simp only [val_main_v4_apply, val_main_v1_apply, val_main_v0_apply, val_main_cst_apply, val_main_v3_apply, val_main_v2_apply, val_main_cst_0_apply,
    at_row hg, at_row hp]
  rfl

include hg hq in
theorem var_at (i : S2048x128.Idx) : val_main_v10 (F := Ideal) g q (idx_main_v24 i) = var (G (i 0).val (i 1).val) (Q (i 0).val (i 1).val) := by
  simp only [val_main_v10_apply, val_main_v6_apply, val_main_v5_apply, val_main_cst_1_apply, val_main_v9_apply, val_main_v8_apply, val_main_cst_2_apply,
    val_main_v7_apply, at_row hg, at_row hq]
  rfl

include hg hp in
theorem mom_rows : val_main_v25 (F := Ideal) g p = ex2 fun r j => mom (G r j) (P r j) :=
  funext fun i => (val_main_v25_apply (F := Ideal) g p i).trans (mom_at hg hp i)

include hg hq in
theorem var_rows : val_main_v26 (F := Ideal) g q = ex2 fun r j => var (G r j) (Q r j) :=
  funext fun i => (val_main_v26_apply (F := Ideal) g q i).trans (var_at hg hq i)

include hw hg hp hq in
theorem stp_rows : val_main_v24 (F := Ideal) w g p q = ex2 fun r j => stp (W r j) (G r j) (P r j) (Q r j) := by
  funext i
  simp only [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, mom_at hg hp, var_at hg hq, at_row hw]
  rfl

end Cert.Ad.Ref

namespace Cert.Ad
open Idealize.ShloMosaic Idealize.ShloMosaic.TcCoe Idealize.SL.Sem Cert.Base

theorem frame_ref : Cert.quiescent_AdamRefIdeal := fun m g _ =>
  (θ_run Cert.AdamRefIdeal.defs _ _).mono (fun r h => ⟨fun c => (h c).2.2.2, sem_eq_zero_of_no_sems (by decide) r.2⟩)
    (Cert.AdamRefIdeal.Value.run (F := Ideal) m g)

theorem algebraic : Cert.algebraic_AdamIdeal_AdamRefIdeal := by
  intro m g m' g' _ hagree
  have real : ∀ c : Dev Cert.AdamIdeal.nD, ∃ W G P Q : ℕ → ℕ → EReal, Args m c W G P Q := fun c => by
    obtain ⟨W, hw⟩ := exists_ex2 (shapeCast Cert.AdamIdeal.S2048x128 (m ((c : Thread Cert.AdamIdeal.nD Cert.AdamIdeal.τ).loc Cert.AdamIdeal.main_arg0)) Cert.AdamIdeal.Gen.shapeCasts_S4x4x128x128_S2048x128)
    obtain ⟨G, hg⟩ := exists_ex2 (shapeCast Cert.AdamIdeal.S2048x128 (m ((c : Thread Cert.AdamIdeal.nD Cert.AdamIdeal.τ).loc Cert.AdamIdeal.main_arg1)) Cert.AdamIdeal.Gen.shapeCasts_S4x4x128x128_S2048x128)
    obtain ⟨P, hp⟩ := exists_ex2 (shapeCast Cert.AdamIdeal.S2048x128 (m ((c : Thread Cert.AdamIdeal.nD Cert.AdamIdeal.τ).loc Cert.AdamIdeal.main_arg2)) Cert.AdamIdeal.Gen.shapeCasts_S4x4x128x128_S2048x128)
    obtain ⟨Q, hq⟩ := exists_ex2 (shapeCast Cert.AdamIdeal.S2048x128 (m ((c : Thread Cert.AdamIdeal.nD Cert.AdamIdeal.τ).loc Cert.AdamIdeal.main_arg3)) Cert.AdamIdeal.Gen.shapeCasts_S4x4x128x128_S2048x128)
    exact ⟨W, G, P, Q, hw, hg, hp, hq⟩
  choose W G P Q A using real
  refine ⟨_, _, _, Cert.AdamIdeal.Value.run_blocks m g, ?_⟩
  refine (θ_run Cert.AdamRefIdeal.defs _ _).mono (fun r h c => ?_) (Cert.AdamRefIdeal.Value.run (F := Ideal) m' g')
  obtain ⟨h0, h1, h2, h⟩ := h c
  obtain ⟨r0, r1, r2, r3⟩ := hagree c
  have B := A c
  refine ⟨h0.trans ?_, h1.trans ?_, h2.trans ?_, h⟩
  · rw [Cert.AdamRefIdeal.Read.val_main_v24_eq, r0, r1, r2, r3]
    exact (Ref.stp_rows B.w B.g B.p B.q).trans (arrays B).1.symm
  · rw [Cert.AdamRefIdeal.Read.val_main_v25_eq, r1, r2]
    exact (Ref.mom_rows B.g B.p).trans (arrays B).2.1.symm
  · rw [Cert.AdamRefIdeal.Read.val_main_v26_eq, r1, r3]
    exact (Ref.var_rows B.g B.q).trans (arrays B).2.2.symm

end Cert.Ad

end
-- ==== Proof.SumsTile.lean ====
/- The sum of the eight devices' small gradients: what the kernel leaves in its result, and the reference's sum. -/
module

public import proofs.«01_k».proof.Proof.Stacks
public import proofs.«01_k».proof.Proof.Gen.SumsIdeal.Value
public import proofs.«01_k».proof.Proof.Gen.SumsRefIdeal.Read
public import Idealize.ShloMosaic.Lib.Pipeline.ValueKit

@[expose] public section

set_option maxRecDepth 16384
set_option maxHeartbeats 1000000

noncomputable section

namespace Cert.Sm
open Cert.SumsIdeal Cert.SumsIdeal.Gen Idealize.ShloMosaic Idealize.ShloMosaic.TcCoe Idealize.SL.Sem Cert.Base
open Idealize.ShloMosaic.Pipeline (Dat)

/-- The sum over the devices. -/
def total (X : ℕ → ℕ → ℕ → EReal) (r j : ℕ) : EReal := ∑ k : Fin 8, X k r j

/-- A block of sixteen rows. -/
theorem tile (X : ℕ → ℕ → ℕ → EReal) : out0_1 (F := Ideal) (ex3 X) = ex2 (total X) := by
  funext y
  unfold out0_1
  rw [Value.canon1_eq, ex2_apply, total, Fin.sum_univ_eight]
  simp only [ldx3_f32, ex3_apply, Ideal.addf_def, Nat.zero_add, Nat.add_zero, r0_0, r0_1, r0_2, r0_3, r0_4, r0_5, r0_6, r0_7]
  rfl

theorem at_rows : ∀ t : Fin cfg0.N, win0_0.index t = ![0, t.val, 0] ∧ win0_1.index t = ![t.val, 0] :=
  (by decide +kernel : ∀ t : Fin grid0.N, _)

variable {m : (ℓ : Loc nD τ sig) → Buf (Elt Ideal) ℓ} {c : Dev nD} {X : ℕ → ℕ → ℕ → EReal}
  (A : m ((c : Thread nD τ).loc main_arg0) = ex3 X)
include A

theorem block (t : Fin cfg0.N) : iblk m c 0 t = ex3 fun i r j => X i (16 * t.val + r) j := by
  obtain ⟨i0, -⟩ := at_rows t
  funext x
  blk_simp [iblk]
  rw [V_main_arg0, A]
  refine (ex3_at (a := 0) (b := 16 * t.val) _ _ x ?_ ?_ ?_).trans ?_
  · blk_simp [i0]
  · blk_simp [i0]; omega
  · blk_simp [i0]
  · simp only [Nat.zero_add]

theorem array : (dats m 0 c).arrAt 1 cfg0.N = ex2 (total X) := by
  refine (dats m 0 c).arrAt_eq_of_covers 1 _ (by decide +kernel) fun t hf y => ?_
  obtain ⟨-, i1⟩ := at_rows t
  blk_simp
  rw [after0_1, block A t, tile]
  symm
  refine (ex2_at (a := 16 * t.val) _ _ y ?_ ?_).trans rfl
  · blk_simp [i1]; omega
  · blk_simp [i1]

omit A in
theorem ref_eq : Cert.SumsRefIdeal.Read.val_main_v0 (F := Ideal) (ex3 X) = ex2 (total X) := by
  funext i
  simp only [Cert.SumsRefIdeal.Read.val_main_v0_apply, Cert.SumsRefIdeal.Read.val_main_cst_apply, Ideal.ofBits_def, bits_zero,
    EReal.coe_zero, zero_add]
  rfl

end Cert.Sm
end
-- ==== Proof.SumsClaim.lean ====
/- The sum of the eight devices' small gradients: kernel and reference end at the same array, whatever the arguments. -/
module

public import proofs.«01_k».proof.Defs
public import proofs.«01_k».proof.Proof.SumsTile
public import proofs.«01_k».proof.Proof.Gen.SumsRefIdeal
public import Idealize.ShloMosaic.Lib.KernelVsHost
public import Idealize.ShloMosaic.Lib.Quiescent

@[expose] public section

set_option maxRecDepth 16384
set_option maxHeartbeats 1000000

noncomputable section

namespace Cert.Sm
open Idealize.ShloMosaic Idealize.ShloMosaic.TcCoe Idealize.SL.Sem Cert.Base

theorem frame_ref : Cert.quiescent_SumsRefIdeal := fun m g _ =>
  (θ_run Cert.SumsRefIdeal.defs _ _).mono (fun r h => ⟨fun c => (h c).2, sem_eq_zero_of_no_sems (by decide) r.2⟩)
    (Cert.SumsRefIdeal.Value.run (F := Ideal) m g)

theorem algebraic : Cert.algebraic_SumsIdeal_SumsRefIdeal := by
  intro m g m' g' _ hagree
  have real : ∀ c : Dev Cert.SumsIdeal.nD, ∃ X : ℕ → ℕ → ℕ → EReal,
      m ((c : Thread Cert.SumsIdeal.nD Cert.SumsIdeal.τ).loc Cert.SumsIdeal.main_arg0) = ex3 X := fun c => exists_ex3 _
  choose X A using real
  refine ⟨_, Cert.SumsIdeal.Value.run_blocks m g, ?_⟩
  refine (θ_run Cert.SumsRefIdeal.defs _ _).mono (fun r h c => ?_) (Cert.SumsRefIdeal.Value.run (F := Ideal) m' g')
  obtain ⟨h0, h⟩ := h c
  have r0 := (hagree c).trans (A c)
  refine ⟨h0.trans ?_, h⟩
  rw [Cert.SumsRefIdeal.Read.val_main_v0_eq, r0]
  exact ref_eq.trans (array (A c)).symm

end Cert.Sm

end
-- ==== Proof.RefFrames.lean ====
/- The references of the loss head's gradient, of the token mixer's gradient and of the two forward passes leave their arguments and every counter as they were. -/
module

public import proofs.«01_k».proof.Defs
public import proofs.«01_k».proof.Proof.Gen.HeadRefIdeal.Run
public import proofs.«01_k».proof.Proof.Gen.MixBwdRefIdeal.Run
public import proofs.«01_k».proof.Proof.Gen.MixFwdRefIdeal.Run
public import proofs.«01_k».proof.Proof.Gen.FfnFwdRefIdeal.Run
public import proofs.«01_k».proof.Proof.Gen.HeadRefIdeal
public import proofs.«01_k».proof.Proof.Gen.MixBwdRefIdeal
public import proofs.«01_k».proof.Proof.Gen.MixFwdRefIdeal
public import proofs.«01_k».proof.Proof.Gen.FfnFwdRefIdeal
public import Idealize.ShloMosaic.Lib.Quiescent

@[expose] public section

set_option maxRecDepth 16384
set_option maxHeartbeats 1000000

noncomputable section

open Idealize.ShloMosaic Idealize.ShloMosaic.TcCoe Idealize.SL.Sem

theorem Cert.Head.frame_ref : Cert.quiescent_HeadRefIdeal := fun m g _ =>
  (θ_run Cert.HeadRefIdeal.defs _ _).mono (fun r h => ⟨fun c => (h c).2.2.2.2.2, sem_eq_zero_of_no_sems (by decide) r.2⟩)
    (Cert.HeadRefIdeal.Value.run (F := Ideal) m g)

theorem Cert.Mix.frame_ref : Cert.quiescent_MixBwdRefIdeal := fun m g _ =>
  (θ_run Cert.MixBwdRefIdeal.defs _ _).mono (fun r h => ⟨fun c => (h c).2.2.2.2.2.2.2.2.2, sem_eq_zero_of_no_sems (by decide) r.2⟩)
    (Cert.MixBwdRefIdeal.Value.run (F := Ideal) m g)

theorem Cert.MixF.frame_ref : Cert.quiescent_MixFwdRefIdeal := fun m g _ =>
  (θ_run Cert.MixFwdRefIdeal.defs _ _).mono (fun r h => ⟨fun c => (h c).2.2.2.2.2, sem_eq_zero_of_no_sems (by decide) r.2⟩)
    (Cert.MixFwdRefIdeal.Value.run (F := Ideal) m g)

theorem Cert.FfnF.frame_ref : Cert.quiescent_FfnFwdRefIdeal := fun m g _ =>
  (θ_run Cert.FfnFwdRefIdeal.defs _ _).mono (fun r h => ⟨fun c => (h c).2.2.2, sem_eq_zero_of_no_sems (by decide) r.2⟩)
    (Cert.FfnFwdRefIdeal.Value.run (F := Ideal) m g)

end
-- ==== Proof.lean ====
/- The certificate: the step's calls, each against the plain mathematics it stands for.
   `Proof/Ffn…` is the gradient of the feed-forward block, `Proof/Head…` the last feed-forward block with
   the loss and the final normalisation's gradient, `Proof/Mix…` the gradient of the mixer, `Proof/Fwd…` the
   mixer's forward pass, `Proof/FfnFwd…` the feed-forward block's, `Proof/Wgrad…` the gradient of a
   feed-forward block's weights, `Proof/Adam…` the optimiser's step, `Proof/Sums…` the sum over the devices. -/
module

public import proofs.«01_k».proof.Defs
public import proofs.«01_k».proof.Proof.MixClaim
public import proofs.«01_k».proof.Proof.FwdClaim
public import proofs.«01_k».proof.Proof.FfnFwdClaim
public import proofs.«01_k».proof.Proof.FfnClaim
public import proofs.«01_k».proof.Proof.HeadClaim
public import proofs.«01_k».proof.Proof.WgradClaim
public import proofs.«01_k».proof.Proof.AdamClaim
public import proofs.«01_k».proof.Proof.SumsClaim
public import proofs.«01_k».proof.Proof.RefFrames
public import proofs.«01_k».proof.Proof.Gen.FfnBwd.Frame
public import proofs.«01_k».proof.Proof.Gen.FfnBwdIdeal.Frame
public import proofs.«01_k».proof.Proof.Gen.Head.Frame
public import proofs.«01_k».proof.Proof.Gen.HeadIdeal.Frame
public import proofs.«01_k».proof.Proof.Gen.MixBwd.Frame
public import proofs.«01_k».proof.Proof.Gen.MixBwdIdeal.Frame
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal.Read
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Read
public import proofs.«01_k».proof.Proof.Gen.Wgrad.Frame
public import proofs.«01_k».proof.Proof.Gen.WgradIdeal.Frame
public import proofs.«01_k».proof.Proof.Gen.WgradIdeal.Value
public import proofs.«01_k».proof.Proof.Gen.WgradRefIdeal.Read
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Read
public import proofs.«01_k».proof.Proof.Gen.Sums.Frame
public import proofs.«01_k».proof.Proof.Gen.SumsIdeal.Frame
public import proofs.«01_k».proof.Proof.Gen.SumsIdeal.Value
public import proofs.«01_k».proof.Proof.Gen.SumsRefIdeal.Read
public import Idealize.ShloMosaic.Adequacy
public import Idealize.ShloMosaic.Init

@[expose] public section

noncomputable section

namespace Cert.Proof

open Idealize.ShloMosaic Idealize.SL.Sem

theorem claim : Cert.Claim :=
  ⟨Cert.FfnBwd.Gen.facts, Cert.FfnBwdIdeal.Gen.facts, Cert.FfnBwdRefIdeal.Gen.facts, Cert.Head.Gen.facts, Cert.HeadIdeal.Gen.facts,
    Cert.HeadRefIdeal.Gen.facts, Cert.MixBwd.Gen.facts, Cert.MixBwdIdeal.Gen.facts, Cert.MixBwdRefIdeal.Gen.facts, Cert.MixFwd.Gen.facts,
    Cert.MixFwdIdeal.Gen.facts, Cert.MixFwdRefIdeal.Gen.facts, Cert.FfnFwd.Gen.facts, Cert.FfnFwdIdeal.Gen.facts, Cert.FfnFwdRefIdeal.Gen.facts,
    Cert.Wgrad.Gen.facts, Cert.WgradIdeal.Gen.facts, Cert.WgradRefIdeal.Gen.facts,
    Cert.Adam.Gen.facts, Cert.AdamIdeal.Gen.facts, Cert.AdamRefIdeal.Gen.facts,
    Cert.Sums.Gen.facts, Cert.SumsIdeal.Gen.facts, Cert.SumsRefIdeal.Gen.facts,
    Cert.Ffn.pre_facts, Cert.Head.pre_facts,
    Cert.Mix.pre_facts, Cert.MixF.pre_facts, Cert.Mix.own_facts,
    fun m g _ => Cert.FfnBwd.Gen.frame m g, fun m g _ => Cert.FfnBwdIdeal.Gen.frame m g, fun m g _ => Cert.FfnBwdIdeal.Gen.frame m g,
    Cert.Ffn.frame_ref, fun m g _ => Cert.Ffn.frame_ref m g trivial,
    fun m g _ => Cert.Head.Gen.frame m g, fun m g _ => Cert.HeadIdeal.Gen.frame m g, fun m g _ => Cert.HeadIdeal.Gen.frame m g,
    Cert.Head.frame_ref, fun m g _ => Cert.Head.frame_ref m g trivial,
    fun m g _ => Cert.MixBwd.Gen.frame m g, fun m g _ => Cert.MixBwdIdeal.Gen.frame m g, fun m g _ => Cert.MixBwdIdeal.Gen.frame m g, Cert.Mix.frame_ref,
    fun m g _ => Cert.Mix.frame_ref m g trivial,
    fun m g _ => Cert.MixFwd.Gen.frame m g, fun m g _ => Cert.MixFwdIdeal.Gen.frame m g, fun m g _ => Cert.MixFwdIdeal.Gen.frame m g, Cert.MixF.frame_ref,
    fun m g _ => Cert.MixF.frame_ref m g trivial,
    fun m g _ => Cert.FfnFwd.Gen.frame m g, fun m g _ => Cert.FfnFwdIdeal.Gen.frame m g, Cert.FfnF.frame_ref,
    fun m g _ => Cert.Wgrad.Gen.frame m g, fun m g _ => Cert.WgradIdeal.Gen.frame m g, Cert.Wg.frame_ref,
    fun m g _ => Cert.Adam.Gen.frame m g, fun m g _ => Cert.AdamIdeal.Gen.frame m g, Cert.Ad.frame_ref,
    fun m g _ => Cert.Sums.Gen.frame m g, fun m g _ => Cert.SumsIdeal.Gen.frame m g, Cert.Sm.frame_ref,
    trivial, Cert.Ffn.algebraic, trivial, Cert.Head.algebraic, trivial, Cert.Mix.algebraic, trivial, Cert.MixF.algebraic, trivial, Cert.FfnF.algebraic,
    trivial, Cert.Wg.algebraic, trivial, Cert.Ad.algebraic, trivial, Cert.Sm.algebraic⟩

end Cert.Proof

end
